-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v47_0)) (v1 : (c : Dev Cert.KernelIdeal.nD) → Buf (Elt Ideal) ((c.tc : Thread Cert.KernelIdeal.nD Cert.KernelIdeal.τ).loc Cert.KernelIdeal.main_v47_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47_0) = v0 c
          ∧ r.2.mem ((c.tc : Thread Cert.KernelIdeal.nD Cert.KernelIdeal.τ).loc Cert.KernelIdeal.main_v47_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v31_0)) (v1 : (c : Dev Cert.Kernel2Ideal.nD) → Buf (Elt Ideal) ((c.tc : Thread Cert.Kernel2Ideal.nD Cert.Kernel2Ideal.τ).loc Cert.Kernel2Ideal.main_v31_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v31_0) = v0 c
          ∧ r.2.mem ((c.tc : Thread Cert.Kernel2Ideal.nD Cert.Kernel2Ideal.τ).loc Cert.Kernel2Ideal.main_v31_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_v44) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_v15) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_v15) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v15_0)) (v1 : (c : Dev Cert.Kernel6Ideal.nD) → Buf (Elt Ideal) ((c.tc : Thread Cert.Kernel6Ideal.nD Cert.Kernel6Ideal.τ).loc Cert.Kernel6Ideal.main_v15_1)) (v2 : (c : Dev Cert.Kernel6Ideal.nD) → Buf (Elt Ideal) ((c.tc : Thread Cert.Kernel6Ideal.nD Cert.Kernel6Ideal.τ).loc Cert.Kernel6Ideal.main_v15_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v15_0) = v0 c
          ∧ r.2.mem ((c.tc : Thread Cert.Kernel6Ideal.nD Cert.Kernel6Ideal.τ).loc Cert.Kernel6Ideal.main_v15_1) = v1 c
          ∧ r.2.mem ((c.tc : Thread Cert.Kernel6Ideal.nD Cert.Kernel6Ideal.τ).loc Cert.Kernel6Ideal.main_v15_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v33) = v0 c
          ∧ r.2.mem ((c.tc : Thread Cert.Reference6Ideal.nD Cert.Reference6Ideal.τ).loc Cert.Reference6Ideal.main_v34) = v1 c
          ∧ r.2.mem ((c.tc : Thread Cert.Reference6Ideal.nD Cert.Reference6Ideal.τ).loc Cert.Reference6Ideal.main_v35) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v5_0)) (v1 : (c : Dev Cert.Kernel7Ideal.nD) → Buf (Elt Ideal) ((c.tc : Thread Cert.Kernel7Ideal.nD Cert.Kernel7Ideal.τ).loc Cert.Kernel7Ideal.main_v5_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5_0) = v0 c
          ∧ r.2.mem ((c.tc : Thread Cert.Kernel7Ideal.nD Cert.Kernel7Ideal.τ).loc Cert.Kernel7Ideal.main_v5_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_v6) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v10_0)) (v1 : (c : Dev Cert.Kernel8Ideal.nD) → Buf (Elt Ideal) ((c.tc : Thread Cert.Kernel8Ideal.nD Cert.Kernel8Ideal.τ).loc Cert.Kernel8Ideal.main_v10_1)) (v2 : (c : Dev Cert.Kernel8Ideal.nD) → Buf (Elt Ideal) ((c.tc : Thread Cert.Kernel8Ideal.nD Cert.Kernel8Ideal.τ).loc Cert.Kernel8Ideal.main_v10_2)) (v3 : (c : Dev Cert.Kernel8Ideal.nD) → Buf (Elt Ideal) ((c.tc : Thread Cert.Kernel8Ideal.nD Cert.Kernel8Ideal.τ).loc Cert.Kernel8Ideal.main_v10_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v10_0) = v0 c
          ∧ r.2.mem ((c.tc : Thread Cert.Kernel8Ideal.nD Cert.Kernel8Ideal.τ).loc Cert.Kernel8Ideal.main_v10_1) = v1 c
          ∧ r.2.mem ((c.tc : Thread Cert.Kernel8Ideal.nD Cert.Kernel8Ideal.τ).loc Cert.Kernel8Ideal.main_v10_2) = v2 c
          ∧ r.2.mem ((c.tc : Thread Cert.Kernel8Ideal.nD Cert.Kernel8Ideal.τ).loc Cert.Kernel8Ideal.main_v10_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v17) = v0 c
          ∧ r.2.mem ((c.tc : Thread Cert.Reference8Ideal.nD Cert.Reference8Ideal.τ).loc Cert.Reference8Ideal.main_v19) = v1 c
          ∧ r.2.mem ((c.tc : Thread Cert.Reference8Ideal.nD Cert.Reference8Ideal.τ).loc Cert.Reference8Ideal.main_v20) = v2 c
          ∧ r.2.mem ((c.tc : Thread Cert.Reference8Ideal.nD Cert.Reference8Ideal.τ).loc Cert.Reference8Ideal.main_v22) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v9_0)) (v1 : (c : Dev Cert.Kernel9Ideal.nD) → Buf (Elt Ideal) ((c.tc : Thread Cert.Kernel9Ideal.nD Cert.Kernel9Ideal.τ).loc Cert.Kernel9Ideal.main_v9_1)) (v2 : (c : Dev Cert.Kernel9Ideal.nD) → Buf (Elt Ideal) ((c.tc : Thread Cert.Kernel9Ideal.nD Cert.Kernel9Ideal.τ).loc Cert.Kernel9Ideal.main_v9_2)) (v3 : (c : Dev Cert.Kernel9Ideal.nD) → Buf (Elt Ideal) ((c.tc : Thread Cert.Kernel9Ideal.nD Cert.Kernel9Ideal.τ).loc Cert.Kernel9Ideal.main_v9_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v9_0) = v0 c
          ∧ r.2.mem ((c.tc : Thread Cert.Kernel9Ideal.nD Cert.Kernel9Ideal.τ).loc Cert.Kernel9Ideal.main_v9_1) = v1 c
          ∧ r.2.mem ((c.tc : Thread Cert.Kernel9Ideal.nD Cert.Kernel9Ideal.τ).loc Cert.Kernel9Ideal.main_v9_2) = v2 c
          ∧ r.2.mem ((c.tc : Thread Cert.Kernel9Ideal.nD Cert.Kernel9Ideal.τ).loc Cert.Kernel9Ideal.main_v9_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v32) = v0 c
          ∧ r.2.mem ((c.tc : Thread Cert.Reference9Ideal.nD Cert.Reference9Ideal.τ).loc Cert.Reference9Ideal.main_v34) = v1 c
          ∧ r.2.mem ((c.tc : Thread Cert.Reference9Ideal.nD Cert.Reference9Ideal.τ).loc Cert.Reference9Ideal.main_v36) = v2 c
          ∧ r.2.mem ((c.tc : Thread Cert.Reference9Ideal.nD Cert.Reference9Ideal.τ).loc Cert.Reference9Ideal.main_v38) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v8_0)) (v1 : (c : Dev Cert.Kernel10Ideal.nD) → Buf (Elt Ideal) ((c.tc : Thread Cert.Kernel10Ideal.nD Cert.Kernel10Ideal.τ).loc Cert.Kernel10Ideal.main_v8_1)) (v2 : (c : Dev Cert.Kernel10Ideal.nD) → Buf (Elt Ideal) ((c.tc : Thread Cert.Kernel10Ideal.nD Cert.Kernel10Ideal.τ).loc Cert.Kernel10Ideal.main_v8_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v8_0) = v0 c
          ∧ r.2.mem ((c.tc : Thread Cert.Kernel10Ideal.nD Cert.Kernel10Ideal.τ).loc Cert.Kernel10Ideal.main_v8_1) = v1 c
          ∧ r.2.mem ((c.tc : Thread Cert.Kernel10Ideal.nD Cert.Kernel10Ideal.τ).loc Cert.Kernel10Ideal.main_v8_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v20) = v0 c
          ∧ r.2.mem ((c.tc : Thread Cert.Reference10Ideal.nD Cert.Reference10Ideal.τ).loc Cert.Reference10Ideal.main_v22) = v1 c
          ∧ r.2.mem ((c.tc : Thread Cert.Reference10Ideal.nD Cert.Reference10Ideal.τ).loc Cert.Reference10Ideal.main_v24) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v5_0)) (v1 : (c : Dev Cert.Kernel11Ideal.nD) → Buf (Elt Ideal) ((c.tc : Thread Cert.Kernel11Ideal.nD Cert.Kernel11Ideal.τ).loc Cert.Kernel11Ideal.main_v5_1)) (v2 : (c : Dev Cert.Kernel11Ideal.nD) → Buf (Elt Ideal) ((c.tc : Thread Cert.Kernel11Ideal.nD Cert.Kernel11Ideal.τ).loc Cert.Kernel11Ideal.main_v5_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5_0) = v0 c
          ∧ r.2.mem ((c.tc : Thread Cert.Kernel11Ideal.nD Cert.Kernel11Ideal.τ).loc Cert.Kernel11Ideal.main_v5_1) = v1 c
          ∧ r.2.mem ((c.tc : Thread Cert.Kernel11Ideal.nD Cert.Kernel11Ideal.τ).loc Cert.Kernel11Ideal.main_v5_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v59) = v0 c
          ∧ r.2.mem ((c.tc : Thread Cert.Reference11Ideal.nD Cert.Reference11Ideal.τ).loc Cert.Reference11Ideal.main_v61) = v1 c
          ∧ r.2.mem ((c.tc : Thread Cert.Reference11Ideal.nD Cert.Reference11Ideal.τ).loc Cert.Reference11Ideal.main_v58) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts) (hPre_finite2 : Cert.Pre_finite2.Facts) (hPre_finite8 : Cert.Pre_finite8.Facts) (hPre_finite11 : Cert.Pre_finite11.Facts) (hPre_finite12 : Cert.Pre_finite12.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal_pre_finite12 (hKernel12Ideal := hKernel12Ideal) (hReference12Ideal := hReference12Ideal) (hPre_finite12 := hPre_finite12)
    ∧ preserves_Kernel13_Kernel13Ideal
    ∧ algebraic_Kernel13Ideal_Reference13Ideal (hKernel13Ideal := hKernel13Ideal) (hReference13Ideal := hReference13Ideal)
-- ==== Pre_finite.lean ====
abbrev S4x2048x16x64 : Shape := ⟨4, ![4, 2048, 16, 64]⟩
abbrev S4x2048x16 : Shape := ⟨3, ![4, 2048, 16]⟩
abbrev S_ : Shape := ⟨0, ![]⟩
abbrev S1 : Shape := ⟨1, ![1]⟩

class Facts : Prop where
  bcast_S_S1 : S_.BroadcastsInDim S1 (![] : Fin 0 → Fin S1.rank)
  bcast_S_S4x2048x16x64 : S_.BroadcastsInDim S4x2048x16x64 (![] : Fin 0 → Fin S4x2048x16x64.rank)
  reducesTo_S4x2048x16x64_S_d0_1_2_3 : S4x2048x16x64.ReducesTo [0, 1, 2, 3] S_
  h_S_ : 0 < S_.numel
  bcast_S_S4x2048x16 : S_.BroadcastsInDim S4x2048x16 (![] : Fin 0 → Fin S4x2048x16.rank)
  reducesTo_S4x2048x16_S_d0_1_2 : S4x2048x16.ReducesTo [0, 1, 2] S_

variable [Facts]

def fn_part1 {F : FTy → Type} [FloatOps F] (main_arg3 : FVec F S4x2048x16 .f32) (main_arg4 : FVec F S4x2048x16x64 .f32) (main_v12 : IVec S1 1) (main_v16 : IVec S_ 1) : IVec S1 1 :=
  let main_v17 : IVec S1 1 := broadcastInDim S1 ![] bcast_S_S1 main_v16
  let main_v18 : IVec S1 1 := andi main_v12 main_v17
  let main_v19 : FVec F S4x2048x16 .f32 := Host.absf main_arg3
  let main_cst_5 : FVec F S_ .f32 := constant S_ .f32 0x7F800000#32
  let main_v20 : FVec F S4x2048x16 .f32 := broadcastInDim S4x2048x16 ![] bcast_S_S4x2048x16 main_cst_5
  let main_v21 : IVec S4x2048x16 1 := cmpf .olt main_v19 main_v20
  let main_c_6 : IVec S_ 1 := constantI S_ 1 1#1
  let main_v22 : IVec S_ 1 := (fun x v => Host.reduce IntOp.andi x v reducesTo_S4x2048x16_S_d0_1_2 h_S_) main_v21 main_c_6
  let main_v23 : IVec S1 1 := broadcastInDim S1 ![] bcast_S_S1 main_v22
  let main_v24 : IVec S1 1 := andi main_v18 main_v23
  let main_v25 : FVec F S4x2048x16x64 .f32 := Host.absf main_arg4
  let main_cst_7 : FVec F S_ .f32 := constant S_ .f32 0x7F800000#32
  let main_v26 : FVec F S4x2048x16x64 .f32 := broadcastInDim S4x2048x16x64 ![] bcast_S_S4x2048x16x64 main_cst_7
  let main_v27 : IVec S4x2048x16x64 1 := cmpf .olt main_v25 main_v26
  let main_c_8 : IVec S_ 1 := constantI S_ 1 1#1
  let main_v28 : IVec S_ 1 := (fun x v => Host.reduce IntOp.andi x v reducesTo_S4x2048x16x64_S_d0_1_2_3 h_S_) main_v27 main_c_8
  let main_v29 : IVec S1 1 := broadcastInDim S1 ![] bcast_S_S1 main_v28
  let main_v30 : IVec S1 1 := andi main_v24 main_v29
  main_v30

def fn {F : FTy → Type} [FloatOps F] (main_arg0 : FVec F S4x2048x16x64 .f32) (main_arg1 : FVec F S4x2048x16x64 .f32) (main_arg2 : FVec F S4x2048x16x64 .f32) (main_arg3 : FVec F S4x2048x16 .f32) (main_arg4 : FVec F S4x2048x16x64 .f32) : IVec S1 1 :=
  let main_c : IVec S_ 1 := constantI S_ 1 1#1
  let main_v0 : IVec S1 1 := broadcastInDim S1 ![] bcast_S_S1 main_c
  let main_v1 : FVec F S4x2048x16x64 .f32 := Host.absf main_arg0
  let main_cst : FVec F S_ .f32 := constant S_ .f32 0x7F800000#32
  let main_v2 : FVec F S4x2048x16x64 .f32 := broadcastInDim S4x2048x16x64 ![] bcast_S_S4x2048x16x64 main_cst
  let main_v3 : IVec S4x2048x16x64 1 := cmpf .olt main_v1 main_v2
  let main_c_0 : IVec S_ 1 := constantI S_ 1 1#1
  let main_v4 : IVec S_ 1 := (fun x v => Host.reduce IntOp.andi x v reducesTo_S4x2048x16x64_S_d0_1_2_3 h_S_) main_v3 main_c_0
  let main_v5 : IVec S1 1 := broadcastInDim S1 ![] bcast_S_S1 main_v4
  let main_v6 : IVec S1 1 := andi main_v0 main_v5
  let main_v7 : FVec F S4x2048x16x64 .f32 := Host.absf main_arg1
  let main_cst_1 : FVec F S_ .f32 := constant S_ .f32 0x7F800000#32
  let main_v8 : FVec F S4x2048x16x64 .f32 := broadcastInDim S4x2048x16x64 ![] bcast_S_S4x2048x16x64 main_cst_1
  let main_v9 : IVec S4x2048x16x64 1 := cmpf .olt main_v7 main_v8
  let main_c_2 : IVec S_ 1 := constantI S_ 1 1#1
  let main_v10 : IVec S_ 1 := (fun x v => Host.reduce IntOp.andi x v reducesTo_S4x2048x16x64_S_d0_1_2_3 h_S_) main_v9 main_c_2
  let main_v11 : IVec S1 1 := broadcastInDim S1 ![] bcast_S_S1 main_v10
  let main_v12 : IVec S1 1 := andi main_v6 main_v11
  let main_v13 : FVec F S4x2048x16x64 .f32 := Host.absf main_arg2
  let main_cst_3 : FVec F S_ .f32 := constant S_ .f32 0x7F800000#32
  let main_v14 : FVec F S4x2048x16x64 .f32 := broadcastInDim S4x2048x16x64 ![] bcast_S_S4x2048x16x64 main_cst_3
  let main_v15 : IVec S4x2048x16x64 1 := cmpf .olt main_v13 main_v14
  let main_c_4 : IVec S_ 1 := constantI S_ 1 1#1
  let main_v16 : IVec S_ 1 := (fun x v => Host.reduce IntOp.andi x v reducesTo_S4x2048x16x64_S_d0_1_2_3 h_S_) main_v15 main_c_4
  fn_part1 (F := F) main_arg3 main_arg4 main_v12 main_v16
-- ==== Pre_finite11.lean ====
abbrev S4x2048x1024 : Shape := ⟨3, ![4, 2048, 1024]⟩
abbrev S1024x1024 : Shape := ⟨2, ![1024, 1024]⟩
abbrev S1x1024 : Shape := ⟨2, ![1, 1024]⟩
abbrev S_ : Shape := ⟨0, ![]⟩
abbrev S1 : Shape := ⟨1, ![1]⟩

class Facts : Prop where
  bcast_S_S1 : S_.BroadcastsInDim S1 (![] : Fin 0 → Fin S1.rank)
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg3 : FVec F S4x2048x1024 .f32) (main_arg4 : FVec F S1x1024 .f32) (main_v12 : IVec S1 1) (main_v16 : IVec S_ 1) : IVec S1 1 :=
  let main_v17 : IVec S1 1 := broadcastInDim S1 ![] bcast_S_S1 main_v16
  let main_v18 : IVec S1 1 := andi main_v12 main_v17
  let main_v19 : FVec F S4x2048x1024 .f32 := Host.absf main_arg3
  let main_cst_5 : FVec F S_ .f32 := constant S_ .f32 0x7F800000#32
  let main_v20 : FVec F S4x2048x1024 .f32 := broadcastInDim S4x2048x1024 ![] bcast_S_S4x2048x1024 main_cst_5
  let main_v21 : IVec S4x2048x1024 1 := cmpf .olt main_v19 main_v20
  let main_c_6 : IVec S_ 1 := constantI S_ 1 1#1
  let main_v22 : IVec S_ 1 := (fun x v => Host.reduce IntOp.andi x v reducesTo_S4x2048x1024_S_d0_1_2 h_S_) main_v21 main_c_6
  let main_v23 : IVec S1 1 := broadcastInDim S1 ![] bcast_S_S1 main_v22
  let main_v24 : IVec S1 1 := andi main_v18 main_v23
  let main_v25 : FVec F S1x1024 .f32 := Host.absf main_arg4
  let main_cst_7 : FVec F S_ .f32 := constant S_ .f32 0x7F800000#32
  let main_v26 : FVec F S1x1024 .f32 := broadcastInDim S1x1024 ![] bcast_S_S1x1024 main_cst_7
  let main_v27 : IVec S1x1024 1 := cmpf .olt main_v25 main_v26
  let main_c_8 : IVec S_ 1 := constantI S_ 1 1#1
  let main_v28 : IVec S_ 1 := (fun x v => Host.reduce IntOp.andi x v reducesTo_S1x1024_S_d0_1 h_S_) main_v27 main_c_8
  let main_v29 : IVec S1 1 := broadcastInDim S1 ![] bcast_S_S1 main_v28
  let main_v30 : IVec S1 1 := andi main_v24 main_v29
  main_v30

def fn {F : FTy → Type} [FloatOps F] (main_arg0 : FVec F S4x2048x1024 .f32) (main_arg1 : FVec F S1024x1024 .f32) (main_arg2 : FVec F S4x2048x1024 .f32) (main_arg3 : FVec F S4x2048x1024 .f32) (main_arg4 : FVec F S1x1024 .f32) : IVec S1 1 :=
  let main_c : IVec S_ 1 := constantI S_ 1 1#1
  let main_v0 : IVec S1 1 := broadcastInDim S1 ![] bcast_S_S1 main_c
  let main_v1 : FVec F S4x2048x1024 .f32 := Host.absf main_arg0
  let main_cst : FVec F S_ .f32 := constant S_ .f32 0x7F800000#32
  let main_v2 : FVec F S4x2048x1024 .f32 := broadcastInDim S4x2048x1024 ![] bcast_S_S4x2048x1024 main_cst
  let main_v3 : IVec S4x2048x1024 1 := cmpf .olt main_v1 main_v2
  let main_c_0 : IVec S_ 1 := constantI S_ 1 1#1
  let main_v4 : IVec S_ 1 := (fun x v => Host.reduce IntOp.andi x v reducesTo_S4x2048x1024_S_d0_1_2 h_S_) main_v3 main_c_0
  let main_v5 : IVec S1 1 := broadcastInDim S1 ![] bcast_S_S1 main_v4
  let main_v6 : IVec S1 1 := andi main_v0 main_v5
  let main_v7 : FVec F S1024x1024 .f32 := Host.absf main_arg1
  let main_cst_1 : FVec F S_ .f32 := constant S_ .f32 0x7F800000#32
  let main_v8 : FVec F S1024x1024 .f32 := broadcastInDim S1024x1024 ![] bcast_S_S1024x1024 main_cst_1
  let main_v9 : IVec S1024x1024 1 := cmpf .olt main_v7 main_v8
  let main_c_2 : IVec S_ 1 := constantI S_ 1 1#1
  let main_v10 : IVec S_ 1 := (fun x v => Host.reduce IntOp.andi x v reducesTo_S1024x1024_S_d0_1 h_S_) main_v9 main_c_2
  let main_v11 : IVec S1 1 := broadcastInDim S1 ![] bcast_S_S1 main_v10
  let main_v12 : IVec S1 1 := andi main_v6 main_v11
  let main_v13 : FVec F S4x2048x1024 .f32 := Host.absf main_arg2
  let main_cst_3 : FVec F S_ .f32 := constant S_ .f32 0x7F800000#32
  let main_v14 : FVec F S4x2048x1024 .f32 := broadcastInDim S4x2048x1024 ![] bcast_S_S4x2048x1024 main_cst_3
  let main_v15 : IVec S4x2048x1024 1 := cmpf .olt main_v13 main_v14
  let main_c_4 : IVec S_ 1 := constantI S_ 1 1#1
  let main_v16 : IVec S_ 1 := (fun x v => Host.reduce IntOp.andi x v reducesTo_S4x2048x1024_S_d0_1_2 h_S_) main_v15 main_c_4
  fn_part1 (F := F) main_arg3 main_arg4 main_v12 main_v16
-- ==== Pre_finite12.lean ====
abbrev S4x2048x16 : Shape := ⟨3, ![4, 2048, 16]⟩
abbrev S_ : Shape := ⟨0, ![]⟩
abbrev S1 : Shape := ⟨1, ![1]⟩

class Facts : Prop where
  bcast_S_S1 : S_.BroadcastsInDim S1 (![] : Fin 0 → Fin S1.rank)
  bcast_S_S4x2048x16 : S_.BroadcastsInDim S4x2048x16 (![] : Fin 0 → Fin S4x2048x16.rank)
  reducesTo_S4x2048x16_S_d0_1_2 : S4x2048x16.ReducesTo [0, 1, 2] S_
  h_S_ : 0 < S_.numel

variable [Facts]

def fn {F : FTy → Type} [FloatOps F] (main_arg0 : FVec F S4x2048x16 .f32) (main_arg1 : FVec F S4x2048x16 .f32) : IVec S1 1 :=
  let main_c : IVec S_ 1 := constantI S_ 1 1#1
  let main_v0 : IVec S1 1 := broadcastInDim S1 ![] bcast_S_S1 main_c
  let main_v1 : FVec F S4x2048x16 .f32 := Host.absf main_arg0
  let main_cst : FVec F S_ .f32 := constant S_ .f32 0x7F800000#32
  let main_v2 : FVec F S4x2048x16 .f32 := broadcastInDim S4x2048x16 ![] bcast_S_S4x2048x16 main_cst
  let main_v3 : IVec S4x2048x16 1 := cmpf .olt main_v1 main_v2
  let main_c_0 : IVec S_ 1 := constantI S_ 1 1#1
  let main_v4 : IVec S_ 1 := (fun x v => Host.reduce IntOp.andi x v reducesTo_S4x2048x16_S_d0_1_2 h_S_) main_v3 main_c_0
  let main_v5 : IVec S1 1 := broadcastInDim S1 ![] bcast_S_S1 main_v4
  let main_v6 : IVec S1 1 := andi main_v0 main_v5
  let main_v7 : FVec F S4x2048x16 .f32 := Host.absf main_arg1
  let main_cst_1 : FVec F S_ .f32 := constant S_ .f32 0x7F800000#32
  let main_v8 : FVec F S4x2048x16 .f32 := broadcastInDim S4x2048x16 ![] bcast_S_S4x2048x16 main_cst_1
  let main_v9 : IVec S4x2048x16 1 := cmpf .olt main_v7 main_v8
  let main_c_2 : IVec S_ 1 := constantI S_ 1 1#1
  let main_v10 : IVec S_ 1 := (fun x v => Host.reduce IntOp.andi x v reducesTo_S4x2048x16_S_d0_1_2 h_S_) main_v9 main_c_2
  let main_v11 : IVec S1 1 := broadcastInDim S1 ![] bcast_S_S1 main_v10
  let main_v12 : IVec S1 1 := andi main_v6 main_v11
  main_v12
-- ==== Pre_finite2.lean ====
abbrev S4x2048x1024 : Shape := ⟨3, ![4, 2048, 1024]⟩
abbrev S1x1024 : Shape := ⟨2, ![1, 1024]⟩
abbrev S1024x9232 : Shape := ⟨2, ![1024, 9232]⟩
abbrev S4x2048x8208 : Shape := ⟨3, ![4, 2048, 8208]⟩
abbrev S_ : Shape := ⟨0, ![]⟩
abbrev S1 : Shape := ⟨1, ![1]⟩

class Facts : Prop where
  bcast_S_S1 : S_.BroadcastsInDim S1 (![] : Fin 0 → Fin S1.rank)
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x9232 : S_.BroadcastsInDim S1024x9232 (![] : Fin 0 → Fin S1024x9232.rank)
  reducesTo_S1024x9232_S_d0_1 : S1024x9232.ReducesTo [0, 1] S_
  bcast_S_S4x2048x8208 : S_.BroadcastsInDim S4x2048x8208 (![] : Fin 0 → Fin S4x2048x8208.rank)
  reducesTo_S4x2048x8208_S_d0_1_2 : S4x2048x8208.ReducesTo [0, 1, 2] S_

variable [Facts]

def fn_part1 {F : FTy → Type} [FloatOps F] (main_arg3 : FVec F S4x2048x8208 .f32) (main_v12 : IVec S1 1) (main_v16 : IVec S_ 1) : IVec S1 1 :=
  let main_v17 : IVec S1 1 := broadcastInDim S1 ![] bcast_S_S1 main_v16
  let main_v18 : IVec S1 1 := andi main_v12 main_v17
  let main_v19 : FVec F S4x2048x8208 .f32 := Host.absf main_arg3
  let main_cst_5 : FVec F S_ .f32 := constant S_ .f32 0x7F800000#32
  let main_v20 : FVec F S4x2048x8208 .f32 := broadcastInDim S4x2048x8208 ![] bcast_S_S4x2048x8208 main_cst_5
  let main_v21 : IVec S4x2048x8208 1 := cmpf .olt main_v19 main_v20
  let main_c_6 : IVec S_ 1 := constantI S_ 1 1#1
  let main_v22 : IVec S_ 1 := (fun x v => Host.reduce IntOp.andi x v reducesTo_S4x2048x8208_S_d0_1_2 h_S_) main_v21 main_c_6
  let main_v23 : IVec S1 1 := broadcastInDim S1 ![] bcast_S_S1 main_v22
  let main_v24 : IVec S1 1 := andi main_v18 main_v23
  main_v24

def fn {F : FTy → Type} [FloatOps F] (main_arg0 : FVec F S4x2048x1024 .f32) (main_arg1 : FVec F S1x1024 .f32) (main_arg2 : FVec F S1024x9232 .f32) (main_arg3 : FVec F S4x2048x8208 .f32) (main_arg4 : FVec F S4x2048x1024 .f32) : IVec S1 1 :=
  let main_c : IVec S_ 1 := constantI S_ 1 1#1
  let main_v0 : IVec S1 1 := broadcastInDim S1 ![] bcast_S_S1 main_c
  let main_v1 : FVec F S4x2048x1024 .f32 := Host.absf main_arg0
  let main_cst : FVec F S_ .f32 := constant S_ .f32 0x7F800000#32
  let main_v2 : FVec F S4x2048x1024 .f32 := broadcastInDim S4x2048x1024 ![] bcast_S_S4x2048x1024 main_cst
  let main_v3 : IVec S4x2048x1024 1 := cmpf .olt main_v1 main_v2
  let main_c_0 : IVec S_ 1 := constantI S_ 1 1#1
  let main_v4 : IVec S_ 1 := (fun x v => Host.reduce IntOp.andi x v reducesTo_S4x2048x1024_S_d0_1_2 h_S_) main_v3 main_c_0
  let main_v5 : IVec S1 1 := broadcastInDim S1 ![] bcast_S_S1 main_v4
  let main_v6 : IVec S1 1 := andi main_v0 main_v5
  let main_v7 : FVec F S1x1024 .f32 := Host.absf main_arg1
  let main_cst_1 : FVec F S_ .f32 := constant S_ .f32 0x7F800000#32
  let main_v8 : FVec F S1x1024 .f32 := broadcastInDim S1x1024 ![] bcast_S_S1x1024 main_cst_1
  let main_v9 : IVec S1x1024 1 := cmpf .olt main_v7 main_v8
  let main_c_2 : IVec S_ 1 := constantI S_ 1 1#1
  let main_v10 : IVec S_ 1 := (fun x v => Host.reduce IntOp.andi x v reducesTo_S1x1024_S_d0_1 h_S_) main_v9 main_c_2
  let main_v11 : IVec S1 1 := broadcastInDim S1 ![] bcast_S_S1 main_v10
  let main_v12 : IVec S1 1 := andi main_v6 main_v11
  let main_v13 : FVec F S1024x9232 .f32 := Host.absf main_arg2
  let main_cst_3 : FVec F S_ .f32 := constant S_ .f32 0x7F800000#32
  let main_v14 : FVec F S1024x9232 .f32 := broadcastInDim S1024x9232 ![] bcast_S_S1024x9232 main_cst_3
  let main_v15 : IVec S1024x9232 1 := cmpf .olt main_v13 main_v14
  let main_c_4 : IVec S_ 1 := constantI S_ 1 1#1
  let main_v16 : IVec S_ 1 := (fun x v => Host.reduce IntOp.andi x v reducesTo_S1024x9232_S_d0_1 h_S_) main_v15 main_c_4
  fn_part1 (F := F) main_arg3 main_v12 main_v16
-- ==== Pre_finite8.lean ====
abbrev S4x2048x1024 : Shape := ⟨3, ![4, 2048, 1024]⟩
abbrev S1024x1024 : Shape := ⟨2, ![1024, 1024]⟩
abbrev S4x2048x5120 : Shape := ⟨3, ![4, 2048, 5120]⟩
abbrev S_ : Shape := ⟨0, ![]⟩
abbrev S1 : Shape := ⟨1, ![1]⟩

class Facts : Prop where
  bcast_S_S1 : S_.BroadcastsInDim S1 (![] : Fin 0 → Fin S1.rank)
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4x2048x5120 : S_.BroadcastsInDim S4x2048x5120 (![] : Fin 0 → Fin S4x2048x5120.rank)
  reducesTo_S4x2048x5120_S_d0_1_2 : S4x2048x5120.ReducesTo [0, 1, 2] S_

variable [Facts]

def fn_part2 {F : FTy → Type} [FloatOps F] (main_arg6 : FVec F S4x2048x1024 .f32) (main_v30 : IVec S1 1) (main_v34 : IVec S_ 1) : IVec S1 1 :=
  let main_v35 : IVec S1 1 := broadcastInDim S1 ![] bcast_S_S1 main_v34
  let main_v36 : IVec S1 1 := andi main_v30 main_v35
  let main_v37 : FVec F S4x2048x1024 .f32 := Host.absf main_arg6
  let main_cst_11 : FVec F S_ .f32 := constant S_ .f32 0x7F800000#32
  let main_v38 : FVec F S4x2048x1024 .f32 := broadcastInDim S4x2048x1024 ![] bcast_S_S4x2048x1024 main_cst_11
  let main_v39 : IVec S4x2048x1024 1 := cmpf .olt main_v37 main_v38
  let main_c_12 : IVec S_ 1 := constantI S_ 1 1#1
  let main_v40 : IVec S_ 1 := (fun x v => Host.reduce IntOp.andi x v reducesTo_S4x2048x1024_S_d0_1_2 h_S_) main_v39 main_c_12
  let main_v41 : IVec S1 1 := broadcastInDim S1 ![] bcast_S_S1 main_v40
  let main_v42 : IVec S1 1 := andi main_v36 main_v41
  main_v42

def fn_part1 {F : FTy → Type} [FloatOps F] (main_arg3 : FVec F S1024x1024 .f32) (main_arg4 : FVec F S4x2048x5120 .f32) (main_arg5 : FVec F S4x2048x1024 .f32) (main_arg6 : FVec F S4x2048x1024 .f32) (main_v12 : IVec S1 1) (main_v16 : IVec S_ 1) : IVec S1 1 :=
  let main_v17 : IVec S1 1 := broadcastInDim S1 ![] bcast_S_S1 main_v16
  let main_v18 : IVec S1 1 := andi main_v12 main_v17
  let main_v19 : FVec F S1024x1024 .f32 := Host.absf main_arg3
  let main_cst_5 : FVec F S_ .f32 := constant S_ .f32 0x7F800000#32
  let main_v20 : FVec F S1024x1024 .f32 := broadcastInDim S1024x1024 ![] bcast_S_S1024x1024 main_cst_5
  let main_v21 : IVec S1024x1024 1 := cmpf .olt main_v19 main_v20
  let main_c_6 : IVec S_ 1 := constantI S_ 1 1#1
  let main_v22 : IVec S_ 1 := (fun x v => Host.reduce IntOp.andi x v reducesTo_S1024x1024_S_d0_1 h_S_) main_v21 main_c_6
  let main_v23 : IVec S1 1 := broadcastInDim S1 ![] bcast_S_S1 main_v22
  let main_v24 : IVec S1 1 := andi main_v18 main_v23
  let main_v25 : FVec F S4x2048x5120 .f32 := Host.absf main_arg4
  let main_cst_7 : FVec F S_ .f32 := constant S_ .f32 0x7F800000#32
  let main_v26 : FVec F S4x2048x5120 .f32 := broadcastInDim S4x2048x5120 ![] bcast_S_S4x2048x5120 main_cst_7
  let main_v27 : IVec S4x2048x5120 1 := cmpf .olt main_v25 main_v26
  let main_c_8 : IVec S_ 1 := constantI S_ 1 1#1
  let main_v28 : IVec S_ 1 := (fun x v => Host.reduce IntOp.andi x v reducesTo_S4x2048x5120_S_d0_1_2 h_S_) main_v27 main_c_8
  let main_v29 : IVec S1 1 := broadcastInDim S1 ![] bcast_S_S1 main_v28
  let main_v30 : IVec S1 1 := andi main_v24 main_v29
  let main_v31 : FVec F S4x2048x1024 .f32 := Host.absf main_arg5
  let main_cst_9 : FVec F S_ .f32 := constant S_ .f32 0x7F800000#32
  let main_v32 : FVec F S4x2048x1024 .f32 := broadcastInDim S4x2048x1024 ![] bcast_S_S4x2048x1024 main_cst_9
  let main_v33 : IVec S4x2048x1024 1 := cmpf .olt main_v31 main_v32
  let main_c_10 : IVec S_ 1 := constantI S_ 1 1#1
  let main_v34 : IVec S_ 1 := (fun x v => Host.reduce IntOp.andi x v reducesTo_S4x2048x1024_S_d0_1_2 h_S_) main_v33 main_c_10
  fn_part2 (F := F) main_arg6 main_v30 main_v34

def fn {F : FTy → Type} [FloatOps F] (main_arg0 : FVec F S4x2048x1024 .f32) (main_arg1 : FVec F S4x2048x1024 .f32) (main_arg2 : FVec F S1024x1024 .f32) (main_arg3 : FVec F S1024x1024 .f32) (main_arg4 : FVec F S4x2048x5120 .f32) (main_arg5 : FVec F S4x2048x1024 .f32) (main_arg6 : FVec F S4x2048x1024 .f32) : IVec S1 1 :=
  let main_c : IVec S_ 1 := constantI S_ 1 1#1
  let main_v0 : IVec S1 1 := broadcastInDim S1 ![] bcast_S_S1 main_c
  let main_v1 : FVec F S4x2048x1024 .f32 := Host.absf main_arg0
  let main_cst : FVec F S_ .f32 := constant S_ .f32 0x7F800000#32
  let main_v2 : FVec F S4x2048x1024 .f32 := broadcastInDim S4x2048x1024 ![] bcast_S_S4x2048x1024 main_cst
  let main_v3 : IVec S4x2048x1024 1 := cmpf .olt main_v1 main_v2
  let main_c_0 : IVec S_ 1 := constantI S_ 1 1#1
  let main_v4 : IVec S_ 1 := (fun x v => Host.reduce IntOp.andi x v reducesTo_S4x2048x1024_S_d0_1_2 h_S_) main_v3 main_c_0
  let main_v5 : IVec S1 1 := broadcastInDim S1 ![] bcast_S_S1 main_v4
  let main_v6 : IVec S1 1 := andi main_v0 main_v5
  let main_v7 : FVec F S4x2048x1024 .f32 := Host.absf main_arg1
  let main_cst_1 : FVec F S_ .f32 := constant S_ .f32 0x7F800000#32
  let main_v8 : FVec F S4x2048x1024 .f32 := broadcastInDim S4x2048x1024 ![] bcast_S_S4x2048x1024 main_cst_1
  let main_v9 : IVec S4x2048x1024 1 := cmpf .olt main_v7 main_v8
  let main_c_2 : IVec S_ 1 := constantI S_ 1 1#1
  let main_v10 : IVec S_ 1 := (fun x v => Host.reduce IntOp.andi x v reducesTo_S4x2048x1024_S_d0_1_2 h_S_) main_v9 main_c_2
  let main_v11 : IVec S1 1 := broadcastInDim S1 ![] bcast_S_S1 main_v10
  let main_v12 : IVec S1 1 := andi main_v6 main_v11
  let main_v13 : FVec F S1024x1024 .f32 := Host.absf main_arg2
  let main_cst_3 : FVec F S_ .f32 := constant S_ .f32 0x7F800000#32
  let main_v14 : FVec F S1024x1024 .f32 := broadcastInDim S1024x1024 ![] bcast_S_S1024x1024 main_cst_3
  let main_v15 : IVec S1024x1024 1 := cmpf .olt main_v13 main_v14
  let main_c_4 : IVec S_ 1 := constantI S_ 1 1#1
  let main_v16 : IVec S_ 1 := (fun x v => Host.reduce IntOp.andi x v reducesTo_S1024x1024_S_d0_1 h_S_) main_v15 main_c_4
  fn_part1 (F := F) main_arg3 main_arg4 main_arg5 main_arg6 main_v12 main_v16
-- ==== Kernel.lean ====
abbrev S4x2048x16x64 : Shape := ⟨4, ![4, 2048, 16, 64]⟩
abbrev S4x2048x16 : Shape := ⟨3, ![4, 2048, 16]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S4x16x1x2048 : Shape := ⟨4, ![4, 16, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S4x16x64x2048 : Shape := ⟨4, ![4, 16, 64, 2048]⟩
abbrev S4x2048x8x128 : Shape := ⟨4, ![4, 2048, 8, 128]⟩
abbrev S4x2048x8x384 : Shape := ⟨4, ![4, 2048, 8, 384]⟩
abbrev S4x2048x3072 : Shape := ⟨3, ![4, 2048, 3072]⟩
abbrev S4x2048x16x1 : Shape := ⟨4, ![4, 2048, 16, 1]⟩
abbrev S4x2048x1024 : Shape := ⟨3, ![4, 2048, 1024]⟩
abbrev S4x8x2x4x512 : Shape := ⟨5, ![4, 8, 2, 4, 512]⟩
abbrev S8192x3072 : Shape := ⟨2, ![8192, 3072]⟩
abbrev S4x2048x128 : Shape := ⟨3, ![4, 2048, 128]⟩
abbrev S1x2048x384 : Shape := ⟨3, ![1, 2048, 384]⟩
abbrev S1x2048x128 : Shape := ⟨3, ![1, 2048, 128]⟩
abbrev S1x1x2x4x512 : Shape := ⟨5, ![1, 1, 2, 4, 512]⟩
abbrev S2048x384 : Shape := ⟨2, ![2048, 384]⟩
abbrev S2x4x512x128 : Shape := ⟨4, ![2, 4, 512, 128]⟩
abbrev S2x4x128x512 : Shape := ⟨4, ![2, 4, 128, 512]⟩
abbrev S4x512x128 : Shape := ⟨3, ![4, 512, 128]⟩
abbrev S1x128 : Shape := ⟨2, ![1, 128]⟩
abbrev S128x1 : Shape := ⟨2, ![128, 1]⟩
abbrev S512x512 : Shape := ⟨2, ![512, 512]⟩
abbrev S2048x128 : Shape := ⟨2, ![2048, 128]⟩
abbrev S1x512x128 : Shape := ⟨3, ![1, 512, 128]⟩
abbrev S512x128 : Shape := ⟨2, ![512, 128]⟩
abbrev S128x512 : Shape := ⟨2, ![128, 512]⟩
abbrev S1x1x1x1x512 : Shape := ⟨5, ![1, 1, 1, 1, 512]⟩
abbrev S1x512 : Shape := ⟨2, ![1, 512]⟩
abbrev S512 : Shape := ⟨1, ![512]⟩
abbrev S512x1 : Shape := ⟨2, ![512, 1]⟩
abbrev S1x1x512x128 : Shape := ⟨4, ![1, 1, 512, 128]⟩
abbrev S1x1x128x512 : Shape := ⟨4, ![1, 1, 128, 512]⟩
abbrev S8x512 : Shape := ⟨2, ![8, 512]⟩
abbrev S64x8x512 : Shape := ⟨3, ![64, 8, 512]⟩

abbrev nBuf : Space → Nat
  | .hbm => 61
  | .vmem => 24
  | .smem => 0
  | _ => 0

abbrev bufTy : (tb : Table) → Fin (tcTables nBuf tb) → BufTy
  | .hbm, ⟨0, _⟩ => ⟨S4x2048x16x64, .f32⟩
  | .hbm, ⟨1, _⟩ => ⟨S4x2048x16x64, .f32⟩
  | .hbm, ⟨2, _⟩ => ⟨S4x2048x16x64, .f32⟩
  | .hbm, ⟨3, _⟩ => ⟨S4x2048x16, .f32⟩
  | .hbm, ⟨4, _⟩ => ⟨S4x2048x16x64, .f32⟩
  | .hbm, ⟨5, _⟩ => ⟨S4x16x2048x2048, .f32⟩
  | .hbm, ⟨6, _⟩ => ⟨S_, .f32⟩
  | .hbm, ⟨7, _⟩ => ⟨S4x16x2048x2048, .f32⟩
  | .hbm, ⟨8, _⟩ => ⟨S4x16x2048x2048, .f32⟩
  | .hbm, ⟨9, _⟩ => ⟨S4x16x2048, .f32⟩
  | .hbm, ⟨10, _⟩ => ⟨S4x16x2048x1, .f32⟩
  | .hbm, ⟨11, _⟩ => ⟨S4x16x2048x2048, .f32⟩
  | .hbm, ⟨12, _⟩ => ⟨S4x16x2048x2048, .f32⟩
  | .hbm, ⟨13, _⟩ => ⟨S4x16x1x2048, .f32⟩
  | .hbm, ⟨14, _⟩ => ⟨S4x16x2048x2048, .f32⟩
  | .hbm, ⟨15, _⟩ => ⟨S4x16x2048x2048, .f32⟩
  | .hbm, ⟨16, _⟩ => ⟨S2048, .i32⟩
  | .hbm, ⟨17, _⟩ => ⟨S2048x1, .i32⟩
  | .hbm, ⟨18, _⟩ => ⟨S2048, .i32⟩
  | .hbm, ⟨19, _⟩ => ⟨S1x2048, .i32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S1x1x2048x2048, .i1⟩
  | .hbm, ⟨24, _⟩ => ⟨S_, .f32⟩
  | .hbm, ⟨25, _⟩ => ⟨S_, .f32⟩
  | .hbm, ⟨26, _⟩ => ⟨S4x16x2048x2048, .i1⟩
  | .hbm, ⟨27, _⟩ => ⟨S4x16x2048x2048, .f32⟩
  | .hbm, ⟨28, _⟩ => ⟨S4x16x2048x2048, .f32⟩
  | .hbm, ⟨29, _⟩ => ⟨S_, .f32⟩
  | .hbm, ⟨30, _⟩ => ⟨S4x16x2048, .f32⟩
  | .hbm, ⟨31, _⟩ => ⟨S4x16x2048x1, .f32⟩
  | .hbm, ⟨32, _⟩ => ⟨S4x16x2048x2048, .f32⟩
  | .hbm, ⟨33, _⟩ => ⟨S4x16x2048x2048, .f32⟩
  | .hbm, ⟨34, _⟩ => ⟨S4x16x2048x2048, .f32⟩
  | .hbm, ⟨35, _⟩ => ⟨S_, .f32⟩
  | .hbm, ⟨36, _⟩ => ⟨S4x16x2048, .f32⟩
  | .hbm, ⟨37, _⟩ => ⟨S4x16x2048x1, .f32⟩
  | .hbm, ⟨38, _⟩ => ⟨S4x16x2048x1, .f32⟩
  | .hbm, ⟨39, _⟩ => ⟨S4x16x2048x1, .f32⟩
  | .hbm, ⟨40, _⟩ => ⟨S4x16x2048, .f32⟩
  | .hbm, ⟨41, _⟩ => ⟨S4x16x2048x2048, .f32⟩
  | .hbm, ⟨42, _⟩ => ⟨S4x16x2048x2048, .f32⟩
  | .hbm, ⟨43, _⟩ => ⟨S4x16x64x2048, .f32⟩
  | .hbm, ⟨44, _⟩ => ⟨S4x2048x16x64, .f32⟩
  | .hbm, ⟨45, _⟩ => ⟨S4x2048x8x128, .f32⟩
  | .hbm, ⟨46, _⟩ => ⟨S4x2048x8x128, .f32⟩
  | .hbm, ⟨47, _⟩ => ⟨S4x2048x8x128, .f32⟩
  | .hbm, ⟨48, _⟩ => ⟨S4x2048x8x384, .f32⟩
  | .hbm, ⟨49, _⟩ => ⟨S4x2048x3072, .f32⟩
  | .hbm, ⟨50, _⟩ => ⟨S4x2048x3072, .bf16⟩
  | .hbm, ⟨51, _⟩ => ⟨S4x2048x16x1, .f32⟩
  | .hbm, ⟨52, _⟩ => ⟨S4x2048x16x64, .f32⟩
  | .hbm, ⟨53, _⟩ => ⟨S4x2048x1024, .f32⟩
  | .hbm, ⟨54, _⟩ => ⟨S4x2048x1024, .f32⟩
  | .hbm, ⟨55, _⟩ => ⟨S4x2048x1024, .bf16⟩
  | .hbm, ⟨56, _⟩ => ⟨S4x2048x1024, .f32⟩
  | .hbm, ⟨57, _⟩ => ⟨S4x8x2x4x512, .f32⟩
  | .hbm, ⟨58, _⟩ => ⟨S4x8x2x4x512, .f32⟩
  | .hbm, ⟨59, _⟩ => ⟨S8192x3072, .bf16⟩
  | .hbm, ⟨60, _⟩ => ⟨S4x2048x128, .f32⟩
  | .local _ .vmem, ⟨0, _⟩ => ⟨S1x2048x384, .bf16⟩
  | .local _ .vmem, ⟨1, _⟩ => ⟨S1x2048x384, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .f32⟩
  | .local _ .vmem, ⟨5, _⟩ => ⟨S1x2048x128, .f32⟩
  | .local _ .vmem, ⟨6, _⟩ => ⟨S1x1x2x4x512, .f32⟩
  | .local _ .vmem, ⟨7, _⟩ => ⟨S1x1x2x4x512, .f32⟩
  | .local _ .vmem, ⟨8, _⟩ => ⟨S1x1x2x4x512, .f32⟩
  | .local _ .vmem, ⟨9, _⟩ => ⟨S1x1x2x4x512, .f32⟩
  | .local _ .vmem, ⟨10, _⟩ => ⟨S1x2048x128, .f32⟩
  | .local _ .vmem, ⟨11, _⟩ => ⟨S1x2048x128, .f32⟩
  | .local _ .vmem, ⟨12, _⟩ => ⟨S2048x384, .bf16⟩
  | .local _ .vmem, ⟨13, _⟩ => ⟨S2048x384, .bf16⟩
  | .local _ .vmem, ⟨14, _⟩ => ⟨S1x2048x128, .f32⟩
  | .local _ .vmem, ⟨15, _⟩ => ⟨S1x2048x128, .f32⟩
  | .local _ .vmem, ⟨16, _⟩ => ⟨S2x4x512x128, .bf16⟩
  | .local _ .vmem, ⟨17, _⟩ => ⟨S2x4x512x128, .bf16⟩
  | .local _ .vmem, ⟨18, _⟩ => ⟨S2x4x128x512, .bf16⟩
  | .local _ .vmem, ⟨19, _⟩ => ⟨S2x4x128x512, .bf16⟩
  | .local _ .vmem, ⟨20, _⟩ => ⟨S2x4x128x512, .bf16⟩
  | .local _ .vmem, ⟨21, _⟩ => ⟨S2x4x128x512, .bf16⟩
  | .local _ .vmem, ⟨22, _⟩ => ⟨S4x512x128, .f32⟩
  | .local _ .vmem, ⟨23, _⟩ => ⟨S4x512x128, .f32⟩
  | _, _ => ⟨S4x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47_0 : Ref sig .tc := ⟨.hbm, 59, rfl⟩
abbrev main_v47_1 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2x4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2x4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S4x2048x16x64 : Shape := ⟨4, ![4, 2048, 16, 64]⟩
abbrev S4x2048x16 : Shape := ⟨3, ![4, 2048, 16]⟩
abbrev S4x16x2048 : Shape := ⟨3, ![4, 16, 2048]⟩
abbrev S4x16x2048x2048 : Shape := ⟨4, ![4, 16, 2048, 2048]⟩
abbrev S_ : Shape := ⟨0, ![]⟩
abbrev S4x16x2048x1 : Shape := ⟨4, ![4, 16, 2048, 1]⟩
abbrev S4x16x1x2048 : Shape := ⟨4, ![4, 16, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S4x16x64x2048 : Shape := ⟨4, ![4, 16, 64, 2048]⟩
abbrev S4x16x2048x64 : Shape := ⟨4, ![4, 16, 2048, 64]⟩
abbrev S4x2048x8x128 : Shape := ⟨4, ![4, 2048, 8, 128]⟩
abbrev S4x2048x8x1x128 : Shape := ⟨5, ![4, 2048, 8, 1, 128]⟩
abbrev S4x2048x8x3x128 : Shape := ⟨5, ![4, 2048, 8, 3, 128]⟩
abbrev S8192x3072 : Shape := ⟨2, ![8192, 3072]⟩
abbrev S4x2048x128 : Shape := ⟨3, ![4, 2048, 128]⟩

abbrev nBuf : Space → Nat
  | .hbm => 124
  | .vmem => 0
  | .smem => 0
  | _ => 0

abbrev bufTy : (tb : Table) → Fin (tcTables nBuf tb) → BufTy
  | .hbm, ⟨0, _⟩ => ⟨S4x2048x16x64, .f32⟩
  | .hbm, ⟨1, _⟩ => ⟨S4x2048x16x64, .f32⟩
  | .hbm, ⟨2, _⟩ => ⟨S4x2048x16x64, .f32⟩
  | .hbm, ⟨3, _⟩ => ⟨S4x2048x16, .f32⟩
  | .hbm, ⟨4, _⟩ => ⟨S4x2048x16x64, .f32⟩
  | .hbm, ⟨5, _⟩ => ⟨S4x16x2048, .f32⟩
  | .hbm, ⟨6, _⟩ => ⟨S4x16x2048x2048, .f32⟩
  | .hbm, ⟨7, _⟩ => ⟨S_, .f32⟩
  | .hbm, ⟨8, _⟩ => ⟨S4x16x2048x2048, .f32⟩
  | .hbm, ⟨9, _⟩ => ⟨S4x16x2048x2048, .f32⟩
  | .hbm, ⟨10, _⟩ => ⟨S4x16x2048x1, .f32⟩
  | .hbm, ⟨11, _⟩ => ⟨S4x16x2048x2048, .f32⟩
  | .hbm, ⟨12, _⟩ => ⟨S4x16x2048x2048, .f32⟩
  | .hbm, ⟨13, _⟩ => ⟨S4x16x1x2048, .f32⟩
  | .hbm, ⟨14, _⟩ => ⟨S4x16x2048x2048, .f32⟩
  | .hbm, ⟨15, _⟩ => ⟨S4x16x2048x2048, .f32⟩
  | .hbm, ⟨16, _⟩ => ⟨S2048, .i32⟩
  | .hbm, ⟨17, _⟩ => ⟨S2048x1, .i32⟩
  | .hbm, ⟨18, _⟩ => ⟨S2048, .i32⟩
  | .hbm, ⟨19, _⟩ => ⟨S1x2048, .i32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S1x1x2048x2048, .i1⟩
  | .hbm, ⟨24, _⟩ => ⟨S_, .f32⟩
  | .hbm, ⟨25, _⟩ => ⟨S_, .f32⟩
  | .hbm, ⟨26, _⟩ => ⟨S4x16x2048x2048, .i1⟩
  | .hbm, ⟨27, _⟩ => ⟨S4x16x2048x2048, .f32⟩
  | .hbm, ⟨28, _⟩ => ⟨S4x16x2048x2048, .f32⟩
  | .hbm, ⟨29, _⟩ => ⟨S_, .f32⟩
  | .hbm, ⟨30, _⟩ => ⟨S4x16x2048x2048, .f32⟩
  | .hbm, ⟨31, _⟩ => ⟨S_, .f32⟩
  | .hbm, ⟨32, _⟩ => ⟨S4x16x2048, .f32⟩
  | .hbm, ⟨33, _⟩ => ⟨S4x16x2048x1, .f32⟩
  | .hbm, ⟨34, _⟩ => ⟨S4x16x2048x2048, .f32⟩
  | .hbm, ⟨35, _⟩ => ⟨S4x16x2048x2048, .i1⟩
  | .hbm, ⟨36, _⟩ => ⟨S4x16x2048x2048, .f32⟩
  | .hbm, ⟨37, _⟩ => ⟨S_, .f32⟩
  | .hbm, ⟨38, _⟩ => ⟨S4x16x2048, .f32⟩
  | .hbm, ⟨39, _⟩ => ⟨S_, .f32⟩
  | .hbm, ⟨40, _⟩ => ⟨S4x16x2048, .f32⟩
  | .hbm, ⟨41, _⟩ => ⟨S4x16x2048, .f32⟩
  | .hbm, ⟨42, _⟩ => ⟨S_, .f32⟩
  | .hbm, ⟨43, _⟩ => ⟨S4x16x2048, .f32⟩
  | .hbm, ⟨44, _⟩ => ⟨S4x16x2048, .i1⟩
  | .hbm, ⟨45, _⟩ => ⟨S_, .f32⟩
  | .hbm, ⟨46, _⟩ => ⟨S4x16x2048, .f32⟩
  | .hbm, ⟨47, _⟩ => ⟨S4x16x2048, .i1⟩
  | .hbm, ⟨48, _⟩ => ⟨S_, .f32⟩
  | .hbm, ⟨49, _⟩ => ⟨S4x16x2048, .f32⟩
  | .hbm, ⟨50, _⟩ => ⟨S_, .f32⟩
  | .hbm, ⟨51, _⟩ => ⟨S4x16x2048, .f32⟩
  | .hbm, ⟨52, _⟩ => ⟨S_, .f32⟩
  | .hbm, ⟨53, _⟩ => ⟨S4x16x2048, .f32⟩
  | .hbm, ⟨54, _⟩ => ⟨S4x16x2048, .f32⟩
  | .hbm, ⟨55, _⟩ => ⟨S4x16x2048, .f32⟩
  | .hbm, ⟨56, _⟩ => ⟨S4x16x2048x1, .f32⟩
  | .hbm, ⟨57, _⟩ => ⟨S4x16x2048x2048, .f32⟩
  | .hbm, ⟨58, _⟩ => ⟨S4x16x2048x2048, .f32⟩
  | .hbm, ⟨59, _⟩ => ⟨S4x16x2048x2048, .f32⟩
  | .hbm, ⟨60, _⟩ => ⟨S_, .f32⟩
  | .hbm, ⟨61, _⟩ => ⟨S4x16x2048, .f32⟩
  | .hbm, ⟨62, _⟩ => ⟨S4x16x2048x1, .f32⟩
  | .hbm, ⟨63, _⟩ => ⟨S4x16x2048x2048, .f32⟩
  | .hbm, ⟨64, _⟩ => ⟨S4x16x2048x2048, .f32⟩
  | .hbm, ⟨65, _⟩ => ⟨S4x16x2048x1, .f32⟩
  | .hbm, ⟨66, _⟩ => ⟨S_, .f32⟩
  | .hbm, ⟨67, _⟩ => ⟨S4x16x2048x1, .f32⟩
  | .hbm, ⟨68, _⟩ => ⟨S4x16x2048x1, .f32⟩
  | .hbm, ⟨69, _⟩ => ⟨S4x16x64x2048, .f32⟩
  | .hbm, ⟨70, _⟩ => ⟨S4x2048x16x64, .f32⟩
  | .hbm, ⟨71, _⟩ => ⟨S4x16x64x2048, .f32⟩
  | .hbm, ⟨72, _⟩ => ⟨S4x16x2048x2048, .f32⟩
  | .hbm, ⟨73, _⟩ => ⟨S4x16x64x2048, .f32⟩
  | .hbm, ⟨74, _⟩ => ⟨S4x2048x16x64, .f32⟩
  | .hbm, ⟨75, _⟩ => ⟨S4x16x2048x2048, .f32⟩
  | .hbm, ⟨76, _⟩ => ⟨S4x16x2048x2048, .f32⟩
  | .hbm, ⟨77, _⟩ => ⟨S4x16x2048x2048, .f32⟩
  | .hbm, ⟨78, _⟩ => ⟨S_, .f32⟩
  | .hbm, ⟨79, _⟩ => ⟨S4x16x2048, .f32⟩
  | .hbm, ⟨80, _⟩ => ⟨S4x16x2048x1, .f32⟩
  | .hbm, ⟨81, _⟩ => ⟨S4x16x2048x1, .f32⟩
  | .hbm, ⟨82, _⟩ => ⟨S4x16x2048x2048, .f32⟩
  | .hbm, ⟨83, _⟩ => ⟨S4x16x2048x2048, .f32⟩
  | .hbm, ⟨84, _⟩ => ⟨S_, .f32⟩
  | .hbm, ⟨85, _⟩ => ⟨S4x16x2048, .f32⟩
  | .hbm, ⟨86, _⟩ => ⟨S4x16x2048x2048, .f32⟩
  | .hbm, ⟨87, _⟩ => ⟨S4x16x2048x2048, .f32⟩
  | .hbm, ⟨88, _⟩ => ⟨S4x16x2048x2048, .f32⟩
  | .hbm, ⟨89, _⟩ => ⟨S_, .f32⟩
  | .hbm, ⟨90, _⟩ => ⟨S4x16x2048x2048, .f32⟩
  | .hbm, ⟨91, _⟩ => ⟨S4x16x2048x2048, .f32⟩
  | .hbm, ⟨92, _⟩ => ⟨S4x16x2048x2048, .f32⟩
  | .hbm, ⟨93, _⟩ => ⟨S_, .f32⟩
  | .hbm, ⟨94, _⟩ => ⟨S4x16x2048, .f32⟩
  | .hbm, ⟨95, _⟩ => ⟨S4x16x1x2048, .f32⟩
  | .hbm, ⟨96, _⟩ => ⟨S_, .f32⟩
  | .hbm, ⟨97, _⟩ => ⟨S4x16x2048, .f32⟩
  | .hbm, ⟨98, _⟩ => ⟨S_, .f32⟩
  | .hbm, ⟨99, _⟩ => ⟨S4x16x2048, .f32⟩
  | .hbm, ⟨100, _⟩ => ⟨S4x16x2048x1, .f32⟩
  | .hbm, ⟨101, _⟩ => ⟨S_, .f32⟩
  | .hbm, ⟨102, _⟩ => ⟨S4x16x2048, .f32⟩
  | .hbm, ⟨103, _⟩ => ⟨S4x16x2048, .f32⟩
  | .hbm, ⟨104, _⟩ => ⟨S_, .f32⟩
  | .hbm, ⟨105, _⟩ => ⟨S4x16x2048x2048, .f32⟩
  | .hbm, ⟨106, _⟩ => ⟨S4x16x2048x2048, .f32⟩
  | .hbm, ⟨107, _⟩ => ⟨S4x16x2048x64, .f32⟩
  | .hbm, ⟨108, _⟩ => ⟨S4x2048x16x64, .f32⟩
  | .hbm, ⟨109, _⟩ => ⟨S4x16x2048x64, .f32⟩
  | .hbm, ⟨110, _⟩ => ⟨S4x2048x16x64, .f32⟩
  | .hbm, ⟨111, _⟩ => ⟨S4x2048x16, .f32⟩
  | .hbm, ⟨112, _⟩ => ⟨S4x2048x8x128, .f32⟩
  | .hbm, ⟨113, _⟩ => ⟨S4x2048x8x128, .f32⟩
  | .hbm, ⟨114, _⟩ => ⟨S4x2048x8x128, .f32⟩
  | .hbm, ⟨115, _⟩ => ⟨S4x2048x8x1x128, .f32⟩
  | .hbm, ⟨116, _⟩ => ⟨S4x2048x8x1x128, .f32⟩
  | .hbm, ⟨117, _⟩ => ⟨S4x2048x8x1x128, .f32⟩
  | .hbm, ⟨118, _⟩ => ⟨S4x2048x8x3x128, .f32⟩
  | .hbm, ⟨119, _⟩ => ⟨S8192x3072, .f32⟩
  | .hbm, ⟨120, _⟩ => ⟨S8192x3072, .bf16⟩
  | .hbm, ⟨121, _⟩ => ⟨S_, .i32⟩
  | .hbm, ⟨122, _⟩ => ⟨S_, .f32⟩
  | .hbm, ⟨123, _⟩ => ⟨S4x2048x128, .f32⟩
  | _, _ => ⟨S4x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_call0_v0 : Ref sig .tc := ⟨.hbm, 25, rfl⟩
abbrev main_v18_1 : Ref sig .tc := ⟨.hbm, 26, rfl⟩
abbrev main_call0_v2 : Ref sig .tc := ⟨.hbm, 27, rfl⟩
abbrev main_v18_0 : Ref sig .tc := ⟨.hbm, 28, rfl⟩
abbrev main_call0_cst : Ref sig .tc := ⟨.hbm, 29, rfl⟩
abbrev main_v18_2 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_12 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call1_cst : Ref sig .tc := ⟨.hbm, 89, rfl⟩
abbrev main_call1_v0 : Ref sig .tc := ⟨.hbm, 90, rfl⟩
abbrev main_v65 : Ref sig .tc := ⟨.hbm, 91, rfl⟩
abbrev main_v66 : Ref sig .tc := ⟨.hbm, 92, rfl⟩
abbrev main_cst_13 : Ref sig .tc := ⟨.hbm, 93, rfl⟩
abbrev main_v67 : Ref sig .tc := ⟨.hbm, 94, rfl⟩
abbrev main_v68 : Ref sig .tc := ⟨.hbm, 95, rfl⟩
abbrev main_cst_14 : Ref sig .tc := ⟨.hbm, 96, rfl⟩
abbrev main_v69 : Ref sig .tc := ⟨.hbm, 97, rfl⟩
abbrev main_cst_15 : Ref sig .tc := ⟨.hbm, 98, rfl⟩
abbrev main_v70 : Ref sig .tc := ⟨.hbm, 99, rfl⟩
abbrev main_v71 : Ref sig .tc := ⟨.hbm, 100, rfl⟩
abbrev main_cst_16 : Ref sig .tc := ⟨.hbm, 101, rfl⟩
abbrev main_v72 : Ref sig .tc := ⟨.hbm, 102, rfl⟩
abbrev main_v73 : Ref sig .tc := ⟨.hbm, 103, rfl⟩
abbrev main_cst_17 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_c : Ref sig .tc := ⟨.hbm, 121, rfl⟩
abbrev main_call2_v0 : Ref sig .tc := ⟨.hbm, 122, rfl⟩
abbrev main_v90 : Ref sig .tc := ⟨.hbm, 123, rfl⟩

abbrev nD : Nat := 1
abbrev τ : Topo := Topo.v7x

variable {F : FTy → Type} [FloatOps F]

def κ : String → Option EReal := fun
  | "mask" => some ⊥
  | _ => none
-- ==== Kernel2.lean ====
abbrev S4x2048x1024 : Shape := ⟨3, ![4, 2048, 1024]⟩
abbrev S1x1024 : Shape := ⟨2, ![1, 1024]⟩
abbrev S1024x9232 : Shape := ⟨2, ![1024, 9232]⟩
abbrev S4x2048x8208 : Shape := ⟨3, ![4, 2048, 8208]⟩
abbrev S9232x1024 : Shape := ⟨2, ![9232, 1024]⟩
abbrev S3072x1024 : Shape := ⟨2, ![3072, 1024]⟩
abbrev S3x8x128x1024 : Shape := ⟨4, ![3, 8, 128, 1024]⟩
abbrev S8x3x128x1024 : Shape := ⟨4, ![8, 3, 128, 1024]⟩
abbrev S16x1024 : Shape := ⟨2, ![16, 1024]⟩
abbrev S_ : Shape := ⟨0, ![]⟩
abbrev S128x1024 : Shape := ⟨2, ![128, 1024]⟩
abbrev S5120x1024 : Shape := ⟨2, ![5120, 1024]⟩
abbrev S8192x8208 : Shape := ⟨2, ![8192, 8208]⟩
abbrev S8192x3072 : Shape := ⟨2, ![8192, 3072]⟩
abbrev S8192x3x8x128 : Shape := ⟨4, ![8192, 3, 8, 128]⟩
abbrev S8192x8x3x128 : Shape := ⟨4, ![8192, 8, 3, 128]⟩
abbrev S8192x16 : Shape := ⟨2, ![8192, 16]⟩
abbrev S8192x128 : Shape := ⟨2, ![8192, 128]⟩
abbrev S8192x5120 : Shape := ⟨2, ![8192, 5120]⟩
abbrev S8192x1024 : Shape := ⟨2, ![8192, 1024]⟩
abbrev S1024x1024 : Shape := ⟨2, ![1024, 1024]⟩
abbrev S8x128 : Shape := ⟨2, ![8, 128]⟩
abbrev S8x1024 : Shape := ⟨2, ![8, 1024]⟩
abbrev S256x3072 : Shape := ⟨2, ![256, 3072]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 43
  | .vmem => 30
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S1024x9232, .f32⟩
  | .hbm, ⟨3, _⟩ => ⟨S4x2048x8208, .f32⟩
  | .hbm, ⟨4, _⟩ => ⟨S4x2048x1024, .f32⟩
  | .hbm, ⟨5, _⟩ => ⟨S9232x1024, .f32⟩
  | .hbm, ⟨6, _⟩ => ⟨S9232x1024, .bf16⟩
  | .hbm, ⟨7, _⟩ => ⟨S3072x1024, .bf16⟩
  | .hbm, ⟨8, _⟩ => ⟨S3x8x128x1024, .bf16⟩
  | .hbm, ⟨9, _⟩ => ⟨S8x3x128x1024, .bf16⟩
  | .hbm, ⟨10, _⟩ => ⟨S3072x1024, .bf16⟩
  | .hbm, ⟨11, _⟩ => ⟨S16x1024, .bf16⟩
  | .hbm, ⟨12, _⟩ => ⟨S_, .i32⟩
  | .hbm, ⟨13, _⟩ => ⟨S_, .bf16⟩
  | .hbm, ⟨14, _⟩ => ⟨S128x1024, .bf16⟩
  | .hbm, ⟨15, _⟩ => ⟨S5120x1024, .bf16⟩
  | .hbm, ⟨16, _⟩ => ⟨S8192x8208, .f32⟩
  | .hbm, ⟨17, _⟩ => ⟨S8192x8208, .bf16⟩
  | .hbm, ⟨18, _⟩ => ⟨S8192x3072, .bf16⟩
  | .hbm, ⟨19, _⟩ => ⟨S8192x3x8x128, .bf16⟩
  | .hbm, ⟨20, _⟩ => ⟨S8192x8x3x128, .bf16⟩
  | .hbm, ⟨21, _⟩ => ⟨S8192x3072, .bf16⟩
  | .hbm, ⟨22, _⟩ => ⟨S8192x16, .bf16⟩
  | .hbm, ⟨23, _⟩ => ⟨S_, .i32⟩
  | .hbm, ⟨24, _⟩ => ⟨S_, .bf16⟩
  | .hbm, ⟨25, _⟩ => ⟨S8192x128, .bf16⟩
  | .hbm, ⟨26, _⟩ => ⟨S8192x5120, .bf16⟩
  | .hbm, ⟨27, _⟩ => ⟨S8192x1024, .bf16⟩
  | .hbm, ⟨28, _⟩ => ⟨S1024x1024, .bf16⟩
  | .hbm, ⟨29, _⟩ => ⟨S8192x1024, .bf16⟩
  | .hbm, ⟨30, _⟩ => ⟨S1024x1024, .bf16⟩
  | .hbm, ⟨31, _⟩ => ⟨S8192x1024, .bf16⟩
  | .hbm, ⟨32, _⟩ => ⟨S1024x1024, .bf16⟩
  | .hbm, ⟨33, _⟩ => ⟨S8192x1024, .bf16⟩
  | .hbm, ⟨34, _⟩ => ⟨S1024x1024, .bf16⟩
  | .hbm, ⟨35, _⟩ => ⟨S8192x1024, .bf16⟩
  | .hbm, ⟨36, _⟩ => ⟨S1024x1024, .bf16⟩
  | .hbm, ⟨37, _⟩ => ⟨S_, .f32⟩
  | .hbm, ⟨38, _⟩ => ⟨S8x128, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8x1024, .f32⟩
  | .local _ .vmem, ⟨0, _⟩ => ⟨S256x3072, .bf16⟩
  | .local _ .vmem, ⟨1, _⟩ => ⟨S256x3072, .bf16⟩
  | .local _ .vmem, ⟨2, _⟩ => ⟨S256x128, .bf16⟩
  | .local _ .vmem, ⟨3, _⟩ => ⟨S256x128, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S3072x1024, .bf16⟩
  | .local _ .vmem, ⟨15, _⟩ => ⟨S128x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S8x128, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S1x1024, .f32⟩
  | .local _ .vmem, ⟨27, _⟩ => ⟨S256x1024, .f32⟩
  | .local _ .vmem, ⟨28, _⟩ => ⟨S256x1024, .f32⟩
  | .local _ .vmem, ⟨29, _⟩ => ⟨S8x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_0 : Ref sig .tc := ⟨.hbm, 23, rfl⟩
abbrev main_call1_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31_0 : Ref sig .tc := ⟨.hbm, 41, rfl⟩
abbrev main_v31_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem18_0 : DmaSem sig := 27
abbrev cc0_sem18_1 : DmaSem sig := 28
abbrev cc0_sem19_0 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3072x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S8x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== Reference2Ideal.lean ====
abbrev S4x2048x1024 : Shape := ⟨3, ![4, 2048, 1024]⟩
abbrev S1x1024 : Shape := ⟨2, ![1, 1024]⟩
abbrev S1024x9232 : Shape := ⟨2, ![1024, 9232]⟩
abbrev S4x2048x8208 : Shape := ⟨3, ![4, 2048, 8208]⟩
abbrev S_ : Shape := ⟨0, ![]⟩
abbrev S4x2048 : Shape := ⟨2, ![4, 2048]⟩
abbrev S4x2048x1 : Shape := ⟨3, ![4, 2048, 1]⟩
abbrev S1024 : Shape := ⟨1, ![1024]⟩
abbrev S1x1x1024 : Shape := ⟨3, ![1, 1, 1024]⟩
abbrev S4x2048x9232 : Shape := ⟨3, ![4, 2048, 9232]⟩
abbrev S8192x1024 : Shape := ⟨2, ![8192, 1024]⟩
abbrev S8x1024 : Shape := ⟨2, ![8, 1024]⟩

abbrev nBuf : Space → Nat
  | .hbm => 62
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S1024x9232, .f32⟩
  | .hbm, ⟨3, _⟩ => ⟨S4x2048x8208, .f32⟩
  | .hbm, ⟨4, _⟩ => ⟨S4x2048x1024, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1024, .f32⟩
  | .hbm, ⟨21, _⟩ => ⟨S4x2048x1024, .f32⟩
  | .hbm, ⟨22, _⟩ => ⟨S1024, .f32⟩
  | .hbm, ⟨23, _⟩ => ⟨S1x1x1024, .f32⟩
  | .hbm, ⟨24, _⟩ => ⟨S4x2048x1024, .f32⟩
  | .hbm, ⟨25, _⟩ => ⟨S4x2048x1024, .f32⟩
  | .hbm, ⟨26, _⟩ => ⟨S4x2048x9232, .f32⟩
  | .hbm, ⟨27, _⟩ => ⟨S4x2048x8208, .f32⟩
  | .hbm, ⟨28, _⟩ => ⟨S_, .f32⟩
  | .hbm, ⟨29, _⟩ => ⟨S4x2048x9232, .f32⟩
  | .hbm, ⟨30, _⟩ => ⟨S4x2048x1024, .f32⟩
  | .hbm, ⟨31, _⟩ => ⟨S4x2048x1024, .f32⟩
  | .hbm, ⟨32, _⟩ => ⟨S_, .f32⟩
  | .hbm, ⟨33, _⟩ => ⟨S1024, .f32⟩
  | .hbm, ⟨34, _⟩ => ⟨S1x1x1024, .f32⟩
  | .hbm, ⟨35, _⟩ => ⟨S4x2048x1024, .f32⟩
  | .hbm, ⟨36, _⟩ => ⟨S4x2048x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4x2048x1024, .f32⟩
  | .hbm, ⟨41, _⟩ => ⟨S_, .f32⟩
  | .hbm, ⟨42, _⟩ => ⟨S4x2048, .f32⟩
  | .hbm, ⟨43, _⟩ => ⟨S4x2048x1, .f32⟩
  | .hbm, ⟨44, _⟩ => ⟨S4x2048x1024, .f32⟩
  | .hbm, ⟨45, _⟩ => ⟨S4x2048x1024, .f32⟩
  | .hbm, ⟨46, _⟩ => ⟨S4x2048x1024, .f32⟩
  | .hbm, ⟨47, _⟩ => ⟨S4x2048x1, .f32⟩
  | .hbm, ⟨48, _⟩ => ⟨S_, .f32⟩
  | .hbm, ⟨49, _⟩ => ⟨S4x2048x1, .f32⟩
  | .hbm, ⟨50, _⟩ => ⟨S4x2048x1, .f32⟩
  | .hbm, ⟨51, _⟩ => ⟨S_, .f32⟩
  | .hbm, ⟨52, _⟩ => ⟨S4x2048, .f32⟩
  | .hbm, ⟨53, _⟩ => ⟨S4x2048x1024, .f32⟩
  | .hbm, ⟨54, _⟩ => ⟨S4x2048x1024, .f32⟩
  | .hbm, ⟨55, _⟩ => ⟨S4x2048x1024, .f32⟩
  | .hbm, ⟨56, _⟩ => ⟨S4x2048x1024, .f32⟩
  | .hbm, ⟨57, _⟩ => ⟨S4x2048x1024, .f32⟩
  | .hbm, ⟨58, _⟩ => ⟨S8192x1024, .f32⟩
  | .hbm, ⟨59, _⟩ => ⟨S_, .i32⟩
  | .hbm, ⟨60, _⟩ => ⟨S_, .f32⟩
  | .hbm, ⟨61, _⟩ => ⟨S8x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c : Ref sig .tc := ⟨.hbm, 59, rfl⟩
abbrev main_call0_v0 : Ref sig .tc := ⟨.hbm, 60, rfl⟩
abbrev main_v44 : Ref sig .tc := ⟨.hbm, 61, rfl⟩

abbrev nD : Nat := 1
abbrev τ : Topo := Topo.v7x

variable {F : FTy → Type} [FloatOps F]
-- ==== Kernel3.lean ====
abbrev S4x2048x1024 : Shape := ⟨3, ![4, 2048, 1024]⟩
abbrev S4x2048x3072 : Shape := ⟨3, ![4, 2048, 3072]⟩
abbrev S8192x3072 : Shape := ⟨2, ![8192, 3072]⟩
abbrev S8192x1024 : Shape := ⟨2, ![8192, 1024]⟩
abbrev S3072x1024 : Shape := ⟨2, ![3072, 1024]⟩
abbrev S8x3072 : Shape := ⟨2, ![8, 3072]⟩
abbrev S2048x1024 : Shape := ⟨2, ![2048, 1024]⟩
abbrev S1024x1024 : Shape := ⟨2, ![1024, 1024]⟩
abbrev S8x1024 : Shape := ⟨2, ![8, 1024]⟩
abbrev S1x1024 : Shape := ⟨2, ![1, 1024]⟩
abbrev S1024 : Shape := ⟨1, ![1024]⟩

abbrev nBuf : Space → Nat
  | .hbm => 8
  | .vmem => 8
  | .smem => 0
  | _ => 0

abbrev bufTy : (tb : Table) → Fin (tcTables nBuf tb) → BufTy
  | .hbm, ⟨0, _⟩ => ⟨S4x2048x1024, .f32⟩
  | .hbm, ⟨1, _⟩ => ⟨S4x2048x3072, .f32⟩
  | .hbm, ⟨2, _⟩ => ⟨S8192x3072, .f32⟩
  | .hbm, ⟨3, _⟩ => ⟨S8192x3072, .bf16⟩
  | .hbm, ⟨4, _⟩ => ⟨S8192x1024, .f32⟩
  | .hbm, ⟨5, _⟩ => ⟨S8192x1024, .bf16⟩
  | .hbm, ⟨6, _⟩ => ⟨S3072x1024, .f32⟩
  | .hbm, ⟨7, _⟩ => ⟨S8x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S8x1024, .f32⟩
  | .local _ .vmem, ⟨7, _⟩ => ⟨S8x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![3, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference3Ideal.lean ====
abbrev S4x2048x1024 : Shape := ⟨3, ![4, 2048, 1024]⟩
abbrev S4x2048x3072 : Shape := ⟨3, ![4, 2048, 3072]⟩
abbrev S_ : Shape := ⟨0, ![]⟩
abbrev S1024x3072 : Shape := ⟨2, ![1024, 3072]⟩
abbrev S1x3072 : Shape := ⟨2, ![1, 3072]⟩
abbrev S3072 : Shape := ⟨1, ![3072]⟩
abbrev S1x1x3072 : Shape := ⟨3, ![1, 1, 3072]⟩
abbrev S3072x1024 : Shape := ⟨2, ![3072, 1024]⟩
abbrev S8x3072 : Shape := ⟨2, ![8, 3072]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x3072, .f32⟩
  | .hbm, ⟨2, _⟩ => ⟨S_, .f32⟩
  | .hbm, ⟨3, _⟩ => ⟨S1024x3072, .f32⟩
  | .hbm, ⟨4, _⟩ => ⟨S_, .f32⟩
  | .hbm, ⟨5, _⟩ => ⟨S1x3072, .f32⟩
  | .hbm, ⟨6, _⟩ => ⟨S4x2048x3072, .f32⟩
  | .hbm, ⟨7, _⟩ => ⟨S3072, .f32⟩
  | .hbm, ⟨8, _⟩ => ⟨S1x1x3072, .f32⟩
  | .hbm, ⟨9, _⟩ => ⟨S4x2048x3072, .f32⟩
  | .hbm, ⟨10, _⟩ => ⟨S4x2048x3072, .f32⟩
  | .hbm, ⟨11, _⟩ => ⟨S4x2048x3072, .f32⟩
  | .hbm, ⟨12, _⟩ => ⟨S_, .f32⟩
  | .hbm, ⟨13, _⟩ => ⟨S3072, .f32⟩
  | .hbm, ⟨14, _⟩ => ⟨S1x1x3072, .f32⟩
  | .hbm, ⟨15, _⟩ => ⟨S_, .f32⟩
  | .hbm, ⟨16, _⟩ => ⟨S3072, .f32⟩
  | .hbm, ⟨17, _⟩ => ⟨S1x3072, .f32⟩
  | .hbm, ⟨18, _⟩ => ⟨S3072x1024, .f32⟩
  | .hbm, ⟨19, _⟩ => ⟨S1024x3072, .f32⟩
  | .hbm, ⟨20, _⟩ => ⟨S3072x1024, .f32⟩
  | .hbm, ⟨21, _⟩ => ⟨S_, .i32⟩
  | .hbm, ⟨22, _⟩ => ⟨S_, .f32⟩
  | .hbm, ⟨23, _⟩ => ⟨S8x3072, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Kernel4.lean ====
abbrev S4x2048x1024 : Shape := ⟨3, ![4, 2048, 1024]⟩
abbrev S8192x1024 : Shape := ⟨2, ![8192, 1024]⟩
abbrev S1024x1024 : Shape := ⟨2, ![1024, 1024]⟩
abbrev S8x1024 : Shape := ⟨2, ![8, 1024]⟩
abbrev S2048x1024 : Shape := ⟨2, ![2048, 1024]⟩
abbrev S1x1024 : Shape := ⟨2, ![1, 1024]⟩
abbrev S1024 : Shape := ⟨1, ![1024]⟩

abbrev nBuf : Space → Nat
  | .hbm => 8
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S8192x1024, .f32⟩
  | .hbm, ⟨3, _⟩ => ⟨S8192x1024, .bf16⟩
  | .hbm, ⟨4, _⟩ => ⟨S8192x1024, .f32⟩
  | .hbm, ⟨5, _⟩ => ⟨S8192x1024, .bf16⟩
  | .hbm, ⟨6, _⟩ => ⟨S1024x1024, .f32⟩
  | .hbm, ⟨7, _⟩ => ⟨S8x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S8x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== Reference4Ideal.lean ====
abbrev S4x2048x1024 : Shape := ⟨3, ![4, 2048, 1024]⟩
abbrev S_ : Shape := ⟨0, ![]⟩
abbrev S1024x1024 : Shape := ⟨2, ![1024, 1024]⟩
abbrev S1x1024 : Shape := ⟨2, ![1, 1024]⟩
abbrev S1024 : Shape := ⟨1, ![1024]⟩
abbrev S1x1x1024 : Shape := ⟨3, ![1, 1, 1024]⟩
abbrev S8x1024 : Shape := ⟨2, ![8, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S_, .f32⟩
  | .hbm, ⟨3, _⟩ => ⟨S1024x1024, .f32⟩
  | .hbm, ⟨4, _⟩ => ⟨S_, .f32⟩
  | .hbm, ⟨5, _⟩ => ⟨S1x1024, .f32⟩
  | .hbm, ⟨6, _⟩ => ⟨S4x2048x1024, .f32⟩
  | .hbm, ⟨7, _⟩ => ⟨S1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S_, .f32⟩
  | .hbm, ⟨13, _⟩ => ⟨S1024, .f32⟩
  | .hbm, ⟨14, _⟩ => ⟨S1x1x1024, .f32⟩
  | .hbm, ⟨15, _⟩ => ⟨S_, .f32⟩
  | .hbm, ⟨16, _⟩ => ⟨S1024, .f32⟩
  | .hbm, ⟨17, _⟩ => ⟨S1x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S_, .i32⟩
  | .hbm, ⟨22, _⟩ => ⟨S_, .f32⟩
  | .hbm, ⟨23, _⟩ => ⟨S8x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Kernel5.lean ====
abbrev S4x2048x1024 : Shape := ⟨3, ![4, 2048, 1024]⟩
abbrev S1024x9232 : Shape := ⟨2, ![1024, 9232]⟩
abbrev S1x9232 : Shape := ⟨2, ![1, 9232]⟩
abbrev S9232x1024 : Shape := ⟨2, ![9232, 1024]⟩
abbrev S5120x1024 : Shape := ⟨2, ![5120, 1024]⟩
abbrev S1x5120 : Shape := ⟨2, ![1, 5120]⟩
abbrev S8192x1024 : Shape := ⟨2, ![8192, 1024]⟩
abbrev S8192x5120 : Shape := ⟨2, ![8192, 5120]⟩
abbrev S1024x1024 : Shape := ⟨2, ![1024, 1024]⟩
abbrev S1024x5120 : Shape := ⟨2, ![1024, 5120]⟩
abbrev S1x1024 : Shape := ⟨2, ![1, 1024]⟩

abbrev nBuf : Space → Nat
  | .hbm => 10
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S1024x9232, .f32⟩
  | .hbm, ⟨2, _⟩ => ⟨S1x9232, .f32⟩
  | .hbm, ⟨3, _⟩ => ⟨S9232x1024, .f32⟩
  | .hbm, ⟨4, _⟩ => ⟨S9232x1024, .bf16⟩
  | .hbm, ⟨5, _⟩ => ⟨S5120x1024, .bf16⟩
  | .hbm, ⟨6, _⟩ => ⟨S1x5120, .f32⟩
  | .hbm, ⟨7, _⟩ => ⟨S8192x1024, .f32⟩
  | .hbm, ⟨8, _⟩ => ⟨S8192x1024, .bf16⟩
  | .hbm, ⟨9, _⟩ => ⟨S8192x5120, .bf16⟩
  | .local _ .vmem, ⟨0, _⟩ => ⟨S1024x1024, .bf16⟩
  | .local _ .vmem, ⟨1, _⟩ => ⟨S1024x1024, .bf16⟩
  | .local _ .vmem, ⟨2, _⟩ => ⟨S5120x1024, .bf16⟩
  | .local _ .vmem, ⟨3, _⟩ => ⟨S1x5120, .f32⟩
  | .local _ .vmem, ⟨4, _⟩ => ⟨S1024x5120, .bf16⟩
  | .local _ .vmem, ⟨5, _⟩ => ⟨S1024x5120, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5120x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x5120 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S4x2048x1024 : Shape := ⟨3, ![4, 2048, 1024]⟩
abbrev S1024x9232 : Shape := ⟨2, ![1024, 9232]⟩
abbrev S1x9232 : Shape := ⟨2, ![1, 9232]⟩
abbrev S4x2048x9232 : Shape := ⟨3, ![4, 2048, 9232]⟩
abbrev S9232 : Shape := ⟨1, ![9232]⟩
abbrev S1x1x9232 : Shape := ⟨3, ![1, 1, 9232]⟩
abbrev S4x2048x5120 : Shape := ⟨3, ![4, 2048, 5120]⟩
abbrev S8192x5120 : Shape := ⟨2, ![8192, 5120]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x9232, .f32⟩
  | .hbm, ⟨2, _⟩ => ⟨S1x9232, .f32⟩
  | .hbm, ⟨3, _⟩ => ⟨S4x2048x9232, .f32⟩
  | .hbm, ⟨4, _⟩ => ⟨S9232, .f32⟩
  | .hbm, ⟨5, _⟩ => ⟨S1x1x9232, .f32⟩
  | .hbm, ⟨6, _⟩ => ⟨S4x2048x9232, .f32⟩
  | .hbm, ⟨7, _⟩ => ⟨S4x2048x9232, .f32⟩
  | .hbm, ⟨8, _⟩ => ⟨S4x2048x5120, .f32⟩
  | .hbm, ⟨9, _⟩ => ⟨S8192x5120, .f32⟩
  | .hbm, ⟨10, _⟩ => ⟨S8192x5120, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S4x2048x1024 : Shape := ⟨3, ![4, 2048, 1024]⟩
abbrev S1x1024 : Shape := ⟨2, ![1, 1024]⟩
abbrev S1024x9232 : Shape := ⟨2, ![1024, 9232]⟩
abbrev S1x9232 : Shape := ⟨2, ![1, 9232]⟩
abbrev S9232x1024 : Shape := ⟨2, ![9232, 1024]⟩
abbrev S3072x1024 : Shape := ⟨2, ![3072, 1024]⟩
abbrev S3x8x128x1024 : Shape := ⟨4, ![3, 8, 128, 1024]⟩
abbrev S8x3x128x1024 : Shape := ⟨4, ![8, 3, 128, 1024]⟩
abbrev S16x1024 : Shape := ⟨2, ![16, 1024]⟩
abbrev S_ : Shape := ⟨0, ![]⟩
abbrev S128x1024 : Shape := ⟨2, ![128, 1024]⟩
abbrev S1x3072 : Shape := ⟨2, ![1, 3072]⟩
abbrev S1x3x8x128 : Shape := ⟨4, ![1, 3, 8, 128]⟩
abbrev S1x8x3x128 : Shape := ⟨4, ![1, 8, 3, 128]⟩
abbrev S1x16 : Shape := ⟨2, ![1, 16]⟩
abbrev S1x128 : Shape := ⟨2, ![1, 128]⟩
abbrev S8192x1024 : Shape := ⟨2, ![8192, 1024]⟩
abbrev S8192x3072 : Shape := ⟨2, ![8192, 3072]⟩
abbrev S8192x128 : Shape := ⟨2, ![8192, 128]⟩
abbrev S512x1024 : Shape := ⟨2, ![512, 1024]⟩
abbrev S512x3072 : Shape := ⟨2, ![512, 3072]⟩
abbrev S512x128 : Shape := ⟨2, ![512, 128]⟩
abbrev S512 : Shape := ⟨1, ![512]⟩
abbrev S512x1 : Shape := ⟨2, ![512, 1]⟩
abbrev S1024x1024 : Shape := ⟨2, ![1024, 1024]⟩

abbrev nBuf : Space → Nat
  | .hbm => 26
  | .vmem => 13
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S1024x9232, .f32⟩
  | .hbm, ⟨3, _⟩ => ⟨S1x9232, .f32⟩
  | .hbm, ⟨4, _⟩ => ⟨S9232x1024, .f32⟩
  | .hbm, ⟨5, _⟩ => ⟨S9232x1024, .bf16⟩
  | .hbm, ⟨6, _⟩ => ⟨S3072x1024, .bf16⟩
  | .hbm, ⟨7, _⟩ => ⟨S3x8x128x1024, .bf16⟩
  | .hbm, ⟨8, _⟩ => ⟨S8x3x128x1024, .bf16⟩
  | .hbm, ⟨9, _⟩ => ⟨S3072x1024, .bf16⟩
  | .hbm, ⟨10, _⟩ => ⟨S16x1024, .bf16⟩
  | .hbm, ⟨11, _⟩ => ⟨S_, .i32⟩
  | .hbm, ⟨12, _⟩ => ⟨S_, .bf16⟩
  | .hbm, ⟨13, _⟩ => ⟨S128x1024, .bf16⟩
  | .hbm, ⟨14, _⟩ => ⟨S1x3072, .f32⟩
  | .hbm, ⟨15, _⟩ => ⟨S1x3x8x128, .f32⟩
  | .hbm, ⟨16, _⟩ => ⟨S1x8x3x128, .f32⟩
  | .hbm, ⟨17, _⟩ => ⟨S1x3072, .f32⟩
  | .hbm, ⟨18, _⟩ => ⟨S1x16, .f32⟩
  | .hbm, ⟨19, _⟩ => ⟨S_, .i32⟩
  | .hbm, ⟨20, _⟩ => ⟨S_, .f32⟩
  | .hbm, ⟨21, _⟩ => ⟨S1x128, .f32⟩
  | .hbm, ⟨22, _⟩ => ⟨S8192x1024, .f32⟩
  | .hbm, ⟨23, _⟩ => ⟨S8192x1024, .bf16⟩
  | .hbm, ⟨24, _⟩ => ⟨S8192x3072, .bf16⟩
  | .hbm, ⟨25, _⟩ => ⟨S8192x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3072x1024, .bf16⟩
  | .local _ .vmem, ⟨4, _⟩ => ⟨S1x3072, .f32⟩
  | .local _ .vmem, ⟨5, _⟩ => ⟨S128x1024, .bf16⟩
  | .local _ .vmem, ⟨6, _⟩ => ⟨S1x128, .f32⟩
  | .local _ .vmem, ⟨7, _⟩ => ⟨S512x1024, .bf16⟩
  | .local _ .vmem, ⟨8, _⟩ => ⟨S512x1024, .bf16⟩
  | .local _ .vmem, ⟨9, _⟩ => ⟨S512x3072, .bf16⟩
  | .local _ .vmem, ⟨10, _⟩ => ⟨S512x3072, .bf16⟩
  | .local _ .vmem, ⟨11, _⟩ => ⟨S512x128, .f32⟩
  | .local _ .vmem, ⟨12, _⟩ => ⟨S512x128, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_call1_v0 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S4x2048x1024 : Shape := ⟨3, ![4, 2048, 1024]⟩
abbrev S1x1024 : Shape := ⟨2, ![1, 1024]⟩
abbrev S1024x9232 : Shape := ⟨2, ![1024, 9232]⟩
abbrev S1x9232 : Shape := ⟨2, ![1, 9232]⟩
abbrev S_ : Shape := ⟨0, ![]⟩
abbrev S4x2048 : Shape := ⟨2, ![4, 2048]⟩
abbrev S4x2048x1 : Shape := ⟨3, ![4, 2048, 1]⟩
abbrev S1024 : Shape := ⟨1, ![1024]⟩
abbrev S1x1x1024 : Shape := ⟨3, ![1, 1, 1024]⟩
abbrev S4x2048x9232 : Shape := ⟨3, ![4, 2048, 9232]⟩
abbrev S9232 : Shape := ⟨1, ![9232]⟩
abbrev S1x1x9232 : Shape := ⟨3, ![1, 1, 9232]⟩
abbrev S4x2048x8x128 : Shape := ⟨4, ![4, 2048, 8, 128]⟩
abbrev S4x2048x8x1x128 : Shape := ⟨5, ![4, 2048, 8, 1, 128]⟩
abbrev S4x2048x8x3x128 : Shape := ⟨5, ![4, 2048, 8, 3, 128]⟩
abbrev S8192x3072 : Shape := ⟨2, ![8192, 3072]⟩
abbrev S4x2048x16 : Shape := ⟨3, ![4, 2048, 16]⟩
abbrev S8192x16 : Shape := ⟨2, ![8192, 16]⟩
abbrev S8192x1024 : Shape := ⟨2, ![8192, 1024]⟩
abbrev S8192x128 : Shape := ⟨2, ![8192, 128]⟩

abbrev nBuf : Space → Nat
  | .hbm => 45
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S1024x9232, .f32⟩
  | .hbm, ⟨3, _⟩ => ⟨S1x9232, .f32⟩
  | .hbm, ⟨4, _⟩ => ⟨S4x2048x1024, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x1024, .f32⟩
  | .hbm, ⟨16, _⟩ => ⟨S4x2048x1024, .f32⟩
  | .hbm, ⟨17, _⟩ => ⟨S1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x9232, .f32⟩
  | .hbm, ⟨22, _⟩ => ⟨S9232, .f32⟩
  | .hbm, ⟨23, _⟩ => ⟨S1x1x9232, .f32⟩
  | .hbm, ⟨24, _⟩ => ⟨S4x2048x9232, .f32⟩
  | .hbm, ⟨25, _⟩ => ⟨S4x2048x9232, .f32⟩
  | .hbm, ⟨26, _⟩ => ⟨S4x2048x1024, .f32⟩
  | .hbm, ⟨27, _⟩ => ⟨S4x2048x8x128, .f32⟩
  | .hbm, ⟨28, _⟩ => ⟨S4x2048x1024, .f32⟩
  | .hbm, ⟨29, _⟩ => ⟨S4x2048x8x128, .f32⟩
  | .hbm, ⟨30, _⟩ => ⟨S4x2048x1024, .f32⟩
  | .hbm, ⟨31, _⟩ => ⟨S4x2048x8x128, .f32⟩
  | .hbm, ⟨32, _⟩ => ⟨S4x2048x8x1x128, .f32⟩
  | .hbm, ⟨33, _⟩ => ⟨S4x2048x8x1x128, .f32⟩
  | .hbm, ⟨34, _⟩ => ⟨S4x2048x8x1x128, .f32⟩
  | .hbm, ⟨35, _⟩ => ⟨S4x2048x8x3x128, .f32⟩
  | .hbm, ⟨36, _⟩ => ⟨S8192x3072, .f32⟩
  | .hbm, ⟨37, _⟩ => ⟨S4x2048x16, .f32⟩
  | .hbm, ⟨38, _⟩ => ⟨S8192x16, .f32⟩
  | .hbm, ⟨39, _⟩ => ⟨S8192x1024, .f32⟩
  | .hbm, ⟨40, _⟩ => ⟨S8192x1024, .bf16⟩
  | .hbm, ⟨41, _⟩ => ⟨S8192x3072, .bf16⟩
  | .hbm, ⟨42, _⟩ => ⟨S_, .i32⟩
  | .hbm, ⟨43, _⟩ => ⟨S_, .f32⟩
  | .hbm, ⟨44, _⟩ => ⟨S8192x128, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_c : Ref sig .tc := ⟨.hbm, 42, rfl⟩
abbrev main_call0_v0 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== Kernel7.lean ====
abbrev S4x2048x1024 : Shape := ⟨3, ![4, 2048, 1024]⟩
abbrev S8192x1024 : Shape := ⟨2, ![8192, 1024]⟩
abbrev S_ : Shape := ⟨0, ![]⟩
abbrev S8x128 : Shape := ⟨2, ![8, 128]⟩
abbrev S1024x1024 : Shape := ⟨2, ![1024, 1024]⟩
abbrev S8x1024 : Shape := ⟨2, ![8, 1024]⟩
abbrev S2048x1024 : Shape := ⟨2, ![2048, 1024]⟩
abbrev S1x1024 : Shape := ⟨2, ![1, 1024]⟩
abbrev S1024 : Shape := ⟨1, ![1024]⟩

abbrev nBuf : Space → Nat
  | .hbm => 10
  | .vmem => 7
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S8192x1024, .f32⟩
  | .hbm, ⟨3, _⟩ => ⟨S8192x1024, .bf16⟩
  | .hbm, ⟨4, _⟩ => ⟨S8192x1024, .f32⟩
  | .hbm, ⟨5, _⟩ => ⟨S8192x1024, .bf16⟩
  | .hbm, ⟨6, _⟩ => ⟨S_, .f32⟩
  | .hbm, ⟨7, _⟩ => ⟨S8x128, .f32⟩
  | .hbm, ⟨8, _⟩ => ⟨S1024x1024, .f32⟩
  | .hbm, ⟨9, _⟩ => ⟨S8x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S8x128, .f32⟩
  | .local _ .vmem, ⟨5, _⟩ => ⟨S1024x1024, .f32⟩
  | .local _ .vmem, ⟨6, _⟩ => ⟨S8x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== Reference7Ideal.lean ====
abbrev S4x2048x1024 : Shape := ⟨3, ![4, 2048, 1024]⟩
abbrev S_ : Shape := ⟨0, ![]⟩
abbrev S1024x1024 : Shape := ⟨2, ![1024, 1024]⟩
abbrev S1024 : Shape := ⟨1, ![1024]⟩
abbrev S1x1024 : Shape := ⟨2, ![1, 1024]⟩
abbrev S8x1024 : Shape := ⟨2, ![8, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S_, .f32⟩
  | .hbm, ⟨3, _⟩ => ⟨S1024x1024, .f32⟩
  | .hbm, ⟨4, _⟩ => ⟨S4x2048x1024, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S_, .i32⟩
  | .hbm, ⟨11, _⟩ => ⟨S_, .f32⟩
  | .hbm, ⟨12, _⟩ => ⟨S8x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Kernel8.lean ====
abbrev S4x2048x1024 : Shape := ⟨3, ![4, 2048, 1024]⟩
abbrev S1024x1024 : Shape := ⟨2, ![1024, 1024]⟩
abbrev S4x2048x5120 : Shape := ⟨3, ![4, 2048, 5120]⟩
abbrev S8192x1024 : Shape := ⟨2, ![8192, 1024]⟩
abbrev S8192x5120 : Shape := ⟨2, ![8192, 5120]⟩
abbrev S512x1024 : Shape := ⟨2, ![512, 1024]⟩

abbrev nBuf : Space → Nat
  | .hbm => 21
  | .vmem => 22
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1024x1024, .f32⟩
  | .hbm, ⟨3, _⟩ => ⟨S1024x1024, .f32⟩
  | .hbm, ⟨4, _⟩ => ⟨S4x2048x5120, .f32⟩
  | .hbm, ⟨5, _⟩ => ⟨S4x2048x1024, .f32⟩
  | .hbm, ⟨6, _⟩ => ⟨S4x2048x1024, .f32⟩
  | .hbm, ⟨7, _⟩ => ⟨S8192x1024, .f32⟩
  | .hbm, ⟨8, _⟩ => ⟨S8192x1024, .bf16⟩
  | .hbm, ⟨9, _⟩ => ⟨S8192x1024, .f32⟩
  | .hbm, ⟨10, _⟩ => ⟨S8192x1024, .bf16⟩
  | .hbm, ⟨11, _⟩ => ⟨S1024x1024, .bf16⟩
  | .hbm, ⟨12, _⟩ => ⟨S1024x1024, .bf16⟩
  | .hbm, ⟨13, _⟩ => ⟨S8192x5120, .f32⟩
  | .hbm, ⟨14, _⟩ => ⟨S8192x5120, .bf16⟩
  | .hbm, ⟨15, _⟩ => ⟨S8192x1024, .f32⟩
  | .hbm, ⟨16, _⟩ => ⟨S8192x1024, .f32⟩
  | .hbm, ⟨17, _⟩ => ⟨S8192x1024, .bf16⟩
  | .hbm, ⟨18, _⟩ => ⟨S8192x1024, .bf16⟩
  | .hbm, ⟨19, _⟩ => ⟨S8192x1024, .f32⟩
  | .hbm, ⟨20, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference8Ideal.lean ====
abbrev S4x2048x1024 : Shape := ⟨3, ![4, 2048, 1024]⟩
abbrev S1024x1024 : Shape := ⟨2, ![1024, 1024]⟩
abbrev S4x2048x5120 : Shape := ⟨3, ![4, 2048, 5120]⟩
abbrev S_ : Shape := ⟨0, ![]⟩
abbrev S8192x1024 : Shape := ⟨2, ![8192, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1024x1024, .f32⟩
  | .hbm, ⟨3, _⟩ => ⟨S1024x1024, .f32⟩
  | .hbm, ⟨4, _⟩ => ⟨S4x2048x5120, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S4x2048x1024, .f32⟩
  | .hbm, ⟨11, _⟩ => ⟨S_, .f32⟩
  | .hbm, ⟨12, _⟩ => ⟨S4x2048x1024, .f32⟩
  | .hbm, ⟨13, _⟩ => ⟨S4x2048x1024, .f32⟩
  | .hbm, ⟨14, _⟩ => ⟨S_, .f32⟩
  | .hbm, ⟨15, _⟩ => ⟨S4x2048x1024, .f32⟩
  | .hbm, ⟨16, _⟩ => ⟨S4x2048x1024, .f32⟩
  | .hbm, ⟨17, _⟩ => ⟨S_, .f32⟩
  | .hbm, ⟨18, _⟩ => ⟨S4x2048x1024, .f32⟩
  | .hbm, ⟨19, _⟩ => ⟨S4x2048x1024, .f32⟩
  | .hbm, ⟨20, _⟩ => ⟨S4x2048x1024, .f32⟩
  | .hbm, ⟨21, _⟩ => ⟨S4x2048x1024, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S4x2048x1024, .f32⟩
  | .hbm, ⟨29, _⟩ => ⟨S4x2048x1024, .f32⟩
  | .hbm, ⟨30, _⟩ => ⟨S4x2048x1024, .f32⟩
  | .hbm, ⟨31, _⟩ => ⟨S4x2048x1024, .f32⟩
  | .hbm, ⟨32, _⟩ => ⟨S4x2048x1024, .f32⟩
  | .hbm, ⟨33, _⟩ => ⟨S_, .f32⟩
  | .hbm, ⟨34, _⟩ => ⟨S4x2048x1024, .f32⟩
  | .hbm, ⟨35, _⟩ => ⟨S4x2048x1024, .f32⟩
  | .hbm, ⟨36, _⟩ => ⟨S_, .f32⟩
  | .hbm, ⟨37, _⟩ => ⟨S4x2048x1024, .f32⟩
  | .hbm, ⟨38, _⟩ => ⟨S4x2048x1024, .f32⟩
  | .hbm, ⟨39, _⟩ => ⟨S_, .f32⟩
  | .hbm, ⟨40, _⟩ => ⟨S4x2048x1024, .f32⟩
  | .hbm, ⟨41, _⟩ => ⟨S4x2048x1024, .f32⟩
  | .hbm, ⟨42, _⟩ => ⟨S4x2048x1024, .f32⟩
  | .hbm, ⟨43, _⟩ => ⟨S4x2048x1024, .f32⟩
  | .hbm, ⟨44, _⟩ => ⟨S4x2048x1024, .f32⟩
  | .hbm, ⟨45, _⟩ => ⟨S4x2048x1024, .f32⟩
  | .hbm, ⟨46, _⟩ => ⟨S4x2048x1024, .f32⟩
  | .hbm, ⟨47, _⟩ => ⟨S4x2048x1024, .f32⟩
  | .hbm, ⟨48, _⟩ => ⟨S4x2048x1024, .f32⟩
  | .hbm, ⟨49, _⟩ => ⟨S4x2048x1024, .f32⟩
  | .hbm, ⟨50, _⟩ => ⟨S4x2048x1024, .f32⟩
  | .hbm, ⟨51, _⟩ => ⟨S4x2048x1024, .f32⟩
  | .hbm, ⟨52, _⟩ => ⟨S4x2048x1024, .f32⟩
  | .hbm, ⟨53, _⟩ => ⟨S8192x1024, .f32⟩
  | .hbm, ⟨54, _⟩ => ⟨S8192x1024, .bf16⟩
  | .hbm, ⟨55, _⟩ => ⟨S8192x1024, .f32⟩
  | .hbm, ⟨56, _⟩ => ⟨S8192x1024, .bf16⟩
  | .hbm, ⟨57, _⟩ => ⟨S8192x1024, .f32⟩
  | .hbm, ⟨58, _⟩ => ⟨S8192x1024, .f32⟩
  | .hbm, ⟨59, _⟩ => ⟨S8192x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v2_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v2_1 : Ref sig .tc := ⟨.hbm, 20, rfl⟩
abbrev main_v2_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v8 : Ref sig .tc := ⟨.hbm, 30, rfl⟩
abbrev main_call2_v0 : Ref sig .tc := ⟨.hbm, 31, rfl⟩
abbrev main_call2_v1 : Ref sig .tc := ⟨.hbm, 32, rfl⟩
abbrev main_call2_cst : Ref sig .tc := ⟨.hbm, 33, rfl⟩
abbrev main_call2_v2 : Ref sig .tc := ⟨.hbm, 34, rfl⟩
abbrev main_call2_v3 : Ref sig .tc := ⟨.hbm, 35, rfl⟩
abbrev main_call2_cst_0 : Ref sig .tc := ⟨.hbm, 36, rfl⟩
abbrev main_call2_v4 : Ref sig .tc := ⟨.hbm, 37, rfl⟩
abbrev main_v9_2 : Ref sig .tc := ⟨.hbm, 38, rfl⟩
abbrev main_call2_cst_1 : Ref sig .tc := ⟨.hbm, 39, rfl⟩
abbrev main_call2_v6 : Ref sig .tc := ⟨.hbm, 40, rfl⟩
abbrev main_call2_v7 : Ref sig .tc := ⟨.hbm, 41, rfl⟩
abbrev main_v9_1 : Ref sig .tc := ⟨.hbm, 42, rfl⟩
abbrev main_v9_0 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_call3_v0 : Ref sig .tc := ⟨.hbm, 49, rfl⟩
abbrev main_call3_v1 : Ref sig .tc := ⟨.hbm, 50, rfl⟩
abbrev main_call3_v2 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩

abbrev nD : Nat := 1
abbrev τ : Topo := Topo.v7x

variable {F : FTy → Type} [FloatOps F]
-- ==== Kernel9.lean ====
abbrev S4x2048x1024 : Shape := ⟨3, ![4, 2048, 1024]⟩
abbrev S1024x1024 : Shape := ⟨2, ![1024, 1024]⟩
abbrev S4x2048x5120 : Shape := ⟨3, ![4, 2048, 5120]⟩
abbrev S8192x1024 : Shape := ⟨2, ![8192, 1024]⟩
abbrev S8192x5120 : Shape := ⟨2, ![8192, 5120]⟩
abbrev S512x1024 : Shape := ⟨2, ![512, 1024]⟩

abbrev nBuf : Space → Nat
  | .hbm => 18
  | .vmem => 19
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S4x2048x5120, .f32⟩
  | .hbm, ⟨3, _⟩ => ⟨S4x2048x1024, .f32⟩
  | .hbm, ⟨4, _⟩ => ⟨S4x2048x1024, .f32⟩
  | .hbm, ⟨5, _⟩ => ⟨S8192x1024, .f32⟩
  | .hbm, ⟨6, _⟩ => ⟨S8192x1024, .bf16⟩
  | .hbm, ⟨7, _⟩ => ⟨S1024x1024, .bf16⟩
  | .hbm, ⟨8, _⟩ => ⟨S8192x5120, .f32⟩
  | .hbm, ⟨9, _⟩ => ⟨S8192x5120, .bf16⟩
  | .hbm, ⟨10, _⟩ => ⟨S8192x1024, .f32⟩
  | .hbm, ⟨11, _⟩ => ⟨S8192x1024, .bf16⟩
  | .hbm, ⟨12, _⟩ => ⟨S8192x1024, .f32⟩
  | .hbm, ⟨13, _⟩ => ⟨S8192x1024, .bf16⟩
  | .hbm, ⟨14, _⟩ => ⟨S8192x1024, .bf16⟩
  | .hbm, ⟨15, _⟩ => ⟨S8192x1024, .bf16⟩
  | .hbm, ⟨16, _⟩ => ⟨S8192x1024, .bf16⟩
  | .hbm, ⟨17, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference9Ideal.lean ====
abbrev S4x2048x1024 : Shape := ⟨3, ![4, 2048, 1024]⟩
abbrev S1024x1024 : Shape := ⟨2, ![1024, 1024]⟩
abbrev S4x2048x5120 : Shape := ⟨3, ![4, 2048, 5120]⟩
abbrev S_ : Shape := ⟨0, ![]⟩
abbrev S8192x1024 : Shape := ⟨2, ![8192, 1024]⟩

abbrev nBuf : Space → Nat
  | .hbm => 50
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S4x2048x5120, .f32⟩
  | .hbm, ⟨3, _⟩ => ⟨S4x2048x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S_, .f32⟩
  | .hbm, ⟨10, _⟩ => ⟨S4x2048x1024, .f32⟩
  | .hbm, ⟨11, _⟩ => ⟨S4x2048x1024, .f32⟩
  | .hbm, ⟨12, _⟩ => ⟨S_, .f32⟩
  | .hbm, ⟨13, _⟩ => ⟨S4x2048x1024, .f32⟩
  | .hbm, ⟨14, _⟩ => ⟨S4x2048x1024, .f32⟩
  | .hbm, ⟨15, _⟩ => ⟨S_, .f32⟩
  | .hbm, ⟨16, _⟩ => ⟨S4x2048x1024, .f32⟩
  | .hbm, ⟨17, _⟩ => ⟨S4x2048x1024, .f32⟩
  | .hbm, ⟨18, _⟩ => ⟨S4x2048x1024, .f32⟩
  | .hbm, ⟨19, _⟩ => ⟨S4x2048x1024, .f32⟩
  | .hbm, ⟨20, _⟩ => ⟨S4x2048x1024, .f32⟩
  | .hbm, ⟨21, _⟩ => ⟨S4x2048x1024, .f32⟩
  | .hbm, ⟨22, _⟩ => ⟨S_, .f32⟩
  | .hbm, ⟨23, _⟩ => ⟨S4x2048x1024, .f32⟩
  | .hbm, ⟨24, _⟩ => ⟨S4x2048x1024, .f32⟩
  | .hbm, ⟨25, _⟩ => ⟨S_, .f32⟩
  | .hbm, ⟨26, _⟩ => ⟨S4x2048x1024, .f32⟩
  | .hbm, ⟨27, _⟩ => ⟨S4x2048x1024, .f32⟩
  | .hbm, ⟨28, _⟩ => ⟨S_, .f32⟩
  | .hbm, ⟨29, _⟩ => ⟨S4x2048x1024, .f32⟩
  | .hbm, ⟨30, _⟩ => ⟨S4x2048x1024, .f32⟩
  | .hbm, ⟨31, _⟩ => ⟨S4x2048x1024, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | .hbm, ⟨35, _⟩ => ⟨S4x2048x1024, .f32⟩
  | .hbm, ⟨36, _⟩ => ⟨S4x2048x1024, .f32⟩
  | .hbm, ⟨37, _⟩ => ⟨S4x2048x1024, .f32⟩
  | .hbm, ⟨38, _⟩ => ⟨S4x2048x1024, .f32⟩
  | .hbm, ⟨39, _⟩ => ⟨S4x2048x1024, .f32⟩
  | .hbm, ⟨40, _⟩ => ⟨S4x2048x1024, .f32⟩
  | .hbm, ⟨41, _⟩ => ⟨S4x2048x1024, .f32⟩
  | .hbm, ⟨42, _⟩ => ⟨S8192x1024, .f32⟩
  | .hbm, ⟨43, _⟩ => ⟨S8192x1024, .bf16⟩
  | .hbm, ⟨44, _⟩ => ⟨S8192x1024, .f32⟩
  | .hbm, ⟨45, _⟩ => ⟨S8192x1024, .bf16⟩
  | .hbm, ⟨46, _⟩ => ⟨S8192x1024, .f32⟩
  | .hbm, ⟨47, _⟩ => ⟨S8192x1024, .bf16⟩
  | .hbm, ⟨48, _⟩ => ⟨S8192x1024, .f32⟩
  | .hbm, ⟨49, _⟩ => ⟨S8192x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Kernel10.lean ====
abbrev S4x2048x1024 : Shape := ⟨3, ![4, 2048, 1024]⟩
abbrev S1024x1024 : Shape := ⟨2, ![1024, 1024]⟩
abbrev S4x2048x5120 : Shape := ⟨3, ![4, 2048, 5120]⟩
abbrev S8192x1024 : Shape := ⟨2, ![8192, 1024]⟩
abbrev S8192x5120 : Shape := ⟨2, ![8192, 5120]⟩
abbrev S512x1024 : Shape := ⟨2, ![512, 1024]⟩

abbrev nBuf : Space → Nat
  | .hbm => 16
  | .vmem => 16
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1024x1024, .f32⟩
  | .hbm, ⟨3, _⟩ => ⟨S1024x1024, .f32⟩
  | .hbm, ⟨4, _⟩ => ⟨S4x2048x5120, .f32⟩
  | .hbm, ⟨5, _⟩ => ⟨S8192x1024, .f32⟩
  | .hbm, ⟨6, _⟩ => ⟨S8192x1024, .bf16⟩
  | .hbm, ⟨7, _⟩ => ⟨S8192x1024, .f32⟩
  | .hbm, ⟨8, _⟩ => ⟨S8192x1024, .bf16⟩
  | .hbm, ⟨9, _⟩ => ⟨S1024x1024, .bf16⟩
  | .hbm, ⟨10, _⟩ => ⟨S1024x1024, .bf16⟩
  | .hbm, ⟨11, _⟩ => ⟨S8192x5120, .f32⟩
  | .hbm, ⟨12, _⟩ => ⟨S8192x5120, .bf16⟩
  | .hbm, ⟨13, _⟩ => ⟨S8192x1024, .bf16⟩
  | .hbm, ⟨14, _⟩ => ⟨S8192x1024, .bf16⟩
  | .hbm, ⟨15, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference10Ideal.lean ====
abbrev S4x2048x1024 : Shape := ⟨3, ![4, 2048, 1024]⟩
abbrev S1024x1024 : Shape := ⟨2, ![1024, 1024]⟩
abbrev S4x2048x5120 : Shape := ⟨3, ![4, 2048, 5120]⟩
abbrev S_ : Shape := ⟨0, ![]⟩
abbrev S8192x1024 : Shape := ⟨2, ![8192, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1024x1024, .f32⟩
  | .hbm, ⟨3, _⟩ => ⟨S1024x1024, .f32⟩
  | .hbm, ⟨4, _⟩ => ⟨S4x2048x5120, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S_, .f32⟩
  | .hbm, ⟨11, _⟩ => ⟨S4x2048x1024, .f32⟩
  | .hbm, ⟨12, _⟩ => ⟨S4x2048x1024, .f32⟩
  | .hbm, ⟨13, _⟩ => ⟨S_, .f32⟩
  | .hbm, ⟨14, _⟩ => ⟨S4x2048x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S4x2048x1024, .f32⟩
  | .hbm, ⟨19, _⟩ => ⟨S4x2048x1024, .f32⟩
  | .hbm, ⟨20, _⟩ => ⟨S_, .f32⟩
  | .hbm, ⟨21, _⟩ => ⟨S4x2048x1024, .f32⟩
  | .hbm, ⟨22, _⟩ => ⟨S4x2048x1024, .f32⟩
  | .hbm, ⟨23, _⟩ => ⟨S_, .f32⟩
  | .hbm, ⟨24, _⟩ => ⟨S4x2048x1024, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S8192x1024, .f32⟩
  | .hbm, ⟨29, _⟩ => ⟨S8192x1024, .bf16⟩
  | .hbm, ⟨30, _⟩ => ⟨S8192x1024, .f32⟩
  | .hbm, ⟨31, _⟩ => ⟨S8192x1024, .bf16⟩
  | .hbm, ⟨32, _⟩ => ⟨S8192x1024, .f32⟩
  | .hbm, ⟨33, _⟩ => ⟨S8192x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel11.lean ====
abbrev S4x2048x1024 : Shape := ⟨3, ![4, 2048, 1024]⟩
abbrev S1024x1024 : Shape := ⟨2, ![1024, 1024]⟩
abbrev S1x1024 : Shape := ⟨2, ![1, 1024]⟩
abbrev S8192x1024 : Shape := ⟨2, ![8192, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 13
  | .vmem => 13
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S4x2048x1024, .f32⟩
  | .hbm, ⟨3, _⟩ => ⟨S4x2048x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1024x1024, .bf16⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .bf16⟩
  | .hbm, ⟨12, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference11Ideal.lean ====
abbrev S4x2048x1024 : Shape := ⟨3, ![4, 2048, 1024]⟩
abbrev S1024x1024 : Shape := ⟨2, ![1024, 1024]⟩
abbrev S1x1024 : Shape := ⟨2, ![1, 1024]⟩
abbrev S_ : Shape := ⟨0, ![]⟩
abbrev S4x2048 : Shape := ⟨2, ![4, 2048]⟩
abbrev S4x2048x1 : Shape := ⟨3, ![4, 2048, 1]⟩
abbrev S1024 : Shape := ⟨1, ![1024]⟩
abbrev S1x1x1024 : Shape := ⟨3, ![1, 1, 1024]⟩
abbrev S2x1024 : Shape := ⟨2, ![2, 1024]⟩
abbrev S8x1024 : Shape := ⟨2, ![8, 1024]⟩
abbrev S8192x1024 : Shape := ⟨2, ![8192, 1024]⟩

abbrev nBuf : Space → Nat
  | .hbm => 87
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S4x2048x1024, .f32⟩
  | .hbm, ⟨3, _⟩ => ⟨S4x2048x1024, .f32⟩
  | .hbm, ⟨4, _⟩ => ⟨S1x1024, .f32⟩
  | .hbm, ⟨5, _⟩ => ⟨S4x2048x1024, .f32⟩
  | .hbm, ⟨6, _⟩ => ⟨S4x2048x1024, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x1024, .f32⟩
  | .hbm, ⟨22, _⟩ => ⟨S4x2048x1024, .f32⟩
  | .hbm, ⟨23, _⟩ => ⟨S1024, .f32⟩
  | .hbm, ⟨24, _⟩ => ⟨S1x1x1024, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S4x2048x1024, .f32⟩
  | .hbm, ⟨29, _⟩ => ⟨S4x2048x1024, .f32⟩
  | .hbm, ⟨30, _⟩ => ⟨S_, .f32⟩
  | .hbm, ⟨31, _⟩ => ⟨S4x2048x1024, .f32⟩
  | .hbm, ⟨32, _⟩ => ⟨S4x2048x1024, .f32⟩
  | .hbm, ⟨33, _⟩ => ⟨S_, .f32⟩
  | .hbm, ⟨34, _⟩ => ⟨S4x2048, .f32⟩
  | .hbm, ⟨35, _⟩ => ⟨S_, .f32⟩
  | .hbm, ⟨36, _⟩ => ⟨S4x2048, .f32⟩
  | .hbm, ⟨37, _⟩ => ⟨S4x2048, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S1024, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4x2048, .f32⟩
  | .hbm, ⟨48, _⟩ => ⟨S_, .f32⟩
  | .hbm, ⟨49, _⟩ => ⟨S4x2048, .f32⟩
  | .hbm, ⟨50, _⟩ => ⟨S4x2048, .f32⟩
  | .hbm, ⟨51, _⟩ => ⟨S4x2048x1024, .f32⟩
  | .hbm, ⟨52, _⟩ => ⟨S4x2048x1024, .f32⟩
  | .hbm, ⟨53, _⟩ => ⟨S4x2048x1024, .f32⟩
  | .hbm, ⟨54, _⟩ => ⟨S_, .f32⟩
  | .hbm, ⟨55, _⟩ => ⟨S1024, .f32⟩
  | .hbm, ⟨56, _⟩ => ⟨S1x1x1024, .f32⟩
  | .hbm, ⟨57, _⟩ => ⟨S4x2048x1024, .f32⟩
  | .hbm, ⟨58, _⟩ => ⟨S4x2048x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S4x2048x1024, .f32⟩
  | .hbm, ⟨63, _⟩ => ⟨S_, .f32⟩
  | .hbm, ⟨64, _⟩ => ⟨S4x2048, .f32⟩
  | .hbm, ⟨65, _⟩ => ⟨S4x2048x1, .f32⟩
  | .hbm, ⟨66, _⟩ => ⟨S4x2048x1024, .f32⟩
  | .hbm, ⟨67, _⟩ => ⟨S4x2048x1024, .f32⟩
  | .hbm, ⟨68, _⟩ => ⟨S4x2048x1, .f32⟩
  | .hbm, ⟨69, _⟩ => ⟨S_, .f32⟩
  | .hbm, ⟨70, _⟩ => ⟨S4x2048x1, .f32⟩
  | .hbm, ⟨71, _⟩ => ⟨S4x2048x1, .f32⟩
  | .hbm, ⟨72, _⟩ => ⟨S_, .f32⟩
  | .hbm, ⟨73, _⟩ => ⟨S4x2048, .f32⟩
  | .hbm, ⟨74, _⟩ => ⟨S4x2048x1024, .f32⟩
  | .hbm, ⟨75, _⟩ => ⟨S4x2048x1024, .f32⟩
  | .hbm, ⟨76, _⟩ => ⟨S4x2048x1024, .f32⟩
  | .hbm, ⟨77, _⟩ => ⟨S4x2048x1024, .f32⟩
  | .hbm, ⟨78, _⟩ => ⟨S4x2048x1024, .f32⟩
  | .hbm, ⟨79, _⟩ => ⟨S1x1024, .f32⟩
  | .hbm, ⟨80, _⟩ => ⟨S2x1024, .f32⟩
  | .hbm, ⟨81, _⟩ => ⟨S_, .i32⟩
  | .hbm, ⟨82, _⟩ => ⟨S_, .f32⟩
  | .hbm, ⟨83, _⟩ => ⟨S8x1024, .f32⟩
  | .hbm, ⟨84, _⟩ => ⟨S8192x1024, .f32⟩
  | .hbm, ⟨85, _⟩ => ⟨S8192x1024, .f32⟩
  | .hbm, ⟨86, _⟩ => ⟨S8192x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_cst_9 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_cst_11 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_12 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_14 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_cst_16 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c : Ref sig .tc := ⟨.hbm, 81, rfl⟩
abbrev main_call0_v0 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩

abbrev nD : Nat := 1
abbrev τ : Topo := Topo.v7x

variable {F : FTy → Type} [FloatOps F]
-- ==== Kernel12.lean ====
abbrev S4x2048x16 : Shape := ⟨3, ![4, 2048, 16]⟩
abbrev S_ : Shape := ⟨0, ![]⟩
abbrev S4x2048x128 : Shape := ⟨3, ![4, 2048, 128]⟩
abbrev S8192x128 : Shape := ⟨2, ![8192, 128]⟩
abbrev S1x2048x128 : Shape := ⟨3, ![1, 2048, 128]⟩
abbrev S2048x128 : Shape := ⟨2, ![2048, 128]⟩
abbrev S256x256 : Shape := ⟨2, ![256, 256]⟩
abbrev S1x128 : Shape := ⟨2, ![1, 128]⟩
abbrev S1x256x128 : Shape := ⟨3, ![1, 256, 128]⟩
abbrev S256x128 : Shape := ⟨2, ![256, 128]⟩

abbrev nBuf : Space → Nat
  | .hbm => 9
  | .vmem => 6
  | .smem => 0
  | _ => 0

abbrev bufTy : (tb : Table) → Fin (tcTables nBuf tb) → BufTy
  | .hbm, ⟨0, _⟩ => ⟨S4x2048x16, .f32⟩
  | .hbm, ⟨1, _⟩ => ⟨S4x2048x16, .f32⟩
  | .hbm, ⟨2, _⟩ => ⟨S_, .i32⟩
  | .hbm, ⟨3, _⟩ => ⟨S_, .f32⟩
  | .hbm, ⟨4, _⟩ => ⟨S4x2048x128, .f32⟩
  | .hbm, ⟨5, _⟩ => ⟨S_, .i32⟩
  | .hbm, ⟨6, _⟩ => ⟨S_, .f32⟩
  | .hbm, ⟨7, _⟩ => ⟨S4x2048x128, .f32⟩
  | .hbm, ⟨8, _⟩ => ⟨S8192x128, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S2048x128, .bf16⟩
  | .local _ .vmem, ⟨5, _⟩ => ⟨S2048x128, .bf16⟩
  | _, _ => ⟨S4x2048x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference12Ideal.lean ====
abbrev S4x2048x16 : Shape := ⟨3, ![4, 2048, 16]⟩
abbrev S_ : Shape := ⟨0, ![]⟩
abbrev S8192x16 : Shape := ⟨2, ![8192, 16]⟩
abbrev S8192x128 : Shape := ⟨2, ![8192, 128]⟩

abbrev nBuf : Space → Nat
  | .hbm => 64
  | .vmem => 0
  | .smem => 0
  | _ => 0

abbrev bufTy : (tb : Table) → Fin (tcTables nBuf tb) → BufTy
  | .hbm, ⟨0, _⟩ => ⟨S4x2048x16, .f32⟩
  | .hbm, ⟨1, _⟩ => ⟨S4x2048x16, .f32⟩
  | .hbm, ⟨2, _⟩ => ⟨S4x2048x16, .f32⟩
  | .hbm, ⟨3, _⟩ => ⟨S_, .f32⟩
  | .hbm, ⟨4, _⟩ => ⟨S4x2048x16, .f32⟩
  | .hbm, ⟨5, _⟩ => ⟨S4x2048x16, .f32⟩
  | .hbm, ⟨6, _⟩ => ⟨S4x2048x16, .f32⟩
  | .hbm, ⟨7, _⟩ => ⟨S4x2048x16, .f32⟩
  | .hbm, ⟨8, _⟩ => ⟨S4x2048x16, .i1⟩
  | .hbm, ⟨9, _⟩ => ⟨S4x2048x16, .f32⟩
  | .hbm, ⟨10, _⟩ => ⟨S4x2048x16, .f32⟩
  | .hbm, ⟨11, _⟩ => ⟨S4x2048x16, .f32⟩
  | .hbm, ⟨12, _⟩ => ⟨S4x2048x16, .f32⟩
  | .hbm, ⟨13, _⟩ => ⟨S4x2048x16, .f32⟩
  | .hbm, ⟨14, _⟩ => ⟨S4x2048x16, .f32⟩
  | .hbm, ⟨15, _⟩ => ⟨S4x2048x16, .f32⟩
  | .hbm, ⟨16, _⟩ => ⟨S4x2048x16, .f32⟩
  | .hbm, ⟨17, _⟩ => ⟨S_, .f32⟩
  | .hbm, ⟨18, _⟩ => ⟨S4x2048x16, .f32⟩
  | .hbm, ⟨19, _⟩ => ⟨S4x2048x16, .i1⟩
  | .hbm, ⟨20, _⟩ => ⟨S_, .f32⟩
  | .hbm, ⟨21, _⟩ => ⟨S4x2048x16, .f32⟩
  | .hbm, ⟨22, _⟩ => ⟨S4x2048x16, .f32⟩
  | .hbm, ⟨23, _⟩ => ⟨S_, .f32⟩
  | .hbm, ⟨24, _⟩ => ⟨S4x2048x16, .f32⟩
  | .hbm, ⟨25, _⟩ => ⟨S4x2048x16, .i1⟩
  | .hbm, ⟨26, _⟩ => ⟨S_, .f32⟩
  | .hbm, ⟨27, _⟩ => ⟨S4x2048x16, .f32⟩
  | .hbm, ⟨28, _⟩ => ⟨S4x2048x16, .f32⟩
  | .hbm, ⟨29, _⟩ => ⟨S4x2048x16, .f32⟩
  | .hbm, ⟨30, _⟩ => ⟨S4x2048x16, .f32⟩
  | .hbm, ⟨31, _⟩ => ⟨S_, .f32⟩
  | .hbm, ⟨32, _⟩ => ⟨S_, .f32⟩
  | .hbm, ⟨33, _⟩ => ⟨S_, .i1⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S4x2048x16, .f32⟩
  | .hbm, ⟨39, _⟩ => ⟨S4x2048x16, .i1⟩
  | .hbm, ⟨40, _⟩ => ⟨S_, .f32⟩
  | .hbm, ⟨41, _⟩ => ⟨S4x2048x16, .f32⟩
  | .hbm, ⟨42, _⟩ => ⟨S4x2048x16, .f32⟩
  | .hbm, ⟨43, _⟩ => ⟨S4x2048x16, .f32⟩
  | .hbm, ⟨44, _⟩ => ⟨S4x2048x16, .f32⟩
  | .hbm, ⟨45, _⟩ => ⟨S4x2048x16, .f32⟩
  | .hbm, ⟨46, _⟩ => ⟨S_, .f32⟩
  | .hbm, ⟨47, _⟩ => ⟨S4x2048x16, .f32⟩
  | .hbm, ⟨48, _⟩ => ⟨S4x2048x16, .f32⟩
  | .hbm, ⟨49, _⟩ => ⟨S4x2048x16, .f32⟩
  | .hbm, ⟨50, _⟩ => ⟨S_, .f32⟩
  | .hbm, ⟨51, _⟩ => ⟨S_, .f32⟩
  | .hbm, ⟨52, _⟩ => ⟨S4x2048x16, .f32⟩
  | .hbm, ⟨53, _⟩ => ⟨S_, .f32⟩
  | .hbm, ⟨54, _⟩ => ⟨S_, .f32⟩
  | .hbm, ⟨55, _⟩ => ⟨S4x2048x16, .f32⟩
  | .hbm, ⟨56, _⟩ => ⟨S4x2048x16, .f32⟩
  | .hbm, ⟨57, _⟩ => ⟨S4x2048x16, .f32⟩
  | .hbm, ⟨58, _⟩ => ⟨S4x2048x16, .f32⟩
  | .hbm, ⟨59, _⟩ => ⟨S8192x16, .f32⟩
  | .hbm, ⟨60, _⟩ => ⟨S_, .i32⟩
  | .hbm, ⟨61, _⟩ => ⟨S_, .f32⟩
  | .hbm, ⟨62, _⟩ => ⟨S8192x128, .f32⟩
  | .hbm, ⟨63, _⟩ => ⟨S8192x128, .bf16⟩
  | _, _ => ⟨S4x2048x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_call0_cst : Ref sig .tc := ⟨.hbm, 3, rfl⟩
abbrev main_call0_call0_v0 : Ref sig .tc := ⟨.hbm, 4, rfl⟩
abbrev main_call0_call0_v1 : Ref sig .tc := ⟨.hbm, 5, rfl⟩
abbrev main_call0_call0_v2 : Ref sig .tc := ⟨.hbm, 6, rfl⟩
abbrev main_call0_call0_v3 : Ref sig .tc := ⟨.hbm, 7, rfl⟩
abbrev main_call0_call0_v4 : Ref sig .tc := ⟨.hbm, 8, rfl⟩
abbrev main_call0_call0_v5 : Ref sig .tc := ⟨.hbm, 9, rfl⟩
abbrev main_call0_call0_v6 : Ref sig .tc := ⟨.hbm, 10, rfl⟩
abbrev main_call0_call0_v7 : Ref sig .tc := ⟨.hbm, 11, rfl⟩
abbrev main_call0_call0_v8 : Ref sig .tc := ⟨.hbm, 12, rfl⟩
abbrev main_call0_call0_v9 : Ref sig .tc := ⟨.hbm, 13, rfl⟩
abbrev main_call0_call0_v10 : Ref sig .tc := ⟨.hbm, 14, rfl⟩
abbrev main_call0_call0_v11 : Ref sig .tc := ⟨.hbm, 15, rfl⟩
abbrev main_call0_v1_0 : Ref sig .tc := ⟨.hbm, 16, rfl⟩
abbrev main_call0_call0_cst_0 : Ref sig .tc := ⟨.hbm, 17, rfl⟩
abbrev main_call0_call0_v13 : Ref sig .tc := ⟨.hbm, 18, rfl⟩
abbrev main_call0_call0_v14 : Ref sig .tc := ⟨.hbm, 19, rfl⟩
abbrev main_call0_call0_cst_1 : Ref sig .tc := ⟨.hbm, 20, rfl⟩
abbrev main_call0_call0_v15 : Ref sig .tc := ⟨.hbm, 21, rfl⟩
abbrev main_call0_call0_v16 : Ref sig .tc := ⟨.hbm, 22, rfl⟩
abbrev main_call0_call0_cst_2 : Ref sig .tc := ⟨.hbm, 23, rfl⟩
abbrev main_call0_call0_v17 : Ref sig .tc := ⟨.hbm, 24, rfl⟩
abbrev main_call0_call0_v18 : Ref sig .tc := ⟨.hbm, 25, rfl⟩
abbrev main_call0_call0_cst_3 : Ref sig .tc := ⟨.hbm, 26, rfl⟩
abbrev main_call0_call0_v19 : Ref sig .tc := ⟨.hbm, 27, rfl⟩
abbrev main_call0_call0_v20 : Ref sig .tc := ⟨.hbm, 28, rfl⟩
abbrev main_call0_call0_v21 : Ref sig .tc := ⟨.hbm, 29, rfl⟩
abbrev main_v0_1 : Ref sig .tc := ⟨.hbm, 30, rfl⟩
abbrev main_call0_call0_cst_4 : Ref sig .tc := ⟨.hbm, 31, rfl⟩
abbrev main_call0_call0_cst_5 : Ref sig .tc := ⟨.hbm, 32, rfl⟩
abbrev main_call0_call0_v23 : Ref sig .tc := ⟨.hbm, 33, rfl⟩
abbrev main_call0_call0_cst_6 : Ref sig .tc := ⟨.hbm, 34, rfl⟩
abbrev main_call0_call0_cst_7 : Ref sig .tc := ⟨.hbm, 35, rfl⟩
abbrev main_call0_call0_v24 : Ref sig .tc := ⟨.hbm, 36, rfl⟩
abbrev main_call0_call0_cst_8 : Ref sig .tc := ⟨.hbm, 37, rfl⟩
abbrev main_call0_call0_v25 : Ref sig .tc := ⟨.hbm, 38, rfl⟩
abbrev main_call0_call0_v26 : Ref sig .tc := ⟨.hbm, 39, rfl⟩
abbrev main_call0_call0_cst_9 : Ref sig .tc := ⟨.hbm, 40, rfl⟩
abbrev main_call0_call0_v27 : Ref sig .tc := ⟨.hbm, 41, rfl⟩
abbrev main_call0_call0_v28 : Ref sig .tc := ⟨.hbm, 42, rfl⟩
abbrev main_call0_call0_v29 : Ref sig .tc := ⟨.hbm, 43, rfl⟩
abbrev main_call0_call0_v30 : Ref sig .tc := ⟨.hbm, 44, rfl⟩
abbrev main_call0_call0_v31 : Ref sig .tc := ⟨.hbm, 45, rfl⟩
abbrev main_call0_call0_cst_10 : Ref sig .tc := ⟨.hbm, 46, rfl⟩
abbrev main_call0_call0_v32 : Ref sig .tc := ⟨.hbm, 47, rfl⟩
abbrev main_v0_2 : Ref sig .tc := ⟨.hbm, 48, rfl⟩
abbrev main_v0_0 : Ref sig .tc := ⟨.hbm, 49, rfl⟩
abbrev main_call1_call0_cst : Ref sig .tc := ⟨.hbm, 50, rfl⟩
abbrev main_call1_call0_v0 : Ref sig .tc := ⟨.hbm, 51, rfl⟩
abbrev main_v1 : Ref sig .tc := ⟨.hbm, 52, rfl⟩
abbrev main_call2_call0_cst : Ref sig .tc := ⟨.hbm, 53, rfl⟩
abbrev main_call2_call0_v0 : Ref sig .tc := ⟨.hbm, 54, rfl⟩
abbrev main_v2 : Ref sig .tc := ⟨.hbm, 55, rfl⟩
abbrev main_call3_v0 : Ref sig .tc := ⟨.hbm, 56, rfl⟩
abbrev main_call3_v1 : Ref sig .tc := ⟨.hbm, 57, rfl⟩
abbrev main_v3 : Ref sig .tc := ⟨.hbm, 58, rfl⟩
abbrev main_v4 : Ref sig .tc := ⟨.hbm, 59, rfl⟩
abbrev main_c : Ref sig .tc := ⟨.hbm, 60, rfl⟩
abbrev main_call4_v0 : Ref sig .tc := ⟨.hbm, 61, rfl⟩
abbrev main_v5 : Ref sig .tc := ⟨.hbm, 62, rfl⟩
abbrev main_v6 : Ref sig .tc := ⟨.hbm, 63, rfl⟩

abbrev nD : Nat := 1
abbrev τ : Topo := Topo.v7x

variable {F : FTy → Type} [FloatOps F]
-- ==== Kernel13.lean ====
abbrev S4x2048x16 : Shape := ⟨3, ![4, 2048, 16]⟩
abbrev S_ : Shape := ⟨0, ![]⟩
abbrev S4x2048x128 : Shape := ⟨3, ![4, 2048, 128]⟩
abbrev S4x2048x1024 : Shape := ⟨3, ![4, 2048, 1024]⟩
abbrev S4x16x2048 : Shape := ⟨3, ![4, 16, 2048]⟩
abbrev S1x2048x128 : Shape := ⟨3, ![1, 2048, 128]⟩
abbrev S1x2048x1024 : Shape := ⟨3, ![1, 2048, 1024]⟩
abbrev S1x16x2048 : Shape := ⟨3, ![1, 16, 2048]⟩
abbrev S256x256 : Shape := ⟨2, ![256, 256]⟩
abbrev S128x1024 : Shape := ⟨2, ![128, 1024]⟩
abbrev S1x128 : Shape := ⟨2, ![1, 128]⟩
abbrev S1x256x128 : Shape := ⟨3, ![1, 256, 128]⟩
abbrev S256x128 : Shape := ⟨2, ![256, 128]⟩
abbrev S256x1024 : Shape := ⟨2, ![256, 1024]⟩
abbrev S1x256x1024 : Shape := ⟨3, ![1, 256, 1024]⟩
abbrev S128x256 : Shape := ⟨2, ![128, 256]⟩
abbrev S16x256 : Shape := ⟨2, ![16, 256]⟩
abbrev S1x16x256 : Shape := ⟨3, ![1, 16, 256]⟩

abbrev nBuf : Space → Nat
  | .hbm => 6
  | .vmem => 6
  | .smem => 0
  | _ => 0

abbrev bufTy : (tb : Table) → Fin (tcTables nBuf tb) → BufTy
  | .hbm, ⟨0, _⟩ => ⟨S4x2048x16, .f32⟩
  | .hbm, ⟨1, _⟩ => ⟨S_, .i32⟩
  | .hbm, ⟨2, _⟩ => ⟨S_, .f32⟩
  | .hbm, ⟨3, _⟩ => ⟨S4x2048x128, .f32⟩
  | .hbm, ⟨4, _⟩ => ⟨S4x2048x1024, .f32⟩
  | .hbm, ⟨5, _⟩ => ⟨S4x16x2048, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x1024, .f32⟩
  | .local _ .vmem, ⟨3, _⟩ => ⟨S1x2048x1024, .f32⟩
  | .local _ .vmem, ⟨4, _⟩ => ⟨S1x16x2048, .f32⟩
  | .local _ .vmem, ⟨5, _⟩ => ⟨S1x16x2048, .f32⟩
  | _, _ => ⟨S4x2048x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference13Ideal.lean ====
abbrev S4x2048x16 : Shape := ⟨3, ![4, 2048, 16]⟩
abbrev S_ : Shape := ⟨0, ![]⟩
abbrev S4x2048x16x64 : Shape := ⟨4, ![4, 2048, 16, 64]⟩
abbrev S4x2048x1024 : Shape := ⟨3, ![4, 2048, 1024]⟩
abbrev S4x16x2048 : Shape := ⟨3, ![4, 16, 2048]⟩

abbrev nBuf : Space → Nat
  | .hbm => 23
  | .vmem => 0
  | .smem => 0
  | _ => 0

abbrev bufTy : (tb : Table) → Fin (tcTables nBuf tb) → BufTy
  | .hbm, ⟨0, _⟩ => ⟨S4x2048x16, .f32⟩
  | .hbm, ⟨1, _⟩ => ⟨S4x2048x16, .f32⟩
  | .hbm, ⟨2, _⟩ => ⟨S_, .f32⟩
  | .hbm, ⟨3, _⟩ => ⟨S4x2048x16, .f32⟩
  | .hbm, ⟨4, _⟩ => ⟨S4x2048x16, .f32⟩
  | .hbm, ⟨5, _⟩ => ⟨S4x2048x16, .f32⟩
  | .hbm, ⟨6, _⟩ => ⟨S4x2048x16, .f32⟩
  | .hbm, ⟨7, _⟩ => ⟨S4x2048x16, .i1⟩
  | .hbm, ⟨8, _⟩ => ⟨S4x2048x16, .f32⟩
  | .hbm, ⟨9, _⟩ => ⟨S4x2048x16, .f32⟩
  | .hbm, ⟨10, _⟩ => ⟨S4x2048x16, .f32⟩
  | .hbm, ⟨11, _⟩ => ⟨S4x2048x16, .f32⟩
  | .hbm, ⟨12, _⟩ => ⟨S4x2048x16, .f32⟩
  | .hbm, ⟨13, _⟩ => ⟨S4x2048x16, .f32⟩
  | .hbm, ⟨14, _⟩ => ⟨S4x2048x16, .f32⟩
  | .hbm, ⟨15, _⟩ => ⟨S4x2048x16, .f32⟩
  | .hbm, ⟨16, _⟩ => ⟨S4x2048x16, .f32⟩
  | .hbm, ⟨17, _⟩ => ⟨S_, .f32⟩
  | .hbm, ⟨18, _⟩ => ⟨S_, .f32⟩
  | .hbm, ⟨19, _⟩ => ⟨S4x2048x16, .f32⟩
  | .hbm, ⟨20, _⟩ => ⟨S4x2048x16x64, .f32⟩
  | .hbm, ⟨21, _⟩ => ⟨S4x2048x1024, .f32⟩
  | .hbm, ⟨22, _⟩ => ⟨S4x16x2048, .f32⟩
  | _, _ => ⟨S4x2048x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_call0_cst : Ref sig .tc := ⟨.hbm, 2, rfl⟩
abbrev main_call0_call0_v0 : Ref sig .tc := ⟨.hbm, 3, rfl⟩
abbrev main_call0_call0_v1 : Ref sig .tc := ⟨.hbm, 4, rfl⟩
abbrev main_call0_call0_v2 : Ref sig .tc := ⟨.hbm, 5, rfl⟩
abbrev main_call0_call0_v3 : Ref sig .tc := ⟨.hbm, 6, rfl⟩
abbrev main_call0_call0_v4 : Ref sig .tc := ⟨.hbm, 7, rfl⟩
abbrev main_call0_call0_v5 : Ref sig .tc := ⟨.hbm, 8, rfl⟩
abbrev main_call0_call0_v6 : Ref sig .tc := ⟨.hbm, 9, rfl⟩
abbrev main_call0_call0_v7 : Ref sig .tc := ⟨.hbm, 10, rfl⟩
abbrev main_call0_call0_v8 : Ref sig .tc := ⟨.hbm, 11, rfl⟩
abbrev main_call0_call0_v9 : Ref sig .tc := ⟨.hbm, 12, rfl⟩
abbrev main_call0_call0_v10 : Ref sig .tc := ⟨.hbm, 13, rfl⟩
abbrev main_call0_call0_v11 : Ref sig .tc := ⟨.hbm, 14, rfl⟩
abbrev main_call0_v1 : Ref sig .tc := ⟨.hbm, 15, rfl⟩
abbrev main_v0 : Ref sig .tc := ⟨.hbm, 16, rfl⟩
abbrev main_call1_call0_cst : Ref sig .tc := ⟨.hbm, 17, rfl⟩
abbrev main_call1_call0_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩

abbrev nD : Nat := 1
abbrev τ : Topo := Topo.v7x

variable {F : FTy → Type} [FloatOps F]
-- ==== Proof.Attn.Sums.lean ====
/- Real sums read as extended reals, sums cut into four row tiles, and the augmented products of the attention gradient: a row
   with a bias and ones in its spare lanes, times a column with ones and a bias in its own. -/
module

public import Idealize.ShloMosaic.Lib.Pointwise

@[expose] public section

noncomputable section

namespace Cert.AttnBwd

open Idealize.ShloMosaic

/-- A real sum, as an extended real. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s h ih => rw [Finset.sum_insert h, Finset.sum_insert h, ih, EReal.coe_add]

theorem sum_coe {ι : Type} [Fintype ι] {f : ι → EReal} {g : ι → ℝ} (h : ∀ i, f i = ((g i : ℝ) : EReal)) :
    (∑ i, f i) = ((∑ i, g i : ℝ) : EReal) := by
  rw [← coe_sum]; exact Finset.sum_congr rfl fun i _ => h i

theorem mul_coe {a b : EReal} {x y : ℝ} (ha : a = x) (hb : b = y) : a * b = ((x * y : ℝ) : EReal) := by
  rw [ha, hb, EReal.coe_mul]
theorem add_coe {a b : EReal} {x y : ℝ} (ha : a = x) (hb : b = y) : a + b = ((x + y : ℝ) : EReal) := by
  rw [ha, hb, EReal.coe_add]
theorem sub_coe {a b : EReal} {x y : ℝ} (ha : a = x) (hb : b = y) : a - b = ((x - y : ℝ) : EReal) := by
  rw [ha, hb, EReal.coe_sub]
theorem ite_coe (p : Prop) [Decidable p] {a b : EReal} {x y : ℝ} (ha : a = x) (hb : b = y) :
    (if p then a else b) = ((if p then x else y : ℝ) : EReal) := by split_ifs <;> assumption
theorem zero_coe : (0 : EReal) = ((0 : ℝ) : EReal) := rfl
theorem one_coe : (1 : EReal) = ((1 : ℝ) : EReal) := rfl

/-! ## Row tiles -/

/-- Row `r` of tile `o`. -/
def row (o : Fin 4) (r : Fin 512) : Fin 2048 := ⟨512 * o.val + r.val, by have := o.2; have := r.2; omega⟩

/-- The sum over tile `o`. -/
def tsum (f : Fin 2048 → ℝ) (o : Fin 4) : ℝ := ∑ r : Fin 512, f (row o r)

theorem sum_tiles (f : Fin 2048 → ℝ) : ∑ t, f t = tsum f 0 + tsum f 1 + tsum f 2 + tsum f 3 := by
  rw [Fin.sum_univ_tiles 4 512 rfl f, Fin.sum_univ_four]
  have h : ∀ o : Fin 4, (∑ t : Fin 512, f ⟨o.val * 512 + t.val, by have := o.2; have := t.2; omega⟩) = tsum f o := fun o =>
    Finset.sum_congr rfl fun r _ => congrArg f (Fin.ext (by show o.val * 512 + r.val = 512 * o.val + r.val; omega))
  rw [h, h, h, h]

theorem tsum_zero {f : Fin 2048 → ℝ} {o : Fin 4} (h : ∀ r, f (row o r) = 0) : tsum f o = 0 :=
  Finset.sum_eq_zero fun r _ => h r

/-! ## Augmented products -/

/-- A row operand of head `hh`: its own lanes, a bias in the first spare lane, ones in the fourth to sixth. -/
def R6 (hh : Fin 2) (x : Fin 128 → ℝ) (b : ℝ) (l : Fin 128) : ℝ :=
  if l.val / 64 = hh.val then x l else if l.val % 64 = 0 then b else if l.val % 64 < 3 then 0 else if l.val % 64 < 6 then 1 else 0
/-- … without the ones. -/
def R3 (hh : Fin 2) (x : Fin 128 → ℝ) (b : ℝ) (l : Fin 128) : ℝ :=
  if l.val / 64 = hh.val then x l else if l.val % 64 = 0 then b else 0
/-- A column operand of head `hh`: its own sublanes, ones in the first three spare ones, a bias in the fourth. -/
def C6 (hh : Fin 2) (x : Fin 128 → ℝ) (b : ℝ) (l : Fin 128) : ℝ :=
  if l.val / 64 = hh.val then x l else if l.val % 64 < 3 then 1 else if l.val % 64 = 3 then b else 0
/-- … without the bias. -/
def C3 (hh : Fin 2) (x : Fin 128 → ℝ) (l : Fin 128) : ℝ :=
  if l.val / 64 = hh.val then x l else if l.val % 64 < 3 then 1 else 0

/-- Spare lane `n` of head `hh`. -/
def spare (hh : Fin 2) (n : ℕ) (hn : n < 64) : Fin 128 := ⟨64 * (1 - hh.val) + n, by have := hh.2; omega⟩

theorem spare_iff (hh : Fin 2) (n : ℕ) (hn : n < 64) (l : Fin 128) :
    l = spare hh n hn ↔ ¬ l.val / 64 = hh.val ∧ l.val % 64 = n := by
  have := hh.2; have := l.2
  constructor
  · rintro rfl
    show ¬ (64 * (1 - hh.val) + n) / 64 = hh.val ∧ (64 * (1 - hh.val) + n) % 64 = n
    omega
  · rintro ⟨h, h'⟩
    apply Fin.ext
    show l.val = 64 * (1 - hh.val) + n
    omega

/-- The sum over a head's own lanes. -/
def own (hh : Fin 2) (f : Fin 128 → ℝ) : ℝ := ∑ l : Fin 128, if l.val / 64 = hh.val then f l else 0

theorem aug6 (hh : Fin 2) (x y : Fin 128 → ℝ) (b c : ℝ) :
    ∑ l, R6 hh x b l * C6 hh y c l = own hh (fun l => x l * y l) + b + c := by
  have h : ∀ l, R6 hh x b l * C6 hh y c l = (if l.val / 64 = hh.val then x l * y l else 0)
      + (if l = spare hh 0 (by norm_num) then b else 0) + (if l = spare hh 3 (by norm_num) then c else 0) := by
    intro l
    simp only [R6, C6, spare_iff]
    by_cases h1 : l.val / 64 = hh.val
    · simp [h1]
    · by_cases h2 : l.val % 64 = 0
      · simp [h1, h2]
      · by_cases h3 : l.val % 64 = 3
        · simp [h1, h3]
        · by_cases h4 : l.val % 64 < 3 <;> simp [h1, h2, h3, h4]
  rw [Finset.sum_congr rfl fun l _ => h l, Finset.sum_add_distrib, Finset.sum_add_distrib]
  simp [own]

theorem aug3 (hh : Fin 2) (x y : Fin 128 → ℝ) (b : ℝ) :
    ∑ l, R3 hh x b l * C3 hh y l = own hh (fun l => x l * y l) + b := by
  have h : ∀ l, R3 hh x b l * C3 hh y l = (if l.val / 64 = hh.val then x l * y l else 0)
      + (if l = spare hh 0 (by norm_num) then b else 0) := by
    intro l
    simp only [R3, C3, spare_iff]
    by_cases h1 : l.val / 64 = hh.val
    · simp [h1]
    · by_cases h2 : l.val % 64 = 0
      · simp [h1, h2]
      · by_cases h4 : l.val % 64 < 3 <;> simp [h1, h2, h4]
  rw [Finset.sum_congr rfl fun l _ => h l, Finset.sum_add_distrib]
  simp [own]

/-- A head's own lanes as its 64 coordinates. -/
theorem own_eq (hh : Fin 2) (f : Fin 128 → ℝ) :
    own hh f = ∑ d : Fin 64, f ⟨64 * hh.val + d.val, by have := hh.2; have := d.2; omega⟩ := by
  have key : ∀ g : Fin 128 → ℝ, ∑ l, g l = ∑ a : Fin 2, ∑ d : Fin 64, g ⟨a.val * 64 + d.val, by have := a.2; have := d.2; omega⟩ :=
    fun g => Fin.sum_univ_tiles 2 64 rfl g
  rw [own, key, Finset.sum_eq_single hh]
  · refine Finset.sum_congr rfl fun d _ => ?_
    have hd := d.2
    rw [if_pos (by show (hh.val * 64 + d.val) / 64 = hh.val; omega)]
    exact congrArg f (Fin.ext (by show hh.val * 64 + d.val = 64 * hh.val + d.val; omega))
  · intro a _ ha
    refine Finset.sum_eq_zero fun d _ => if_neg ?_
    have hd := d.2
    intro h
    exact ha (Fin.ext (by have : (a.val * 64 + d.val) / 64 = hh.val := h; omega))
  · exact fun h => absurd (Finset.mem_univ _) h

/-! ## Lane tests -/

theorem sel_eq {n : ℕ} (k : ℕ) (hn : n < 4294967296) (hk : k < 4294967296) (a b : EReal) :
    Scalar.select (IntOp.cmpi .eq (BitVec.ofNat 32 n) (BitVec.ofNat 32 k)) a b = if n = k then a else b := by
  have h : (BitVec.ofNat 32 n = BitVec.ofNat 32 k) ↔ n = k := by
    rw [← BitVec.toNat_inj, BitVec.toNat_ofNat, BitVec.toNat_ofNat, Nat.mod_eq_of_lt (by omega), Nat.mod_eq_of_lt (by omega)]
  by_cases hc : n = k
  · subst hc; simp [Scalar.select, IntOp.cmpi]
  · have hb : (BitVec.ofNat 32 n == BitVec.ofNat 32 k) = false := by rw [beq_eq_false_iff_ne]; exact fun e => hc (h.mp e)
    simp [Scalar.select, IntOp.cmpi, hb, hc]

theorem toInt_nat {n : ℕ} (hn : n < 2147483648) : (BitVec.ofNat 32 n).toInt = n := by
  have h : (BitVec.ofNat 32 n).toNat = n := by rw [BitVec.toNat_ofNat]; exact Nat.mod_eq_of_lt (by omega)
  rw [BitVec.toInt_eq_toNat_of_lt (by rw [h]; omega), h]

theorem sel_slt {n : ℕ} (k : ℕ) (hn : n < 2147483648) (hk : k < 2147483648) (a b : EReal) :
    Scalar.select (IntOp.cmpi .slt (BitVec.ofNat 32 n) (BitVec.ofNat 32 k)) a b = if n < k then a else b := by
  have h : (BitVec.ofNat 32 n).slt (BitVec.ofNat 32 k) = decide (n < k) := by
    rw [BitVec.slt, toInt_nat hn, toInt_nat hk]; simp
  by_cases hc : n < k <;> simp [Scalar.select, IntOp.cmpi, h, hc]

theorem sel_sge {n : ℕ} (k : ℕ) (hn : n < 2147483648) (hk : k < 2147483648) (a b : EReal) :
    Scalar.select (IntOp.cmpi .sge (BitVec.ofNat 32 n) (BitVec.ofNat 32 k)) a b = if k ≤ n then a else b := by
  have h : (BitVec.ofNat 32 k).sle (BitVec.ofNat 32 n) = decide (k ≤ n) := by
    rw [BitVec.sle, toInt_nat hn, toInt_nat hk]; simp
  by_cases hc : k ≤ n <;> simp [Scalar.select, IntOp.cmpi, h, hc]

end Cert.AttnBwd

end
-- ==== Proof.Attn.Spec.lean ====
/- The gradient of forgetting attention as real functions of real arguments, and the softmax of a causal row of scores, whose
   weights and log-sum do not depend on the number taken off every score first. -/
module

public import proofs.«01_k».proof.Proof.Attn.Sums

@[expose] public section

noncomputable section

namespace Cert.AttnBwd

open Idealize.ShloMosaic

/-- Queries, keys, values, the result's gradient (`[batch, position, head, lane]`) and the running decay. -/
structure Args where
  Q : Fin 4 → Fin 2048 → Fin 16 → Fin 64 → ℝ
  K : Fin 4 → Fin 2048 → Fin 16 → Fin 64 → ℝ
  W : Fin 4 → Fin 2048 → Fin 16 → Fin 64 → ℝ
  C : Fin 4 → Fin 2048 → Fin 16 → ℝ
  O : Fin 4 → Fin 2048 → Fin 16 → Fin 64 → ℝ

namespace Args

variable (A : Args) (b : Fin 4) (h : Fin 16)

/-- A score. -/
def sc (t j : Fin 2048) : ℝ := (∑ d, A.Q b t h d * A.K b j h d) * (1 / 8) + A.C b t h - A.C b j h
/-- An attention weight before it is divided. -/
def w (t j : Fin 2048) : ℝ := if j.val ≤ t.val then Real.exp (A.sc b h t j) else 0
/-- A row's sum of weights. -/
def Z (t : Fin 2048) : ℝ := ∑ j, A.w b h t j
/-- A probability. -/
def p (t j : Fin 2048) : ℝ := A.w b h t j / A.Z b h t
/-- The attention's result. -/
def y (t : Fin 2048) (d : Fin 64) : ℝ := ∑ j, A.W b j h d * A.p b h t j
/-- A probability's gradient. -/
def dp (t j : Fin 2048) : ℝ := ∑ d, A.O b t h d * A.W b j h d
/-- A row's mean of them. -/
def D (t : Fin 2048) : ℝ := ∑ j, A.p b h t j * A.dp b h t j
/-- A score's gradient. -/
def g (t j : Fin 2048) : ℝ := A.p b h t j * (A.dp b h t j - A.D b h t)
/-- The queries' gradient. -/
def dq (t : Fin 2048) (d : Fin 64) : ℝ := (∑ j, A.g b h t j * A.K b j h d) * (1 / 8)
/-- The keys' gradient. -/
def dk (j : Fin 2048) (d : Fin 64) : ℝ := (∑ t, A.g b h t j * A.Q b t h d) * (1 / 8)
/-- The values' gradient. -/
def dv (j : Fin 2048) (d : Fin 64) : ℝ := ∑ t, A.p b h t j * A.O b t h d
/-- The decay's gradient. -/
def dc (t : Fin 2048) : ℝ := (∑ j, A.g b h t j) - ∑ i, A.g b h i t

theorem Z_pos (t : Fin 2048) : 0 < A.Z b h t := by
  refine Finset.sum_pos' (fun j _ => ?_) ⟨t, Finset.mem_univ t, ?_⟩
  · unfold w; split_ifs <;> [exact (Real.exp_pos _).le; exact le_rfl]
  · rw [w, if_pos le_rfl]; exact Real.exp_pos _

/-- The row mean is the product of the result and its gradient. -/
theorem y_O (t : Fin 2048) : ∑ d, A.y b h t d * A.O b t h d = A.D b h t := by
  unfold y D dp
  simp only [Finset.sum_mul, Finset.mul_sum]
  rw [Finset.sum_comm]
  refine Finset.sum_congr rfl fun j _ => Finset.sum_congr rfl fun d _ => ?_
  ring

/-- A probability from the row's log-sum. -/
theorem exp_log (t j : Fin 2048) :
    (if j.val ≤ t.val then Real.exp (A.sc b h t j - Real.log (A.Z b h t)) else 0) = A.p b h t j := by
  unfold p w
  split_ifs with hj
  · rw [Real.exp_sub, Real.exp_log (A.Z_pos b h t)]
  · rw [zero_div]

end Args

theorem ofBits_neg_inf : (Ideal.ofBits .f32 0xFF800000#32 : EReal) = ⊥ := by
  simp [Ideal.ofBits, Ideal.ieee]

/-! ## A causal row of scores -/

section
variable {A : Args} {b : Fin 4} {h : Fin 16} {t : Fin 2048} {s : Fin 2048 → EReal}
  (hs : ∀ j, s j = if j.val ≤ t.val then ((A.sc b h t j : ℝ) : EReal) else ⊥)
include hs

/-- The row's largest score is a number. -/
theorem max_real : ∃ M : ℝ, (Finset.univ : Finset (Fin 2048)).fold max (⊥ : EReal) s = ((M : ℝ) : EReal) := by
  have hbot : (Finset.univ : Finset (Fin 2048)).fold max (⊥ : EReal) s ≠ ⊥ := by
    have h1 : s t ≤ (Finset.univ : Finset (Fin 2048)).fold max (⊥ : EReal) s :=
      (Finset.le_fold_max _).mpr (Or.inr ⟨t, Finset.mem_univ t, le_rfl⟩)
    rw [hs t, if_pos le_rfl] at h1
    intro h2
    rw [h2] at h1
    exact EReal.coe_ne_bot _ (le_bot_iff.mp h1)
  have htop : (Finset.univ : Finset (Fin 2048)).fold max (⊥ : EReal) s ≠ ⊤ := by
    have h1 : (Finset.univ : Finset (Fin 2048)).fold max (⊥ : EReal) s < ⊤ := by
      refine (Finset.fold_max_lt _).mpr ⟨bot_lt_top, fun j _ => ?_⟩
      rw [hs j]
      split_ifs
      · exact EReal.coe_lt_top _
      · exact bot_lt_top
    exact h1.ne
  exact ⟨_, (EReal.coe_toReal htop hbot).symm⟩

theorem exp_row (M : ℝ) (j : Fin 2048) : Ideal.exp (s j - (M : EReal)) = ((A.w b h t j * Real.exp (-M) : ℝ) : EReal) := by
  rw [hs j, Args.w]
  split_ifs
  · rw [← EReal.coe_sub, Ideal.exp_coe, sub_eq_add_neg, Real.exp_add]
  · rw [EReal.bot_sub, Ideal.exp_bot, zero_mul]; rfl

end

theorem sum_row (A : Args) (b : Fin 4) (h : Fin 16) (t : Fin 2048) (M : ℝ) :
    ∑ j, A.w b h t j * Real.exp (-M) = A.Z b h t * Real.exp (-M) := (Finset.sum_mul ..).symm

theorem log_row (A : Args) (b : Fin 4) (h : Fin 16) (t : Fin 2048) (M : ℝ) :
    (M : EReal) + Ideal.log ((A.Z b h t * Real.exp (-M) : ℝ) : EReal) = ((Real.log (A.Z b h t) : ℝ) : EReal) := by
  have hz := A.Z_pos b h t
  rw [Ideal.log_coe, if_neg (not_le.mpr (mul_pos hz (Real.exp_pos _))), Real.log_mul hz.ne' (Real.exp_pos _).ne', Real.log_exp,
    ← EReal.coe_add]
  congr 1; ring

theorem div_row (A : Args) (b : Fin 4) (h : Fin 16) (t j : Fin 2048) (M : ℝ) :
    Ideal.div ((A.w b h t j * Real.exp (-M) : ℝ) : EReal) ((A.Z b h t * Real.exp (-M) : ℝ) : EReal) = ((A.p b h t j : ℝ) : EReal) := by
  have hz := A.Z_pos b h t
  have he := Real.exp_pos (-M)
  rw [Ideal.div_coe (mul_pos hz he).ne', ← EReal.coe_mul, Args.p]
  congr 1; field_simp

end Cert.AttnBwd
-- ==== Proof.Attn.Host.lean ====
/- What the six operands of the call hold, prepared on the host from the kernel's arguments: the queries, keys and values of a
   head pair side by side, the result's gradient, the attention's result, the log-sums, and the decays two ways. -/
module

public import proofs.«01_k».proof.Proof.Attn.Spec
public import proofs.«01_k».proof.Proof.Gen.KernelIdeal.Frame
public import Idealize.ShloMosaic.Lib.StableHlo.ReadAt

@[expose] public section

noncomputable section

namespace Cert.AttnBwd

open Idealize.ShloMosaic Idealize.ShloMosaic.TcCoe Idealize.SL.Sem Cert.KernelIdeal Cert.KernelIdeal.Gen

/-! ## The host's operations as functions -/

section

variable {F : FTy → Type} [FloatOps F]
variable (q k v o : Vec F S4x2048x16x64 .f32) (c : Vec F S4x2048x16 .f32)

/-- The decay, position last. -/
def hC : Vec F S4x16x2048 .f32 := transpose S4x16x2048 [0, 2, 1] c transposes_S4x2048x16_S4x16x2048_0_2_1

/-- The causal mask. -/
def hMask : Vec F S4x16x2048x2048 .i1 :=
  broadcastInDim S4x16x2048x2048 ![0, 1, 2, 3] bcast_S1x1x2048x2048_S4x16x2048x2048_0_1_2_3
    (broadcastInDim S1x1x2048x2048 ![2, 3] bcast_S2048x2048_S1x1x2048x2048_2_3
      (cmpi .sge
        (broadcastInDim S2048x2048 ![0, 1] bcast_S2048x1_S2048x2048_0_1 (broadcastInDim S2048x1 ![0] bcast_S2048_S2048x1_0 (iotaInDim S2048 32 0)))
        (broadcastInDim S2048x2048 ![0, 1] bcast_S1x2048_S2048x2048_0_1 (broadcastInDim S1x2048 ![1] bcast_S2048_S1x2048_1 (iotaInDim S2048 32 0)))))

/-- The scores, −∞ above the diagonal. -/
def hS : Vec F S4x16x2048x2048 .f32 :=
  select (hMask (F := F))
    (subf
      (addf
        (mulf (Host.dotGeneral dot_S4x2048x16x64_S4x2048x16x64_S4x16x2048x2048_3_3_1_1_02_02 none q k)
          (broadcastInDim S4x16x2048x2048 ![] bcast_S_S4x16x2048x2048 (constant S_ .f32 0x3E000000#32)))
        (broadcastInDim S4x16x2048x2048 ![0, 1, 2, 3] bcast_S4x16x2048x1_S4x16x2048x2048_0_1_2_3
          (broadcastInDim S4x16x2048x1 ![0, 1, 2] bcast_S4x16x2048_S4x16x2048x1_0_1_2 (hC c))))
      (broadcastInDim S4x16x2048x2048 ![0, 1, 2, 3] bcast_S4x16x1x2048_S4x16x2048x2048_0_1_2_3
        (broadcastInDim S4x16x1x2048 ![0, 1, 3] bcast_S4x16x2048_S4x16x1x2048_0_1_3 (hC c))))
    (broadcastInDim S4x16x2048x2048 ![] bcast_S_S4x16x2048x2048 (constant S_ .f32 0xFF800000#32))

/-- A row's largest score. -/
def hM (s : Vec F S4x16x2048x2048 .f32) : Vec F S4x16x2048x1 .f32 :=
  broadcastInDim S4x16x2048x1 ![0, 1, 2] bcast_S4x16x2048_S4x16x2048x1_0_1_2
    (Host.reduce FloatOps.maximumf s (constant S_ .f32 0xFF800000#32) reducesTo_S4x16x2048x2048_S4x16x2048_d3 h_S_)

/-- A row's weights, the largest score taken off. -/
def hE (s : Vec F S4x16x2048x2048 .f32) : Vec F S4x16x2048x2048 .f32 :=
  Host.exp (subf s (broadcastInDim S4x16x2048x2048 ![0, 1, 2, 3] bcast_S4x16x2048x1_S4x16x2048x2048_0_1_2_3 (hM s)))

/-- Their sum. -/
def hZ (s : Vec F S4x16x2048x2048 .f32) : Vec F S4x16x2048x1 .f32 :=
  broadcastInDim S4x16x2048x1 ![0, 1, 2] bcast_S4x16x2048_S4x16x2048x1_0_1_2
    (Host.reduceAdd (hE s) (constant S_ .f32 0x00000000#32) reducesTo_S4x16x2048x2048_S4x16x2048_d3 h_S_)

/-- The log-sum of a row. -/
def hL (s : Vec F S4x16x2048x2048 .f32) : Vec F S4x16x2048 .f32 :=
  shapeCast S4x16x2048 (addf (hM s) (Host.log (hZ s))) shapeCasts_S4x16x2048x1_S4x16x2048

/-- The attention's result. -/
def hY (s : Vec F S4x16x2048x2048 .f32) : Vec F S4x2048x16x64 .f32 :=
  transpose S4x2048x16x64 [0, 3, 1, 2]
    (Host.dotGeneral dot_S4x2048x16x64_S4x16x2048x2048_S4x16x64x2048_1_3_3_2_02_01 none v
      (Host.divf (hE s) (broadcastInDim S4x16x2048x2048 ![0, 1, 2, 3] bcast_S4x16x2048x1_S4x16x2048x2048_0_1_2_3 (hZ s))))
    transposes_S4x16x64x2048_S4x2048x16x64_0_3_1_2

/-- The queries, keys and values, a head pair's 384 lanes together. -/
def hQKV : Vec F S4x2048x3072 .bf16 :=
  truncf .bf16 (shapeCast S4x2048x3072
      (concatenate S4x2048x8x384 3
        [⟨S4x2048x8x128, shapeCast S4x2048x8x128 q shapeCasts_S4x2048x16x64_S4x2048x8x128⟩,
         ⟨S4x2048x8x128, shapeCast S4x2048x8x128 k shapeCasts_S4x2048x16x64_S4x2048x8x128⟩,
         ⟨S4x2048x8x128, shapeCast S4x2048x8x128 v shapeCasts_S4x2048x16x64_S4x2048x8x128⟩]
        concatenates_S4x2048x8x128_S4x2048x8x128_S4x2048x8x128_S4x2048x8x384_d3)
      shapeCasts_S4x2048x8x384_S4x2048x3072) bitsLt_bf16_f32
/-- The result's gradient, its heads side by side. -/
def hO : Vec F S4x2048x1024 .bf16 :=
  truncf .bf16 (shapeCast S4x2048x1024 o shapeCasts_S4x2048x16x64_S4x2048x1024) bitsLt_bf16_f32
/-- The decay, the same in each of a head's lanes. -/
def hCx : Vec F S4x2048x1024 .f32 :=
  shapeCast S4x2048x1024 (broadcastInDim S4x2048x16x64 ![0, 1, 2, 3] bcast_S4x2048x16x1_S4x2048x16x64_0_1_2_3
    (broadcastInDim S4x2048x16x1 ![0, 1, 2] bcast_S4x2048x16_S4x2048x16x1_0_1_2 c)) shapeCasts_S4x2048x16x64_S4x2048x1024

end

section

variable (m : (ℓ : Loc nD τ sig) → Buf (Elt Ideal) ℓ) (d : Dev nD)

/-- The kernel's arguments. -/
abbrev aq : Vec Ideal S4x2048x16x64 .f32 := m ((d : Thread nD τ).loc main_arg0)
abbrev ak : Vec Ideal S4x2048x16x64 .f32 := m ((d : Thread nD τ).loc main_arg1)
abbrev av : Vec Ideal S4x2048x16x64 .f32 := m ((d : Thread nD τ).loc main_arg2)
abbrev ac : Vec Ideal S4x2048x16 .f32 := m ((d : Thread nD τ).loc main_arg3)
abbrev ao : Vec Ideal S4x2048x16x64 .f32 := m ((d : Thread nD τ).loc main_arg4)

set_option maxRecDepth 16384

theorem join_congr {a b c a' b' c' : Vec Ideal S4x2048x8x128 .f32} (ha : a = a') (hb : b = b') (hc : c = c') :
    (concatenate S4x2048x8x384 3 [⟨S4x2048x8x128, a⟩, ⟨S4x2048x8x128, b⟩, ⟨S4x2048x8x128, c⟩]
        concatenates_S4x2048x8x128_S4x2048x8x128_S4x2048x8x128_S4x2048x8x384_d3 : Vec Ideal S4x2048x8x384 .f32)
      = concatenate S4x2048x8x384 3 [⟨S4x2048x8x128, a'⟩, ⟨S4x2048x8x128, b'⟩, ⟨S4x2048x8x128, c'⟩]
        concatenates_S4x2048x8x128_S4x2048x8x128_S4x2048x8x128_S4x2048x8x384_d3 := by
  subst ha hb hc; rfl

/-- The three operands of the join, as the join reads them. -/
theorem V33 : (StableHlo.upto (List.flatten [hostOps0, hostOps0_1, hostOps0_2]) (fun b => m (d, b)) 43 (Proc.devRef .tc main_v33)
    : Vec Ideal S4x2048x8x128 .f32) = shapeCast S4x2048x8x128 (aq m d) shapeCasts_S4x2048x16x64_S4x2048x8x128 := by
  after_reads_simp
  clean_types
  rfl
theorem V34 : (StableHlo.upto (List.flatten [hostOps0, hostOps0_1, hostOps0_2]) (fun b => m (d, b)) 43 (Proc.devRef .tc main_v34)
    : Vec Ideal S4x2048x8x128 .f32) = shapeCast S4x2048x8x128 (ak m d) shapeCasts_S4x2048x16x64_S4x2048x8x128 := by
  after_reads_simp
  clean_types
  rfl
theorem V35 : (StableHlo.upto (List.flatten [hostOps0, hostOps0_1, hostOps0_2]) (fun b => m (d, b)) 43 (Proc.devRef .tc main_v35)
    : Vec Ideal S4x2048x8x128 .f32) = shapeCast S4x2048x8x128 (av m d) shapeCasts_S4x2048x16x64_S4x2048x8x128 := by
  after_reads_simp
  clean_types
  rfl

theorem V38 : V m d main_v38 = hQKV (F := Ideal) (aq m d) (ak m d) (av m d) := by
  unfold V
  after_reads_simp
  simp only [Matrix.cons_val_zero, Matrix.cons_val_one, Matrix.cons_val]
  exact congrArg (fun x => truncf (F := Ideal) .bf16 (shapeCast S4x2048x3072 x shapeCasts_S4x2048x8x384_S4x2048x3072) bitsLt_bf16_f32)
    (join_congr (V33 m d) (V34 m d) (V35 m d))
theorem V43 : V m d main_v43 = hO (F := Ideal) (ao m d) := by
  unfold V
  after_reads_simp
  clean_types
  rfl
theorem V41 : V m d main_v41 = hCx (F := Ideal) (ac m d) := by
  unfold V
  after_reads_simp
  clean_types
  rfl
theorem V46 : V m d main_v46 = shapeCast S4x8x2x4x512 (hC (F := Ideal) (ac m d)) shapeCasts_S4x16x2048_S4x8x2x4x512 := by
  unfold V
  after_reads_simp
  clean_types
  rfl
theorem V45 : V m d main_v45
    = shapeCast S4x8x2x4x512 (hL (F := Ideal) (hS (F := Ideal) (aq m d) (ak m d) (ac m d))) shapeCasts_S4x16x2048_S4x8x2x4x512 := by
  unfold V
  after_reads_simp
  simp -implicitDefEqProofs only [StableHlo.TRef.toBuf, StableHlo.TRef.ofBuf, cast_cast, cast_eq]
  clean_types
  simp only [id_eq, hL, hZ, hE, hM, hS, hMask, hC]
  rfl
theorem V44 : V m d main_v44
    = shapeCast S4x2048x1024 (hY (F := Ideal) (av m d) (hS (F := Ideal) (aq m d) (ak m d) (ac m d))) shapeCasts_S4x2048x16x64_S4x2048x1024 := by
  unfold V
  after_reads_simp
  simp -implicitDefEqProofs only [StableHlo.TRef.toBuf, StableHlo.TRef.ofBuf, cast_cast, cast_eq]
  clean_types
  simp only [id_eq, hY, hZ, hE, hM, hS, hMask, hC]
  rfl

end

/-! ## At an index -/

theorem cast_last (x : Vec Ideal S4x16x2048x1 .f32) (hc) (b : Fin 4) (h : Fin 16) (t : Fin 2048) :
    shapeCast S4x16x2048 x hc (ix3 b h t) = x (ix4 b h t 0) :=
  shapeCast_apply _ _ _ (ix4 b h t 0) (by
    rw [Shape.rowMajor_val_four, Shape.rowMajor_val_three]
    show ((b.val * 16 + h.val) * 2048 + t.val) * 1 + 0 = (b.val * 16 + h.val) * 2048 + t.val
    omega)

theorem addlog_at (x z : Vec Ideal S4x16x2048x1 .f32) (i : S4x16x2048x1.Idx) :
    addf (F := Ideal) (φ := .f32) x (Host.log (F := Ideal) (φ := .f32) z) i = x i + Ideal.log (z i) := rfl

/-- The five arguments hold those numbers. -/
structure Args.Of (A : Args) (q k v : Vec Ideal S4x2048x16x64 .f32) (c : Vec Ideal S4x2048x16 .f32) (o : Vec Ideal S4x2048x16x64 .f32) :
    Prop where
  hq : ∀ b t h d, q (ix4 b t h d) = ((A.Q b t h d : ℝ) : EReal)
  hk : ∀ b t h d, k (ix4 b t h d) = ((A.K b t h d : ℝ) : EReal)
  hv : ∀ b t h d, v (ix4 b t h d) = ((A.W b t h d : ℝ) : EReal)
  hc : ∀ b t h, c (ix3 b t h) = ((A.C b t h : ℝ) : EReal)
  ho : ∀ b t h d, o (ix4 b t h d) = ((A.O b t h d : ℝ) : EReal)

theorem mask_at (t j : Fin 2048) (x y : EReal) :
    Scalar.select (IntOp.cmpi .sge (BitVec.ofNat 32 t.val) (BitVec.ofNat 32 j.val)) x y = if j.val ≤ t.val then x else y :=
  sel_sge _ (by have := t.2; omega) (by have := j.2; omega) _ _

theorem bits_eighth : (Ideal.ofBits .f32 0x3E000000#32 : EReal) = ((1 / 8 : ℝ) : EReal) := by
  simp [Ideal.ofBits, Ideal.ieee, -EReal.coe_mul]; norm_num

section

variable {A : Args} {q k v : Vec Ideal S4x2048x16x64 .f32} {c : Vec Ideal S4x2048x16 .f32} {o : Vec Ideal S4x2048x16x64 .f32}
  (H : A.Of q k v c o)
include H

theorem hS_at (b : Fin 4) (h : Fin 16) (t j : Fin 2048) :
    hS (F := Ideal) q k c (ix4 b h t j) = if j.val ≤ t.val then ((A.sc b h t j : ℝ) : EReal) else ⊥ := by
  pointwise [hS, hMask, hC]
  rw [mask_at, ofBits_neg_inf, bits_eighth, H.hc, H.hc, sum_coe fun d => mul_coe (H.hq b t h d) (H.hk b j h d),
    sub_coe (add_coe (mul_coe rfl rfl) rfl) rfl]
  rfl

theorem soft_at (b : Fin 4) (h : Fin 16) (t : Fin 2048) : ∃ M : ℝ,
    hM (F := Ideal) (hS (F := Ideal) q k c) (ix4 b h t 0) = ((M : ℝ) : EReal) ∧
    (∀ j, hE (F := Ideal) (hS (F := Ideal) q k c) (ix4 b h t j) = ((A.w b h t j * Real.exp (-M) : ℝ) : EReal)) ∧
    hZ (F := Ideal) (hS (F := Ideal) q k c) (ix4 b h t 0) = ((A.Z b h t * Real.exp (-M) : ℝ) : EReal) := by
  obtain ⟨M, hM'⟩ := max_real (s := fun j => hS (F := Ideal) q k c (ix4 b h t j)) (hS_at H b h t)
  have h1 : hM (F := Ideal) (hS (F := Ideal) q k c) (ix4 b h t 0) = ((M : ℝ) : EReal) := by
    generalize hS (F := Ideal) q k c = s at hM' ⊢
    pointwise [hM]
    rw [ofBits_neg_inf, hM']
  have h2 : ∀ j, hE (F := Ideal) (hS (F := Ideal) q k c) (ix4 b h t j) = ((A.w b h t j * Real.exp (-M) : ℝ) : EReal) := by
    intro j
    have h3 := exp_row (s := fun j => hS (F := Ideal) q k c (ix4 b h t j)) (hS_at H b h t) M j
    generalize hS (F := Ideal) q k c = s at h1 h3 ⊢
    pointwise [hE]
    rw [h1]; exact h3
  refine ⟨M, h1, h2, ?_⟩
  rw [← sum_row A b h t M]
  generalize hS (F := Ideal) q k c = s at h2 ⊢
  pointwise [hZ]
  exact sum_coe h2

theorem hL_at (b : Fin 4) (h : Fin 16) (t : Fin 2048) :
    hL (F := Ideal) (hS (F := Ideal) q k c) (ix3 b h t) = ((Real.log (A.Z b h t) : ℝ) : EReal) := by
  obtain ⟨M, h1, -, h3⟩ := soft_at H b h t
  unfold hL
  generalize hM (F := Ideal) (hS (F := Ideal) q k c) = x at h1 ⊢
  generalize hZ (F := Ideal) (hS (F := Ideal) q k c) = z at h3 ⊢
  rw [cast_last, addlog_at, h1, h3, log_row]

theorem hY_at (b : Fin 4) (h : Fin 16) (t : Fin 2048) (d : Fin 64) :
    hY (F := Ideal) v (hS (F := Ideal) q k c) (ix4 b t h d) = ((A.y b h t d : ℝ) : EReal) := by
  obtain ⟨M, -, h2, h3⟩ := soft_at H b h t
  generalize hS (F := Ideal) q k c = s at h2 h3 ⊢
  pointwise [hY]
  rw [h3]
  exact sum_coe fun j => mul_coe (H.hv b j h d) (by rw [h2 j, div_row])

end

end Cert.AttnBwd
-- ==== Proof.Attn.Ref.lean ====
/- The reference's stages at an index: its results are the gradient of forgetting attention. -/
module

public import proofs.«01_k».proof.Proof.Attn.Host
public import proofs.«01_k».proof.Proof.Gen.ReferenceIdeal.Read

@[expose] public section

noncomputable section

namespace Cert.AttnBwd.Ref

open Idealize.ShloMosaic Cert.ReferenceIdeal Cert.ReferenceIdeal.Gen Cert.ReferenceIdeal.Read

theorem bits_one : (Ideal.ofBits .f32 0x3F800000#32 : EReal) = ((1 : ℝ) : EReal) := by
  simp [Ideal.ofBits, Ideal.ieee, -EReal.coe_mul]
  norm_num
theorem bits_zero : (Ideal.ofBits .f32 0x00000000#32 : EReal) = ((0 : ℝ) : EReal) := by
  simp [Ideal.ofBits, Ideal.ieee]
theorem neg_coe {a : EReal} {x : ℝ} (ha : a = x) : -a = ((-x : ℝ) : EReal) := by rw [ha, EReal.coe_neg]
theorem quot_coe {a b : EReal} {x y : ℝ} (ha : a = x) (hb : b = y) (hy : y ≠ 0) : Ideal.div a b = ((x / y : ℝ) : EReal) := by
  rw [ha, hb, Ideal.div_coe hy, ← EReal.coe_mul]; congr 1; ring

variable {A : Args} {q k v : Vec Ideal S4x2048x16x64 .f32} {c : Vec Ideal S4x2048x16 .f32} {o : Vec Ideal S4x2048x16x64 .f32}
  (H : A.Of q k v c o)
include H

theorem score_at (b : Fin 4) (h : Fin 16) (t j : Fin 2048) :
    val_main_v18_0 (F := Ideal) q k c (ix4 b h t j) = if j.val ≤ t.val then ((A.sc b h t j : ℝ) : EReal) else ⊥ := by
  pointwise [val_main_v18_0, val_main_v18_1, val_main_v17, val_main_v16, val_main_v15, val_main_v14, val_main_v13, val_main_v12, val_main_v11,
    val_main_v10, val_main_v9, val_main_v8, val_main_v7, val_main_v6, val_main_v5, val_main_v4, val_main_v3, val_main_v2, val_main_v1,
    val_main_v0, val_main_cst, val_main_cst_0, val_main_call0_v2, val_main_call0_v0, id_eq]
  rw [mask_at, ofBits_neg_inf, bits_eighth, H.hc, H.hc, sum_coe fun d => mul_coe (H.hq b t h d) (H.hk b j h d),
    sub_coe (add_coe (mul_coe rfl rfl) rfl) rfl]
  rfl

theorem max_at (b : Fin 4) (h : Fin 16) (t : Fin 2048) : ∃ M : ℝ, val_main_v26 (F := Ideal) q k c (ix3 b h t) = ((M : ℝ) : EReal) := by
  obtain ⟨M, hM'⟩ := max_real (s := fun j => val_main_v18_0 (F := Ideal) q k c (ix4 b h t j)) (score_at H b h t)
  refine ⟨M, ?_⟩
  rw [val_main_v26_apply, val_main_v25_apply, val_main_cst_3_apply]
  unfold val_main_v19
  generalize val_main_v18_0 (F := Ideal) q k c = s at hM' ⊢
  pointwise [val_main_cst_1]
  rw [ofBits_neg_inf, hM']
  exact max_eq_right bot_le

omit H in
theorem e_at {M : ℝ} (b : Fin 4) (h : Fin 16) (t : Fin 2048) (hM : val_main_v26 (F := Ideal) q k c (ix3 b h t) = ((M : ℝ) : EReal)) (j : Fin 2048) :
    val_main_v39 (F := Ideal) q k c (ix4 b h t j) = Ideal.exp (val_main_v18_0 (F := Ideal) q k c (ix4 b h t j) - (M : EReal)) := by
  rw [val_main_v39_apply, val_main_v38_apply, ← hM]
  unfold val_main_v37 val_main_v36
  generalize val_main_v18_0 (F := Ideal) q k c = s
  generalize val_main_v26 (F := Ideal) q k c = x
  pointwise

omit H in
theorem z_at (b : Fin 4) (h : Fin 16) (t : Fin 2048) :
    val_main_v41 (F := Ideal) q k c (ix4 b h t 0) = ∑ j, val_main_v39 (F := Ideal) q k c (ix4 b h t j) := by
  unfold val_main_v41 val_main_v40
  generalize val_main_v39 (F := Ideal) q k c = s
  pointwise [val_main_cst_9]

theorem soft_at (b : Fin 4) (h : Fin 16) (t : Fin 2048) : ∃ M : ℝ,
    (∀ j, val_main_v39 (F := Ideal) q k c (ix4 b h t j) = ((A.w b h t j * Real.exp (-M) : ℝ) : EReal)) ∧
    val_main_v41 (F := Ideal) q k c (ix4 b h t 0) = ((A.Z b h t * Real.exp (-M) : ℝ) : EReal) := by
  obtain ⟨M, hM⟩ := max_at H b h t
  have h2 : ∀ j, val_main_v39 (F := Ideal) q k c (ix4 b h t j) = ((A.w b h t j * Real.exp (-M) : ℝ) : EReal) := fun j =>
    (e_at b h t hM j).trans (exp_row (s := fun j => val_main_v18_0 (F := Ideal) q k c (ix4 b h t j)) (score_at H b h t) M j)
  exact ⟨M, h2, by rw [z_at, ← sum_row A b h t M]; exact sum_coe h2⟩

theorem p_at (b : Fin 4) (h : Fin 16) (t j : Fin 2048) :
    val_main_v43 (F := Ideal) q k c (ix4 b h t j) = ((A.p b h t j : ℝ) : EReal) := by
  obtain ⟨M, h2, h3⟩ := soft_at H b h t
  unfold val_main_v43 val_main_v42
  generalize val_main_v39 (F := Ideal) q k c = s at h2 ⊢
  generalize val_main_v41 (F := Ideal) q k c = z at h3 ⊢
  pointwise
  rw [h2, h3, div_row]

theorem dp_at (b : Fin 4) (h : Fin 16) (t j : Fin 2048) :
    val_main_v50 (F := Ideal) v o (ix4 b h t j) = ((A.dp b h t j : ℝ) : EReal) := by
  pointwise [val_main_v50, val_main_v49]
  exact sum_coe fun d => mul_coe (H.ho b t h d) (H.hv b j h d)

theorem dv_at (b : Fin 4) (h : Fin 16) (j : Fin 2048) (d : Fin 64) :
    val_main_v52 (F := Ideal) q k c o (ix4 b j h d) = ((A.dv b h j d : ℝ) : EReal) := by
  have hp := fun t => p_at H b h t j
  unfold val_main_v52 val_main_v51
  generalize val_main_v43 (F := Ideal) q k c = s at hp ⊢
  pointwise [val_main_v49]
  refine (sum_coe fun t => mul_coe (H.ho b t h d) (hp t)).trans ?_
  rw [Args.dv]
  exact congrArg _ (Finset.sum_congr rfl fun t _ => mul_comm _ _)

/-! ## The scores' gradient -/

omit H in
theorem cast_col (x : Vec Ideal S4x16x2048 .f32) (hc) (b : Fin 4) (h : Fin 16) (t : Fin 2048) :
    shapeCast S4x16x2048x1 x hc (ix4 b h t 0) = x (ix3 b h t) :=
  shapeCast_apply _ _ _ (ix3 b h t) (by
    rw [Shape.rowMajor_val_four, Shape.rowMajor_val_three]
    show (b.val * 16 + h.val) * 2048 + t.val = ((b.val * 16 + h.val) * 2048 + t.val) * 1 + 0
    omega)
omit H in
theorem cast_mid (x : Vec Ideal S4x16x2048 .f32) (hc) (b : Fin 4) (h : Fin 16) (t : Fin 2048) :
    shapeCast S4x16x1x2048 x hc (ix4 b h 0 t) = x (ix3 b h t) :=
  shapeCast_apply _ _ _ (ix3 b h t) (by
    rw [Shape.rowMajor_val_four, Shape.rowMajor_val_three]
    show (b.val * 16 + h.val) * 2048 + t.val = ((b.val * 16 + h.val) * 1 + 0) * 2048 + t.val
    omega)

omit H in
theorem sq_at (b : Fin 4) (h : Fin 16) (t : Fin 2048) : val_main_v46 (F := Ideal) q k c (ix4 b h t 0)
    = Ideal.div ((1 : ℝ) : EReal) (val_main_v41 (F := Ideal) q k c (ix4 b h t 0) * val_main_v41 (F := Ideal) q k c (ix4 b h t 0)) := by
  rw [val_main_v46_apply, val_main_v44_apply, val_main_v45_apply, val_main_cst_10_apply, ← bits_one]
  rfl

omit H in
theorem mean_at (b : Fin 4) (h : Fin 16) (t : Fin 2048) : val_main_v56 (F := Ideal) q k v c o (ix3 b h t)
    = ∑ j, val_main_v50 (F := Ideal) v o (ix4 b h t j) * val_main_v46 (F := Ideal) q k c (ix4 b h t 0)
        * val_main_v39 (F := Ideal) q k c (ix4 b h t j) := by
  unfold val_main_v56 val_main_v55 val_main_v54 val_main_v53
  generalize val_main_v39 (F := Ideal) q k c = s
  generalize val_main_v46 (F := Ideal) q k c = z
  generalize val_main_v50 (F := Ideal) v o = y
  pointwise [val_main_cst_11]

omit H in
theorem neg_mean_at (b : Fin 4) (h : Fin 16) (t : Fin 2048) : val_main_v61 (F := Ideal) q k v c o (ix3 b h t)
    = -val_main_v56 (F := Ideal) q k v c o (ix3 b h t) := by
  have e : val_main_v58 (F := Ideal) q k v c o (ix4 b h t 0) = -val_main_v56 (F := Ideal) q k v c o (ix3 b h t) := by
    rw [val_main_v58_apply]
    unfold val_main_v57
    rw [cast_col]
    rfl
  rw [← e]
  unfold val_main_v61
  generalize val_main_v58 (F := Ideal) q k v c o = y
  pointwise [val_main_cst_12]
  exact Fin.sum_univ_one _

omit H in
theorem raw_at (b : Fin 4) (h : Fin 16) (t j : Fin 2048) : val_main_v65 (F := Ideal) q k v c o (ix4 b h t j)
    = if j.val ≤ t.val then (Ideal.div (val_main_v50 (F := Ideal) v o (ix4 b h t j)) (val_main_v41 (F := Ideal) q k c (ix4 b h t 0))
        + val_main_v61 (F := Ideal) q k v c o (ix3 b h t)) * val_main_v39 (F := Ideal) q k c (ix4 b h t j) else 0 := by
  unfold val_main_v65 val_main_v64 val_main_v63 val_main_v62 val_main_v60 val_main_v59
  generalize val_main_v39 (F := Ideal) q k c = s
  generalize val_main_v41 (F := Ideal) q k c = z
  generalize val_main_v50 (F := Ideal) v o = y
  generalize val_main_v61 (F := Ideal) q k v c o = x
  pointwise [val_main_v18_1, val_main_v17, val_main_v16, val_main_v15, val_main_v14, val_main_v13, val_main_v12, val_main_v11,
    val_main_v10, val_main_call1_v0, val_main_call1_cst]
  rw [mask_at]

omit H in
theorem real_g (A : Args) (b : Fin 4) (h : Fin 16) (t j : Fin 2048) (E : ℝ) (hE : 0 < E) :
    (A.dp b h t j / (A.Z b h t * E) + -∑ i, A.dp b h t i * (1 / (A.Z b h t * E * (A.Z b h t * E))) * (A.w b h t i * E)) * (A.w b h t j * E)
      = A.g b h t j := by
  have hz := (A.Z_pos b h t).ne'
  have he := hE.ne'
  have hs : ∑ i, A.dp b h t i * (1 / (A.Z b h t * E * (A.Z b h t * E))) * (A.w b h t i * E) = A.D b h t / (A.Z b h t * E) := by
    rw [Args.D, Finset.sum_div]
    refine Finset.sum_congr rfl fun i _ => ?_
    rw [Args.p]
    field_simp
  rw [hs, Args.g, Args.p]
  field_simp
  ring

theorem g_at (b : Fin 4) (h : Fin 16) (t j : Fin 2048) :
    val_main_v65 (F := Ideal) q k v c o (ix4 b h t j) = ((A.g b h t j : ℝ) : EReal) := by
  obtain ⟨M, h2, h3⟩ := soft_at H b h t
  have hE := Real.exp_pos (-M)
  have hT : A.Z b h t * Real.exp (-M) ≠ 0 := (mul_pos (A.Z_pos b h t) hE).ne'
  have hq : val_main_v46 (F := Ideal) q k c (ix4 b h t 0) = _ := (sq_at b h t).trans (quot_coe rfl (mul_coe h3 h3) (mul_ne_zero hT hT))
  have hm : val_main_v56 (F := Ideal) q k v c o (ix3 b h t) = _ :=
    (mean_at b h t).trans (sum_coe fun j => mul_coe (mul_coe (dp_at H b h t j) hq) (h2 j))
  rw [raw_at]
  by_cases hj : j.val ≤ t.val
  · rw [if_pos hj, neg_mean_at, mul_coe (add_coe (quot_coe (dp_at H b h t j) h3 hT) (neg_coe hm)) (h2 j), real_g A b h t j _ hE]
  · rw [if_neg hj, Args.g, Args.p, Args.w, if_neg hj, zero_div, zero_mul]
    rfl

/-! ## The gradients -/

omit H in
theorem scaled_at (b : Fin 4) (h : Fin 16) (t j : Fin 2048) : val_main_v75 (F := Ideal) q k v c o (ix4 b h t j)
    = val_main_v65 (F := Ideal) q k v c o (ix4 b h t j) * ((1 / 8 : ℝ) : EReal) := by
  rw [val_main_v75_apply, val_main_v74_apply, val_main_cst_17_apply, ← bits_eighth]
  rfl

theorem dk_at (b : Fin 4) (h : Fin 16) (j : Fin 2048) (d : Fin 64) :
    val_main_v77 (F := Ideal) q k v c o (ix4 b j h d) = ((A.dk b h j d : ℝ) : EReal) := by
  have hg := fun t => (scaled_at (q := q) (k := k) (v := v) (c := c) (o := o) b h t j).trans (mul_coe (g_at H b h t j) rfl)
  unfold val_main_v77 val_main_v76
  generalize val_main_v75 (F := Ideal) q k v c o = s at hg ⊢
  pointwise
  refine (sum_coe fun t => mul_coe (hg t) (H.hq b t h d)).trans ?_
  rw [Args.dk, Finset.sum_mul]
  exact congrArg _ (Finset.sum_congr rfl fun t _ => by ring)

theorem dq_at (b : Fin 4) (h : Fin 16) (t : Fin 2048) (d : Fin 64) :
    val_main_v79 (F := Ideal) q k v c o (ix4 b t h d) = ((A.dq b h t d : ℝ) : EReal) := by
  have hg := fun j => (scaled_at (q := q) (k := k) (v := v) (c := c) (o := o) b h t j).trans (mul_coe (g_at H b h t j) rfl)
  unfold val_main_v79 val_main_v78
  generalize val_main_v75 (F := Ideal) q k v c o = s at hg ⊢
  pointwise
  refine (sum_coe fun j => mul_coe (hg j) (H.hk b j h d)).trans ?_
  rw [Args.dq, Finset.sum_mul]
  exact congrArg _ (Finset.sum_congr rfl fun t _ => by ring)

theorem dc_at (b : Fin 4) (h : Fin 16) (t : Fin 2048) :
    val_main_v80 (F := Ideal) q k v c o (ix3 b t h) = ((A.dc b h t : ℝ) : EReal) := by
  have h1 : val_main_v67 (F := Ideal) q k v c o (ix3 b h t) = ((∑ i, -A.g b h i t : ℝ) : EReal) := by
    have hn := fun i => (val_main_v66_apply (F := Ideal) q k v c o (ix4 b h i t)).trans (neg_coe (g_at H b h i t))
    unfold val_main_v67
    generalize val_main_v66 (F := Ideal) q k v c o = s at hn ⊢
    pointwise [val_main_cst_13]
    exact sum_coe hn
  have h2 : val_main_v70 (F := Ideal) q k v c o (ix3 b h t) = ((∑ j, A.g b h t j : ℝ) : EReal) := by
    have hn := fun j => g_at H b h t j
    unfold val_main_v70
    generalize val_main_v65 (F := Ideal) q k v c o = s at hn ⊢
    pointwise [val_main_cst_15]
    exact sum_coe hn
  have h3 : val_main_v69 (F := Ideal) q k v c o (ix3 b h t) = ((∑ i, -A.g b h i t : ℝ) : EReal) := by
    have hn : val_main_v68 (F := Ideal) q k v c o (ix4 b h 0 t) = ((∑ i, -A.g b h i t : ℝ) : EReal) := by
      unfold val_main_v68
      rw [cast_mid, h1]
    rw [← hn]
    unfold val_main_v69
    generalize val_main_v68 (F := Ideal) q k v c o = s
    pointwise [val_main_cst_14]
    exact Fin.sum_univ_one _
  have h4 : val_main_v72 (F := Ideal) q k v c o (ix3 b h t) = ((∑ j, A.g b h t j : ℝ) : EReal) := by
    have hn : val_main_v71 (F := Ideal) q k v c o (ix4 b h t 0) = ((∑ j, A.g b h t j : ℝ) : EReal) := by
      unfold val_main_v71
      rw [cast_col, h2]
    rw [← hn]
    unfold val_main_v72
    generalize val_main_v71 (F := Ideal) q k v c o = s
    pointwise [val_main_cst_16]
    exact Fin.sum_univ_one _
  have h5 : val_main_v73 (F := Ideal) q k v c o (ix3 b h t) = ((A.dc b h t : ℝ) : EReal) := by
    rw [val_main_v73_apply]
    refine (add_coe h3 h4).trans (congrArg _ ?_)
    rw [Args.dc, Finset.sum_neg_distrib]
    ring
  rw [← h5]
  unfold val_main_v80
  generalize val_main_v73 (F := Ideal) q k v c o = s
  pointwise

end Cert.AttnBwd.Ref
-- ==== Proof.Attn.Tile.lean ====
/- The tile operations of the attention gradient, each a function of the blocks it reads: the augmented operands a
   head pair's rows and columns are stored as, the probabilities and score gradients of one tile, and what one tile adds to
   each accumulator. -/
module

public import proofs.«01_k».proof.Proof.Gen.KernelIdeal.Skeleton

@[expose] public section

noncomputable section

namespace Cert.AttnBwd

open Idealize.ShloMosaic Cert.KernelIdeal Cert.KernelIdeal.Gen

variable {F : FTy → Type} [FloatOps F] [Named F]

/-! ## Masks -/

/-- The lanes of a row vector. -/
def lanes : IVec S1x128 32 := iota .tc S1x128 32 [1] iota_S1x128_d1_w32
/-- The sublanes of a column vector. -/
def subs : IVec S128x1 32 := iota .tc S128x1 32 [0] iota_S128x1_d0_w32
/-- The lanes of the first head of a pair. -/
def lo : IVec S1x128 1 := cmpi .slt lanes (broadcast S1x128 64#32)
/-- The lanes of the second head of a pair. -/
def hi : IVec S1x128 1 := cmpi .sge lanes (broadcast S1x128 64#32)
/-- The sublanes of the first head of a pair. -/
def loS : IVec S128x1 1 := cmpi .slt subs (broadcast S128x1 64#32)
/-- The sublanes of the second head of a pair. -/
def hiS : IVec S128x1 1 := cmpi .sge subs (broadcast S128x1 64#32)
/-- The lane `s`. -/
def lane (s : BitVec 32) : IVec S1x128 1 := cmpi .eq lanes (broadcast S1x128 s)
/-- The sublane `s`. -/
def subl (s : BitVec 32) : IVec S128x1 1 := cmpi .eq subs (broadcast S128x1 s)
/-- The entries of a diagonal tile a query attends to. -/
def causal : IVec S512x512 1 :=
  cmpi .sge (iota .tc S512x512 32 [0] iota_S512x512_d0_w32) (iota .tc S512x512 32 [1] iota_S512x512_d1_w32)

/-- A choice by lane. -/
def selL {e : FTy} (M : IVec S1x128 1) (a b : FVec F S512x128 e) : FVec F S512x128 e :=
  select (broadcastTo S512x128 (shapeCast S1x128 M shapeCasts_S1x128_S1x128) broadcasts_S1x128_S512x128) a b
/-- A choice by sublane. -/
def selS {e : FTy} (M : IVec S128x1 1) (a b : FVec F S128x512 e) : FVec F S128x512 e :=
  select (broadcastTo S128x512 (shapeCast S128x1 M shapeCasts_S128x1_S128x1) broadcasts_S128x1_S128x512) a b

/-- A column repeated along the lanes. -/
def bcL {e : FTy} (x : FVec F S512x1 e) : FVec F S512x128 e :=
  broadcastTo S512x128 (shapeCast S512x1 x shapeCasts_S512x1_S512x1) broadcasts_S512x1_S512x128
/-- A row repeated along the sublanes. -/
def bcS {e : FTy} (x : FVec F S1x512 e) : FVec F S128x512 e :=
  broadcastTo S128x512 (shapeCast S1x512 x shapeCasts_S1x512_S1x512) broadcasts_S1x512_S128x512

/-- Zero, one and the scale. -/
def zL : FVec F S512x128 .f32 := broadcast S512x128 (FloatOps.ofBits .f32 0#32)
def zS : FVec F S128x512 .f32 := broadcast S128x512 (FloatOps.ofBits .f32 0#32)
def zLb : FVec F S512x128 .bf16 := broadcast S512x128 (FloatOps.ofBits .bf16 0#16)
def zSb : FVec F S128x512 .bf16 := broadcast S128x512 (FloatOps.ofBits .bf16 0#16)
def oneLb : FVec F S512x128 .bf16 := broadcast S512x128 (FloatOps.ofBits .bf16 16256#16)
def oneSb : FVec F S128x512 .bf16 := broadcast S128x512 (FloatOps.ofBits .bf16 16256#16)

/-! ## A number in three parts -/

def part1 {s : Shape} (x : FVec F s .f32) : FVec F s .bf16 := truncf .bf16 x bitsLt_bf16_f32
def rest1 {s : Shape} (x : FVec F s .f32) : FVec F s .f32 := subf x (extf .f32 (part1 x) bitsLt_bf16_f32)
def part2 {s : Shape} (x : FVec F s .f32) : FVec F s .bf16 := truncf .bf16 (rest1 x) bitsLt_bf16_f32
def rest2 {s : Shape} (x : FVec F s .f32) : FVec F s .f32 := subf (rest1 x) (extf .f32 (part2 x) bitsLt_bf16_f32)
def part3 {s : Shape} (x : FVec F s .f32) : FVec F s .bf16 := truncf .bf16 (rest2 x) bitsLt_bf16_f32

/-! ## The operands of a tile -/

/-- The queries, scaled. -/
def qs (q : Vec F S1x512x128 .bf16) : FVec F S512x128 .bf16 :=
  mulf (shapeCast S512x128 q shapeCasts_S1x512x128_S512x128) (broadcast S512x128 (FloatOps.ofBits .bf16 15872#16))
/-- A tile with rows and lanes exchanged. -/
def tr (x : FVec F S512x128 .bf16) : FVec F S128x512 .bf16 :=
  truncf .bf16 (transpose S128x512 [1, 0] (extf .f32 x bitsLt_bf16_f32) transposes_S512x128_p1_0_S128x512) bitsLt_bf16_f32
/-- The two heads' log-sums as columns. -/
def lseC (l0 l1 : Vec F S1x1x1x1x512 .f32) : FVec F S512x128 .f32 :=
  transpose S512x128 [1, 0]
    (selS (subl 0#32) (bcS (shapeCast S1x512 l0 shapeCasts_S1x1x1x1x512_S1x512))
      (selS (subl 1#32) (bcS (shapeCast S1x512 l1 shapeCasts_S1x1x1x1x512_S1x512)) zS)) transposes_S128x512_p1_0_S512x128
def bias0 (cq : Vec F S1x512x128 .f32) (l0 l1 : Vec F S1x1x1x1x512 .f32) : FVec F S512x1 .f32 :=
  subf (extractStridedSlice S512x1 ![0, 0] (shapeCast S512x128 cq shapeCasts_S1x512x128_S512x128) slices_S512x128_o0_0_S512x1)
    (extractStridedSlice S512x1 ![0, 0] (lseC l0 l1) slices_S512x128_o0_0_S512x1)
def bias1 (cq : Vec F S1x512x128 .f32) (l0 l1 : Vec F S1x1x1x1x512 .f32) : FVec F S512x1 .f32 :=
  subf (extractStridedSlice S512x1 ![0, 64] (shapeCast S512x128 cq shapeCasts_S1x512x128_S512x128) slices_S512x128_o0_64_S512x1)
    (extractStridedSlice S512x1 ![0, 1] (lseC l0 l1) slices_S512x128_o0_1_S512x1)
/-- Minus the row sums of `y · do` over the lanes `M`. -/
def ndsum (M : IVec S1x128 1) (y : Vec F S1x512x128 .f32) (d : Vec F S1x512x128 .bf16) : FVec F S512x1 .f32 :=
  subf (broadcast S512x1 (FloatOps.ofBits .f32 0#32))
    (shapeCast S512x1 (multiReduction .add [1] S512
      (selL M (mulf (shapeCast S512x128 y shapeCasts_S1x512x128_S512x128)
        (extf .f32 (shapeCast S512x128 d shapeCasts_S1x512x128_S512x128) bitsLt_bf16_f32)) zL)
      0#32 reduces_S512x128_S512 (.inl rfl) rfl) shapeCasts_S512_S512x1)

/-- A row operand: its own lanes, then the three parts of a bias in three spare lanes. -/
def rows3 (M : IVec S1x128 1) (s0 s1 s2 : BitVec 32) (x : FVec F S512x128 .bf16) (b : FVec F S512x1 .f32) :
    FVec F S512x128 .bf16 :=
  selL (lane s2) (bcL (part3 b)) (selL (lane s1) (bcL (part2 b)) (selL (lane s0) (bcL (part1 b)) (selL M x zLb)))
/-- … and ones in three more. -/
def rows6 (M : IVec S1x128 1) (s0 s1 s2 s3 s4 s5 : BitVec 32) (x : FVec F S512x128 .bf16) (b : FVec F S512x1 .f32) :
    FVec F S512x128 .bf16 :=
  selL (lane s5) oneLb (selL (lane s4) oneLb (selL (lane s3) oneLb (rows3 M s0 s1 s2 x b)))
/-- A column operand: its own sublanes, then ones in three spare sublanes. -/
def cols3 (M : IVec S128x1 1) (s0 s1 s2 : BitVec 32) (x : FVec F S128x512 .bf16) : FVec F S128x512 .bf16 :=
  selS (subl s2) oneSb (selS (subl s1) oneSb (selS (subl s0) oneSb (selS M x zSb)))
/-- … and the three parts of a bias in three more. -/
def cols6 (M : IVec S128x1 1) (s0 s1 s2 s3 s4 s5 : BitVec 32) (x : FVec F S128x512 .bf16) (b : FVec F S1x512 .f32) :
    FVec F S128x512 .bf16 :=
  selS (subl s5) (bcS (part3 b)) (selS (subl s4) (bcS (part2 b)) (selS (subl s3) (bcS (part1 b)) (cols3 M s0 s1 s2 x)))
def nck (c : Vec F S1x1x1x1x512 .f32) : FVec F S1x512 .f32 :=
  subf (broadcast S1x512 (FloatOps.ofBits .f32 0#32)) (shapeCast S1x512 c shapeCasts_S1x1x1x1x512_S1x512)

def flat (x : Vec F S1x512x128 .bf16) : FVec F S512x128 .bf16 := shapeCast S512x128 x shapeCasts_S1x512x128_S512x128

def qa0 (q : Vec F S1x512x128 .bf16) (cq : Vec F S1x512x128 .f32) (l0 l1 : Vec F S1x1x1x1x512 .f32) : FVec F S1x1x512x128 .bf16 :=
  shapeCast S1x1x512x128 (rows6 lo 64#32 65#32 66#32 67#32 68#32 69#32 (qs q) (bias0 cq l0 l1)) shapeCasts_S512x128_S1x1x512x128
def qa1 (q : Vec F S1x512x128 .bf16) (cq : Vec F S1x512x128 .f32) (l0 l1 : Vec F S1x1x1x1x512 .f32) : FVec F S1x1x512x128 .bf16 :=
  shapeCast S1x1x512x128 (rows6 hi 0#32 1#32 2#32 3#32 4#32 5#32 (qs q) (bias1 cq l0 l1)) shapeCasts_S512x128_S1x1x512x128
def doa0 (d : Vec F S1x512x128 .bf16) (y : Vec F S1x512x128 .f32) : FVec F S1x1x512x128 .bf16 :=
  shapeCast S1x1x512x128 (rows3 lo 64#32 65#32 66#32 (flat d) (ndsum lo y d)) shapeCasts_S512x128_S1x1x512x128
def doa1 (d : Vec F S1x512x128 .bf16) (y : Vec F S1x512x128 .f32) : FVec F S1x1x512x128 .bf16 :=
  shapeCast S1x1x512x128 (rows3 hi 0#32 1#32 2#32 (flat d) (ndsum hi y d)) shapeCasts_S512x128_S1x1x512x128
def qst (M : IVec S128x1 1) (q : Vec F S1x512x128 .bf16) : FVec F S1x1x128x512 .bf16 :=
  shapeCast S1x1x128x512 (selS M (tr (qs q)) zSb) shapeCasts_S128x512_S1x1x128x512
def dot (M : IVec S128x1 1) (d : Vec F S1x512x128 .bf16) : FVec F S1x1x128x512 .bf16 :=
  shapeCast S1x1x128x512 (selS M (tr (flat d)) zSb) shapeCasts_S128x512_S1x1x128x512
def kt0 (k : Vec F S1x512x128 .bf16) (c : Vec F S1x1x1x1x512 .f32) : FVec F S1x1x128x512 .bf16 :=
  shapeCast S1x1x128x512 (cols6 loS 64#32 65#32 66#32 67#32 68#32 69#32 (tr (flat k)) (nck c)) shapeCasts_S128x512_S1x1x128x512
def kt1 (k : Vec F S1x512x128 .bf16) (c : Vec F S1x1x1x1x512 .f32) : FVec F S1x1x128x512 .bf16 :=
  shapeCast S1x1x128x512 (cols6 hiS 0#32 1#32 2#32 3#32 4#32 5#32 (tr (flat k)) (nck c)) shapeCasts_S128x512_S1x1x128x512
def vt0 (v : Vec F S1x512x128 .bf16) : FVec F S1x1x128x512 .bf16 :=
  shapeCast S1x1x128x512 (cols3 loS 64#32 65#32 66#32 (tr (flat v))) shapeCasts_S128x512_S1x1x128x512
def vt1 (v : Vec F S1x512x128 .bf16) : FVec F S1x1x128x512 .bf16 :=
  shapeCast S1x1x128x512 (cols3 hiS 0#32 1#32 2#32 (tr (flat v))) shapeCasts_S128x512_S1x1x128x512
/-- A head's keys. -/
def km (M : IVec S1x128 1) (k : Vec F S1x512x128 .bf16) : FVec F S512x128 .bf16 := selL M (flat k) zLb

/-! ## One tile -/

/-- The scores. -/
def sc (a : Vec F S1x1x512x128 .bf16) (k : Vec F S1x1x128x512 .bf16) : FVec F S512x512 .f32 :=
  matmul dot_S512x128_S128x512_S512x512_1_0_0_1_n_n none (shapeCast S512x128 a shapeCasts_S1x1x512x128_S512x128)
    (shapeCast S128x512 k shapeCasts_S1x1x128x512_S128x512) (constant S512x512 .f32 0#32)
/-- The probabilities below the diagonal. -/
def pO (a : Vec F S1x1x512x128 .bf16) (k : Vec F S1x1x128x512 .bf16) : FVec F S512x512 .f32 := exp (sc a k)
/-- The probabilities on the diagonal. -/
def pD (a : Vec F S1x1x512x128 .bf16) (k : Vec F S1x1x128x512 .bf16) : FVec F S512x512 .f32 :=
  exp (select causal (sc a k) (broadcast S512x512 (Named.named κ "mask" 0xF149F2CA#32)))
/-- The score gradients, from the probabilities. -/
def ds (p : FVec F S512x512 .f32) (d : Vec F S1x1x512x128 .bf16) (v : Vec F S1x1x128x512 .bf16) : FVec F S512x512 .f32 :=
  mulf p (sc d v)
/-- What a tile adds to the column sums, kept in eight partial sums. -/
def colAdd (acc : FVec F S8x512 .f32) (g : FVec F S512x512 .f32) : FVec F S8x512 .f32 :=
  addf acc (multiReduction .add [0] S8x512 (shapeCast S64x8x512 g shapeCasts_S512x512_S64x8x512) 0#32
    reduces_S64x8x512_S8x512 (.inl rfl) rfl)
/-- The row sums. -/
def rowSum (g : FVec F S512x512 .f32) : FVec F S512x1 .f32 :=
  shapeCast S512x1 (multiReduction .add [1] S512 g 0#32 reduces_S512x512_S512 (.inl rfl) rfl) shapeCasts_S512_S512x1
/-- What a tile adds to the queries' gradient. -/
def dqAdd (acc : FVec F S512x128 .f32) (g : FVec F S512x512 .f32) (k : FVec F S512x128 .bf16) : FVec F S512x128 .f32 :=
  addf acc (matmul dot_S512x512_S512x128_S512x128_1_0_0_1_n_n none (truncf .bf16 g bitsLt_bf16_f32) k (constant S512x128 .f32 0#32))
/-- What a tile adds to a transposed gradient (the keys' from the score gradients, the values' from the probabilities). -/
def tAdd (acc : FVec F S128x512 .f32) (x : Vec F S1x1x128x512 .bf16) (g : FVec F S512x512 .f32) : FVec F S128x512 .f32 :=
  addf acc (matmul dot_S128x512_S512x512_S128x512_1_0_0_1_n_n none (shapeCast S128x512 x shapeCasts_S1x1x128x512_S128x512)
    (truncf .bf16 g bitsLt_bf16_f32) (constant S128x512 .f32 0#32))
/-- The two heads' row sums in their lanes. -/
def rsT (g0 g1 : FVec F S512x512 .f32) : FVec F S512x128 .f32 :=
  selL (lane 0#32) (bcL (rowSum g0)) (selL (lane 1#32) (bcL (rowSum g1)) zL)
/-- An accumulator tile read, added to, and stored. -/
def acc3 (old : Vec F S1x512x128 .f32) (x : FVec F S512x128 .f32) : FVec F S1x512x128 .f32 :=
  shapeCast S1x512x128 (addf (shapeCast S512x128 old shapeCasts_S1x512x128_S512x128) x) shapeCasts_S512x128_S1x512x128
def z8 : FVec F S8x512 .f32 := broadcast S8x512 (FloatOps.ofBits .f32 0#32)
def z3 : FVec F S1x512x128 .f32 := shapeCast S1x512x128 zL shapeCasts_S512x128_S1x512x128

/-! ## The results -/

def dqOut (x : Vec F S1x512x128 .f32) : FVec F S512x128 .bf16 :=
  truncf .bf16 (mulf (shapeCast S512x128 x shapeCasts_S1x512x128_S512x128) (broadcast S512x128 (FloatOps.ofBits .f32 0x3E000000#32)))
    bitsLt_bf16_f32
def tOut (x : FVec F S128x512 .f32) : FVec F S512x128 .bf16 :=
  truncf .bf16 (transpose S512x128 [1, 0] x transposes_S128x512_p1_0_S512x128) bitsLt_bf16_f32
/-- Two columns of a tile, put in the pair's two lanes. -/
def put2 (w : BitVec 32) (a b : FVec F S512x1 .f32) : FVec F S512x128 .f32 :=
  addf (selL (lane (Scalar.muli 2#32 w)) (bcL a) zL) (selL (lane (Scalar.addi (Scalar.muli 2#32 w) 1#32)) (bcL b) zL)
def dcs (c0 c1 : FVec F S8x512 .f32) : FVec F S512x128 .f32 :=
  transpose S512x128 [1, 0]
    (selS (subl 0#32) (bcS (shapeCast S1x512 (multiReduction .add [0] S512 c0 0#32 reduces_S8x512_S512 (.inl rfl) rfl) shapeCasts_S512_S1x512))
      (selS (subl 1#32) (bcS (shapeCast S1x512 (multiReduction .add [0] S512 c1 0#32 reduces_S8x512_S512 (.inl rfl) rfl) shapeCasts_S512_S1x512)) zS))
    transposes_S128x512_p1_0_S512x128
/-- The column part of the decay's gradient. -/
def dcCol (w : BitVec 32) (old : Vec F S1x512x128 .f32) (c0 c1 : FVec F S8x512 .f32) : FVec F S1x512x128 .f32 :=
  acc3 old (put2 w
    (subf (broadcast S512x1 (FloatOps.ofBits .f32 0#32)) (extractStridedSlice S512x1 ![0, 0] (dcs c0 c1) slices_S512x128_o0_0_S512x1))
    (subf (broadcast S512x1 (FloatOps.ofBits .f32 0#32)) (extractStridedSlice S512x1 ![0, 1] (dcs c0 c1) slices_S512x128_o0_1_S512x1)))
/-- The row part of the decay's gradient. -/
def dcRow (w : BitVec 32) (old : Vec F S1x512x128 .f32) (rs : Vec F S1x512x128 .f32) : FVec F S1x512x128 .f32 :=
  acc3 old (put2 w
    (extractStridedSlice S512x1 ![0, 0] (shapeCast S512x128 rs shapeCasts_S1x512x128_S512x128) slices_S512x128_o0_0_S512x1)
    (extractStridedSlice S512x1 ![0, 1] (shapeCast S512x128 rs shapeCasts_S1x512x128_S512x128) slices_S512x128_o0_1_S512x1))

end Cert.AttnBwd

end
-- ==== Proof.Attn.Blocks.lean ====
/- The blocks a grid point of the attention gradient reads, cut into row tiles, and the results of a point as functions of
   them: which tiles each accumulator sums over, in the order the body takes them. -/
module

public import proofs.«01_k».proof.Proof.Attn.Tile
public import Idealize.ShloMosaic.Lib.WholeRead
public import Idealize.ShloMosaic.Lib.Pipeline.ReadBack

@[expose] public section

noncomputable section

namespace Cert.AttnBwd

open Idealize.ShloMosaic Cert.KernelIdeal Cert.KernelIdeal.Gen

variable {F : FTy → Type} [FloatOps F] [Named F]

/-! ## Row tiles of the input blocks -/

theorem inb384 (o : Fin 4) (l : Fin 3) :
    ∀ a : Fin 3, (![0, 512 * o.val, 128 * l.val] : Fin 3 → ℕ) a + S1x512x128.size a ≤ S1x2048x384.size a := by
  have ho := o.2; have hl := l.2
  intro a
  match a with
  | 0 => show 0 + 1 ≤ 1; omega
  | 1 => show 512 * o.val + 512 ≤ 2048; omega
  | 2 => show 128 * l.val + 128 ≤ 384; omega

theorem inb128 (o : Fin 4) :
    ∀ a : Fin 3, (![0, 512 * o.val, 0] : Fin 3 → ℕ) a + S1x512x128.size a ≤ S1x2048x128.size a := by
  have ho := o.2
  intro a
  match a with
  | 0 => show 0 + 1 ≤ 1; omega
  | 1 => show 512 * o.val + 512 ≤ 2048; omega
  | 2 => show 0 + 128 ≤ 128; omega

theorem inb5 (hh : Fin 2) (o : Fin 4) :
    ∀ a : Fin 5, (![0, 0, hh.val, o.val, 0] : Fin 5 → ℕ) a + S1x1x1x1x512.size a ≤ S1x1x2x4x512.size a := by
  have ho := o.2; have hl := hh.2
  intro a
  match a with
  | 0 => show 0 + 1 ≤ 1; omega
  | 1 => show 0 + 1 ≤ 1; omega
  | 2 => show hh.val + 1 ≤ 2; omega
  | 3 => show o.val + 1 ≤ 4; omega
  | 4 => show 0 + 512 ≤ 512; omega

/-- Row tile `o` of the queries (`l = 0`), keys (1) or values (2) of a head pair. -/
def ld384 (X : Vec F S1x2048x384 .bf16) (o : Fin 4) (l : Fin 3) : Vec F S1x512x128 .bf16 :=
  fun j => X ((Rect.unit (s := S1x2048x384) ![0, 512 * o.val, 128 * l.val] S1x512x128.size (inb384 o l)).toLoadRect.idx j)
/-- Row tile `o` of a block of 128 lanes. -/
def ld128 {e : EltTy} (X : Vec F S1x2048x128 e) (o : Fin 4) : Vec F S1x512x128 e :=
  fun j => X ((Rect.unit (s := S1x2048x128) ![0, 512 * o.val, 0] S1x512x128.size (inb128 o)).toLoadRect.idx j)
/-- Row `o` of head `hh` of a pair's rows. -/
def ld5 (X : Vec F S1x1x2x4x512 .f32) (hh : Fin 2) (o : Fin 4) : Vec F S1x1x1x1x512 .f32 :=
  fun j => X ((Rect.unit (s := S1x1x2x4x512) ![0, 0, hh.val, o.val, 0] S1x1x1x1x512.size (inb5 hh o)).toLoadRect.idx j)

theorem rd384 (arg : Memref sig .tc .vmem S1x2048x384 .bf16) (h : arg.IsWhole) (X : Vec F S1x2048x384 .bf16) (o : Fin 4) (l : Fin 3) :
    View.readAt (Elt F) arg.view (Rect.unit (s := S1x2048x384) ![0, 512 * o.val, 128 * l.val] S1x512x128.size (inb384 o l)).toLoadRect
      (h.unread X) = ld384 X o l := funext fun j => h.readAt_unread X _ j
theorem rd128 {e : EltTy} (arg : Memref sig .tc .vmem S1x2048x128 e) (h : arg.IsWhole) (X : Vec F S1x2048x128 e) (o : Fin 4) :
    View.readAt (Elt F) arg.view (Rect.unit (s := S1x2048x128) ![0, 512 * o.val, 0] S1x512x128.size (inb128 o)).toLoadRect
      (h.unread X) = ld128 X o := funext fun j => h.readAt_unread X _ j
theorem rd5 (arg : Memref sig .tc .vmem S1x1x2x4x512 .f32) (h : arg.IsWhole) (X : Vec F S1x1x2x4x512 .f32) (hh : Fin 2) (o : Fin 4) :
    View.readAt (Elt F) arg.view (Rect.unit (s := S1x1x2x4x512) ![0, 0, hh.val, o.val, 0] S1x1x1x1x512.size (inb5 hh o)).toLoadRect
      (h.unread X) = ld5 X hh o := funext fun j => h.readAt_unread X _ j

/-! ## The operand tiles of a head pair -/

/-- The operands of every tile, by head and row tile. -/
structure Tiles (F : FTy → Type) where
  qa : Fin 2 → Fin 4 → Vec F S1x1x512x128 .bf16
  doa : Fin 2 → Fin 4 → Vec F S1x1x512x128 .bf16
  qst : Fin 2 → Fin 4 → Vec F S1x1x128x512 .bf16
  dt : Fin 2 → Fin 4 → Vec F S1x1x128x512 .bf16
  kt : Fin 2 → Fin 4 → Vec F S1x1x128x512 .bf16
  vt : Fin 2 → Fin 4 → Vec F S1x1x128x512 .bf16
  km : Fin 2 → Fin 4 → FVec F S512x128 .bf16

/-- They, from the blocks of a grid point. -/
def tiles (x0 : Vec F S1x2048x384 .bf16) (x1 : Vec F S1x2048x128 .bf16) (x2 : Vec F S1x2048x128 .f32)
    (x3 x4 : Vec F S1x1x2x4x512 .f32) (x5 : Vec F S1x2048x128 .f32) : Tiles F where
  qa := ![fun o => qa0 (ld384 x0 o 0) (ld128 x5 o) (ld5 x3 0 o) (ld5 x3 1 o), fun o => qa1 (ld384 x0 o 0) (ld128 x5 o) (ld5 x3 0 o) (ld5 x3 1 o)]
  doa := ![fun o => doa0 (ld128 x1 o) (ld128 x2 o), fun o => doa1 (ld128 x1 o) (ld128 x2 o)]
  qst := ![fun o => qst loS (ld384 x0 o 0), fun o => qst hiS (ld384 x0 o 0)]
  dt := ![fun o => dot loS (ld128 x1 o), fun o => dot hiS (ld128 x1 o)]
  kt := ![fun o => kt0 (ld384 x0 o 1) (ld5 x4 0 o), fun o => kt1 (ld384 x0 o 1) (ld5 x4 1 o)]
  vt := ![fun o => vt0 (ld384 x0 o 2), fun o => vt1 (ld384 x0 o 2)]
  km := ![fun o => km lo (ld384 x0 o 1), fun o => km hi (ld384 x0 o 1)]

/-- A table by head and row tile, from its entries. -/
theorem table_eq {α : Type} {a b c d a' b' c' d' : α} {f : Fin 2 → Fin 4 → α} (h0 : a = f 0 0) (h1 : b = f 0 1) (h2 : c = f 0 2)
    (h3 : d = f 0 3) (h4 : a' = f 1 0) (h5 : b' = f 1 1) (h6 : c' = f 1 2) (h7 : d' = f 1 3) :
    ![![a, b, c, d], ![a', b', c', d']] = f := by
  subst h0 h1 h2 h3 h4 h5 h6 h7
  funext i j
  fin_cases i <;> fin_cases j <;> rfl

namespace Tiles

variable (T : Tiles F)

/-- The probabilities of tile `(i, j)` below the diagonal, of tile `(j, j)` on it, and the score gradients. -/
def PO (hh : Fin 2) (i j : Fin 4) : FVec F S512x512 .f32 := pO (T.qa hh i) (T.kt hh j)
def PD (hh : Fin 2) (j : Fin 4) : FVec F S512x512 .f32 := pD (T.qa hh j) (T.kt hh j)
def GO (hh : Fin 2) (i j : Fin 4) : FVec F S512x512 .f32 := ds (T.PO hh i j) (T.doa hh i) (T.vt hh j)
def GD (hh : Fin 2) (j : Fin 4) : FVec F S512x512 .f32 := ds (T.PD hh j) (T.doa hh j) (T.vt hh j)

/-- A pair of heads' contribution to the queries' gradient. -/
def dqO (i j : Fin 4) : FVec F S512x128 .f32 := dqAdd (dqAdd zL (T.GO 0 i j) (T.km 0 j)) (T.GO 1 i j) (T.km 1 j)
def dqD (j : Fin 4) : FVec F S512x128 .f32 := dqAdd (dqAdd zL (T.GD 0 j) (T.km 0 j)) (T.GD 1 j) (T.km 1 j)
def dkO (acc : FVec F S128x512 .f32) (i j : Fin 4) : FVec F S128x512 .f32 :=
  tAdd (tAdd acc (T.qst 0 i) (T.GO 0 i j)) (T.qst 1 i) (T.GO 1 i j)
def dkD (j : Fin 4) : FVec F S128x512 .f32 := tAdd (tAdd zS (T.qst 0 j) (T.GD 0 j)) (T.qst 1 j) (T.GD 1 j)
def dvO (acc : FVec F S128x512 .f32) (i j : Fin 4) : FVec F S128x512 .f32 :=
  tAdd (tAdd acc (T.dt 0 i) (T.PO 0 i j)) (T.dt 1 i) (T.PO 1 i j)
def dvD (j : Fin 4) : FVec F S128x512 .f32 := tAdd (tAdd zS (T.dt 0 j) (T.PD 0 j)) (T.dt 1 j) (T.PD 1 j)

/-- The queries' accumulator after the last key tile. -/
def dq : Fin 4 → FVec F S1x512x128 .f32 :=
  ![acc3 z3 (T.dqD 0), acc3 (acc3 z3 (T.dqO 1 0)) (T.dqD 1), acc3 (acc3 (acc3 z3 (T.dqO 2 0)) (T.dqO 2 1)) (T.dqD 2),
    acc3 (acc3 (acc3 (acc3 z3 (T.dqO 3 0)) (T.dqO 3 1)) (T.dqO 3 2)) (T.dqD 3)]
/-- The row sums' accumulator. -/
def rs : Fin 4 → FVec F S1x512x128 .f32 :=
  ![acc3 z3 (rsT (T.GD 0 0) (T.GD 1 0)), acc3 (acc3 z3 (rsT (T.GO 0 1 0) (T.GO 1 1 0))) (rsT (T.GD 0 1) (T.GD 1 1)),
    acc3 (acc3 (acc3 z3 (rsT (T.GO 0 2 0) (T.GO 1 2 0))) (rsT (T.GO 0 2 1) (T.GO 1 2 1))) (rsT (T.GD 0 2) (T.GD 1 2)),
    acc3 (acc3 (acc3 (acc3 z3 (rsT (T.GO 0 3 0) (T.GO 1 3 0))) (rsT (T.GO 0 3 1) (T.GO 1 3 1))) (rsT (T.GO 0 3 2) (T.GO 1 3 2)))
      (rsT (T.GD 0 3) (T.GD 1 3))]
/-- The keys' gradient of a key tile, transposed. -/
def dk : Fin 4 → FVec F S128x512 .f32 :=
  ![T.dkO (T.dkO (T.dkO (T.dkD 0) 1 0) 2 0) 3 0, T.dkO (T.dkO (T.dkD 1) 2 1) 3 1, T.dkO (T.dkD 2) 3 2, T.dkD 3]
/-- The values' gradient of a key tile, transposed. -/
def dv : Fin 4 → FVec F S128x512 .f32 :=
  ![T.dvO (T.dvO (T.dvO (T.dvD 0) 1 0) 2 0) 3 0, T.dvO (T.dvO (T.dvD 1) 2 1) 3 1, T.dvO (T.dvD 2) 3 2, T.dvD 3]
/-- The column sums of a key tile. -/
def col (hh : Fin 2) : Fin 4 → FVec F S8x512 .f32 :=
  ![colAdd (colAdd (colAdd (colAdd z8 (T.GD hh 0)) (T.GO hh 1 0)) (T.GO hh 2 0)) (T.GO hh 3 0),
    colAdd (colAdd (colAdd z8 (T.GD hh 1)) (T.GO hh 2 1)) (T.GO hh 3 1), colAdd (colAdd z8 (T.GD hh 2)) (T.GO hh 3 2),
    colAdd z8 (T.GD hh 3)]

/-- What the point stores in the decay's gradient, row tile `o`, over what it held. -/
def dc (w : BitVec 32) (old : Fin 4 → Vec F S1x512x128 .f32) (o : Fin 4) : FVec F S1x512x128 .f32 :=
  dcRow w (dcCol w (old o) (T.col 0 o) (T.col 1 o)) (T.rs o)

end Tiles

end Cert.AttnBwd

end
-- ==== Proof.Attn.TileVal.lean ====
/- Each tile operation of the attention gradient read at an index over the extended reals, where what it reads is real. -/
module

public import proofs.«01_k».proof.Proof.Attn.Blocks
public import proofs.«01_k».proof.Proof.Attn.Sums
public import Idealize.ShloMosaic.Lib.IdealHost

@[expose] public section

noncomputable section

namespace Cert.AttnBwd

open Idealize.ShloMosaic Cert.KernelIdeal Cert.KernelIdeal.Gen

theorem eighth_bf16 : Ideal.ofBits .bf16 15872#16 = ((1 / 8 : ℝ) : EReal) := by
  simp [Ideal.ofBits, Ideal.ieee, -EReal.coe_mul]; norm_num
theorem eighth_f32 : Ideal.ofBits .f32 1040187392#32 = ((1 / 8 : ℝ) : EReal) := by
  simp [Ideal.ofBits, Ideal.ieee, -EReal.coe_mul]; norm_num

/-- The ladder of lane tests of a row operand. -/
theorem ladder_rows6_0 (l : Fin 128) (x : Fin 128 → ℝ) (b : ℝ) :
    (if l.val = 69 then (1 : EReal) else if l.val = 68 then 1 else if l.val = 67 then 1 else
      if l.val = 66 then (b : EReal) - b - (b - b) else if l.val = 65 then (b : EReal) - b else if l.val = 64 then (b : EReal) else
      if l.val < 64 then ((x l : ℝ) : EReal) else 0) = ((R6 0 x b l : ℝ) : EReal) := by
  have hl := l.2
  simp only [R6, ← EReal.coe_sub, sub_self, zero_coe, one_coe]
  simp only [← apply_ite (fun r : ℝ => (r : EReal))]
  congr 1
  have h0 : ((0 : Fin 2) : ℕ) = 0 := rfl
  rw [h0]
  split_ifs <;> first | rfl | omega
theorem ladder_rows6_1 (l : Fin 128) (x : Fin 128 → ℝ) (b : ℝ) :
    (if l.val = 5 then (1 : EReal) else if l.val = 4 then 1 else if l.val = 3 then 1 else
      if l.val = 2 then (b : EReal) - b - (b - b) else if l.val = 1 then (b : EReal) - b else if l.val = 0 then (b : EReal) else
      if 64 ≤ l.val then ((x l : ℝ) : EReal) else 0) = ((R6 1 x b l : ℝ) : EReal) := by
  have hl := l.2
  simp only [R6, ← EReal.coe_sub, sub_self, zero_coe, one_coe]
  simp only [← apply_ite (fun r : ℝ => (r : EReal))]
  congr 1
  have h0 : ((1 : Fin 2) : ℕ) = 1 := rfl
  rw [h0]
  split_ifs <;> first | rfl | omega
theorem ladder_rows3_0 (l : Fin 128) (x : Fin 128 → ℝ) (b : ℝ) :
    (if l.val = 66 then (b : EReal) - b - (b - b) else if l.val = 65 then (b : EReal) - b else if l.val = 64 then (b : EReal) else
      if l.val < 64 then ((x l : ℝ) : EReal) else 0) = ((R3 0 x b l : ℝ) : EReal) := by
  have hl := l.2
  simp only [R3, ← EReal.coe_sub, sub_self, zero_coe]
  simp only [← apply_ite (fun r : ℝ => (r : EReal))]
  congr 1
  have h0 : ((0 : Fin 2) : ℕ) = 0 := rfl
  rw [h0]
  split_ifs <;> first | rfl | omega
theorem ladder_rows3_1 (l : Fin 128) (x : Fin 128 → ℝ) (b : ℝ) :
    (if l.val = 2 then (b : EReal) - b - (b - b) else if l.val = 1 then (b : EReal) - b else if l.val = 0 then (b : EReal) else
      if 64 ≤ l.val then ((x l : ℝ) : EReal) else 0) = ((R3 1 x b l : ℝ) : EReal) := by
  have hl := l.2
  simp only [R3, ← EReal.coe_sub, sub_self, zero_coe]
  simp only [← apply_ite (fun r : ℝ => (r : EReal))]
  congr 1
  have h0 : ((1 : Fin 2) : ℕ) = 1 := rfl
  rw [h0]
  split_ifs <;> first | rfl | omega
/-- … and of a column operand. -/
theorem ladder_cols6_0 (l : Fin 128) (x : Fin 128 → ℝ) (b : ℝ) :
    (if l.val = 69 then (b : EReal) - b - (b - b) else if l.val = 68 then (b : EReal) - b else if l.val = 67 then (b : EReal) else
      if l.val = 66 then (1 : EReal) else if l.val = 65 then 1 else if l.val = 64 then 1 else
      if l.val < 64 then ((x l : ℝ) : EReal) else 0) = ((C6 0 x b l : ℝ) : EReal) := by
  have hl := l.2
  simp only [C6, ← EReal.coe_sub, sub_self, zero_coe, one_coe]
  simp only [← apply_ite (fun r : ℝ => (r : EReal))]
  congr 1
  have h0 : ((0 : Fin 2) : ℕ) = 0 := rfl
  rw [h0]
  split_ifs <;> first | rfl | omega
theorem ladder_cols6_1 (l : Fin 128) (x : Fin 128 → ℝ) (b : ℝ) :
    (if l.val = 5 then (b : EReal) - b - (b - b) else if l.val = 4 then (b : EReal) - b else if l.val = 3 then (b : EReal) else
      if l.val = 2 then (1 : EReal) else if l.val = 1 then 1 else if l.val = 0 then 1 else
      if 64 ≤ l.val then ((x l : ℝ) : EReal) else 0) = ((C6 1 x b l : ℝ) : EReal) := by
  have hl := l.2
  simp only [C6, ← EReal.coe_sub, sub_self, zero_coe, one_coe]
  simp only [← apply_ite (fun r : ℝ => (r : EReal))]
  congr 1
  have h0 : ((1 : Fin 2) : ℕ) = 1 := rfl
  rw [h0]
  split_ifs <;> first | rfl | omega
theorem ladder_cols3_0 (l : Fin 128) (x : Fin 128 → ℝ) :
    (if l.val = 66 then (1 : EReal) else if l.val = 65 then 1 else if l.val = 64 then 1 else
      if l.val < 64 then ((x l : ℝ) : EReal) else 0) = ((C3 0 x l : ℝ) : EReal) := by
  have hl := l.2
  simp only [C3, zero_coe, one_coe]
  simp only [← apply_ite (fun r : ℝ => (r : EReal))]
  congr 1
  have h0 : ((0 : Fin 2) : ℕ) = 0 := rfl
  rw [h0]
  split_ifs <;> first | rfl | omega
theorem ladder_cols3_1 (l : Fin 128) (x : Fin 128 → ℝ) :
    (if l.val = 2 then (1 : EReal) else if l.val = 1 then 1 else if l.val = 0 then 1 else
      if 64 ≤ l.val then ((x l : ℝ) : EReal) else 0) = ((C3 1 x l : ℝ) : EReal) := by
  have hl := l.2
  simp only [C3, zero_coe, one_coe]
  simp only [← apply_ite (fun r : ℝ => (r : EReal))]
  congr 1
  have h0 : ((1 : Fin 2) : ℕ) = 1 := rfl
  rw [h0]
  split_ifs <;> first | rfl | omega
theorem own_lo (l : Fin 128) (a : ℝ) : (if l.val < 64 then (a : EReal) else 0) = ((if l.val / 64 = (0 : Fin 2).val then a else 0 : ℝ) : EReal) := by
  have hl := l.2
  have h0 : ((0 : Fin 2) : ℕ) = 0 := rfl
  rw [h0]
  split_ifs <;> first | rfl | omega
theorem own_hi (l : Fin 128) (a : ℝ) : (if 64 ≤ l.val then (a : EReal) else 0) = ((if l.val / 64 = (1 : Fin 2).val then a else 0 : ℝ) : EReal) := by
  have hl := l.2
  have h0 : ((1 : Fin 2) : ℕ) = 1 := rfl
  rw [h0]
  split_ifs <;> first | rfl | omega

/-! ## Operands -/

section Operands

variable {q k v d : Vec Ideal S1x512x128 .bf16} {cq y : Vec Ideal S1x512x128 .f32} {l0 l1 c : Vec Ideal S1x1x1x1x512 .f32}
  {Q D Y : Fin 512 → Fin 128 → ℝ} {CQ L0 L1 C : Fin 512 → ℝ}

theorem qa0_at (hq : ∀ r l, q (ix3 0 r l) = ((Q r l : ℝ) : EReal)) (hc : ∀ r, cq (ix3 0 r 0) = ((CQ r : ℝ) : EReal))
    (h0 : ∀ r, l0 (ix5 0 0 0 0 r) = ((L0 r : ℝ) : EReal)) (r : Fin 512) (l : Fin 128) :
    qa0 q cq l0 l1 (ix4 0 0 r l) = ((R6 0 (fun l => Q r l * (1 / 8)) (CQ r - L0 r) l : ℝ) : EReal) := by
  have hl := l.2
  pointwise [qa0, rows6, rows3, lo, lane, qs, selL, bcL, oneLb, zLb, part1, part2, part3, rest1, rest2, lanes,
    bias0, lseC, selS, bcS, subl, subs, zS]
  simp (disch := omega) only [sel_eq, sel_slt, sel_sge, hq, hc, h0, eighth_bf16, ← EReal.coe_sub, ← EReal.coe_mul, if_true]
  rw [← ladder_rows6_0]
  simp only [EReal.coe_sub]
theorem qa1_at (hq : ∀ r l, q (ix3 0 r l) = ((Q r l : ℝ) : EReal)) (hc : ∀ r, cq (ix3 0 r 64) = ((CQ r : ℝ) : EReal))
    (h1 : ∀ r, l1 (ix5 0 0 0 0 r) = ((L1 r : ℝ) : EReal)) (r : Fin 512) (l : Fin 128) :
    qa1 q cq l0 l1 (ix4 0 0 r l) = ((R6 1 (fun l => Q r l * (1 / 8)) (CQ r - L1 r) l : ℝ) : EReal) := by
  have hl := l.2
  pointwise [qa1, rows6, rows3, hi, lane, qs, selL, bcL, oneLb, zLb, part1, part2, part3, rest1, rest2, lanes,
    bias1, lseC, selS, bcS, subl, subs, zS]
  simp (disch := omega) only [sel_eq, sel_slt, sel_sge, hq, hc, h1, eighth_bf16, ← EReal.coe_sub, ← EReal.coe_mul, if_true,
    one_ne_zero, if_false]
  rw [← ladder_rows6_1]
  simp only [EReal.coe_sub]
theorem doa0_at (hd : ∀ r l, d (ix3 0 r l) = ((D r l : ℝ) : EReal)) (hy : ∀ r l, y (ix3 0 r l) = ((Y r l : ℝ) : EReal))
    (r : Fin 512) (l : Fin 128) :
    doa0 d y (ix4 0 0 r l) = ((R3 0 (D r) (0 - own 0 fun l => Y r l * D r l) l : ℝ) : EReal) := by
  have hl := l.2
  have hb : ndsum lo y d (ix2 r 0) = ((0 - own 0 fun l => Y r l * D r l : ℝ) : EReal) := by
    pointwise [ndsum, lo, lanes, selL, zL]
    refine sub_coe rfl (sum_coe fun x => ?_)
    have hx := x.2
    simp (disch := omega) only [sel_slt, hd, hy, ← EReal.coe_mul]
    exact own_lo x _
  pointwise [doa0, rows3, lo, lane, selL, bcL, zLb, part1, part2, part3, rest1, rest2, lanes, flat]
  change ndsum lo y d (ix2 r 0) = _ at hb
  simp (disch := omega) only [sel_eq, sel_slt, hd]
  rw [← ladder_rows3_0]
  simp only [lo, lanes] at hb
  simp only [hb]
theorem doa1_at (hd : ∀ r l, d (ix3 0 r l) = ((D r l : ℝ) : EReal)) (hy : ∀ r l, y (ix3 0 r l) = ((Y r l : ℝ) : EReal))
    (r : Fin 512) (l : Fin 128) :
    doa1 d y (ix4 0 0 r l) = ((R3 1 (D r) (0 - own 1 fun l => Y r l * D r l) l : ℝ) : EReal) := by
  have hl := l.2
  have hb : ndsum hi y d (ix2 r 0) = ((0 - own 1 fun l => Y r l * D r l : ℝ) : EReal) := by
    pointwise [ndsum, hi, lanes, selL, zL]
    refine sub_coe rfl (sum_coe fun x => ?_)
    have hx := x.2
    simp (disch := omega) only [sel_sge, hd, hy, ← EReal.coe_mul]
    exact own_hi x _
  pointwise [doa1, rows3, hi, lane, selL, bcL, zLb, part1, part2, part3, rest1, rest2, lanes, flat]
  simp (disch := omega) only [sel_eq, sel_sge, hd]
  rw [← ladder_rows3_1]
  simp only [hi, lanes] at hb
  simp only [hb]

theorem qst0_at (hq : ∀ r l, q (ix3 0 r l) = ((Q r l : ℝ) : EReal)) (l : Fin 128) (r : Fin 512) :
    qst loS q (ix4 0 0 l r) = ((if l.val / 64 = (0 : Fin 2).val then Q r l * (1 / 8) else 0 : ℝ) : EReal) := by
  have hl := l.2
  pointwise [qst, loS, subs, selS, tr, qs, zSb]
  simp (disch := omega) only [sel_slt, hq, eighth_bf16, ← EReal.coe_mul]
  exact own_lo l _
theorem qst1_at (hq : ∀ r l, q (ix3 0 r l) = ((Q r l : ℝ) : EReal)) (l : Fin 128) (r : Fin 512) :
    qst hiS q (ix4 0 0 l r) = ((if l.val / 64 = (1 : Fin 2).val then Q r l * (1 / 8) else 0 : ℝ) : EReal) := by
  have hl := l.2
  pointwise [qst, hiS, subs, selS, tr, qs, zSb]
  simp (disch := omega) only [sel_sge, hq, eighth_bf16, ← EReal.coe_mul]
  exact own_hi l _
theorem dot0_at (hq : ∀ r l, q (ix3 0 r l) = ((Q r l : ℝ) : EReal)) (l : Fin 128) (r : Fin 512) :
    dot loS q (ix4 0 0 l r) = ((if l.val / 64 = (0 : Fin 2).val then Q r l else 0 : ℝ) : EReal) := by
  have hl := l.2
  pointwise [dot, loS, subs, selS, tr, flat, zSb]
  simp (disch := omega) only [sel_slt, hq]
  exact own_lo l _
theorem dot1_at (hq : ∀ r l, q (ix3 0 r l) = ((Q r l : ℝ) : EReal)) (l : Fin 128) (r : Fin 512) :
    dot hiS q (ix4 0 0 l r) = ((if l.val / 64 = (1 : Fin 2).val then Q r l else 0 : ℝ) : EReal) := by
  have hl := l.2
  pointwise [dot, hiS, subs, selS, tr, flat, zSb]
  simp (disch := omega) only [sel_sge, hq]
  exact own_hi l _
theorem km0_at (hq : ∀ r l, q (ix3 0 r l) = ((Q r l : ℝ) : EReal)) (r : Fin 512) (l : Fin 128) :
    km lo q (ix2 r l) = ((if l.val / 64 = (0 : Fin 2).val then Q r l else 0 : ℝ) : EReal) := by
  have hl := l.2
  pointwise [km, lo, lanes, selL, flat, zLb]
  simp (disch := omega) only [sel_slt, hq]
  exact own_lo l _
theorem km1_at (hq : ∀ r l, q (ix3 0 r l) = ((Q r l : ℝ) : EReal)) (r : Fin 512) (l : Fin 128) :
    km hi q (ix2 r l) = ((if l.val / 64 = (1 : Fin 2).val then Q r l else 0 : ℝ) : EReal) := by
  have hl := l.2
  pointwise [km, hi, lanes, selL, flat, zLb]
  simp (disch := omega) only [sel_sge, hq]
  exact own_hi l _
theorem kt0_at (hq : ∀ r l, q (ix3 0 r l) = ((Q r l : ℝ) : EReal)) (hc : ∀ r, c (ix5 0 0 0 0 r) = ((C r : ℝ) : EReal))
    (l : Fin 128) (r : Fin 512) :
    kt0 q c (ix4 0 0 l r) = ((C6 0 (Q r) (0 - C r) l : ℝ) : EReal) := by
  have hl := l.2
  pointwise [kt0, cols6, cols3, loS, subl, tr, selS, bcS, oneSb, zSb, part1, part2, part3, rest1, rest2, subs, nck, flat]
  simp (disch := omega) only [sel_eq, sel_slt, hq, hc]
  rw [← ladder_cols6_0]
  simp only [EReal.coe_sub, EReal.coe_zero]
theorem kt1_at (hq : ∀ r l, q (ix3 0 r l) = ((Q r l : ℝ) : EReal)) (hc : ∀ r, c (ix5 0 0 0 0 r) = ((C r : ℝ) : EReal))
    (l : Fin 128) (r : Fin 512) :
    kt1 q c (ix4 0 0 l r) = ((C6 1 (Q r) (0 - C r) l : ℝ) : EReal) := by
  have hl := l.2
  pointwise [kt1, cols6, cols3, hiS, subl, tr, selS, bcS, oneSb, zSb, part1, part2, part3, rest1, rest2, subs, nck, flat]
  simp (disch := omega) only [sel_eq, sel_sge, hq, hc]
  rw [← ladder_cols6_1]
  simp only [EReal.coe_sub, EReal.coe_zero]
theorem vt0_at (hq : ∀ r l, q (ix3 0 r l) = ((Q r l : ℝ) : EReal)) (l : Fin 128) (r : Fin 512) :
    vt0 q (ix4 0 0 l r) = ((C3 0 (Q r) l : ℝ) : EReal) := by
  have hl := l.2
  pointwise [vt0, cols3, loS, subl, tr, selS, oneSb, zSb, subs, flat]
  simp (disch := omega) only [sel_eq, sel_slt, hq]
  exact ladder_cols3_0 l _
theorem vt1_at (hq : ∀ r l, q (ix3 0 r l) = ((Q r l : ℝ) : EReal)) (l : Fin 128) (r : Fin 512) :
    vt1 q (ix4 0 0 l r) = ((C3 1 (Q r) l : ℝ) : EReal) := by
  have hl := l.2
  pointwise [vt1, cols3, hiS, subl, tr, selS, oneSb, zSb, subs, flat]
  simp (disch := omega) only [sel_eq, sel_sge, hq]
  exact ladder_cols3_1 l _

end Operands

end Cert.AttnBwd

end
-- ==== Proof.Attn.BlockVal.lean ====
/- What a grid point of the attention gradient computes from real blocks: the probabilities, the score gradients, and each
   accumulator as a sum over all rows or all columns of the sequence. -/
module

public import proofs.«01_k».proof.Proof.Attn.TileVal

@[expose] public section

noncomputable section

namespace Cert.AttnBwd

open Idealize.ShloMosaic Cert.KernelIdeal Cert.KernelIdeal.Gen

/-- The real numbers a grid point's blocks hold: queries, keys and values (`X 0`, `X 1`, `X 2`), the result's gradient `D`, the
    result `Y`, and each head's log-sums `L` and decays `C`. -/
structure Real6 where
  X : Fin 3 → Fin 2048 → Fin 128 → ℝ
  D : Fin 2048 → Fin 128 → ℝ
  Y : Fin 2048 → Fin 128 → ℝ
  L : Fin 2 → Fin 2048 → ℝ
  C : Fin 2 → Fin 2048 → ℝ

namespace Real6

variable (B : Real6)

/-- A score less its row's log-sum. -/
def S (hh : Fin 2) (t s : Fin 2048) : ℝ :=
  own hh (fun l => B.X 0 t l * (1 / 8) * B.X 1 s l) + (B.C hh t - B.L hh t) + (0 - B.C hh s)
/-- A probability. -/
def P (hh : Fin 2) (t s : Fin 2048) : ℝ := if s.val ≤ t.val then Real.exp (B.S hh t s) else 0
/-- A probability's gradient less the row's mean of them. -/
def E (hh : Fin 2) (t s : Fin 2048) : ℝ :=
  own hh (fun l => B.D t l * B.X 2 s l) + (0 - own hh fun l => B.Y t l * B.D t l)
/-- A score's gradient. -/
def G (hh : Fin 2) (t s : Fin 2048) : ℝ := B.P hh t s * B.E hh t s

theorem P_zero {hh : Fin 2} {t s : Fin 2048} (h : t.val < s.val) : B.P hh t s = 0 := if_neg (by omega)
theorem G_zero {hh : Fin 2} {t s : Fin 2048} (h : t.val < s.val) : B.G hh t s = 0 := by rw [G, B.P_zero h, zero_mul]

end Real6

/-- A lane's head within its pair. -/
def hd (l : Fin 128) : Fin 2 := ⟨l.val / 64, by have := l.2; omega⟩

theorem row_lt {i j : Fin 4} (h : j < i) (r s : Fin 512) : (row j s).val < (row i r).val := by
  have := r.2; have := s.2
  have h' : j.val < i.val := h
  show 512 * j.val + s.val < 512 * i.val + r.val
  omega

/-- The blocks hold those numbers. -/
structure Holds (B : Real6) (x0 : Vec Ideal S1x2048x384 .bf16) (x1 : Vec Ideal S1x2048x128 .bf16) (x2 : Vec Ideal S1x2048x128 .f32)
    (x3 x4 : Vec Ideal S1x1x2x4x512 .f32) (x5 : Vec Ideal S1x2048x128 .f32) : Prop where
  h0 : ∀ (w : Fin 3) (t : Fin 2048) (l : Fin 128),
    x0 (ix3 0 t ⟨128 * w.val + l.val, by have := w.2; have := l.2; omega⟩) = ((B.X w t l : ℝ) : EReal)
  h1 : ∀ (t : Fin 2048) (l : Fin 128), x1 (ix3 0 t l) = ((B.D t l : ℝ) : EReal)
  h2 : ∀ (t : Fin 2048) (l : Fin 128), x2 (ix3 0 t l) = ((B.Y t l : ℝ) : EReal)
  h3 : ∀ (hh : Fin 2) (o : Fin 4) (r : Fin 512), x3 (ix5 0 0 hh o r) = ((B.L hh (row o r) : ℝ) : EReal)
  h4 : ∀ (hh : Fin 2) (o : Fin 4) (r : Fin 512), x4 (ix5 0 0 hh o r) = ((B.C hh (row o r) : ℝ) : EReal)
  h5 : ∀ (hh : Fin 2) (t : Fin 2048), x5 (ix3 0 t ⟨64 * hh.val, by have := hh.2; omega⟩) = ((B.C hh t : ℝ) : EReal)

section

variable {B : Real6} {x0 : Vec Ideal S1x2048x384 .bf16} {x1 : Vec Ideal S1x2048x128 .bf16} {x2 : Vec Ideal S1x2048x128 .f32}
  {x3 x4 : Vec Ideal S1x1x2x4x512 .f32} {x5 : Vec Ideal S1x2048x128 .f32} (H : Holds B x0 x1 x2 x3 x4 x5)
include H

theorem ld384_at (w : Fin 3) (o : Fin 4) (r : Fin 512) (l : Fin 128) : ld384 x0 o w (ix3 0 r l) = ((B.X w (row o r) l : ℝ) : EReal) := by
  rw [← H.h0]; pointwise! [ld384, row]
theorem ldD_at (o : Fin 4) (r : Fin 512) (l : Fin 128) : ld128 x1 o (ix3 0 r l) = ((B.D (row o r) l : ℝ) : EReal) := by
  rw [← H.h1]; pointwise! [ld128, row]
theorem ldY_at (o : Fin 4) (r : Fin 512) (l : Fin 128) : ld128 x2 o (ix3 0 r l) = ((B.Y (row o r) l : ℝ) : EReal) := by
  rw [← H.h2]; pointwise! [ld128, row]
theorem ldL_at (hh : Fin 2) (o : Fin 4) (r : Fin 512) : ld5 x3 hh o (ix5 0 0 0 0 r) = ((B.L hh (row o r) : ℝ) : EReal) := by
  rw [← H.h3]; pointwise! [ld5]
theorem ldC_at (hh : Fin 2) (o : Fin 4) (r : Fin 512) : ld5 x4 hh o (ix5 0 0 0 0 r) = ((B.C hh (row o r) : ℝ) : EReal) := by
  rw [← H.h4]; pointwise! [ld5]
theorem ldE0_at (o : Fin 4) (r : Fin 512) : ld128 x5 o (ix3 0 r 0) = ((B.C 0 (row o r) : ℝ) : EReal) := by
  rw [← H.h5]; pointwise! [ld128, row]
theorem ldE1_at (o : Fin 4) (r : Fin 512) : ld128 x5 o (ix3 0 r 64) = ((B.C 1 (row o r) : ℝ) : EReal) := by
  rw [← H.h5]; pointwise! [ld128, row]

/-! ## The operand tiles -/

theorem qa_at (hh : Fin 2) (o : Fin 4) (r : Fin 512) (l : Fin 128) :
    (tiles x0 x1 x2 x3 x4 x5).qa hh o (ix4 0 0 r l)
      = ((R6 hh (fun l => B.X 0 (row o r) l * (1 / 8)) (B.C hh (row o r) - B.L hh (row o r)) l : ℝ) : EReal) :=
  match hh with
  | 0 => qa0_at (Q := fun r => B.X 0 (row o r)) (CQ := fun r => B.C 0 (row o r)) (L0 := fun r => B.L 0 (row o r))
      (ld384_at H 0 o) (ldE0_at H o) (ldL_at H 0 o) r l
  | 1 => qa1_at (Q := fun r => B.X 0 (row o r)) (CQ := fun r => B.C 1 (row o r)) (L1 := fun r => B.L 1 (row o r))
      (ld384_at H 0 o) (ldE1_at H o) (ldL_at H 1 o) r l
theorem doa_at (hh : Fin 2) (o : Fin 4) (r : Fin 512) (l : Fin 128) :
    (tiles x0 x1 x2 x3 x4 x5).doa hh o (ix4 0 0 r l)
      = ((R3 hh (B.D (row o r)) (0 - own hh fun l => B.Y (row o r) l * B.D (row o r) l) l : ℝ) : EReal) :=
  match hh with
  | 0 => doa0_at (D := fun r => B.D (row o r)) (Y := fun r => B.Y (row o r)) (ldD_at H o) (ldY_at H o) r l
  | 1 => doa1_at (D := fun r => B.D (row o r)) (Y := fun r => B.Y (row o r)) (ldD_at H o) (ldY_at H o) r l
theorem qst_at (hh : Fin 2) (o : Fin 4) (l : Fin 128) (r : Fin 512) :
    (tiles x0 x1 x2 x3 x4 x5).qst hh o (ix4 0 0 l r)
      = ((if l.val / 64 = hh.val then B.X 0 (row o r) l * (1 / 8) else 0 : ℝ) : EReal) :=
  match hh with
  | 0 => qst0_at (Q := fun r => B.X 0 (row o r)) (ld384_at H 0 o) l r
  | 1 => qst1_at (Q := fun r => B.X 0 (row o r)) (ld384_at H 0 o) l r
theorem dt_at (hh : Fin 2) (o : Fin 4) (l : Fin 128) (r : Fin 512) :
    (tiles x0 x1 x2 x3 x4 x5).dt hh o (ix4 0 0 l r) = ((if l.val / 64 = hh.val then B.D (row o r) l else 0 : ℝ) : EReal) :=
  match hh with
  | 0 => dot0_at (Q := fun r => B.D (row o r)) (ldD_at H o) l r
  | 1 => dot1_at (Q := fun r => B.D (row o r)) (ldD_at H o) l r
theorem kt_at (hh : Fin 2) (o : Fin 4) (l : Fin 128) (r : Fin 512) :
    (tiles x0 x1 x2 x3 x4 x5).kt hh o (ix4 0 0 l r) = ((C6 hh (B.X 1 (row o r)) (0 - B.C hh (row o r)) l : ℝ) : EReal) :=
  match hh with
  | 0 => kt0_at (Q := fun r => B.X 1 (row o r)) (C := fun r => B.C 0 (row o r)) (ld384_at H 1 o) (ldC_at H 0 o) l r
  | 1 => kt1_at (Q := fun r => B.X 1 (row o r)) (C := fun r => B.C 1 (row o r)) (ld384_at H 1 o) (ldC_at H 1 o) l r
theorem vt_at (hh : Fin 2) (o : Fin 4) (l : Fin 128) (r : Fin 512) :
    (tiles x0 x1 x2 x3 x4 x5).vt hh o (ix4 0 0 l r) = ((C3 hh (B.X 2 (row o r)) l : ℝ) : EReal) :=
  match hh with
  | 0 => vt0_at (Q := fun r => B.X 2 (row o r)) (ld384_at H 2 o) l r
  | 1 => vt1_at (Q := fun r => B.X 2 (row o r)) (ld384_at H 2 o) l r
theorem km_at (hh : Fin 2) (o : Fin 4) (r : Fin 512) (l : Fin 128) :
    (tiles x0 x1 x2 x3 x4 x5).km hh o (ix2 r l) = ((if l.val / 64 = hh.val then B.X 1 (row o r) l else 0 : ℝ) : EReal) :=
  match hh with
  | 0 => km0_at (Q := fun r => B.X 1 (row o r)) (ld384_at H 1 o) r l
  | 1 => km1_at (Q := fun r => B.X 1 (row o r)) (ld384_at H 1 o) r l

/-! ## One tile -/

theorem sc_at (hh : Fin 2) (i j : Fin 4) (r s : Fin 512) :
    sc ((tiles x0 x1 x2 x3 x4 x5).qa hh i) ((tiles x0 x1 x2 x3 x4 x5).kt hh j) (ix2 r s) = ((B.S hh (row i r) (row j s) : ℝ) : EReal) := by
  pointwise [sc]
  rw [sum_coe fun l => mul_coe (qa_at H hh i r l) (kt_at H hh j l s), aug6]
  rfl
theorem PO_at (hh : Fin 2) {i j : Fin 4} (h : j < i) (r s : Fin 512) :
    (tiles x0 x1 x2 x3 x4 x5).PO hh i j (ix2 r s) = ((B.P hh (row i r) (row j s) : ℝ) : EReal) := by
  have hlt := row_lt h r s
  rw [Real6.P, if_pos (by omega), ← Ideal.exp_coe, ← sc_at H]
  rfl
theorem PD_at (hh : Fin 2) (j : Fin 4) (r s : Fin 512) :
    (tiles x0 x1 x2 x3 x4 x5).PD hh j (ix2 r s) = ((B.P hh (row j r) (row j s) : ℝ) : EReal) := by
  have hr := r.2; have hs := s.2
  have e : (tiles x0 x1 x2 x3 x4 x5).PD hh j (ix2 r s) = Ideal.exp (if s.val ≤ r.val then
      sc ((tiles x0 x1 x2 x3 x4 x5).qa hh j) ((tiles x0 x1 x2 x3 x4 x5).kt hh j) (ix2 r s) else ⊥) := by
    have hm : Named.named (F := Ideal) (φ := .f32) κ "mask" 0xF149F2CA#32 = (⊥ : EReal) := IdealRules.named_const.ideal_named_scalar _ _ _ _ rfl
    rw [← sel_sge _ (by omega) (by omega), ← hm]
    pointwise! [Tiles.PD, pD, causal]
  rw [e, sc_at H, Real6.P]
  have hle : (row j s).val ≤ (row j r).val ↔ s.val ≤ r.val := by
    show 512 * j.val + s.val ≤ 512 * j.val + r.val ↔ _
    omega
  by_cases hc : s.val ≤ r.val
  · rw [if_pos hc, if_pos (hle.mpr hc), Ideal.exp_coe]
  · rw [if_neg hc, if_neg (fun h => hc (hle.mp h)), Ideal.exp_bot]; rfl
theorem E_at (hh : Fin 2) (i j : Fin 4) (r s : Fin 512) :
    sc ((tiles x0 x1 x2 x3 x4 x5).doa hh i) ((tiles x0 x1 x2 x3 x4 x5).vt hh j) (ix2 r s) = ((B.E hh (row i r) (row j s) : ℝ) : EReal) := by
  pointwise [sc]
  rw [sum_coe fun l => mul_coe (doa_at H hh i r l) (vt_at H hh j l s), aug3]
  rfl
theorem GO_at (hh : Fin 2) {i j : Fin 4} (h : j < i) (r s : Fin 512) :
    (tiles x0 x1 x2 x3 x4 x5).GO hh i j (ix2 r s) = ((B.G hh (row i r) (row j s) : ℝ) : EReal) :=
  mul_coe (PO_at H hh h r s) (E_at H hh i j r s)
theorem GD_at (hh : Fin 2) (j : Fin 4) (r s : Fin 512) :
    (tiles x0 x1 x2 x3 x4 x5).GD hh j (ix2 r s) = ((B.G hh (row j r) (row j s) : ℝ) : EReal) :=
  mul_coe (PD_at H hh j r s) (E_at H hh j j r s)

end

/-- Of two heads' terms only a lane's own is there. -/
theorem two_heads (l : Fin 128) (a b : Fin 2 → Fin 512 → ℝ) :
    0 + (∑ s, a 0 s * if l.val / 64 = (0 : Fin 2).val then b 0 s else 0) + (∑ s, a 1 s * if l.val / 64 = (1 : Fin 2).val then b 1 s else 0)
      = ∑ s, a (hd l) s * b (hd l) s := by
  have hl := l.2
  have h0 : ((0 : Fin 2) : ℕ) = 0 := rfl
  have h1 : ((1 : Fin 2) : ℕ) = 1 := rfl
  rw [h0, h1]
  by_cases h : l.val / 64 = 0
  · rw [show hd l = 0 from Fin.ext h]; simp [h]
  · have h' : l.val / 64 = 1 := by omega
    rw [show hd l = 1 from Fin.ext h']; simp [h']

section

variable (g0 g1 : FVec Ideal S512x512 .f32) (k0 k1 : FVec Ideal S512x128 .bf16) (x0 x1 : Vec Ideal S1x1x128x512 .bf16)

/-- Both heads' contribution of one tile to the queries' gradient. -/
theorem dqAdd_at {a b : Fin 2 → Fin 512 → ℝ} (r : Fin 512) (l : Fin 128)
    (h0 : ∀ s, g0 (ix2 r s) = ((a 0 s : ℝ) : EReal)) (h1 : ∀ s, g1 (ix2 r s) = ((a 1 s : ℝ) : EReal))
    (e0 : ∀ s, k0 (ix2 s l) = ((if l.val / 64 = (0 : Fin 2).val then b 0 s else 0 : ℝ) : EReal))
    (e1 : ∀ s, k1 (ix2 s l) = ((if l.val / 64 = (1 : Fin 2).val then b 1 s else 0 : ℝ) : EReal)) :
    dqAdd (dqAdd zL g0 k0) g1 k1 (ix2 r l) = ((∑ s, a (hd l) s * b (hd l) s : ℝ) : EReal) := by
  rw [← two_heads]
  pointwise [dqAdd, zL]
  exact add_coe (sum_coe fun s => mul_coe (h0 s) (e0 s)) (sum_coe fun s => mul_coe (h1 s) (e1 s))

/-- Both heads' contribution of one tile to a transposed gradient. -/
theorem tAdd_at {a b : Fin 2 → Fin 512 → ℝ} (acc : FVec Ideal S128x512 .f32) (A : ℝ) (l : Fin 128) (s : Fin 512)
    (hA : acc (ix2 l s) = (A : EReal))
    (h0 : ∀ t, g0 (ix2 t s) = ((a 0 t : ℝ) : EReal)) (h1 : ∀ t, g1 (ix2 t s) = ((a 1 t : ℝ) : EReal))
    (e0 : ∀ t, x0 (ix4 0 0 l t) = ((if l.val / 64 = (0 : Fin 2).val then b 0 t else 0 : ℝ) : EReal))
    (e1 : ∀ t, x1 (ix4 0 0 l t) = ((if l.val / 64 = (1 : Fin 2).val then b 1 t else 0 : ℝ) : EReal)) :
    tAdd (tAdd acc x0 g0) x1 g1 (ix2 l s) = ((A + ∑ t, a (hd l) t * b (hd l) t : ℝ) : EReal) := by
  rw [← two_heads]
  pointwise [tAdd]
  refine (add_coe (add_coe hA (sum_coe fun s => mul_coe (e0 s) (h0 s))) (sum_coe fun s => mul_coe (e1 s) (h1 s))).trans ?_
  refine congrArg _ ?_
  simp only [mul_comm, zero_add, add_assoc]
  rfl

/-- Adding a tile to the eight partial column sums adds its column sum to their sum. -/
theorem colAdd_sum (acc : FVec Ideal S8x512 .f32) (s : Fin 512) :
    (∑ a : Fin 8, colAdd acc g0 (ix2 a s)) = (∑ a : Fin 8, acc (ix2 a s)) + ∑ r : Fin 512, g0 (ix2 r s) := by
  have h : ∀ a : Fin 8, colAdd acc g0 (ix2 a s)
      = acc (ix2 a s) + ∑ x : Fin 64, g0 (ix2 ⟨x.val * 8 + a.val, by have := x.2; have := a.2; omega⟩ s) := fun a => by
    pointwise! [colAdd]
  refine (Finset.sum_congr rfl fun a _ => h a).trans ?_
  rw [Finset.sum_add_distrib, Finset.sum_comm, ← Fin.sum_univ_tiles 64 8 rfl fun r => g0 (ix2 r s)]

theorem colAdd_at {g : Fin 512 → ℝ} (acc : FVec Ideal S8x512 .f32) (A : ℝ) (s : Fin 512)
    (hA : (∑ a : Fin 8, acc (ix2 a s)) = (A : EReal)) (h0 : ∀ t, g0 (ix2 t s) = ((g t : ℝ) : EReal)) :
    (∑ a : Fin 8, colAdd acc g0 (ix2 a s)) = ((A + ∑ t, g t : ℝ) : EReal) := by
  rw [colAdd_sum]; exact add_coe hA (sum_coe h0)

/-- The row sums in their lanes. -/
theorem rsT_at {g : Fin 2 → Fin 512 → ℝ} (r : Fin 512) (hh : Fin 2) (h0 : ∀ s, g0 (ix2 r s) = ((g 0 s : ℝ) : EReal))
    (h1 : ∀ s, g1 (ix2 r s) = ((g 1 s : ℝ) : EReal)) :
    rsT g0 g1 (ix2 r ⟨hh.val, by have := hh.2; omega⟩) = ((∑ s, g hh s : ℝ) : EReal) := by
  have hb := hh.2
  pointwise [rsT, selL, bcL, rowSum, lane, lanes, zL]
  simp (disch := omega) only [sel_eq]
  match hh with
  | 0 => exact sum_coe h0
  | 1 => exact sum_coe h1

theorem acc3_at (old : Vec Ideal S1x512x128 .f32) (x : FVec Ideal S512x128 .f32) {a b : ℝ} (r : Fin 512) (l : Fin 128)
    (ha : old (ix3 0 r l) = (a : EReal)) (hb : x (ix2 r l) = (b : EReal)) : acc3 old x (ix3 0 r l) = ((a + b : ℝ) : EReal) := by
  pointwise [acc3]
  exact add_coe ha hb
theorem z3_at (r : Fin 512) (l : Fin 128) : z3 (F := Ideal) (ix3 0 r l) = ((0 : ℝ) : EReal) := by
  pointwise [z3, zL]
  try rfl

end

section

variable {B : Real6} {x0 : Vec Ideal S1x2048x384 .bf16} {x1 : Vec Ideal S1x2048x128 .bf16} {x2 : Vec Ideal S1x2048x128 .f32}
  {x3 x4 : Vec Ideal S1x1x2x4x512 .f32} {x5 : Vec Ideal S1x2048x128 .f32} (H : Holds B x0 x1 x2 x3 x4 x5)
include H

/-! ## The queries' gradient -/

theorem dqO_at {i j : Fin 4} (h : j < i) (r : Fin 512) (l : Fin 128) :
    (tiles x0 x1 x2 x3 x4 x5).dqO i j (ix2 r l) = ((tsum (fun s => B.G (hd l) (row i r) s * B.X 1 s l) j : ℝ) : EReal) :=
  dqAdd_at _ _ _ _ (a := fun hh s => B.G hh (row i r) (row j s)) (b := fun _ s => B.X 1 (row j s) l) r l
    (GO_at H 0 h r) (GO_at H 1 h r) (fun s => km_at H 0 j s l) (fun s => km_at H 1 j s l)
theorem dqD_at (j : Fin 4) (r : Fin 512) (l : Fin 128) :
    (tiles x0 x1 x2 x3 x4 x5).dqD j (ix2 r l) = ((tsum (fun s => B.G (hd l) (row j r) s * B.X 1 s l) j : ℝ) : EReal) :=
  dqAdd_at _ _ _ _ (a := fun hh s => B.G hh (row j r) (row j s)) (b := fun _ s => B.X 1 (row j s) l) r l
    (GD_at H 0 j r) (GD_at H 1 j r) (fun s => km_at H 0 j s l) (fun s => km_at H 1 j s l)

/-- A sum over the tiles on and below the diagonal is the sum over all columns. -/
theorem tri_row {f : Fin 2048 → ℝ} (o : Fin 4) (r : Fin 512) (hz : ∀ s, (row o r).val < s.val → f s = 0) :
    ∑ s, f s = ![0 + tsum f 0, 0 + tsum f 0 + tsum f 1, 0 + tsum f 0 + tsum f 1 + tsum f 2,
      0 + tsum f 0 + tsum f 1 + tsum f 2 + tsum f 3] o := by
  have z : ∀ j : Fin 4, o < j → tsum f j = 0 := fun j h => tsum_zero fun s => hz _ (row_lt h s r)
  rw [sum_tiles]
  match o with
  | 0 => rw [z 1 (by decide), z 2 (by decide), z 3 (by decide)]; simp
  | 1 => rw [z 2 (by decide), z 3 (by decide)]; simp
  | 2 => rw [z 3 (by decide)]; simp
  | 3 => simp

theorem dq_at (o : Fin 4) (r : Fin 512) (l : Fin 128) :
    (tiles x0 x1 x2 x3 x4 x5).dq o (ix3 0 r l) = ((∑ s, B.G (hd l) (row o r) s * B.X 1 s l : ℝ) : EReal) := by
  rw [tri_row H o r (fun s h => by rw [B.G_zero h, zero_mul])]
  match o with
  | 0 =>
    exact acc3_at _ _ r l (z3_at r l)
      (dqD_at H 0 r l)
  | 1 =>
    exact acc3_at _ _ r l (acc3_at _ _ r l (z3_at r l) (dqO_at H (i := 1) (j := 0) (by decide) r l))
      (dqD_at H 1 r l)
  | 2 =>
    exact acc3_at _ _ r l (acc3_at _ _ r l (acc3_at _ _ r l (z3_at r l) (dqO_at H (i := 2) (j := 0) (by decide) r l)) (dqO_at H (i := 2) (j := 1) (by decide) r l))
      (dqD_at H 2 r l)
  | 3 =>
    exact acc3_at _ _ r l (acc3_at _ _ r l (acc3_at _ _ r l (acc3_at _ _ r l (z3_at r l) (dqO_at H (i := 3) (j := 0) (by decide) r l)) (dqO_at H (i := 3) (j := 1) (by decide) r l)) (dqO_at H (i := 3) (j := 2) (by decide) r l))
      (dqD_at H 3 r l)

/-! ## The row sums -/

theorem rsO_at {i j : Fin 4} (h : j < i) (r : Fin 512) (hh : Fin 2) :
    rsT ((tiles x0 x1 x2 x3 x4 x5).GO 0 i j) ((tiles x0 x1 x2 x3 x4 x5).GO 1 i j) (ix2 r ⟨hh.val, by have := hh.2; omega⟩)
      = ((tsum (fun s => B.G hh (row i r) s) j : ℝ) : EReal) :=
  rsT_at _ _ (g := fun hh s => B.G hh (row i r) (row j s)) r hh (GO_at H 0 h r) (GO_at H 1 h r)
theorem rsD_at (j : Fin 4) (r : Fin 512) (hh : Fin 2) :
    rsT ((tiles x0 x1 x2 x3 x4 x5).GD 0 j) ((tiles x0 x1 x2 x3 x4 x5).GD 1 j) (ix2 r ⟨hh.val, by have := hh.2; omega⟩)
      = ((tsum (fun s => B.G hh (row j r) s) j : ℝ) : EReal) :=
  rsT_at _ _ (g := fun hh s => B.G hh (row j r) (row j s)) r hh (GD_at H 0 j r) (GD_at H 1 j r)

theorem rs_at (o : Fin 4) (r : Fin 512) (hh : Fin 2) :
    (tiles x0 x1 x2 x3 x4 x5).rs o (ix3 0 r ⟨hh.val, by have := hh.2; omega⟩) = ((∑ s, B.G hh (row o r) s : ℝ) : EReal) := by
  rw [tri_row H o r (fun s h => B.G_zero h)]
  match o with
  | 0 =>
    exact acc3_at _ _ r _ (z3_at r _)
      (rsD_at H 0 r hh)
  | 1 =>
    exact acc3_at _ _ r _ (acc3_at _ _ r _ (z3_at r _) (rsO_at H (i := 1) (j := 0) (by decide) r hh))
      (rsD_at H 1 r hh)
  | 2 =>
    exact acc3_at _ _ r _ (acc3_at _ _ r _ (acc3_at _ _ r _ (z3_at r _) (rsO_at H (i := 2) (j := 0) (by decide) r hh)) (rsO_at H (i := 2) (j := 1) (by decide) r hh))
      (rsD_at H 2 r hh)
  | 3 =>
    exact acc3_at _ _ r _ (acc3_at _ _ r _ (acc3_at _ _ r _ (acc3_at _ _ r _ (z3_at r _) (rsO_at H (i := 3) (j := 0) (by decide) r hh)) (rsO_at H (i := 3) (j := 1) (by decide) r hh)) (rsO_at H (i := 3) (j := 2) (by decide) r hh))
      (rsD_at H 3 r hh)

/-! ## The keys' and values' gradients, and the column sums -/

/-- A sum over the tiles on and below the diagonal, the diagonal first, is the sum over all rows. -/
theorem tri_col {f : Fin 2048 → ℝ} (o : Fin 4) (s : Fin 512) (hz : ∀ t, t.val < (row o s).val → f t = 0) :
    ∑ t, f t = ![0 + tsum f 0 + tsum f 1 + tsum f 2 + tsum f 3, 0 + tsum f 1 + tsum f 2 + tsum f 3, 0 + tsum f 2 + tsum f 3,
      0 + tsum f 3] o := by
  have z : ∀ i : Fin 4, i < o → tsum f i = 0 := fun i h => tsum_zero fun r => hz _ (row_lt h s r)
  rw [sum_tiles]
  match o with
  | 0 => simp
  | 1 => rw [z 0 (by decide)]; simp
  | 2 => rw [z 0 (by decide), z 1 (by decide)]; simp
  | 3 => rw [z 0 (by decide), z 1 (by decide), z 2 (by decide)]; simp

theorem dkO_at {acc : FVec Ideal S128x512 .f32} {A : ℝ} {i j : Fin 4} (h : j < i) (l : Fin 128) (s : Fin 512)
    (hA : acc (ix2 l s) = (A : EReal)) :
    (tiles x0 x1 x2 x3 x4 x5).dkO acc i j (ix2 l s)
      = ((A + tsum (fun t => B.G (hd l) t (row j s) * (B.X 0 t l * (1 / 8))) i : ℝ) : EReal) :=
  tAdd_at _ _ _ _ (a := fun hh t => B.G hh (row i t) (row j s)) (b := fun _ t => B.X 0 (row i t) l * (1 / 8)) acc A l s hA
    (fun t => GO_at H 0 h t s) (fun t => GO_at H 1 h t s) (qst_at H 0 i l) (qst_at H 1 i l)
theorem zS_at (l : Fin 128) (s : Fin 512) : zS (F := Ideal) (ix2 l s) = ((0 : ℝ) : EReal) := by
  pointwise [zS]
  try rfl
theorem dkD_at (j : Fin 4) (l : Fin 128) (s : Fin 512) :
    (tiles x0 x1 x2 x3 x4 x5).dkD j (ix2 l s)
      = ((0 + tsum (fun t => B.G (hd l) t (row j s) * (B.X 0 t l * (1 / 8))) j : ℝ) : EReal) :=
  tAdd_at _ _ _ _ (a := fun hh t => B.G hh (row j t) (row j s)) (b := fun _ t => B.X 0 (row j t) l * (1 / 8)) zS 0 l s (zS_at H l s)
    (fun t => GD_at H 0 j t s) (fun t => GD_at H 1 j t s) (qst_at H 0 j l) (qst_at H 1 j l)
theorem dk_at (o : Fin 4) (l : Fin 128) (s : Fin 512) :
    (tiles x0 x1 x2 x3 x4 x5).dk o (ix2 l s) = ((∑ t, B.G (hd l) t (row o s) * (B.X 0 t l * (1 / 8)) : ℝ) : EReal) := by
  rw [tri_col H o s (fun t h => by rw [B.G_zero h, zero_mul])]
  match o with
  | 0 => exact dkO_at H (i := 3) (j := 0) (by decide) l s (dkO_at H (i := 2) (j := 0) (by decide) l s (dkO_at H (i := 1) (j := 0) (by decide) l s (dkD_at H 0 l s)))
  | 1 => exact dkO_at H (i := 3) (j := 1) (by decide) l s (dkO_at H (i := 2) (j := 1) (by decide) l s (dkD_at H 1 l s))
  | 2 => exact dkO_at H (i := 3) (j := 2) (by decide) l s (dkD_at H 2 l s)
  | 3 => exact dkD_at H 3 l s

theorem dvO_at {acc : FVec Ideal S128x512 .f32} {A : ℝ} {i j : Fin 4} (h : j < i) (l : Fin 128) (s : Fin 512)
    (hA : acc (ix2 l s) = (A : EReal)) :
    (tiles x0 x1 x2 x3 x4 x5).dvO acc i j (ix2 l s) = ((A + tsum (fun t => B.P (hd l) t (row j s) * B.D t l) i : ℝ) : EReal) :=
  tAdd_at _ _ _ _ (a := fun hh t => B.P hh (row i t) (row j s)) (b := fun _ t => B.D (row i t) l) acc A l s hA
    (fun t => PO_at H 0 h t s) (fun t => PO_at H 1 h t s) (dt_at H 0 i l) (dt_at H 1 i l)
theorem dvD_at (j : Fin 4) (l : Fin 128) (s : Fin 512) :
    (tiles x0 x1 x2 x3 x4 x5).dvD j (ix2 l s) = ((0 + tsum (fun t => B.P (hd l) t (row j s) * B.D t l) j : ℝ) : EReal) :=
  tAdd_at _ _ _ _ (a := fun hh t => B.P hh (row j t) (row j s)) (b := fun _ t => B.D (row j t) l) zS 0 l s (zS_at H l s)
    (fun t => PD_at H 0 j t s) (fun t => PD_at H 1 j t s) (dt_at H 0 j l) (dt_at H 1 j l)
theorem dv_at (o : Fin 4) (l : Fin 128) (s : Fin 512) :
    (tiles x0 x1 x2 x3 x4 x5).dv o (ix2 l s) = ((∑ t, B.P (hd l) t (row o s) * B.D t l : ℝ) : EReal) := by
  rw [tri_col H o s (fun t h => by rw [B.P_zero h, zero_mul])]
  match o with
  | 0 => exact dvO_at H (i := 3) (j := 0) (by decide) l s (dvO_at H (i := 2) (j := 0) (by decide) l s (dvO_at H (i := 1) (j := 0) (by decide) l s (dvD_at H 0 l s)))
  | 1 => exact dvO_at H (i := 3) (j := 1) (by decide) l s (dvO_at H (i := 2) (j := 1) (by decide) l s (dvD_at H 1 l s))
  | 2 => exact dvO_at H (i := 3) (j := 2) (by decide) l s (dvD_at H 2 l s)
  | 3 => exact dvD_at H 3 l s

theorem colO_at {acc : FVec Ideal S8x512 .f32} {A : ℝ} (hh : Fin 2) {i j : Fin 4} (h : j < i) (s : Fin 512)
    (hA : (∑ a : Fin 8, acc (ix2 a s)) = (A : EReal)) :
    (∑ a : Fin 8, colAdd acc ((tiles x0 x1 x2 x3 x4 x5).GO hh i j) (ix2 a s)) = ((A + tsum (fun t => B.G hh t (row j s)) i : ℝ) : EReal) :=
  colAdd_at _ (g := fun t => B.G hh (row i t) (row j s)) acc A s hA (fun t => GO_at H hh h t s)
theorem colD_at (hh : Fin 2) (j : Fin 4) (s : Fin 512) :
    (∑ a : Fin 8, colAdd z8 ((tiles x0 x1 x2 x3 x4 x5).GD hh j) (ix2 a s)) = ((0 + tsum (fun t => B.G hh t (row j s)) j : ℝ) : EReal) := by
  refine colAdd_at _ (g := fun t => B.G hh (row j t) (row j s)) z8 0 s ?_ (fun t => GD_at H hh j t s)
  refine (Finset.sum_eq_zero fun a _ => ?_).trans zero_coe
  pointwise [z8]
theorem col_at (hh : Fin 2) (o : Fin 4) (s : Fin 512) :
    (∑ a : Fin 8, (tiles x0 x1 x2 x3 x4 x5).col hh o (ix2 a s)) = ((∑ t, B.G hh t (row o s) : ℝ) : EReal) := by
  rw [tri_col H o s (fun t h => B.G_zero h)]
  match o with
  | 0 => exact colO_at H hh (i := 3) (j := 0) (by decide) s (colO_at H hh (i := 2) (j := 0) (by decide) s (colO_at H hh (i := 1) (j := 0) (by decide) s (colD_at H hh 0 s)))
  | 1 => exact colO_at H hh (i := 3) (j := 1) (by decide) s (colO_at H hh (i := 2) (j := 1) (by decide) s (colD_at H hh 1 s))
  | 2 => exact colO_at H hh (i := 3) (j := 2) (by decide) s (colD_at H hh 2 s)
  | 3 => exact colD_at H hh 3 s

/-! ## The decay's gradient -/

/-- The pair's two lanes get their row sums less their column sums; the others keep what they held. -/
theorem dc_at (p : Fin 8) (old : Fin 4 → Vec Ideal S1x512x128 .f32) (o : Fin 4) (r : Fin 512) (l : Fin 128) {A : ℝ}
    (hA : old o (ix3 0 r l) = (A : EReal)) :
    (tiles x0 x1 x2 x3 x4 x5).dc (BitVec.ofNat 32 p.val) old o (ix3 0 r l)
      = ((A + if l.val / 2 = p.val then
          (∑ s, B.G ⟨l.val % 2, by omega⟩ (row o r) s) - ∑ t, B.G ⟨l.val % 2, by omega⟩ t (row o r) else 0 : ℝ) : EReal) := by
  have hp := p.2; have hl := l.2
  have e2 : Scalar.muli 2#32 (BitVec.ofNat 32 p.val) = BitVec.ofNat 32 (2 * p.val) := by
    revert p; decide
  have e3 : Scalar.addi (Scalar.muli 2#32 (BitVec.ofNat 32 p.val)) 1#32 = BitVec.ofNat 32 (2 * p.val + 1) := by
    revert p; decide
  have hr0 := rs_at H o r 0
  have hr1 := rs_at H o r 1
  have hc0 := col_at H 0 o r
  have hc1 := col_at H 1 o r
  generalize (tiles x0 x1 x2 x3 x4 x5) = T at hr0 hr1 hc0 hc1 ⊢
  simp only [Tiles.dc]
  have ec : dcCol (BitVec.ofNat 32 p.val) (old o) (T.col 0 o) (T.col 1 o) (ix3 0 r l)
      = ((A + ((if l.val = 2 * p.val then 0 - ∑ t, B.G 0 t (row o r) else 0)
          + (if l.val = 2 * p.val + 1 then 0 - ∑ t, B.G 1 t (row o r) else 0)) : ℝ) : EReal) := by
    pointwise [dcCol, acc3, put2, dcs, selL, selS, bcL, bcS, lane, lanes, zL, subl, subs, zS]
    rw [e3, e2]
    simp (disch := omega) only [sel_eq, one_ne_zero, if_false]
    exact add_coe hA (add_coe (ite_coe _ (sub_coe rfl hc0) rfl) (ite_coe _ (sub_coe rfl hc1) rfl))
  have er : dcRow (BitVec.ofNat 32 p.val) (dcCol (BitVec.ofNat 32 p.val) (old o) (T.col 0 o) (T.col 1 o)) (T.rs o) (ix3 0 r l)
      = ((A + ((if l.val = 2 * p.val then 0 - ∑ t, B.G 0 t (row o r) else 0)
          + (if l.val = 2 * p.val + 1 then 0 - ∑ t, B.G 1 t (row o r) else 0))
          + ((if l.val = 2 * p.val then ∑ s, B.G 0 (row o r) s else 0)
          + (if l.val = 2 * p.val + 1 then ∑ s, B.G 1 (row o r) s else 0)) : ℝ) : EReal) := by
    generalize dcCol (BitVec.ofNat 32 p.val) (old o) (T.col 0 o) (T.col 1 o) = c at ec ⊢
    pointwise [dcRow, acc3, put2, selL, bcL, lane, lanes, zL]
    rw [e3, e2]
    simp (disch := omega) only [sel_eq]
    exact add_coe ec (add_coe (ite_coe _ hr0 rfl) (ite_coe _ hr1 rfl))
  rw [er]
  refine congrArg _ ?_
  by_cases h : l.val / 2 = p.val
  · rcases Nat.mod_two_eq_zero_or_one l.val with h2 | h2
    · rw [if_pos (show l.val = 2 * p.val by omega), if_neg (show ¬ l.val = 2 * p.val + 1 by omega),
        if_pos (show l.val = 2 * p.val by omega), if_neg (show ¬ l.val = 2 * p.val + 1 by omega), if_pos h]
      simp only [h2]
      change _ = A + ((∑ s, B.G 0 (row o r) s) - ∑ t, B.G 0 t (row o r))
      ring
    · rw [if_neg (show ¬ l.val = 2 * p.val by omega), if_pos (show l.val = 2 * p.val + 1 by omega),
        if_neg (show ¬ l.val = 2 * p.val by omega), if_pos (show l.val = 2 * p.val + 1 by omega), if_pos h]
      simp only [h2]
      change _ = A + ((∑ s, B.G 1 (row o r) s) - ∑ t, B.G 1 t (row o r))
      ring
  · rw [if_neg (show ¬ l.val = 2 * p.val by omega), if_neg (show ¬ l.val = 2 * p.val + 1 by omega),
      if_neg (show ¬ l.val = 2 * p.val by omega), if_neg (show ¬ l.val = 2 * p.val + 1 by omega), if_neg h]
    ring

/-! ## The first result's pieces -/

theorem dqOut_at (o : Fin 4) (r : Fin 512) (l : Fin 128) :
    dqOut (F := Ideal) ((tiles x0 x1 x2 x3 x4 x5).dq o) (ix2 r l) = (((∑ s, B.G (hd l) (row o r) s * B.X 1 s l) * (1 / 8) : ℝ) : EReal) := by
  have h := dq_at H o r l
  generalize (tiles x0 x1 x2 x3 x4 x5) = T at h ⊢
  pointwise [dqOut]
  exact mul_coe h eighth_f32
theorem dkOut_at (o : Fin 4) (s : Fin 512) (l : Fin 128) :
    tOut (F := Ideal) ((tiles x0 x1 x2 x3 x4 x5).dk o) (ix2 s l) = ((∑ t, B.G (hd l) t (row o s) * (B.X 0 t l * (1 / 8)) : ℝ) : EReal) := by
  have h := dk_at H o l s
  generalize (tiles x0 x1 x2 x3 x4 x5) = T at h ⊢
  pointwise [tOut]
  exact h
theorem dvOut_at (o : Fin 4) (s : Fin 512) (l : Fin 128) :
    tOut (F := Ideal) ((tiles x0 x1 x2 x3 x4 x5).dv o) (ix2 s l) = ((∑ t, B.P (hd l) t (row o s) * B.D t l : ℝ) : EReal) := by
  have h := dv_at H o l s
  generalize (tiles x0 x1 x2 x3 x4 x5) = T at h ⊢
  pointwise [tOut]
  exact h

end

end Cert.AttnBwd

end
-- ==== Proof.Attn.Out.lean ====
/- The two result blocks of a grid point read at an index: the gradients of a head pair's queries, keys and values, and the
   decay's gradient added to what earlier head pairs left. -/
module

public import proofs.«01_k».proof.Proof.Attn.BlockVal
public import Idealize.ShloMosaic.Lib.Pipeline.ValueKit
public import Idealize.ShloMosaic.Lib.Pipeline.ReadBack

@[expose] public section

noncomputable section

namespace Cert.AttnBwd

open Idealize.ShloMosaic Cert.KernelIdeal Cert.KernelIdeal.Gen

namespace Real6

variable (B : Real6)

/-- A head pair's gradients: of its queries (`w = 0`), keys (1) and values (2). -/
def out (w : Fin 3) (t : Fin 2048) (l : Fin 128) : ℝ :=
  if w.val = 0 then (∑ s, B.G (hd l) t s * B.X 1 s l) * (1 / 8)
  else if w.val = 1 then ∑ u, B.G (hd l) u t * (B.X 0 u l * (1 / 8))
  else ∑ u, B.P (hd l) u t * B.D u l

/-- The decay's gradient, head pair `p`'s two lanes. -/
def dcp (p : Fin 8) (t : Fin 2048) (l : Fin 128) : ℝ :=
  if l.val / 2 = p.val then
    (∑ s, B.G ⟨l.val % 2, by omega⟩ t s) - ∑ u, B.G ⟨l.val % 2, by omega⟩ u t
  else 0

end Real6

section

variable {B : Real6} {x0 : Vec Ideal S1x2048x384 .bf16} {x1 : Vec Ideal S1x2048x128 .bf16} {x2 : Vec Ideal S1x2048x128 .f32}
  {x3 x4 : Vec Ideal S1x1x2x4x512 .f32} {x5 : Vec Ideal S1x2048x128 .f32} (H : Holds B x0 x1 x2 x3 x4 x5)
include H

theorem piece_dq (o : Fin 4) (z : S512x128.Idx) (w : Fin 3) (t : Fin 2048) (l : Fin 128) (hw : w.val = 0)
    (h0 : t.val = 512 * o.val + (z 0).val) (h1 : l.val = (z 1).val) :
    dqOut (F := Ideal) ((tiles x0 x1 x2 x3 x4 x5).dq o) z = ((B.out w t l : ℝ) : EReal) := by
  idx_vars z
  obtain rfl : t = row o z0 := Fin.ext h0
  obtain rfl : l = z1 := Fin.ext h1
  rw [dqOut_at H, Real6.out, if_pos hw]
theorem piece_dk (o : Fin 4) (z : S512x128.Idx) (w : Fin 3) (t : Fin 2048) (l : Fin 128) (hw : w.val = 1)
    (h0 : t.val = 512 * o.val + (z 0).val) (h1 : l.val = (z 1).val) :
    tOut (F := Ideal) ((tiles x0 x1 x2 x3 x4 x5).dk o) z = ((B.out w t l : ℝ) : EReal) := by
  idx_vars z
  obtain rfl : t = row o z0 := Fin.ext h0
  obtain rfl : l = z1 := Fin.ext h1
  rw [dkOut_at H, Real6.out, if_neg (by omega), if_pos hw]
theorem piece_dv (o : Fin 4) (z : S512x128.Idx) (w : Fin 3) (t : Fin 2048) (l : Fin 128) (hw : w.val = 2)
    (h0 : t.val = 512 * o.val + (z 0).val) (h1 : l.val = (z 1).val) :
    tOut (F := Ideal) ((tiles x0 x1 x2 x3 x4 x5).dv o) z = ((B.out w t l : ℝ) : EReal) := by
  idx_vars z
  obtain rfl : t = row o z0 := Fin.ext h0
  obtain rfl : l = z1 := Fin.ext h1
  rw [dvOut_at H, Real6.out, if_neg (by omega), if_neg (by omega)]

/-- The first result's block. -/
theorem canon6 (w : Fin 3) (t : Fin 2048) (l : Fin 128) :
    View.canon (Val := Elt Ideal) (s := S2048x384) (e := .bf16)
      [⟨Rect.unit ![1536, 0] S512x128.size inb_S2048x384_S512x128_1536_0, dqOut (F := Ideal) ((tiles x0 x1 x2 x3 x4 x5).dq 3)⟩,
      ⟨Rect.unit ![1024, 0] S512x128.size inb_S2048x384_S512x128_1024_0, dqOut (F := Ideal) ((tiles x0 x1 x2 x3 x4 x5).dq 2)⟩,
      ⟨Rect.unit ![512, 0] S512x128.size inb_S2048x384_S512x128_512_0, dqOut (F := Ideal) ((tiles x0 x1 x2 x3 x4 x5).dq 1)⟩,
      ⟨Rect.unit ![0, 0] S512x128.size inb_S2048x384_S512x128_0_0, dqOut (F := Ideal) ((tiles x0 x1 x2 x3 x4 x5).dq 0)⟩,
      ⟨Rect.unit ![1536, 256] S512x128.size inb_S2048x384_S512x128_1536_256, tOut (F := Ideal) ((tiles x0 x1 x2 x3 x4 x5).dv 3)⟩,
      ⟨Rect.unit ![1536, 128] S512x128.size inb_S2048x384_S512x128_1536_128, tOut (F := Ideal) ((tiles x0 x1 x2 x3 x4 x5).dk 3)⟩,
      ⟨Rect.unit ![1024, 256] S512x128.size inb_S2048x384_S512x128_1024_256, tOut (F := Ideal) ((tiles x0 x1 x2 x3 x4 x5).dv 2)⟩,
      ⟨Rect.unit ![1024, 128] S512x128.size inb_S2048x384_S512x128_1024_128, tOut (F := Ideal) ((tiles x0 x1 x2 x3 x4 x5).dk 2)⟩,
      ⟨Rect.unit ![512, 256] S512x128.size inb_S2048x384_S512x128_512_256, tOut (F := Ideal) ((tiles x0 x1 x2 x3 x4 x5).dv 1)⟩,
      ⟨Rect.unit ![512, 128] S512x128.size inb_S2048x384_S512x128_512_128, tOut (F := Ideal) ((tiles x0 x1 x2 x3 x4 x5).dk 1)⟩,
      ⟨Rect.unit ![0, 256] S512x128.size inb_S2048x384_S512x128_0_256, tOut (F := Ideal) ((tiles x0 x1 x2 x3 x4 x5).dv 0)⟩,
      ⟨Rect.unit ![0, 128] S512x128.size inb_S2048x384_S512x128_0_128, tOut (F := Ideal) ((tiles x0 x1 x2 x3 x4 x5).dk 0)⟩]
      (ix2 t ⟨128 * w.val + l.val, by have := w.2; have := l.2; omega⟩) = ((B.out w t l : ℝ) : EReal) := by
  have hw := w.2; have hl := l.2
  canon_tiles z h
  all_goals
    change t.val = _ at h0
    change 128 * w.val + l.val = _ at h1
  · exact piece_dq H 3 z w t l (by omega) h0 (by omega)
  · exact piece_dq H 2 z w t l (by omega) h0 (by omega)
  · exact piece_dq H 1 z w t l (by omega) h0 (by omega)
  · exact piece_dq H 0 z w t l (by omega) (by simpa using h0) (by omega)
  · exact piece_dv H 3 z w t l (by omega) h0 (by omega)
  · exact piece_dk H 3 z w t l (by omega) h0 (by omega)
  · exact piece_dv H 2 z w t l (by omega) h0 (by omega)
  · exact piece_dk H 2 z w t l (by omega) h0 (by omega)
  · exact piece_dv H 1 z w t l (by omega) h0 (by omega)
  · exact piece_dk H 1 z w t l (by omega) h0 (by omega)
  · exact piece_dv H 0 z w t l (by omega) (by simpa using h0) (by omega)
  · exact piece_dk H 0 z w t l (by omega) (by simpa using h0) (by omega)

theorem piece_dc (p : Fin 8) (xo : Vec Ideal S1x2048x128 .f32) (A : Fin 2048 → Fin 128 → ℝ)
    (hA : ∀ t l, xo (ix3 0 t l) = ((A t l : ℝ) : EReal)) (o : Fin 4) (off : Fin 3 → ℕ) (hoff : off = ![0, 512 * o.val, 0]) (inb)
    (z : S1x512x128.Idx) :
    (tiles x0 x1 x2 x3 x4 x5).dc (BitVec.ofNat 32 p.val) (ld128 xo) o z
      = (fun i : S1x2048x128.Idx => ((A (i 1) (i 2) + B.dcp p (i 1) (i 2) : ℝ) : EReal))
          ((Rect.unit (s := S1x2048x128) off S1x512x128.size inb).emb z) := by
  subst hoff
  idx_vars z
  obtain rfl : z0 = 0 := Subsingleton.elim _ _
  have h1 : ((Rect.unit (s := S1x2048x128) ![0, 512 * o.val, 0] S1x512x128.size inb).emb (ix3 0 z1 z2)) 1 = row o z1 :=
    Fin.ext (show 512 * o.val + 1 * z1.val = 512 * o.val + z1.val by omega)
  have h2 : ((Rect.unit (s := S1x2048x128) ![0, 512 * o.val, 0] S1x512x128.size inb).emb (ix3 0 z1 z2)) 2 = z2 :=
    Fin.ext (show 0 + 1 * z2.val = z2.val by omega)
  have h3 : ld128 xo o (ix3 0 z1 z2) = ((A (row o z1) z2 : ℝ) : EReal) := by
    rw [← hA]; pointwise! [ld128, row]
  rw [dc_at H p (ld128 xo) o z1 z2 h3]
  show _ = ((A _ _ + B.dcp p _ _ : ℝ) : EReal)
  rw [h1, h2]; rfl

/-- The second result's block, over what it held. -/
theorem canon7 (p : Fin 8) (xo : Vec Ideal S1x2048x128 .f32) (A : Fin 2048 → Fin 128 → ℝ)
    (hA : ∀ t l, xo (ix3 0 t l) = ((A t l : ℝ) : EReal)) (L) (t : Fin 2048) (l : Fin 128) :
    View.canon (Val := Elt Ideal) (s := S1x2048x128) (e := .f32)
      ([⟨Rect.unit ![0, 1536, 0] S1x512x128.size inb_S1x2048x128_S1x512x128_0_1536_0, (tiles x0 x1 x2 x3 x4 x5).dc (BitVec.ofNat 32 p.val) (ld128 xo) 3⟩,
      ⟨Rect.unit ![0, 1024, 0] S1x512x128.size inb_S1x2048x128_S1x512x128_0_1024_0, (tiles x0 x1 x2 x3 x4 x5).dc (BitVec.ofNat 32 p.val) (ld128 xo) 2⟩,
      ⟨Rect.unit ![0, 512, 0] S1x512x128.size inb_S1x2048x128_S1x512x128_0_512_0, (tiles x0 x1 x2 x3 x4 x5).dc (BitVec.ofNat 32 p.val) (ld128 xo) 1⟩,
      ⟨Rect.unit ![0, 0, 0] S1x512x128.size inb_S1x2048x128_S1x512x128_0_0_0, (tiles x0 x1 x2 x3 x4 x5).dc (BitVec.ofNat 32 p.val) (ld128 xo) 0⟩] ++ L)
      (ix3 0 t l) = ((A t l + B.dcp p t l : ℝ) : EReal) := by
  have ht := t.2; have hl := l.2
  have hp : View.PiecesOf (Val := Elt Ideal) (s := S1x2048x128) (e := .f32)
      (fun i => ((A (i 1) (i 2) + B.dcp p (i 1) (i 2) : ℝ) : EReal))
      [⟨Rect.unit ![0, 1536, 0] S1x512x128.size inb_S1x2048x128_S1x512x128_0_1536_0, (tiles x0 x1 x2 x3 x4 x5).dc (BitVec.ofNat 32 p.val) (ld128 xo) 3⟩,
      ⟨Rect.unit ![0, 1024, 0] S1x512x128.size inb_S1x2048x128_S1x512x128_0_1024_0, (tiles x0 x1 x2 x3 x4 x5).dc (BitVec.ofNat 32 p.val) (ld128 xo) 2⟩,
      ⟨Rect.unit ![0, 512, 0] S1x512x128.size inb_S1x2048x128_S1x512x128_0_512_0, (tiles x0 x1 x2 x3 x4 x5).dc (BitVec.ofNat 32 p.val) (ld128 xo) 1⟩,
      ⟨Rect.unit ![0, 0, 0] S1x512x128.size inb_S1x2048x128_S1x512x128_0_0_0, (tiles x0 x1 x2 x3 x4 x5).dc (BitVec.ofNat 32 p.val) (ld128 xo) 0⟩] :=
    ⟨piece_dc H p xo A hA 3 ![0, 1536, 0] rfl inb_S1x2048x128_S1x512x128_0_1536_0, piece_dc H p xo A hA 2 ![0, 1024, 0] rfl inb_S1x2048x128_S1x512x128_0_1024_0, piece_dc H p xo A hA 1 ![0, 512, 0] rfl inb_S1x2048x128_S1x512x128_0_512_0, piece_dc H p xo A hA 0 ![0, 0, 0] rfl inb_S1x2048x128_S1x512x128_0_0_0, trivial⟩
  refine View.canon_append_of_piecesOf _ L _ hp (ix3 0 t l) ?_
  have mem : ∀ n : ℕ, ∀ inb, n ≤ t.val → t.val < n + 512 →
      (ix3 0 t l : S1x2048x128.Idx) ∈ (Rect.unit (s := S1x2048x128) ![0, n, 0] S1x512x128.size inb).set := by
    intro n inb h0 h1
    rw [Rect.mem_set_unit]
    intro a
    fin_cases a
    · exact ⟨le_refl 0, Nat.zero_lt_one⟩
    · exact ⟨h0, h1⟩
    · exact ⟨Nat.zero_le _, show l.val < 0 + 128 by omega⟩
  rcases (by omega : 1536 ≤ t.val ∨ (1024 ≤ t.val ∧ t.val < 1536) ∨ (512 ≤ t.val ∧ t.val < 1024) ∨ t.val < 512) with g | g | g | g
  · exact ⟨_, .head _, mem 1536 inb_S1x2048x128_S1x512x128_0_1536_0 (by omega) (by omega)⟩
  · exact ⟨_, .tail _ (.head _), mem 1024 inb_S1x2048x128_S1x512x128_0_1024_0 (by omega) (by omega)⟩
  · exact ⟨_, .tail _ (.tail _ (.head _)), mem 512 inb_S1x2048x128_S1x512x128_0_512_0 (by omega) (by omega)⟩
  · exact ⟨_, .tail _ (.tail _ (.tail _ (.head _))), mem 0 inb_S1x2048x128_S1x512x128_0_0_0 (by omega) (by omega)⟩

end

end Cert.AttnBwd
-- ==== Proof.Attn.Link.lean ====
/- A head pair's numbers in terms of the arguments: what a grid point computes is the gradient of forgetting attention. -/
module

public import proofs.«01_k».proof.Proof.Attn.Out
public import proofs.«01_k».proof.Proof.Attn.Spec

@[expose] public section

noncomputable section

namespace Cert.AttnBwd

open Idealize.ShloMosaic

/-- Head `hh` of pair `p`. -/
def head (p : Fin 8) (hh : Fin 2) : Fin 16 := ⟨2 * p.val + hh.val, by omega⟩
/-- A lane within its head. -/
def ln (l : Fin 128) : Fin 64 := ⟨l.val % 64, by omega⟩

namespace Args

variable (A : Args) (b : Fin 4) (p : Fin 8)

/-- The numbers of head pair `p` of batch element `b`. -/
def pair : Real6 where
  X w t l := if w.val = 0 then A.Q b t (head p (hd l)) (ln l) else if w.val = 1 then A.K b t (head p (hd l)) (ln l)
    else A.W b t (head p (hd l)) (ln l)
  D t l := A.O b t (head p (hd l)) (ln l)
  Y t l := A.y b (head p (hd l)) t (ln l)
  L hh t := Real.log (A.Z b (head p hh) t)
  C hh t := A.C b t (head p hh)

theorem own_pair (hh : Fin 2) (f : Fin 2 → Fin 64 → ℝ) : own hh (fun l => f (hd l) (ln l)) = ∑ d, f hh d := by
  rw [own_eq]
  refine Finset.sum_congr rfl fun d _ => ?_
  have hd' := d.2
  have e1 : hd ⟨64 * hh.val + d.val, by have := hh.2; omega⟩ = hh := Fin.ext (show (64 * hh.val + d.val) / 64 = hh.val by omega)
  have e2 : ln ⟨64 * hh.val + d.val, by have := hh.2; omega⟩ = d := Fin.ext (show (64 * hh.val + d.val) % 64 = d.val by omega)
  rw [e1, e2]

theorem pair_S (hh : Fin 2) (t s : Fin 2048) : (A.pair b p).S hh t s = A.sc b (head p hh) t s - Real.log (A.Z b (head p hh) t) := by
  have h : own hh (fun l => (A.pair b p).X 0 t l * (1 / 8) * (A.pair b p).X 1 s l)
      = ∑ d, A.Q b t (head p hh) d * (1 / 8) * A.K b s (head p hh) d :=
    own_pair hh (fun e d => A.Q b t (head p e) d * (1 / 8) * A.K b s (head p e) d)
  rw [Real6.S, h, sc, Finset.sum_mul]
  have h2 : ∀ d, A.Q b t (head p hh) d * (1 / 8) * A.K b s (head p hh) d = A.Q b t (head p hh) d * A.K b s (head p hh) d * (1 / 8) :=
    fun d => by ring
  rw [Finset.sum_congr rfl fun d _ => h2 d]
  show _ + (A.C b t (head p hh) - Real.log (A.Z b (head p hh) t)) + (0 - A.C b s (head p hh)) = _
  ring

theorem pair_P (hh : Fin 2) (t s : Fin 2048) : (A.pair b p).P hh t s = A.p b (head p hh) t s := by
  rw [Real6.P, pair_S, exp_log]

theorem pair_E (hh : Fin 2) (t s : Fin 2048) : (A.pair b p).E hh t s = A.dp b (head p hh) t s - A.D b (head p hh) t := by
  have h1 : own hh (fun l => (A.pair b p).D t l * (A.pair b p).X 2 s l) = A.dp b (head p hh) t s :=
    own_pair hh (fun e d => A.O b t (head p e) d * A.W b s (head p e) d)
  have h2 : own hh (fun l => (A.pair b p).Y t l * (A.pair b p).D t l) = A.D b (head p hh) t := by
    rw [← y_O]
    exact own_pair hh (fun e d => A.y b (head p e) t d * A.O b t (head p e) d)
  rw [Real6.E, h1, h2]
  ring

theorem pair_G (hh : Fin 2) (t s : Fin 2048) : (A.pair b p).G hh t s = A.g b (head p hh) t s := by
  rw [Real6.G, pair_P, pair_E]; rfl

/-- The gradients side by side, as the first result has them: 0 the queries', 1 the keys', 2 the values'. -/
def d3 (w : Fin 3) (h : Fin 16) (t : Fin 2048) (d : Fin 64) : ℝ :=
  if w.val = 0 then A.dq b h t d else if w.val = 1 then A.dk b h t d else A.dv b h t d

theorem pair_out (w : Fin 3) (t : Fin 2048) (l : Fin 128) : (A.pair b p).out w t l = A.d3 b w (head p (hd l)) t (ln l) := by
  unfold Real6.out d3
  split_ifs
  · rw [dq]; simp only [pair_G]; rfl
  · rw [dk, Finset.sum_mul]; simp only [pair_G]
    refine Finset.sum_congr rfl fun u _ => ?_
    show _ * (A.Q b u (head p (hd l)) (ln l) * (1 / 8)) = _
    ring
  · rw [dv]; simp only [pair_P]; rfl

/-- The decay's gradient of head `l`, and nothing from head 16 on. -/
def dcl (t : Fin 2048) (l : Fin 128) : ℝ := if h : l.val < 16 then A.dc b ⟨l.val, h⟩ t else 0

/-- What the head pairs before `n` leave in the decay's gradient. -/
def dcUpto (n : ℕ) (t : Fin 2048) (l : Fin 128) : ℝ := if l.val / 2 < n then A.dcl b t l else 0

theorem dcUpto_zero (t : Fin 2048) (l : Fin 128) : A.dcUpto b 0 t l = 0 := if_neg (by omega)
theorem dcUpto_all (t : Fin 2048) (l : Fin 128) : A.dcUpto b 8 t l = A.dcl b t l := by
  unfold dcUpto dcl
  split_ifs <;> first | rfl | omega

theorem dcUpto_succ (t : Fin 2048) (l : Fin 128) :
    A.dcUpto b p.val t l + (A.pair b p).dcp p t l = A.dcUpto b (p.val + 1) t l := by
  unfold Real6.dcp dcUpto
  by_cases h : l.val / 2 = p.val
  · have hp := p.2
    have hl : l.val < 16 := by omega
    have e : head p ⟨l.val % 2, by omega⟩ = ⟨l.val, hl⟩ := Fin.ext (show 2 * p.val + l.val % 2 = l.val by omega)
    rw [if_neg (by omega), if_pos h, if_pos (by omega), zero_add, dcl, dif_pos hl]
    simp only [pair_G, e]
    rfl
  · rw [if_neg h, add_zero]
    by_cases h2 : l.val / 2 < p.val
    · rw [if_pos h2, if_pos (by omega)]
    · rw [if_neg h2, if_neg (by omega)]

end Args

end Cert.AttnBwd
-- ==== Proof.Attn.Oper.lean ====
/- The call's six operands at an index. -/
module

public import proofs.«01_k».proof.Proof.Attn.Host
public import proofs.«01_k».proof.Proof.Attn.Link
public import Idealize.ShloMosaic.Lib.Pipeline.Value

@[expose] public section

noncomputable section

namespace Cert.AttnBwd

open Idealize.ShloMosaic Cert.KernelIdeal Cert.KernelIdeal.Gen

/-- Lane `l` of head pair `p`, the heads side by side. -/
def lane1024 (p : Fin 8) (l : Fin 128) : Fin 1024 := ⟨p.val * 128 + l.val, by omega⟩
/-- Lane `l` of the queries (`w = 0`), keys or values of head pair `p`. -/
def lane3072 (p : Fin 8) (w : Fin 3) (l : Fin 128) : Fin 3072 := ⟨p.val * 384 + (128 * w.val + l.val), by omega⟩

theorem cast_1024 (x : Vec Ideal S4x2048x16x64 .f32) (hc) (b : Fin 4) (t : Fin 2048) (p : Fin 8) (l : Fin 128) :
    shapeCast S4x2048x1024 x hc (ix3 b t (lane1024 p l)) = x (ix4 b t (head p (hd l)) (ln l)) :=
  shapeCast_apply _ _ _ (ix4 b t (head p (hd l)) (ln l)) (by
    rw [Shape.rowMajor_val_four, Shape.rowMajor_val_three]
    show ((b.val * 2048 + t.val) * 16 + (2 * p.val + l.val / 64)) * 64 + l.val % 64
      = (b.val * 2048 + t.val) * 1024 + (p.val * 128 + l.val)
    omega)

theorem cast_heads (x : Vec Ideal S4x16x2048 .f32) (hc) (b : Fin 4) (p : Fin 8) (hh : Fin 2) (o : Fin 4) (r : Fin 512) :
    shapeCast S4x8x2x4x512 x hc (ix5 b p hh o r) = x (ix3 b (head p hh) (row o r)) :=
  shapeCast_apply _ _ _ (ix3 b (head p hh) (row o r)) (by
    rw [Shape.rowMajor_val_five, Shape.rowMajor_val_three]
    show (b.val * 16 + (2 * p.val + hh.val)) * 2048 + (512 * o.val + r.val)
      = (((b.val * 8 + p.val) * 2 + hh.val) * 4 + o.val) * 512 + r.val
    omega)

theorem cast_128 (x : Vec Ideal S4x2048x16x64 .f32) (hc) (b : Fin 4) (t : Fin 2048) (p : Fin 8) (l : Fin 128) :
    shapeCast S4x2048x8x128 x hc (ix4 b t p l) = x (ix4 b t (head p (hd l)) (ln l)) :=
  shapeCast_apply _ _ _ (ix4 b t (head p (hd l)) (ln l)) (by
    rw [Shape.rowMajor_val_four, Shape.rowMajor_val_four]
    show ((b.val * 2048 + t.val) * 16 + (2 * p.val + l.val / 64)) * 64 + l.val % 64
      = ((b.val * 2048 + t.val) * 8 + p.val) * 128 + l.val
    omega)

/-- A lane of the joined array is a lane of one of the three. -/
theorem join_at (f : Fin 3 → Vec Ideal S4x2048x8x128 .f32) (b : Fin 4) (t : Fin 2048) (p : Fin 8) (w : Fin 3) (l : Fin 128) :
    (concatenate S4x2048x8x384 3 [⟨S4x2048x8x128, f 0⟩, ⟨S4x2048x8x128, f 1⟩, ⟨S4x2048x8x128, f 2⟩]
        concatenates_S4x2048x8x128_S4x2048x8x128_S4x2048x8x128_S4x2048x8x384_d3 : Vec Ideal S4x2048x8x384 .f32)
      (ix4 b t p ⟨128 * w.val + l.val, by omega⟩) = f w (ix4 b t p l) := by
  refine concatenate_ofFn_apply (t := S4x2048x8x384) (s₁ := S4x2048x8x128) 3 f _ rfl 128 rfl _ w ?_ (ix4 b t p l) ?_ ?_
  · show (128 * w.val + l.val) / 128 = w.val
    omega
  · show l.val = (128 * w.val + l.val) % 128
    omega
  · intro a ha
    fin_cases a
    · rfl
    · rfl
    · rfl
    · exact absurd rfl ha

theorem cast_3072 (x : Vec Ideal S4x2048x8x384 .f32) (hc) (b : Fin 4) (t : Fin 2048) (p : Fin 8) (w : Fin 3) (l : Fin 128) :
    shapeCast S4x2048x3072 x hc (ix3 b t (lane3072 p w l)) = x (ix4 b t p ⟨128 * w.val + l.val, by omega⟩) :=
  shapeCast_apply _ _ _ (ix4 b t p ⟨128 * w.val + l.val, by omega⟩) (by
    rw [Shape.rowMajor_val_four, Shape.rowMajor_val_three]
    show ((b.val * 2048 + t.val) * 8 + p.val) * 384 + (128 * w.val + l.val)
      = (b.val * 2048 + t.val) * 3072 + (p.val * 384 + (128 * w.val + l.val))
    omega)

theorem trunc_at {s : Shape} (x : FVec Ideal s .f32) (i : s.Idx) :
    truncf (F := Ideal) .bf16 x bitsLt_bf16_f32 i = x i := rfl

theorem hC_at (c : Vec Ideal S4x2048x16 .f32) (b : Fin 4) (h : Fin 16) (t : Fin 2048) :
    hC (F := Ideal) c (ix3 b h t) = c (ix3 b t h) := by pointwise! [hC]

theorem hCx_at (c : Vec Ideal S4x2048x16 .f32) (b : Fin 4) (t : Fin 2048) (p : Fin 8) (l : Fin 128) :
    hCx (F := Ideal) c (ix3 b t (lane1024 p l)) = c (ix3 b t (head p (hd l))) := by
  rw [hCx, cast_1024]; pointwise!

section

variable {A : Args} {q k v : Vec Ideal S4x2048x16x64 .f32} {c : Vec Ideal S4x2048x16 .f32} {o : Vec Ideal S4x2048x16x64 .f32}
  (H : A.Of q k v c o)
include H

theorem hQKV_at (b : Fin 4) (t : Fin 2048) (p : Fin 8) (w : Fin 3) (l : Fin 128) :
    hQKV (F := Ideal) q k v (ix3 b t (lane3072 p w l)) = (((A.pair b p).X w t l : ℝ) : EReal) := by
  rw [hQKV, trunc_at, cast_3072]
  refine (join_at (fun w => shapeCast S4x2048x8x128 (if w.val = 0 then q else if w.val = 1 then k else v)
    shapeCasts_S4x2048x16x64_S4x2048x8x128) b t p w l).trans ?_
  rw [cast_128]
  unfold Args.pair
  dsimp only
  split_ifs
  · exact H.hq _ _ _ _
  · exact H.hk _ _ _ _
  · exact H.hv _ _ _ _

theorem hO_at (b : Fin 4) (t : Fin 2048) (p : Fin 8) (l : Fin 128) :
    hO (F := Ideal) o (ix3 b t (lane1024 p l)) = (((A.pair b p).D t l : ℝ) : EReal) := by
  rw [hO, trunc_at, cast_1024]
  exact H.ho _ _ _ _

end

end Cert.AttnBwd
-- ==== Proof.Attn.Point.lean ====
/- The blocks a grid point reads, in terms of the arguments. -/
module

public import proofs.«01_k».proof.Proof.Attn.Oper
public import proofs.«01_k».proof.Proof.Gen.KernelIdeal.Value
public import Idealize.ShloMosaic.Lib.Pipeline.ValueKit

@[expose] public section

noncomputable section

namespace Cert.AttnBwd

open Idealize.ShloMosaic Idealize.ShloMosaic.TcCoe Idealize.SL.Sem Cert.KernelIdeal Cert.KernelIdeal.Gen

/-- A grid point's batch element and head pair. -/
def bt (t : Fin cfg0.N) : Fin 4 := ⟨t.val / 8, by have : t.val < 32 := t.2; omega⟩
def pr (t : Fin cfg0.N) : Fin 8 := ⟨t.val % 8, by omega⟩

/-- Where each window's block lies. -/
theorem idx : ∀ t : Fin cfg0.N,
    (win0_0.index t = ![t.val / 8, 0, t.val % 8] ∧ win0_1.index t = ![t.val / 8, 0, t.val % 8] ∧ win0_2.index t = ![t.val / 8, 0, t.val % 8])
    ∧ (win0_3.index t = ![t.val / 8, t.val % 8, 0, 0, 0] ∧ win0_4.index t = ![t.val / 8, t.val % 8, 0, 0, 0]
      ∧ win0_5.index t = ![t.val / 8, 0, t.val % 8])
    ∧ win0_6.index t = ![t.val / 8, t.val % 8] ∧ win0_7.index t = ![t.val / 8, 0, 0] :=
  (by decide +kernel : ∀ t : Fin grid0.N, _)

theorem second : ∀ t : Fin cfg0.N, ((grid0.coords t) 1).val = t.val % 8 := (by decide +kernel : ∀ t : Fin grid0.N, _)

variable (m : (ℓ : Loc nD τ sig) → Buf (Elt Ideal) ℓ) (c : Dev nD) (t : Fin cfg0.N)

theorem read0 (X : Vec Ideal S4x2048x3072 .bf16) (x : Fin 2048) (w : Fin 3) (l : Fin 128) :
    (((cfg0.win 0).blk t).view.read (Elt Ideal) X : Vec Ideal S1x2048x384 .bf16) (ix3 0 x ⟨128 * w.val + l.val, by omega⟩) = X (ix3 (bt t) x (lane3072 (pr t) w l)) := by
  blk_simp
  blk_ext [idx t, bt, pr, lane3072]
theorem blk0 (x : Fin 2048) (w : Fin 3) (l : Fin 128) :
    (iblk m c 0 t : Vec Ideal S1x2048x384 .bf16) (ix3 0 x ⟨128 * w.val + l.val, by omega⟩)
      = (V m c main_v38 : Vec Ideal S4x2048x3072 .bf16) (ix3 (bt t) x (lane3072 (pr t) w l)) := read0 t (V m c main_v38) x w l
theorem read1 (X : Vec Ideal S4x2048x1024 .bf16) (x : Fin 2048) (l : Fin 128) :
    (((cfg0.win 1).blk t).view.read (Elt Ideal) X : Vec Ideal S1x2048x128 .bf16) (ix3 0 x l) = X (ix3 (bt t) x (lane1024 (pr t) l)) := by
  blk_simp
  blk_ext [idx t, bt, pr, lane1024]
theorem blk1 (x : Fin 2048) (l : Fin 128) :
    (iblk m c 1 t : Vec Ideal S1x2048x128 .bf16) (ix3 0 x l)
      = (V m c main_v43 : Vec Ideal S4x2048x1024 .bf16) (ix3 (bt t) x (lane1024 (pr t) l)) := read1 t (V m c main_v43) x l
theorem read2 (X : Vec Ideal S4x2048x1024 .f32) (x : Fin 2048) (l : Fin 128) :
    (((cfg0.win 2).blk t).view.read (Elt Ideal) X : Vec Ideal S1x2048x128 .f32) (ix3 0 x l) = X (ix3 (bt t) x (lane1024 (pr t) l)) := by
  blk_simp
  blk_ext [idx t, bt, pr, lane1024]
theorem blk2 (x : Fin 2048) (l : Fin 128) :
    (iblk m c 2 t : Vec Ideal S1x2048x128 .f32) (ix3 0 x l)
      = (V m c main_v44 : Vec Ideal S4x2048x1024 .f32) (ix3 (bt t) x (lane1024 (pr t) l)) := read2 t (V m c main_v44) x l
theorem read3 (X : Vec Ideal S4x8x2x4x512 .f32) (hh : Fin 2) (o : Fin 4) (r : Fin 512) :
    (((cfg0.win 3).blk t).view.read (Elt Ideal) X : Vec Ideal S1x1x2x4x512 .f32) (ix5 0 0 hh o r) = X (ix5 (bt t) (pr t) hh o r) := by
  blk_simp
  blk_ext [idx t, bt, pr]
theorem blk3 (hh : Fin 2) (o : Fin 4) (r : Fin 512) :
    (iblk m c 3 t : Vec Ideal S1x1x2x4x512 .f32) (ix5 0 0 hh o r)
      = (V m c main_v45 : Vec Ideal S4x8x2x4x512 .f32) (ix5 (bt t) (pr t) hh o r) := read3 t (V m c main_v45) hh o r
theorem read4 (X : Vec Ideal S4x8x2x4x512 .f32) (hh : Fin 2) (o : Fin 4) (r : Fin 512) :
    (((cfg0.win 4).blk t).view.read (Elt Ideal) X : Vec Ideal S1x1x2x4x512 .f32) (ix5 0 0 hh o r) = X (ix5 (bt t) (pr t) hh o r) := by
  blk_simp
  blk_ext [idx t, bt, pr]
theorem blk4 (hh : Fin 2) (o : Fin 4) (r : Fin 512) :
    (iblk m c 4 t : Vec Ideal S1x1x2x4x512 .f32) (ix5 0 0 hh o r)
      = (V m c main_v46 : Vec Ideal S4x8x2x4x512 .f32) (ix5 (bt t) (pr t) hh o r) := read4 t (V m c main_v46) hh o r
theorem read5 (X : Vec Ideal S4x2048x1024 .f32) (x : Fin 2048) (l : Fin 128) :
    (((cfg0.win 5).blk t).view.read (Elt Ideal) X : Vec Ideal S1x2048x128 .f32) (ix3 0 x l) = X (ix3 (bt t) x (lane1024 (pr t) l)) := by
  blk_simp
  blk_ext [idx t, bt, pr, lane1024]
theorem blk5 (x : Fin 2048) (l : Fin 128) :
    (iblk m c 5 t : Vec Ideal S1x2048x128 .f32) (ix3 0 x l)
      = (V m c main_v41 : Vec Ideal S4x2048x1024 .f32) (ix3 (bt t) x (lane1024 (pr t) l)) := read5 t (V m c main_v41) x l

theorem holds {A : Args} (H : A.Of (aq m c) (ak m c) (av m c) (ac m c) (ao m c)) :
    Holds (A.pair (bt t) (pr t)) (iblk m c 0 t) (iblk m c 1 t) (iblk m c 2 t) (iblk m c 3 t) (iblk m c 4 t) (iblk m c 5 t) where
  h0 w x l := by rw [blk0, V38]; exact hQKV_at H _ _ _ _ _
  h1 x l := by rw [blk1, V43]; exact hO_at H _ _ _ _
  h2 x l := by rw [blk2, V44, cast_1024]; exact hY_at H _ _ _ _
  h3 hh o r := by rw [blk3, V45, cast_heads]; exact hL_at H _ _ _
  h4 hh o r := by rw [blk4, V46, cast_heads, hC_at]; exact H.hc _ _ _
  h5 hh x := by
    have e : hd ⟨64 * hh.val, by omega⟩ = hh := Fin.ext (show 64 * hh.val / 64 = hh.val by omega)
    rw [blk5, V41, hCx_at, e]; exact H.hc _ _ _

end Cert.AttnBwd
-- ==== Proof.Attn.RunA.lean ====
/- The attention gradient's body at the first grid point of a sequence: each operand tile it reads back is the tile's
   closed form, and what it stores in its two results is that of the tiles, the decay's gradient over zeros. -/
module

public import proofs.«01_k».proof.Proof.Attn.Blocks
public import proofs.«01_k».proof.Proof.Gen.KernelIdeal.Frame

@[expose] public section

set_option maxRecDepth 16384

noncomputable section

namespace Cert.AttnBwd.RunA

open Idealize.ShloMosaic Cert.KernelIdeal Cert.KernelIdeal.Gen
open View (readCov_skip readCov_cons_toLoadRect)

variable {F : FTy → Type} [FloatOps F] [Named F]
variable (c : Dev nD) (i : grid0.Coords) (arg2 : Memref sig .tc .vmem S1x2048x384 .bf16) (harg2 : arg2.IsWhole) (arg3 : Memref sig .tc .vmem S1x2048x128 .bf16) (harg3 : arg3.IsWhole) (arg4 : Memref sig .tc .vmem S1x2048x128 .f32) (harg4 : arg4.IsWhole) (arg5 : Memref sig .tc .vmem S1x1x2x4x512 .f32) (harg5 : arg5.IsWhole) (arg6 : Memref sig .tc .vmem S1x1x2x4x512 .f32) (harg6 : arg6.IsWhole) (arg7 : Memref sig .tc .vmem S1x2048x128 .f32) (harg7 : arg7.IsWhole) (arg8 : Memref sig .tc .vmem S2048x384 .bf16) (harg8 : arg8.IsWhole) (arg9 : Memref sig .tc .vmem S1x2048x128 .f32) (harg9 : arg9.IsWhole) (arg10 : Memref sig .tc .vmem S2x4x512x128 .bf16) (harg10 : arg10.IsWhole) (arg11 : Memref sig .tc .vmem S2x4x512x128 .bf16) (harg11 : arg11.IsWhole) (arg12 : Memref sig .tc .vmem S2x4x128x512 .bf16) (harg12 : arg12.IsWhole) (arg13 : Memref sig .tc .vmem S2x4x128x512 .bf16) (harg13 : arg13.IsWhole) (arg14 : Memref sig .tc .vmem S2x4x128x512 .bf16) (harg14 : arg14.IsWhole) (arg15 : Memref sig .tc .vmem S2x4x128x512 .bf16) (harg15 : arg15.IsWhole) (arg16 : Memref sig .tc .vmem S4x512x128 .f32) (harg16 : arg16.IsWhole) (arg17 : Memref sig .tc .vmem S4x512x128 .f32) (harg17 : arg17.IsWhole)
variable (x0 : Vec F S1x2048x384 .bf16) (x1 : Vec F S1x2048x128 .bf16) (x2 : Vec F S1x2048x128 .f32) (x3 : Vec F S1x1x2x4x512 .f32) (x4 : Vec F S1x1x2x4x512 .f32) (x5 : Vec F S1x2048x128 .f32) (xo7 : Vec F S1x2048x128 .f32)

/-! ## Operand tiles read back -/

theorem qa_0_0 : (kernelRun0_A.sl.v1843 (F := F) c arg2 harg2 arg5 harg5 arg7 harg7 arg10 x0 x3 x5) = qa0 (ld384 x0 0 0) (ld128 x5 0) (ld5 x3 0 0) (ld5 x3 1 0) := by
  rw [← rd384 arg2 harg2 x0 0 0, ← rd128 arg7 harg7 x5 0, ← rd5 arg5 harg5 x3 0 0, ← rd5 arg5 harg5 x3 1 0]
  iterate 7 refine (readCov_skip _ _ _ _ _ (by decide)).trans ?_
  refine (readCov_cons_toLoadRect ..).trans ?_
  sl_kernel_rfl

theorem qa_0_1 : (kernelRun0_A.sl.v1933 (F := F) c arg2 harg2 arg5 harg5 arg7 harg7 arg10 x0 x3 x5) = qa0 (ld384 x0 1 0) (ld128 x5 1) (ld5 x3 0 1) (ld5 x3 1 1) := by
  rw [← rd384 arg2 harg2 x0 1 0, ← rd128 arg7 harg7 x5 1, ← rd5 arg5 harg5 x3 0 1, ← rd5 arg5 harg5 x3 1 1]
  iterate 5 refine (readCov_skip _ _ _ _ _ (by decide)).trans ?_
  refine (readCov_cons_toLoadRect ..).trans ?_
  sl_kernel_rfl

theorem qa_0_2 : (kernelRun0_A.sl.v2019 (F := F) c arg2 harg2 arg5 harg5 arg7 harg7 arg10 x0 x3 x5) = qa0 (ld384 x0 2 0) (ld128 x5 2) (ld5 x3 0 2) (ld5 x3 1 2) := by
  rw [← rd384 arg2 harg2 x0 2 0, ← rd128 arg7 harg7 x5 2, ← rd5 arg5 harg5 x3 0 2, ← rd5 arg5 harg5 x3 1 2]
  iterate 3 refine (readCov_skip _ _ _ _ _ (by decide)).trans ?_
  refine (readCov_cons_toLoadRect ..).trans ?_
  sl_kernel_rfl

theorem qa_0_3 : (kernelRun0_A.sl.v2105 (F := F) c arg2 harg2 arg5 harg5 arg7 harg7 arg10 x0 x3 x5) = qa0 (ld384 x0 3 0) (ld128 x5 3) (ld5 x3 0 3) (ld5 x3 1 3) := by
  rw [← rd384 arg2 harg2 x0 3 0, ← rd128 arg7 harg7 x5 3, ← rd5 arg5 harg5 x3 0 3, ← rd5 arg5 harg5 x3 1 3]
  refine (readCov_skip _ _ _ _ _ (by decide)).trans ?_
  refine (readCov_cons_toLoadRect ..).trans ?_
  sl_kernel_rfl

theorem qa_1_0 : (kernelRun0_A.sl.v1874 (F := F) c arg2 harg2 arg5 harg5 arg7 harg7 arg10 x0 x3 x5) = qa1 (ld384 x0 0 0) (ld128 x5 0) (ld5 x3 0 0) (ld5 x3 1 0) := by
  rw [← rd384 arg2 harg2 x0 0 0, ← rd128 arg7 harg7 x5 0, ← rd5 arg5 harg5 x3 0 0, ← rd5 arg5 harg5 x3 1 0]
  iterate 6 refine (readCov_skip _ _ _ _ _ (by decide)).trans ?_
  refine (readCov_cons_toLoadRect ..).trans ?_
  sl_kernel_rfl

theorem qa_1_1 : (kernelRun0_A.sl.v1962 (F := F) c arg2 harg2 arg5 harg5 arg7 harg7 arg10 x0 x3 x5) = qa1 (ld384 x0 1 0) (ld128 x5 1) (ld5 x3 0 1) (ld5 x3 1 1) := by
  rw [← rd384 arg2 harg2 x0 1 0, ← rd128 arg7 harg7 x5 1, ← rd5 arg5 harg5 x3 0 1, ← rd5 arg5 harg5 x3 1 1]
  iterate 4 refine (readCov_skip _ _ _ _ _ (by decide)).trans ?_
  refine (readCov_cons_toLoadRect ..).trans ?_
  sl_kernel_rfl

theorem qa_1_2 : (kernelRun0_A.sl.v2048 (F := F) c arg2 harg2 arg5 harg5 arg7 harg7 arg10 x0 x3 x5) = qa1 (ld384 x0 2 0) (ld128 x5 2) (ld5 x3 0 2) (ld5 x3 1 2) := by
  rw [← rd384 arg2 harg2 x0 2 0, ← rd128 arg7 harg7 x5 2, ← rd5 arg5 harg5 x3 0 2, ← rd5 arg5 harg5 x3 1 2]
  iterate 2 refine (readCov_skip _ _ _ _ _ (by decide)).trans ?_
  refine (readCov_cons_toLoadRect ..).trans ?_
  sl_kernel_rfl

theorem qa_1_3 : (kernelRun0_A.sl.v2134 (F := F) c arg2 harg2 arg5 harg5 arg7 harg7 arg10 x0 x3 x5) = qa1 (ld384 x0 3 0) (ld128 x5 3) (ld5 x3 0 3) (ld5 x3 1 3) := by
  rw [← rd384 arg2 harg2 x0 3 0, ← rd128 arg7 harg7 x5 3, ← rd5 arg5 harg5 x3 0 3, ← rd5 arg5 harg5 x3 1 3]
  refine (readCov_cons_toLoadRect ..).trans ?_
  sl_kernel_rfl

theorem doa_0_0 : (kernelRun0_A.sl.v1851 (F := F) c arg3 harg3 arg4 harg4 arg11 x1 x2) = doa0 (ld128 x1 0) (ld128 x2 0) := by
  rw [← rd128 arg3 harg3 x1 0, ← rd128 arg4 harg4 x2 0]
  iterate 7 refine (readCov_skip _ _ _ _ _ (by decide)).trans ?_
  refine (readCov_cons_toLoadRect ..).trans ?_
  sl_kernel_rfl

theorem doa_0_1 : (kernelRun0_A.sl.v1939 (F := F) c arg3 harg3 arg4 harg4 arg11 x1 x2) = doa0 (ld128 x1 1) (ld128 x2 1) := by
  rw [← rd128 arg3 harg3 x1 1, ← rd128 arg4 harg4 x2 1]
  iterate 5 refine (readCov_skip _ _ _ _ _ (by decide)).trans ?_
  refine (readCov_cons_toLoadRect ..).trans ?_
  sl_kernel_rfl

theorem doa_0_2 : (kernelRun0_A.sl.v2025 (F := F) c arg3 harg3 arg4 harg4 arg11 x1 x2) = doa0 (ld128 x1 2) (ld128 x2 2) := by
  rw [← rd128 arg3 harg3 x1 2, ← rd128 arg4 harg4 x2 2]
  iterate 3 refine (readCov_skip _ _ _ _ _ (by decide)).trans ?_
  refine (readCov_cons_toLoadRect ..).trans ?_
  sl_kernel_rfl

theorem doa_0_3 : (kernelRun0_A.sl.v2111 (F := F) c arg3 harg3 arg4 harg4 arg11 x1 x2) = doa0 (ld128 x1 3) (ld128 x2 3) := by
  rw [← rd128 arg3 harg3 x1 3, ← rd128 arg4 harg4 x2 3]
  refine (readCov_skip _ _ _ _ _ (by decide)).trans ?_
  refine (readCov_cons_toLoadRect ..).trans ?_
  sl_kernel_rfl

theorem doa_1_0 : (kernelRun0_A.sl.v1882 (F := F) c arg3 harg3 arg4 harg4 arg11 x1 x2) = doa1 (ld128 x1 0) (ld128 x2 0) := by
  rw [← rd128 arg3 harg3 x1 0, ← rd128 arg4 harg4 x2 0]
  iterate 6 refine (readCov_skip _ _ _ _ _ (by decide)).trans ?_
  refine (readCov_cons_toLoadRect ..).trans ?_
  sl_kernel_rfl

theorem doa_1_1 : (kernelRun0_A.sl.v1968 (F := F) c arg3 harg3 arg4 harg4 arg11 x1 x2) = doa1 (ld128 x1 1) (ld128 x2 1) := by
  rw [← rd128 arg3 harg3 x1 1, ← rd128 arg4 harg4 x2 1]
  iterate 4 refine (readCov_skip _ _ _ _ _ (by decide)).trans ?_
  refine (readCov_cons_toLoadRect ..).trans ?_
  sl_kernel_rfl

theorem doa_1_2 : (kernelRun0_A.sl.v2054 (F := F) c arg3 harg3 arg4 harg4 arg11 x1 x2) = doa1 (ld128 x1 2) (ld128 x2 2) := by
  rw [← rd128 arg3 harg3 x1 2, ← rd128 arg4 harg4 x2 2]
  iterate 2 refine (readCov_skip _ _ _ _ _ (by decide)).trans ?_
  refine (readCov_cons_toLoadRect ..).trans ?_
  sl_kernel_rfl

theorem doa_1_3 : (kernelRun0_A.sl.v2140 (F := F) c arg3 harg3 arg4 harg4 arg11 x1 x2) = doa1 (ld128 x1 3) (ld128 x2 3) := by
  rw [← rd128 arg3 harg3 x1 3, ← rd128 arg4 harg4 x2 3]
  refine (readCov_cons_toLoadRect ..).trans ?_
  sl_kernel_rfl

theorem qst_0_0 : (kernelRun0_A.sl.v1865 (F := F) c arg2 harg2 arg12 x0) = qst loS (ld384 x0 0 0) := by
  rw [← rd384 arg2 harg2 x0 0 0]
  iterate 7 refine (readCov_skip _ _ _ _ _ (by decide)).trans ?_
  refine (readCov_cons_toLoadRect ..).trans ?_
  sl_kernel_rfl

theorem qst_0_1 : (kernelRun0_A.sl.v1953 (F := F) c arg2 harg2 arg12 x0) = qst loS (ld384 x0 1 0) := by
  rw [← rd384 arg2 harg2 x0 1 0]
  iterate 5 refine (readCov_skip _ _ _ _ _ (by decide)).trans ?_
  refine (readCov_cons_toLoadRect ..).trans ?_
  sl_kernel_rfl

theorem qst_0_2 : (kernelRun0_A.sl.v2039 (F := F) c arg2 harg2 arg12 x0) = qst loS (ld384 x0 2 0) := by
  rw [← rd384 arg2 harg2 x0 2 0]
  iterate 3 refine (readCov_skip _ _ _ _ _ (by decide)).trans ?_
  refine (readCov_cons_toLoadRect ..).trans ?_
  sl_kernel_rfl

theorem qst_0_3 : (kernelRun0_A.sl.v2125 (F := F) c arg2 harg2 arg12 x0) = qst loS (ld384 x0 3 0) := by
  rw [← rd384 arg2 harg2 x0 3 0]
  refine (readCov_skip _ _ _ _ _ (by decide)).trans ?_
  refine (readCov_cons_toLoadRect ..).trans ?_
  sl_kernel_rfl

theorem qst_1_0 : (kernelRun0_A.sl.v1896 (F := F) c arg2 harg2 arg12 x0) = qst hiS (ld384 x0 0 0) := by
  rw [← rd384 arg2 harg2 x0 0 0]
  iterate 6 refine (readCov_skip _ _ _ _ _ (by decide)).trans ?_
  refine (readCov_cons_toLoadRect ..).trans ?_
  sl_kernel_rfl

theorem qst_1_1 : (kernelRun0_A.sl.v1982 (F := F) c arg2 harg2 arg12 x0) = qst hiS (ld384 x0 1 0) := by
  rw [← rd384 arg2 harg2 x0 1 0]
  iterate 4 refine (readCov_skip _ _ _ _ _ (by decide)).trans ?_
  refine (readCov_cons_toLoadRect ..).trans ?_
  sl_kernel_rfl

theorem qst_1_2 : (kernelRun0_A.sl.v2068 (F := F) c arg2 harg2 arg12 x0) = qst hiS (ld384 x0 2 0) := by
  rw [← rd384 arg2 harg2 x0 2 0]
  iterate 2 refine (readCov_skip _ _ _ _ _ (by decide)).trans ?_
  refine (readCov_cons_toLoadRect ..).trans ?_
  sl_kernel_rfl

theorem qst_1_3 : (kernelRun0_A.sl.v2154 (F := F) c arg2 harg2 arg12 x0) = qst hiS (ld384 x0 3 0) := by
  rw [← rd384 arg2 harg2 x0 3 0]
  refine (readCov_cons_toLoadRect ..).trans ?_
  sl_kernel_rfl

theorem dt_0_0 : (kernelRun0_A.sl.v1869 (F := F) c arg3 harg3 arg13 x1) = dot loS (ld128 x1 0) := by
  rw [← rd128 arg3 harg3 x1 0]
  iterate 7 refine (readCov_skip _ _ _ _ _ (by decide)).trans ?_
  refine (readCov_cons_toLoadRect ..).trans ?_
  sl_kernel_rfl

theorem dt_0_1 : (kernelRun0_A.sl.v1957 (F := F) c arg3 harg3 arg13 x1) = dot loS (ld128 x1 1) := by
  rw [← rd128 arg3 harg3 x1 1]
  iterate 5 refine (readCov_skip _ _ _ _ _ (by decide)).trans ?_
  refine (readCov_cons_toLoadRect ..).trans ?_
  sl_kernel_rfl

theorem dt_0_2 : (kernelRun0_A.sl.v2043 (F := F) c arg3 harg3 arg13 x1) = dot loS (ld128 x1 2) := by
  rw [← rd128 arg3 harg3 x1 2]
  iterate 3 refine (readCov_skip _ _ _ _ _ (by decide)).trans ?_
  refine (readCov_cons_toLoadRect ..).trans ?_
  sl_kernel_rfl

theorem dt_0_3 : (kernelRun0_A.sl.v2129 (F := F) c arg3 harg3 arg13 x1) = dot loS (ld128 x1 3) := by
  rw [← rd128 arg3 harg3 x1 3]
  refine (readCov_skip _ _ _ _ _ (by decide)).trans ?_
  refine (readCov_cons_toLoadRect ..).trans ?_
  sl_kernel_rfl

theorem dt_1_0 : (kernelRun0_A.sl.v1900 (F := F) c arg3 harg3 arg13 x1) = dot hiS (ld128 x1 0) := by
  rw [← rd128 arg3 harg3 x1 0]
  iterate 6 refine (readCov_skip _ _ _ _ _ (by decide)).trans ?_
  refine (readCov_cons_toLoadRect ..).trans ?_
  sl_kernel_rfl

theorem dt_1_1 : (kernelRun0_A.sl.v1986 (F := F) c arg3 harg3 arg13 x1) = dot hiS (ld128 x1 1) := by
  rw [← rd128 arg3 harg3 x1 1]
  iterate 4 refine (readCov_skip _ _ _ _ _ (by decide)).trans ?_
  refine (readCov_cons_toLoadRect ..).trans ?_
  sl_kernel_rfl

theorem dt_1_2 : (kernelRun0_A.sl.v2072 (F := F) c arg3 harg3 arg13 x1) = dot hiS (ld128 x1 2) := by
  rw [← rd128 arg3 harg3 x1 2]
  iterate 2 refine (readCov_skip _ _ _ _ _ (by decide)).trans ?_
  refine (readCov_cons_toLoadRect ..).trans ?_
  sl_kernel_rfl

theorem dt_1_3 : (kernelRun0_A.sl.v2158 (F := F) c arg3 harg3 arg13 x1) = dot hiS (ld128 x1 3) := by
  rw [← rd128 arg3 harg3 x1 3]
  refine (readCov_cons_toLoadRect ..).trans ?_
  sl_kernel_rfl

theorem kt_0_0 : (kernelRun0_A.sl.v1845 (F := F) c arg2 harg2 arg6 harg6 arg14 x0 x4) = kt0 (ld384 x0 0 1) (ld5 x4 0 0) := by
  rw [← rd384 arg2 harg2 x0 0 1, ← rd5 arg6 harg6 x4 0 0]
  iterate 7 refine (readCov_skip _ _ _ _ _ (by decide)).trans ?_
  refine (readCov_cons_toLoadRect ..).trans ?_
  sl_kernel_rfl

theorem kt_0_1 : (kernelRun0_A.sl.v2265 (F := F) c arg2 harg2 arg6 harg6 arg14 x0 x4) = kt0 (ld384 x0 1 1) (ld5 x4 0 1) := by
  rw [← rd384 arg2 harg2 x0 1 1, ← rd5 arg6 harg6 x4 0 1]
  iterate 5 refine (readCov_skip _ _ _ _ _ (by decide)).trans ?_
  refine (readCov_cons_toLoadRect ..).trans ?_
  sl_kernel_rfl

theorem kt_0_2 : (kernelRun0_A.sl.v2599 (F := F) c arg2 harg2 arg6 harg6 arg14 x0 x4) = kt0 (ld384 x0 2 1) (ld5 x4 0 2) := by
  rw [← rd384 arg2 harg2 x0 2 1, ← rd5 arg6 harg6 x4 0 2]
  iterate 3 refine (readCov_skip _ _ _ _ _ (by decide)).trans ?_
  refine (readCov_cons_toLoadRect ..).trans ?_
  sl_kernel_rfl

theorem kt_0_3 : (kernelRun0_A.sl.v2847 (F := F) c arg2 harg2 arg6 harg6 arg14 x0 x4) = kt0 (ld384 x0 3 1) (ld5 x4 0 3) := by
  rw [← rd384 arg2 harg2 x0 3 1, ← rd5 arg6 harg6 x4 0 3]
  refine (readCov_skip _ _ _ _ _ (by decide)).trans ?_
  refine (readCov_cons_toLoadRect ..).trans ?_
  sl_kernel_rfl

theorem kt_1_0 : (kernelRun0_A.sl.v1876 (F := F) c arg2 harg2 arg6 harg6 arg14 x0 x4) = kt1 (ld384 x0 0 1) (ld5 x4 1 0) := by
  rw [← rd384 arg2 harg2 x0 0 1, ← rd5 arg6 harg6 x4 1 0]
  iterate 6 refine (readCov_skip _ _ _ _ _ (by decide)).trans ?_
  refine (readCov_cons_toLoadRect ..).trans ?_
  sl_kernel_rfl

theorem kt_1_1 : (kernelRun0_A.sl.v2296 (F := F) c arg2 harg2 arg6 harg6 arg14 x0 x4) = kt1 (ld384 x0 1 1) (ld5 x4 1 1) := by
  rw [← rd384 arg2 harg2 x0 1 1, ← rd5 arg6 harg6 x4 1 1]
  iterate 4 refine (readCov_skip _ _ _ _ _ (by decide)).trans ?_
  refine (readCov_cons_toLoadRect ..).trans ?_
  sl_kernel_rfl

theorem kt_1_2 : (kernelRun0_A.sl.v2630 (F := F) c arg2 harg2 arg6 harg6 arg14 x0 x4) = kt1 (ld384 x0 2 1) (ld5 x4 1 2) := by
  rw [← rd384 arg2 harg2 x0 2 1, ← rd5 arg6 harg6 x4 1 2]
  iterate 2 refine (readCov_skip _ _ _ _ _ (by decide)).trans ?_
  refine (readCov_cons_toLoadRect ..).trans ?_
  sl_kernel_rfl

theorem kt_1_3 : (kernelRun0_A.sl.v2878 (F := F) c arg2 harg2 arg6 harg6 arg14 x0 x4) = kt1 (ld384 x0 3 1) (ld5 x4 1 3) := by
  rw [← rd384 arg2 harg2 x0 3 1, ← rd5 arg6 harg6 x4 1 3]
  refine (readCov_cons_toLoadRect ..).trans ?_
  sl_kernel_rfl

theorem vt_0_0 : (kernelRun0_A.sl.v1853 (F := F) c arg2 harg2 arg15 x0) = vt0 (ld384 x0 0 2) := by
  rw [← rd384 arg2 harg2 x0 0 2]
  iterate 7 refine (readCov_skip _ _ _ _ _ (by decide)).trans ?_
  refine (readCov_cons_toLoadRect ..).trans ?_
  sl_kernel_rfl

theorem vt_0_1 : (kernelRun0_A.sl.v2273 (F := F) c arg2 harg2 arg15 x0) = vt0 (ld384 x0 1 2) := by
  rw [← rd384 arg2 harg2 x0 1 2]
  iterate 5 refine (readCov_skip _ _ _ _ _ (by decide)).trans ?_
  refine (readCov_cons_toLoadRect ..).trans ?_
  sl_kernel_rfl

theorem vt_0_2 : (kernelRun0_A.sl.v2607 (F := F) c arg2 harg2 arg15 x0) = vt0 (ld384 x0 2 2) := by
  rw [← rd384 arg2 harg2 x0 2 2]
  iterate 3 refine (readCov_skip _ _ _ _ _ (by decide)).trans ?_
  refine (readCov_cons_toLoadRect ..).trans ?_
  sl_kernel_rfl

theorem vt_0_3 : (kernelRun0_A.sl.v2855 (F := F) c arg2 harg2 arg15 x0) = vt0 (ld384 x0 3 2) := by
  rw [← rd384 arg2 harg2 x0 3 2]
  refine (readCov_skip _ _ _ _ _ (by decide)).trans ?_
  refine (readCov_cons_toLoadRect ..).trans ?_
  sl_kernel_rfl

theorem vt_1_0 : (kernelRun0_A.sl.v1884 (F := F) c arg2 harg2 arg15 x0) = vt1 (ld384 x0 0 2) := by
  rw [← rd384 arg2 harg2 x0 0 2]
  iterate 6 refine (readCov_skip _ _ _ _ _ (by decide)).trans ?_
  refine (readCov_cons_toLoadRect ..).trans ?_
  sl_kernel_rfl

theorem vt_1_1 : (kernelRun0_A.sl.v2304 (F := F) c arg2 harg2 arg15 x0) = vt1 (ld384 x0 1 2) := by
  rw [← rd384 arg2 harg2 x0 1 2]
  iterate 4 refine (readCov_skip _ _ _ _ _ (by decide)).trans ?_
  refine (readCov_cons_toLoadRect ..).trans ?_
  sl_kernel_rfl

theorem vt_1_2 : (kernelRun0_A.sl.v2638 (F := F) c arg2 harg2 arg15 x0) = vt1 (ld384 x0 2 2) := by
  rw [← rd384 arg2 harg2 x0 2 2]
  iterate 2 refine (readCov_skip _ _ _ _ _ (by decide)).trans ?_
  refine (readCov_cons_toLoadRect ..).trans ?_
  sl_kernel_rfl

theorem vt_1_3 : (kernelRun0_A.sl.v2886 (F := F) c arg2 harg2 arg15 x0) = vt1 (ld384 x0 3 2) := by
  rw [← rd384 arg2 harg2 x0 3 2]
  refine (readCov_cons_toLoadRect ..).trans ?_
  sl_kernel_rfl

theorem km_0_0 : (kernelRun0_A.sl.r (F := F) c arg2 harg2 x0) = km lo (ld384 x0 0 1) := by
  rw [← rd384 arg2 harg2 x0 0 1]
  sl_kernel_rfl

theorem km_1_0 : (kernelRun0_A.sl.r_1 (F := F) c arg2 harg2 x0) = km hi (ld384 x0 0 1) := by
  rw [← rd384 arg2 harg2 x0 0 1]
  sl_kernel_rfl

theorem km_0_1 : (kernelRun0_A.sl.r_13 (F := F) c arg2 harg2 x0) = km lo (ld384 x0 1 1) := by
  rw [← rd384 arg2 harg2 x0 1 1]
  sl_kernel_rfl

theorem km_1_1 : (kernelRun0_A.sl.r_14 (F := F) c arg2 harg2 x0) = km hi (ld384 x0 1 1) := by
  rw [← rd384 arg2 harg2 x0 1 1]
  sl_kernel_rfl

theorem km_0_2 : (kernelRun0_A.sl.r_46 (F := F) c arg2 harg2 x0) = km lo (ld384 x0 2 1) := by
  rw [← rd384 arg2 harg2 x0 2 1]
  sl_kernel_rfl

theorem km_1_2 : (kernelRun0_A.sl.r_47 (F := F) c arg2 harg2 x0) = km hi (ld384 x0 2 1) := by
  rw [← rd384 arg2 harg2 x0 2 1]
  sl_kernel_rfl

theorem km_0_3 : (kernelRun0_A.sl.r_82 (F := F) c arg2 harg2 x0) = km lo (ld384 x0 3 1) := by
  rw [← rd384 arg2 harg2 x0 3 1]
  sl_kernel_rfl

theorem km_1_3 : (kernelRun0_A.sl.r_83 (F := F) c arg2 harg2 x0) = km hi (ld384 x0 3 1) := by
  rw [← rd384 arg2 harg2 x0 3 1]
  sl_kernel_rfl

/-- The operand tiles as the body reads them back. -/
def T : Tiles F where
  qa := ![![(kernelRun0_A.sl.v1843 (F := F) c arg2 harg2 arg5 harg5 arg7 harg7 arg10 x0 x3 x5), (kernelRun0_A.sl.v1933 (F := F) c arg2 harg2 arg5 harg5 arg7 harg7 arg10 x0 x3 x5), (kernelRun0_A.sl.v2019 (F := F) c arg2 harg2 arg5 harg5 arg7 harg7 arg10 x0 x3 x5), (kernelRun0_A.sl.v2105 (F := F) c arg2 harg2 arg5 harg5 arg7 harg7 arg10 x0 x3 x5)],
    ![(kernelRun0_A.sl.v1874 (F := F) c arg2 harg2 arg5 harg5 arg7 harg7 arg10 x0 x3 x5), (kernelRun0_A.sl.v1962 (F := F) c arg2 harg2 arg5 harg5 arg7 harg7 arg10 x0 x3 x5), (kernelRun0_A.sl.v2048 (F := F) c arg2 harg2 arg5 harg5 arg7 harg7 arg10 x0 x3 x5), (kernelRun0_A.sl.v2134 (F := F) c arg2 harg2 arg5 harg5 arg7 harg7 arg10 x0 x3 x5)]]
  doa := ![![(kernelRun0_A.sl.v1851 (F := F) c arg3 harg3 arg4 harg4 arg11 x1 x2), (kernelRun0_A.sl.v1939 (F := F) c arg3 harg3 arg4 harg4 arg11 x1 x2), (kernelRun0_A.sl.v2025 (F := F) c arg3 harg3 arg4 harg4 arg11 x1 x2), (kernelRun0_A.sl.v2111 (F := F) c arg3 harg3 arg4 harg4 arg11 x1 x2)],
    ![(kernelRun0_A.sl.v1882 (F := F) c arg3 harg3 arg4 harg4 arg11 x1 x2), (kernelRun0_A.sl.v1968 (F := F) c arg3 harg3 arg4 harg4 arg11 x1 x2), (kernelRun0_A.sl.v2054 (F := F) c arg3 harg3 arg4 harg4 arg11 x1 x2), (kernelRun0_A.sl.v2140 (F := F) c arg3 harg3 arg4 harg4 arg11 x1 x2)]]
  qst := ![![(kernelRun0_A.sl.v1865 (F := F) c arg2 harg2 arg12 x0), (kernelRun0_A.sl.v1953 (F := F) c arg2 harg2 arg12 x0), (kernelRun0_A.sl.v2039 (F := F) c arg2 harg2 arg12 x0), (kernelRun0_A.sl.v2125 (F := F) c arg2 harg2 arg12 x0)],
    ![(kernelRun0_A.sl.v1896 (F := F) c arg2 harg2 arg12 x0), (kernelRun0_A.sl.v1982 (F := F) c arg2 harg2 arg12 x0), (kernelRun0_A.sl.v2068 (F := F) c arg2 harg2 arg12 x0), (kernelRun0_A.sl.v2154 (F := F) c arg2 harg2 arg12 x0)]]
  dt := ![![(kernelRun0_A.sl.v1869 (F := F) c arg3 harg3 arg13 x1), (kernelRun0_A.sl.v1957 (F := F) c arg3 harg3 arg13 x1), (kernelRun0_A.sl.v2043 (F := F) c arg3 harg3 arg13 x1), (kernelRun0_A.sl.v2129 (F := F) c arg3 harg3 arg13 x1)],
    ![(kernelRun0_A.sl.v1900 (F := F) c arg3 harg3 arg13 x1), (kernelRun0_A.sl.v1986 (F := F) c arg3 harg3 arg13 x1), (kernelRun0_A.sl.v2072 (F := F) c arg3 harg3 arg13 x1), (kernelRun0_A.sl.v2158 (F := F) c arg3 harg3 arg13 x1)]]
  kt := ![![(kernelRun0_A.sl.v1845 (F := F) c arg2 harg2 arg6 harg6 arg14 x0 x4), (kernelRun0_A.sl.v2265 (F := F) c arg2 harg2 arg6 harg6 arg14 x0 x4), (kernelRun0_A.sl.v2599 (F := F) c arg2 harg2 arg6 harg6 arg14 x0 x4), (kernelRun0_A.sl.v2847 (F := F) c arg2 harg2 arg6 harg6 arg14 x0 x4)],
    ![(kernelRun0_A.sl.v1876 (F := F) c arg2 harg2 arg6 harg6 arg14 x0 x4), (kernelRun0_A.sl.v2296 (F := F) c arg2 harg2 arg6 harg6 arg14 x0 x4), (kernelRun0_A.sl.v2630 (F := F) c arg2 harg2 arg6 harg6 arg14 x0 x4), (kernelRun0_A.sl.v2878 (F := F) c arg2 harg2 arg6 harg6 arg14 x0 x4)]]
  vt := ![![(kernelRun0_A.sl.v1853 (F := F) c arg2 harg2 arg15 x0), (kernelRun0_A.sl.v2273 (F := F) c arg2 harg2 arg15 x0), (kernelRun0_A.sl.v2607 (F := F) c arg2 harg2 arg15 x0), (kernelRun0_A.sl.v2855 (F := F) c arg2 harg2 arg15 x0)],
    ![(kernelRun0_A.sl.v1884 (F := F) c arg2 harg2 arg15 x0), (kernelRun0_A.sl.v2304 (F := F) c arg2 harg2 arg15 x0), (kernelRun0_A.sl.v2638 (F := F) c arg2 harg2 arg15 x0), (kernelRun0_A.sl.v2886 (F := F) c arg2 harg2 arg15 x0)]]
  km := ![![(kernelRun0_A.sl.r (F := F) c arg2 harg2 x0), (kernelRun0_A.sl.r_13 (F := F) c arg2 harg2 x0), (kernelRun0_A.sl.r_46 (F := F) c arg2 harg2 x0), (kernelRun0_A.sl.r_82 (F := F) c arg2 harg2 x0)],
    ![(kernelRun0_A.sl.r_1 (F := F) c arg2 harg2 x0), (kernelRun0_A.sl.r_14 (F := F) c arg2 harg2 x0), (kernelRun0_A.sl.r_47 (F := F) c arg2 harg2 x0), (kernelRun0_A.sl.r_83 (F := F) c arg2 harg2 x0)]]

set_option maxHeartbeats 1000000 in
theorem T_eq : (T (F := F) c arg2 harg2 arg3 harg3 arg4 harg4 arg5 harg5 arg6 harg6 arg7 harg7 arg10 arg11 arg12 arg13 arg14 arg15 x0 x1 x2 x3 x4 x5) = tiles x0 x1 x2 x3 x4 x5 :=
  (Tiles.mk.injEq ..).mpr ⟨
    table_eq (qa_0_0 ..) (qa_0_1 ..) (qa_0_2 ..) (qa_0_3 ..) (qa_1_0 ..) (qa_1_1 ..) (qa_1_2 ..) (qa_1_3 ..),
    table_eq (doa_0_0 ..) (doa_0_1 ..) (doa_0_2 ..) (doa_0_3 ..) (doa_1_0 ..) (doa_1_1 ..) (doa_1_2 ..) (doa_1_3 ..),
    table_eq (qst_0_0 ..) (qst_0_1 ..) (qst_0_2 ..) (qst_0_3 ..) (qst_1_0 ..) (qst_1_1 ..) (qst_1_2 ..) (qst_1_3 ..),
    table_eq (dt_0_0 ..) (dt_0_1 ..) (dt_0_2 ..) (dt_0_3 ..) (dt_1_0 ..) (dt_1_1 ..) (dt_1_2 ..) (dt_1_3 ..),
    table_eq (kt_0_0 ..) (kt_0_1 ..) (kt_0_2 ..) (kt_0_3 ..) (kt_1_0 ..) (kt_1_1 ..) (kt_1_2 ..) (kt_1_3 ..),
    table_eq (vt_0_0 ..) (vt_0_1 ..) (vt_0_2 ..) (vt_0_3 ..) (vt_1_0 ..) (vt_1_1 ..) (vt_1_2 ..) (vt_1_3 ..),
    table_eq (km_0_0 ..) (km_0_1 ..) (km_0_2 ..) (km_0_3 ..) (km_1_0 ..) (km_1_1 ..) (km_1_2 ..) (km_1_3 ..)⟩

include c i arg2 harg2 arg3 harg3 arg4 harg4 arg5 harg5 arg6 harg6 arg7 harg7 arg8 harg8 arg9 harg9 arg10 arg11 arg12 arg13 arg14 arg15 arg16 arg17 x0 x1 x2 x3 x4 x5

/-! ## The accumulators -/

theorem dqr_0_0 : (kernelRun0_A.sl.v1905 (F := F) c arg16) = z3 := by
  iterate 3 refine (readCov_skip _ _ _ _ _ (by decide)).trans ?_
  refine (readCov_cons_toLoadRect ..).trans ?_
  sl_kernel_rfl

theorem dqw_0_0 : ((kernelRun0_A.sl.v1910 (F := F) c arg2 harg2 arg3 harg3 arg4 harg4 arg5 harg5 arg6 harg6 arg7 harg7 arg10 arg11 arg14 arg15 arg16 x0 x1 x2 x3 x4 x5)) = acc3 (kernelRun0_A.sl.v1905 (F := F) c arg16) ((T (F := F) c arg2 harg2 arg3 harg3 arg4 harg4 arg5 harg5 arg6 harg6 arg7 harg7 arg10 arg11 arg12 arg13 arg14 arg15 x0 x1 x2 x3 x4 x5).dqD 0) := by sl_kernel_rfl

theorem dqr_1_0 : (kernelRun0_A.sl.v1991 (F := F) c arg2 harg2 arg3 harg3 arg4 harg4 arg5 harg5 arg6 harg6 arg7 harg7 arg10 arg11 arg14 arg15 arg16 x0 x1 x2 x3 x4 x5) = z3 := by
  iterate 3 refine (readCov_skip _ _ _ _ _ (by decide)).trans ?_
  refine (readCov_cons_toLoadRect ..).trans ?_
  sl_kernel_rfl

theorem dqw_1_0 : ((kernelRun0_A.sl.v1996 (F := F) c arg2 harg2 arg3 harg3 arg4 harg4 arg5 harg5 arg6 harg6 arg7 harg7 arg10 arg11 arg14 arg15 arg16 x0 x1 x2 x3 x4 x5)) = acc3 (kernelRun0_A.sl.v1991 (F := F) c arg2 harg2 arg3 harg3 arg4 harg4 arg5 harg5 arg6 harg6 arg7 harg7 arg10 arg11 arg14 arg15 arg16 x0 x1 x2 x3 x4 x5) ((T (F := F) c arg2 harg2 arg3 harg3 arg4 harg4 arg5 harg5 arg6 harg6 arg7 harg7 arg10 arg11 arg12 arg13 arg14 arg15 x0 x1 x2 x3 x4 x5).dqO 1 0) := by sl_kernel_rfl

theorem dqr_2_0 : (kernelRun0_A.sl.v2077 (F := F) c arg2 harg2 arg3 harg3 arg4 harg4 arg5 harg5 arg6 harg6 arg7 harg7 arg10 arg11 arg14 arg15 arg16 x0 x1 x2 x3 x4 x5) = z3 := by
  iterate 3 refine (readCov_skip _ _ _ _ _ (by decide)).trans ?_
  refine (readCov_cons_toLoadRect ..).trans ?_
  sl_kernel_rfl

theorem dqw_2_0 : ((kernelRun0_A.sl.v2082 (F := F) c arg2 harg2 arg3 harg3 arg4 harg4 arg5 harg5 arg6 harg6 arg7 harg7 arg10 arg11 arg14 arg15 arg16 x0 x1 x2 x3 x4 x5)) = acc3 (kernelRun0_A.sl.v2077 (F := F) c arg2 harg2 arg3 harg3 arg4 harg4 arg5 harg5 arg6 harg6 arg7 harg7 arg10 arg11 arg14 arg15 arg16 x0 x1 x2 x3 x4 x5) ((T (F := F) c arg2 harg2 arg3 harg3 arg4 harg4 arg5 harg5 arg6 harg6 arg7 harg7 arg10 arg11 arg12 arg13 arg14 arg15 x0 x1 x2 x3 x4 x5).dqO 2 0) := by sl_kernel_rfl

theorem dqr_3_0 : (kernelRun0_A.sl.v2163 (F := F) c arg2 harg2 arg3 harg3 arg4 harg4 arg5 harg5 arg6 harg6 arg7 harg7 arg10 arg11 arg14 arg15 arg16 x0 x1 x2 x3 x4 x5) = z3 := by
  iterate 3 refine (readCov_skip _ _ _ _ _ (by decide)).trans ?_
  refine (readCov_cons_toLoadRect ..).trans ?_
  sl_kernel_rfl

theorem dqw_3_0 : ((kernelRun0_A.sl.v2168 (F := F) c arg2 harg2 arg3 harg3 arg4 harg4 arg5 harg5 arg6 harg6 arg7 harg7 arg10 arg11 arg14 arg15 arg16 x0 x1 x2 x3 x4 x5)) = acc3 (kernelRun0_A.sl.v2163 (F := F) c arg2 harg2 arg3 harg3 arg4 harg4 arg5 harg5 arg6 harg6 arg7 harg7 arg10 arg11 arg14 arg15 arg16 x0 x1 x2 x3 x4 x5) ((T (F := F) c arg2 harg2 arg3 harg3 arg4 harg4 arg5 harg5 arg6 harg6 arg7 harg7 arg10 arg11 arg12 arg13 arg14 arg15 x0 x1 x2 x3 x4 x5).dqO 3 0) := by sl_kernel_rfl

theorem dqr_1_1 : (kernelRun0_A.sl.v2325 (F := F) c arg2 harg2 arg3 harg3 arg4 harg4 arg5 harg5 arg6 harg6 arg7 harg7 arg10 arg11 arg14 arg15 arg16 x0 x1 x2 x3 x4 x5) = ((kernelRun0_A.sl.v1996 (F := F) c arg2 harg2 arg3 harg3 arg4 harg4 arg5 harg5 arg6 harg6 arg7 harg7 arg10 arg11 arg14 arg15 arg16 x0 x1 x2 x3 x4 x5)) := by
  iterate 2 refine (readCov_skip _ _ _ _ _ (by decide)).trans ?_
  exact (readCov_cons_toLoadRect ..)

theorem dqw_1_1 : ((kernelRun0_A.sl.v2330 (F := F) c arg2 harg2 arg3 harg3 arg4 harg4 arg5 harg5 arg6 harg6 arg7 harg7 arg10 arg11 arg14 arg15 arg16 x0 x1 x2 x3 x4 x5)) = acc3 (kernelRun0_A.sl.v2325 (F := F) c arg2 harg2 arg3 harg3 arg4 harg4 arg5 harg5 arg6 harg6 arg7 harg7 arg10 arg11 arg14 arg15 arg16 x0 x1 x2 x3 x4 x5) ((T (F := F) c arg2 harg2 arg3 harg3 arg4 harg4 arg5 harg5 arg6 harg6 arg7 harg7 arg10 arg11 arg12 arg13 arg14 arg15 x0 x1 x2 x3 x4 x5).dqD 1) := by sl_kernel_rfl

theorem dqr_2_1 : (kernelRun0_A.sl.v2411 (F := F) c arg2 harg2 arg3 harg3 arg4 harg4 arg5 harg5 arg6 harg6 arg7 harg7 arg10 arg11 arg14 arg15 arg16 x0 x1 x2 x3 x4 x5) = ((kernelRun0_A.sl.v2082 (F := F) c arg2 harg2 arg3 harg3 arg4 harg4 arg5 harg5 arg6 harg6 arg7 harg7 arg10 arg11 arg14 arg15 arg16 x0 x1 x2 x3 x4 x5)) := by
  iterate 2 refine (readCov_skip _ _ _ _ _ (by decide)).trans ?_
  exact (readCov_cons_toLoadRect ..)

theorem dqw_2_1 : (k0_pay388 (kernelRun0_A.sl.r_31 (F := F) c arg2 harg2 arg3 harg3 arg4 harg4 arg5 harg5 arg6 harg6 arg7 harg7 arg10 arg11 arg14 arg15 x0 x1 x2 x3 x4 x5) (kernelRun0_A.sl.v2411 (F := F) c arg2 harg2 arg3 harg3 arg4 harg4 arg5 harg5 arg6 harg6 arg7 harg7 arg10 arg11 arg14 arg15 arg16 x0 x1 x2 x3 x4 x5)) = acc3 (kernelRun0_A.sl.v2411 (F := F) c arg2 harg2 arg3 harg3 arg4 harg4 arg5 harg5 arg6 harg6 arg7 harg7 arg10 arg11 arg14 arg15 arg16 x0 x1 x2 x3 x4 x5) ((T (F := F) c arg2 harg2 arg3 harg3 arg4 harg4 arg5 harg5 arg6 harg6 arg7 harg7 arg10 arg11 arg12 arg13 arg14 arg15 x0 x1 x2 x3 x4 x5).dqO 2 1) := by sl_kernel_rfl

theorem dqr_3_1 : (kernelRun0_A.sl.v2497 (F := F) c arg2 harg2 arg3 harg3 arg4 harg4 arg5 harg5 arg6 harg6 arg7 harg7 arg10 arg11 arg14 arg15 arg16 x0 x1 x2 x3 x4 x5) = ((kernelRun0_A.sl.v2168 (F := F) c arg2 harg2 arg3 harg3 arg4 harg4 arg5 harg5 arg6 harg6 arg7 harg7 arg10 arg11 arg14 arg15 arg16 x0 x1 x2 x3 x4 x5)) := by
  iterate 2 refine (readCov_skip _ _ _ _ _ (by decide)).trans ?_
  exact (readCov_cons_toLoadRect ..)

theorem dqw_3_1 : (k0_pay407 (kernelRun0_A.sl.r_41 (F := F) c arg2 harg2 arg3 harg3 arg4 harg4 arg5 harg5 arg6 harg6 arg7 harg7 arg10 arg11 arg14 arg15 x0 x1 x2 x3 x4 x5) (kernelRun0_A.sl.v2497 (F := F) c arg2 harg2 arg3 harg3 arg4 harg4 arg5 harg5 arg6 harg6 arg7 harg7 arg10 arg11 arg14 arg15 arg16 x0 x1 x2 x3 x4 x5)) = acc3 (kernelRun0_A.sl.v2497 (F := F) c arg2 harg2 arg3 harg3 arg4 harg4 arg5 harg5 arg6 harg6 arg7 harg7 arg10 arg11 arg14 arg15 arg16 x0 x1 x2 x3 x4 x5) ((T (F := F) c arg2 harg2 arg3 harg3 arg4 harg4 arg5 harg5 arg6 harg6 arg7 harg7 arg10 arg11 arg12 arg13 arg14 arg15 x0 x1 x2 x3 x4 x5).dqO 3 1) := by sl_kernel_rfl

theorem dqr_2_2 : (kernelRun0_A.sl.v2659 (F := F) c arg2 harg2 arg3 harg3 arg4 harg4 arg5 harg5 arg6 harg6 arg7 harg7 arg10 arg11 arg14 arg15 arg16 x0 x1 x2 x3 x4 x5) = (k0_pay388 (kernelRun0_A.sl.r_31 (F := F) c arg2 harg2 arg3 harg3 arg4 harg4 arg5 harg5 arg6 harg6 arg7 harg7 arg10 arg11 arg14 arg15 x0 x1 x2 x3 x4 x5) (kernelRun0_A.sl.v2411 (F := F) c arg2 harg2 arg3 harg3 arg4 harg4 arg5 harg5 arg6 harg6 arg7 harg7 arg10 arg11 arg14 arg15 arg16 x0 x1 x2 x3 x4 x5)) := (readCov_skip _ _ _ _ _ (by decide)).trans <| (readCov_cons_toLoadRect ..)

theorem dqw_2_2 : (k0_pay439 (kernelRun0_A.sl.r_47 (F := F) c arg2 harg2 x0) (kernelRun0_A.sl.r_52 (F := F) c arg2 harg2 arg3 harg3 arg4 harg4 arg5 harg5 arg6 harg6 arg7 harg7 arg10 arg11 arg14 arg15 x0 x1 x2 x3 x4 x5) (kernelRun0_A.sl.r_55 (F := F) c arg2 harg2 arg5 harg5 arg6 harg6 arg7 harg7 arg10 arg14 x0 x3 x4 x5) (kernelRun0_A.sl.r_56 (F := F) c arg3 harg3 arg4 harg4 arg11 x1 x2) (kernelRun0_A.sl.v2638 (F := F) c arg2 harg2 arg15 x0) (kernelRun0_A.sl.v2659 (F := F) c arg2 harg2 arg3 harg3 arg4 harg4 arg5 harg5 arg6 harg6 arg7 harg7 arg10 arg11 arg14 arg15 arg16 x0 x1 x2 x3 x4 x5)) = acc3 (kernelRun0_A.sl.v2659 (F := F) c arg2 harg2 arg3 harg3 arg4 harg4 arg5 harg5 arg6 harg6 arg7 harg7 arg10 arg11 arg14 arg15 arg16 x0 x1 x2 x3 x4 x5) ((T (F := F) c arg2 harg2 arg3 harg3 arg4 harg4 arg5 harg5 arg6 harg6 arg7 harg7 arg10 arg11 arg12 arg13 arg14 arg15 x0 x1 x2 x3 x4 x5).dqD 2) := by sl_kernel_rfl

theorem dqr_3_2 : (kernelRun0_A.sl.v2745 (F := F) c arg2 harg2 arg3 harg3 arg4 harg4 arg5 harg5 arg6 harg6 arg7 harg7 arg10 arg11 arg14 arg15 arg16 x0 x1 x2 x3 x4 x5) = (k0_pay407 (kernelRun0_A.sl.r_41 (F := F) c arg2 harg2 arg3 harg3 arg4 harg4 arg5 harg5 arg6 harg6 arg7 harg7 arg10 arg11 arg14 arg15 x0 x1 x2 x3 x4 x5) (kernelRun0_A.sl.v2497 (F := F) c arg2 harg2 arg3 harg3 arg4 harg4 arg5 harg5 arg6 harg6 arg7 harg7 arg10 arg11 arg14 arg15 arg16 x0 x1 x2 x3 x4 x5)) := (readCov_skip _ _ _ _ _ (by decide)).trans <| (readCov_cons_toLoadRect ..)

theorem dqw_3_2 : (k0_pay460 (kernelRun0_A.sl.r_47 (F := F) c arg2 harg2 x0) (kernelRun0_A.sl.r_67 (F := F) c arg2 harg2 arg3 harg3 arg4 harg4 arg5 harg5 arg6 harg6 arg7 harg7 arg10 arg11 arg14 arg15 x0 x1 x2 x3 x4 x5) (kernelRun0_A.sl.r_71 (F := F) c arg2 harg2 arg3 harg3 arg4 harg4 arg5 harg5 arg6 harg6 arg7 harg7 arg10 arg11 arg14 arg15 x0 x1 x2 x3 x4 x5) (kernelRun0_A.sl.v2745 (F := F) c arg2 harg2 arg3 harg3 arg4 harg4 arg5 harg5 arg6 harg6 arg7 harg7 arg10 arg11 arg14 arg15 arg16 x0 x1 x2 x3 x4 x5)) = acc3 (kernelRun0_A.sl.v2745 (F := F) c arg2 harg2 arg3 harg3 arg4 harg4 arg5 harg5 arg6 harg6 arg7 harg7 arg10 arg11 arg14 arg15 arg16 x0 x1 x2 x3 x4 x5) ((T (F := F) c arg2 harg2 arg3 harg3 arg4 harg4 arg5 harg5 arg6 harg6 arg7 harg7 arg10 arg11 arg12 arg13 arg14 arg15 x0 x1 x2 x3 x4 x5).dqO 3 2) := by sl_kernel_rfl

theorem dqr_3_3 : (kernelRun0_A.sl.v2907 (F := F) c arg2 harg2 arg3 harg3 arg4 harg4 arg5 harg5 arg6 harg6 arg7 harg7 arg10 arg11 arg14 arg15 arg16 x0 x1 x2 x3 x4 x5) = (k0_pay460 (kernelRun0_A.sl.r_47 (F := F) c arg2 harg2 x0) (kernelRun0_A.sl.r_67 (F := F) c arg2 harg2 arg3 harg3 arg4 harg4 arg5 harg5 arg6 harg6 arg7 harg7 arg10 arg11 arg14 arg15 x0 x1 x2 x3 x4 x5) (kernelRun0_A.sl.r_71 (F := F) c arg2 harg2 arg3 harg3 arg4 harg4 arg5 harg5 arg6 harg6 arg7 harg7 arg10 arg11 arg14 arg15 x0 x1 x2 x3 x4 x5) (kernelRun0_A.sl.v2745 (F := F) c arg2 harg2 arg3 harg3 arg4 harg4 arg5 harg5 arg6 harg6 arg7 harg7 arg10 arg11 arg14 arg15 arg16 x0 x1 x2 x3 x4 x5)) := (readCov_cons_toLoadRect ..)

theorem dqw_3_3 : (k0_pay496 (kernelRun0_A.sl.r_91 (F := F) c arg2 harg2 arg3 harg3 arg4 harg4 arg5 harg5 arg6 harg6 arg7 harg7 arg10 arg11 arg14 arg15 x0 x1 x2 x3 x4 x5) (kernelRun0_A.sl.v2907 (F := F) c arg2 harg2 arg3 harg3 arg4 harg4 arg5 harg5 arg6 harg6 arg7 harg7 arg10 arg11 arg14 arg15 arg16 x0 x1 x2 x3 x4 x5)) = acc3 (kernelRun0_A.sl.v2907 (F := F) c arg2 harg2 arg3 harg3 arg4 harg4 arg5 harg5 arg6 harg6 arg7 harg7 arg10 arg11 arg14 arg15 arg16 x0 x1 x2 x3 x4 x5) ((T (F := F) c arg2 harg2 arg3 harg3 arg4 harg4 arg5 harg5 arg6 harg6 arg7 harg7 arg10 arg11 arg12 arg13 arg14 arg15 x0 x1 x2 x3 x4 x5).dqD 3) := by sl_kernel_rfl

theorem dqr_0 : (kernelRun0_A.sl.v2992 (F := F) c arg2 harg2 arg3 harg3 arg4 harg4 arg5 harg5 arg6 harg6 arg7 harg7 arg10 arg11 arg14 arg15 arg16 x0 x1 x2 x3 x4 x5) = ((kernelRun0_A.sl.v1910 (F := F) c arg2 harg2 arg3 harg3 arg4 harg4 arg5 harg5 arg6 harg6 arg7 harg7 arg10 arg11 arg14 arg15 arg16 x0 x1 x2 x3 x4 x5)) := by
  iterate 9 refine (readCov_skip _ _ _ _ _ (by decide)).trans ?_
  exact (readCov_cons_toLoadRect ..)

theorem dq_0 : (kernelRun0_A.sl.v2992 (F := F) c arg2 harg2 arg3 harg3 arg4 harg4 arg5 harg5 arg6 harg6 arg7 harg7 arg10 arg11 arg14 arg15 arg16 x0 x1 x2 x3 x4 x5) = (tiles x0 x1 x2 x3 x4 x5).dq 0 := by
  rw [dqr_0 c i arg2 harg2 arg3 harg3 arg4 harg4 arg5 harg5 arg6 harg6 arg7 harg7 arg8 harg8 arg9 harg9 arg10 arg11 arg12 arg13 arg14 arg15 arg16 arg17 x0 x1 x2 x3 x4 x5, dqw_0_0 c i arg2 harg2 arg3 harg3 arg4 harg4 arg5 harg5 arg6 harg6 arg7 harg7 arg8 harg8 arg9 harg9 arg10 arg11 arg12 arg13 arg14 arg15 arg16 arg17 x0 x1 x2 x3 x4 x5, dqr_0_0 c i arg2 harg2 arg3 harg3 arg4 harg4 arg5 harg5 arg6 harg6 arg7 harg7 arg8 harg8 arg9 harg9 arg10 arg11 arg12 arg13 arg14 arg15 arg16 arg17 x0 x1 x2 x3 x4 x5, T_eq]
  rfl

theorem dqr_1 : (kernelRun0_A.sl.v3028 (F := F) c arg2 harg2 arg3 harg3 arg4 harg4 arg5 harg5 arg6 harg6 arg7 harg7 arg10 arg11 arg14 arg15 arg16 x0 x1 x2 x3 x4 x5) = ((kernelRun0_A.sl.v2330 (F := F) c arg2 harg2 arg3 harg3 arg4 harg4 arg5 harg5 arg6 harg6 arg7 harg7 arg10 arg11 arg14 arg15 arg16 x0 x1 x2 x3 x4 x5)) := by
  iterate 5 refine (readCov_skip _ _ _ _ _ (by decide)).trans ?_
  exact (readCov_cons_toLoadRect ..)

theorem dq_1 : (kernelRun0_A.sl.v3028 (F := F) c arg2 harg2 arg3 harg3 arg4 harg4 arg5 harg5 arg6 harg6 arg7 harg7 arg10 arg11 arg14 arg15 arg16 x0 x1 x2 x3 x4 x5) = (tiles x0 x1 x2 x3 x4 x5).dq 1 := by
  rw [dqr_1 c i arg2 harg2 arg3 harg3 arg4 harg4 arg5 harg5 arg6 harg6 arg7 harg7 arg8 harg8 arg9 harg9 arg10 arg11 arg12 arg13 arg14 arg15 arg16 arg17 x0 x1 x2 x3 x4 x5, dqw_1_1 c i arg2 harg2 arg3 harg3 arg4 harg4 arg5 harg5 arg6 harg6 arg7 harg7 arg8 harg8 arg9 harg9 arg10 arg11 arg12 arg13 arg14 arg15 arg16 arg17 x0 x1 x2 x3 x4 x5, dqr_1_1 c i arg2 harg2 arg3 harg3 arg4 harg4 arg5 harg5 arg6 harg6 arg7 harg7 arg8 harg8 arg9 harg9 arg10 arg11 arg12 arg13 arg14 arg15 arg16 arg17 x0 x1 x2 x3 x4 x5, dqw_1_0 c i arg2 harg2 arg3 harg3 arg4 harg4 arg5 harg5 arg6 harg6 arg7 harg7 arg8 harg8 arg9 harg9 arg10 arg11 arg12 arg13 arg14 arg15 arg16 arg17 x0 x1 x2 x3 x4 x5, dqr_1_0 c i arg2 harg2 arg3 harg3 arg4 harg4 arg5 harg5 arg6 harg6 arg7 harg7 arg8 harg8 arg9 harg9 arg10 arg11 arg12 arg13 arg14 arg15 arg16 arg17 x0 x1 x2 x3 x4 x5, T_eq]
  rfl

theorem dqr_2 : (kernelRun0_A.sl.v3064 (F := F) c arg2 harg2 arg3 harg3 arg4 harg4 arg5 harg5 arg6 harg6 arg7 harg7 arg10 arg11 arg14 arg15 arg16 x0 x1 x2 x3 x4 x5) = (k0_pay439 (kernelRun0_A.sl.r_47 (F := F) c arg2 harg2 x0) (kernelRun0_A.sl.r_52 (F := F) c arg2 harg2 arg3 harg3 arg4 harg4 arg5 harg5 arg6 harg6 arg7 harg7 arg10 arg11 arg14 arg15 x0 x1 x2 x3 x4 x5) (kernelRun0_A.sl.r_55 (F := F) c arg2 harg2 arg5 harg5 arg6 harg6 arg7 harg7 arg10 arg14 x0 x3 x4 x5) (kernelRun0_A.sl.r_56 (F := F) c arg3 harg3 arg4 harg4 arg11 x1 x2) (kernelRun0_A.sl.v2638 (F := F) c arg2 harg2 arg15 x0) (kernelRun0_A.sl.v2659 (F := F) c arg2 harg2 arg3 harg3 arg4 harg4 arg5 harg5 arg6 harg6 arg7 harg7 arg10 arg11 arg14 arg15 arg16 x0 x1 x2 x3 x4 x5)) := by
  iterate 2 refine (readCov_skip _ _ _ _ _ (by decide)).trans ?_
  exact (readCov_cons_toLoadRect ..)

theorem dq_2 : (kernelRun0_A.sl.v3064 (F := F) c arg2 harg2 arg3 harg3 arg4 harg4 arg5 harg5 arg6 harg6 arg7 harg7 arg10 arg11 arg14 arg15 arg16 x0 x1 x2 x3 x4 x5) = (tiles x0 x1 x2 x3 x4 x5).dq 2 := by
  rw [dqr_2 c i arg2 harg2 arg3 harg3 arg4 harg4 arg5 harg5 arg6 harg6 arg7 harg7 arg8 harg8 arg9 harg9 arg10 arg11 arg12 arg13 arg14 arg15 arg16 arg17 x0 x1 x2 x3 x4 x5, dqw_2_2 c i arg2 harg2 arg3 harg3 arg4 harg4 arg5 harg5 arg6 harg6 arg7 harg7 arg8 harg8 arg9 harg9 arg10 arg11 arg12 arg13 arg14 arg15 arg16 arg17 x0 x1 x2 x3 x4 x5, dqr_2_2 c i arg2 harg2 arg3 harg3 arg4 harg4 arg5 harg5 arg6 harg6 arg7 harg7 arg8 harg8 arg9 harg9 arg10 arg11 arg12 arg13 arg14 arg15 arg16 arg17 x0 x1 x2 x3 x4 x5, dqw_2_1 c i arg2 harg2 arg3 harg3 arg4 harg4 arg5 harg5 arg6 harg6 arg7 harg7 arg8 harg8 arg9 harg9 arg10 arg11 arg12 arg13 arg14 arg15 arg16 arg17 x0 x1 x2 x3 x4 x5, dqr_2_1 c i arg2 harg2 arg3 harg3 arg4 harg4 arg5 harg5 arg6 harg6 arg7 harg7 arg8 harg8 arg9 harg9 arg10 arg11 arg12 arg13 arg14 arg15 arg16 arg17 x0 x1 x2 x3 x4 x5, dqw_2_0 c i arg2 harg2 arg3 harg3 arg4 harg4 arg5 harg5 arg6 harg6 arg7 harg7 arg8 harg8 arg9 harg9 arg10 arg11 arg12 arg13 arg14 arg15 arg16 arg17 x0 x1 x2 x3 x4 x5, dqr_2_0 c i arg2 harg2 arg3 harg3 arg4 harg4 arg5 harg5 arg6 harg6 arg7 harg7 arg8 harg8 arg9 harg9 arg10 arg11 arg12 arg13 arg14 arg15 arg16 arg17 x0 x1 x2 x3 x4 x5, T_eq]
  rfl

theorem dqr_3 : (kernelRun0_A.sl.v3100 (F := F) c arg2 harg2 arg3 harg3 arg4 harg4 arg5 harg5 arg6 harg6 arg7 harg7 arg10 arg11 arg14 arg15 arg16 x0 x1 x2 x3 x4 x5) = (k0_pay496 (kernelRun0_A.sl.r_91 (F := F) c arg2 harg2 arg3 harg3 arg4 harg4 arg5 harg5 arg6 harg6 arg7 harg7 arg10 arg11 arg14 arg15 x0 x1 x2 x3 x4 x5) (kernelRun0_A.sl.v2907 (F := F) c arg2 harg2 arg3 harg3 arg4 harg4 arg5 harg5 arg6 harg6 arg7 harg7 arg10 arg11 arg14 arg15 arg16 x0 x1 x2 x3 x4 x5)) := (readCov_cons_toLoadRect ..)

theorem dq_3 : (kernelRun0_A.sl.v3100 (F := F) c arg2 harg2 arg3 harg3 arg4 harg4 arg5 harg5 arg6 harg6 arg7 harg7 arg10 arg11 arg14 arg15 arg16 x0 x1 x2 x3 x4 x5) = (tiles x0 x1 x2 x3 x4 x5).dq 3 := by
  rw [dqr_3 c i arg2 harg2 arg3 harg3 arg4 harg4 arg5 harg5 arg6 harg6 arg7 harg7 arg8 harg8 arg9 harg9 arg10 arg11 arg12 arg13 arg14 arg15 arg16 arg17 x0 x1 x2 x3 x4 x5, dqw_3_3 c i arg2 harg2 arg3 harg3 arg4 harg4 arg5 harg5 arg6 harg6 arg7 harg7 arg8 harg8 arg9 harg9 arg10 arg11 arg12 arg13 arg14 arg15 arg16 arg17 x0 x1 x2 x3 x4 x5, dqr_3_3 c i arg2 harg2 arg3 harg3 arg4 harg4 arg5 harg5 arg6 harg6 arg7 harg7 arg8 harg8 arg9 harg9 arg10 arg11 arg12 arg13 arg14 arg15 arg16 arg17 x0 x1 x2 x3 x4 x5, dqw_3_2 c i arg2 harg2 arg3 harg3 arg4 harg4 arg5 harg5 arg6 harg6 arg7 harg7 arg8 harg8 arg9 harg9 arg10 arg11 arg12 arg13 arg14 arg15 arg16 arg17 x0 x1 x2 x3 x4 x5, dqr_3_2 c i arg2 harg2 arg3 harg3 arg4 harg4 arg5 harg5 arg6 harg6 arg7 harg7 arg8 harg8 arg9 harg9 arg10 arg11 arg12 arg13 arg14 arg15 arg16 arg17 x0 x1 x2 x3 x4 x5, dqw_3_1 c i arg2 harg2 arg3 harg3 arg4 harg4 arg5 harg5 arg6 harg6 arg7 harg7 arg8 harg8 arg9 harg9 arg10 arg11 arg12 arg13 arg14 arg15 arg16 arg17 x0 x1 x2 x3 x4 x5, dqr_3_1 c i arg2 harg2 arg3 harg3 arg4 harg4 arg5 harg5 arg6 harg6 arg7 harg7 arg8 harg8 arg9 harg9 arg10 arg11 arg12 arg13 arg14 arg15 arg16 arg17 x0 x1 x2 x3 x4 x5, dqw_3_0 c i arg2 harg2 arg3 harg3 arg4 harg4 arg5 harg5 arg6 harg6 arg7 harg7 arg8 harg8 arg9 harg9 arg10 arg11 arg12 arg13 arg14 arg15 arg16 arg17 x0 x1 x2 x3 x4 x5, dqr_3_0 c i arg2 harg2 arg3 harg3 arg4 harg4 arg5 harg5 arg6 harg6 arg7 harg7 arg8 harg8 arg9 harg9 arg10 arg11 arg12 arg13 arg14 arg15 arg16 arg17 x0 x1 x2 x3 x4 x5, T_eq]
  rfl

theorem rsr_0_0 : (kernelRun0_A.sl.v1911 (F := F) c arg17) = z3 := by
  iterate 3 refine (readCov_skip _ _ _ _ _ (by decide)).trans ?_
  refine (readCov_cons_toLoadRect ..).trans ?_
  sl_kernel_rfl

theorem rsw_0_0 : ((kernelRun0_A.sl.v1931 (F := F) c arg2 harg2 arg3 harg3 arg4 harg4 arg5 harg5 arg6 harg6 arg7 harg7 arg10 arg11 arg14 arg15 arg17 x0 x1 x2 x3 x4 x5)) = acc3 (kernelRun0_A.sl.v1911 (F := F) c arg17) (rsT ((T (F := F) c arg2 harg2 arg3 harg3 arg4 harg4 arg5 harg5 arg6 harg6 arg7 harg7 arg10 arg11 arg12 arg13 arg14 arg15 x0 x1 x2 x3 x4 x5).GD 0 0) ((T (F := F) c arg2 harg2 arg3 harg3 arg4 harg4 arg5 harg5 arg6 harg6 arg7 harg7 arg10 arg11 arg12 arg13 arg14 arg15 x0 x1 x2 x3 x4 x5).GD 1 0)) := by sl_kernel_rfl

theorem rsr_1_0 : (kernelRun0_A.sl.v1997 (F := F) c arg2 harg2 arg3 harg3 arg4 harg4 arg5 harg5 arg6 harg6 arg7 harg7 arg10 arg11 arg14 arg15 arg17 x0 x1 x2 x3 x4 x5) = z3 := by
  iterate 3 refine (readCov_skip _ _ _ _ _ (by decide)).trans ?_
  refine (readCov_cons_toLoadRect ..).trans ?_
  sl_kernel_rfl

theorem rsw_1_0 : ((kernelRun0_A.sl.v2017 (F := F) c arg2 harg2 arg3 harg3 arg4 harg4 arg5 harg5 arg6 harg6 arg7 harg7 arg10 arg11 arg14 arg15 arg17 x0 x1 x2 x3 x4 x5)) = acc3 (kernelRun0_A.sl.v1997 (F := F) c arg2 harg2 arg3 harg3 arg4 harg4 arg5 harg5 arg6 harg6 arg7 harg7 arg10 arg11 arg14 arg15 arg17 x0 x1 x2 x3 x4 x5) (rsT ((T (F := F) c arg2 harg2 arg3 harg3 arg4 harg4 arg5 harg5 arg6 harg6 arg7 harg7 arg10 arg11 arg12 arg13 arg14 arg15 x0 x1 x2 x3 x4 x5).GO 0 1 0) ((T (F := F) c arg2 harg2 arg3 harg3 arg4 harg4 arg5 harg5 arg6 harg6 arg7 harg7 arg10 arg11 arg12 arg13 arg14 arg15 x0 x1 x2 x3 x4 x5).GO 1 1 0)) := by sl_kernel_rfl

theorem rsr_2_0 : (kernelRun0_A.sl.v2083 (F := F) c arg2 harg2 arg3 harg3 arg4 harg4 arg5 harg5 arg6 harg6 arg7 harg7 arg10 arg11 arg14 arg15 arg17 x0 x1 x2 x3 x4 x5) = z3 := by
  iterate 3 refine (readCov_skip _ _ _ _ _ (by decide)).trans ?_
  refine (readCov_cons_toLoadRect ..).trans ?_
  sl_kernel_rfl

theorem rsw_2_0 : ((kernelRun0_A.sl.v2103 (F := F) c arg2 harg2 arg3 harg3 arg4 harg4 arg5 harg5 arg6 harg6 arg7 harg7 arg10 arg11 arg14 arg15 arg17 x0 x1 x2 x3 x4 x5)) = acc3 (kernelRun0_A.sl.v2083 (F := F) c arg2 harg2 arg3 harg3 arg4 harg4 arg5 harg5 arg6 harg6 arg7 harg7 arg10 arg11 arg14 arg15 arg17 x0 x1 x2 x3 x4 x5) (rsT ((T (F := F) c arg2 harg2 arg3 harg3 arg4 harg4 arg5 harg5 arg6 harg6 arg7 harg7 arg10 arg11 arg12 arg13 arg14 arg15 x0 x1 x2 x3 x4 x5).GO 0 2 0) ((T (F := F) c arg2 harg2 arg3 harg3 arg4 harg4 arg5 harg5 arg6 harg6 arg7 harg7 arg10 arg11 arg12 arg13 arg14 arg15 x0 x1 x2 x3 x4 x5).GO 1 2 0)) := by sl_kernel_rfl

theorem rsr_3_0 : (kernelRun0_A.sl.v2169 (F := F) c arg2 harg2 arg3 harg3 arg4 harg4 arg5 harg5 arg6 harg6 arg7 harg7 arg10 arg11 arg14 arg15 arg17 x0 x1 x2 x3 x4 x5) = z3 := by
  iterate 3 refine (readCov_skip _ _ _ _ _ (by decide)).trans ?_
  refine (readCov_cons_toLoadRect ..).trans ?_
  sl_kernel_rfl

theorem rsw_3_0 : ((kernelRun0_A.sl.v2189 (F := F) c arg2 harg2 arg3 harg3 arg4 harg4 arg5 harg5 arg6 harg6 arg7 harg7 arg10 arg11 arg14 arg15 arg17 x0 x1 x2 x3 x4 x5)) = acc3 (kernelRun0_A.sl.v2169 (F := F) c arg2 harg2 arg3 harg3 arg4 harg4 arg5 harg5 arg6 harg6 arg7 harg7 arg10 arg11 arg14 arg15 arg17 x0 x1 x2 x3 x4 x5) (rsT ((T (F := F) c arg2 harg2 arg3 harg3 arg4 harg4 arg5 harg5 arg6 harg6 arg7 harg7 arg10 arg11 arg12 arg13 arg14 arg15 x0 x1 x2 x3 x4 x5).GO 0 3 0) ((T (F := F) c arg2 harg2 arg3 harg3 arg4 harg4 arg5 harg5 arg6 harg6 arg7 harg7 arg10 arg11 arg12 arg13 arg14 arg15 x0 x1 x2 x3 x4 x5).GO 1 3 0)) := by sl_kernel_rfl

theorem rsr_1_1 : (kernelRun0_A.sl.v2331 (F := F) c arg2 harg2 arg3 harg3 arg4 harg4 arg5 harg5 arg6 harg6 arg7 harg7 arg10 arg11 arg14 arg15 arg17 x0 x1 x2 x3 x4 x5) = ((kernelRun0_A.sl.v2017 (F := F) c arg2 harg2 arg3 harg3 arg4 harg4 arg5 harg5 arg6 harg6 arg7 harg7 arg10 arg11 arg14 arg15 arg17 x0 x1 x2 x3 x4 x5)) := by
  iterate 2 refine (readCov_skip _ _ _ _ _ (by decide)).trans ?_
  exact (readCov_cons_toLoadRect ..)

theorem rsw_1_1 : ((kernelRun0_A.sl.v2351 (F := F) c arg2 harg2 arg3 harg3 arg4 harg4 arg5 harg5 arg6 harg6 arg7 harg7 arg10 arg11 arg14 arg15 arg17 x0 x1 x2 x3 x4 x5)) = acc3 (kernelRun0_A.sl.v2331 (F := F) c arg2 harg2 arg3 harg3 arg4 harg4 arg5 harg5 arg6 harg6 arg7 harg7 arg10 arg11 arg14 arg15 arg17 x0 x1 x2 x3 x4 x5) (rsT ((T (F := F) c arg2 harg2 arg3 harg3 arg4 harg4 arg5 harg5 arg6 harg6 arg7 harg7 arg10 arg11 arg12 arg13 arg14 arg15 x0 x1 x2 x3 x4 x5).GD 0 1) ((T (F := F) c arg2 harg2 arg3 harg3 arg4 harg4 arg5 harg5 arg6 harg6 arg7 harg7 arg10 arg11 arg12 arg13 arg14 arg15 x0 x1 x2 x3 x4 x5).GD 1 1)) := by sl_kernel_rfl

theorem rsr_2_1 : (kernelRun0_A.sl.v2417 (F := F) c arg2 harg2 arg3 harg3 arg4 harg4 arg5 harg5 arg6 harg6 arg7 harg7 arg10 arg11 arg14 arg15 arg17 x0 x1 x2 x3 x4 x5) = ((kernelRun0_A.sl.v2103 (F := F) c arg2 harg2 arg3 harg3 arg4 harg4 arg5 harg5 arg6 harg6 arg7 harg7 arg10 arg11 arg14 arg15 arg17 x0 x1 x2 x3 x4 x5)) := by
  iterate 2 refine (readCov_skip _ _ _ _ _ (by decide)).trans ?_
  exact (readCov_cons_toLoadRect ..)

theorem rsw_2_1 : (k0_pay389 (kernelRun0_A.sl.v0 ) (kernelRun0_A.sl.v2369 (F := F) c arg2 harg2 arg3 harg3 arg4 harg4 arg5 harg5 arg6 harg6 arg7 harg7 arg10 arg11 arg14 arg15 x0 x1 x2 x3 x4 x5) (kernelRun0_A.sl.r_29 (F := F) c arg2 harg2 arg3 harg3 arg4 harg4 arg5 harg5 arg6 harg6 arg7 harg7 arg10 arg11 arg14 arg15 x0 x1 x2 x3 x4 x5) (kernelRun0_A.sl.v2417 (F := F) c arg2 harg2 arg3 harg3 arg4 harg4 arg5 harg5 arg6 harg6 arg7 harg7 arg10 arg11 arg14 arg15 arg17 x0 x1 x2 x3 x4 x5)) = acc3 (kernelRun0_A.sl.v2417 (F := F) c arg2 harg2 arg3 harg3 arg4 harg4 arg5 harg5 arg6 harg6 arg7 harg7 arg10 arg11 arg14 arg15 arg17 x0 x1 x2 x3 x4 x5) (rsT ((T (F := F) c arg2 harg2 arg3 harg3 arg4 harg4 arg5 harg5 arg6 harg6 arg7 harg7 arg10 arg11 arg12 arg13 arg14 arg15 x0 x1 x2 x3 x4 x5).GO 0 2 1) ((T (F := F) c arg2 harg2 arg3 harg3 arg4 harg4 arg5 harg5 arg6 harg6 arg7 harg7 arg10 arg11 arg12 arg13 arg14 arg15 x0 x1 x2 x3 x4 x5).GO 1 2 1)) := by sl_kernel_rfl

theorem rsr_3_1 : (kernelRun0_A.sl.v2503 (F := F) c arg2 harg2 arg3 harg3 arg4 harg4 arg5 harg5 arg6 harg6 arg7 harg7 arg10 arg11 arg14 arg15 arg17 x0 x1 x2 x3 x4 x5) = ((kernelRun0_A.sl.v2189 (F := F) c arg2 harg2 arg3 harg3 arg4 harg4 arg5 harg5 arg6 harg6 arg7 harg7 arg10 arg11 arg14 arg15 arg17 x0 x1 x2 x3 x4 x5)) := by
  iterate 2 refine (readCov_skip _ _ _ _ _ (by decide)).trans ?_
  exact (readCov_cons_toLoadRect ..)

theorem rsw_3_1 : (k0_pay408 (kernelRun0_A.sl.v0 ) (kernelRun0_A.sl.r_35 (F := F) c arg2 harg2 arg3 harg3 arg4 harg4 arg5 harg5 arg6 harg6 arg7 harg7 arg10 arg11 arg14 arg15 x0 x1 x2 x3 x4 x5) (kernelRun0_A.sl.r_40 (F := F) c arg2 harg2 arg3 harg3 arg4 harg4 arg5 harg5 arg6 harg6 arg7 harg7 arg10 arg11 arg14 arg15 x0 x1 x2 x3 x4 x5) (kernelRun0_A.sl.v2503 (F := F) c arg2 harg2 arg3 harg3 arg4 harg4 arg5 harg5 arg6 harg6 arg7 harg7 arg10 arg11 arg14 arg15 arg17 x0 x1 x2 x3 x4 x5)) = acc3 (kernelRun0_A.sl.v2503 (F := F) c arg2 harg2 arg3 harg3 arg4 harg4 arg5 harg5 arg6 harg6 arg7 harg7 arg10 arg11 arg14 arg15 arg17 x0 x1 x2 x3 x4 x5) (rsT ((T (F := F) c arg2 harg2 arg3 harg3 arg4 harg4 arg5 harg5 arg6 harg6 arg7 harg7 arg10 arg11 arg12 arg13 arg14 arg15 x0 x1 x2 x3 x4 x5).GO 0 3 1) ((T (F := F) c arg2 harg2 arg3 harg3 arg4 harg4 arg5 harg5 arg6 harg6 arg7 harg7 arg10 arg11 arg12 arg13 arg14 arg15 x0 x1 x2 x3 x4 x5).GO 1 3 1)) := by sl_kernel_rfl

theorem rsr_2_2 : (kernelRun0_A.sl.v2665 (F := F) c arg2 harg2 arg3 harg3 arg4 harg4 arg5 harg5 arg6 harg6 arg7 harg7 arg10 arg11 arg14 arg15 arg17 x0 x1 x2 x3 x4 x5) = (k0_pay389 (kernelRun0_A.sl.v0 ) (kernelRun0_A.sl.v2369 (F := F) c arg2 harg2 arg3 harg3 arg4 harg4 arg5 harg5 arg6 harg6 arg7 harg7 arg10 arg11 arg14 arg15 x0 x1 x2 x3 x4 x5) (kernelRun0_A.sl.r_29 (F := F) c arg2 harg2 arg3 harg3 arg4 harg4 arg5 harg5 arg6 harg6 arg7 harg7 arg10 arg11 arg14 arg15 x0 x1 x2 x3 x4 x5) (kernelRun0_A.sl.v2417 (F := F) c arg2 harg2 arg3 harg3 arg4 harg4 arg5 harg5 arg6 harg6 arg7 harg7 arg10 arg11 arg14 arg15 arg17 x0 x1 x2 x3 x4 x5)) := (readCov_skip _ _ _ _ _ (by decide)).trans <| (readCov_cons_toLoadRect ..)

theorem rsw_2_2 : (k0_pay442 (kernelRun0_A.sl.v0 ) ((kernelRun0_A.sl.r_51 (F := F) c arg2 harg2 arg3 harg3 arg4 harg4 arg5 harg5 arg6 harg6 arg7 harg7 arg10 arg11 arg14 arg15 x0 x1 x2 x3 x4 x5)) ((kernelRun0_A.sl.r_58 (F := F) c arg2 harg2 arg3 harg3 arg4 harg4 arg5 harg5 arg6 harg6 arg7 harg7 arg10 arg11 arg14 arg15 x0 x1 x2 x3 x4 x5)) ((kernelRun0_A.sl.r_61 (F := F) c arg2 harg2 arg3 harg3 arg4 harg4 arg5 harg5 arg6 harg6 arg7 harg7 arg10 arg11 arg14 arg15 arg17 x0 x1 x2 x3 x4 x5)) (k0_pay441 (kernelRun0_A.sl.v0 )) 1#32) = acc3 (kernelRun0_A.sl.v2665 (F := F) c arg2 harg2 arg3 harg3 arg4 harg4 arg5 harg5 arg6 harg6 arg7 harg7 arg10 arg11 arg14 arg15 arg17 x0 x1 x2 x3 x4 x5) (rsT ((T (F := F) c arg2 harg2 arg3 harg3 arg4 harg4 arg5 harg5 arg6 harg6 arg7 harg7 arg10 arg11 arg12 arg13 arg14 arg15 x0 x1 x2 x3 x4 x5).GD 0 2) ((T (F := F) c arg2 harg2 arg3 harg3 arg4 harg4 arg5 harg5 arg6 harg6 arg7 harg7 arg10 arg11 arg12 arg13 arg14 arg15 x0 x1 x2 x3 x4 x5).GD 1 2)) := by sl_kernel_rfl

theorem rsr_3_2 : (kernelRun0_A.sl.v2751 (F := F) c arg2 harg2 arg3 harg3 arg4 harg4 arg5 harg5 arg6 harg6 arg7 harg7 arg10 arg11 arg14 arg15 arg17 x0 x1 x2 x3 x4 x5) = (k0_pay408 (kernelRun0_A.sl.v0 ) (kernelRun0_A.sl.r_35 (F := F) c arg2 harg2 arg3 harg3 arg4 harg4 arg5 harg5 arg6 harg6 arg7 harg7 arg10 arg11 arg14 arg15 x0 x1 x2 x3 x4 x5) (kernelRun0_A.sl.r_40 (F := F) c arg2 harg2 arg3 harg3 arg4 harg4 arg5 harg5 arg6 harg6 arg7 harg7 arg10 arg11 arg14 arg15 x0 x1 x2 x3 x4 x5) (kernelRun0_A.sl.v2503 (F := F) c arg2 harg2 arg3 harg3 arg4 harg4 arg5 harg5 arg6 harg6 arg7 harg7 arg10 arg11 arg14 arg15 arg17 x0 x1 x2 x3 x4 x5)) := (readCov_skip _ _ _ _ _ (by decide)).trans <| (readCov_cons_toLoadRect ..)

theorem rsw_3_2 : (k0_pay463 (kernelRun0_A.sl.r_76 (F := F) c arg2 harg2 arg3 harg3 arg4 harg4 arg5 harg5 arg6 harg6 arg7 harg7 arg10 arg11 arg14 arg15 arg17 x0 x1 x2 x3 x4 x5) (kernelRun0_A.sl.r_77 (F := F) c arg2 harg2 arg3 harg3 arg4 harg4 arg5 harg5 arg6 harg6 arg7 harg7 arg10 arg11 arg14 arg15 x0 x1 x2 x3 x4 x5)) = acc3 (kernelRun0_A.sl.v2751 (F := F) c arg2 harg2 arg3 harg3 arg4 harg4 arg5 harg5 arg6 harg6 arg7 harg7 arg10 arg11 arg14 arg15 arg17 x0 x1 x2 x3 x4 x5) (rsT ((T (F := F) c arg2 harg2 arg3 harg3 arg4 harg4 arg5 harg5 arg6 harg6 arg7 harg7 arg10 arg11 arg12 arg13 arg14 arg15 x0 x1 x2 x3 x4 x5).GO 0 3 2) ((T (F := F) c arg2 harg2 arg3 harg3 arg4 harg4 arg5 harg5 arg6 harg6 arg7 harg7 arg10 arg11 arg12 arg13 arg14 arg15 x0 x1 x2 x3 x4 x5).GO 1 3 2)) := by sl_kernel_rfl

theorem rsr_3_3 : (kernelRun0_A.sl.v2913 (F := F) c arg2 harg2 arg3 harg3 arg4 harg4 arg5 harg5 arg6 harg6 arg7 harg7 arg10 arg11 arg14 arg15 arg17 x0 x1 x2 x3 x4 x5) = (k0_pay463 (kernelRun0_A.sl.r_76 (F := F) c arg2 harg2 arg3 harg3 arg4 harg4 arg5 harg5 arg6 harg6 arg7 harg7 arg10 arg11 arg14 arg15 arg17 x0 x1 x2 x3 x4 x5) (kernelRun0_A.sl.r_77 (F := F) c arg2 harg2 arg3 harg3 arg4 harg4 arg5 harg5 arg6 harg6 arg7 harg7 arg10 arg11 arg14 arg15 x0 x1 x2 x3 x4 x5)) := (readCov_cons_toLoadRect ..)

theorem rsw_3_3 : (k0_pay497 (kernelRun0_A.sl.v0 ) (kernelRun0_A.sl.r_85 (F := F) c arg2 harg2 arg3 harg3 arg4 harg4 arg5 harg5 arg6 harg6 arg7 harg7 arg10 arg11 arg14 arg15 x0 x1 x2 x3 x4 x5) (kernelRun0_A.sl.r_90 (F := F) c arg2 harg2 arg3 harg3 arg4 harg4 arg5 harg5 arg6 harg6 arg7 harg7 arg10 arg11 arg14 arg15 x0 x1 x2 x3 x4 x5) (kernelRun0_A.sl.v2913 (F := F) c arg2 harg2 arg3 harg3 arg4 harg4 arg5 harg5 arg6 harg6 arg7 harg7 arg10 arg11 arg14 arg15 arg17 x0 x1 x2 x3 x4 x5)) = acc3 (kernelRun0_A.sl.v2913 (F := F) c arg2 harg2 arg3 harg3 arg4 harg4 arg5 harg5 arg6 harg6 arg7 harg7 arg10 arg11 arg14 arg15 arg17 x0 x1 x2 x3 x4 x5) (rsT ((T (F := F) c arg2 harg2 arg3 harg3 arg4 harg4 arg5 harg5 arg6 harg6 arg7 harg7 arg10 arg11 arg12 arg13 arg14 arg15 x0 x1 x2 x3 x4 x5).GD 0 3) ((T (F := F) c arg2 harg2 arg3 harg3 arg4 harg4 arg5 harg5 arg6 harg6 arg7 harg7 arg10 arg11 arg12 arg13 arg14 arg15 x0 x1 x2 x3 x4 x5).GD 1 3)) := by sl_kernel_rfl

theorem rsr_0 : (kernelRun0_A.sl.v2998 (F := F) c arg2 harg2 arg3 harg3 arg4 harg4 arg5 harg5 arg6 harg6 arg7 harg7 arg10 arg11 arg14 arg15 arg17 x0 x1 x2 x3 x4 x5) = ((kernelRun0_A.sl.v1931 (F := F) c arg2 harg2 arg3 harg3 arg4 harg4 arg5 harg5 arg6 harg6 arg7 harg7 arg10 arg11 arg14 arg15 arg17 x0 x1 x2 x3 x4 x5)) := by
  iterate 9 refine (readCov_skip _ _ _ _ _ (by decide)).trans ?_
  exact (readCov_cons_toLoadRect ..)

theorem rs_0 : (kernelRun0_A.sl.v2998 (F := F) c arg2 harg2 arg3 harg3 arg4 harg4 arg5 harg5 arg6 harg6 arg7 harg7 arg10 arg11 arg14 arg15 arg17 x0 x1 x2 x3 x4 x5) = (tiles x0 x1 x2 x3 x4 x5).rs 0 := by
  rw [rsr_0 c i arg2 harg2 arg3 harg3 arg4 harg4 arg5 harg5 arg6 harg6 arg7 harg7 arg8 harg8 arg9 harg9 arg10 arg11 arg12 arg13 arg14 arg15 arg16 arg17 x0 x1 x2 x3 x4 x5, rsw_0_0 c i arg2 harg2 arg3 harg3 arg4 harg4 arg5 harg5 arg6 harg6 arg7 harg7 arg8 harg8 arg9 harg9 arg10 arg11 arg12 arg13 arg14 arg15 arg16 arg17 x0 x1 x2 x3 x4 x5, rsr_0_0 c i arg2 harg2 arg3 harg3 arg4 harg4 arg5 harg5 arg6 harg6 arg7 harg7 arg8 harg8 arg9 harg9 arg10 arg11 arg12 arg13 arg14 arg15 arg16 arg17 x0 x1 x2 x3 x4 x5, T_eq]
  rfl

theorem rsr_1 : (kernelRun0_A.sl.v3034 (F := F) c arg2 harg2 arg3 harg3 arg4 harg4 arg5 harg5 arg6 harg6 arg7 harg7 arg10 arg11 arg14 arg15 arg17 x0 x1 x2 x3 x4 x5) = ((kernelRun0_A.sl.v2351 (F := F) c arg2 harg2 arg3 harg3 arg4 harg4 arg5 harg5 arg6 harg6 arg7 harg7 arg10 arg11 arg14 arg15 arg17 x0 x1 x2 x3 x4 x5)) := by
  iterate 5 refine (readCov_skip _ _ _ _ _ (by decide)).trans ?_
  exact (readCov_cons_toLoadRect ..)

theorem rs_1 : (kernelRun0_A.sl.v3034 (F := F) c arg2 harg2 arg3 harg3 arg4 harg4 arg5 harg5 arg6 harg6 arg7 harg7 arg10 arg11 arg14 arg15 arg17 x0 x1 x2 x3 x4 x5) = (tiles x0 x1 x2 x3 x4 x5).rs 1 := by
  rw [rsr_1 c i arg2 harg2 arg3 harg3 arg4 harg4 arg5 harg5 arg6 harg6 arg7 harg7 arg8 harg8 arg9 harg9 arg10 arg11 arg12 arg13 arg14 arg15 arg16 arg17 x0 x1 x2 x3 x4 x5, rsw_1_1 c i arg2 harg2 arg3 harg3 arg4 harg4 arg5 harg5 arg6 harg6 arg7 harg7 arg8 harg8 arg9 harg9 arg10 arg11 arg12 arg13 arg14 arg15 arg16 arg17 x0 x1 x2 x3 x4 x5, rsr_1_1 c i arg2 harg2 arg3 harg3 arg4 harg4 arg5 harg5 arg6 harg6 arg7 harg7 arg8 harg8 arg9 harg9 arg10 arg11 arg12 arg13 arg14 arg15 arg16 arg17 x0 x1 x2 x3 x4 x5, rsw_1_0 c i arg2 harg2 arg3 harg3 arg4 harg4 arg5 harg5 arg6 harg6 arg7 harg7 arg8 harg8 arg9 harg9 arg10 arg11 arg12 arg13 arg14 arg15 arg16 arg17 x0 x1 x2 x3 x4 x5, rsr_1_0 c i arg2 harg2 arg3 harg3 arg4 harg4 arg5 harg5 arg6 harg6 arg7 harg7 arg8 harg8 arg9 harg9 arg10 arg11 arg12 arg13 arg14 arg15 arg16 arg17 x0 x1 x2 x3 x4 x5, T_eq]
  rfl

theorem rsr_2 : (kernelRun0_A.sl.v3070 (F := F) c arg2 harg2 arg3 harg3 arg4 harg4 arg5 harg5 arg6 harg6 arg7 harg7 arg10 arg11 arg14 arg15 arg17 x0 x1 x2 x3 x4 x5) = (k0_pay442 (kernelRun0_A.sl.v0 ) ((kernelRun0_A.sl.r_51 (F := F) c arg2 harg2 arg3 harg3 arg4 harg4 arg5 harg5 arg6 harg6 arg7 harg7 arg10 arg11 arg14 arg15 x0 x1 x2 x3 x4 x5)) ((kernelRun0_A.sl.r_58 (F := F) c arg2 harg2 arg3 harg3 arg4 harg4 arg5 harg5 arg6 harg6 arg7 harg7 arg10 arg11 arg14 arg15 x0 x1 x2 x3 x4 x5)) ((kernelRun0_A.sl.r_61 (F := F) c arg2 harg2 arg3 harg3 arg4 harg4 arg5 harg5 arg6 harg6 arg7 harg7 arg10 arg11 arg14 arg15 arg17 x0 x1 x2 x3 x4 x5)) (k0_pay441 (kernelRun0_A.sl.v0 )) 1#32) := by
  iterate 2 refine (readCov_skip _ _ _ _ _ (by decide)).trans ?_
  exact (readCov_cons_toLoadRect ..)

theorem rs_2 : (kernelRun0_A.sl.v3070 (F := F) c arg2 harg2 arg3 harg3 arg4 harg4 arg5 harg5 arg6 harg6 arg7 harg7 arg10 arg11 arg14 arg15 arg17 x0 x1 x2 x3 x4 x5) = (tiles x0 x1 x2 x3 x4 x5).rs 2 := by
  rw [rsr_2 c i arg2 harg2 arg3 harg3 arg4 harg4 arg5 harg5 arg6 harg6 arg7 harg7 arg8 harg8 arg9 harg9 arg10 arg11 arg12 arg13 arg14 arg15 arg16 arg17 x0 x1 x2 x3 x4 x5, rsw_2_2 c i arg2 harg2 arg3 harg3 arg4 harg4 arg5 harg5 arg6 harg6 arg7 harg7 arg8 harg8 arg9 harg9 arg10 arg11 arg12 arg13 arg14 arg15 arg16 arg17 x0 x1 x2 x3 x4 x5, rsr_2_2 c i arg2 harg2 arg3 harg3 arg4 harg4 arg5 harg5 arg6 harg6 arg7 harg7 arg8 harg8 arg9 harg9 arg10 arg11 arg12 arg13 arg14 arg15 arg16 arg17 x0 x1 x2 x3 x4 x5, rsw_2_1 c i arg2 harg2 arg3 harg3 arg4 harg4 arg5 harg5 arg6 harg6 arg7 harg7 arg8 harg8 arg9 harg9 arg10 arg11 arg12 arg13 arg14 arg15 arg16 arg17 x0 x1 x2 x3 x4 x5, rsr_2_1 c i arg2 harg2 arg3 harg3 arg4 harg4 arg5 harg5 arg6 harg6 arg7 harg7 arg8 harg8 arg9 harg9 arg10 arg11 arg12 arg13 arg14 arg15 arg16 arg17 x0 x1 x2 x3 x4 x5, rsw_2_0 c i arg2 harg2 arg3 harg3 arg4 harg4 arg5 harg5 arg6 harg6 arg7 harg7 arg8 harg8 arg9 harg9 arg10 arg11 arg12 arg13 arg14 arg15 arg16 arg17 x0 x1 x2 x3 x4 x5, rsr_2_0 c i arg2 harg2 arg3 harg3 arg4 harg4 arg5 harg5 arg6 harg6 arg7 harg7 arg8 harg8 arg9 harg9 arg10 arg11 arg12 arg13 arg14 arg15 arg16 arg17 x0 x1 x2 x3 x4 x5, T_eq]
  rfl

theorem rsr_3 : (kernelRun0_A.sl.v3106 (F := F) c arg2 harg2 arg3 harg3 arg4 harg4 arg5 harg5 arg6 harg6 arg7 harg7 arg10 arg11 arg14 arg15 arg17 x0 x1 x2 x3 x4 x5) = (k0_pay497 (kernelRun0_A.sl.v0 ) (kernelRun0_A.sl.r_85 (F := F) c arg2 harg2 arg3 harg3 arg4 harg4 arg5 harg5 arg6 harg6 arg7 harg7 arg10 arg11 arg14 arg15 x0 x1 x2 x3 x4 x5) (kernelRun0_A.sl.r_90 (F := F) c arg2 harg2 arg3 harg3 arg4 harg4 arg5 harg5 arg6 harg6 arg7 harg7 arg10 arg11 arg14 arg15 x0 x1 x2 x3 x4 x5) (kernelRun0_A.sl.v2913 (F := F) c arg2 harg2 arg3 harg3 arg4 harg4 arg5 harg5 arg6 harg6 arg7 harg7 arg10 arg11 arg14 arg15 arg17 x0 x1 x2 x3 x4 x5)) := (readCov_cons_toLoadRect ..)

theorem rs_3 : (kernelRun0_A.sl.v3106 (F := F) c arg2 harg2 arg3 harg3 arg4 harg4 arg5 harg5 arg6 harg6 arg7 harg7 arg10 arg11 arg14 arg15 arg17 x0 x1 x2 x3 x4 x5) = (tiles x0 x1 x2 x3 x4 x5).rs 3 := by
  rw [rsr_3 c i arg2 harg2 arg3 harg3 arg4 harg4 arg5 harg5 arg6 harg6 arg7 harg7 arg8 harg8 arg9 harg9 arg10 arg11 arg12 arg13 arg14 arg15 arg16 arg17 x0 x1 x2 x3 x4 x5, rsw_3_3 c i arg2 harg2 arg3 harg3 arg4 harg4 arg5 harg5 arg6 harg6 arg7 harg7 arg8 harg8 arg9 harg9 arg10 arg11 arg12 arg13 arg14 arg15 arg16 arg17 x0 x1 x2 x3 x4 x5, rsr_3_3 c i arg2 harg2 arg3 harg3 arg4 harg4 arg5 harg5 arg6 harg6 arg7 harg7 arg8 harg8 arg9 harg9 arg10 arg11 arg12 arg13 arg14 arg15 arg16 arg17 x0 x1 x2 x3 x4 x5, rsw_3_2 c i arg2 harg2 arg3 harg3 arg4 harg4 arg5 harg5 arg6 harg6 arg7 harg7 arg8 harg8 arg9 harg9 arg10 arg11 arg12 arg13 arg14 arg15 arg16 arg17 x0 x1 x2 x3 x4 x5, rsr_3_2 c i arg2 harg2 arg3 harg3 arg4 harg4 arg5 harg5 arg6 harg6 arg7 harg7 arg8 harg8 arg9 harg9 arg10 arg11 arg12 arg13 arg14 arg15 arg16 arg17 x0 x1 x2 x3 x4 x5, rsw_3_1 c i arg2 harg2 arg3 harg3 arg4 harg4 arg5 harg5 arg6 harg6 arg7 harg7 arg8 harg8 arg9 harg9 arg10 arg11 arg12 arg13 arg14 arg15 arg16 arg17 x0 x1 x2 x3 x4 x5, rsr_3_1 c i arg2 harg2 arg3 harg3 arg4 harg4 arg5 harg5 arg6 harg6 arg7 harg7 arg8 harg8 arg9 harg9 arg10 arg11 arg12 arg13 arg14 arg15 arg16 arg17 x0 x1 x2 x3 x4 x5, rsw_3_0 c i arg2 harg2 arg3 harg3 arg4 harg4 arg5 harg5 arg6 harg6 arg7 harg7 arg8 harg8 arg9 harg9 arg10 arg11 arg12 arg13 arg14 arg15 arg16 arg17 x0 x1 x2 x3 x4 x5, rsr_3_0 c i arg2 harg2 arg3 harg3 arg4 harg4 arg5 harg5 arg6 harg6 arg7 harg7 arg8 harg8 arg9 harg9 arg10 arg11 arg12 arg13 arg14 arg15 arg16 arg17 x0 x1 x2 x3 x4 x5, T_eq]
  rfl

/-! ## The results -/

theorem dk_0 : ((kernelRun0_A.sl.v2191 (F := F) c arg2 harg2 arg3 harg3 arg4 harg4 arg5 harg5 arg6 harg6 arg7 harg7 arg10 arg11 arg12 arg14 arg15 x0 x1 x2 x3 x4 x5)) = tOut ((tiles x0 x1 x2 x3 x4 x5).dk 0) := by
  rw [← T_eq c arg2 harg2 arg3 harg3 arg4 harg4 arg5 harg5 arg6 harg6 arg7 harg7 arg10 arg11 arg12 arg13 arg14 arg15 x0 x1 x2 x3 x4 x5]
  sl_kernel_rfl

theorem dk_1 : (k0_pay409 (kernelRun0_A.sl.r_42 (F := F) c arg2 harg2 arg3 harg3 arg4 harg4 arg5 harg5 arg6 harg6 arg7 harg7 arg10 arg11 arg12 arg14 arg15 x0 x1 x2 x3 x4 x5)) = tOut ((tiles x0 x1 x2 x3 x4 x5).dk 1) := by
  rw [← T_eq c arg2 harg2 arg3 harg3 arg4 harg4 arg5 harg5 arg6 harg6 arg7 harg7 arg10 arg11 arg12 arg13 arg14 arg15 x0 x1 x2 x3 x4 x5]
  sl_kernel_rfl

theorem dk_2 : (k0_pay464 (kernelRun0_A.sl.r_74 (F := F) c arg2 harg2 arg3 harg3 arg4 harg4 arg5 harg5 arg6 harg6 arg7 harg7 arg10 arg11 arg12 arg14 arg15 x0 x1 x2 x3 x4 x5)) = tOut ((tiles x0 x1 x2 x3 x4 x5).dk 2) := by
  rw [← T_eq c arg2 harg2 arg3 harg3 arg4 harg4 arg5 harg5 arg6 harg6 arg7 harg7 arg10 arg11 arg12 arg13 arg14 arg15 x0 x1 x2 x3 x4 x5]
  sl_kernel_rfl

theorem dk_3 : (k0_pay498 (kernelRun0_A.sl.r_92 (F := F) c arg2 harg2 arg3 harg3 arg4 harg4 arg5 harg5 arg6 harg6 arg7 harg7 arg10 arg11 arg12 arg14 arg15 x0 x1 x2 x3 x4 x5)) = tOut ((tiles x0 x1 x2 x3 x4 x5).dk 3) := by
  rw [← T_eq c arg2 harg2 arg3 harg3 arg4 harg4 arg5 harg5 arg6 harg6 arg7 harg7 arg10 arg11 arg12 arg13 arg14 arg15 x0 x1 x2 x3 x4 x5]
  sl_kernel_rfl

theorem dv_0 : ((kernelRun0_A.sl.v2194 (F := F) c arg2 harg2 arg3 harg3 arg5 harg5 arg6 harg6 arg7 harg7 arg10 arg13 arg14 x0 x1 x3 x4 x5)) = tOut ((tiles x0 x1 x2 x3 x4 x5).dv 0) := by
  rw [← T_eq c arg2 harg2 arg3 harg3 arg4 harg4 arg5 harg5 arg6 harg6 arg7 harg7 arg10 arg11 arg12 arg13 arg14 arg15 x0 x1 x2 x3 x4 x5]
  sl_kernel_rfl

theorem dv_1 : (k0_pay410 (kernelRun0_A.sl.r_43 (F := F) c arg2 harg2 arg3 harg3 arg5 harg5 arg6 harg6 arg7 harg7 arg10 arg13 arg14 x0 x1 x3 x4 x5)) = tOut ((tiles x0 x1 x2 x3 x4 x5).dv 1) := by
  rw [← T_eq c arg2 harg2 arg3 harg3 arg4 harg4 arg5 harg5 arg6 harg6 arg7 harg7 arg10 arg11 arg12 arg13 arg14 arg15 x0 x1 x2 x3 x4 x5]
  sl_kernel_rfl

theorem dv_2 : (k0_pay465 (kernelRun0_A.sl.r_75 (F := F) c arg2 harg2 arg3 harg3 arg5 harg5 arg6 harg6 arg7 harg7 arg10 arg13 arg14 x0 x1 x3 x4 x5)) = tOut ((tiles x0 x1 x2 x3 x4 x5).dv 2) := by
  rw [← T_eq c arg2 harg2 arg3 harg3 arg4 harg4 arg5 harg5 arg6 harg6 arg7 harg7 arg10 arg11 arg12 arg13 arg14 arg15 x0 x1 x2 x3 x4 x5]
  sl_kernel_rfl

theorem dv_3 : (k0_pay499 (kernelRun0_A.sl.r_88 (F := F) c arg2 harg2 arg3 harg3 arg5 harg5 arg6 harg6 arg7 harg7 arg10 arg13 arg14 x0 x1 x3 x4 x5) (kernelRun0_A.sl.r_93 (F := F) c arg3 harg3 arg13 x1) (kernelRun0_A.sl.r_94 (F := F) c arg2 harg2 arg5 harg5 arg6 harg6 arg7 harg7 arg10 arg14 x0 x3 x4 x5) (kernelRun0_A.sl.cst_740 (F := F))) = tOut ((tiles x0 x1 x2 x3 x4 x5).dv 3) := by
  rw [← T_eq c arg2 harg2 arg3 harg3 arg4 harg4 arg5 harg5 arg6 harg6 arg7 harg7 arg10 arg11 arg12 arg13 arg14 arg15 x0 x1 x2 x3 x4 x5]
  sl_kernel_rfl

theorem dqo_0 : (k0_pay506 (kernelRun0_A.sl.v2992 (F := F) c arg2 harg2 arg3 harg3 arg4 harg4 arg5 harg5 arg6 harg6 arg7 harg7 arg10 arg11 arg14 arg15 arg16 x0 x1 x2 x3 x4 x5)) = dqOut ((tiles x0 x1 x2 x3 x4 x5).dq 0) := by
  rw [← dq_0 c i arg2 harg2 arg3 harg3 arg4 harg4 arg5 harg5 arg6 harg6 arg7 harg7 arg8 harg8 arg9 harg9 arg10 arg11 arg12 arg13 arg14 arg15 arg16 arg17 x0 x1 x2 x3 x4 x5]
  sl_kernel_rfl

theorem dqo_1 : (k0_pay509 (kernelRun0_A.sl.v3028 (F := F) c arg2 harg2 arg3 harg3 arg4 harg4 arg5 harg5 arg6 harg6 arg7 harg7 arg10 arg11 arg14 arg15 arg16 x0 x1 x2 x3 x4 x5)) = dqOut ((tiles x0 x1 x2 x3 x4 x5).dq 1) := by
  rw [← dq_1 c i arg2 harg2 arg3 harg3 arg4 harg4 arg5 harg5 arg6 harg6 arg7 harg7 arg8 harg8 arg9 harg9 arg10 arg11 arg12 arg13 arg14 arg15 arg16 arg17 x0 x1 x2 x3 x4 x5]
  sl_kernel_rfl

theorem dqo_2 : (k0_pay512 (kernelRun0_A.sl.v3064 (F := F) c arg2 harg2 arg3 harg3 arg4 harg4 arg5 harg5 arg6 harg6 arg7 harg7 arg10 arg11 arg14 arg15 arg16 x0 x1 x2 x3 x4 x5)) = dqOut ((tiles x0 x1 x2 x3 x4 x5).dq 2) := by
  rw [← dq_2 c i arg2 harg2 arg3 harg3 arg4 harg4 arg5 harg5 arg6 harg6 arg7 harg7 arg8 harg8 arg9 harg9 arg10 arg11 arg12 arg13 arg14 arg15 arg16 arg17 x0 x1 x2 x3 x4 x5]
  sl_kernel_rfl

theorem dqo_3 : (k0_pay515 (kernelRun0_A.sl.v3100 (F := F) c arg2 harg2 arg3 harg3 arg4 harg4 arg5 harg5 arg6 harg6 arg7 harg7 arg10 arg11 arg14 arg15 arg16 x0 x1 x2 x3 x4 x5)) = dqOut ((tiles x0 x1 x2 x3 x4 x5).dq 3) := by
  rw [← dq_3 c i arg2 harg2 arg3 harg3 arg4 harg4 arg5 harg5 arg6 harg6 arg7 harg7 arg8 harg8 arg9 harg9 arg10 arg11 arg12 arg13 arg14 arg15 arg16 arg17 x0 x1 x2 x3 x4 x5]
  sl_kernel_rfl

/-- The zeros the first point of a sequence starts the decay's gradient from. -/
def zero7 : Vec F S1x2048x128 .f32 := (kernelRun0_A.sl.v3139 (F := F))

theorem old_0 : (kernelRun0_A.sl.v2216 (F := F) c arg9) = ld128 (zero7 (F := F)) 0 := (View.readCov_fill _ _ _ _ _ (by intro a; fin_cases a <;> rfl))

theorem old_1 : (kernelRun0_A.sl.v2550 (F := F) c i arg2 harg2 arg3 harg3 arg4 harg4 arg5 harg5 arg6 harg6 arg7 harg7 arg9 arg10 arg11 arg14 arg15 x0 x1 x2 x3 x4 x5) = ld128 (zero7 (F := F)) 1 := (readCov_skip _ _ _ _ _ (by decide)).trans <| (View.readCov_fill _ _ _ _ _ (by intro a; fin_cases a <;> rfl))

theorem old_2 : (kernelRun0_A.sl.v2798 (F := F) c i arg2 harg2 arg3 harg3 arg4 harg4 arg5 harg5 arg6 harg6 arg7 harg7 arg9 arg10 arg11 arg14 arg15 x0 x1 x2 x3 x4 x5) = ld128 (zero7 (F := F)) 2 := by
  iterate 2 refine (readCov_skip _ _ _ _ _ (by decide)).trans ?_
  exact (View.readCov_fill _ _ _ _ _ (by intro a; fin_cases a <;> rfl))

theorem old_3 : (kernelRun0_A.sl.v2960 (F := F) c i arg2 harg2 arg3 harg3 arg4 harg4 arg5 harg5 arg6 harg6 arg7 harg7 arg9 arg10 arg11 arg14 arg15 x0 x1 x2 x3 x4 x5) = ld128 (zero7 (F := F)) 3 := by
  iterate 3 refine (readCov_skip _ _ _ _ _ (by decide)).trans ?_
  exact (View.readCov_fill _ _ _ _ _ (by intro a; fin_cases a <;> rfl))

theorem col_0 : ((kernelRun0_A.sl.v2247 (F := F) c i arg2 harg2 arg3 harg3 arg4 harg4 arg5 harg5 arg6 harg6 arg7 harg7 arg9 arg10 arg11 arg14 arg15 x0 x1 x2 x3 x4 x5)) = dcCol (BitVec.ofNat 32 (i 1).val) (ld128 (zero7 (F := F)) 0) ((tiles x0 x1 x2 x3 x4 x5).col 0 0) ((tiles x0 x1 x2 x3 x4 x5).col 1 0) := by
  rw [← old_0 c i arg2 harg2 arg3 harg3 arg4 harg4 arg5 harg5 arg6 harg6 arg7 harg7 arg8 harg8 arg9 harg9 arg10 arg11 arg12 arg13 arg14 arg15 arg16 arg17 x0 x1 x2 x3 x4 x5]
  rw [← T_eq c arg2 harg2 arg3 harg3 arg4 harg4 arg5 harg5 arg6 harg6 arg7 harg7 arg10 arg11 arg12 arg13 arg14 arg15 x0 x1 x2 x3 x4 x5]
  sl_kernel_rfl

theorem col_1 : (k0_pay413 (kernelRun0_A.sl.r_45 (F := F) c i arg2 harg2 arg3 harg3 arg4 harg4 arg5 harg5 arg6 harg6 arg7 harg7 arg9 arg10 arg11 arg14 arg15 x0 x1 x2 x3 x4 x5)) = dcCol (BitVec.ofNat 32 (i 1).val) (ld128 (zero7 (F := F)) 1) ((tiles x0 x1 x2 x3 x4 x5).col 0 1) ((tiles x0 x1 x2 x3 x4 x5).col 1 1) := by
  rw [← old_1 c i arg2 harg2 arg3 harg3 arg4 harg4 arg5 harg5 arg6 harg6 arg7 harg7 arg8 harg8 arg9 harg9 arg10 arg11 arg12 arg13 arg14 arg15 arg16 arg17 x0 x1 x2 x3 x4 x5]
  rw [← T_eq c arg2 harg2 arg3 harg3 arg4 harg4 arg5 harg5 arg6 harg6 arg7 harg7 arg10 arg11 arg12 arg13 arg14 arg15 x0 x1 x2 x3 x4 x5]
  sl_kernel_rfl

theorem col_2 : (k0_pay470 (BitVec.ofNat 32 (i 1).val) (kernelRun0_A.sl.v0 ) (kernelRun0_A.sl.r_78 (F := F) c arg2 harg2 arg3 harg3 arg4 harg4 arg5 harg5 arg6 harg6 arg7 harg7 arg10 arg11 arg14 arg15 x0 x1 x2 x3 x4 x5) (kernelRun0_A.sl.r_79 (F := F) c i arg2 harg2 arg3 harg3 arg4 harg4 arg5 harg5 arg6 harg6 arg7 harg7 arg9 arg10 arg11 arg14 arg15 x0 x1 x2 x3 x4 x5) (kernelRun0_A.sl.r_80 (F := F) c arg2 harg2 arg3 harg3 arg4 harg4 arg5 harg5 arg6 harg6 arg7 harg7 arg10 arg11 arg14 arg15 x0 x1 x2 x3 x4 x5) (kernelRun0_A.sl.cst_1664 (F := F)) (kernelRun0_A.sl.r_81 i)) = dcCol (BitVec.ofNat 32 (i 1).val) (ld128 (zero7 (F := F)) 2) ((tiles x0 x1 x2 x3 x4 x5).col 0 2) ((tiles x0 x1 x2 x3 x4 x5).col 1 2) := by
  rw [← old_2 c i arg2 harg2 arg3 harg3 arg4 harg4 arg5 harg5 arg6 harg6 arg7 harg7 arg8 harg8 arg9 harg9 arg10 arg11 arg12 arg13 arg14 arg15 arg16 arg17 x0 x1 x2 x3 x4 x5]
  rw [← T_eq c arg2 harg2 arg3 harg3 arg4 harg4 arg5 harg5 arg6 harg6 arg7 harg7 arg10 arg11 arg12 arg13 arg14 arg15 x0 x1 x2 x3 x4 x5]
  sl_kernel_rfl

theorem col_3 : (k0_pay505 (kernelRun0_A.sl.r_96 (F := F) c i arg2 harg2 arg3 harg3 arg4 harg4 arg5 harg5 arg6 harg6 arg7 harg7 arg9 arg10 arg11 arg14 arg15 x0 x1 x2 x3 x4 x5) (kernelRun0_A.sl.r_97 (F := F) c i arg2 harg2 arg3 harg3 arg4 harg4 arg5 harg5 arg6 harg6 arg7 harg7 arg10 arg11 arg14 arg15 x0 x1 x2 x3 x4 x5) (kernelRun0_A.sl.r_98 (F := F) c i arg2 harg2 arg3 harg3 arg4 harg4 arg5 harg5 arg6 harg6 arg7 harg7 arg10 arg11 arg14 arg15 x0 x1 x2 x3 x4 x5)) = dcCol (BitVec.ofNat 32 (i 1).val) (ld128 (zero7 (F := F)) 3) ((tiles x0 x1 x2 x3 x4 x5).col 0 3) ((tiles x0 x1 x2 x3 x4 x5).col 1 3) := by
  rw [← old_3 c i arg2 harg2 arg3 harg3 arg4 harg4 arg5 harg5 arg6 harg6 arg7 harg7 arg8 harg8 arg9 harg9 arg10 arg11 arg12 arg13 arg14 arg15 arg16 arg17 x0 x1 x2 x3 x4 x5]
  rw [← T_eq c arg2 harg2 arg3 harg3 arg4 harg4 arg5 harg5 arg6 harg6 arg7 harg7 arg10 arg11 arg12 arg13 arg14 arg15 x0 x1 x2 x3 x4 x5]
  sl_kernel_rfl

theorem colr_0 : (kernelRun0_A.sl.v3000 (F := F) c i arg2 harg2 arg3 harg3 arg4 harg4 arg5 harg5 arg6 harg6 arg7 harg7 arg9 arg10 arg11 arg14 arg15 x0 x1 x2 x3 x4 x5) = ((kernelRun0_A.sl.v2247 (F := F) c i arg2 harg2 arg3 harg3 arg4 harg4 arg5 harg5 arg6 harg6 arg7 harg7 arg9 arg10 arg11 arg14 arg15 x0 x1 x2 x3 x4 x5)) := by
  iterate 3 refine (readCov_skip _ _ _ _ _ (by decide)).trans ?_
  exact (readCov_cons_toLoadRect ..)

theorem dc_0 : (k0_pay508 (kernelRun0_A.sl.r_99 (F := F) c i arg2 harg2 arg3 harg3 arg4 harg4 arg5 harg5 arg6 harg6 arg7 harg7 arg9 arg10 arg11 arg14 arg15 arg17 x0 x1 x2 x3 x4 x5)) = (tiles x0 x1 x2 x3 x4 x5).dc (BitVec.ofNat 32 (i 1).val) (ld128 (zero7 (F := F))) 0 := by
  refine Eq.trans (b := dcRow (BitVec.ofNat 32 (i 1).val) (kernelRun0_A.sl.v3000 (F := F) c i arg2 harg2 arg3 harg3 arg4 harg4 arg5 harg5 arg6 harg6 arg7 harg7 arg9 arg10 arg11 arg14 arg15 x0 x1 x2 x3 x4 x5) (kernelRun0_A.sl.v2998 (F := F) c arg2 harg2 arg3 harg3 arg4 harg4 arg5 harg5 arg6 harg6 arg7 harg7 arg10 arg11 arg14 arg15 arg17 x0 x1 x2 x3 x4 x5)) (by sl_kernel_rfl) ?_
  rw [colr_0 c i arg2 harg2 arg3 harg3 arg4 harg4 arg5 harg5 arg6 harg6 arg7 harg7 arg8 harg8 arg9 harg9 arg10 arg11 arg12 arg13 arg14 arg15 arg16 arg17 x0 x1 x2 x3 x4 x5, col_0 c i arg2 harg2 arg3 harg3 arg4 harg4 arg5 harg5 arg6 harg6 arg7 harg7 arg8 harg8 arg9 harg9 arg10 arg11 arg12 arg13 arg14 arg15 arg16 arg17 x0 x1 x2 x3 x4 x5, rs_0 c i arg2 harg2 arg3 harg3 arg4 harg4 arg5 harg5 arg6 harg6 arg7 harg7 arg8 harg8 arg9 harg9 arg10 arg11 arg12 arg13 arg14 arg15 arg16 arg17 x0 x1 x2 x3 x4 x5]
  rfl

theorem colr_1 : (kernelRun0_A.sl.v3036 (F := F) c i arg2 harg2 arg3 harg3 arg4 harg4 arg5 harg5 arg6 harg6 arg7 harg7 arg9 arg10 arg11 arg14 arg15 arg17 x0 x1 x2 x3 x4 x5) = (k0_pay413 (kernelRun0_A.sl.r_45 (F := F) c i arg2 harg2 arg3 harg3 arg4 harg4 arg5 harg5 arg6 harg6 arg7 harg7 arg9 arg10 arg11 arg14 arg15 x0 x1 x2 x3 x4 x5)) := by
  iterate 3 refine (readCov_skip _ _ _ _ _ (by decide)).trans ?_
  exact (readCov_cons_toLoadRect ..)

theorem dc_1 : (k0_pay511 (kernelRun0_A.sl.r_100 (F := F) c i arg2 harg2 arg3 harg3 arg4 harg4 arg5 harg5 arg6 harg6 arg7 harg7 arg9 arg10 arg11 arg14 arg15 arg17 x0 x1 x2 x3 x4 x5)) = (tiles x0 x1 x2 x3 x4 x5).dc (BitVec.ofNat 32 (i 1).val) (ld128 (zero7 (F := F))) 1 := by
  refine Eq.trans (b := dcRow (BitVec.ofNat 32 (i 1).val) (kernelRun0_A.sl.v3036 (F := F) c i arg2 harg2 arg3 harg3 arg4 harg4 arg5 harg5 arg6 harg6 arg7 harg7 arg9 arg10 arg11 arg14 arg15 arg17 x0 x1 x2 x3 x4 x5) (kernelRun0_A.sl.v3034 (F := F) c arg2 harg2 arg3 harg3 arg4 harg4 arg5 harg5 arg6 harg6 arg7 harg7 arg10 arg11 arg14 arg15 arg17 x0 x1 x2 x3 x4 x5)) (by sl_kernel_rfl) ?_
  rw [colr_1 c i arg2 harg2 arg3 harg3 arg4 harg4 arg5 harg5 arg6 harg6 arg7 harg7 arg8 harg8 arg9 harg9 arg10 arg11 arg12 arg13 arg14 arg15 arg16 arg17 x0 x1 x2 x3 x4 x5, col_1 c i arg2 harg2 arg3 harg3 arg4 harg4 arg5 harg5 arg6 harg6 arg7 harg7 arg8 harg8 arg9 harg9 arg10 arg11 arg12 arg13 arg14 arg15 arg16 arg17 x0 x1 x2 x3 x4 x5, rs_1 c i arg2 harg2 arg3 harg3 arg4 harg4 arg5 harg5 arg6 harg6 arg7 harg7 arg8 harg8 arg9 harg9 arg10 arg11 arg12 arg13 arg14 arg15 arg16 arg17 x0 x1 x2 x3 x4 x5]
  rfl

theorem colr_2 : (kernelRun0_A.sl.v3072 (F := F) c i arg2 harg2 arg3 harg3 arg4 harg4 arg5 harg5 arg6 harg6 arg7 harg7 arg9 arg10 arg11 arg14 arg15 arg17 x0 x1 x2 x3 x4 x5) = (k0_pay470 (BitVec.ofNat 32 (i 1).val) (kernelRun0_A.sl.v0 ) (kernelRun0_A.sl.r_78 (F := F) c arg2 harg2 arg3 harg3 arg4 harg4 arg5 harg5 arg6 harg6 arg7 harg7 arg10 arg11 arg14 arg15 x0 x1 x2 x3 x4 x5) (kernelRun0_A.sl.r_79 (F := F) c i arg2 harg2 arg3 harg3 arg4 harg4 arg5 harg5 arg6 harg6 arg7 harg7 arg9 arg10 arg11 arg14 arg15 x0 x1 x2 x3 x4 x5) (kernelRun0_A.sl.r_80 (F := F) c arg2 harg2 arg3 harg3 arg4 harg4 arg5 harg5 arg6 harg6 arg7 harg7 arg10 arg11 arg14 arg15 x0 x1 x2 x3 x4 x5) (kernelRun0_A.sl.cst_1664 (F := F)) (kernelRun0_A.sl.r_81 i)) := by
  iterate 3 refine (readCov_skip _ _ _ _ _ (by decide)).trans ?_
  exact (readCov_cons_toLoadRect ..)

theorem dc_2 : (k0_pay514 (kernelRun0_A.sl.r_101 (F := F) c i arg2 harg2 arg3 harg3 arg4 harg4 arg5 harg5 arg6 harg6 arg7 harg7 arg9 arg10 arg11 arg14 arg15 arg17 x0 x1 x2 x3 x4 x5)) = (tiles x0 x1 x2 x3 x4 x5).dc (BitVec.ofNat 32 (i 1).val) (ld128 (zero7 (F := F))) 2 := by
  refine Eq.trans (b := dcRow (BitVec.ofNat 32 (i 1).val) (kernelRun0_A.sl.v3072 (F := F) c i arg2 harg2 arg3 harg3 arg4 harg4 arg5 harg5 arg6 harg6 arg7 harg7 arg9 arg10 arg11 arg14 arg15 arg17 x0 x1 x2 x3 x4 x5) (kernelRun0_A.sl.v3070 (F := F) c arg2 harg2 arg3 harg3 arg4 harg4 arg5 harg5 arg6 harg6 arg7 harg7 arg10 arg11 arg14 arg15 arg17 x0 x1 x2 x3 x4 x5)) (by sl_kernel_rfl) ?_
  rw [colr_2 c i arg2 harg2 arg3 harg3 arg4 harg4 arg5 harg5 arg6 harg6 arg7 harg7 arg8 harg8 arg9 harg9 arg10 arg11 arg12 arg13 arg14 arg15 arg16 arg17 x0 x1 x2 x3 x4 x5, col_2 c i arg2 harg2 arg3 harg3 arg4 harg4 arg5 harg5 arg6 harg6 arg7 harg7 arg8 harg8 arg9 harg9 arg10 arg11 arg12 arg13 arg14 arg15 arg16 arg17 x0 x1 x2 x3 x4 x5, rs_2 c i arg2 harg2 arg3 harg3 arg4 harg4 arg5 harg5 arg6 harg6 arg7 harg7 arg8 harg8 arg9 harg9 arg10 arg11 arg12 arg13 arg14 arg15 arg16 arg17 x0 x1 x2 x3 x4 x5]
  rfl

theorem colr_3 : (kernelRun0_A.sl.v3108 (F := F) c i arg2 harg2 arg3 harg3 arg4 harg4 arg5 harg5 arg6 harg6 arg7 harg7 arg9 arg10 arg11 arg14 arg15 arg17 x0 x1 x2 x3 x4 x5) = (k0_pay505 (kernelRun0_A.sl.r_96 (F := F) c i arg2 harg2 arg3 harg3 arg4 harg4 arg5 harg5 arg6 harg6 arg7 harg7 arg9 arg10 arg11 arg14 arg15 x0 x1 x2 x3 x4 x5) (kernelRun0_A.sl.r_97 (F := F) c i arg2 harg2 arg3 harg3 arg4 harg4 arg5 harg5 arg6 harg6 arg7 harg7 arg10 arg11 arg14 arg15 x0 x1 x2 x3 x4 x5) (kernelRun0_A.sl.r_98 (F := F) c i arg2 harg2 arg3 harg3 arg4 harg4 arg5 harg5 arg6 harg6 arg7 harg7 arg10 arg11 arg14 arg15 x0 x1 x2 x3 x4 x5)) := by
  iterate 3 refine (readCov_skip _ _ _ _ _ (by decide)).trans ?_
  exact (readCov_cons_toLoadRect ..)

theorem dc_3 : ((kernelRun0_A.sl.r_102 (F := F) c i arg2 harg2 arg3 harg3 arg4 harg4 arg5 harg5 arg6 harg6 arg7 harg7 arg9 arg10 arg11 arg14 arg15 arg17 x0 x1 x2 x3 x4 x5)) = (tiles x0 x1 x2 x3 x4 x5).dc (BitVec.ofNat 32 (i 1).val) (ld128 (zero7 (F := F))) 3 := by
  refine Eq.trans (b := dcRow (BitVec.ofNat 32 (i 1).val) (kernelRun0_A.sl.v3108 (F := F) c i arg2 harg2 arg3 harg3 arg4 harg4 arg5 harg5 arg6 harg6 arg7 harg7 arg9 arg10 arg11 arg14 arg15 arg17 x0 x1 x2 x3 x4 x5) (kernelRun0_A.sl.v3106 (F := F) c arg2 harg2 arg3 harg3 arg4 harg4 arg5 harg5 arg6 harg6 arg7 harg7 arg10 arg11 arg14 arg15 arg17 x0 x1 x2 x3 x4 x5)) (by sl_kernel_rfl) ?_
  rw [colr_3 c i arg2 harg2 arg3 harg3 arg4 harg4 arg5 harg5 arg6 harg6 arg7 harg7 arg8 harg8 arg9 harg9 arg10 arg11 arg12 arg13 arg14 arg15 arg16 arg17 x0 x1 x2 x3 x4 x5, col_3 c i arg2 harg2 arg3 harg3 arg4 harg4 arg5 harg5 arg6 harg6 arg7 harg7 arg8 harg8 arg9 harg9 arg10 arg11 arg12 arg13 arg14 arg15 arg16 arg17 x0 x1 x2 x3 x4 x5, rs_3 c i arg2 harg2 arg3 harg3 arg4 harg4 arg5 harg5 arg6 harg6 arg7 harg7 arg8 harg8 arg9 harg9 arg10 arg11 arg12 arg13 arg14 arg15 arg16 arg17 x0 x1 x2 x3 x4 x5]
  rfl

/-- The first result's block: four row tiles of the queries', keys' and values' gradients. -/
theorem out6 (hc0 : cond0_0 i) : out0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 = View.canon (Val := Elt F) (s := S2048x384) (e := .bf16)
    [⟨Rect.unit ![1536, 0] S512x128.size inb_S2048x384_S512x128_1536_0, dqOut ((tiles x0 x1 x2 x3 x4 x5).dq 3)⟩,
    ⟨Rect.unit ![1024, 0] S512x128.size inb_S2048x384_S512x128_1024_0, dqOut ((tiles x0 x1 x2 x3 x4 x5).dq 2)⟩,
    ⟨Rect.unit ![512, 0] S512x128.size inb_S2048x384_S512x128_512_0, dqOut ((tiles x0 x1 x2 x3 x4 x5).dq 1)⟩,
    ⟨Rect.unit ![0, 0] S512x128.size inb_S2048x384_S512x128_0_0, dqOut ((tiles x0 x1 x2 x3 x4 x5).dq 0)⟩,
    ⟨Rect.unit ![1536, 256] S512x128.size inb_S2048x384_S512x128_1536_256, tOut ((tiles x0 x1 x2 x3 x4 x5).dv 3)⟩,
    ⟨Rect.unit ![1536, 128] S512x128.size inb_S2048x384_S512x128_1536_128, tOut ((tiles x0 x1 x2 x3 x4 x5).dk 3)⟩,
    ⟨Rect.unit ![1024, 256] S512x128.size inb_S2048x384_S512x128_1024_256, tOut ((tiles x0 x1 x2 x3 x4 x5).dv 2)⟩,
    ⟨Rect.unit ![1024, 128] S512x128.size inb_S2048x384_S512x128_1024_128, tOut ((tiles x0 x1 x2 x3 x4 x5).dk 2)⟩,
    ⟨Rect.unit ![512, 256] S512x128.size inb_S2048x384_S512x128_512_256, tOut ((tiles x0 x1 x2 x3 x4 x5).dv 1)⟩,
    ⟨Rect.unit ![512, 128] S512x128.size inb_S2048x384_S512x128_512_128, tOut ((tiles x0 x1 x2 x3 x4 x5).dk 1)⟩,
    ⟨Rect.unit ![0, 256] S512x128.size inb_S2048x384_S512x128_0_256, tOut ((tiles x0 x1 x2 x3 x4 x5).dv 0)⟩,
    ⟨Rect.unit ![0, 128] S512x128.size inb_S2048x384_S512x128_0_128, tOut ((tiles x0 x1 x2 x3 x4 x5).dk 0)⟩] := by
  refine (View.read_writes_junk_eq_canon _ _).trans (Eq.trans (b := View.canon (Val := Elt F) (s := S2048x384) (e := .bf16)
    [⟨Rect.unit ![1536, 0] S512x128.size inb_S2048x384_S512x128_1536_0, (k0_pay515 (kernelRun0_A.sl.v3100 (F := F) c arg2 harg2 arg3 harg3 arg4 harg4 arg5 harg5 arg6 harg6 arg7 harg7 arg10 arg11 arg14 arg15 arg16 x0 x1 x2 x3 x4 x5))⟩,
    ⟨Rect.unit ![1024, 0] S512x128.size inb_S2048x384_S512x128_1024_0, (k0_pay512 (kernelRun0_A.sl.v3064 (F := F) c arg2 harg2 arg3 harg3 arg4 harg4 arg5 harg5 arg6 harg6 arg7 harg7 arg10 arg11 arg14 arg15 arg16 x0 x1 x2 x3 x4 x5))⟩,
    ⟨Rect.unit ![512, 0] S512x128.size inb_S2048x384_S512x128_512_0, (k0_pay509 (kernelRun0_A.sl.v3028 (F := F) c arg2 harg2 arg3 harg3 arg4 harg4 arg5 harg5 arg6 harg6 arg7 harg7 arg10 arg11 arg14 arg15 arg16 x0 x1 x2 x3 x4 x5))⟩,
    ⟨Rect.unit ![0, 0] S512x128.size inb_S2048x384_S512x128_0_0, (k0_pay506 (kernelRun0_A.sl.v2992 (F := F) c arg2 harg2 arg3 harg3 arg4 harg4 arg5 harg5 arg6 harg6 arg7 harg7 arg10 arg11 arg14 arg15 arg16 x0 x1 x2 x3 x4 x5))⟩,
    ⟨Rect.unit ![1536, 256] S512x128.size inb_S2048x384_S512x128_1536_256, (k0_pay499 (kernelRun0_A.sl.r_88 (F := F) c arg2 harg2 arg3 harg3 arg5 harg5 arg6 harg6 arg7 harg7 arg10 arg13 arg14 x0 x1 x3 x4 x5) (kernelRun0_A.sl.r_93 (F := F) c arg3 harg3 arg13 x1) (kernelRun0_A.sl.r_94 (F := F) c arg2 harg2 arg5 harg5 arg6 harg6 arg7 harg7 arg10 arg14 x0 x3 x4 x5) (kernelRun0_A.sl.cst_740 (F := F)))⟩,
    ⟨Rect.unit ![1536, 128] S512x128.size inb_S2048x384_S512x128_1536_128, (k0_pay498 (kernelRun0_A.sl.r_92 (F := F) c arg2 harg2 arg3 harg3 arg4 harg4 arg5 harg5 arg6 harg6 arg7 harg7 arg10 arg11 arg12 arg14 arg15 x0 x1 x2 x3 x4 x5))⟩,
    ⟨Rect.unit ![1024, 256] S512x128.size inb_S2048x384_S512x128_1024_256, (k0_pay465 (kernelRun0_A.sl.r_75 (F := F) c arg2 harg2 arg3 harg3 arg5 harg5 arg6 harg6 arg7 harg7 arg10 arg13 arg14 x0 x1 x3 x4 x5))⟩,
    ⟨Rect.unit ![1024, 128] S512x128.size inb_S2048x384_S512x128_1024_128, (k0_pay464 (kernelRun0_A.sl.r_74 (F := F) c arg2 harg2 arg3 harg3 arg4 harg4 arg5 harg5 arg6 harg6 arg7 harg7 arg10 arg11 arg12 arg14 arg15 x0 x1 x2 x3 x4 x5))⟩,
    ⟨Rect.unit ![512, 256] S512x128.size inb_S2048x384_S512x128_512_256, (k0_pay410 (kernelRun0_A.sl.r_43 (F := F) c arg2 harg2 arg3 harg3 arg5 harg5 arg6 harg6 arg7 harg7 arg10 arg13 arg14 x0 x1 x3 x4 x5))⟩,
    ⟨Rect.unit ![512, 128] S512x128.size inb_S2048x384_S512x128_512_128, (k0_pay409 (kernelRun0_A.sl.r_42 (F := F) c arg2 harg2 arg3 harg3 arg4 harg4 arg5 harg5 arg6 harg6 arg7 harg7 arg10 arg11 arg12 arg14 arg15 x0 x1 x2 x3 x4 x5))⟩,
    ⟨Rect.unit ![0, 256] S512x128.size inb_S2048x384_S512x128_0_256, ((kernelRun0_A.sl.v2194 (F := F) c arg2 harg2 arg3 harg3 arg5 harg5 arg6 harg6 arg7 harg7 arg10 arg13 arg14 x0 x1 x3 x4 x5))⟩,
    ⟨Rect.unit ![0, 128] S512x128.size inb_S2048x384_S512x128_0_128, ((kernelRun0_A.sl.v2191 (F := F) c arg2 harg2 arg3 harg3 arg4 harg4 arg5 harg5 arg6 harg6 arg7 harg7 arg10 arg11 arg12 arg14 arg15 x0 x1 x2 x3 x4 x5))⟩]) (by sl_kernel_rfl) ?_)
  rw [dqo_0 c i arg2 harg2 arg3 harg3 arg4 harg4 arg5 harg5 arg6 harg6 arg7 harg7 arg8 harg8 arg9 harg9 arg10 arg11 arg12 arg13 arg14 arg15 arg16 arg17 x0 x1 x2 x3 x4 x5, dqo_1 c i arg2 harg2 arg3 harg3 arg4 harg4 arg5 harg5 arg6 harg6 arg7 harg7 arg8 harg8 arg9 harg9 arg10 arg11 arg12 arg13 arg14 arg15 arg16 arg17 x0 x1 x2 x3 x4 x5, dqo_2 c i arg2 harg2 arg3 harg3 arg4 harg4 arg5 harg5 arg6 harg6 arg7 harg7 arg8 harg8 arg9 harg9 arg10 arg11 arg12 arg13 arg14 arg15 arg16 arg17 x0 x1 x2 x3 x4 x5, dqo_3 c i arg2 harg2 arg3 harg3 arg4 harg4 arg5 harg5 arg6 harg6 arg7 harg7 arg8 harg8 arg9 harg9 arg10 arg11 arg12 arg13 arg14 arg15 arg16 arg17 x0 x1 x2 x3 x4 x5, dk_0 c i arg2 harg2 arg3 harg3 arg4 harg4 arg5 harg5 arg6 harg6 arg7 harg7 arg8 harg8 arg9 harg9 arg10 arg11 arg12 arg13 arg14 arg15 arg16 arg17 x0 x1 x2 x3 x4 x5, dk_1 c i arg2 harg2 arg3 harg3 arg4 harg4 arg5 harg5 arg6 harg6 arg7 harg7 arg8 harg8 arg9 harg9 arg10 arg11 arg12 arg13 arg14 arg15 arg16 arg17 x0 x1 x2 x3 x4 x5, dk_2 c i arg2 harg2 arg3 harg3 arg4 harg4 arg5 harg5 arg6 harg6 arg7 harg7 arg8 harg8 arg9 harg9 arg10 arg11 arg12 arg13 arg14 arg15 arg16 arg17 x0 x1 x2 x3 x4 x5, dk_3 c i arg2 harg2 arg3 harg3 arg4 harg4 arg5 harg5 arg6 harg6 arg7 harg7 arg8 harg8 arg9 harg9 arg10 arg11 arg12 arg13 arg14 arg15 arg16 arg17 x0 x1 x2 x3 x4 x5, dv_0 c i arg2 harg2 arg3 harg3 arg4 harg4 arg5 harg5 arg6 harg6 arg7 harg7 arg8 harg8 arg9 harg9 arg10 arg11 arg12 arg13 arg14 arg15 arg16 arg17 x0 x1 x2 x3 x4 x5, dv_1 c i arg2 harg2 arg3 harg3 arg4 harg4 arg5 harg5 arg6 harg6 arg7 harg7 arg8 harg8 arg9 harg9 arg10 arg11 arg12 arg13 arg14 arg15 arg16 arg17 x0 x1 x2 x3 x4 x5, dv_2 c i arg2 harg2 arg3 harg3 arg4 harg4 arg5 harg5 arg6 harg6 arg7 harg7 arg8 harg8 arg9 harg9 arg10 arg11 arg12 arg13 arg14 arg15 arg16 arg17 x0 x1 x2 x3 x4 x5, dv_3 c i arg2 harg2 arg3 harg3 arg4 harg4 arg5 harg5 arg6 harg6 arg7 harg7 arg8 harg8 arg9 harg9 arg10 arg11 arg12 arg13 arg14 arg15 arg16 arg17 x0 x1 x2 x3 x4 x5]

/-- The second result's block: four row tiles of the decay's gradient, over what was stored before. -/
theorem out7 (hc0 : cond0_0 i) : ∃ L, out0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 = View.canon (Val := Elt F) (s := S1x2048x128) (e := .f32)
    (⟨Rect.unit ![0, 1536, 0] S1x512x128.size inb_S1x2048x128_S1x512x128_0_1536_0, (tiles x0 x1 x2 x3 x4 x5).dc (BitVec.ofNat 32 (i 1).val) (ld128 (zero7 (F := F))) 3⟩ ::
    ⟨Rect.unit ![0, 1024, 0] S1x512x128.size inb_S1x2048x128_S1x512x128_0_1024_0, (tiles x0 x1 x2 x3 x4 x5).dc (BitVec.ofNat 32 (i 1).val) (ld128 (zero7 (F := F))) 2⟩ ::
    ⟨Rect.unit ![0, 512, 0] S1x512x128.size inb_S1x2048x128_S1x512x128_0_512_0, (tiles x0 x1 x2 x3 x4 x5).dc (BitVec.ofNat 32 (i 1).val) (ld128 (zero7 (F := F))) 1⟩ ::
    ⟨Rect.unit ![0, 0, 0] S1x512x128.size inb_S1x2048x128_S1x512x128_0_0_0, (tiles x0 x1 x2 x3 x4 x5).dc (BitVec.ofNat 32 (i 1).val) (ld128 (zero7 (F := F))) 0⟩ :: L) := by
  refine ⟨(kernelRun0_A.sl.H7_5 (F := F) c i arg2 harg2 arg3 harg3 arg4 harg4 arg5 harg5 arg6 harg6 arg7 harg7 arg9 arg10 arg11 arg14 arg15 x0 x1 x2 x3 x4 x5), (View.read_writes_junk_eq_canon _ _).trans (Eq.trans (b := View.canon (Val := Elt F) (s := S1x2048x128) (e := .f32)
    (⟨Rect.unit ![0, 1536, 0] S1x512x128.size inb_S1x2048x128_S1x512x128_0_1536_0, ((kernelRun0_A.sl.r_102 (F := F) c i arg2 harg2 arg3 harg3 arg4 harg4 arg5 harg5 arg6 harg6 arg7 harg7 arg9 arg10 arg11 arg14 arg15 arg17 x0 x1 x2 x3 x4 x5))⟩ ::
    ⟨Rect.unit ![0, 1024, 0] S1x512x128.size inb_S1x2048x128_S1x512x128_0_1024_0, (k0_pay514 (kernelRun0_A.sl.r_101 (F := F) c i arg2 harg2 arg3 harg3 arg4 harg4 arg5 harg5 arg6 harg6 arg7 harg7 arg9 arg10 arg11 arg14 arg15 arg17 x0 x1 x2 x3 x4 x5))⟩ ::
    ⟨Rect.unit ![0, 512, 0] S1x512x128.size inb_S1x2048x128_S1x512x128_0_512_0, (k0_pay511 (kernelRun0_A.sl.r_100 (F := F) c i arg2 harg2 arg3 harg3 arg4 harg4 arg5 harg5 arg6 harg6 arg7 harg7 arg9 arg10 arg11 arg14 arg15 arg17 x0 x1 x2 x3 x4 x5))⟩ ::
    ⟨Rect.unit ![0, 0, 0] S1x512x128.size inb_S1x2048x128_S1x512x128_0_0_0, (k0_pay508 (kernelRun0_A.sl.r_99 (F := F) c i arg2 harg2 arg3 harg3 arg4 harg4 arg5 harg5 arg6 harg6 arg7 harg7 arg9 arg10 arg11 arg14 arg15 arg17 x0 x1 x2 x3 x4 x5))⟩ :: (kernelRun0_A.sl.H7_5 (F := F) c i arg2 harg2 arg3 harg3 arg4 harg4 arg5 harg5 arg6 harg6 arg7 harg7 arg9 arg10 arg11 arg14 arg15 x0 x1 x2 x3 x4 x5))) (by sl_kernel_rfl) ?_)⟩
  rw [dc_0 c i arg2 harg2 arg3 harg3 arg4 harg4 arg5 harg5 arg6 harg6 arg7 harg7 arg8 harg8 arg9 harg9 arg10 arg11 arg12 arg13 arg14 arg15 arg16 arg17 x0 x1 x2 x3 x4 x5, dc_1 c i arg2 harg2 arg3 harg3 arg4 harg4 arg5 harg5 arg6 harg6 arg7 harg7 arg8 harg8 arg9 harg9 arg10 arg11 arg12 arg13 arg14 arg15 arg16 arg17 x0 x1 x2 x3 x4 x5, dc_2 c i arg2 harg2 arg3 harg3 arg4 harg4 arg5 harg5 arg6 harg6 arg7 harg7 arg8 harg8 arg9 harg9 arg10 arg11 arg12 arg13 arg14 arg15 arg16 arg17 x0 x1 x2 x3 x4 x5, dc_3 c i arg2 harg2 arg3 harg3 arg4 harg4 arg5 harg5 arg6 harg6 arg7 harg7 arg8 harg8 arg9 harg9 arg10 arg11 arg12 arg13 arg14 arg15 arg16 arg17 x0 x1 x2 x3 x4 x5]

end Cert.AttnBwd.RunA

end
-- ==== Proof.Attn.RunB.lean ====
/- The attention gradient's body at a grid point after the first of its sequence: each operand tile it reads back is the tile's
   closed form, and what it stores in its two results is that of the tiles. -/
module

public import proofs.«01_k».proof.Proof.Attn.Blocks
public import proofs.«01_k».proof.Proof.Gen.KernelIdeal.Frame

@[expose] public section

set_option maxRecDepth 16384

noncomputable section

namespace Cert.AttnBwd.RunB

open Idealize.ShloMosaic Cert.KernelIdeal Cert.KernelIdeal.Gen
open View (readCov_skip readCov_cons_toLoadRect)

variable {F : FTy → Type} [FloatOps F] [Named F]
variable (c : Dev nD) (i : grid0.Coords) (arg2 : Memref sig .tc .vmem S1x2048x384 .bf16) (harg2 : arg2.IsWhole) (arg3 : Memref sig .tc .vmem S1x2048x128 .bf16) (harg3 : arg3.IsWhole) (arg4 : Memref sig .tc .vmem S1x2048x128 .f32) (harg4 : arg4.IsWhole) (arg5 : Memref sig .tc .vmem S1x1x2x4x512 .f32) (harg5 : arg5.IsWhole) (arg6 : Memref sig .tc .vmem S1x1x2x4x512 .f32) (harg6 : arg6.IsWhole) (arg7 : Memref sig .tc .vmem S1x2048x128 .f32) (harg7 : arg7.IsWhole) (arg8 : Memref sig .tc .vmem S2048x384 .bf16) (harg8 : arg8.IsWhole) (arg9 : Memref sig .tc .vmem S1x2048x128 .f32) (harg9 : arg9.IsWhole) (arg10 : Memref sig .tc .vmem S2x4x512x128 .bf16) (harg10 : arg10.IsWhole) (arg11 : Memref sig .tc .vmem S2x4x512x128 .bf16) (harg11 : arg11.IsWhole) (arg12 : Memref sig .tc .vmem S2x4x128x512 .bf16) (harg12 : arg12.IsWhole) (arg13 : Memref sig .tc .vmem S2x4x128x512 .bf16) (harg13 : arg13.IsWhole) (arg14 : Memref sig .tc .vmem S2x4x128x512 .bf16) (harg14 : arg14.IsWhole) (arg15 : Memref sig .tc .vmem S2x4x128x512 .bf16) (harg15 : arg15.IsWhole) (arg16 : Memref sig .tc .vmem S4x512x128 .f32) (harg16 : arg16.IsWhole) (arg17 : Memref sig .tc .vmem S4x512x128 .f32) (harg17 : arg17.IsWhole)
variable (x0 : Vec F S1x2048x384 .bf16) (x1 : Vec F S1x2048x128 .bf16) (x2 : Vec F S1x2048x128 .f32) (x3 : Vec F S1x1x2x4x512 .f32) (x4 : Vec F S1x1x2x4x512 .f32) (x5 : Vec F S1x2048x128 .f32) (xo7 : Vec F S1x2048x128 .f32)

/-! ## Operand tiles read back -/

theorem qa_0_0 : (kernelRun0_B.sl.v1843 (F := F) c arg2 harg2 arg5 harg5 arg7 harg7 arg10 x0 x3 x5) = qa0 (ld384 x0 0 0) (ld128 x5 0) (ld5 x3 0 0) (ld5 x3 1 0) := by
  rw [← rd384 arg2 harg2 x0 0 0, ← rd128 arg7 harg7 x5 0, ← rd5 arg5 harg5 x3 0 0, ← rd5 arg5 harg5 x3 1 0]
  iterate 7 refine (readCov_skip _ _ _ _ _ (by decide)).trans ?_
  refine (readCov_cons_toLoadRect ..).trans ?_
  sl_kernel_rfl

theorem qa_0_1 : (kernelRun0_B.sl.v1933 (F := F) c arg2 harg2 arg5 harg5 arg7 harg7 arg10 x0 x3 x5) = qa0 (ld384 x0 1 0) (ld128 x5 1) (ld5 x3 0 1) (ld5 x3 1 1) := by
  rw [← rd384 arg2 harg2 x0 1 0, ← rd128 arg7 harg7 x5 1, ← rd5 arg5 harg5 x3 0 1, ← rd5 arg5 harg5 x3 1 1]
  iterate 5 refine (readCov_skip _ _ _ _ _ (by decide)).trans ?_
  refine (readCov_cons_toLoadRect ..).trans ?_
  sl_kernel_rfl

theorem qa_0_2 : (kernelRun0_B.sl.v2019 (F := F) c arg2 harg2 arg5 harg5 arg7 harg7 arg10 x0 x3 x5) = qa0 (ld384 x0 2 0) (ld128 x5 2) (ld5 x3 0 2) (ld5 x3 1 2) := by
  rw [← rd384 arg2 harg2 x0 2 0, ← rd128 arg7 harg7 x5 2, ← rd5 arg5 harg5 x3 0 2, ← rd5 arg5 harg5 x3 1 2]
  iterate 3 refine (readCov_skip _ _ _ _ _ (by decide)).trans ?_
  refine (readCov_cons_toLoadRect ..).trans ?_
  sl_kernel_rfl

theorem qa_0_3 : (kernelRun0_B.sl.v2105 (F := F) c arg2 harg2 arg5 harg5 arg7 harg7 arg10 x0 x3 x5) = qa0 (ld384 x0 3 0) (ld128 x5 3) (ld5 x3 0 3) (ld5 x3 1 3) := by
  rw [← rd384 arg2 harg2 x0 3 0, ← rd128 arg7 harg7 x5 3, ← rd5 arg5 harg5 x3 0 3, ← rd5 arg5 harg5 x3 1 3]
  refine (readCov_skip _ _ _ _ _ (by decide)).trans ?_
  refine (readCov_cons_toLoadRect ..).trans ?_
  sl_kernel_rfl

theorem qa_1_0 : (kernelRun0_B.sl.v1874 (F := F) c arg2 harg2 arg5 harg5 arg7 harg7 arg10 x0 x3 x5) = qa1 (ld384 x0 0 0) (ld128 x5 0) (ld5 x3 0 0) (ld5 x3 1 0) := by
  rw [← rd384 arg2 harg2 x0 0 0, ← rd128 arg7 harg7 x5 0, ← rd5 arg5 harg5 x3 0 0, ← rd5 arg5 harg5 x3 1 0]
  iterate 6 refine (readCov_skip _ _ _ _ _ (by decide)).trans ?_
  refine (readCov_cons_toLoadRect ..).trans ?_
  sl_kernel_rfl

theorem qa_1_1 : (kernelRun0_B.sl.v1962 (F := F) c arg2 harg2 arg5 harg5 arg7 harg7 arg10 x0 x3 x5) = qa1 (ld384 x0 1 0) (ld128 x5 1) (ld5 x3 0 1) (ld5 x3 1 1) := by
  rw [← rd384 arg2 harg2 x0 1 0, ← rd128 arg7 harg7 x5 1, ← rd5 arg5 harg5 x3 0 1, ← rd5 arg5 harg5 x3 1 1]
  iterate 4 refine (readCov_skip _ _ _ _ _ (by decide)).trans ?_
  refine (readCov_cons_toLoadRect ..).trans ?_
  sl_kernel_rfl

theorem qa_1_2 : (kernelRun0_B.sl.v2048 (F := F) c arg2 harg2 arg5 harg5 arg7 harg7 arg10 x0 x3 x5) = qa1 (ld384 x0 2 0) (ld128 x5 2) (ld5 x3 0 2) (ld5 x3 1 2) := by
  rw [← rd384 arg2 harg2 x0 2 0, ← rd128 arg7 harg7 x5 2, ← rd5 arg5 harg5 x3 0 2, ← rd5 arg5 harg5 x3 1 2]
  iterate 2 refine (readCov_skip _ _ _ _ _ (by decide)).trans ?_
  refine (readCov_cons_toLoadRect ..).trans ?_
  sl_kernel_rfl

theorem qa_1_3 : (kernelRun0_B.sl.v2134 (F := F) c arg2 harg2 arg5 harg5 arg7 harg7 arg10 x0 x3 x5) = qa1 (ld384 x0 3 0) (ld128 x5 3) (ld5 x3 0 3) (ld5 x3 1 3) := by
  rw [← rd384 arg2 harg2 x0 3 0, ← rd128 arg7 harg7 x5 3, ← rd5 arg5 harg5 x3 0 3, ← rd5 arg5 harg5 x3 1 3]
  refine (readCov_cons_toLoadRect ..).trans ?_
  sl_kernel_rfl

theorem doa_0_0 : (kernelRun0_B.sl.v1851 (F := F) c arg3 harg3 arg4 harg4 arg11 x1 x2) = doa0 (ld128 x1 0) (ld128 x2 0) := by
  rw [← rd128 arg3 harg3 x1 0, ← rd128 arg4 harg4 x2 0]
  iterate 7 refine (readCov_skip _ _ _ _ _ (by decide)).trans ?_
  refine (readCov_cons_toLoadRect ..).trans ?_
  sl_kernel_rfl

theorem doa_0_1 : (kernelRun0_B.sl.v1939 (F := F) c arg3 harg3 arg4 harg4 arg11 x1 x2) = doa0 (ld128 x1 1) (ld128 x2 1) := by
  rw [← rd128 arg3 harg3 x1 1, ← rd128 arg4 harg4 x2 1]
  iterate 5 refine (readCov_skip _ _ _ _ _ (by decide)).trans ?_
  refine (readCov_cons_toLoadRect ..).trans ?_
  sl_kernel_rfl

theorem doa_0_2 : (kernelRun0_B.sl.v2025 (F := F) c arg3 harg3 arg4 harg4 arg11 x1 x2) = doa0 (ld128 x1 2) (ld128 x2 2) := by
  rw [← rd128 arg3 harg3 x1 2, ← rd128 arg4 harg4 x2 2]
  iterate 3 refine (readCov_skip _ _ _ _ _ (by decide)).trans ?_
  refine (readCov_cons_toLoadRect ..).trans ?_
  sl_kernel_rfl

theorem doa_0_3 : (kernelRun0_B.sl.v2111 (F := F) c arg3 harg3 arg4 harg4 arg11 x1 x2) = doa0 (ld128 x1 3) (ld128 x2 3) := by
  rw [← rd128 arg3 harg3 x1 3, ← rd128 arg4 harg4 x2 3]
  refine (readCov_skip _ _ _ _ _ (by decide)).trans ?_
  refine (readCov_cons_toLoadRect ..).trans ?_
  sl_kernel_rfl

theorem doa_1_0 : (kernelRun0_B.sl.v1882 (F := F) c arg3 harg3 arg4 harg4 arg11 x1 x2) = doa1 (ld128 x1 0) (ld128 x2 0) := by
  rw [← rd128 arg3 harg3 x1 0, ← rd128 arg4 harg4 x2 0]
  iterate 6 refine (readCov_skip _ _ _ _ _ (by decide)).trans ?_
  refine (readCov_cons_toLoadRect ..).trans ?_
  sl_kernel_rfl

theorem doa_1_1 : (kernelRun0_B.sl.v1968 (F := F) c arg3 harg3 arg4 harg4 arg11 x1 x2) = doa1 (ld128 x1 1) (ld128 x2 1) := by
  rw [← rd128 arg3 harg3 x1 1, ← rd128 arg4 harg4 x2 1]
  iterate 4 refine (readCov_skip _ _ _ _ _ (by decide)).trans ?_
  refine (readCov_cons_toLoadRect ..).trans ?_
  sl_kernel_rfl

theorem doa_1_2 : (kernelRun0_B.sl.v2054 (F := F) c arg3 harg3 arg4 harg4 arg11 x1 x2) = doa1 (ld128 x1 2) (ld128 x2 2) := by
  rw [← rd128 arg3 harg3 x1 2, ← rd128 arg4 harg4 x2 2]
  iterate 2 refine (readCov_skip _ _ _ _ _ (by decide)).trans ?_
  refine (readCov_cons_toLoadRect ..).trans ?_
  sl_kernel_rfl

theorem doa_1_3 : (kernelRun0_B.sl.v2140 (F := F) c arg3 harg3 arg4 harg4 arg11 x1 x2) = doa1 (ld128 x1 3) (ld128 x2 3) := by
  rw [← rd128 arg3 harg3 x1 3, ← rd128 arg4 harg4 x2 3]
  refine (readCov_cons_toLoadRect ..).trans ?_
  sl_kernel_rfl

theorem qst_0_0 : (kernelRun0_B.sl.v1865 (F := F) c arg2 harg2 arg12 x0) = qst loS (ld384 x0 0 0) := by
  rw [← rd384 arg2 harg2 x0 0 0]
  iterate 7 refine (readCov_skip _ _ _ _ _ (by decide)).trans ?_
  refine (readCov_cons_toLoadRect ..).trans ?_
  sl_kernel_rfl

theorem qst_0_1 : (kernelRun0_B.sl.v1953 (F := F) c arg2 harg2 arg12 x0) = qst loS (ld384 x0 1 0) := by
  rw [← rd384 arg2 harg2 x0 1 0]
  iterate 5 refine (readCov_skip _ _ _ _ _ (by decide)).trans ?_
  refine (readCov_cons_toLoadRect ..).trans ?_
  sl_kernel_rfl

theorem qst_0_2 : (kernelRun0_B.sl.v2039 (F := F) c arg2 harg2 arg12 x0) = qst loS (ld384 x0 2 0) := by
  rw [← rd384 arg2 harg2 x0 2 0]
  iterate 3 refine (readCov_skip _ _ _ _ _ (by decide)).trans ?_
  refine (readCov_cons_toLoadRect ..).trans ?_
  sl_kernel_rfl

theorem qst_0_3 : (kernelRun0_B.sl.v2125 (F := F) c arg2 harg2 arg12 x0) = qst loS (ld384 x0 3 0) := by
  rw [← rd384 arg2 harg2 x0 3 0]
  refine (readCov_skip _ _ _ _ _ (by decide)).trans ?_
  refine (readCov_cons_toLoadRect ..).trans ?_
  sl_kernel_rfl

theorem qst_1_0 : (kernelRun0_B.sl.v1896 (F := F) c arg2 harg2 arg12 x0) = qst hiS (ld384 x0 0 0) := by
  rw [← rd384 arg2 harg2 x0 0 0]
  iterate 6 refine (readCov_skip _ _ _ _ _ (by decide)).trans ?_
  refine (readCov_cons_toLoadRect ..).trans ?_
  sl_kernel_rfl

theorem qst_1_1 : (kernelRun0_B.sl.v1982 (F := F) c arg2 harg2 arg12 x0) = qst hiS (ld384 x0 1 0) := by
  rw [← rd384 arg2 harg2 x0 1 0]
  iterate 4 refine (readCov_skip _ _ _ _ _ (by decide)).trans ?_
  refine (readCov_cons_toLoadRect ..).trans ?_
  sl_kernel_rfl

theorem qst_1_2 : (kernelRun0_B.sl.v2068 (F := F) c arg2 harg2 arg12 x0) = qst hiS (ld384 x0 2 0) := by
  rw [← rd384 arg2 harg2 x0 2 0]
  iterate 2 refine (readCov_skip _ _ _ _ _ (by decide)).trans ?_
  refine (readCov_cons_toLoadRect ..).trans ?_
  sl_kernel_rfl

theorem qst_1_3 : (kernelRun0_B.sl.v2154 (F := F) c arg2 harg2 arg12 x0) = qst hiS (ld384 x0 3 0) := by
  rw [← rd384 arg2 harg2 x0 3 0]
  refine (readCov_cons_toLoadRect ..).trans ?_
  sl_kernel_rfl

theorem dt_0_0 : (kernelRun0_B.sl.v1869 (F := F) c arg3 harg3 arg13 x1) = dot loS (ld128 x1 0) := by
  rw [← rd128 arg3 harg3 x1 0]
  iterate 7 refine (readCov_skip _ _ _ _ _ (by decide)).trans ?_
  refine (readCov_cons_toLoadRect ..).trans ?_
  sl_kernel_rfl

theorem dt_0_1 : (kernelRun0_B.sl.v1957 (F := F) c arg3 harg3 arg13 x1) = dot loS (ld128 x1 1) := by
  rw [← rd128 arg3 harg3 x1 1]
  iterate 5 refine (readCov_skip _ _ _ _ _ (by decide)).trans ?_
  refine (readCov_cons_toLoadRect ..).trans ?_
  sl_kernel_rfl

theorem dt_0_2 : (kernelRun0_B.sl.v2043 (F := F) c arg3 harg3 arg13 x1) = dot loS (ld128 x1 2) := by
  rw [← rd128 arg3 harg3 x1 2]
  iterate 3 refine (readCov_skip _ _ _ _ _ (by decide)).trans ?_
  refine (readCov_cons_toLoadRect ..).trans ?_
  sl_kernel_rfl

theorem dt_0_3 : (kernelRun0_B.sl.v2129 (F := F) c arg3 harg3 arg13 x1) = dot loS (ld128 x1 3) := by
  rw [← rd128 arg3 harg3 x1 3]
  refine (readCov_skip _ _ _ _ _ (by decide)).trans ?_
  refine (readCov_cons_toLoadRect ..).trans ?_
  sl_kernel_rfl

theorem dt_1_0 : (kernelRun0_B.sl.v1900 (F := F) c arg3 harg3 arg13 x1) = dot hiS (ld128 x1 0) := by
  rw [← rd128 arg3 harg3 x1 0]
  iterate 6 refine (readCov_skip _ _ _ _ _ (by decide)).trans ?_
  refine (readCov_cons_toLoadRect ..).trans ?_
  sl_kernel_rfl

theorem dt_1_1 : (kernelRun0_B.sl.v1986 (F := F) c arg3 harg3 arg13 x1) = dot hiS (ld128 x1 1) := by
  rw [← rd128 arg3 harg3 x1 1]
  iterate 4 refine (readCov_skip _ _ _ _ _ (by decide)).trans ?_
  refine (readCov_cons_toLoadRect ..).trans ?_
  sl_kernel_rfl

theorem dt_1_2 : (kernelRun0_B.sl.v2072 (F := F) c arg3 harg3 arg13 x1) = dot hiS (ld128 x1 2) := by
  rw [← rd128 arg3 harg3 x1 2]
  iterate 2 refine (readCov_skip _ _ _ _ _ (by decide)).trans ?_
  refine (readCov_cons_toLoadRect ..).trans ?_
  sl_kernel_rfl

theorem dt_1_3 : (kernelRun0_B.sl.v2158 (F := F) c arg3 harg3 arg13 x1) = dot hiS (ld128 x1 3) := by
  rw [← rd128 arg3 harg3 x1 3]
  refine (readCov_cons_toLoadRect ..).trans ?_
  sl_kernel_rfl

theorem kt_0_0 : (kernelRun0_B.sl.v1845 (F := F) c arg2 harg2 arg6 harg6 arg14 x0 x4) = kt0 (ld384 x0 0 1) (ld5 x4 0 0) := by
  rw [← rd384 arg2 harg2 x0 0 1, ← rd5 arg6 harg6 x4 0 0]
  iterate 7 refine (readCov_skip _ _ _ _ _ (by decide)).trans ?_
  refine (readCov_cons_toLoadRect ..).trans ?_
  sl_kernel_rfl

theorem kt_0_1 : (kernelRun0_B.sl.v2265 (F := F) c arg2 harg2 arg6 harg6 arg14 x0 x4) = kt0 (ld384 x0 1 1) (ld5 x4 0 1) := by
  rw [← rd384 arg2 harg2 x0 1 1, ← rd5 arg6 harg6 x4 0 1]
  iterate 5 refine (readCov_skip _ _ _ _ _ (by decide)).trans ?_
  refine (readCov_cons_toLoadRect ..).trans ?_
  sl_kernel_rfl

theorem kt_0_2 : (kernelRun0_B.sl.v2599 (F := F) c arg2 harg2 arg6 harg6 arg14 x0 x4) = kt0 (ld384 x0 2 1) (ld5 x4 0 2) := by
  rw [← rd384 arg2 harg2 x0 2 1, ← rd5 arg6 harg6 x4 0 2]
  iterate 3 refine (readCov_skip _ _ _ _ _ (by decide)).trans ?_
  refine (readCov_cons_toLoadRect ..).trans ?_
  sl_kernel_rfl

theorem kt_0_3 : (kernelRun0_B.sl.v2847 (F := F) c arg2 harg2 arg6 harg6 arg14 x0 x4) = kt0 (ld384 x0 3 1) (ld5 x4 0 3) := by
  rw [← rd384 arg2 harg2 x0 3 1, ← rd5 arg6 harg6 x4 0 3]
  refine (readCov_skip _ _ _ _ _ (by decide)).trans ?_
  refine (readCov_cons_toLoadRect ..).trans ?_
  sl_kernel_rfl

theorem kt_1_0 : (kernelRun0_B.sl.v1876 (F := F) c arg2 harg2 arg6 harg6 arg14 x0 x4) = kt1 (ld384 x0 0 1) (ld5 x4 1 0) := by
  rw [← rd384 arg2 harg2 x0 0 1, ← rd5 arg6 harg6 x4 1 0]
  iterate 6 refine (readCov_skip _ _ _ _ _ (by decide)).trans ?_
  refine (readCov_cons_toLoadRect ..).trans ?_
  sl_kernel_rfl

theorem kt_1_1 : (kernelRun0_B.sl.v2296 (F := F) c arg2 harg2 arg6 harg6 arg14 x0 x4) = kt1 (ld384 x0 1 1) (ld5 x4 1 1) := by
  rw [← rd384 arg2 harg2 x0 1 1, ← rd5 arg6 harg6 x4 1 1]
  iterate 4 refine (readCov_skip _ _ _ _ _ (by decide)).trans ?_
  refine (readCov_cons_toLoadRect ..).trans ?_
  sl_kernel_rfl

theorem kt_1_2 : (kernelRun0_B.sl.v2630 (F := F) c arg2 harg2 arg6 harg6 arg14 x0 x4) = kt1 (ld384 x0 2 1) (ld5 x4 1 2) := by
  rw [← rd384 arg2 harg2 x0 2 1, ← rd5 arg6 harg6 x4 1 2]
  iterate 2 refine (readCov_skip _ _ _ _ _ (by decide)).trans ?_
  refine (readCov_cons_toLoadRect ..).trans ?_
  sl_kernel_rfl

theorem kt_1_3 : (kernelRun0_B.sl.v2878 (F := F) c arg2 harg2 arg6 harg6 arg14 x0 x4) = kt1 (ld384 x0 3 1) (ld5 x4 1 3) := by
  rw [← rd384 arg2 harg2 x0 3 1, ← rd5 arg6 harg6 x4 1 3]
  refine (readCov_cons_toLoadRect ..).trans ?_
  sl_kernel_rfl

theorem vt_0_0 : (kernelRun0_B.sl.v1853 (F := F) c arg2 harg2 arg15 x0) = vt0 (ld384 x0 0 2) := by
  rw [← rd384 arg2 harg2 x0 0 2]
  iterate 7 refine (readCov_skip _ _ _ _ _ (by decide)).trans ?_
  refine (readCov_cons_toLoadRect ..).trans ?_
  sl_kernel_rfl

theorem vt_0_1 : (kernelRun0_B.sl.v2273 (F := F) c arg2 harg2 arg15 x0) = vt0 (ld384 x0 1 2) := by
  rw [← rd384 arg2 harg2 x0 1 2]
  iterate 5 refine (readCov_skip _ _ _ _ _ (by decide)).trans ?_
  refine (readCov_cons_toLoadRect ..).trans ?_
  sl_kernel_rfl

theorem vt_0_2 : (kernelRun0_B.sl.v2607 (F := F) c arg2 harg2 arg15 x0) = vt0 (ld384 x0 2 2) := by
  rw [← rd384 arg2 harg2 x0 2 2]
  iterate 3 refine (readCov_skip _ _ _ _ _ (by decide)).trans ?_
  refine (readCov_cons_toLoadRect ..).trans ?_
  sl_kernel_rfl

theorem vt_0_3 : (kernelRun0_B.sl.v2855 (F := F) c arg2 harg2 arg15 x0) = vt0 (ld384 x0 3 2) := by
  rw [← rd384 arg2 harg2 x0 3 2]
  refine (readCov_skip _ _ _ _ _ (by decide)).trans ?_
  refine (readCov_cons_toLoadRect ..).trans ?_
  sl_kernel_rfl

theorem vt_1_0 : (kernelRun0_B.sl.v1884 (F := F) c arg2 harg2 arg15 x0) = vt1 (ld384 x0 0 2) := by
  rw [← rd384 arg2 harg2 x0 0 2]
  iterate 6 refine (readCov_skip _ _ _ _ _ (by decide)).trans ?_
  refine (readCov_cons_toLoadRect ..).trans ?_
  sl_kernel_rfl

theorem vt_1_1 : (kernelRun0_B.sl.v2304 (F := F) c arg2 harg2 arg15 x0) = vt1 (ld384 x0 1 2) := by
  rw [← rd384 arg2 harg2 x0 1 2]
  iterate 4 refine (readCov_skip _ _ _ _ _ (by decide)).trans ?_
  refine (readCov_cons_toLoadRect ..).trans ?_
  sl_kernel_rfl

theorem vt_1_2 : (kernelRun0_B.sl.v2638 (F := F) c arg2 harg2 arg15 x0) = vt1 (ld384 x0 2 2) := by
  rw [← rd384 arg2 harg2 x0 2 2]
  iterate 2 refine (readCov_skip _ _ _ _ _ (by decide)).trans ?_
  refine (readCov_cons_toLoadRect ..).trans ?_
  sl_kernel_rfl

theorem vt_1_3 : (kernelRun0_B.sl.v2886 (F := F) c arg2 harg2 arg15 x0) = vt1 (ld384 x0 3 2) := by
  rw [← rd384 arg2 harg2 x0 3 2]
  refine (readCov_cons_toLoadRect ..).trans ?_
  sl_kernel_rfl

theorem km_0_0 : (kernelRun0_B.sl.r (F := F) c arg2 harg2 x0) = km lo (ld384 x0 0 1) := by
  rw [← rd384 arg2 harg2 x0 0 1]
  sl_kernel_rfl

theorem km_1_0 : (kernelRun0_B.sl.r_1 (F := F) c arg2 harg2 x0) = km hi (ld384 x0 0 1) := by
  rw [← rd384 arg2 harg2 x0 0 1]
  sl_kernel_rfl

theorem km_0_1 : (kernelRun0_B.sl.r_13 (F := F) c arg2 harg2 x0) = km lo (ld384 x0 1 1) := by
  rw [← rd384 arg2 harg2 x0 1 1]
  sl_kernel_rfl

theorem km_1_1 : (kernelRun0_B.sl.r_14 (F := F) c arg2 harg2 x0) = km hi (ld384 x0 1 1) := by
  rw [← rd384 arg2 harg2 x0 1 1]
  sl_kernel_rfl

theorem km_0_2 : (kernelRun0_B.sl.r_46 (F := F) c arg2 harg2 x0) = km lo (ld384 x0 2 1) := by
  rw [← rd384 arg2 harg2 x0 2 1]
  sl_kernel_rfl

theorem km_1_2 : (kernelRun0_B.sl.r_47 (F := F) c arg2 harg2 x0) = km hi (ld384 x0 2 1) := by
  rw [← rd384 arg2 harg2 x0 2 1]
  sl_kernel_rfl

theorem km_0_3 : (kernelRun0_B.sl.r_82 (F := F) c arg2 harg2 x0) = km lo (ld384 x0 3 1) := by
  rw [← rd384 arg2 harg2 x0 3 1]
  sl_kernel_rfl

theorem km_1_3 : (kernelRun0_B.sl.r_83 (F := F) c arg2 harg2 x0) = km hi (ld384 x0 3 1) := by
  rw [← rd384 arg2 harg2 x0 3 1]
  sl_kernel_rfl

/-- The operand tiles as the body reads them back. -/
def T : Tiles F where
  qa := ![![(kernelRun0_B.sl.v1843 (F := F) c arg2 harg2 arg5 harg5 arg7 harg7 arg10 x0 x3 x5), (kernelRun0_B.sl.v1933 (F := F) c arg2 harg2 arg5 harg5 arg7 harg7 arg10 x0 x3 x5), (kernelRun0_B.sl.v2019 (F := F) c arg2 harg2 arg5 harg5 arg7 harg7 arg10 x0 x3 x5), (kernelRun0_B.sl.v2105 (F := F) c arg2 harg2 arg5 harg5 arg7 harg7 arg10 x0 x3 x5)],
    ![(kernelRun0_B.sl.v1874 (F := F) c arg2 harg2 arg5 harg5 arg7 harg7 arg10 x0 x3 x5), (kernelRun0_B.sl.v1962 (F := F) c arg2 harg2 arg5 harg5 arg7 harg7 arg10 x0 x3 x5), (kernelRun0_B.sl.v2048 (F := F) c arg2 harg2 arg5 harg5 arg7 harg7 arg10 x0 x3 x5), (kernelRun0_B.sl.v2134 (F := F) c arg2 harg2 arg5 harg5 arg7 harg7 arg10 x0 x3 x5)]]
  doa := ![![(kernelRun0_B.sl.v1851 (F := F) c arg3 harg3 arg4 harg4 arg11 x1 x2), (kernelRun0_B.sl.v1939 (F := F) c arg3 harg3 arg4 harg4 arg11 x1 x2), (kernelRun0_B.sl.v2025 (F := F) c arg3 harg3 arg4 harg4 arg11 x1 x2), (kernelRun0_B.sl.v2111 (F := F) c arg3 harg3 arg4 harg4 arg11 x1 x2)],
    ![(kernelRun0_B.sl.v1882 (F := F) c arg3 harg3 arg4 harg4 arg11 x1 x2), (kernelRun0_B.sl.v1968 (F := F) c arg3 harg3 arg4 harg4 arg11 x1 x2), (kernelRun0_B.sl.v2054 (F := F) c arg3 harg3 arg4 harg4 arg11 x1 x2), (kernelRun0_B.sl.v2140 (F := F) c arg3 harg3 arg4 harg4 arg11 x1 x2)]]
  qst := ![![(kernelRun0_B.sl.v1865 (F := F) c arg2 harg2 arg12 x0), (kernelRun0_B.sl.v1953 (F := F) c arg2 harg2 arg12 x0), (kernelRun0_B.sl.v2039 (F := F) c arg2 harg2 arg12 x0), (kernelRun0_B.sl.v2125 (F := F) c arg2 harg2 arg12 x0)],
    ![(kernelRun0_B.sl.v1896 (F := F) c arg2 harg2 arg12 x0), (kernelRun0_B.sl.v1982 (F := F) c arg2 harg2 arg12 x0), (kernelRun0_B.sl.v2068 (F := F) c arg2 harg2 arg12 x0), (kernelRun0_B.sl.v2154 (F := F) c arg2 harg2 arg12 x0)]]
  dt := ![![(kernelRun0_B.sl.v1869 (F := F) c arg3 harg3 arg13 x1), (kernelRun0_B.sl.v1957 (F := F) c arg3 harg3 arg13 x1), (kernelRun0_B.sl.v2043 (F := F) c arg3 harg3 arg13 x1), (kernelRun0_B.sl.v2129 (F := F) c arg3 harg3 arg13 x1)],
    ![(kernelRun0_B.sl.v1900 (F := F) c arg3 harg3 arg13 x1), (kernelRun0_B.sl.v1986 (F := F) c arg3 harg3 arg13 x1), (kernelRun0_B.sl.v2072 (F := F) c arg3 harg3 arg13 x1), (kernelRun0_B.sl.v2158 (F := F) c arg3 harg3 arg13 x1)]]
  kt := ![![(kernelRun0_B.sl.v1845 (F := F) c arg2 harg2 arg6 harg6 arg14 x0 x4), (kernelRun0_B.sl.v2265 (F := F) c arg2 harg2 arg6 harg6 arg14 x0 x4), (kernelRun0_B.sl.v2599 (F := F) c arg2 harg2 arg6 harg6 arg14 x0 x4), (kernelRun0_B.sl.v2847 (F := F) c arg2 harg2 arg6 harg6 arg14 x0 x4)],
    ![(kernelRun0_B.sl.v1876 (F := F) c arg2 harg2 arg6 harg6 arg14 x0 x4), (kernelRun0_B.sl.v2296 (F := F) c arg2 harg2 arg6 harg6 arg14 x0 x4), (kernelRun0_B.sl.v2630 (F := F) c arg2 harg2 arg6 harg6 arg14 x0 x4), (kernelRun0_B.sl.v2878 (F := F) c arg2 harg2 arg6 harg6 arg14 x0 x4)]]
  vt := ![![(kernelRun0_B.sl.v1853 (F := F) c arg2 harg2 arg15 x0), (kernelRun0_B.sl.v2273 (F := F) c arg2 harg2 arg15 x0), (kernelRun0_B.sl.v2607 (F := F) c arg2 harg2 arg15 x0), (kernelRun0_B.sl.v2855 (F := F) c arg2 harg2 arg15 x0)],
    ![(kernelRun0_B.sl.v1884 (F := F) c arg2 harg2 arg15 x0), (kernelRun0_B.sl.v2304 (F := F) c arg2 harg2 arg15 x0), (kernelRun0_B.sl.v2638 (F := F) c arg2 harg2 arg15 x0), (kernelRun0_B.sl.v2886 (F := F) c arg2 harg2 arg15 x0)]]
  km := ![![(kernelRun0_B.sl.r (F := F) c arg2 harg2 x0), (kernelRun0_B.sl.r_13 (F := F) c arg2 harg2 x0), (kernelRun0_B.sl.r_46 (F := F) c arg2 harg2 x0), (kernelRun0_B.sl.r_82 (F := F) c arg2 harg2 x0)],
    ![(kernelRun0_B.sl.r_1 (F := F) c arg2 harg2 x0), (kernelRun0_B.sl.r_14 (F := F) c arg2 harg2 x0), (kernelRun0_B.sl.r_47 (F := F) c arg2 harg2 x0), (kernelRun0_B.sl.r_83 (F := F) c arg2 harg2 x0)]]

set_option maxHeartbeats 1000000 in
theorem T_eq : (T (F := F) c arg2 harg2 arg3 harg3 arg4 harg4 arg5 harg5 arg6 harg6 arg7 harg7 arg10 arg11 arg12 arg13 arg14 arg15 x0 x1 x2 x3 x4 x5) = tiles x0 x1 x2 x3 x4 x5 :=
  (Tiles.mk.injEq ..).mpr ⟨
    table_eq (qa_0_0 ..) (qa_0_1 ..) (qa_0_2 ..) (qa_0_3 ..) (qa_1_0 ..) (qa_1_1 ..) (qa_1_2 ..) (qa_1_3 ..),
    table_eq (doa_0_0 ..) (doa_0_1 ..) (doa_0_2 ..) (doa_0_3 ..) (doa_1_0 ..) (doa_1_1 ..) (doa_1_2 ..) (doa_1_3 ..),
    table_eq (qst_0_0 ..) (qst_0_1 ..) (qst_0_2 ..) (qst_0_3 ..) (qst_1_0 ..) (qst_1_1 ..) (qst_1_2 ..) (qst_1_3 ..),
    table_eq (dt_0_0 ..) (dt_0_1 ..) (dt_0_2 ..) (dt_0_3 ..) (dt_1_0 ..) (dt_1_1 ..) (dt_1_2 ..) (dt_1_3 ..),
    table_eq (kt_0_0 ..) (kt_0_1 ..) (kt_0_2 ..) (kt_0_3 ..) (kt_1_0 ..) (kt_1_1 ..) (kt_1_2 ..) (kt_1_3 ..),
    table_eq (vt_0_0 ..) (vt_0_1 ..) (vt_0_2 ..) (vt_0_3 ..) (vt_1_0 ..) (vt_1_1 ..) (vt_1_2 ..) (vt_1_3 ..),
    table_eq (km_0_0 ..) (km_0_1 ..) (km_0_2 ..) (km_0_3 ..) (km_1_0 ..) (km_1_1 ..) (km_1_2 ..) (km_1_3 ..)⟩

include c i arg2 harg2 arg3 harg3 arg4 harg4 arg5 harg5 arg6 harg6 arg7 harg7 arg8 harg8 arg9 harg9 arg10 arg11 arg12 arg13 arg14 arg15 arg16 arg17 x0 x1 x2 x3 x4 x5 xo7

/-! ## The accumulators -/

theorem dqr_0_0 : (kernelRun0_B.sl.v1905 (F := F) c arg16) = z3 := by
  iterate 3 refine (readCov_skip _ _ _ _ _ (by decide)).trans ?_
  refine (readCov_cons_toLoadRect ..).trans ?_
  sl_kernel_rfl

theorem dqw_0_0 : ((kernelRun0_B.sl.v1910 (F := F) c arg2 harg2 arg3 harg3 arg4 harg4 arg5 harg5 arg6 harg6 arg7 harg7 arg10 arg11 arg14 arg15 arg16 x0 x1 x2 x3 x4 x5)) = acc3 (kernelRun0_B.sl.v1905 (F := F) c arg16) ((T (F := F) c arg2 harg2 arg3 harg3 arg4 harg4 arg5 harg5 arg6 harg6 arg7 harg7 arg10 arg11 arg12 arg13 arg14 arg15 x0 x1 x2 x3 x4 x5).dqD 0) := by sl_kernel_rfl

theorem dqr_1_0 : (kernelRun0_B.sl.v1991 (F := F) c arg2 harg2 arg3 harg3 arg4 harg4 arg5 harg5 arg6 harg6 arg7 harg7 arg10 arg11 arg14 arg15 arg16 x0 x1 x2 x3 x4 x5) = z3 := by
  iterate 3 refine (readCov_skip _ _ _ _ _ (by decide)).trans ?_
  refine (readCov_cons_toLoadRect ..).trans ?_
  sl_kernel_rfl

theorem dqw_1_0 : ((kernelRun0_B.sl.v1996 (F := F) c arg2 harg2 arg3 harg3 arg4 harg4 arg5 harg5 arg6 harg6 arg7 harg7 arg10 arg11 arg14 arg15 arg16 x0 x1 x2 x3 x4 x5)) = acc3 (kernelRun0_B.sl.v1991 (F := F) c arg2 harg2 arg3 harg3 arg4 harg4 arg5 harg5 arg6 harg6 arg7 harg7 arg10 arg11 arg14 arg15 arg16 x0 x1 x2 x3 x4 x5) ((T (F := F) c arg2 harg2 arg3 harg3 arg4 harg4 arg5 harg5 arg6 harg6 arg7 harg7 arg10 arg11 arg12 arg13 arg14 arg15 x0 x1 x2 x3 x4 x5).dqO 1 0) := by sl_kernel_rfl

theorem dqr_2_0 : (kernelRun0_B.sl.v2077 (F := F) c arg2 harg2 arg3 harg3 arg4 harg4 arg5 harg5 arg6 harg6 arg7 harg7 arg10 arg11 arg14 arg15 arg16 x0 x1 x2 x3 x4 x5) = z3 := by
  iterate 3 refine (readCov_skip _ _ _ _ _ (by decide)).trans ?_
  refine (readCov_cons_toLoadRect ..).trans ?_
  sl_kernel_rfl

theorem dqw_2_0 : ((kernelRun0_B.sl.v2082 (F := F) c arg2 harg2 arg3 harg3 arg4 harg4 arg5 harg5 arg6 harg6 arg7 harg7 arg10 arg11 arg14 arg15 arg16 x0 x1 x2 x3 x4 x5)) = acc3 (kernelRun0_B.sl.v2077 (F := F) c arg2 harg2 arg3 harg3 arg4 harg4 arg5 harg5 arg6 harg6 arg7 harg7 arg10 arg11 arg14 arg15 arg16 x0 x1 x2 x3 x4 x5) ((T (F := F) c arg2 harg2 arg3 harg3 arg4 harg4 arg5 harg5 arg6 harg6 arg7 harg7 arg10 arg11 arg12 arg13 arg14 arg15 x0 x1 x2 x3 x4 x5).dqO 2 0) := by sl_kernel_rfl

theorem dqr_3_0 : (kernelRun0_B.sl.v2163 (F := F) c arg2 harg2 arg3 harg3 arg4 harg4 arg5 harg5 arg6 harg6 arg7 harg7 arg10 arg11 arg14 arg15 arg16 x0 x1 x2 x3 x4 x5) = z3 := by
  iterate 3 refine (readCov_skip _ _ _ _ _ (by decide)).trans ?_
  refine (readCov_cons_toLoadRect ..).trans ?_
  sl_kernel_rfl

theorem dqw_3_0 : ((kernelRun0_B.sl.v2168 (F := F) c arg2 harg2 arg3 harg3 arg4 harg4 arg5 harg5 arg6 harg6 arg7 harg7 arg10 arg11 arg14 arg15 arg16 x0 x1 x2 x3 x4 x5)) = acc3 (kernelRun0_B.sl.v2163 (F := F) c arg2 harg2 arg3 harg3 arg4 harg4 arg5 harg5 arg6 harg6 arg7 harg7 arg10 arg11 arg14 arg15 arg16 x0 x1 x2 x3 x4 x5) ((T (F := F) c arg2 harg2 arg3 harg3 arg4 harg4 arg5 harg5 arg6 harg6 arg7 harg7 arg10 arg11 arg12 arg13 arg14 arg15 x0 x1 x2 x3 x4 x5).dqO 3 0) := by sl_kernel_rfl

theorem dqr_1_1 : (kernelRun0_B.sl.v2325 (F := F) c arg2 harg2 arg3 harg3 arg4 harg4 arg5 harg5 arg6 harg6 arg7 harg7 arg10 arg11 arg14 arg15 arg16 x0 x1 x2 x3 x4 x5) = ((kernelRun0_B.sl.v1996 (F := F) c arg2 harg2 arg3 harg3 arg4 harg4 arg5 harg5 arg6 harg6 arg7 harg7 arg10 arg11 arg14 arg15 arg16 x0 x1 x2 x3 x4 x5)) := by
  iterate 2 refine (readCov_skip _ _ _ _ _ (by decide)).trans ?_
  exact (readCov_cons_toLoadRect ..)

theorem dqw_1_1 : ((kernelRun0_B.sl.v2330 (F := F) c arg2 harg2 arg3 harg3 arg4 harg4 arg5 harg5 arg6 harg6 arg7 harg7 arg10 arg11 arg14 arg15 arg16 x0 x1 x2 x3 x4 x5)) = acc3 (kernelRun0_B.sl.v2325 (F := F) c arg2 harg2 arg3 harg3 arg4 harg4 arg5 harg5 arg6 harg6 arg7 harg7 arg10 arg11 arg14 arg15 arg16 x0 x1 x2 x3 x4 x5) ((T (F := F) c arg2 harg2 arg3 harg3 arg4 harg4 arg5 harg5 arg6 harg6 arg7 harg7 arg10 arg11 arg12 arg13 arg14 arg15 x0 x1 x2 x3 x4 x5).dqD 1) := by sl_kernel_rfl

theorem dqr_2_1 : (kernelRun0_B.sl.v2411 (F := F) c arg2 harg2 arg3 harg3 arg4 harg4 arg5 harg5 arg6 harg6 arg7 harg7 arg10 arg11 arg14 arg15 arg16 x0 x1 x2 x3 x4 x5) = ((kernelRun0_B.sl.v2082 (F := F) c arg2 harg2 arg3 harg3 arg4 harg4 arg5 harg5 arg6 harg6 arg7 harg7 arg10 arg11 arg14 arg15 arg16 x0 x1 x2 x3 x4 x5)) := by
  iterate 2 refine (readCov_skip _ _ _ _ _ (by decide)).trans ?_
  exact (readCov_cons_toLoadRect ..)

theorem dqw_2_1 : (k0_pay388 (kernelRun0_B.sl.r_31 (F := F) c arg2 harg2 arg3 harg3 arg4 harg4 arg5 harg5 arg6 harg6 arg7 harg7 arg10 arg11 arg14 arg15 x0 x1 x2 x3 x4 x5) (kernelRun0_B.sl.v2411 (F := F) c arg2 harg2 arg3 harg3 arg4 harg4 arg5 harg5 arg6 harg6 arg7 harg7 arg10 arg11 arg14 arg15 arg16 x0 x1 x2 x3 x4 x5)) = acc3 (kernelRun0_B.sl.v2411 (F := F) c arg2 harg2 arg3 harg3 arg4 harg4 arg5 harg5 arg6 harg6 arg7 harg7 arg10 arg11 arg14 arg15 arg16 x0 x1 x2 x3 x4 x5) ((T (F := F) c arg2 harg2 arg3 harg3 arg4 harg4 arg5 harg5 arg6 harg6 arg7 harg7 arg10 arg11 arg12 arg13 arg14 arg15 x0 x1 x2 x3 x4 x5).dqO 2 1) := by sl_kernel_rfl

theorem dqr_3_1 : (kernelRun0_B.sl.v2497 (F := F) c arg2 harg2 arg3 harg3 arg4 harg4 arg5 harg5 arg6 harg6 arg7 harg7 arg10 arg11 arg14 arg15 arg16 x0 x1 x2 x3 x4 x5) = ((kernelRun0_B.sl.v2168 (F := F) c arg2 harg2 arg3 harg3 arg4 harg4 arg5 harg5 arg6 harg6 arg7 harg7 arg10 arg11 arg14 arg15 arg16 x0 x1 x2 x3 x4 x5)) := by
  iterate 2 refine (readCov_skip _ _ _ _ _ (by decide)).trans ?_
  exact (readCov_cons_toLoadRect ..)

theorem dqw_3_1 : (k0_pay407 (kernelRun0_B.sl.r_41 (F := F) c arg2 harg2 arg3 harg3 arg4 harg4 arg5 harg5 arg6 harg6 arg7 harg7 arg10 arg11 arg14 arg15 x0 x1 x2 x3 x4 x5) (kernelRun0_B.sl.v2497 (F := F) c arg2 harg2 arg3 harg3 arg4 harg4 arg5 harg5 arg6 harg6 arg7 harg7 arg10 arg11 arg14 arg15 arg16 x0 x1 x2 x3 x4 x5)) = acc3 (kernelRun0_B.sl.v2497 (F := F) c arg2 harg2 arg3 harg3 arg4 harg4 arg5 harg5 arg6 harg6 arg7 harg7 arg10 arg11 arg14 arg15 arg16 x0 x1 x2 x3 x4 x5) ((T (F := F) c arg2 harg2 arg3 harg3 arg4 harg4 arg5 harg5 arg6 harg6 arg7 harg7 arg10 arg11 arg12 arg13 arg14 arg15 x0 x1 x2 x3 x4 x5).dqO 3 1) := by sl_kernel_rfl

theorem dqr_2_2 : (kernelRun0_B.sl.v2659 (F := F) c arg2 harg2 arg3 harg3 arg4 harg4 arg5 harg5 arg6 harg6 arg7 harg7 arg10 arg11 arg14 arg15 arg16 x0 x1 x2 x3 x4 x5) = (k0_pay388 (kernelRun0_B.sl.r_31 (F := F) c arg2 harg2 arg3 harg3 arg4 harg4 arg5 harg5 arg6 harg6 arg7 harg7 arg10 arg11 arg14 arg15 x0 x1 x2 x3 x4 x5) (kernelRun0_B.sl.v2411 (F := F) c arg2 harg2 arg3 harg3 arg4 harg4 arg5 harg5 arg6 harg6 arg7 harg7 arg10 arg11 arg14 arg15 arg16 x0 x1 x2 x3 x4 x5)) := (readCov_skip _ _ _ _ _ (by decide)).trans <| (readCov_cons_toLoadRect ..)

theorem dqw_2_2 : (k0_pay439 (kernelRun0_B.sl.r_47 (F := F) c arg2 harg2 x0) (kernelRun0_B.sl.r_52 (F := F) c arg2 harg2 arg3 harg3 arg4 harg4 arg5 harg5 arg6 harg6 arg7 harg7 arg10 arg11 arg14 arg15 x0 x1 x2 x3 x4 x5) (kernelRun0_B.sl.r_55 (F := F) c arg2 harg2 arg5 harg5 arg6 harg6 arg7 harg7 arg10 arg14 x0 x3 x4 x5) (kernelRun0_B.sl.r_56 (F := F) c arg3 harg3 arg4 harg4 arg11 x1 x2) (kernelRun0_B.sl.v2638 (F := F) c arg2 harg2 arg15 x0) (kernelRun0_B.sl.v2659 (F := F) c arg2 harg2 arg3 harg3 arg4 harg4 arg5 harg5 arg6 harg6 arg7 harg7 arg10 arg11 arg14 arg15 arg16 x0 x1 x2 x3 x4 x5)) = acc3 (kernelRun0_B.sl.v2659 (F := F) c arg2 harg2 arg3 harg3 arg4 harg4 arg5 harg5 arg6 harg6 arg7 harg7 arg10 arg11 arg14 arg15 arg16 x0 x1 x2 x3 x4 x5) ((T (F := F) c arg2 harg2 arg3 harg3 arg4 harg4 arg5 harg5 arg6 harg6 arg7 harg7 arg10 arg11 arg12 arg13 arg14 arg15 x0 x1 x2 x3 x4 x5).dqD 2) := by sl_kernel_rfl

theorem dqr_3_2 : (kernelRun0_B.sl.v2745 (F := F) c arg2 harg2 arg3 harg3 arg4 harg4 arg5 harg5 arg6 harg6 arg7 harg7 arg10 arg11 arg14 arg15 arg16 x0 x1 x2 x3 x4 x5) = (k0_pay407 (kernelRun0_B.sl.r_41 (F := F) c arg2 harg2 arg3 harg3 arg4 harg4 arg5 harg5 arg6 harg6 arg7 harg7 arg10 arg11 arg14 arg15 x0 x1 x2 x3 x4 x5) (kernelRun0_B.sl.v2497 (F := F) c arg2 harg2 arg3 harg3 arg4 harg4 arg5 harg5 arg6 harg6 arg7 harg7 arg10 arg11 arg14 arg15 arg16 x0 x1 x2 x3 x4 x5)) := (readCov_skip _ _ _ _ _ (by decide)).trans <| (readCov_cons_toLoadRect ..)

theorem dqw_3_2 : (k0_pay460 (kernelRun0_B.sl.r_47 (F := F) c arg2 harg2 x0) (kernelRun0_B.sl.r_67 (F := F) c arg2 harg2 arg3 harg3 arg4 harg4 arg5 harg5 arg6 harg6 arg7 harg7 arg10 arg11 arg14 arg15 x0 x1 x2 x3 x4 x5) (kernelRun0_B.sl.r_71 (F := F) c arg2 harg2 arg3 harg3 arg4 harg4 arg5 harg5 arg6 harg6 arg7 harg7 arg10 arg11 arg14 arg15 x0 x1 x2 x3 x4 x5) (kernelRun0_B.sl.v2745 (F := F) c arg2 harg2 arg3 harg3 arg4 harg4 arg5 harg5 arg6 harg6 arg7 harg7 arg10 arg11 arg14 arg15 arg16 x0 x1 x2 x3 x4 x5)) = acc3 (kernelRun0_B.sl.v2745 (F := F) c arg2 harg2 arg3 harg3 arg4 harg4 arg5 harg5 arg6 harg6 arg7 harg7 arg10 arg11 arg14 arg15 arg16 x0 x1 x2 x3 x4 x5) ((T (F := F) c arg2 harg2 arg3 harg3 arg4 harg4 arg5 harg5 arg6 harg6 arg7 harg7 arg10 arg11 arg12 arg13 arg14 arg15 x0 x1 x2 x3 x4 x5).dqO 3 2) := by sl_kernel_rfl

theorem dqr_3_3 : (kernelRun0_B.sl.v2907 (F := F) c arg2 harg2 arg3 harg3 arg4 harg4 arg5 harg5 arg6 harg6 arg7 harg7 arg10 arg11 arg14 arg15 arg16 x0 x1 x2 x3 x4 x5) = (k0_pay460 (kernelRun0_B.sl.r_47 (F := F) c arg2 harg2 x0) (kernelRun0_B.sl.r_67 (F := F) c arg2 harg2 arg3 harg3 arg4 harg4 arg5 harg5 arg6 harg6 arg7 harg7 arg10 arg11 arg14 arg15 x0 x1 x2 x3 x4 x5) (kernelRun0_B.sl.r_71 (F := F) c arg2 harg2 arg3 harg3 arg4 harg4 arg5 harg5 arg6 harg6 arg7 harg7 arg10 arg11 arg14 arg15 x0 x1 x2 x3 x4 x5) (kernelRun0_B.sl.v2745 (F := F) c arg2 harg2 arg3 harg3 arg4 harg4 arg5 harg5 arg6 harg6 arg7 harg7 arg10 arg11 arg14 arg15 arg16 x0 x1 x2 x3 x4 x5)) := (readCov_cons_toLoadRect ..)

theorem dqw_3_3 : (k0_pay496 (kernelRun0_B.sl.r_91 (F := F) c arg2 harg2 arg3 harg3 arg4 harg4 arg5 harg5 arg6 harg6 arg7 harg7 arg10 arg11 arg14 arg15 x0 x1 x2 x3 x4 x5) (kernelRun0_B.sl.v2907 (F := F) c arg2 harg2 arg3 harg3 arg4 harg4 arg5 harg5 arg6 harg6 arg7 harg7 arg10 arg11 arg14 arg15 arg16 x0 x1 x2 x3 x4 x5)) = acc3 (kernelRun0_B.sl.v2907 (F := F) c arg2 harg2 arg3 harg3 arg4 harg4 arg5 harg5 arg6 harg6 arg7 harg7 arg10 arg11 arg14 arg15 arg16 x0 x1 x2 x3 x4 x5) ((T (F := F) c arg2 harg2 arg3 harg3 arg4 harg4 arg5 harg5 arg6 harg6 arg7 harg7 arg10 arg11 arg12 arg13 arg14 arg15 x0 x1 x2 x3 x4 x5).dqD 3) := by sl_kernel_rfl

theorem dqr_0 : (kernelRun0_B.sl.v2992 (F := F) c arg2 harg2 arg3 harg3 arg4 harg4 arg5 harg5 arg6 harg6 arg7 harg7 arg10 arg11 arg14 arg15 arg16 x0 x1 x2 x3 x4 x5) = ((kernelRun0_B.sl.v1910 (F := F) c arg2 harg2 arg3 harg3 arg4 harg4 arg5 harg5 arg6 harg6 arg7 harg7 arg10 arg11 arg14 arg15 arg16 x0 x1 x2 x3 x4 x5)) := by
  iterate 9 refine (readCov_skip _ _ _ _ _ (by decide)).trans ?_
  exact (readCov_cons_toLoadRect ..)

theorem dq_0 : (kernelRun0_B.sl.v2992 (F := F) c arg2 harg2 arg3 harg3 arg4 harg4 arg5 harg5 arg6 harg6 arg7 harg7 arg10 arg11 arg14 arg15 arg16 x0 x1 x2 x3 x4 x5) = (tiles x0 x1 x2 x3 x4 x5).dq 0 := by
  rw [dqr_0 c i arg2 harg2 arg3 harg3 arg4 harg4 arg5 harg5 arg6 harg6 arg7 harg7 arg8 harg8 arg9 harg9 arg10 arg11 arg12 arg13 arg14 arg15 arg16 arg17 x0 x1 x2 x3 x4 x5 xo7, dqw_0_0 c i arg2 harg2 arg3 harg3 arg4 harg4 arg5 harg5 arg6 harg6 arg7 harg7 arg8 harg8 arg9 harg9 arg10 arg11 arg12 arg13 arg14 arg15 arg16 arg17 x0 x1 x2 x3 x4 x5 xo7, dqr_0_0 c i arg2 harg2 arg3 harg3 arg4 harg4 arg5 harg5 arg6 harg6 arg7 harg7 arg8 harg8 arg9 harg9 arg10 arg11 arg12 arg13 arg14 arg15 arg16 arg17 x0 x1 x2 x3 x4 x5 xo7, T_eq]
  rfl

theorem dqr_1 : (kernelRun0_B.sl.v3028 (F := F) c arg2 harg2 arg3 harg3 arg4 harg4 arg5 harg5 arg6 harg6 arg7 harg7 arg10 arg11 arg14 arg15 arg16 x0 x1 x2 x3 x4 x5) = ((kernelRun0_B.sl.v2330 (F := F) c arg2 harg2 arg3 harg3 arg4 harg4 arg5 harg5 arg6 harg6 arg7 harg7 arg10 arg11 arg14 arg15 arg16 x0 x1 x2 x3 x4 x5)) := by
  iterate 5 refine (readCov_skip _ _ _ _ _ (by decide)).trans ?_
  exact (readCov_cons_toLoadRect ..)

theorem dq_1 : (kernelRun0_B.sl.v3028 (F := F) c arg2 harg2 arg3 harg3 arg4 harg4 arg5 harg5 arg6 harg6 arg7 harg7 arg10 arg11 arg14 arg15 arg16 x0 x1 x2 x3 x4 x5) = (tiles x0 x1 x2 x3 x4 x5).dq 1 := by
  rw [dqr_1 c i arg2 harg2 arg3 harg3 arg4 harg4 arg5 harg5 arg6 harg6 arg7 harg7 arg8 harg8 arg9 harg9 arg10 arg11 arg12 arg13 arg14 arg15 arg16 arg17 x0 x1 x2 x3 x4 x5 xo7, dqw_1_1 c i arg2 harg2 arg3 harg3 arg4 harg4 arg5 harg5 arg6 harg6 arg7 harg7 arg8 harg8 arg9 harg9 arg10 arg11 arg12 arg13 arg14 arg15 arg16 arg17 x0 x1 x2 x3 x4 x5 xo7, dqr_1_1 c i arg2 harg2 arg3 harg3 arg4 harg4 arg5 harg5 arg6 harg6 arg7 harg7 arg8 harg8 arg9 harg9 arg10 arg11 arg12 arg13 arg14 arg15 arg16 arg17 x0 x1 x2 x3 x4 x5 xo7, dqw_1_0 c i arg2 harg2 arg3 harg3 arg4 harg4 arg5 harg5 arg6 harg6 arg7 harg7 arg8 harg8 arg9 harg9 arg10 arg11 arg12 arg13 arg14 arg15 arg16 arg17 x0 x1 x2 x3 x4 x5 xo7, dqr_1_0 c i arg2 harg2 arg3 harg3 arg4 harg4 arg5 harg5 arg6 harg6 arg7 harg7 arg8 harg8 arg9 harg9 arg10 arg11 arg12 arg13 arg14 arg15 arg16 arg17 x0 x1 x2 x3 x4 x5 xo7, T_eq]
  rfl

theorem dqr_2 : (kernelRun0_B.sl.v3064 (F := F) c arg2 harg2 arg3 harg3 arg4 harg4 arg5 harg5 arg6 harg6 arg7 harg7 arg10 arg11 arg14 arg15 arg16 x0 x1 x2 x3 x4 x5) = (k0_pay439 (kernelRun0_B.sl.r_47 (F := F) c arg2 harg2 x0) (kernelRun0_B.sl.r_52 (F := F) c arg2 harg2 arg3 harg3 arg4 harg4 arg5 harg5 arg6 harg6 arg7 harg7 arg10 arg11 arg14 arg15 x0 x1 x2 x3 x4 x5) (kernelRun0_B.sl.r_55 (F := F) c arg2 harg2 arg5 harg5 arg6 harg6 arg7 harg7 arg10 arg14 x0 x3 x4 x5) (kernelRun0_B.sl.r_56 (F := F) c arg3 harg3 arg4 harg4 arg11 x1 x2) (kernelRun0_B.sl.v2638 (F := F) c arg2 harg2 arg15 x0) (kernelRun0_B.sl.v2659 (F := F) c arg2 harg2 arg3 harg3 arg4 harg4 arg5 harg5 arg6 harg6 arg7 harg7 arg10 arg11 arg14 arg15 arg16 x0 x1 x2 x3 x4 x5)) := by
  iterate 2 refine (readCov_skip _ _ _ _ _ (by decide)).trans ?_
  exact (readCov_cons_toLoadRect ..)

theorem dq_2 : (kernelRun0_B.sl.v3064 (F := F) c arg2 harg2 arg3 harg3 arg4 harg4 arg5 harg5 arg6 harg6 arg7 harg7 arg10 arg11 arg14 arg15 arg16 x0 x1 x2 x3 x4 x5) = (tiles x0 x1 x2 x3 x4 x5).dq 2 := by
  rw [dqr_2 c i arg2 harg2 arg3 harg3 arg4 harg4 arg5 harg5 arg6 harg6 arg7 harg7 arg8 harg8 arg9 harg9 arg10 arg11 arg12 arg13 arg14 arg15 arg16 arg17 x0 x1 x2 x3 x4 x5 xo7, dqw_2_2 c i arg2 harg2 arg3 harg3 arg4 harg4 arg5 harg5 arg6 harg6 arg7 harg7 arg8 harg8 arg9 harg9 arg10 arg11 arg12 arg13 arg14 arg15 arg16 arg17 x0 x1 x2 x3 x4 x5 xo7, dqr_2_2 c i arg2 harg2 arg3 harg3 arg4 harg4 arg5 harg5 arg6 harg6 arg7 harg7 arg8 harg8 arg9 harg9 arg10 arg11 arg12 arg13 arg14 arg15 arg16 arg17 x0 x1 x2 x3 x4 x5 xo7, dqw_2_1 c i arg2 harg2 arg3 harg3 arg4 harg4 arg5 harg5 arg6 harg6 arg7 harg7 arg8 harg8 arg9 harg9 arg10 arg11 arg12 arg13 arg14 arg15 arg16 arg17 x0 x1 x2 x3 x4 x5 xo7, dqr_2_1 c i arg2 harg2 arg3 harg3 arg4 harg4 arg5 harg5 arg6 harg6 arg7 harg7 arg8 harg8 arg9 harg9 arg10 arg11 arg12 arg13 arg14 arg15 arg16 arg17 x0 x1 x2 x3 x4 x5 xo7, dqw_2_0 c i arg2 harg2 arg3 harg3 arg4 harg4 arg5 harg5 arg6 harg6 arg7 harg7 arg8 harg8 arg9 harg9 arg10 arg11 arg12 arg13 arg14 arg15 arg16 arg17 x0 x1 x2 x3 x4 x5 xo7, dqr_2_0 c i arg2 harg2 arg3 harg3 arg4 harg4 arg5 harg5 arg6 harg6 arg7 harg7 arg8 harg8 arg9 harg9 arg10 arg11 arg12 arg13 arg14 arg15 arg16 arg17 x0 x1 x2 x3 x4 x5 xo7, T_eq]
  rfl

theorem dqr_3 : (kernelRun0_B.sl.v3100 (F := F) c arg2 harg2 arg3 harg3 arg4 harg4 arg5 harg5 arg6 harg6 arg7 harg7 arg10 arg11 arg14 arg15 arg16 x0 x1 x2 x3 x4 x5) = (k0_pay496 (kernelRun0_B.sl.r_91 (F := F) c arg2 harg2 arg3 harg3 arg4 harg4 arg5 harg5 arg6 harg6 arg7 harg7 arg10 arg11 arg14 arg15 x0 x1 x2 x3 x4 x5) (kernelRun0_B.sl.v2907 (F := F) c arg2 harg2 arg3 harg3 arg4 harg4 arg5 harg5 arg6 harg6 arg7 harg7 arg10 arg11 arg14 arg15 arg16 x0 x1 x2 x3 x4 x5)) := (readCov_cons_toLoadRect ..)

theorem dq_3 : (kernelRun0_B.sl.v3100 (F := F) c arg2 harg2 arg3 harg3 arg4 harg4 arg5 harg5 arg6 harg6 arg7 harg7 arg10 arg11 arg14 arg15 arg16 x0 x1 x2 x3 x4 x5) = (tiles x0 x1 x2 x3 x4 x5).dq 3 := by
  rw [dqr_3 c i arg2 harg2 arg3 harg3 arg4 harg4 arg5 harg5 arg6 harg6 arg7 harg7 arg8 harg8 arg9 harg9 arg10 arg11 arg12 arg13 arg14 arg15 arg16 arg17 x0 x1 x2 x3 x4 x5 xo7, dqw_3_3 c i arg2 harg2 arg3 harg3 arg4 harg4 arg5 harg5 arg6 harg6 arg7 harg7 arg8 harg8 arg9 harg9 arg10 arg11 arg12 arg13 arg14 arg15 arg16 arg17 x0 x1 x2 x3 x4 x5 xo7, dqr_3_3 c i arg2 harg2 arg3 harg3 arg4 harg4 arg5 harg5 arg6 harg6 arg7 harg7 arg8 harg8 arg9 harg9 arg10 arg11 arg12 arg13 arg14 arg15 arg16 arg17 x0 x1 x2 x3 x4 x5 xo7, dqw_3_2 c i arg2 harg2 arg3 harg3 arg4 harg4 arg5 harg5 arg6 harg6 arg7 harg7 arg8 harg8 arg9 harg9 arg10 arg11 arg12 arg13 arg14 arg15 arg16 arg17 x0 x1 x2 x3 x4 x5 xo7, dqr_3_2 c i arg2 harg2 arg3 harg3 arg4 harg4 arg5 harg5 arg6 harg6 arg7 harg7 arg8 harg8 arg9 harg9 arg10 arg11 arg12 arg13 arg14 arg15 arg16 arg17 x0 x1 x2 x3 x4 x5 xo7, dqw_3_1 c i arg2 harg2 arg3 harg3 arg4 harg4 arg5 harg5 arg6 harg6 arg7 harg7 arg8 harg8 arg9 harg9 arg10 arg11 arg12 arg13 arg14 arg15 arg16 arg17 x0 x1 x2 x3 x4 x5 xo7, dqr_3_1 c i arg2 harg2 arg3 harg3 arg4 harg4 arg5 harg5 arg6 harg6 arg7 harg7 arg8 harg8 arg9 harg9 arg10 arg11 arg12 arg13 arg14 arg15 arg16 arg17 x0 x1 x2 x3 x4 x5 xo7, dqw_3_0 c i arg2 harg2 arg3 harg3 arg4 harg4 arg5 harg5 arg6 harg6 arg7 harg7 arg8 harg8 arg9 harg9 arg10 arg11 arg12 arg13 arg14 arg15 arg16 arg17 x0 x1 x2 x3 x4 x5 xo7, dqr_3_0 c i arg2 harg2 arg3 harg3 arg4 harg4 arg5 harg5 arg6 harg6 arg7 harg7 arg8 harg8 arg9 harg9 arg10 arg11 arg12 arg13 arg14 arg15 arg16 arg17 x0 x1 x2 x3 x4 x5 xo7, T_eq]
  rfl

theorem rsr_0_0 : (kernelRun0_B.sl.v1911 (F := F) c arg17) = z3 := by
  iterate 3 refine (readCov_skip _ _ _ _ _ (by decide)).trans ?_
  refine (readCov_cons_toLoadRect ..).trans ?_
  sl_kernel_rfl

theorem rsw_0_0 : ((kernelRun0_B.sl.v1931 (F := F) c arg2 harg2 arg3 harg3 arg4 harg4 arg5 harg5 arg6 harg6 arg7 harg7 arg10 arg11 arg14 arg15 arg17 x0 x1 x2 x3 x4 x5)) = acc3 (kernelRun0_B.sl.v1911 (F := F) c arg17) (rsT ((T (F := F) c arg2 harg2 arg3 harg3 arg4 harg4 arg5 harg5 arg6 harg6 arg7 harg7 arg10 arg11 arg12 arg13 arg14 arg15 x0 x1 x2 x3 x4 x5).GD 0 0) ((T (F := F) c arg2 harg2 arg3 harg3 arg4 harg4 arg5 harg5 arg6 harg6 arg7 harg7 arg10 arg11 arg12 arg13 arg14 arg15 x0 x1 x2 x3 x4 x5).GD 1 0)) := by sl_kernel_rfl

theorem rsr_1_0 : (kernelRun0_B.sl.v1997 (F := F) c arg2 harg2 arg3 harg3 arg4 harg4 arg5 harg5 arg6 harg6 arg7 harg7 arg10 arg11 arg14 arg15 arg17 x0 x1 x2 x3 x4 x5) = z3 := by
  iterate 3 refine (readCov_skip _ _ _ _ _ (by decide)).trans ?_
  refine (readCov_cons_toLoadRect ..).trans ?_
  sl_kernel_rfl

theorem rsw_1_0 : ((kernelRun0_B.sl.v2017 (F := F) c arg2 harg2 arg3 harg3 arg4 harg4 arg5 harg5 arg6 harg6 arg7 harg7 arg10 arg11 arg14 arg15 arg17 x0 x1 x2 x3 x4 x5)) = acc3 (kernelRun0_B.sl.v1997 (F := F) c arg2 harg2 arg3 harg3 arg4 harg4 arg5 harg5 arg6 harg6 arg7 harg7 arg10 arg11 arg14 arg15 arg17 x0 x1 x2 x3 x4 x5) (rsT ((T (F := F) c arg2 harg2 arg3 harg3 arg4 harg4 arg5 harg5 arg6 harg6 arg7 harg7 arg10 arg11 arg12 arg13 arg14 arg15 x0 x1 x2 x3 x4 x5).GO 0 1 0) ((T (F := F) c arg2 harg2 arg3 harg3 arg4 harg4 arg5 harg5 arg6 harg6 arg7 harg7 arg10 arg11 arg12 arg13 arg14 arg15 x0 x1 x2 x3 x4 x5).GO 1 1 0)) := by sl_kernel_rfl

theorem rsr_2_0 : (kernelRun0_B.sl.v2083 (F := F) c arg2 harg2 arg3 harg3 arg4 harg4 arg5 harg5 arg6 harg6 arg7 harg7 arg10 arg11 arg14 arg15 arg17 x0 x1 x2 x3 x4 x5) = z3 := by
  iterate 3 refine (readCov_skip _ _ _ _ _ (by decide)).trans ?_
  refine (readCov_cons_toLoadRect ..).trans ?_
  sl_kernel_rfl

theorem rsw_2_0 : ((kernelRun0_B.sl.v2103 (F := F) c arg2 harg2 arg3 harg3 arg4 harg4 arg5 harg5 arg6 harg6 arg7 harg7 arg10 arg11 arg14 arg15 arg17 x0 x1 x2 x3 x4 x5)) = acc3 (kernelRun0_B.sl.v2083 (F := F) c arg2 harg2 arg3 harg3 arg4 harg4 arg5 harg5 arg6 harg6 arg7 harg7 arg10 arg11 arg14 arg15 arg17 x0 x1 x2 x3 x4 x5) (rsT ((T (F := F) c arg2 harg2 arg3 harg3 arg4 harg4 arg5 harg5 arg6 harg6 arg7 harg7 arg10 arg11 arg12 arg13 arg14 arg15 x0 x1 x2 x3 x4 x5).GO 0 2 0) ((T (F := F) c arg2 harg2 arg3 harg3 arg4 harg4 arg5 harg5 arg6 harg6 arg7 harg7 arg10 arg11 arg12 arg13 arg14 arg15 x0 x1 x2 x3 x4 x5).GO 1 2 0)) := by sl_kernel_rfl

theorem rsr_3_0 : (kernelRun0_B.sl.v2169 (F := F) c arg2 harg2 arg3 harg3 arg4 harg4 arg5 harg5 arg6 harg6 arg7 harg7 arg10 arg11 arg14 arg15 arg17 x0 x1 x2 x3 x4 x5) = z3 := by
  iterate 3 refine (readCov_skip _ _ _ _ _ (by decide)).trans ?_
  refine (readCov_cons_toLoadRect ..).trans ?_
  sl_kernel_rfl

theorem rsw_3_0 : ((kernelRun0_B.sl.v2189 (F := F) c arg2 harg2 arg3 harg3 arg4 harg4 arg5 harg5 arg6 harg6 arg7 harg7 arg10 arg11 arg14 arg15 arg17 x0 x1 x2 x3 x4 x5)) = acc3 (kernelRun0_B.sl.v2169 (F := F) c arg2 harg2 arg3 harg3 arg4 harg4 arg5 harg5 arg6 harg6 arg7 harg7 arg10 arg11 arg14 arg15 arg17 x0 x1 x2 x3 x4 x5) (rsT ((T (F := F) c arg2 harg2 arg3 harg3 arg4 harg4 arg5 harg5 arg6 harg6 arg7 harg7 arg10 arg11 arg12 arg13 arg14 arg15 x0 x1 x2 x3 x4 x5).GO 0 3 0) ((T (F := F) c arg2 harg2 arg3 harg3 arg4 harg4 arg5 harg5 arg6 harg6 arg7 harg7 arg10 arg11 arg12 arg13 arg14 arg15 x0 x1 x2 x3 x4 x5).GO 1 3 0)) := by sl_kernel_rfl

theorem rsr_1_1 : (kernelRun0_B.sl.v2331 (F := F) c arg2 harg2 arg3 harg3 arg4 harg4 arg5 harg5 arg6 harg6 arg7 harg7 arg10 arg11 arg14 arg15 arg17 x0 x1 x2 x3 x4 x5) = ((kernelRun0_B.sl.v2017 (F := F) c arg2 harg2 arg3 harg3 arg4 harg4 arg5 harg5 arg6 harg6 arg7 harg7 arg10 arg11 arg14 arg15 arg17 x0 x1 x2 x3 x4 x5)) := by
  iterate 2 refine (readCov_skip _ _ _ _ _ (by decide)).trans ?_
  exact (readCov_cons_toLoadRect ..)

theorem rsw_1_1 : ((kernelRun0_B.sl.v2351 (F := F) c arg2 harg2 arg3 harg3 arg4 harg4 arg5 harg5 arg6 harg6 arg7 harg7 arg10 arg11 arg14 arg15 arg17 x0 x1 x2 x3 x4 x5)) = acc3 (kernelRun0_B.sl.v2331 (F := F) c arg2 harg2 arg3 harg3 arg4 harg4 arg5 harg5 arg6 harg6 arg7 harg7 arg10 arg11 arg14 arg15 arg17 x0 x1 x2 x3 x4 x5) (rsT ((T (F := F) c arg2 harg2 arg3 harg3 arg4 harg4 arg5 harg5 arg6 harg6 arg7 harg7 arg10 arg11 arg12 arg13 arg14 arg15 x0 x1 x2 x3 x4 x5).GD 0 1) ((T (F := F) c arg2 harg2 arg3 harg3 arg4 harg4 arg5 harg5 arg6 harg6 arg7 harg7 arg10 arg11 arg12 arg13 arg14 arg15 x0 x1 x2 x3 x4 x5).GD 1 1)) := by sl_kernel_rfl

theorem rsr_2_1 : (kernelRun0_B.sl.v2417 (F := F) c arg2 harg2 arg3 harg3 arg4 harg4 arg5 harg5 arg6 harg6 arg7 harg7 arg10 arg11 arg14 arg15 arg17 x0 x1 x2 x3 x4 x5) = ((kernelRun0_B.sl.v2103 (F := F) c arg2 harg2 arg3 harg3 arg4 harg4 arg5 harg5 arg6 harg6 arg7 harg7 arg10 arg11 arg14 arg15 arg17 x0 x1 x2 x3 x4 x5)) := by
  iterate 2 refine (readCov_skip _ _ _ _ _ (by decide)).trans ?_
  exact (readCov_cons_toLoadRect ..)

theorem rsw_2_1 : (k0_pay389 (kernelRun0_B.sl.v0 ) (kernelRun0_B.sl.v2369 (F := F) c arg2 harg2 arg3 harg3 arg4 harg4 arg5 harg5 arg6 harg6 arg7 harg7 arg10 arg11 arg14 arg15 x0 x1 x2 x3 x4 x5) (kernelRun0_B.sl.r_29 (F := F) c arg2 harg2 arg3 harg3 arg4 harg4 arg5 harg5 arg6 harg6 arg7 harg7 arg10 arg11 arg14 arg15 x0 x1 x2 x3 x4 x5) (kernelRun0_B.sl.v2417 (F := F) c arg2 harg2 arg3 harg3 arg4 harg4 arg5 harg5 arg6 harg6 arg7 harg7 arg10 arg11 arg14 arg15 arg17 x0 x1 x2 x3 x4 x5)) = acc3 (kernelRun0_B.sl.v2417 (F := F) c arg2 harg2 arg3 harg3 arg4 harg4 arg5 harg5 arg6 harg6 arg7 harg7 arg10 arg11 arg14 arg15 arg17 x0 x1 x2 x3 x4 x5) (rsT ((T (F := F) c arg2 harg2 arg3 harg3 arg4 harg4 arg5 harg5 arg6 harg6 arg7 harg7 arg10 arg11 arg12 arg13 arg14 arg15 x0 x1 x2 x3 x4 x5).GO 0 2 1) ((T (F := F) c arg2 harg2 arg3 harg3 arg4 harg4 arg5 harg5 arg6 harg6 arg7 harg7 arg10 arg11 arg12 arg13 arg14 arg15 x0 x1 x2 x3 x4 x5).GO 1 2 1)) := by sl_kernel_rfl

theorem rsr_3_1 : (kernelRun0_B.sl.v2503 (F := F) c arg2 harg2 arg3 harg3 arg4 harg4 arg5 harg5 arg6 harg6 arg7 harg7 arg10 arg11 arg14 arg15 arg17 x0 x1 x2 x3 x4 x5) = ((kernelRun0_B.sl.v2189 (F := F) c arg2 harg2 arg3 harg3 arg4 harg4 arg5 harg5 arg6 harg6 arg7 harg7 arg10 arg11 arg14 arg15 arg17 x0 x1 x2 x3 x4 x5)) := by
  iterate 2 refine (readCov_skip _ _ _ _ _ (by decide)).trans ?_
  exact (readCov_cons_toLoadRect ..)

theorem rsw_3_1 : (k0_pay408 (kernelRun0_B.sl.v0 ) (kernelRun0_B.sl.r_35 (F := F) c arg2 harg2 arg3 harg3 arg4 harg4 arg5 harg5 arg6 harg6 arg7 harg7 arg10 arg11 arg14 arg15 x0 x1 x2 x3 x4 x5) (kernelRun0_B.sl.r_40 (F := F) c arg2 harg2 arg3 harg3 arg4 harg4 arg5 harg5 arg6 harg6 arg7 harg7 arg10 arg11 arg14 arg15 x0 x1 x2 x3 x4 x5) (kernelRun0_B.sl.v2503 (F := F) c arg2 harg2 arg3 harg3 arg4 harg4 arg5 harg5 arg6 harg6 arg7 harg7 arg10 arg11 arg14 arg15 arg17 x0 x1 x2 x3 x4 x5)) = acc3 (kernelRun0_B.sl.v2503 (F := F) c arg2 harg2 arg3 harg3 arg4 harg4 arg5 harg5 arg6 harg6 arg7 harg7 arg10 arg11 arg14 arg15 arg17 x0 x1 x2 x3 x4 x5) (rsT ((T (F := F) c arg2 harg2 arg3 harg3 arg4 harg4 arg5 harg5 arg6 harg6 arg7 harg7 arg10 arg11 arg12 arg13 arg14 arg15 x0 x1 x2 x3 x4 x5).GO 0 3 1) ((T (F := F) c arg2 harg2 arg3 harg3 arg4 harg4 arg5 harg5 arg6 harg6 arg7 harg7 arg10 arg11 arg12 arg13 arg14 arg15 x0 x1 x2 x3 x4 x5).GO 1 3 1)) := by sl_kernel_rfl

theorem rsr_2_2 : (kernelRun0_B.sl.v2665 (F := F) c arg2 harg2 arg3 harg3 arg4 harg4 arg5 harg5 arg6 harg6 arg7 harg7 arg10 arg11 arg14 arg15 arg17 x0 x1 x2 x3 x4 x5) = (k0_pay389 (kernelRun0_B.sl.v0 ) (kernelRun0_B.sl.v2369 (F := F) c arg2 harg2 arg3 harg3 arg4 harg4 arg5 harg5 arg6 harg6 arg7 harg7 arg10 arg11 arg14 arg15 x0 x1 x2 x3 x4 x5) (kernelRun0_B.sl.r_29 (F := F) c arg2 harg2 arg3 harg3 arg4 harg4 arg5 harg5 arg6 harg6 arg7 harg7 arg10 arg11 arg14 arg15 x0 x1 x2 x3 x4 x5) (kernelRun0_B.sl.v2417 (F := F) c arg2 harg2 arg3 harg3 arg4 harg4 arg5 harg5 arg6 harg6 arg7 harg7 arg10 arg11 arg14 arg15 arg17 x0 x1 x2 x3 x4 x5)) := (readCov_skip _ _ _ _ _ (by decide)).trans <| (readCov_cons_toLoadRect ..)

theorem rsw_2_2 : (k0_pay442 (kernelRun0_B.sl.v0 ) ((kernelRun0_B.sl.r_51 (F := F) c arg2 harg2 arg3 harg3 arg4 harg4 arg5 harg5 arg6 harg6 arg7 harg7 arg10 arg11 arg14 arg15 x0 x1 x2 x3 x4 x5)) ((kernelRun0_B.sl.r_58 (F := F) c arg2 harg2 arg3 harg3 arg4 harg4 arg5 harg5 arg6 harg6 arg7 harg7 arg10 arg11 arg14 arg15 x0 x1 x2 x3 x4 x5)) ((kernelRun0_B.sl.r_61 (F := F) c arg2 harg2 arg3 harg3 arg4 harg4 arg5 harg5 arg6 harg6 arg7 harg7 arg10 arg11 arg14 arg15 arg17 x0 x1 x2 x3 x4 x5)) (k0_pay441 (kernelRun0_B.sl.v0 )) 1#32) = acc3 (kernelRun0_B.sl.v2665 (F := F) c arg2 harg2 arg3 harg3 arg4 harg4 arg5 harg5 arg6 harg6 arg7 harg7 arg10 arg11 arg14 arg15 arg17 x0 x1 x2 x3 x4 x5) (rsT ((T (F := F) c arg2 harg2 arg3 harg3 arg4 harg4 arg5 harg5 arg6 harg6 arg7 harg7 arg10 arg11 arg12 arg13 arg14 arg15 x0 x1 x2 x3 x4 x5).GD 0 2) ((T (F := F) c arg2 harg2 arg3 harg3 arg4 harg4 arg5 harg5 arg6 harg6 arg7 harg7 arg10 arg11 arg12 arg13 arg14 arg15 x0 x1 x2 x3 x4 x5).GD 1 2)) := by sl_kernel_rfl

theorem rsr_3_2 : (kernelRun0_B.sl.v2751 (F := F) c arg2 harg2 arg3 harg3 arg4 harg4 arg5 harg5 arg6 harg6 arg7 harg7 arg10 arg11 arg14 arg15 arg17 x0 x1 x2 x3 x4 x5) = (k0_pay408 (kernelRun0_B.sl.v0 ) (kernelRun0_B.sl.r_35 (F := F) c arg2 harg2 arg3 harg3 arg4 harg4 arg5 harg5 arg6 harg6 arg7 harg7 arg10 arg11 arg14 arg15 x0 x1 x2 x3 x4 x5) (kernelRun0_B.sl.r_40 (F := F) c arg2 harg2 arg3 harg3 arg4 harg4 arg5 harg5 arg6 harg6 arg7 harg7 arg10 arg11 arg14 arg15 x0 x1 x2 x3 x4 x5) (kernelRun0_B.sl.v2503 (F := F) c arg2 harg2 arg3 harg3 arg4 harg4 arg5 harg5 arg6 harg6 arg7 harg7 arg10 arg11 arg14 arg15 arg17 x0 x1 x2 x3 x4 x5)) := (readCov_skip _ _ _ _ _ (by decide)).trans <| (readCov_cons_toLoadRect ..)

theorem rsw_3_2 : (k0_pay463 (kernelRun0_B.sl.r_76 (F := F) c arg2 harg2 arg3 harg3 arg4 harg4 arg5 harg5 arg6 harg6 arg7 harg7 arg10 arg11 arg14 arg15 arg17 x0 x1 x2 x3 x4 x5) (kernelRun0_B.sl.r_77 (F := F) c arg2 harg2 arg3 harg3 arg4 harg4 arg5 harg5 arg6 harg6 arg7 harg7 arg10 arg11 arg14 arg15 x0 x1 x2 x3 x4 x5)) = acc3 (kernelRun0_B.sl.v2751 (F := F) c arg2 harg2 arg3 harg3 arg4 harg4 arg5 harg5 arg6 harg6 arg7 harg7 arg10 arg11 arg14 arg15 arg17 x0 x1 x2 x3 x4 x5) (rsT ((T (F := F) c arg2 harg2 arg3 harg3 arg4 harg4 arg5 harg5 arg6 harg6 arg7 harg7 arg10 arg11 arg12 arg13 arg14 arg15 x0 x1 x2 x3 x4 x5).GO 0 3 2) ((T (F := F) c arg2 harg2 arg3 harg3 arg4 harg4 arg5 harg5 arg6 harg6 arg7 harg7 arg10 arg11 arg12 arg13 arg14 arg15 x0 x1 x2 x3 x4 x5).GO 1 3 2)) := by sl_kernel_rfl

theorem rsr_3_3 : (kernelRun0_B.sl.v2913 (F := F) c arg2 harg2 arg3 harg3 arg4 harg4 arg5 harg5 arg6 harg6 arg7 harg7 arg10 arg11 arg14 arg15 arg17 x0 x1 x2 x3 x4 x5) = (k0_pay463 (kernelRun0_B.sl.r_76 (F := F) c arg2 harg2 arg3 harg3 arg4 harg4 arg5 harg5 arg6 harg6 arg7 harg7 arg10 arg11 arg14 arg15 arg17 x0 x1 x2 x3 x4 x5) (kernelRun0_B.sl.r_77 (F := F) c arg2 harg2 arg3 harg3 arg4 harg4 arg5 harg5 arg6 harg6 arg7 harg7 arg10 arg11 arg14 arg15 x0 x1 x2 x3 x4 x5)) := (readCov_cons_toLoadRect ..)

theorem rsw_3_3 : (k0_pay497 (kernelRun0_B.sl.v0 ) (kernelRun0_B.sl.r_85 (F := F) c arg2 harg2 arg3 harg3 arg4 harg4 arg5 harg5 arg6 harg6 arg7 harg7 arg10 arg11 arg14 arg15 x0 x1 x2 x3 x4 x5) (kernelRun0_B.sl.r_90 (F := F) c arg2 harg2 arg3 harg3 arg4 harg4 arg5 harg5 arg6 harg6 arg7 harg7 arg10 arg11 arg14 arg15 x0 x1 x2 x3 x4 x5) (kernelRun0_B.sl.v2913 (F := F) c arg2 harg2 arg3 harg3 arg4 harg4 arg5 harg5 arg6 harg6 arg7 harg7 arg10 arg11 arg14 arg15 arg17 x0 x1 x2 x3 x4 x5)) = acc3 (kernelRun0_B.sl.v2913 (F := F) c arg2 harg2 arg3 harg3 arg4 harg4 arg5 harg5 arg6 harg6 arg7 harg7 arg10 arg11 arg14 arg15 arg17 x0 x1 x2 x3 x4 x5) (rsT ((T (F := F) c arg2 harg2 arg3 harg3 arg4 harg4 arg5 harg5 arg6 harg6 arg7 harg7 arg10 arg11 arg12 arg13 arg14 arg15 x0 x1 x2 x3 x4 x5).GD 0 3) ((T (F := F) c arg2 harg2 arg3 harg3 arg4 harg4 arg5 harg5 arg6 harg6 arg7 harg7 arg10 arg11 arg12 arg13 arg14 arg15 x0 x1 x2 x3 x4 x5).GD 1 3)) := by sl_kernel_rfl

theorem rsr_0 : (kernelRun0_B.sl.v2998 (F := F) c arg2 harg2 arg3 harg3 arg4 harg4 arg5 harg5 arg6 harg6 arg7 harg7 arg10 arg11 arg14 arg15 arg17 x0 x1 x2 x3 x4 x5) = ((kernelRun0_B.sl.v1931 (F := F) c arg2 harg2 arg3 harg3 arg4 harg4 arg5 harg5 arg6 harg6 arg7 harg7 arg10 arg11 arg14 arg15 arg17 x0 x1 x2 x3 x4 x5)) := by
  iterate 9 refine (readCov_skip _ _ _ _ _ (by decide)).trans ?_
  exact (readCov_cons_toLoadRect ..)

theorem rs_0 : (kernelRun0_B.sl.v2998 (F := F) c arg2 harg2 arg3 harg3 arg4 harg4 arg5 harg5 arg6 harg6 arg7 harg7 arg10 arg11 arg14 arg15 arg17 x0 x1 x2 x3 x4 x5) = (tiles x0 x1 x2 x3 x4 x5).rs 0 := by
  rw [rsr_0 c i arg2 harg2 arg3 harg3 arg4 harg4 arg5 harg5 arg6 harg6 arg7 harg7 arg8 harg8 arg9 harg9 arg10 arg11 arg12 arg13 arg14 arg15 arg16 arg17 x0 x1 x2 x3 x4 x5 xo7, rsw_0_0 c i arg2 harg2 arg3 harg3 arg4 harg4 arg5 harg5 arg6 harg6 arg7 harg7 arg8 harg8 arg9 harg9 arg10 arg11 arg12 arg13 arg14 arg15 arg16 arg17 x0 x1 x2 x3 x4 x5 xo7, rsr_0_0 c i arg2 harg2 arg3 harg3 arg4 harg4 arg5 harg5 arg6 harg6 arg7 harg7 arg8 harg8 arg9 harg9 arg10 arg11 arg12 arg13 arg14 arg15 arg16 arg17 x0 x1 x2 x3 x4 x5 xo7, T_eq]
  rfl

theorem rsr_1 : (kernelRun0_B.sl.v3034 (F := F) c arg2 harg2 arg3 harg3 arg4 harg4 arg5 harg5 arg6 harg6 arg7 harg7 arg10 arg11 arg14 arg15 arg17 x0 x1 x2 x3 x4 x5) = ((kernelRun0_B.sl.v2351 (F := F) c arg2 harg2 arg3 harg3 arg4 harg4 arg5 harg5 arg6 harg6 arg7 harg7 arg10 arg11 arg14 arg15 arg17 x0 x1 x2 x3 x4 x5)) := by
  iterate 5 refine (readCov_skip _ _ _ _ _ (by decide)).trans ?_
  exact (readCov_cons_toLoadRect ..)

theorem rs_1 : (kernelRun0_B.sl.v3034 (F := F) c arg2 harg2 arg3 harg3 arg4 harg4 arg5 harg5 arg6 harg6 arg7 harg7 arg10 arg11 arg14 arg15 arg17 x0 x1 x2 x3 x4 x5) = (tiles x0 x1 x2 x3 x4 x5).rs 1 := by
  rw [rsr_1 c i arg2 harg2 arg3 harg3 arg4 harg4 arg5 harg5 arg6 harg6 arg7 harg7 arg8 harg8 arg9 harg9 arg10 arg11 arg12 arg13 arg14 arg15 arg16 arg17 x0 x1 x2 x3 x4 x5 xo7, rsw_1_1 c i arg2 harg2 arg3 harg3 arg4 harg4 arg5 harg5 arg6 harg6 arg7 harg7 arg8 harg8 arg9 harg9 arg10 arg11 arg12 arg13 arg14 arg15 arg16 arg17 x0 x1 x2 x3 x4 x5 xo7, rsr_1_1 c i arg2 harg2 arg3 harg3 arg4 harg4 arg5 harg5 arg6 harg6 arg7 harg7 arg8 harg8 arg9 harg9 arg10 arg11 arg12 arg13 arg14 arg15 arg16 arg17 x0 x1 x2 x3 x4 x5 xo7, rsw_1_0 c i arg2 harg2 arg3 harg3 arg4 harg4 arg5 harg5 arg6 harg6 arg7 harg7 arg8 harg8 arg9 harg9 arg10 arg11 arg12 arg13 arg14 arg15 arg16 arg17 x0 x1 x2 x3 x4 x5 xo7, rsr_1_0 c i arg2 harg2 arg3 harg3 arg4 harg4 arg5 harg5 arg6 harg6 arg7 harg7 arg8 harg8 arg9 harg9 arg10 arg11 arg12 arg13 arg14 arg15 arg16 arg17 x0 x1 x2 x3 x4 x5 xo7, T_eq]
  rfl

theorem rsr_2 : (kernelRun0_B.sl.v3070 (F := F) c arg2 harg2 arg3 harg3 arg4 harg4 arg5 harg5 arg6 harg6 arg7 harg7 arg10 arg11 arg14 arg15 arg17 x0 x1 x2 x3 x4 x5) = (k0_pay442 (kernelRun0_B.sl.v0 ) ((kernelRun0_B.sl.r_51 (F := F) c arg2 harg2 arg3 harg3 arg4 harg4 arg5 harg5 arg6 harg6 arg7 harg7 arg10 arg11 arg14 arg15 x0 x1 x2 x3 x4 x5)) ((kernelRun0_B.sl.r_58 (F := F) c arg2 harg2 arg3 harg3 arg4 harg4 arg5 harg5 arg6 harg6 arg7 harg7 arg10 arg11 arg14 arg15 x0 x1 x2 x3 x4 x5)) ((kernelRun0_B.sl.r_61 (F := F) c arg2 harg2 arg3 harg3 arg4 harg4 arg5 harg5 arg6 harg6 arg7 harg7 arg10 arg11 arg14 arg15 arg17 x0 x1 x2 x3 x4 x5)) (k0_pay441 (kernelRun0_B.sl.v0 )) 1#32) := by
  iterate 2 refine (readCov_skip _ _ _ _ _ (by decide)).trans ?_
  exact (readCov_cons_toLoadRect ..)

theorem rs_2 : (kernelRun0_B.sl.v3070 (F := F) c arg2 harg2 arg3 harg3 arg4 harg4 arg5 harg5 arg6 harg6 arg7 harg7 arg10 arg11 arg14 arg15 arg17 x0 x1 x2 x3 x4 x5) = (tiles x0 x1 x2 x3 x4 x5).rs 2 := by
  rw [rsr_2 c i arg2 harg2 arg3 harg3 arg4 harg4 arg5 harg5 arg6 harg6 arg7 harg7 arg8 harg8 arg9 harg9 arg10 arg11 arg12 arg13 arg14 arg15 arg16 arg17 x0 x1 x2 x3 x4 x5 xo7, rsw_2_2 c i arg2 harg2 arg3 harg3 arg4 harg4 arg5 harg5 arg6 harg6 arg7 harg7 arg8 harg8 arg9 harg9 arg10 arg11 arg12 arg13 arg14 arg15 arg16 arg17 x0 x1 x2 x3 x4 x5 xo7, rsr_2_2 c i arg2 harg2 arg3 harg3 arg4 harg4 arg5 harg5 arg6 harg6 arg7 harg7 arg8 harg8 arg9 harg9 arg10 arg11 arg12 arg13 arg14 arg15 arg16 arg17 x0 x1 x2 x3 x4 x5 xo7, rsw_2_1 c i arg2 harg2 arg3 harg3 arg4 harg4 arg5 harg5 arg6 harg6 arg7 harg7 arg8 harg8 arg9 harg9 arg10 arg11 arg12 arg13 arg14 arg15 arg16 arg17 x0 x1 x2 x3 x4 x5 xo7, rsr_2_1 c i arg2 harg2 arg3 harg3 arg4 harg4 arg5 harg5 arg6 harg6 arg7 harg7 arg8 harg8 arg9 harg9 arg10 arg11 arg12 arg13 arg14 arg15 arg16 arg17 x0 x1 x2 x3 x4 x5 xo7, rsw_2_0 c i arg2 harg2 arg3 harg3 arg4 harg4 arg5 harg5 arg6 harg6 arg7 harg7 arg8 harg8 arg9 harg9 arg10 arg11 arg12 arg13 arg14 arg15 arg16 arg17 x0 x1 x2 x3 x4 x5 xo7, rsr_2_0 c i arg2 harg2 arg3 harg3 arg4 harg4 arg5 harg5 arg6 harg6 arg7 harg7 arg8 harg8 arg9 harg9 arg10 arg11 arg12 arg13 arg14 arg15 arg16 arg17 x0 x1 x2 x3 x4 x5 xo7, T_eq]
  rfl

theorem rsr_3 : (kernelRun0_B.sl.v3106 (F := F) c arg2 harg2 arg3 harg3 arg4 harg4 arg5 harg5 arg6 harg6 arg7 harg7 arg10 arg11 arg14 arg15 arg17 x0 x1 x2 x3 x4 x5) = (k0_pay497 (kernelRun0_B.sl.v0 ) (kernelRun0_B.sl.r_85 (F := F) c arg2 harg2 arg3 harg3 arg4 harg4 arg5 harg5 arg6 harg6 arg7 harg7 arg10 arg11 arg14 arg15 x0 x1 x2 x3 x4 x5) (kernelRun0_B.sl.r_90 (F := F) c arg2 harg2 arg3 harg3 arg4 harg4 arg5 harg5 arg6 harg6 arg7 harg7 arg10 arg11 arg14 arg15 x0 x1 x2 x3 x4 x5) (kernelRun0_B.sl.v2913 (F := F) c arg2 harg2 arg3 harg3 arg4 harg4 arg5 harg5 arg6 harg6 arg7 harg7 arg10 arg11 arg14 arg15 arg17 x0 x1 x2 x3 x4 x5)) := (readCov_cons_toLoadRect ..)

theorem rs_3 : (kernelRun0_B.sl.v3106 (F := F) c arg2 harg2 arg3 harg3 arg4 harg4 arg5 harg5 arg6 harg6 arg7 harg7 arg10 arg11 arg14 arg15 arg17 x0 x1 x2 x3 x4 x5) = (tiles x0 x1 x2 x3 x4 x5).rs 3 := by
  rw [rsr_3 c i arg2 harg2 arg3 harg3 arg4 harg4 arg5 harg5 arg6 harg6 arg7 harg7 arg8 harg8 arg9 harg9 arg10 arg11 arg12 arg13 arg14 arg15 arg16 arg17 x0 x1 x2 x3 x4 x5 xo7, rsw_3_3 c i arg2 harg2 arg3 harg3 arg4 harg4 arg5 harg5 arg6 harg6 arg7 harg7 arg8 harg8 arg9 harg9 arg10 arg11 arg12 arg13 arg14 arg15 arg16 arg17 x0 x1 x2 x3 x4 x5 xo7, rsr_3_3 c i arg2 harg2 arg3 harg3 arg4 harg4 arg5 harg5 arg6 harg6 arg7 harg7 arg8 harg8 arg9 harg9 arg10 arg11 arg12 arg13 arg14 arg15 arg16 arg17 x0 x1 x2 x3 x4 x5 xo7, rsw_3_2 c i arg2 harg2 arg3 harg3 arg4 harg4 arg5 harg5 arg6 harg6 arg7 harg7 arg8 harg8 arg9 harg9 arg10 arg11 arg12 arg13 arg14 arg15 arg16 arg17 x0 x1 x2 x3 x4 x5 xo7, rsr_3_2 c i arg2 harg2 arg3 harg3 arg4 harg4 arg5 harg5 arg6 harg6 arg7 harg7 arg8 harg8 arg9 harg9 arg10 arg11 arg12 arg13 arg14 arg15 arg16 arg17 x0 x1 x2 x3 x4 x5 xo7, rsw_3_1 c i arg2 harg2 arg3 harg3 arg4 harg4 arg5 harg5 arg6 harg6 arg7 harg7 arg8 harg8 arg9 harg9 arg10 arg11 arg12 arg13 arg14 arg15 arg16 arg17 x0 x1 x2 x3 x4 x5 xo7, rsr_3_1 c i arg2 harg2 arg3 harg3 arg4 harg4 arg5 harg5 arg6 harg6 arg7 harg7 arg8 harg8 arg9 harg9 arg10 arg11 arg12 arg13 arg14 arg15 arg16 arg17 x0 x1 x2 x3 x4 x5 xo7, rsw_3_0 c i arg2 harg2 arg3 harg3 arg4 harg4 arg5 harg5 arg6 harg6 arg7 harg7 arg8 harg8 arg9 harg9 arg10 arg11 arg12 arg13 arg14 arg15 arg16 arg17 x0 x1 x2 x3 x4 x5 xo7, rsr_3_0 c i arg2 harg2 arg3 harg3 arg4 harg4 arg5 harg5 arg6 harg6 arg7 harg7 arg8 harg8 arg9 harg9 arg10 arg11 arg12 arg13 arg14 arg15 arg16 arg17 x0 x1 x2 x3 x4 x5 xo7, T_eq]
  rfl

/-! ## The results -/

theorem dk_0 : ((kernelRun0_B.sl.v2191 (F := F) c arg2 harg2 arg3 harg3 arg4 harg4 arg5 harg5 arg6 harg6 arg7 harg7 arg10 arg11 arg12 arg14 arg15 x0 x1 x2 x3 x4 x5)) = tOut ((tiles x0 x1 x2 x3 x4 x5).dk 0) := by
  rw [← T_eq c arg2 harg2 arg3 harg3 arg4 harg4 arg5 harg5 arg6 harg6 arg7 harg7 arg10 arg11 arg12 arg13 arg14 arg15 x0 x1 x2 x3 x4 x5]
  sl_kernel_rfl

theorem dk_1 : (k0_pay409 (kernelRun0_B.sl.r_42 (F := F) c arg2 harg2 arg3 harg3 arg4 harg4 arg5 harg5 arg6 harg6 arg7 harg7 arg10 arg11 arg12 arg14 arg15 x0 x1 x2 x3 x4 x5)) = tOut ((tiles x0 x1 x2 x3 x4 x5).dk 1) := by
  rw [← T_eq c arg2 harg2 arg3 harg3 arg4 harg4 arg5 harg5 arg6 harg6 arg7 harg7 arg10 arg11 arg12 arg13 arg14 arg15 x0 x1 x2 x3 x4 x5]
  sl_kernel_rfl

theorem dk_2 : (k0_pay464 (kernelRun0_B.sl.r_74 (F := F) c arg2 harg2 arg3 harg3 arg4 harg4 arg5 harg5 arg6 harg6 arg7 harg7 arg10 arg11 arg12 arg14 arg15 x0 x1 x2 x3 x4 x5)) = tOut ((tiles x0 x1 x2 x3 x4 x5).dk 2) := by
  rw [← T_eq c arg2 harg2 arg3 harg3 arg4 harg4 arg5 harg5 arg6 harg6 arg7 harg7 arg10 arg11 arg12 arg13 arg14 arg15 x0 x1 x2 x3 x4 x5]
  sl_kernel_rfl

theorem dk_3 : (k0_pay498 (kernelRun0_B.sl.r_92 (F := F) c arg2 harg2 arg3 harg3 arg4 harg4 arg5 harg5 arg6 harg6 arg7 harg7 arg10 arg11 arg12 arg14 arg15 x0 x1 x2 x3 x4 x5)) = tOut ((tiles x0 x1 x2 x3 x4 x5).dk 3) := by
  rw [← T_eq c arg2 harg2 arg3 harg3 arg4 harg4 arg5 harg5 arg6 harg6 arg7 harg7 arg10 arg11 arg12 arg13 arg14 arg15 x0 x1 x2 x3 x4 x5]
  sl_kernel_rfl

theorem dv_0 : ((kernelRun0_B.sl.v2194 (F := F) c arg2 harg2 arg3 harg3 arg5 harg5 arg6 harg6 arg7 harg7 arg10 arg13 arg14 x0 x1 x3 x4 x5)) = tOut ((tiles x0 x1 x2 x3 x4 x5).dv 0) := by
  rw [← T_eq c arg2 harg2 arg3 harg3 arg4 harg4 arg5 harg5 arg6 harg6 arg7 harg7 arg10 arg11 arg12 arg13 arg14 arg15 x0 x1 x2 x3 x4 x5]
  sl_kernel_rfl

theorem dv_1 : (k0_pay410 (kernelRun0_B.sl.r_43 (F := F) c arg2 harg2 arg3 harg3 arg5 harg5 arg6 harg6 arg7 harg7 arg10 arg13 arg14 x0 x1 x3 x4 x5)) = tOut ((tiles x0 x1 x2 x3 x4 x5).dv 1) := by
  rw [← T_eq c arg2 harg2 arg3 harg3 arg4 harg4 arg5 harg5 arg6 harg6 arg7 harg7 arg10 arg11 arg12 arg13 arg14 arg15 x0 x1 x2 x3 x4 x5]
  sl_kernel_rfl

theorem dv_2 : (k0_pay465 (kernelRun0_B.sl.r_75 (F := F) c arg2 harg2 arg3 harg3 arg5 harg5 arg6 harg6 arg7 harg7 arg10 arg13 arg14 x0 x1 x3 x4 x5)) = tOut ((tiles x0 x1 x2 x3 x4 x5).dv 2) := by
  rw [← T_eq c arg2 harg2 arg3 harg3 arg4 harg4 arg5 harg5 arg6 harg6 arg7 harg7 arg10 arg11 arg12 arg13 arg14 arg15 x0 x1 x2 x3 x4 x5]
  sl_kernel_rfl

theorem dv_3 : (k0_pay499 (kernelRun0_B.sl.r_88 (F := F) c arg2 harg2 arg3 harg3 arg5 harg5 arg6 harg6 arg7 harg7 arg10 arg13 arg14 x0 x1 x3 x4 x5) (kernelRun0_B.sl.r_93 (F := F) c arg3 harg3 arg13 x1) (kernelRun0_B.sl.r_94 (F := F) c arg2 harg2 arg5 harg5 arg6 harg6 arg7 harg7 arg10 arg14 x0 x3 x4 x5) (kernelRun0_B.sl.cst_740 (F := F))) = tOut ((tiles x0 x1 x2 x3 x4 x5).dv 3) := by
  rw [← T_eq c arg2 harg2 arg3 harg3 arg4 harg4 arg5 harg5 arg6 harg6 arg7 harg7 arg10 arg11 arg12 arg13 arg14 arg15 x0 x1 x2 x3 x4 x5]
  sl_kernel_rfl

theorem dqo_0 : (k0_pay506 (kernelRun0_B.sl.v2992 (F := F) c arg2 harg2 arg3 harg3 arg4 harg4 arg5 harg5 arg6 harg6 arg7 harg7 arg10 arg11 arg14 arg15 arg16 x0 x1 x2 x3 x4 x5)) = dqOut ((tiles x0 x1 x2 x3 x4 x5).dq 0) := by
  rw [← dq_0 c i arg2 harg2 arg3 harg3 arg4 harg4 arg5 harg5 arg6 harg6 arg7 harg7 arg8 harg8 arg9 harg9 arg10 arg11 arg12 arg13 arg14 arg15 arg16 arg17 x0 x1 x2 x3 x4 x5 xo7]
  sl_kernel_rfl

theorem dqo_1 : (k0_pay509 (kernelRun0_B.sl.v3028 (F := F) c arg2 harg2 arg3 harg3 arg4 harg4 arg5 harg5 arg6 harg6 arg7 harg7 arg10 arg11 arg14 arg15 arg16 x0 x1 x2 x3 x4 x5)) = dqOut ((tiles x0 x1 x2 x3 x4 x5).dq 1) := by
  rw [← dq_1 c i arg2 harg2 arg3 harg3 arg4 harg4 arg5 harg5 arg6 harg6 arg7 harg7 arg8 harg8 arg9 harg9 arg10 arg11 arg12 arg13 arg14 arg15 arg16 arg17 x0 x1 x2 x3 x4 x5 xo7]
  sl_kernel_rfl

theorem dqo_2 : (k0_pay512 (kernelRun0_B.sl.v3064 (F := F) c arg2 harg2 arg3 harg3 arg4 harg4 arg5 harg5 arg6 harg6 arg7 harg7 arg10 arg11 arg14 arg15 arg16 x0 x1 x2 x3 x4 x5)) = dqOut ((tiles x0 x1 x2 x3 x4 x5).dq 2) := by
  rw [← dq_2 c i arg2 harg2 arg3 harg3 arg4 harg4 arg5 harg5 arg6 harg6 arg7 harg7 arg8 harg8 arg9 harg9 arg10 arg11 arg12 arg13 arg14 arg15 arg16 arg17 x0 x1 x2 x3 x4 x5 xo7]
  sl_kernel_rfl

theorem dqo_3 : (k0_pay515 (kernelRun0_B.sl.v3100 (F := F) c arg2 harg2 arg3 harg3 arg4 harg4 arg5 harg5 arg6 harg6 arg7 harg7 arg10 arg11 arg14 arg15 arg16 x0 x1 x2 x3 x4 x5)) = dqOut ((tiles x0 x1 x2 x3 x4 x5).dq 3) := by
  rw [← dq_3 c i arg2 harg2 arg3 harg3 arg4 harg4 arg5 harg5 arg6 harg6 arg7 harg7 arg8 harg8 arg9 harg9 arg10 arg11 arg12 arg13 arg14 arg15 arg16 arg17 x0 x1 x2 x3 x4 x5 xo7]
  sl_kernel_rfl

theorem col_0 : ((kernelRun0_B.sl.v2247 (F := F) c i arg2 harg2 arg3 harg3 arg4 harg4 arg5 harg5 arg6 harg6 arg7 harg7 arg9 harg9 arg10 arg11 arg14 arg15 x0 x1 x2 x3 x4 x5 xo7)) = dcCol (BitVec.ofNat 32 (i 1).val) (ld128 xo7 0) ((tiles x0 x1 x2 x3 x4 x5).col 0 0) ((tiles x0 x1 x2 x3 x4 x5).col 1 0) := by
  rw [← rd128 arg9 harg9 xo7 0]
  rw [← T_eq c arg2 harg2 arg3 harg3 arg4 harg4 arg5 harg5 arg6 harg6 arg7 harg7 arg10 arg11 arg12 arg13 arg14 arg15 x0 x1 x2 x3 x4 x5]
  sl_kernel_rfl

theorem col_1 : (k0_pay413 (kernelRun0_B.sl.r_45 (F := F) c i arg2 harg2 arg3 harg3 arg4 harg4 arg5 harg5 arg6 harg6 arg7 harg7 arg9 harg9 arg10 arg11 arg14 arg15 x0 x1 x2 x3 x4 x5 xo7)) = dcCol (BitVec.ofNat 32 (i 1).val) (ld128 xo7 1) ((tiles x0 x1 x2 x3 x4 x5).col 0 1) ((tiles x0 x1 x2 x3 x4 x5).col 1 1) := by
  rw [← rd128 arg9 harg9 xo7 1]
  rw [← T_eq c arg2 harg2 arg3 harg3 arg4 harg4 arg5 harg5 arg6 harg6 arg7 harg7 arg10 arg11 arg12 arg13 arg14 arg15 x0 x1 x2 x3 x4 x5]
  sl_kernel_rfl

theorem col_2 : (k0_pay470 (BitVec.ofNat 32 (i 1).val) (kernelRun0_B.sl.v0 ) (kernelRun0_B.sl.r_78 (F := F) c arg2 harg2 arg3 harg3 arg4 harg4 arg5 harg5 arg6 harg6 arg7 harg7 arg10 arg11 arg14 arg15 x0 x1 x2 x3 x4 x5) (kernelRun0_B.sl.r_79 (F := F) c arg9 harg9 xo7) (kernelRun0_B.sl.r_80 (F := F) c arg2 harg2 arg3 harg3 arg4 harg4 arg5 harg5 arg6 harg6 arg7 harg7 arg10 arg11 arg14 arg15 x0 x1 x2 x3 x4 x5) (kernelRun0_B.sl.cst_29 (F := F)) (kernelRun0_B.sl.r_81 i)) = dcCol (BitVec.ofNat 32 (i 1).val) (ld128 xo7 2) ((tiles x0 x1 x2 x3 x4 x5).col 0 2) ((tiles x0 x1 x2 x3 x4 x5).col 1 2) := by
  rw [← rd128 arg9 harg9 xo7 2]
  rw [← T_eq c arg2 harg2 arg3 harg3 arg4 harg4 arg5 harg5 arg6 harg6 arg7 harg7 arg10 arg11 arg12 arg13 arg14 arg15 x0 x1 x2 x3 x4 x5]
  sl_kernel_rfl

theorem col_3 : (k0_pay505 (kernelRun0_B.sl.r_96 (F := F) c arg9 harg9 xo7) (kernelRun0_B.sl.r_97 (F := F) c i arg2 harg2 arg3 harg3 arg4 harg4 arg5 harg5 arg6 harg6 arg7 harg7 arg10 arg11 arg14 arg15 x0 x1 x2 x3 x4 x5) (kernelRun0_B.sl.r_98 (F := F) c i arg2 harg2 arg3 harg3 arg4 harg4 arg5 harg5 arg6 harg6 arg7 harg7 arg10 arg11 arg14 arg15 x0 x1 x2 x3 x4 x5)) = dcCol (BitVec.ofNat 32 (i 1).val) (ld128 xo7 3) ((tiles x0 x1 x2 x3 x4 x5).col 0 3) ((tiles x0 x1 x2 x3 x4 x5).col 1 3) := by
  rw [← rd128 arg9 harg9 xo7 3]
  rw [← T_eq c arg2 harg2 arg3 harg3 arg4 harg4 arg5 harg5 arg6 harg6 arg7 harg7 arg10 arg11 arg12 arg13 arg14 arg15 x0 x1 x2 x3 x4 x5]
  sl_kernel_rfl

theorem colr_0 : (kernelRun0_B.sl.v3000 (F := F) c i arg2 harg2 arg3 harg3 arg4 harg4 arg5 harg5 arg6 harg6 arg7 harg7 arg9 harg9 arg10 arg11 arg14 arg15 x0 x1 x2 x3 x4 x5 xo7) = ((kernelRun0_B.sl.v2247 (F := F) c i arg2 harg2 arg3 harg3 arg4 harg4 arg5 harg5 arg6 harg6 arg7 harg7 arg9 harg9 arg10 arg11 arg14 arg15 x0 x1 x2 x3 x4 x5 xo7)) := by
  iterate 3 refine (readCov_skip _ _ _ _ _ (by decide)).trans ?_
  exact (readCov_cons_toLoadRect ..)

theorem dc_0 : (k0_pay508 (kernelRun0_B.sl.r_99 (F := F) c i arg2 harg2 arg3 harg3 arg4 harg4 arg5 harg5 arg6 harg6 arg7 harg7 arg9 harg9 arg10 arg11 arg14 arg15 arg17 x0 x1 x2 x3 x4 x5 xo7)) = (tiles x0 x1 x2 x3 x4 x5).dc (BitVec.ofNat 32 (i 1).val) (ld128 xo7) 0 := by
  refine Eq.trans (b := dcRow (BitVec.ofNat 32 (i 1).val) (kernelRun0_B.sl.v3000 (F := F) c i arg2 harg2 arg3 harg3 arg4 harg4 arg5 harg5 arg6 harg6 arg7 harg7 arg9 harg9 arg10 arg11 arg14 arg15 x0 x1 x2 x3 x4 x5 xo7) (kernelRun0_B.sl.v2998 (F := F) c arg2 harg2 arg3 harg3 arg4 harg4 arg5 harg5 arg6 harg6 arg7 harg7 arg10 arg11 arg14 arg15 arg17 x0 x1 x2 x3 x4 x5)) (by sl_kernel_rfl) ?_
  rw [colr_0 c i arg2 harg2 arg3 harg3 arg4 harg4 arg5 harg5 arg6 harg6 arg7 harg7 arg8 harg8 arg9 harg9 arg10 arg11 arg12 arg13 arg14 arg15 arg16 arg17 x0 x1 x2 x3 x4 x5 xo7, col_0 c i arg2 harg2 arg3 harg3 arg4 harg4 arg5 harg5 arg6 harg6 arg7 harg7 arg8 harg8 arg9 harg9 arg10 arg11 arg12 arg13 arg14 arg15 arg16 arg17 x0 x1 x2 x3 x4 x5 xo7, rs_0 c i arg2 harg2 arg3 harg3 arg4 harg4 arg5 harg5 arg6 harg6 arg7 harg7 arg8 harg8 arg9 harg9 arg10 arg11 arg12 arg13 arg14 arg15 arg16 arg17 x0 x1 x2 x3 x4 x5 xo7]
  rfl

theorem colr_1 : (kernelRun0_B.sl.v3036 (F := F) c i arg2 harg2 arg3 harg3 arg4 harg4 arg5 harg5 arg6 harg6 arg7 harg7 arg9 harg9 arg10 arg11 arg14 arg15 arg17 x0 x1 x2 x3 x4 x5 xo7) = (k0_pay413 (kernelRun0_B.sl.r_45 (F := F) c i arg2 harg2 arg3 harg3 arg4 harg4 arg5 harg5 arg6 harg6 arg7 harg7 arg9 harg9 arg10 arg11 arg14 arg15 x0 x1 x2 x3 x4 x5 xo7)) := by
  iterate 3 refine (readCov_skip _ _ _ _ _ (by decide)).trans ?_
  exact (readCov_cons_toLoadRect ..)

theorem dc_1 : (k0_pay511 (kernelRun0_B.sl.r_100 (F := F) c i arg2 harg2 arg3 harg3 arg4 harg4 arg5 harg5 arg6 harg6 arg7 harg7 arg9 harg9 arg10 arg11 arg14 arg15 arg17 x0 x1 x2 x3 x4 x5 xo7)) = (tiles x0 x1 x2 x3 x4 x5).dc (BitVec.ofNat 32 (i 1).val) (ld128 xo7) 1 := by
  refine Eq.trans (b := dcRow (BitVec.ofNat 32 (i 1).val) (kernelRun0_B.sl.v3036 (F := F) c i arg2 harg2 arg3 harg3 arg4 harg4 arg5 harg5 arg6 harg6 arg7 harg7 arg9 harg9 arg10 arg11 arg14 arg15 arg17 x0 x1 x2 x3 x4 x5 xo7) (kernelRun0_B.sl.v3034 (F := F) c arg2 harg2 arg3 harg3 arg4 harg4 arg5 harg5 arg6 harg6 arg7 harg7 arg10 arg11 arg14 arg15 arg17 x0 x1 x2 x3 x4 x5)) (by sl_kernel_rfl) ?_
  rw [colr_1 c i arg2 harg2 arg3 harg3 arg4 harg4 arg5 harg5 arg6 harg6 arg7 harg7 arg8 harg8 arg9 harg9 arg10 arg11 arg12 arg13 arg14 arg15 arg16 arg17 x0 x1 x2 x3 x4 x5 xo7, col_1 c i arg2 harg2 arg3 harg3 arg4 harg4 arg5 harg5 arg6 harg6 arg7 harg7 arg8 harg8 arg9 harg9 arg10 arg11 arg12 arg13 arg14 arg15 arg16 arg17 x0 x1 x2 x3 x4 x5 xo7, rs_1 c i arg2 harg2 arg3 harg3 arg4 harg4 arg5 harg5 arg6 harg6 arg7 harg7 arg8 harg8 arg9 harg9 arg10 arg11 arg12 arg13 arg14 arg15 arg16 arg17 x0 x1 x2 x3 x4 x5 xo7]
  rfl

theorem colr_2 : (kernelRun0_B.sl.v3072 (F := F) c i arg2 harg2 arg3 harg3 arg4 harg4 arg5 harg5 arg6 harg6 arg7 harg7 arg9 harg9 arg10 arg11 arg14 arg15 arg17 x0 x1 x2 x3 x4 x5 xo7) = (k0_pay470 (BitVec.ofNat 32 (i 1).val) (kernelRun0_B.sl.v0 ) (kernelRun0_B.sl.r_78 (F := F) c arg2 harg2 arg3 harg3 arg4 harg4 arg5 harg5 arg6 harg6 arg7 harg7 arg10 arg11 arg14 arg15 x0 x1 x2 x3 x4 x5) (kernelRun0_B.sl.r_79 (F := F) c arg9 harg9 xo7) (kernelRun0_B.sl.r_80 (F := F) c arg2 harg2 arg3 harg3 arg4 harg4 arg5 harg5 arg6 harg6 arg7 harg7 arg10 arg11 arg14 arg15 x0 x1 x2 x3 x4 x5) (kernelRun0_B.sl.cst_29 (F := F)) (kernelRun0_B.sl.r_81 i)) := by
  iterate 3 refine (readCov_skip _ _ _ _ _ (by decide)).trans ?_
  exact (readCov_cons_toLoadRect ..)

theorem dc_2 : (k0_pay514 (kernelRun0_B.sl.r_101 (F := F) c i arg2 harg2 arg3 harg3 arg4 harg4 arg5 harg5 arg6 harg6 arg7 harg7 arg9 harg9 arg10 arg11 arg14 arg15 arg17 x0 x1 x2 x3 x4 x5 xo7)) = (tiles x0 x1 x2 x3 x4 x5).dc (BitVec.ofNat 32 (i 1).val) (ld128 xo7) 2 := by
  refine Eq.trans (b := dcRow (BitVec.ofNat 32 (i 1).val) (kernelRun0_B.sl.v3072 (F := F) c i arg2 harg2 arg3 harg3 arg4 harg4 arg5 harg5 arg6 harg6 arg7 harg7 arg9 harg9 arg10 arg11 arg14 arg15 arg17 x0 x1 x2 x3 x4 x5 xo7) (kernelRun0_B.sl.v3070 (F := F) c arg2 harg2 arg3 harg3 arg4 harg4 arg5 harg5 arg6 harg6 arg7 harg7 arg10 arg11 arg14 arg15 arg17 x0 x1 x2 x3 x4 x5)) (by sl_kernel_rfl) ?_
  rw [colr_2 c i arg2 harg2 arg3 harg3 arg4 harg4 arg5 harg5 arg6 harg6 arg7 harg7 arg8 harg8 arg9 harg9 arg10 arg11 arg12 arg13 arg14 arg15 arg16 arg17 x0 x1 x2 x3 x4 x5 xo7, col_2 c i arg2 harg2 arg3 harg3 arg4 harg4 arg5 harg5 arg6 harg6 arg7 harg7 arg8 harg8 arg9 harg9 arg10 arg11 arg12 arg13 arg14 arg15 arg16 arg17 x0 x1 x2 x3 x4 x5 xo7, rs_2 c i arg2 harg2 arg3 harg3 arg4 harg4 arg5 harg5 arg6 harg6 arg7 harg7 arg8 harg8 arg9 harg9 arg10 arg11 arg12 arg13 arg14 arg15 arg16 arg17 x0 x1 x2 x3 x4 x5 xo7]
  rfl

theorem colr_3 : (kernelRun0_B.sl.v3108 (F := F) c i arg2 harg2 arg3 harg3 arg4 harg4 arg5 harg5 arg6 harg6 arg7 harg7 arg9 harg9 arg10 arg11 arg14 arg15 arg17 x0 x1 x2 x3 x4 x5 xo7) = (k0_pay505 (kernelRun0_B.sl.r_96 (F := F) c arg9 harg9 xo7) (kernelRun0_B.sl.r_97 (F := F) c i arg2 harg2 arg3 harg3 arg4 harg4 arg5 harg5 arg6 harg6 arg7 harg7 arg10 arg11 arg14 arg15 x0 x1 x2 x3 x4 x5) (kernelRun0_B.sl.r_98 (F := F) c i arg2 harg2 arg3 harg3 arg4 harg4 arg5 harg5 arg6 harg6 arg7 harg7 arg10 arg11 arg14 arg15 x0 x1 x2 x3 x4 x5)) := by
  iterate 3 refine (readCov_skip _ _ _ _ _ (by decide)).trans ?_
  exact (readCov_cons_toLoadRect ..)

theorem dc_3 : ((kernelRun0_B.sl.r_102 (F := F) c i arg2 harg2 arg3 harg3 arg4 harg4 arg5 harg5 arg6 harg6 arg7 harg7 arg9 harg9 arg10 arg11 arg14 arg15 arg17 x0 x1 x2 x3 x4 x5 xo7)) = (tiles x0 x1 x2 x3 x4 x5).dc (BitVec.ofNat 32 (i 1).val) (ld128 xo7) 3 := by
  refine Eq.trans (b := dcRow (BitVec.ofNat 32 (i 1).val) (kernelRun0_B.sl.v3108 (F := F) c i arg2 harg2 arg3 harg3 arg4 harg4 arg5 harg5 arg6 harg6 arg7 harg7 arg9 harg9 arg10 arg11 arg14 arg15 arg17 x0 x1 x2 x3 x4 x5 xo7) (kernelRun0_B.sl.v3106 (F := F) c arg2 harg2 arg3 harg3 arg4 harg4 arg5 harg5 arg6 harg6 arg7 harg7 arg10 arg11 arg14 arg15 arg17 x0 x1 x2 x3 x4 x5)) (by sl_kernel_rfl) ?_
  rw [colr_3 c i arg2 harg2 arg3 harg3 arg4 harg4 arg5 harg5 arg6 harg6 arg7 harg7 arg8 harg8 arg9 harg9 arg10 arg11 arg12 arg13 arg14 arg15 arg16 arg17 x0 x1 x2 x3 x4 x5 xo7, col_3 c i arg2 harg2 arg3 harg3 arg4 harg4 arg5 harg5 arg6 harg6 arg7 harg7 arg8 harg8 arg9 harg9 arg10 arg11 arg12 arg13 arg14 arg15 arg16 arg17 x0 x1 x2 x3 x4 x5 xo7, rs_3 c i arg2 harg2 arg3 harg3 arg4 harg4 arg5 harg5 arg6 harg6 arg7 harg7 arg8 harg8 arg9 harg9 arg10 arg11 arg12 arg13 arg14 arg15 arg16 arg17 x0 x1 x2 x3 x4 x5 xo7]
  rfl

/-- The first result's block: four row tiles of the queries', keys' and values' gradients. -/
theorem out6 (hc0 : ¬cond0_0 i) : out0_B_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xo7 = View.canon (Val := Elt F) (s := S2048x384) (e := .bf16)
    [⟨Rect.unit ![1536, 0] S512x128.size inb_S2048x384_S512x128_1536_0, dqOut ((tiles x0 x1 x2 x3 x4 x5).dq 3)⟩,
    ⟨Rect.unit ![1024, 0] S512x128.size inb_S2048x384_S512x128_1024_0, dqOut ((tiles x0 x1 x2 x3 x4 x5).dq 2)⟩,
    ⟨Rect.unit ![512, 0] S512x128.size inb_S2048x384_S512x128_512_0, dqOut ((tiles x0 x1 x2 x3 x4 x5).dq 1)⟩,
    ⟨Rect.unit ![0, 0] S512x128.size inb_S2048x384_S512x128_0_0, dqOut ((tiles x0 x1 x2 x3 x4 x5).dq 0)⟩,
    ⟨Rect.unit ![1536, 256] S512x128.size inb_S2048x384_S512x128_1536_256, tOut ((tiles x0 x1 x2 x3 x4 x5).dv 3)⟩,
    ⟨Rect.unit ![1536, 128] S512x128.size inb_S2048x384_S512x128_1536_128, tOut ((tiles x0 x1 x2 x3 x4 x5).dk 3)⟩,
    ⟨Rect.unit ![1024, 256] S512x128.size inb_S2048x384_S512x128_1024_256, tOut ((tiles x0 x1 x2 x3 x4 x5).dv 2)⟩,
    ⟨Rect.unit ![1024, 128] S512x128.size inb_S2048x384_S512x128_1024_128, tOut ((tiles x0 x1 x2 x3 x4 x5).dk 2)⟩,
    ⟨Rect.unit ![512, 256] S512x128.size inb_S2048x384_S512x128_512_256, tOut ((tiles x0 x1 x2 x3 x4 x5).dv 1)⟩,
    ⟨Rect.unit ![512, 128] S512x128.size inb_S2048x384_S512x128_512_128, tOut ((tiles x0 x1 x2 x3 x4 x5).dk 1)⟩,
    ⟨Rect.unit ![0, 256] S512x128.size inb_S2048x384_S512x128_0_256, tOut ((tiles x0 x1 x2 x3 x4 x5).dv 0)⟩,
    ⟨Rect.unit ![0, 128] S512x128.size inb_S2048x384_S512x128_0_128, tOut ((tiles x0 x1 x2 x3 x4 x5).dk 0)⟩] := by
  refine (View.read_writes_junk_eq_canon _ _).trans (Eq.trans (b := View.canon (Val := Elt F) (s := S2048x384) (e := .bf16)
    [⟨Rect.unit ![1536, 0] S512x128.size inb_S2048x384_S512x128_1536_0, (k0_pay515 (kernelRun0_B.sl.v3100 (F := F) c arg2 harg2 arg3 harg3 arg4 harg4 arg5 harg5 arg6 harg6 arg7 harg7 arg10 arg11 arg14 arg15 arg16 x0 x1 x2 x3 x4 x5))⟩,
    ⟨Rect.unit ![1024, 0] S512x128.size inb_S2048x384_S512x128_1024_0, (k0_pay512 (kernelRun0_B.sl.v3064 (F := F) c arg2 harg2 arg3 harg3 arg4 harg4 arg5 harg5 arg6 harg6 arg7 harg7 arg10 arg11 arg14 arg15 arg16 x0 x1 x2 x3 x4 x5))⟩,
    ⟨Rect.unit ![512, 0] S512x128.size inb_S2048x384_S512x128_512_0, (k0_pay509 (kernelRun0_B.sl.v3028 (F := F) c arg2 harg2 arg3 harg3 arg4 harg4 arg5 harg5 arg6 harg6 arg7 harg7 arg10 arg11 arg14 arg15 arg16 x0 x1 x2 x3 x4 x5))⟩,
    ⟨Rect.unit ![0, 0] S512x128.size inb_S2048x384_S512x128_0_0, (k0_pay506 (kernelRun0_B.sl.v2992 (F := F) c arg2 harg2 arg3 harg3 arg4 harg4 arg5 harg5 arg6 harg6 arg7 harg7 arg10 arg11 arg14 arg15 arg16 x0 x1 x2 x3 x4 x5))⟩,
    ⟨Rect.unit ![1536, 256] S512x128.size inb_S2048x384_S512x128_1536_256, (k0_pay499 (kernelRun0_B.sl.r_88 (F := F) c arg2 harg2 arg3 harg3 arg5 harg5 arg6 harg6 arg7 harg7 arg10 arg13 arg14 x0 x1 x3 x4 x5) (kernelRun0_B.sl.r_93 (F := F) c arg3 harg3 arg13 x1) (kernelRun0_B.sl.r_94 (F := F) c arg2 harg2 arg5 harg5 arg6 harg6 arg7 harg7 arg10 arg14 x0 x3 x4 x5) (kernelRun0_B.sl.cst_740 (F := F)))⟩,
    ⟨Rect.unit ![1536, 128] S512x128.size inb_S2048x384_S512x128_1536_128, (k0_pay498 (kernelRun0_B.sl.r_92 (F := F) c arg2 harg2 arg3 harg3 arg4 harg4 arg5 harg5 arg6 harg6 arg7 harg7 arg10 arg11 arg12 arg14 arg15 x0 x1 x2 x3 x4 x5))⟩,
    ⟨Rect.unit ![1024, 256] S512x128.size inb_S2048x384_S512x128_1024_256, (k0_pay465 (kernelRun0_B.sl.r_75 (F := F) c arg2 harg2 arg3 harg3 arg5 harg5 arg6 harg6 arg7 harg7 arg10 arg13 arg14 x0 x1 x3 x4 x5))⟩,
    ⟨Rect.unit ![1024, 128] S512x128.size inb_S2048x384_S512x128_1024_128, (k0_pay464 (kernelRun0_B.sl.r_74 (F := F) c arg2 harg2 arg3 harg3 arg4 harg4 arg5 harg5 arg6 harg6 arg7 harg7 arg10 arg11 arg12 arg14 arg15 x0 x1 x2 x3 x4 x5))⟩,
    ⟨Rect.unit ![512, 256] S512x128.size inb_S2048x384_S512x128_512_256, (k0_pay410 (kernelRun0_B.sl.r_43 (F := F) c arg2 harg2 arg3 harg3 arg5 harg5 arg6 harg6 arg7 harg7 arg10 arg13 arg14 x0 x1 x3 x4 x5))⟩,
    ⟨Rect.unit ![512, 128] S512x128.size inb_S2048x384_S512x128_512_128, (k0_pay409 (kernelRun0_B.sl.r_42 (F := F) c arg2 harg2 arg3 harg3 arg4 harg4 arg5 harg5 arg6 harg6 arg7 harg7 arg10 arg11 arg12 arg14 arg15 x0 x1 x2 x3 x4 x5))⟩,
    ⟨Rect.unit ![0, 256] S512x128.size inb_S2048x384_S512x128_0_256, ((kernelRun0_B.sl.v2194 (F := F) c arg2 harg2 arg3 harg3 arg5 harg5 arg6 harg6 arg7 harg7 arg10 arg13 arg14 x0 x1 x3 x4 x5))⟩,
    ⟨Rect.unit ![0, 128] S512x128.size inb_S2048x384_S512x128_0_128, ((kernelRun0_B.sl.v2191 (F := F) c arg2 harg2 arg3 harg3 arg4 harg4 arg5 harg5 arg6 harg6 arg7 harg7 arg10 arg11 arg12 arg14 arg15 x0 x1 x2 x3 x4 x5))⟩]) (by sl_kernel_rfl) ?_)
  rw [dqo_0 c i arg2 harg2 arg3 harg3 arg4 harg4 arg5 harg5 arg6 harg6 arg7 harg7 arg8 harg8 arg9 harg9 arg10 arg11 arg12 arg13 arg14 arg15 arg16 arg17 x0 x1 x2 x3 x4 x5 xo7, dqo_1 c i arg2 harg2 arg3 harg3 arg4 harg4 arg5 harg5 arg6 harg6 arg7 harg7 arg8 harg8 arg9 harg9 arg10 arg11 arg12 arg13 arg14 arg15 arg16 arg17 x0 x1 x2 x3 x4 x5 xo7, dqo_2 c i arg2 harg2 arg3 harg3 arg4 harg4 arg5 harg5 arg6 harg6 arg7 harg7 arg8 harg8 arg9 harg9 arg10 arg11 arg12 arg13 arg14 arg15 arg16 arg17 x0 x1 x2 x3 x4 x5 xo7, dqo_3 c i arg2 harg2 arg3 harg3 arg4 harg4 arg5 harg5 arg6 harg6 arg7 harg7 arg8 harg8 arg9 harg9 arg10 arg11 arg12 arg13 arg14 arg15 arg16 arg17 x0 x1 x2 x3 x4 x5 xo7, dk_0 c i arg2 harg2 arg3 harg3 arg4 harg4 arg5 harg5 arg6 harg6 arg7 harg7 arg8 harg8 arg9 harg9 arg10 arg11 arg12 arg13 arg14 arg15 arg16 arg17 x0 x1 x2 x3 x4 x5 xo7, dk_1 c i arg2 harg2 arg3 harg3 arg4 harg4 arg5 harg5 arg6 harg6 arg7 harg7 arg8 harg8 arg9 harg9 arg10 arg11 arg12 arg13 arg14 arg15 arg16 arg17 x0 x1 x2 x3 x4 x5 xo7, dk_2 c i arg2 harg2 arg3 harg3 arg4 harg4 arg5 harg5 arg6 harg6 arg7 harg7 arg8 harg8 arg9 harg9 arg10 arg11 arg12 arg13 arg14 arg15 arg16 arg17 x0 x1 x2 x3 x4 x5 xo7, dk_3 c i arg2 harg2 arg3 harg3 arg4 harg4 arg5 harg5 arg6 harg6 arg7 harg7 arg8 harg8 arg9 harg9 arg10 arg11 arg12 arg13 arg14 arg15 arg16 arg17 x0 x1 x2 x3 x4 x5 xo7, dv_0 c i arg2 harg2 arg3 harg3 arg4 harg4 arg5 harg5 arg6 harg6 arg7 harg7 arg8 harg8 arg9 harg9 arg10 arg11 arg12 arg13 arg14 arg15 arg16 arg17 x0 x1 x2 x3 x4 x5 xo7, dv_1 c i arg2 harg2 arg3 harg3 arg4 harg4 arg5 harg5 arg6 harg6 arg7 harg7 arg8 harg8 arg9 harg9 arg10 arg11 arg12 arg13 arg14 arg15 arg16 arg17 x0 x1 x2 x3 x4 x5 xo7, dv_2 c i arg2 harg2 arg3 harg3 arg4 harg4 arg5 harg5 arg6 harg6 arg7 harg7 arg8 harg8 arg9 harg9 arg10 arg11 arg12 arg13 arg14 arg15 arg16 arg17 x0 x1 x2 x3 x4 x5 xo7, dv_3 c i arg2 harg2 arg3 harg3 arg4 harg4 arg5 harg5 arg6 harg6 arg7 harg7 arg8 harg8 arg9 harg9 arg10 arg11 arg12 arg13 arg14 arg15 arg16 arg17 x0 x1 x2 x3 x4 x5 xo7]

/-- The second result's block: four row tiles of the decay's gradient, over what was stored before. -/
theorem out7 (hc0 : ¬cond0_0 i) : ∃ L, out0_B_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xo7 = View.canon (Val := Elt F) (s := S1x2048x128) (e := .f32)
    (⟨Rect.unit ![0, 1536, 0] S1x512x128.size inb_S1x2048x128_S1x512x128_0_1536_0, (tiles x0 x1 x2 x3 x4 x5).dc (BitVec.ofNat 32 (i 1).val) (ld128 xo7) 3⟩ ::
    ⟨Rect.unit ![0, 1024, 0] S1x512x128.size inb_S1x2048x128_S1x512x128_0_1024_0, (tiles x0 x1 x2 x3 x4 x5).dc (BitVec.ofNat 32 (i 1).val) (ld128 xo7) 2⟩ ::
    ⟨Rect.unit ![0, 512, 0] S1x512x128.size inb_S1x2048x128_S1x512x128_0_512_0, (tiles x0 x1 x2 x3 x4 x5).dc (BitVec.ofNat 32 (i 1).val) (ld128 xo7) 1⟩ ::
    ⟨Rect.unit ![0, 0, 0] S1x512x128.size inb_S1x2048x128_S1x512x128_0_0_0, (tiles x0 x1 x2 x3 x4 x5).dc (BitVec.ofNat 32 (i 1).val) (ld128 xo7) 0⟩ :: L) := by
  refine ⟨(kernelRun0_B.sl.H7_4 (F := F) c i arg2 harg2 arg3 harg3 arg4 harg4 arg5 harg5 arg6 harg6 arg7 harg7 arg9 harg9 arg10 arg11 arg14 arg15 x0 x1 x2 x3 x4 x5 xo7), (View.read_writes_junk_eq_canon _ _).trans (Eq.trans (b := View.canon (Val := Elt F) (s := S1x2048x128) (e := .f32)
    (⟨Rect.unit ![0, 1536, 0] S1x512x128.size inb_S1x2048x128_S1x512x128_0_1536_0, ((kernelRun0_B.sl.r_102 (F := F) c i arg2 harg2 arg3 harg3 arg4 harg4 arg5 harg5 arg6 harg6 arg7 harg7 arg9 harg9 arg10 arg11 arg14 arg15 arg17 x0 x1 x2 x3 x4 x5 xo7))⟩ ::
    ⟨Rect.unit ![0, 1024, 0] S1x512x128.size inb_S1x2048x128_S1x512x128_0_1024_0, (k0_pay514 (kernelRun0_B.sl.r_101 (F := F) c i arg2 harg2 arg3 harg3 arg4 harg4 arg5 harg5 arg6 harg6 arg7 harg7 arg9 harg9 arg10 arg11 arg14 arg15 arg17 x0 x1 x2 x3 x4 x5 xo7))⟩ ::
    ⟨Rect.unit ![0, 512, 0] S1x512x128.size inb_S1x2048x128_S1x512x128_0_512_0, (k0_pay511 (kernelRun0_B.sl.r_100 (F := F) c i arg2 harg2 arg3 harg3 arg4 harg4 arg5 harg5 arg6 harg6 arg7 harg7 arg9 harg9 arg10 arg11 arg14 arg15 arg17 x0 x1 x2 x3 x4 x5 xo7))⟩ ::
    ⟨Rect.unit ![0, 0, 0] S1x512x128.size inb_S1x2048x128_S1x512x128_0_0_0, (k0_pay508 (kernelRun0_B.sl.r_99 (F := F) c i arg2 harg2 arg3 harg3 arg4 harg4 arg5 harg5 arg6 harg6 arg7 harg7 arg9 harg9 arg10 arg11 arg14 arg15 arg17 x0 x1 x2 x3 x4 x5 xo7))⟩ :: (kernelRun0_B.sl.H7_4 (F := F) c i arg2 harg2 arg3 harg3 arg4 harg4 arg5 harg5 arg6 harg6 arg7 harg7 arg9 harg9 arg10 arg11 arg14 arg15 x0 x1 x2 x3 x4 x5 xo7))) (by sl_kernel_rfl) ?_)⟩
  rw [dc_0 c i arg2 harg2 arg3 harg3 arg4 harg4 arg5 harg5 arg6 harg6 arg7 harg7 arg8 harg8 arg9 harg9 arg10 arg11 arg12 arg13 arg14 arg15 arg16 arg17 x0 x1 x2 x3 x4 x5 xo7, dc_1 c i arg2 harg2 arg3 harg3 arg4 harg4 arg5 harg5 arg6 harg6 arg7 harg7 arg8 harg8 arg9 harg9 arg10 arg11 arg12 arg13 arg14 arg15 arg16 arg17 x0 x1 x2 x3 x4 x5 xo7, dc_2 c i arg2 harg2 arg3 harg3 arg4 harg4 arg5 harg5 arg6 harg6 arg7 harg7 arg8 harg8 arg9 harg9 arg10 arg11 arg12 arg13 arg14 arg15 arg16 arg17 x0 x1 x2 x3 x4 x5 xo7, dc_3 c i arg2 harg2 arg3 harg3 arg4 harg4 arg5 harg5 arg6 harg6 arg7 harg7 arg8 harg8 arg9 harg9 arg10 arg11 arg12 arg13 arg14 arg15 arg16 arg17 x0 x1 x2 x3 x4 x5 xo7]

end Cert.AttnBwd.RunB

end
-- ==== Proof.Attn.Grid.lean ====
/- The two result arrays after the run: the gradients of queries, keys and values a head pair's lanes together, and the decay's
   gradient, which eight grid points add up. -/
module

public import proofs.«01_k».proof.Proof.Attn.Point
public import proofs.«01_k».proof.Proof.Attn.RunA
public import proofs.«01_k».proof.Proof.Attn.RunB

@[expose] public section

noncomputable section

namespace Cert.AttnBwd

open Idealize.ShloMosaic Idealize.ShloMosaic.TcCoe Idealize.SL.Sem Cert.KernelIdeal Cert.KernelIdeal.Gen

theorem zero7_at (i : S1x2048x128.Idx) : RunA.zero7 (F := Ideal) i = ((0 : ℝ) : EReal) := by
  have h : (Ideal.ofBits .f32 0x00000000#32 : EReal) = ((0 : ℝ) : EReal) := by simp [Ideal.ofBits, Ideal.ieee]
  exact h

variable (m : (ℓ : Loc nD τ sig) → Buf (Elt Ideal) ℓ) (c : Dev nD)
variable {A : Args} (H : A.Of (aq m c) (ak m c) (av m c) (ac m c) (ao m c))
include H

/-- A point's first result. -/
theorem left6 (t : Fin cfg0.N) (w : Fin 3) (x : Fin 2048) (l : Fin 128) :
    (outsAt0 m c t.val t.isLt).1 (ix2 x ⟨128 * w.val + l.val, by omega⟩)
      = ((A.d3 (bt t) w (head (pr t) (hd l)) x (ln l) : ℝ) : EReal) := by
  rw [← Args.pair_out]
  have h6 := canon6 (holds m c t H) w x l
  by_cases h0 : t.val % 8 = 0
  · have h := RunA.out6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (iblk m c 5 t) ((hcond0_0 t).mpr h0)
    rw [outsAt0_A m c t h0]
    dsimp only
    rw [h]
    exact h6
  · have h := RunB.out6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2 (fun h => h0 ((hcond0_0 t).mp h))
    rw [outsAt0_B m c t h0]
    dsimp only
    rw [h]
    exact h6

/-- A point's second result, over what the point before left. -/
theorem step7 (t : Fin cfg0.N) (x : Fin 2048) (l : Fin 128)
    (hp : ¬ t.val % 8 = 0 → ∀ x l, (outsAt0 m c (t.val - 1) (Nat.lt_of_le_of_lt (Nat.sub_le _ _) t.isLt)).2 (ix3 0 x l)
      = ((A.dcUpto (bt t) (pr t).val x l : ℝ) : EReal)) :
    (outsAt0 m c t.val t.isLt).2 (ix3 0 x l) = ((A.dcUpto (bt t) ((pr t).val + 1) x l : ℝ) : EReal) := by
  have hi : ((grid0.coords t) 1).val = (pr t).val := second t
  by_cases h0 : t.val % 8 = 0
  · obtain ⟨L, hL⟩ := RunA.out7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (iblk m c 5 t) ((hcond0_0 t).mpr h0)
    rw [outsAt0_A m c t h0]
    dsimp only
    rw [hL, hi]
    refine (canon7 (holds m c t H) (pr t) (RunA.zero7 (F := Ideal)) (fun _ _ => 0) (fun _ _ => zero7_at _) L x l).trans ?_
    rw [← Args.dcUpto_succ, show (pr t).val = 0 from h0, Args.dcUpto_zero]
  · obtain ⟨L, hL⟩ := RunB.out7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2 (fun h => h0 ((hcond0_0 t).mp h))
    rw [outsAt0_B m c t h0]
    dsimp only
    rw [hL, hi]
    refine (canon7 (holds m c t H) (pr t) _ _ (hp h0) L x l).trans ?_
    rw [Args.dcUpto_succ]

theorem left7 : ∀ (n : ℕ) (hn : n < cfg0.N) (x : Fin 2048) (l : Fin 128),
    (outsAt0 m c n hn).2 (ix3 0 x l) = ((A.dcUpto (bt ⟨n, hn⟩) ((pr ⟨n, hn⟩).val + 1) x l : ℝ) : EReal) := by
  intro n
  induction n with
  | zero => exact fun hn x l => step7 m c H ⟨0, hn⟩ x l fun h => absurd rfl h
  | succ n ih =>
    intro hn x l
    refine step7 m c H ⟨n + 1, hn⟩ x l fun h x l => ?_
    have h : ¬ (n + 1) % 8 = 0 := h
    have e1 : bt ⟨n, Nat.lt_of_succ_lt hn⟩ = bt ⟨n + 1, hn⟩ := Fin.ext (show n / 8 = (n + 1) / 8 by omega)
    have e2 : (pr ⟨n, Nat.lt_of_succ_lt hn⟩).val + 1 = (pr ⟨n + 1, hn⟩).val := show n % 8 + 1 = (n + 1) % 8 by omega
    rw [← e1, ← e2]
    exact ih _ x l

/-- The first result. -/
def res6 (A : Args) (i : S8192x3072.Idx) : ℝ :=
  A.d3 ⟨(i 0).val / 2048, by have : (i 0).val < 8192 := (i 0).2; omega⟩
    ⟨(i 1).val % 384 / 128, by omega⟩
    (head ⟨(i 1).val / 384, by have : (i 1).val < 3072 := (i 1).2; omega⟩ (hd ⟨(i 1).val % 128, by omega⟩))
    ⟨(i 0).val % 2048, by omega⟩ (ln ⟨(i 1).val % 128, by omega⟩)
/-- The second. -/
def res7 (A : Args) (i : S4x2048x128.Idx) : ℝ := A.dcl (i 0) (i 1) (i 2)

end Cert.AttnBwd
-- ==== Proof.Attn.Final.lean ====
/- The two result arrays after the run, whole. -/
module

public import proofs.«01_k».proof.Proof.Attn.Grid

@[expose] public section

noncomputable section

namespace Cert.AttnBwd

open Idealize.ShloMosaic Idealize.ShloMosaic.TcCoe Idealize.SL.Sem Cert.KernelIdeal Cert.KernelIdeal.Gen

theorem res6_eq (A : Args) (i : S8192x3072.Idx) (b : Fin 4) (x : Fin 2048) (p : Fin 8) (w : Fin 3) (l : Fin 128)
    (h0 : (i 0).val = b.val * 2048 + x.val) (h1 : (i 1).val = p.val * 384 + (128 * w.val + l.val)) :
    res6 A i = A.d3 b w (head p (hd l)) x (ln l) := by
  have hw := w.2; have hl := l.2; have hx := x.2
  unfold res6
  rw [show (⟨(i 0).val / 2048, by have : (i 0).val < 8192 := (i 0).2; omega⟩ : Fin 4) = b from Fin.ext (show (i 0).val / 2048 = b.val by omega),
    show (⟨(i 1).val % 384 / 128, by omega⟩ : Fin 3) = w from Fin.ext (show (i 1).val % 384 / 128 = w.val by omega),
    show (⟨(i 1).val / 384, by have : (i 1).val < 3072 := (i 1).2; omega⟩ : Fin 8) = p from Fin.ext (show (i 1).val / 384 = p.val by omega),
    show (⟨(i 0).val % 2048, by omega⟩ : Fin 2048) = x from Fin.ext (show (i 0).val % 2048 = x.val by omega),
    show (⟨(i 1).val % 128, by omega⟩ : Fin 128) = l from Fin.ext (show (i 1).val % 128 = l.val by omega)]

theorem flush7 : ∀ t : Fin cfg0.N, (cfg0.win 7).flush t = true → t.val % 8 = 7 :=
  (by decide +kernel : ∀ t : Fin grid0.N, (cfg0.win 7).flush t = true → t.val % 8 = 7)

variable (m : (ℓ : Loc nD τ sig) → Buf (Elt Ideal) ℓ) (c : Dev nD)
variable {A : Args} (H : A.Of (aq m c) (ak m c) (av m c) (ac m c) (ao m c))
include H

theorem final6 : (dats m 0 c).arrAt 6 cfg0.N = (fun i : S8192x3072.Idx => ((res6 A i : ℝ) : EReal)) := by
  refine (dats m 0 c).arrAt_eq_of_covers 6 _ (by decide +kernel) fun t hf y => ?_
  blk_simp
  rw [after0_6]
  have hy0 : (y 0).val < 2048 := (y 0).2
  have hy1 : (y 1).val < 384 := (y 1).2
  have e : y = ix2 (y 0) ⟨128 * (⟨(y 1).val / 128, by omega⟩ : Fin 3).val + (⟨(y 1).val % 128, by omega⟩ : Fin 128).val, by dsimp only; omega⟩ := by
    blk_ext
  rw [res6_eq A _ (bt t) (y 0) (pr t) ⟨(y 1).val / 128, by omega⟩ ⟨(y 1).val % 128, by omega⟩ ?_ ?_]
  · exact (congrArg _ e).trans (left6 m c H t ⟨(y 1).val / 128, by omega⟩ (y 0) ⟨(y 1).val % 128, by omega⟩)
  · blk_simp [idx t]
    rfl
  · blk_simp [idx t]
    show t.val % 8 * 384 + (y 1).val = t.val % 8 * 384 + (128 * ((y 1).val / 128) + (y 1).val % 128)
    omega

theorem final7 : (dats m 0 c).arrAt 7 cfg0.N = (fun i : S4x2048x128.Idx => ((res7 A i : ℝ) : EReal)) := by
  refine (dats m 0 c).arrAt_eq_of_covers 7 _ (by decide +kernel) fun t hf y => ?_
  blk_simp
  rw [after0_7]
  have ht := flush7 t hf
  have e : y = ix3 0 (y 1) (y 2) := by blk_ext
  have e0 : ((win0_7.blk t).view.emb y) 0 = bt t := Fin.ext (by
    blk_simp [idx t]
    rfl)
  have e1 : ((win0_7.blk t).view.emb y) 1 = y 1 := Fin.ext (by blk_simp [idx t])
  have e2 : ((win0_7.blk t).view.emb y) 2 = y 2 := Fin.ext (by blk_simp [idx t])
  unfold res7
  rw [e0, e1, e2]
  refine (congrArg _ e).trans ((left7 m c H t.val t.isLt (y 1) (y 2)).trans ?_)
  refine congrArg _ (Eq.trans ?_ (A.dcUpto_all (bt t) (y 1) (y 2)))
  rw [show (pr ⟨t.val, t.isLt⟩).val + 1 = 8 from congrArg (· + 1) ht]

end Cert.AttnBwd
-- ==== Proof.Attn.RefOut.lean ====
/- The reference's two results, whole. -/
module

public import proofs.«01_k».proof.Proof.Attn.Ref
public import proofs.«01_k».proof.Proof.Attn.Final
public import Idealize.ShloMosaic.Lib.KernelVsHost

@[expose] public section

noncomputable section

namespace Cert.AttnBwd.Ref

open Idealize.ShloMosaic Cert.ReferenceIdeal Cert.ReferenceIdeal.Gen Cert.ReferenceIdeal.Read

/-- A lane of the stacked array is a lane of one of the three. -/
theorem stack_at (f : Fin 3 → Vec Ideal S4x2048x8x1x128 .f32) (b : Fin 4) (t : Fin 2048) (p : Fin 8) (w : Fin 3) (l : Fin 128) :
    (concatenate S4x2048x8x3x128 3 [⟨S4x2048x8x1x128, f 0⟩, ⟨S4x2048x8x1x128, f 1⟩, ⟨S4x2048x8x1x128, f 2⟩]
        concatenates_S4x2048x8x1x128_S4x2048x8x1x128_S4x2048x8x1x128_S4x2048x8x3x128_d3 : Vec Ideal S4x2048x8x3x128 .f32)
      (ix5 b t p w l) = f w (ix5 b t p 0 l) := by
  refine concatenate_ofFn_apply (t := S4x2048x8x3x128) (s₁ := S4x2048x8x1x128) 3 f _ rfl 1 rfl _ w ?_ (ix5 b t p 0 l) ?_ ?_
  · show w.val / 1 = w.val
    omega
  · show 0 = w.val % 1
    omega
  · intro a ha
    fin_cases a
    · rfl
    · rfl
    · rfl
    · exact absurd rfl ha
    · rfl

theorem unit_at (x : Vec Ideal S4x2048x8x128 .f32) (b : Fin 4) (t : Fin 2048) (p : Fin 8) (l : Fin 128) :
    broadcastInDim S4x2048x8x1x128 ![0, 1, 2, 4] bcast_S4x2048x8x128_S4x2048x8x1x128_0_1_2_4 x (ix5 b t p 0 l) = x (ix4 b t p l) := by
  pointwise

section

variable {A : Args} {q k v : Vec Ideal S4x2048x16x64 .f32} {c : Vec Ideal S4x2048x16 .f32} {o : Vec Ideal S4x2048x16x64 .f32}
  (H : A.Of q k v c o)

/-- The three gradients before they are stacked. -/
def three (q k v : Vec Ideal S4x2048x16x64 .f32) (c : Vec Ideal S4x2048x16 .f32) (o : Vec Ideal S4x2048x16x64 .f32) (w : Fin 3) :
    Vec Ideal S4x2048x8x1x128 .f32 :=
  if w.val = 0 then val_main_v84 (F := Ideal) q k v c o else if w.val = 1 then val_main_v85 (F := Ideal) q k v c o
    else val_main_v86 (F := Ideal) q k c o

include H

theorem three_at (b : Fin 4) (t : Fin 2048) (p : Fin 8) (w : Fin 3) (l : Fin 128) :
    three q k v c o w (ix5 b t p 0 l) = ((A.d3 b w (head p (hd l)) t (ln l) : ℝ) : EReal) := by
  unfold three Args.d3
  split_ifs
  · exact (unit_at _ b t p l).trans ((cast_128 _ _ b t p l).trans (dq_at H _ _ _ _))
  · exact (unit_at _ b t p l).trans ((cast_128 _ _ b t p l).trans (dk_at H _ _ _ _))
  · exact (unit_at _ b t p l).trans ((cast_128 _ _ b t p l).trans (dv_at H _ _ _ _))

theorem packed_at (i : S8192x3072.Idx) (b : Fin 4) (t : Fin 2048) (p : Fin 8) (w : Fin 3) (l : Fin 128)
    (h0 : (i 0).val = b.val * 2048 + t.val) (h1 : (i 1).val = p.val * 384 + (128 * w.val + l.val)) :
    val_main_v88 (F := Ideal) q k v c o i = ((res6 A i : ℝ) : EReal) := by
  rw [res6_eq A i b t p w l h0 h1, ← three_at H b t p w l]
  refine Eq.trans ?_ (stack_at (three q k v c o) b t p w l)
  exact shapeCast_apply _ _ i (ix5 b t p w l) (by
    rw [Shape.rowMajor_val_five, Shape.rowMajor_val_two]
    show (((b.val * 2048 + t.val) * 8 + p.val) * 3 + w.val) * 128 + l.val = (i 0).val * 3072 + (i 1).val
    omega)

theorem out0 : val_main_v89 (F := Ideal) q k v c o = (fun i : S8192x3072.Idx => ((res6 A i : ℝ) : EReal)) := by
  funext i
  have i0 : (i 0).val < 8192 := (i 0).2
  have i1 : (i 1).val < 3072 := (i 1).2
  exact packed_at H i ⟨(i 0).val / 2048, by omega⟩ ⟨(i 0).val % 2048, by omega⟩ ⟨(i 1).val / 384, by omega⟩
    ⟨(i 1).val % 384 / 128, by omega⟩ ⟨(i 1).val % 128, by omega⟩ (by dsimp only; omega) (by dsimp only; omega)

theorem padded_at (b : Fin 4) (t : Fin 2048) (l : Fin 128) :
    val_main_v90 (F := Ideal) q k v c o (ix3 b t l) = ((A.dcl b t l : ℝ) : EReal) := by
  unfold val_main_v90 Args.dcl
  split_ifs with hl
  · rw [← dc_at H]
    generalize val_main_v80 (F := Ideal) q k v c o = y
    refine pad_apply_of_inside _ _ _ y _ _ _ _ (ix3 b t ⟨l.val, hl⟩) fun a => ?_
    fin_cases a
    · show b.val = 0 + b.val * 1
      omega
    · show t.val = 0 + t.val * 1
      omega
    · show l.val = 0 + l.val * 1
      omega
  · generalize val_main_v80 (F := Ideal) q k v c o = y
    refine (pad_apply_of_not_inside _ _ _ y _ _ _ _ 2 fun hin => hl ?_).trans ?_
    · have e : (l.val - 0) / 1 < 16 := hin.2.2
      omega
    · show (((0#32 : BitVec 32).toInt : ℝ) : EReal) = ((0 : ℝ) : EReal)
      simp

theorem out1 : val_main_v90 (F := Ideal) q k v c o = (fun i : S4x2048x128.Idx => ((res7 A i : ℝ) : EReal)) := by
  funext i
  have e : i = ix3 (i 0) (i 1) (i 2) := by funext a; fin_cases a <;> rfl
  exact (congrArg _ e).trans (padded_at H (i 0) (i 1) (i 2))

end

end Cert.AttnBwd.Ref
-- ==== Proof.Attn.Finite.lean ====
/- The precondition: the five arguments have finite entries, so each is an array of real numbers. -/
module

public import proofs.«01_k».proof.Pre_finite
public import proofs.«01_k».proof.Proof.Attn.Host
public import Idealize.ShloMosaic.Lib.ReduceAll

@[expose] public section

noncomputable section

namespace Cert.AttnBwd

open Idealize.ShloMosaic

theorem finiteFacts : Cert.Pre_finite.Facts where
  bcast_S_S1 := by decide
  bcast_S_S4x2048x16x64 := by decide
  reducesTo_S4x2048x16x64_S_d0_1_2_3 := by decide
  h_S_ := by decide
  bcast_S_S4x2048x16 := by decide
  reducesTo_S4x2048x16_S_d0_1_2 := by decide

theorem bits_inf : (Ideal.ofBits .f32 0x7F800000#32 : EReal) = ⊤ := by
  simp [Ideal.ofBits, Ideal.ieee]

/-- An extended real of absolute value less than infinity is real. -/
theorem real_of_lt (x : EReal) (h : Ideal.cmp .olt (max x (-x)) (Ideal.ofBits .f32 0x7F800000#32) = 1#1) :
    x = ((x.toReal : ℝ) : EReal) := by
  rw [bits_inf] at h
  have hlt : max x (-x) < ⊤ := by
    by_contra hn
    simp [Ideal.cmp, hn] at h
  have h1 := (max_lt_iff.1 hlt).1
  have h2 := (max_lt_iff.1 hlt).2
  refine (EReal.coe_toReal h1.ne ?_).symm
  rintro rfl
  exact absurd h2 (by simp)

theorem and_split {x y : IVec Cert.Pre_finite.S1 1} {i : Cert.Pre_finite.S1.Idx} (h : andi x y i = 1#1) : x i = 1#1 ∧ y i = 1#1 :=
  (by decide : ∀ a b : BitVec 1, a &&& b = 1#1 → a = 1#1 ∧ b = 1#1) _ _ h

/-- An array that passes the test is real. -/
theorem real_of_all {s : Shape} {axes : List (Fin s.rank)} (x : FVec Ideal s .f32) (hb : Cert.Pre_finite.S_.BroadcastsInDim s (![] : Fin 0 → Fin s.rank))
    (hr : s.ReducesTo axes Cert.Pre_finite.S_) (hu : 0 < Cert.Pre_finite.S_.numel)
    (hc : Cert.Pre_finite.S_.BroadcastsInDim Cert.Pre_finite.S1 (![] : Fin 0 → Fin Cert.Pre_finite.S1.rank)) (j : Cert.Pre_finite.S1.Idx)
    (h : broadcastInDim Cert.Pre_finite.S1 ![] hc (Host.reduce IntOp.andi (cmpf .olt (Host.absf x)
      (broadcastInDim s ![] hb (constant Cert.Pre_finite.S_ .f32 0x7F800000#32))) (constantI Cert.Pre_finite.S_ 1 1#1) hr hu) j = 1#1) (i : s.Idx) :
    x i = (((x i).toReal : ℝ) : EReal) :=
  real_of_lt _ (Host.reduce_andi_all _ _ hr hu _ h i)

theorem of_finite (q k v : Vec Ideal Cert.KernelIdeal.S4x2048x16x64 .f32) (c : Vec Ideal Cert.KernelIdeal.S4x2048x16 .f32)
    (o : Vec Ideal Cert.KernelIdeal.S4x2048x16x64 .f32)
    (h : (haveI := finiteFacts; Cert.Pre_finite.fn (F := Ideal) q k v c o) = fun _ => 1#1) :
    ∃ A : Args, A.Of q k v c o := by
  have e := congrFun h (ix1 0)
  dsimp only [Cert.Pre_finite.fn, Cert.Pre_finite.fn_part1] at e
  obtain ⟨e, eo⟩ := and_split e
  obtain ⟨e, ec⟩ := and_split e
  obtain ⟨e, ev⟩ := and_split e
  obtain ⟨e, ek⟩ := and_split e
  obtain ⟨_, eq⟩ := and_split e
  exact ⟨⟨fun b t h d => (q (ix4 b t h d)).toReal, fun b t h d => (k (ix4 b t h d)).toReal, fun b t h d => (v (ix4 b t h d)).toReal,
      fun b t h => (c (ix3 b t h)).toReal, fun b t h d => (o (ix4 b t h d)).toReal⟩,
    ⟨fun _ _ _ _ => real_of_all q _ _ _ _ _ eq _, fun _ _ _ _ => real_of_all k _ _ _ _ _ ek _, fun _ _ _ _ => real_of_all v _ _ _ _ _ ev _,
      fun _ _ _ => real_of_all c _ _ _ _ _ ec _, fun _ _ _ _ => real_of_all o _ _ _ _ _ eo _⟩⟩

end Cert.AttnBwd
-- ==== Proof.Common.Tokens.lean ====
/- Arrays by token, a token's number the batch element's times the sequence length plus the position, and sums over tokens cut
   into blocks of rows. -/
module

public import Idealize.ShloMosaic.Lib.Pointwise
public import Idealize.ShloMosaic.Lib.Pipeline.ValueKit
public import Idealize.ShloMosaic.Lib.Pipeline.Value

@[expose] public section

noncomputable section

namespace Cert.Tok

open Idealize.ShloMosaic

/-- Entry `i` of token `e`. -/
def tok {n : ℕ} (x : (⟨3, ![4, 2048, n]⟩ : Shape).Idx → EReal) (e : ℕ) (i : Fin n) : EReal :=
  if h : e < 8192 then x (ix3 ⟨e / 2048, by omega⟩ ⟨e % 2048, by omega⟩ i) else 0

theorem tok_at {n : ℕ} (x : (⟨3, ![4, 2048, n]⟩ : Shape).Idx → EReal) (e : ℕ) (i : Fin n) (b : Fin 4) (s : Fin 2048)
    (h : e = b.val * 2048 + s.val) : tok x e i = x (ix3 b s i) := by
  have hs := s.2; have hb := b.2
  unfold tok
  rw [dif_pos (show e < 8192 by omega), show (⟨e / 2048, by omega⟩ : Fin 4) = b from Fin.ext (show e / 2048 = b.val by omega),
    show (⟨e % 2048, by omega⟩ : Fin 2048) = s from Fin.ext (show e % 2048 = s.val by omega)]

/-- The same array, its tokens in one axis. -/
theorem flat_at {n : ℕ} (x : (⟨3, ![4, 2048, n]⟩ : Shape).Idx → EReal) (hc) (e : Fin 8192) (j : Fin n) :
    shapeCast (⟨2, ![8192, n]⟩ : Shape) x hc (ix2 e j) = tok x e.val j := by
  have he := e.2
  rw [tok_at x e.val j ⟨e.val / 2048, by omega⟩ ⟨e.val % 2048, by omega⟩ (by show e.val = e.val / 2048 * 2048 + e.val % 2048; omega)]
  exact shapeCast_apply _ _ _ (ix3 (⟨e.val / 2048, by omega⟩ : Fin 4) (⟨e.val % 2048, by omega⟩ : Fin 2048) j) (by
    rw [Shape.rowMajor_val_three, Shape.rowMajor_val_two]
    show (e.val / 2048 * 2048 + e.val % 2048) * n + j.val = e.val * n + j.val
    rw [show e.val / 2048 * 2048 + e.val % 2048 = e.val by omega])

/-- A block of rows after the rows before it. -/
theorem sum_block (f : ℕ → EReal) (w k : ℕ) {p : EReal} (hp : p = ∑ e ∈ Finset.range (w * k), f e) {g : Fin w → EReal}
    (hg : ∀ r : Fin w, g r = f (w * k + r.val)) : p + ∑ r : Fin w, g r = ∑ e ∈ Finset.range (w * (k + 1)), f e := by
  rw [Nat.mul_succ, Finset.sum_range_add, hp, Finset.sum_congr rfl fun r _ => hg r, Finset.sum_range fun r => f (w * k + r)]

theorem sum_tokens (f : ℕ → EReal) : ∑ e ∈ Finset.range 8192, f e = ∑ b : Fin 4, ∑ s : Fin 2048, f (b.val * 2048 + s.val) := by
  rw [Finset.sum_range]
  exact Fin.sum_univ_tiles 4 2048 rfl fun e => f e.val

end Cert.Tok
-- ==== Proof.MmTn.Spec.lean ====
/- The two results as sums over tokens, for a gradient of any width. -/
module

public import proofs.«01_k».proof.Proof.Common.Tokens

@[expose] public section

noncomputable section

namespace Cert.MmTn

open Idealize.ShloMosaic

variable {n : ℕ} (h : (⟨3, ![4, 2048, 1024]⟩ : Shape).Idx → EReal) (z : (⟨3, ![4, 2048, n]⟩ : Shape).Idx → EReal)

/-- The weight's gradient over the first `w` tokens: entry `i` of each token's gradient times entry `j` of its input. -/
def dw (w : ℕ) (i : Fin n) (j : Fin 1024) : EReal := ∑ e ∈ Finset.range w, Tok.tok z e i * Tok.tok h e j
/-- The bias's gradient over the first `w` tokens. -/
def db (w : ℕ) (i : Fin n) : EReal := ∑ e ∈ Finset.range w, Tok.tok z e i

/-- The weight's gradient. -/
def resW (y : (⟨2, ![n, 1024]⟩ : Shape).Idx) : EReal := dw h z 8192 (y 0) (y 1)
/-- The bias's gradient, in the first of eight rows. -/
def resB (y : (⟨2, ![8, n]⟩ : Shape).Idx) : EReal := if (y 0).val = 0 then db z 8192 (y 1) else 0

end Cert.MmTn
-- ==== Proof.Common.Row.lean ====
/- Whole-block loads, and a block of eight rows whose first is read and written on its own. -/
module

public import Idealize.ShloMosaic.Lib.VecWindow
public import Idealize.ShloMosaic.Lib.WritesUnit
public import Idealize.ShloMosaic.Lib.Pipeline.FrameBody
public import Idealize.ShloMosaic.Lib.WholeRead
public import Idealize.ShloMosaic.Lib.Pointwise

@[expose] public section

noncomputable section

namespace Cert.Row

open Idealize.ShloMosaic

variable {Val : EltTy → Type} {sig : RefSig} {κ : Kind} {sp : Space} {e : EltTy}

theorem whole {s : Shape} (arg : Memref sig κ sp s e) (h : arg.IsWhole) (x : s.Idx → Val e) {off : Fin s.rank → ℕ}
    (inb : ∀ a, off a + s.size a ≤ s.size a) :
    arg.view.readAt Val (Rect.unit off s.size inb).toLoadRect (h.unread x) = x := by
  rw [View.readAt_full, h.read_unread]

variable {n : ℕ}

/-- The first of eight rows. -/
def top (x : (⟨2, ![8, n]⟩ : Shape).Idx → Val e) : (⟨2, ![1, n]⟩ : Shape).Idx → Val e := fun j => x (ix2 0 (j 1))
/-- The eight rows with another first row. -/
def setTop (x : (⟨2, ![8, n]⟩ : Shape).Idx → Val e) (w : (⟨2, ![1, n]⟩ : Shape).Idx → Val e) : (⟨2, ![8, n]⟩ : Shape).Idx → Val e :=
  fun y => if (y 0).val = 0 then w (ix2 0 (y 1)) else x y

theorem set_zero (x : (⟨2, ![8, n]⟩ : Shape).Idx → Val e) (w : (⟨2, ![1, n]⟩ : Shape).Idx → Val e) (j : Fin n) :
    setTop x w (ix2 0 j) = w (ix2 0 j) := rfl
theorem set_pos (x : (⟨2, ![8, n]⟩ : Shape).Idx → Val e) (w : (⟨2, ![1, n]⟩ : Shape).Idx → Val e) (r : Fin 8) (hr : r.val ≠ 0) (j : Fin n) :
    setTop x w (ix2 r j) = x (ix2 r j) := if_neg hr

theorem read_top (arg : Memref sig κ sp (⟨2, ![8, n]⟩ : Shape) e) (h : arg.IsWhole) (x : (⟨2, ![8, n]⟩ : Shape).Idx → Val e)
    (inb : ∀ a, (![0, 0] : Fin 2 → ℕ) a + (⟨2, ![1, n]⟩ : Shape).size a ≤ (⟨2, ![8, n]⟩ : Shape).size a) :
    arg.view.readAt Val (Rect.unit (s := (⟨2, ![8, n]⟩ : Shape)) ![0, 0] (⟨2, ![1, n]⟩ : Shape).size inb).toLoadRect (h.unread x) = top x := by
  funext j
  refine (h.readAt_unread x _ j).trans (congrArg x (funext fun a => Fin.ext ?_))
  have h0 : (j 0).val < 1 := (j 0).2
  match a with
  | ⟨0, _⟩ => show 0 + 1 * (j 0).val = 0; omega
  | ⟨1, _⟩ => show 0 + 1 * (j 1).val = (j 1).val; omega

theorem write_top (v : View sig κ sp (⟨2, ![8, n]⟩ : Shape) e) (f : v.ty.Contents Val) (w : (⟨2, ![1, n]⟩ : Shape).Idx → Val e)
    (inb : ∀ a, (![0, 0] : Fin 2 → ℕ) a + (⟨2, ![1, n]⟩ : Shape).size a ≤ (⟨2, ![8, n]⟩ : Shape).size a)
    (L : List (View.Piece Val (⟨2, ![8, n]⟩ : Shape) e)) :
    v.read Val (v.writes Val f ((⟨Rect.unit (s := (⟨2, ![8, n]⟩ : Shape)) ![0, 0] (⟨2, ![1, n]⟩ : Shape).size inb, w⟩ :
        View.Piece Val (⟨2, ![8, n]⟩ : Shape) e) :: L))
      = setTop (v.read Val (v.writes Val f L)) w := by
  funext y
  unfold setTop
  split_ifs with hy
  · refine View.read_writes_cons_unit_of_mem v f inb w L y (ix2 0 (y 1)) rfl fun a => ?_
    match a with
    | ⟨0, _⟩ => show (y 0).val = 0 + 0; omega
    | ⟨1, _⟩ => show (y 1).val = 0 + (y 1).val; omega
  · refine View.read_writes_cons_unit_of_not_mem v f inb w L y rfl 0 (Or.inr ?_)
    show 0 + 1 ≤ (y 0).val
    omega

theorem top_written [∀ e, Nonempty (Val e)] (v : View sig κ sp (⟨2, ![8, n]⟩ : Shape) e) {off : Fin 2 → ℕ}
    (inb' : ∀ a, off a + (⟨2, ![8, n]⟩ : Shape).size a ≤ (⟨2, ![8, n]⟩ : Shape).size a)
    (inb : ∀ a, (![0, 0] : Fin 2 → ℕ) a + (⟨2, ![1, n]⟩ : Shape).size a ≤ (⟨2, ![8, n]⟩ : Shape).size a)
    (x : (⟨2, ![8, n]⟩ : Shape).Idx → Val e) (L : List (View.Piece Val (⟨2, ![8, n]⟩ : Shape) e)) :
    v.readCov ((⟨Rect.unit (s := (⟨2, ![8, n]⟩ : Shape)) off (⟨2, ![8, n]⟩ : Shape).size inb', x⟩ :
        View.Piece Val (⟨2, ![8, n]⟩ : Shape) e) :: L)
      (Rect.unit (s := (⟨2, ![8, n]⟩ : Shape)) ![0, 0] (⟨2, ![1, n]⟩ : Shape).size inb).toLoadRect = top x := by
  funext j
  refine (congrFun (View.read_writes_full v v.junk inb' x L) _).trans (congrArg x (funext fun a => Fin.ext ?_))
  have h0 : (j 0).val < 1 := (j 0).2
  match a with
  | ⟨0, _⟩ => show 0 + 1 * (j 0).val = 0; omega
  | ⟨1, _⟩ => show 0 + 1 * (j 1).val = (j 1).val; omega

end Cert.Row
-- ==== Proof.MmTn.Tile.lean ====
/- The weight gradient's products read at an index: one block of rows' products added to what is there, and its column sums added
   to the row of sums. -/
module

public import proofs.«01_k».proof.Proof.MmTn.Spec
public import proofs.«01_k».proof.Proof.Common.Row
public import proofs.«01_k».proof.Proof.Gen.Kernel4Ideal.Skeleton
public import Idealize.ShloMosaic.Lib.Pointwise
public import Idealize.ShloMosaic.Lib.IdealHost

@[expose] public section

noncomputable section

namespace Cert.MmTn

open Idealize.ShloMosaic Cert.Kernel4Ideal Cert.Kernel4Ideal.Gen

theorem products_at (v3 : Vec Ideal S2048x1024 .bf16) (v5 : Vec Ideal S1024x1024 .f32) (v7 : Vec Ideal S2048x1024 .bf16) (i j : Fin 1024) :
    k0_pay4 (F := Ideal) v3 v5 v7 (ix2 i j) = v5 (ix2 i j) + ∑ k : Fin 2048, v3 (ix2 k i) * v7 (ix2 k j) := by
  pointwise [k0_pay4, k0_pay3]

theorem sums_at (v3 : Vec Ideal S2048x1024 .bf16) (v12 : Vec Ideal S1x1024 .f32) (j : Fin 1024) :
    k0_pay5 (F := Ideal) v3 v12 (ix2 0 j) = v12 (ix2 0 j) + ∑ k : Fin 2048, v3 (ix2 k j) := by
  pointwise [k0_pay5, k0_pay3]

theorem zero2 (y : S1024x1024.Idx) : k0_pay1 (F := Ideal) y = 0 := by
  show Ideal.ofBits .f32 0x00000000#32 = 0
  simp [Ideal.ofBits, Ideal.ieee]
theorem zero3 (y : S8x1024.Idx) : k0_pay2 (F := Ideal) y = 0 := by
  show Ideal.ofBits .f32 0x00000000#32 = 0
  simp [Ideal.ofBits, Ideal.ieee]

variable {n : ℕ} {h : (⟨3, ![4, 2048, 1024]⟩ : Shape).Idx → EReal} {z : (⟨3, ![4, 2048, n]⟩ : Shape).Idx → EReal}
variable {x0 x1 : Vec Ideal S2048x1024 .bf16} {k : ℕ}

/-- One block of tokens more in the products. -/
theorem products_step {p : Vec Ideal S1024x1024 .f32} (i j : Fin 1024) {i' : Fin n}
    (h0 : ∀ r : Fin 2048, x0 (ix2 r i) = Tok.tok z (2048 * k + r.val) i') (h1 : ∀ r : Fin 2048, x1 (ix2 r j) = Tok.tok h (2048 * k + r.val) j)
    (hp : p (ix2 i j) = dw h z (2048 * k) i' j) : k0_pay4 (F := Ideal) x0 p x1 (ix2 i j) = dw h z (2048 * (k + 1)) i' j :=
  (products_at _ _ _ i j).trans (Tok.sum_block (fun e => Tok.tok z e i' * Tok.tok h e j) 2048 k hp
    fun r => congrArg₂ (· * ·) (h0 r) (h1 r))

/-- One block of tokens more in the sums. -/
theorem sums_step {p : Vec Ideal S8x1024 .f32} {col : Fin 1024 → Fin n}
    (h0 : ∀ (r : Fin 2048) (i : Fin 1024), x0 (ix2 r i) = Tok.tok z (2048 * k + r.val) (col i))
    (hp : ∀ (r : Fin 8) (i : Fin 1024), p (ix2 r i) = if r.val = 0 then db z (2048 * k) (col i) else 0) (r : Fin 8) (i : Fin 1024) :
    Row.setTop p (k0_pay5 (F := Ideal) x0 (Row.top p)) (ix2 r i) = if r.val = 0 then db z (2048 * (k + 1)) (col i) else 0 := by
  by_cases hr : r.val = 0
  · obtain rfl : r = 0 := Fin.ext hr
    rw [Row.set_zero, if_pos hr]
    exact (sums_at _ _ i).trans (Tok.sum_block (fun e => Tok.tok z e (col i)) 2048 k (hp 0 i) fun r => h0 r i)
  · rw [Row.set_pos _ _ r hr, hp r i, if_neg hr, if_neg hr]

end Cert.MmTn
-- ==== Proof.MmTn.Runs.lean ====
/- What a grid point of the weight gradient leaves in its two results: the products and the column sums of its rows, over zeros at
   the first point of a column block and over what the point before left at the others. -/
module

public import proofs.«01_k».proof.Proof.MmTn.Tile
public import proofs.«01_k».proof.Proof.Common.Row
public import proofs.«01_k».proof.Proof.Gen.Kernel3Ideal.Value
public import proofs.«01_k».proof.Proof.Gen.Kernel4Ideal.Value

@[expose] public section

noncomputable section

namespace Cert.MmTn

open Idealize.ShloMosaic

variable {F : FTy → Type} [FloatOps F]

namespace W1024

open Cert.Kernel4Ideal Cert.Kernel4Ideal.Gen

variable (c : Dev nD) (i : grid0.Coords) (arg2 : Memref sig .tc .vmem S2048x1024 .bf16) (harg2 : arg2.IsWhole) (arg3 : Memref sig .tc .vmem S2048x1024 .bf16) (harg3 : arg3.IsWhole) (arg4 : Memref sig .tc .vmem S1024x1024 .f32) (harg4 : arg4.IsWhole) (arg5 : Memref sig .tc .vmem S8x1024 .f32) (harg5 : arg5.IsWhole)
variable (x0 : Vec F S2048x1024 .bf16) (x1 : Vec F S2048x1024 .bf16) (xo2 : Vec F S1024x1024 .f32) (xo3 : Vec F S8x1024 .f32)

theorem outA2 (hc0 : cond0_0 i) : out0_A_2 c i arg2 harg2 arg3 harg3 arg4 harg4 arg5 harg5 hc0 x0 x1 = k0_pay4 x0 k0_pay1 x1 := by
  unfold out0_A_2 kernelRun0_A
  dsimp only
  refine (View.read_writes_full _ _ _ _ _).trans ?_
  rw [Row.whole arg2 harg2, Row.whole arg3 harg3]
  exact congrArg (fun y => k0_pay4 x0 y x1) (View.readCov_full arg4.view _ _ _ _)

theorem outB2 (hc0 : ¬ cond0_0 i) : out0_B_2 c i arg2 harg2 arg3 harg3 arg4 harg4 arg5 harg5 hc0 x0 x1 xo2 xo3 = k0_pay4 x0 xo2 x1 := by
  unfold out0_B_2 kernelRun0_B
  dsimp only
  refine (View.read_writes_full _ _ _ _ _).trans ?_
  rw [Row.whole arg2 harg2, Row.whole arg3 harg3, Row.whole arg4 harg4]

theorem outA3 (hc0 : cond0_0 i) : out0_A_3 c i arg2 harg2 arg3 harg3 arg4 harg4 arg5 harg5 hc0 x0 x1
    = Row.setTop (k0_pay2 (F := F)) (k0_pay5 x0 (Row.top (k0_pay2 (F := F)))) := by
  unfold out0_A_3 kernelRun0_A
  dsimp only
  rw [Row.whole arg2 harg2]
  refine (Row.write_top _ _ _ _ _).trans (congrArg₂ Row.setTop ?_ (congrArg (k0_pay5 x0) ?_))
  · exact View.read_writes_full _ _ _ _ _
  · exact Row.top_written arg5.view _ _ _ _

theorem outB3 (hc0 : ¬ cond0_0 i) : out0_B_3 c i arg2 harg2 arg3 harg3 arg4 harg4 arg5 harg5 hc0 x0 x1 xo2 xo3
    = Row.setTop xo3 (k0_pay5 x0 (Row.top xo3)) := by
  unfold out0_B_3 kernelRun0_B
  dsimp only
  rw [Row.whole arg2 harg2, Row.read_top arg5 harg5]
  refine (Row.write_top _ _ _ _ _).trans ?_
  rw [View.writes_nil, harg5.read_unread]

end W1024

namespace W3072

open Cert.Kernel3Ideal Cert.Kernel3Ideal.Gen

variable (c : Dev nD) (i : grid0.Coords) (arg2 : Memref sig .tc .vmem S2048x1024 .bf16) (harg2 : arg2.IsWhole) (arg3 : Memref sig .tc .vmem S2048x1024 .bf16) (harg3 : arg3.IsWhole) (arg4 : Memref sig .tc .vmem S1024x1024 .f32) (harg4 : arg4.IsWhole) (arg5 : Memref sig .tc .vmem S8x1024 .f32) (harg5 : arg5.IsWhole)
variable (x0 : Vec F S2048x1024 .bf16) (x1 : Vec F S2048x1024 .bf16) (xo2 : Vec F S1024x1024 .f32) (xo3 : Vec F S8x1024 .f32)

theorem outA2 (hc0 : cond0_0 i) : out0_A_2 c i arg2 harg2 arg3 harg3 arg4 harg4 arg5 harg5 hc0 x0 x1 = k0_pay4 x0 k0_pay1 x1 := by
  unfold out0_A_2 kernelRun0_A
  dsimp only
  refine (View.read_writes_full _ _ _ _ _).trans ?_
  rw [Row.whole arg2 harg2, Row.whole arg3 harg3]
  exact congrArg (fun y => k0_pay4 x0 y x1) (View.readCov_full arg4.view _ _ _ _)

theorem outB2 (hc0 : ¬ cond0_0 i) : out0_B_2 c i arg2 harg2 arg3 harg3 arg4 harg4 arg5 harg5 hc0 x0 x1 xo2 xo3 = k0_pay4 x0 xo2 x1 := by
  unfold out0_B_2 kernelRun0_B
  dsimp only
  refine (View.read_writes_full _ _ _ _ _).trans ?_
  rw [Row.whole arg2 harg2, Row.whole arg3 harg3, Row.whole arg4 harg4]

theorem outA3 (hc0 : cond0_0 i) : out0_A_3 c i arg2 harg2 arg3 harg3 arg4 harg4 arg5 harg5 hc0 x0 x1
    = Row.setTop (k0_pay2 (F := F)) (k0_pay5 x0 (Row.top (k0_pay2 (F := F)))) := by
  unfold out0_A_3 kernelRun0_A
  dsimp only
  rw [Row.whole arg2 harg2]
  refine (Row.write_top _ _ _ _ _).trans (congrArg₂ Row.setTop ?_ (congrArg (k0_pay5 x0) ?_))
  · exact View.read_writes_full _ _ _ _ _
  · exact Row.top_written arg5.view _ _ _ _

theorem outB3 (hc0 : ¬ cond0_0 i) : out0_B_3 c i arg2 harg2 arg3 harg3 arg4 harg4 arg5 harg5 hc0 x0 x1 xo2 xo3
    = Row.setTop xo3 (k0_pay5 x0 (Row.top xo3)) := by
  unfold out0_B_3 kernelRun0_B
  dsimp only
  rw [Row.whole arg2 harg2, Row.read_top arg5 harg5]
  refine (Row.write_top _ _ _ _ _).trans ?_
  rw [View.writes_nil, harg5.read_unread]

end W3072

end Cert.MmTn
-- ==== Proof.MmTn.Narrow.lean ====
/- The gradient of width 1024: its one column block over four grid points. -/
module

public import proofs.«01_k».proof.Proof.MmTn.Runs
public import proofs.«01_k».proof.Proof.MmTn.Spec
public import Idealize.ShloMosaic.Lib.Pipeline.ValueKit
public import Idealize.ShloMosaic.Lib.StableHlo.ReadAt

@[expose] public section

noncomputable section

namespace Cert.MmTn.W1024

open Idealize.ShloMosaic Idealize.ShloMosaic.TcCoe Idealize.SL.Sem Cert.Kernel4Ideal Cert.Kernel4Ideal.Gen

theorem idx : ∀ t : Fin cfg0.N,
    (win0_0.index t = ![t.val % 4, t.val / 4] ∧ win0_1.index t = ![t.val % 4, 0]) ∧ win0_2.index t = ![t.val / 4, 0] ∧ win0_3.index t = ![0, t.val / 4] :=
  (by decide +kernel : ∀ t : Fin grid0.N, _)

variable (m : (ℓ : Loc nD τ sig) → Buf (Elt Ideal) ℓ) (c : Dev nD) (t : Fin cfg0.N)

/-- The two arguments. -/
def aH : Vec Ideal S4x2048x1024 .f32 := m ((c.tc : Thread nD τ).loc main_arg0)
def aZ : Vec Ideal S4x2048x1024 .f32 := m ((c.tc : Thread nD τ).loc main_arg1)

/-- A column of the point's block. -/
def col (j : Fin 1024) : Fin 1024 := ⟨t.val / 4 * 1024 + j.val, by have : t.val < 4 := t.2; omega⟩

theorem V1 : (V m c main_v1 : Vec Ideal S8192x1024 .bf16) = shapeCast S8192x1024 (aZ m c) shapeCasts_S4x2048x1024_S8192x1024 := by
  unfold V aZ
  after_reads_simp
  rfl
theorem V3 : (V m c main_v3 : Vec Ideal S8192x1024 .bf16) = shapeCast S8192x1024 (aH m c) shapeCasts_S4x2048x1024_S8192x1024 := by
  unfold V aH
  after_reads_simp
  rfl

theorem read0 (X : Vec Ideal S8192x1024 .bf16) (r : Fin 2048) (j : Fin 1024) :
    (((cfg0.win 0).blk t).view.read (Elt Ideal) X : Vec Ideal S2048x1024 .bf16) (ix2 r j)
      = X (ix2 ⟨2048 * (t.val % 4) + r.val, by omega⟩ (col t j)) := by
  blk_simp
  blk_ext [idx t, col]
theorem read1 (X : Vec Ideal S8192x1024 .bf16) (r : Fin 2048) (j : Fin 1024) :
    (((cfg0.win 1).blk t).view.read (Elt Ideal) X : Vec Ideal S2048x1024 .bf16) (ix2 r j)
      = X (ix2 ⟨2048 * (t.val % 4) + r.val, by omega⟩ j) := by
  blk_simp
  blk_ext [idx t]

theorem blk0 (r : Fin 2048) (j : Fin 1024) :
    (iblk m c 0 t : Vec Ideal S2048x1024 .bf16) (ix2 r j) = Tok.tok (aZ m c) (2048 * (t.val % 4) + r.val) (col t j) :=
  (read0 t (V m c main_v1) r j).trans ((congrFun (V1 m c) _).trans (Tok.flat_at _ _ _ _))
theorem blk1 (r : Fin 2048) (j : Fin 1024) :
    (iblk m c 1 t : Vec Ideal S2048x1024 .bf16) (ix2 r j) = Tok.tok (aH m c) (2048 * (t.val % 4) + r.val) j :=
  (read1 t (V m c main_v3) r j).trans ((congrFun (V3 m c) _).trans (Tok.flat_at _ _ _ _))

/-- What the results hold after a point: the sums over the tokens so far. -/
structure After (o : Vec Ideal S1024x1024 .f32 × Vec Ideal S8x1024 .f32) : Prop where
  w (i j : Fin 1024) : o.1 (ix2 i j) = dw (aH m c) (aZ m c) (2048 * (t.val % 4 + 1)) (col t i) j
  b (r : Fin 8) (i : Fin 1024) : o.2 (ix2 r i) = if r.val = 0 then db (aZ m c) (2048 * (t.val % 4 + 1)) (col t i) else 0

theorem after_step (hp : ¬ t.val % 4 = 0 → ∀ h, After m c ⟨t.val - 1, h⟩ (outsAt0 m c (t.val - 1) h)) :
    After m c t (outsAt0 m c t.val t.isLt) := by
  by_cases h0 : t.val % 4 = 0
  · rw [outsAt0_A m c t h0]
    have e2 := outA2 (F := Ideal) c (grid0.coords t) (ms0_0 t) (hs0_0 t) (ms0_1 t) (hs0_1 t) (ms0_2 t) (hs0_2 t) (ms0_3 t) (hs0_3 t) (iblk m c 0 t) (iblk m c 1 t) ((hcond0_0 t).mpr h0)
    have e3 := outA3 (F := Ideal) c (grid0.coords t) (ms0_0 t) (hs0_0 t) (ms0_1 t) (hs0_1 t) (ms0_2 t) (hs0_2 t) (ms0_3 t) (hs0_3 t) (iblk m c 0 t) (iblk m c 1 t) ((hcond0_0 t).mpr h0)
    rw [e2, e3]
    refine ⟨fun i j => products_step i j (fun r => blk0 m c t r i) (fun r => blk1 m c t r j) ?_, fun r i => sums_step (fun r i => blk0 m c t r i) (fun r i => ?_) r i⟩
    · rw [h0]; exact (zero2 _).trans rfl
    · rw [h0]; refine (zero3 _).trans ?_; split_ifs <;> rfl
  · have hp := hp h0 (Nat.lt_of_le_of_lt (Nat.sub_le _ _) t.isLt)
    have hk : (t.val - 1) % 4 + 1 = t.val % 4 := by omega
    have hc : ∀ i, col ⟨t.val - 1, Nat.lt_of_le_of_lt (Nat.sub_le _ _) t.isLt⟩ i = col t i := fun i =>
      Fin.ext (show (t.val - 1) / 4 * 1024 + i.val = t.val / 4 * 1024 + i.val by omega)
    rw [outsAt0_B m c t h0]
    have e2 := outB2 (F := Ideal) c (grid0.coords t) (ms0_0 t) (hs0_0 t) (ms0_1 t) (hs0_1 t) (ms0_2 t) (hs0_2 t) (ms0_3 t) (hs0_3 t) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2 (fun h => h0 ((hcond0_0 t).mp h))
    have e3 := outB3 (F := Ideal) c (grid0.coords t) (ms0_0 t) (hs0_0 t) (ms0_1 t) (hs0_1 t) (ms0_2 t) (hs0_2 t) (ms0_3 t) (hs0_3 t) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2 (fun h => h0 ((hcond0_0 t).mp h))
    rw [e2, e3]
    refine ⟨fun i j => products_step i j (fun r => blk0 m c t r i) (fun r => blk1 m c t r j) ?_, fun r i => sums_step (fun r i => blk0 m c t r i) (fun r i => ?_) r i⟩
    · rw [hp.w i j, hc]; exact congrArg (fun k => dw (aH m c) (aZ m c) (2048 * k) (col t i) j) hk
    · rw [hp.b r i, hc]; exact congrArg (fun k => if r.val = 0 then db (aZ m c) (2048 * k) (col t i) else 0) hk

theorem after_all : ∀ (n : ℕ) (hn : n < cfg0.N), After m c ⟨n, hn⟩ (outsAt0 m c n hn) := by
  intro n
  induction n with
  | zero => exact fun hn => after_step m c ⟨0, hn⟩ fun h => absurd rfl h
  | succ n ih => exact fun hn => after_step m c ⟨n + 1, hn⟩ fun _ h => ih h

theorem final2 : (dats m 0 c).arrAt 2 cfg0.N = resW (aH m c) (aZ m c) := by
  refine (dats m 0 c).arrAt_eq_of_covers 2 _ (by decide +kernel) fun t hf y => ?_
  have ht := (flush0_2 t).mp hf
  blk_simp
  rw [after0_2]
  have e : y = ix2 (y 0) (y 1) := by blk_ext
  have e0 : ((win0_2.blk t).view.emb y) 0 = col t (y 0) := Fin.ext (by blk_simp [idx t, col])
  have e1 : ((win0_2.blk t).view.emb y) 1 = y 1 := Fin.ext (by blk_simp [idx t])
  unfold resW
  rw [e0, e1]
  refine (congrArg _ e).trans (((after_all m c t.val t.isLt).w (y 0) (y 1)).trans ?_)
  rw [show (⟨t.val, t.isLt⟩ : Fin cfg0.N).val % 4 = 3 from ht]

theorem final3 : (dats m 0 c).arrAt 3 cfg0.N = resB (aZ m c) := by
  refine (dats m 0 c).arrAt_eq_of_covers 3 _ (by decide +kernel) fun t hf y => ?_
  have ht := (flush0_3 t).mp hf
  blk_simp
  rw [after0_3]
  have e : y = ix2 (y 0) (y 1) := by blk_ext
  have e0 : ((win0_3.blk t).view.emb y) 0 = y 0 := Fin.ext (by blk_simp [idx t])
  have e1 : ((win0_3.blk t).view.emb y) 1 = col t (y 1) := Fin.ext (by blk_simp [idx t, col])
  unfold resB
  rw [e0, e1]
  refine (congrArg _ e).trans (((after_all m c t.val t.isLt).b (y 0) (y 1)).trans ?_)
  rw [show (⟨t.val, t.isLt⟩ : Fin cfg0.N).val % 4 = 3 from ht]

end Cert.MmTn.W1024
-- ==== Proof.MmTn.Wide.lean ====
/- The gradient of width 3072: each of its three column blocks over four grid points. -/
module

public import proofs.«01_k».proof.Proof.MmTn.Runs
public import proofs.«01_k».proof.Proof.MmTn.Spec
public import Idealize.ShloMosaic.Lib.Pipeline.ValueKit
public import Idealize.ShloMosaic.Lib.StableHlo.ReadAt

@[expose] public section

noncomputable section

namespace Cert.MmTn.W3072

open Idealize.ShloMosaic Idealize.ShloMosaic.TcCoe Idealize.SL.Sem Cert.Kernel3Ideal Cert.Kernel3Ideal.Gen

theorem idx : ∀ t : Fin cfg0.N,
    (win0_0.index t = ![t.val % 4, t.val / 4] ∧ win0_1.index t = ![t.val % 4, 0]) ∧ win0_2.index t = ![t.val / 4, 0] ∧ win0_3.index t = ![0, t.val / 4] :=
  (by decide +kernel : ∀ t : Fin grid0.N, _)

variable (m : (ℓ : Loc nD τ sig) → Buf (Elt Ideal) ℓ) (c : Dev nD) (t : Fin cfg0.N)

/-- The two arguments. -/
def aH : Vec Ideal S4x2048x1024 .f32 := m ((c.tc : Thread nD τ).loc main_arg0)
def aZ : Vec Ideal S4x2048x3072 .f32 := m ((c.tc : Thread nD τ).loc main_arg1)

/-- A column of the point's block. -/
def col (j : Fin 1024) : Fin 3072 := ⟨t.val / 4 * 1024 + j.val, by have : t.val < 12 := t.2; omega⟩

theorem V1 : (V m c main_v1 : Vec Ideal S8192x3072 .bf16) = shapeCast S8192x3072 (aZ m c) shapeCasts_S4x2048x3072_S8192x3072 := by
  unfold V aZ
  after_reads_simp
  rfl
theorem V3 : (V m c main_v3 : Vec Ideal S8192x1024 .bf16) = shapeCast S8192x1024 (aH m c) shapeCasts_S4x2048x1024_S8192x1024 := by
  unfold V aH
  after_reads_simp
  rfl

theorem read0 (X : Vec Ideal S8192x3072 .bf16) (r : Fin 2048) (j : Fin 1024) :
    (((cfg0.win 0).blk t).view.read (Elt Ideal) X : Vec Ideal S2048x1024 .bf16) (ix2 r j)
      = X (ix2 ⟨2048 * (t.val % 4) + r.val, by omega⟩ (col t j)) := by
  blk_simp
  blk_ext [idx t, col]
theorem read1 (X : Vec Ideal S8192x1024 .bf16) (r : Fin 2048) (j : Fin 1024) :
    (((cfg0.win 1).blk t).view.read (Elt Ideal) X : Vec Ideal S2048x1024 .bf16) (ix2 r j)
      = X (ix2 ⟨2048 * (t.val % 4) + r.val, by omega⟩ j) := by
  blk_simp
  blk_ext [idx t]

theorem blk0 (r : Fin 2048) (j : Fin 1024) :
    (iblk m c 0 t : Vec Ideal S2048x1024 .bf16) (ix2 r j) = Tok.tok (aZ m c) (2048 * (t.val % 4) + r.val) (col t j) :=
  (read0 t (V m c main_v1) r j).trans ((congrFun (V1 m c) _).trans (Tok.flat_at _ _ _ _))
theorem blk1 (r : Fin 2048) (j : Fin 1024) :
    (iblk m c 1 t : Vec Ideal S2048x1024 .bf16) (ix2 r j) = Tok.tok (aH m c) (2048 * (t.val % 4) + r.val) j :=
  (read1 t (V m c main_v3) r j).trans ((congrFun (V3 m c) _).trans (Tok.flat_at _ _ _ _))

/-- What the results hold after a point: the sums over the tokens so far. -/
structure After (o : Vec Ideal S1024x1024 .f32 × Vec Ideal S8x1024 .f32) : Prop where
  w (i j : Fin 1024) : o.1 (ix2 i j) = dw (aH m c) (aZ m c) (2048 * (t.val % 4 + 1)) (col t i) j
  b (r : Fin 8) (i : Fin 1024) : o.2 (ix2 r i) = if r.val = 0 then db (aZ m c) (2048 * (t.val % 4 + 1)) (col t i) else 0

theorem after_step (hp : ¬ t.val % 4 = 0 → ∀ h, After m c ⟨t.val - 1, h⟩ (outsAt0 m c (t.val - 1) h)) :
    After m c t (outsAt0 m c t.val t.isLt) := by
  by_cases h0 : t.val % 4 = 0
  · rw [outsAt0_A m c t h0]
    have e2 := outA2 (F := Ideal) c (grid0.coords t) (ms0_0 t) (hs0_0 t) (ms0_1 t) (hs0_1 t) (ms0_2 t) (hs0_2 t) (ms0_3 t) (hs0_3 t) (iblk m c 0 t) (iblk m c 1 t) ((hcond0_0 t).mpr h0)
    have e3 := outA3 (F := Ideal) c (grid0.coords t) (ms0_0 t) (hs0_0 t) (ms0_1 t) (hs0_1 t) (ms0_2 t) (hs0_2 t) (ms0_3 t) (hs0_3 t) (iblk m c 0 t) (iblk m c 1 t) ((hcond0_0 t).mpr h0)
    rw [e2, e3]
    refine ⟨fun i j => products_step i j (fun r => blk0 m c t r i) (fun r => blk1 m c t r j) ?_, fun r i => sums_step (fun r i => blk0 m c t r i) (fun r i => ?_) r i⟩
    · rw [h0]; exact (zero2 _).trans rfl
    · rw [h0]; refine (zero3 _).trans ?_; split_ifs <;> rfl
  · have hp := hp h0 (Nat.lt_of_le_of_lt (Nat.sub_le _ _) t.isLt)
    have hk : (t.val - 1) % 4 + 1 = t.val % 4 := by omega
    have hc : ∀ i, col ⟨t.val - 1, Nat.lt_of_le_of_lt (Nat.sub_le _ _) t.isLt⟩ i = col t i := fun i =>
      Fin.ext (show (t.val - 1) / 4 * 1024 + i.val = t.val / 4 * 1024 + i.val by omega)
    rw [outsAt0_B m c t h0]
    have e2 := outB2 (F := Ideal) c (grid0.coords t) (ms0_0 t) (hs0_0 t) (ms0_1 t) (hs0_1 t) (ms0_2 t) (hs0_2 t) (ms0_3 t) (hs0_3 t) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2 (fun h => h0 ((hcond0_0 t).mp h))
    have e3 := outB3 (F := Ideal) c (grid0.coords t) (ms0_0 t) (hs0_0 t) (ms0_1 t) (hs0_1 t) (ms0_2 t) (hs0_2 t) (ms0_3 t) (hs0_3 t) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2 (fun h => h0 ((hcond0_0 t).mp h))
    rw [e2, e3]
    refine ⟨fun i j => products_step i j (fun r => blk0 m c t r i) (fun r => blk1 m c t r j) ?_, fun r i => sums_step (fun r i => blk0 m c t r i) (fun r i => ?_) r i⟩
    · rw [hp.w i j, hc]; exact congrArg (fun k => dw (aH m c) (aZ m c) (2048 * k) (col t i) j) hk
    · rw [hp.b r i, hc]; exact congrArg (fun k => if r.val = 0 then db (aZ m c) (2048 * k) (col t i) else 0) hk

theorem after_all : ∀ (n : ℕ) (hn : n < cfg0.N), After m c ⟨n, hn⟩ (outsAt0 m c n hn) := by
  intro n
  induction n with
  | zero => exact fun hn => after_step m c ⟨0, hn⟩ fun h => absurd rfl h
  | succ n ih => exact fun hn => after_step m c ⟨n + 1, hn⟩ fun _ h => ih h

theorem final2 : (dats m 0 c).arrAt 2 cfg0.N = resW (aH m c) (aZ m c) := by
  refine (dats m 0 c).arrAt_eq_of_covers 2 _ (by decide +kernel) fun t hf y => ?_
  have ht := (flush0_2 t).mp hf
  blk_simp
  rw [after0_2]
  have e : y = ix2 (y 0) (y 1) := by blk_ext
  have e0 : ((win0_2.blk t).view.emb y) 0 = col t (y 0) := Fin.ext (by blk_simp [idx t, col])
  have e1 : ((win0_2.blk t).view.emb y) 1 = y 1 := Fin.ext (by blk_simp [idx t])
  unfold resW
  rw [e0, e1]
  refine (congrArg _ e).trans (((after_all m c t.val t.isLt).w (y 0) (y 1)).trans ?_)
  rw [show (⟨t.val, t.isLt⟩ : Fin cfg0.N).val % 4 = 3 from ht]

theorem final3 : (dats m 0 c).arrAt 3 cfg0.N = resB (aZ m c) := by
  refine (dats m 0 c).arrAt_eq_of_covers 3 _ (by decide +kernel) fun t hf y => ?_
  have ht := (flush0_3 t).mp hf
  blk_simp
  rw [after0_3]
  have e : y = ix2 (y 0) (y 1) := by blk_ext
  have e0 : ((win0_3.blk t).view.emb y) 0 = y 0 := Fin.ext (by blk_simp [idx t])
  have e1 : ((win0_3.blk t).view.emb y) 1 = col t (y 1) := Fin.ext (by blk_simp [idx t, col])
  unfold resB
  rw [e0, e1]
  refine (congrArg _ e).trans (((after_all m c t.val t.isLt).b (y 0) (y 1)).trans ?_)
  rw [show (⟨t.val, t.isLt⟩ : Fin cfg0.N).val % 4 = 3 from ht]

end Cert.MmTn.W3072
-- ==== Proof.MmTn.RefSums.lean ====
/- The reference's sums of a three-axis array over its first two axes, and its padding, for a gradient of any width. -/
module

public import proofs.«01_k».proof.Proof.MmTn.Spec
public import Idealize.ShloMosaic.Lib.KernelVsHost
public import Idealize.ShloMosaic.Lib.IdealHost

@[expose] public section

noncomputable section

namespace Cert.MmTn

open Idealize.ShloMosaic

/-- An index falls to `k` in the sum over the first two axes exactly when its last coordinate is `k`. -/
theorem falls_iff {p q n : ℕ} (hr : (⟨3, ![p, q, n]⟩ : Shape).ReducesTo [0, 1] ⟨1, ![n]⟩) (i : (⟨3, ![p, q, n]⟩ : Shape).Idx)
    (k : Fin n) : hr.drop i = ix1 k ↔ i 2 = k := by
  have last : hr.drop i = ix1 (i 2) := by
    funext b
    apply Fin.ext
    match b with
    | ⟨0, _⟩ => rfl
  rw [last]
  exact ⟨fun e => congrFun e 0, fun e => congrArg ix1 e⟩

/-- The sum over the first two axes as two sums. -/
theorem sum_first_two {p q n : ℕ} (hr : (⟨3, ![p, q, n]⟩ : Shape).ReducesTo [0, 1] ⟨1, ![n]⟩)
    (v : (⟨3, ![p, q, n]⟩ : Shape).Idx → EReal) (start : EReal) (k : Fin n) :
    Ideal.hostReduceAdd hr v start (ix1 k) = start + ∑ a : Fin p, ∑ b : Fin q, v (ix3 a b k) := by
  rw [← Fintype.sum_prod_type' (f := fun a b => v (ix3 a b k))]
  refine congrArg (start + ·) (Finset.sum_nbij' (fun i => (i 0, i 1)) (fun c => ix3 c.1 c.2 k) (fun _ _ => Finset.mem_univ _)
    (fun c _ => Finset.mem_filter.2 ⟨Finset.mem_univ _, (falls_iff hr _ _).2 rfl⟩) ?_ (fun _ _ => rfl) ?_)
  · intro i hi
    have e := (falls_iff hr i k).1 (Finset.mem_filter.1 hi).2
    funext a
    match a with
    | ⟨0, _⟩ => rfl
    | ⟨1, _⟩ => rfl
    | ⟨2, _⟩ => exact e.symm
  · intro i hi
    have e := (falls_iff hr i k).1 (Finset.mem_filter.1 hi).2
    refine congrArg v ?_
    funext a
    match a with
    | ⟨0, _⟩ => rfl
    | ⟨1, _⟩ => rfl
    | ⟨2, _⟩ => exact e

variable {n : ℕ} (h : (⟨3, ![4, 2048, 1024]⟩ : Shape).Idx → EReal) (z : (⟨3, ![4, 2048, n]⟩ : Shape).Idx → EReal)

/-- The weight's gradient with the tokens by batch element and position. -/
theorem dw_nested (i : Fin n) (j : Fin 1024) : dw h z 8192 i j = ∑ b : Fin 4, ∑ s : Fin 2048, z (ix3 b s i) * h (ix3 b s j) := by
  unfold dw
  rw [Tok.sum_tokens]
  exact Finset.sum_congr rfl fun b _ => Finset.sum_congr rfl fun s _ => by rw [Tok.tok_at z _ i b s rfl, Tok.tok_at h _ j b s rfl]

/-- The bias's gradient with the tokens by batch element and position. -/
theorem db_nested (i : Fin n) : db z 8192 i = ∑ b : Fin 4, ∑ s : Fin 2048, z (ix3 b s i) := by
  unfold db
  rw [Tok.sum_tokens]
  exact Finset.sum_congr rfl fun b _ => Finset.sum_congr rfl fun s _ => Tok.tok_at z _ i b s rfl

/-- A sum over tokens, read as an array of one batch element and one position and summed once more. -/
theorem db_twice (h1 : (⟨3, ![4, 2048, n]⟩ : Shape).ReducesTo [0, 1] ⟨1, ![n]⟩) (h2 : (⟨3, ![1, 1, n]⟩ : Shape).ReducesTo [0, 1] ⟨1, ![n]⟩)
    (hc) {a b : EReal} (ha : a = 0) (hb : b = 0) (k : Fin n) :
    Ideal.hostReduceAdd h2 (shapeCast (⟨3, ![1, 1, n]⟩ : Shape) (Ideal.hostReduceAdd h1 z a) hc) b (ix1 k) = db z 8192 k := by
  rw [sum_first_two, hb, zero_add, Fin.sum_univ_one, Fin.sum_univ_one,
    shapeCast_apply _ _ _ (ix1 k) (by
      rw [Shape.rowMajor_val_one, Shape.rowMajor_val_three]
      show k.val = (0 * 1 + 0) * n + k.val
      omega), sum_first_two, ha, zero_add, db_nested]

/-- One row with seven rows of zeros below it. -/
theorem pad_rows {v : (⟨2, ![1, n]⟩ : Shape).Idx → EReal} {s0 : Shape} {c : s0.Idx → EReal} (hp) (hs) (hc : ∀ i, c i = 0)
    (hv : ∀ k, v (ix2 0 k) = db z 8192 k) :
    pad (⟨2, ![8, n]⟩ : Shape) ![0, 0] ![7, 0] ![0, 0] v c hp hs = resB z := by
  funext y
  obtain ⟨p, q, rfl⟩ : ∃ p q, y = ix2 p q := ⟨y 0, y 1, funext fun a => match a with | ⟨0, _⟩ => rfl | ⟨1, _⟩ => rfl⟩
  show _ = if p.val = 0 then db z 8192 q else 0
  by_cases e : p.val = 0
  · rw [if_pos e, ← hv q]
    exact pad_apply_of_inside _ _ _ v _ _ _ _ (ix2 0 q) fun a => match a with
      | ⟨0, _⟩ => e
      | ⟨1, _⟩ => show q.val = 0 + q.val * 1 by omega
  · rw [if_neg e]
    refine (pad_apply_of_not_inside _ _ _ v _ _ _ _ 0 fun hin => e ?_).trans (hc _)
    have := hin.2.2
    change (p.val - 0) / 1 < 1 at this
    omega

end Cert.MmTn
-- ==== Proof.MmTn.RefNarrow.lean ====
/- The reference's two results as sums over tokens, for a gradient 1024 wide. -/
module

public import proofs.«01_k».proof.Proof.Gen.Reference4Ideal.Read
public import proofs.«01_k».proof.Proof.MmTn.RefSums

@[expose] public section

noncomputable section

namespace Cert.MmTn.R1024

open Idealize.ShloMosaic Cert.Reference4Ideal Cert.Reference4Ideal.Gen Cert.Reference4Ideal.Read

variable (h : Vec Ideal S4x2048x1024 .f32) (z : Vec Ideal S4x2048x1024 .f32)

theorem same : val_main_v7 (F := Ideal) z = z := funext fun i => shapeCast_apply _ _ _ i rfl

theorem refW : val_main_v14 (F := Ideal) h z = resW h z := by
  funext y
  obtain ⟨i, j, rfl⟩ : ∃ i j, y = ix2 i j := ⟨y 0, y 1, funext fun a => match a with | ⟨0, _⟩ => rfl | ⟨1, _⟩ => rfl⟩
  rw [val_main_v14_apply, val_main_v13_apply]
  refine Eq.trans ?_ (dw_nested h z i j).symm
  refine (congrArg (val_main_v12 (F := Ideal) h z) (show idx_main_v13 (idx_main_v14 (ix2 i j)) = ix2 i j from funext fun a => match a with | ⟨0, _⟩ => rfl | ⟨1, _⟩ => rfl)).trans ?_
  unfold val_main_v12
  rw [same]
  pointwise

theorem refB : val_main_v15 (F := Ideal) z = resB z := by
  unfold val_main_v15
  refine pad_rows z _ _ (fun i => ?_) fun k => ?_
  · rw [val_main_call0_v0_apply, val_main_c_apply]
    exact congrArg (fun r : ℝ => (r : EReal)) (by norm_num)
  · rw [val_main_v11_apply]
    refine (congrArg (val_main_v10 (F := Ideal) z) (show idx_main_v11 (ix2 0 k) = ix1 k from
      funext fun a => match a with | ⟨0, _⟩ => rfl)).trans ?_
    unfold val_main_v10 val_main_v9 val_main_v8
    exact db_twice z reducesTo_S4x2048x1024_S1024_d0_1 reducesTo_S1x1x1024_S1024_d0_1 shapeCasts_S1024_S1x1x1024
      (Ideal.ofBits_zero .f32) (Ideal.ofBits_zero .f32) k

end Cert.MmTn.R1024
-- ==== Proof.MmTn.RefWide.lean ====
/- The reference's two results as sums over tokens, for a gradient 3072 wide. -/
module

public import proofs.«01_k».proof.Proof.Gen.Reference3Ideal.Read
public import proofs.«01_k».proof.Proof.MmTn.RefSums

@[expose] public section

noncomputable section

namespace Cert.MmTn.R3072

open Idealize.ShloMosaic Cert.Reference3Ideal Cert.Reference3Ideal.Gen Cert.Reference3Ideal.Read

variable (h : Vec Ideal S4x2048x1024 .f32) (z : Vec Ideal S4x2048x3072 .f32)

theorem same : val_main_v7 (F := Ideal) z = z := funext fun i => shapeCast_apply _ _ _ i rfl

theorem refW : val_main_v14 (F := Ideal) h z = resW h z := by
  funext y
  obtain ⟨i, j, rfl⟩ : ∃ i j, y = ix2 i j := ⟨y 0, y 1, funext fun a => match a with | ⟨0, _⟩ => rfl | ⟨1, _⟩ => rfl⟩
  rw [val_main_v14_apply, val_main_v13_apply]
  refine Eq.trans ?_ (dw_nested h z i j).symm
  refine (congrArg (val_main_v12 (F := Ideal) h z) (show idx_main_v13 (idx_main_v14 (ix2 i j)) = ix2 i j from funext fun a => match a with | ⟨0, _⟩ => rfl | ⟨1, _⟩ => rfl)).trans ?_
  unfold val_main_v12
  rw [same]
  pointwise

theorem refB : val_main_v15 (F := Ideal) z = resB z := by
  unfold val_main_v15
  refine pad_rows z _ _ (fun i => ?_) fun k => ?_
  · rw [val_main_call0_v0_apply, val_main_c_apply]
    exact congrArg (fun r : ℝ => (r : EReal)) (by norm_num)
  · rw [val_main_v11_apply]
    refine (congrArg (val_main_v10 (F := Ideal) z) (show idx_main_v11 (ix2 0 k) = ix1 k from
      funext fun a => match a with | ⟨0, _⟩ => rfl)).trans ?_
    unfold val_main_v10 val_main_v9 val_main_v8
    exact db_twice z reducesTo_S4x2048x3072_S3072_d0_1 reducesTo_S1x1x3072_S3072_d0_1 shapeCasts_S3072_S1x1x3072
      (Ideal.ofBits_zero .f32) (Ideal.ofBits_zero .f32) k

end Cert.MmTn.R3072
-- ==== Proof.DhFinal.Spec.lean ====
/- The input's gradient of a step: the normalised input's gradient from the seven parts of the in-projection's gradient, through the
   norm, plus the residual's gradient; and the norm weight's gradient, a sum over tokens. -/
module

public import proofs.«01_k».proof.Proof.Common.Tokens
public import Idealize.ShloMosaic.Lib.IdealHost

@[expose] public section

noncomputable section

namespace Cert.DhFinal

open Idealize.ShloMosaic

/-- The number of features, and what the norm adds to the mean square. -/
def width : EReal := Ideal.ofBits .f32 0x44800000#32
def eps : EReal := Ideal.ofBits .f32 0x358637BD#32

variable (x : (⟨3, ![4, 2048, 1024]⟩ : Shape).Idx → EReal) (w : (⟨2, ![1, 1024]⟩ : Shape).Idx → EReal)
  (W : (⟨2, ![1024, 9232]⟩ : Shape).Idx → EReal) (z : (⟨3, ![4, 2048, 8208]⟩ : Shape).Idx → EReal)
  (y : (⟨3, ![4, 2048, 1024]⟩ : Shape).Idx → EReal)

/-- Column `k` of a token's gradient, and of the weight, zero past the end. -/
def zc (e k : ℕ) : EReal := if h : k < 8208 then Tok.tok z e ⟨k, h⟩ else 0
def wc (k : ℕ) (j : Fin 1024) : EReal := if h : k < 9232 then W (ix2 j ⟨k, h⟩) else 0
def term (e : ℕ) (j : Fin 1024) (k : ℕ) : EReal := zc z e k * wc W k j

/-- The normalised input's gradient. -/
def dh (e : ℕ) (j : Fin 1024) : EReal := ∑ k ∈ Finset.range 8208, term W z e j k
/-- The norm's factor of a token. -/
def rr (e : ℕ) : EReal := Ideal.rsqrt (Ideal.div (∑ i : Fin 1024, Tok.tok x e i * Tok.tok x e i) width + eps)
def xn (e : ℕ) (j : Fin 1024) : EReal := Tok.tok x e j * rr x e
def dxn (e : ℕ) (j : Fin 1024) : EReal := dh W z e j * w (ix2 0 j)
def gx (e : ℕ) (j : Fin 1024) : EReal :=
  rr x e * (dxn w W z e j - xn x e j * Ideal.div (∑ i : Fin 1024, dxn w W z e i * xn x e i) width) + Tok.tok y e j
/-- The norm weight's gradient over the first `n` tokens. -/
def gw (n : ℕ) (j : Fin 1024) : EReal := ∑ e ∈ Finset.range n, dh W z e j * xn x e j

def resX : (⟨2, ![8192, 1024]⟩ : Shape).Idx → EReal := fun i => gx x w W z y (i 0).val (i 1)
def resW : (⟨2, ![8, 1024]⟩ : Shape).Idx → EReal := fun i => if (i 0).val = 0 then gw x W z 8192 (i 1) else 0

/-- Where a column of the first part, heads by eights, stands in the in-projection. -/
def perm (k : ℕ) : ℕ := k / 128 % 3 * 1024 + k / 384 * 128 + k % 128

theorem perm_lt {k : ℕ} (h : k < 3072) : perm k < 3072 := by unfold perm; omega

/-- The column standing at `e`. -/
def back (e : ℕ) : ℕ := e / 128 % 8 * 384 + e / 1024 * 128 + e % 128

theorem perm_of {a b c : ℕ} (hb : b < 3) (hc : c < 128) : perm (a * 384 + b * 128 + c) = b * 1024 + a * 128 + c := by
  unfold perm
  rw [show (a * 384 + b * 128 + c) / 128 = a * 3 + b by omega, show (a * 384 + b * 128 + c) / 384 = a by omega,
    show (a * 384 + b * 128 + c) % 128 = c by omega, show (a * 3 + b) % 3 = b by omega]
theorem back_of {a b c : ℕ} (ha : a < 8) (hc : c < 128) : back (b * 1024 + a * 128 + c) = a * 384 + b * 128 + c := by
  unfold back
  rw [show (b * 1024 + a * 128 + c) / 128 = b * 8 + a by omega, show (b * 1024 + a * 128 + c) / 1024 = b by omega,
    show (b * 1024 + a * 128 + c) % 128 = c by omega, show (b * 8 + a) % 8 = a by omega]

theorem sum_perm (f : ℕ → EReal) : ∑ k : Fin 3072, f (perm k.val) = ∑ k ∈ Finset.range 3072, f k := by
  rw [← Finset.sum_range fun k => f (perm k)]
  refine Finset.sum_nbij' perm back (fun k hk => Finset.mem_range.2 (perm_lt (Finset.mem_range.1 hk))) ?_ ?_ ?_ fun _ _ => rfl <;>
    intro k hk <;> have hk := Finset.mem_range.1 hk
  · refine Finset.mem_range.2 ?_; unfold back; omega
  · obtain ⟨a, b, c, ha, hb, hc, rfl⟩ : ∃ a b c, a < 8 ∧ b < 3 ∧ c < 128 ∧ k = a * 384 + b * 128 + c :=
      ⟨k / 384, k / 128 % 3, k % 128, by omega, by omega, by omega, by omega⟩
    rw [perm_of hb hc, back_of ha hc]
  · obtain ⟨a, b, c, ha, hb, hc, rfl⟩ : ∃ a b c, a < 8 ∧ b < 3 ∧ c < 128 ∧ k = b * 1024 + a * 128 + c :=
      ⟨k / 128 % 8, k / 1024, k % 128, by omega, by omega, by omega, by omega⟩
    rw [back_of ha hc, perm_of hb hc]

/-- Of 128 columns only the first sixteen are there. -/
theorem sum_few (f : ℕ → EReal) : ∑ k : Fin 128, (if k.val < 16 then f k.val else 0) = ∑ k ∈ Finset.range 16, f k := by
  rw [← Finset.sum_range fun k => if k < 16 then f k else 0, ← Finset.sum_subset (Finset.range_subset_range.2 (show 16 ≤ 128 by omega)) (fun k _ hk => if_neg (fun h => hk (Finset.mem_range.2 h)))]
  exact Finset.sum_congr rfl fun k hk => if_pos (Finset.mem_range.1 hk)

/-- The seven parts make the whole sum. -/
theorem dh_parts (e : ℕ) (j : Fin 1024) {p0 p1 p2 p3 p4 p5 p6 : EReal}
    (h0 : p0 = ∑ k ∈ Finset.range 3072, term W z e j k) (h1 : p1 = ∑ k ∈ Finset.range 16, term W z e j (3072 + k))
    (h2 : p2 = ∑ k : Fin 1024, term W z e j (3088 + k.val)) (h3 : p3 = ∑ k : Fin 1024, term W z e j (4112 + k.val))
    (h4 : p4 = ∑ k : Fin 1024, term W z e j (5136 + k.val)) (h5 : p5 = ∑ k : Fin 1024, term W z e j (6160 + k.val))
    (h6 : p6 = ∑ k : Fin 1024, term W z e j (7184 + k.val)) : p0 + p1 + p2 + p3 + p4 + p5 + p6 = dh W z e j := by
  have cut (a n : ℕ) (f : ℕ → EReal) : ∑ k ∈ Finset.range (a + n), f k = ∑ k ∈ Finset.range a, f k + ∑ k : Fin n, f (a + k.val) := by
    rw [Finset.sum_range_add, Finset.sum_range fun k => f (a + k)]
  unfold dh
  rw [show 8208 = 7184 + 1024 from rfl, cut, show 7184 = 6160 + 1024 from rfl, cut, show 6160 = 5136 + 1024 from rfl, cut,
    show 5136 = 4112 + 1024 from rfl, cut, show 4112 = 3088 + 1024 from rfl, cut, show 3088 = 3072 + 16 from rfl, Finset.sum_range_add,
    h0, h1, h2, h3, h4, h5, h6]

end Cert.DhFinal
-- ==== Proof.DhFinal.Tile.lean ====
/- The input gradient's tile of 256 tokens, read at an index. -/
module

public import proofs.«01_k».proof.Proof.DhFinal.Spec
public import proofs.«01_k».proof.Proof.Common.Row
public import proofs.«01_k».proof.Proof.Gen.Kernel2Ideal.Skeleton
public import Idealize.ShloMosaic.Lib.Pointwise
public import Idealize.ShloMosaic.Lib.IdealHost

@[expose] public section

noncomputable section

namespace Cert.DhFinal

open Idealize.ShloMosaic Cert.Kernel2Ideal Cert.Kernel2Ideal.Gen

theorem first_at (v3 : Vec Ideal S256x3072 .bf16) (v5 : Vec Ideal S3072x1024 .bf16) (v8 : Vec Ideal S256x128 .bf16) (v10 : Vec Ideal S128x1024 .bf16) (v14 : Vec Ideal S256x1024 .bf16) (v16 : Vec Ideal S1024x1024 .bf16) (v20 : Vec Ideal S256x1024 .bf16) (v22 : Vec Ideal S1024x1024 .bf16) (r : Fin 256) (j : Fin 1024) :
    k0_pay4 (F := Ideal) v3 v5 v8 v10 v14 v16 v20 v22 (ix2 r j)
      = ∑ k, v3 (ix2 r k) * v5 (ix2 k j) + ∑ k, v8 (ix2 r k) * v10 (ix2 k j) + ∑ k, v14 (ix2 r k) * v16 (ix2 k j)
        + ∑ k, v20 (ix2 r k) * v22 (ix2 k j) := by
  pointwise [k0_pay4]

theorem part_at (a : Vec Ideal S256x1024 .bf16) (b : Vec Ideal S1024x1024 .bf16) (r : Fin 256) (j : Fin 1024) :
    k0_pay5 (F := Ideal) a b (ix2 r j) = ∑ k, a (ix2 r k) * b (ix2 k j) := by
  pointwise [k0_pay5]

theorem rest_at (v25 v30 : Vec Ideal S256x1024 .f32) (v32 : Vec Ideal S256x1024 .bf16) (v34 : Vec Ideal S1024x1024 .bf16) (v38 : Vec Ideal S256x1024 .bf16) (v40 : Vec Ideal S1024x1024 .bf16) (r : Fin 256) (j : Fin 1024) :
    k0_pay6 (F := Ideal) v25 v30 v32 v34 v38 v40 (ix2 r j)
      = v25 (ix2 r j) + v30 (ix2 r j) + ∑ k, v32 (ix2 r k) * v34 (ix2 k j) + ∑ k, v38 (ix2 r k) * v40 (ix2 k j) := by
  pointwise [k0_pay6]

theorem factor_at (v : Vec Ideal S256x1024 .f32) (r : Fin 256) :
    k0_pay8 (F := Ideal) v (ix2 r 0) = Ideal.rsqrt (Ideal.div (∑ i, v (ix2 r i) * v (ix2 r i)) width + eps) := by
  pointwise [k0_pay8, k0_pay7, width, eps]

theorem normed_at (v : Vec Ideal S256x1024 .f32) (r : Fin 256) (j : Fin 1024) :
    k0_pay9 (F := Ideal) v (ix2 r j) = v (ix2 r j) * k0_pay8 (F := Ideal) v (ix2 r 0) := by
  unfold k0_pay9
  generalize k0_pay8 (F := Ideal) v = f
  pointwise [k0_pay7]

theorem back_at (v25 v30 : Vec Ideal S256x1024 .f32) (v32 : Vec Ideal S256x1024 .bf16) (v34 : Vec Ideal S1024x1024 .bf16) (v38 : Vec Ideal S256x1024 .bf16) (v40 : Vec Ideal S1024x1024 .bf16) (v : Vec Ideal S256x1024 .f32) (w : Vec Ideal S1x1024 .f32) (r : Fin 256) (j : Fin 1024) :
    k0_pay10 (F := Ideal) v25 v30 v32 v34 v38 v40 v w (ix2 r j)
      = k0_pay8 (F := Ideal) v (ix2 r 0) * (k0_pay6 (F := Ideal) v25 v30 v32 v34 v38 v40 (ix2 r j) * w (ix2 0 j)
        - k0_pay9 (F := Ideal) v (ix2 r j) * Ideal.div (∑ i, k0_pay6 (F := Ideal) v25 v30 v32 v34 v38 v40 (ix2 r i) * w (ix2 0 i)
          * k0_pay9 (F := Ideal) v (ix2 r i)) width) := by
  unfold k0_pay10
  generalize k0_pay8 (F := Ideal) v = f
  generalize k0_pay9 (F := Ideal) v = n
  generalize k0_pay6 (F := Ideal) v25 v30 v32 v34 v38 v40 = d
  pointwise [width]

theorem resid_at (a b : Vec Ideal S256x1024 .f32) (r : Fin 256) (j : Fin 1024) :
    k0_pay1 (F := Ideal) a b (ix2 r j) = a (ix2 r j) + b (ix2 r j) := by
  pointwise [k0_pay1]

theorem rows_at (d n : Vec Ideal S256x1024 .f32) (p : Vec Ideal S1x1024 .f32) (j : Fin 1024) :
    k0_pay2 (F := Ideal) d n p (ix2 0 j) = p (ix2 0 j) + ∑ r : Fin 256, d (ix2 r j) * n (ix2 r j) := by
  pointwise [k0_pay2]

theorem zeros_at (i : S8x1024.Idx) : k0_pay3 (F := Ideal) i = 0 := by
  show Ideal.ofBits .f32 0x00000000#32 = 0
  simp [Ideal.ofBits, Ideal.ieee]

variable {x : (⟨3, ![4, 2048, 1024]⟩ : Shape).Idx → EReal} {w : (⟨2, ![1, 1024]⟩ : Shape).Idx → EReal}
  {W : (⟨2, ![1024, 9232]⟩ : Shape).Idx → EReal} {z : (⟨3, ![4, 2048, 8208]⟩ : Shape).Idx → EReal}
  {y : (⟨3, ![4, 2048, 1024]⟩ : Shape).Idx → EReal} {e0 : ℕ}

/-- What a tile reads: its tokens' rows of the seven parts, the weight's rows, the input, the residual and the norm's weight. -/
structure Reads (x0 : Vec Ideal S256x3072 .bf16) (x1 : Vec Ideal S256x128 .bf16) (x2 x3 x4 x5 x6 : Vec Ideal S256x1024 .bf16)
    (x7 : Vec Ideal S3072x1024 .bf16) (x8 : Vec Ideal S128x1024 .bf16) (x9 x10 x11 x12 x13 : Vec Ideal S1024x1024 .bf16)
    (x15 x16 : Vec Ideal S256x1024 .f32) (x17 : Vec Ideal S1x1024 .f32)
    (x : (⟨3, ![4, 2048, 1024]⟩ : Shape).Idx → EReal) (w : (⟨2, ![1, 1024]⟩ : Shape).Idx → EReal)
    (W : (⟨2, ![1024, 9232]⟩ : Shape).Idx → EReal) (z : (⟨3, ![4, 2048, 8208]⟩ : Shape).Idx → EReal)
    (y : (⟨3, ![4, 2048, 1024]⟩ : Shape).Idx → EReal) (e0 : ℕ) : Prop where
  z0 (r : Fin 256) (k : Fin 3072) : x0 (ix2 r k) = zc z (e0 + r.val) (perm k.val)
  z1 (r : Fin 256) (k : Fin 128) : x1 (ix2 r k) = if k.val < 16 then zc z (e0 + r.val) (3072 + k.val) else 0
  z2 (r : Fin 256) (k : Fin 1024) : x2 (ix2 r k) = zc z (e0 + r.val) (3088 + k.val)
  z3 (r : Fin 256) (k : Fin 1024) : x3 (ix2 r k) = zc z (e0 + r.val) (4112 + k.val)
  z4 (r : Fin 256) (k : Fin 1024) : x4 (ix2 r k) = zc z (e0 + r.val) (5136 + k.val)
  z5 (r : Fin 256) (k : Fin 1024) : x5 (ix2 r k) = zc z (e0 + r.val) (6160 + k.val)
  z6 (r : Fin 256) (k : Fin 1024) : x6 (ix2 r k) = zc z (e0 + r.val) (7184 + k.val)
  w0 (k : Fin 3072) (j : Fin 1024) : x7 (ix2 k j) = wc W (perm k.val) j
  w1 (k : Fin 128) (j : Fin 1024) : x8 (ix2 k j) = if k.val < 16 then wc W (3072 + k.val) j else 0
  w2 (k j : Fin 1024) : x9 (ix2 k j) = wc W (3088 + k.val) j
  w3 (k j : Fin 1024) : x10 (ix2 k j) = wc W (4112 + k.val) j
  w4 (k j : Fin 1024) : x11 (ix2 k j) = wc W (5136 + k.val) j
  w5 (k j : Fin 1024) : x12 (ix2 k j) = wc W (6160 + k.val) j
  w6 (k j : Fin 1024) : x13 (ix2 k j) = wc W (7184 + k.val) j
  inp (r : Fin 256) (j : Fin 1024) : x15 (ix2 r j) = Tok.tok x (e0 + r.val) j
  res (r : Fin 256) (j : Fin 1024) : x16 (ix2 r j) = Tok.tok y (e0 + r.val) j
  nw (j : Fin 1024) : x17 (ix2 0 j) = w (ix2 0 j)

variable {x0 : Vec Ideal S256x3072 .bf16} {x1 : Vec Ideal S256x128 .bf16} {x2 x3 x4 x5 x6 : Vec Ideal S256x1024 .bf16}
    {x7 : Vec Ideal S3072x1024 .bf16} {x8 : Vec Ideal S128x1024 .bf16} {x9 x10 x11 x12 x13 : Vec Ideal S1024x1024 .bf16}
    {x15 x16 : Vec Ideal S256x1024 .f32} {x17 : Vec Ideal S1x1024 .f32}
    (h : Reads x0 x1 x2 x3 x4 x5 x6 x7 x8 x9 x10 x11 x12 x13 x15 x16 x17 x w W z y e0)

include h

theorem dh_tile (r : Fin 256) (j : Fin 1024) :
    k0_pay6 (F := Ideal) (k0_pay4 x0 x7 x1 x8 x2 x9 x3 x10) (k0_pay5 x4 x11) x5 x12 x6 x13 (ix2 r j) = dh W z (e0 + r.val) j := by
  rw [rest_at, first_at, part_at]
  refine dh_parts W z (e0 + r.val) j ?_ ?_ ?_ ?_ ?_ ?_ ?_
  · rw [← sum_perm (term W z (e0 + r.val) j)]
    exact Finset.sum_congr rfl fun k _ => congrArg₂ (· * ·) (h.z0 r k) (h.w0 k j)
  · rw [← sum_few fun k => term W z (e0 + r.val) j (3072 + k)]
    refine Finset.sum_congr rfl fun k _ => (congrArg₂ (· * ·) (h.z1 r k) (h.w1 k j)).trans ?_
    by_cases hk : k.val < 16
    · rw [if_pos hk, if_pos hk, if_pos hk]; rfl
    · rw [if_neg hk, if_neg hk, if_neg hk, zero_mul]
  · exact Finset.sum_congr rfl fun k _ => congrArg₂ (· * ·) (h.z2 r k) (h.w2 k j)
  · exact Finset.sum_congr rfl fun k _ => congrArg₂ (· * ·) (h.z3 r k) (h.w3 k j)
  · exact Finset.sum_congr rfl fun k _ => congrArg₂ (· * ·) (h.z4 r k) (h.w4 k j)
  · exact Finset.sum_congr rfl fun k _ => congrArg₂ (· * ·) (h.z5 r k) (h.w5 k j)
  · exact Finset.sum_congr rfl fun k _ => congrArg₂ (· * ·) (h.z6 r k) (h.w6 k j)

theorem rr_tile (r : Fin 256) : k0_pay8 (F := Ideal) x15 (ix2 r 0) = rr x (e0 + r.val) := by
  rw [factor_at]
  exact congrArg (fun s => Ideal.rsqrt (Ideal.div s width + eps)) (Finset.sum_congr rfl fun k _ => congrArg₂ (· * ·) (h.inp r k) (h.inp r k))

theorem xn_tile (r : Fin 256) (j : Fin 1024) : k0_pay9 (F := Ideal) x15 (ix2 r j) = xn x (e0 + r.val) j := by
  rw [normed_at, rr_tile h, h.inp]; rfl

theorem gx_tile (r : Fin 256) (j : Fin 1024) :
    k0_pay1 (F := Ideal) (k0_pay10 (k0_pay4 x0 x7 x1 x8 x2 x9 x3 x10) (k0_pay5 x4 x11) x5 x12 x6 x13 x15 x17) x16 (ix2 r j)
      = gx x w W z y (e0 + r.val) j := by
  rw [resid_at, back_at, rr_tile h, xn_tile h, dh_tile h, h.res, h.nw,
    Finset.sum_congr rfl fun i (_ : i ∈ Finset.univ) => congrArg₂ (· * ·) (congrArg₂ (· * ·) (dh_tile h r i) (h.nw i)) (xn_tile h r i)]
  rfl

/-- One tile more in the norm weight's gradient. -/
theorem gw_tile {p : Vec Ideal S8x1024 .f32} {k : ℕ} (hk : e0 = 256 * k)
    (hp : ∀ (r : Fin 8) (i : Fin 1024), p (ix2 r i) = if r.val = 0 then gw x W z (256 * k) i else 0) (r : Fin 8) (i : Fin 1024) :
    Row.setTop p (k0_pay2 (F := Ideal) (k0_pay6 (F := Ideal) (k0_pay4 x0 x7 x1 x8 x2 x9 x3 x10) (k0_pay5 x4 x11) x5 x12 x6 x13)
        (k0_pay9 (F := Ideal) x15) (Row.top p)) (ix2 r i)
      = if r.val = 0 then gw x W z (256 * (k + 1)) i else 0 := by
  by_cases hr : r.val = 0
  · obtain rfl : r = 0 := Fin.ext hr
    rw [Row.set_zero, if_pos hr]
    refine (rows_at _ _ _ i).trans (Tok.sum_block (fun e => dh W z e i * xn x e i) 256 k (hp 0 i) fun r => ?_)
    subst hk
    exact congrArg₂ (· * ·) (dh_tile h r i) (xn_tile h r i)
  · rw [Row.set_pos _ _ r hr, hp r i, if_neg hr, if_neg hr]

end Cert.DhFinal
-- ==== Proof.DhFinal.Runs.lean ====
/- What a grid point of the input's gradient leaves in its two results. -/
module

public import proofs.«01_k».proof.Proof.DhFinal.Tile
public import proofs.«01_k».proof.Proof.Gen.Kernel2Ideal.Value

@[expose] public section

noncomputable section

namespace Cert.DhFinal

open Idealize.ShloMosaic Cert.Kernel2Ideal Cert.Kernel2Ideal.Gen

variable {F : FTy → Type} [FloatOps F]
variable (c : Dev nD) (i : grid0.Coords) (arg1 : Memref sig .tc .vmem S256x3072 .bf16) (harg1 : arg1.IsWhole) (arg2 : Memref sig .tc .vmem S256x128 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S3072x1024 .bf16) (harg8 : arg8.IsWhole) (arg9 : Memref sig .tc .vmem S128x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S8x128 .f32) (harg15 : arg15.IsWhole) (arg16 : Memref sig .tc .vmem S256x1024 .f32) (harg16 : arg16.IsWhole) (arg17 : Memref sig .tc .vmem S256x1024 .f32) (harg17 : arg17.IsWhole) (arg18 : Memref sig .tc .vmem S1x1024 .f32) (harg18 : arg18.IsWhole) (arg19 : Memref sig .tc .vmem S256x1024 .f32) (harg19 : arg19.IsWhole) (arg20 : Memref sig .tc .vmem S8x1024 .f32) (harg20 : arg20.IsWhole)
variable (x0 : Vec F S256x3072 .bf16) (x1 : Vec F S256x128 .bf16) (x2 : Vec F S256x1024 .bf16) (x3 : Vec F S256x1024 .bf16) (x4 : Vec F S256x1024 .bf16) (x5 : Vec F S256x1024 .bf16) (x6 : Vec F S256x1024 .bf16) (x7 : Vec F S3072x1024 .bf16) (x8 : Vec F S128x1024 .bf16) (x9 : Vec F S1024x1024 .bf16) (x10 : Vec F S1024x1024 .bf16) (x11 : Vec F S1024x1024 .bf16) (x12 : Vec F S1024x1024 .bf16) (x13 : Vec F S1024x1024 .bf16) (x14 : Vec F S8x128 .f32) (x15 : Vec F S256x1024 .f32) (x16 : Vec F S256x1024 .f32) (x17 : Vec F S1x1024 .f32) (xo19 : Vec F S8x1024 .f32)

/-- The normalised input's gradient of the tile, and the input's. -/
def dhB (x0 : Vec F S256x3072 .bf16) (x1 : Vec F S256x128 .bf16) (x2 x3 x4 x5 x6 : Vec F S256x1024 .bf16)
    (x7 : Vec F S3072x1024 .bf16) (x8 : Vec F S128x1024 .bf16) (x9 x10 x11 x12 x13 : Vec F S1024x1024 .bf16) : Vec F S256x1024 .f32 :=
  k0_pay6 (k0_pay4 x0 x7 x1 x8 x2 x9 x3 x10) (k0_pay5 x4 x11) x5 x12 x6 x13
def gxB (x0 : Vec F S256x3072 .bf16) (x1 : Vec F S256x128 .bf16) (x2 x3 x4 x5 x6 : Vec F S256x1024 .bf16)
    (x7 : Vec F S3072x1024 .bf16) (x8 : Vec F S128x1024 .bf16) (x9 x10 x11 x12 x13 : Vec F S1024x1024 .bf16)
    (x15 x16 : Vec F S256x1024 .f32) (x17 : Vec F S1x1024 .f32) : Vec F S256x1024 .f32 :=
  k0_pay1 (k0_pay10 (k0_pay4 x0 x7 x1 x8 x2 x9 x3 x10) (k0_pay5 x4 x11) x5 x12 x6 x13 x15 x17) x16

theorem outA18 (hc0 : cond0_0 i) : out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  hc0 x0 x1 x2 x3 x4 x5 x6 x7 x8 x9 x10 x11 x12 x13 x14 x15 x16 x17 = gxB x0 x1 x2 x3 x4 x5 x6 x7 x8 x9 x10 x11 x12 x13 x15 x16 x17 := by
  unfold out0_A_18 kernelRun0_A
  dsimp only
  refine (View.read_writes_full _ _ _ _ _).trans ?_
  simp only [kernelRun0_A.sl.r_5, kernelRun0_A.sl.r_4, kernelRun0_A.sl.r_3, kernelRun0_A.sl.r_2, kernelRun0_A.sl.r_1, kernelRun0_A.sl.r]
  rw [Row.whole arg1 harg1, Row.whole arg2 harg2, Row.whole arg3 harg3, Row.whole arg4 harg4, Row.whole arg5 harg5, Row.whole arg6 harg6, Row.whole arg7 harg7,
    Row.whole arg8 harg8, Row.whole arg9 harg9, Row.whole arg10 harg10, Row.whole arg11 harg11, Row.whole arg12 harg12, Row.whole arg13 harg13, Row.whole arg14 harg14,
    Row.whole arg16 harg16, Row.whole arg17 harg17, Row.whole arg18 harg18]
  rfl

theorem outB18 (hc0 : ¬ cond0_0 i) : out0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  hc0 x0 x1 x2 x3 x4 x5 x6 x7 x8 x9 x10 x11 x12 x13 x14 x15 x16 x17 xo19 = gxB x0 x1 x2 x3 x4 x5 x6 x7 x8 x9 x10 x11 x12 x13 x15 x16 x17 := by
  unfold out0_B_18 kernelRun0_B
  dsimp only
  refine (View.read_writes_full _ _ _ _ _).trans ?_
  simp only [kernelRun0_B.sl.r_5, kernelRun0_B.sl.r_4, kernelRun0_B.sl.r_3, kernelRun0_B.sl.r_2, kernelRun0_B.sl.r_1, kernelRun0_B.sl.r]
  rw [Row.whole arg1 harg1, Row.whole arg2 harg2, Row.whole arg3 harg3, Row.whole arg4 harg4, Row.whole arg5 harg5, Row.whole arg6 harg6, Row.whole arg7 harg7,
    Row.whole arg8 harg8, Row.whole arg9 harg9, Row.whole arg10 harg10, Row.whole arg11 harg11, Row.whole arg12 harg12, Row.whole arg13 harg13, Row.whole arg14 harg14,
    Row.whole arg16 harg16, Row.whole arg17 harg17, Row.whole arg18 harg18]
  rfl

theorem outA19 (hc0 : cond0_0 i) : out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  hc0 x0 x1 x2 x3 x4 x5 x6 x7 x8 x9 x10 x11 x12 x13 x14 x15 x16 x17
    = Row.setTop (k0_pay3 (F := F)) (k0_pay2 (dhB x0 x1 x2 x3 x4 x5 x6 x7 x8 x9 x10 x11 x12 x13) (k0_pay9 x15) (Row.top (k0_pay3 (F := F)))) := by
  unfold out0_A_19 kernelRun0_A
  dsimp only
  simp only [kernelRun0_A.sl.r_5, kernelRun0_A.sl.r_4, kernelRun0_A.sl.r_3, kernelRun0_A.sl.r_2, kernelRun0_A.sl.r_1, kernelRun0_A.sl.r, kernelRun0_A.sl.v73, kernelRun0_A.sl.H19_1]
  rw [Row.whole arg1 harg1, Row.whole arg2 harg2, Row.whole arg3 harg3, Row.whole arg4 harg4, Row.whole arg5 harg5, Row.whole arg6 harg6, Row.whole arg7 harg7,
    Row.whole arg8 harg8, Row.whole arg9 harg9, Row.whole arg10 harg10, Row.whole arg11 harg11, Row.whole arg12 harg12, Row.whole arg13 harg13, Row.whole arg14 harg14,
    Row.whole arg16 harg16]
  refine (Row.write_top _ _ _ _ _).trans (congrArg₂ Row.setTop ?_ (congrArg (k0_pay2 (dhB x0 x1 x2 x3 x4 x5 x6 x7 x8 x9 x10 x11 x12 x13) (k0_pay9 x15)) ?_))
  · exact View.read_writes_full _ _ _ _ _
  · exact Row.top_written arg20.view _ _ _ _

theorem outB19 (hc0 : ¬ cond0_0 i) : out0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  hc0 x0 x1 x2 x3 x4 x5 x6 x7 x8 x9 x10 x11 x12 x13 x14 x15 x16 x17 xo19
    = Row.setTop xo19 (k0_pay2 (dhB x0 x1 x2 x3 x4 x5 x6 x7 x8 x9 x10 x11 x12 x13) (k0_pay9 x15) (Row.top xo19)) := by
  unfold out0_B_19 kernelRun0_B
  dsimp only
  simp only [kernelRun0_B.sl.r_5, kernelRun0_B.sl.r_4, kernelRun0_B.sl.r_3, kernelRun0_B.sl.r_2, kernelRun0_B.sl.r_1, kernelRun0_B.sl.r]
  rw [Row.whole arg1 harg1, Row.whole arg2 harg2, Row.whole arg3 harg3, Row.whole arg4 harg4, Row.whole arg5 harg5, Row.whole arg6 harg6, Row.whole arg7 harg7,
    Row.whole arg8 harg8, Row.whole arg9 harg9, Row.whole arg10 harg10, Row.whole arg11 harg11, Row.whole arg12 harg12, Row.whole arg13 harg13, Row.whole arg14 harg14,
    Row.whole arg16 harg16]
  rw [Row.read_top arg20 harg20]
  refine (Row.write_top _ _ _ _ _).trans ?_
  rw [View.writes_nil, harg20.read_unread]
  rfl

end Cert.DhFinal
-- ==== Proof.DhFinal.Host.lean ====
/- What the program before the call makes of the gradient and of the in-projection's weight: the seven parts, the first with its
   heads by eights, the second filled with zero columns. -/
module

public import proofs.«01_k».proof.Proof.DhFinal.Spec
public import proofs.«01_k».proof.Proof.Gen.Kernel2Ideal.Skeleton
public import Idealize.ShloMosaic.Lib.KernelVsHost

@[expose] public section

noncomputable section

namespace Cert.DhFinal

open Idealize.ShloMosaic Cert.Kernel2Ideal

variable (W : (⟨2, ![1024, 9232]⟩ : Shape).Idx → EReal) (z : (⟨3, ![4, 2048, 8208]⟩ : Shape).Idx → EReal)

/-- A part cut out of an array of two axes. -/
theorem cut_at {n m p q : ℕ} (a b : ℕ) (X : (⟨2, ![n, m]⟩ : Shape).Idx → EReal) (hs) (i : Fin p) (j : Fin q) (hi : a + i.val < n) (hj : b + j.val < m) :
    extractStridedSlice (⟨2, ![p, q]⟩ : Shape) ![a, b] X hs (ix2 i j) = X (ix2 ⟨a + i.val, hi⟩ ⟨b + j.val, hj⟩) :=
  congrArg X (funext fun a => match a with | ⟨0, _⟩ => rfl | ⟨1, _⟩ => rfl)

/-- Columns beyond the sixteenth are zeros. -/
theorem few_at (X : S8192x16.Idx → EReal) {s0 : Shape} (c : s0.Idx → EReal) (hp) (hs) (hc : ∀ i, c i = 0) (e : Fin 8192) (k : Fin 128) :
    pad S8192x128 ![0, 0] ![0, 112] ![0, 0] X c hp hs (ix2 e k) = if h : k.val < 16 then X (ix2 e ⟨k.val, h⟩) else 0 := by
  by_cases h : k.val < 16
  · rw [dif_pos h]
    exact pad_apply_of_inside _ _ _ X _ _ _ _ (ix2 e ⟨k.val, h⟩) fun a => match a with
      | ⟨0, _⟩ => show e.val = 0 + e.val * 1 by omega
      | ⟨1, _⟩ => show k.val = 0 + k.val * 1 by omega
  · rw [dif_neg h]
    refine (pad_apply_of_not_inside _ _ _ X _ _ _ _ 1 fun hin => h ?_).trans (hc _)
    have := hin.2.2
    change (k.val - 0) / 1 < 16 at this
    omega

/-- Rows beyond the sixteenth are zeros. -/
theorem fewRows_at (X : S16x1024.Idx → EReal) {s0 : Shape} (c : s0.Idx → EReal) (hp) (hs) (hc : ∀ i, c i = 0) (k : Fin 128) (j : Fin 1024) :
    pad S128x1024 ![0, 0] ![112, 0] ![0, 0] X c hp hs (ix2 k j) = if h : k.val < 16 then X (ix2 ⟨k.val, h⟩ j) else 0 := by
  by_cases h : k.val < 16
  · rw [dif_pos h]
    exact pad_apply_of_inside _ _ _ X _ _ _ _ (ix2 ⟨k.val, h⟩ j) fun a => match a with
      | ⟨0, _⟩ => show k.val = 0 + k.val * 1 by omega
      | ⟨1, _⟩ => show j.val = 0 + j.val * 1 by omega
  · rw [dif_neg h]
    refine (pad_apply_of_not_inside _ _ _ X _ _ _ _ 0 fun hin => h ?_).trans (hc _)
    have := hin.2.2
    change (k.val - 0) / 1 < 16 at this
    omega

/-- The gradient with its tokens in one axis. -/
theorem grad_at (hc) (e : Fin 8192) (k : Fin 8208) :
    shapeCast S8192x8208 z hc (ix2 e k) = zc z e.val k.val := by
  refine (Tok.flat_at z hc e k).trans ?_
  unfold zc
  rw [dif_pos k.2]

/-- The weight with its columns as rows. -/
theorem weight_at (ht) (k : Fin 9232) (j : Fin 1024) : transpose S9232x1024 [1, 0] W ht (ix2 k j) = wc W k.val j := by
  unfold wc
  rw [dif_pos k.2]
  exact congrArg W (funext fun a => match a with | ⟨0, _⟩ => rfl | ⟨1, _⟩ => rfl)

/-- The first part of the gradient. -/
theorem heads_at (X : S8192x3072.Idx → EReal) (h1) (h2) (h3) (e : Fin 8192) (k : Fin 3072) :
    shapeCast S8192x3072 (transpose S8192x8x3x128 [0, 2, 1, 3] (shapeCast S8192x3x8x128 X h1) h2) h3 (ix2 e k)
      = X (ix2 e ⟨perm k.val, perm_lt k.2⟩) := by
  have hk := k.2
  refine (shapeCast_apply _ _ _ (ix4 e (⟨k.val / 384, by omega⟩ : Fin 8) (⟨k.val / 128 % 3, by omega⟩ : Fin 3) (⟨k.val % 128, by omega⟩ : Fin 128)) ?_).trans ?_
  · rw [Shape.rowMajor_val_four, Shape.rowMajor_val_two]
    show ((e.val * 8 + k.val / 384) * 3 + k.val / 128 % 3) * 128 + k.val % 128 = e.val * 3072 + k.val
    omega
  · refine Eq.trans (congrArg (shapeCast S8192x3x8x128 X h1) (show _ = ix4 e (⟨k.val / 128 % 3, by omega⟩ : Fin 3) (⟨k.val / 384, by omega⟩ : Fin 8) (⟨k.val % 128, by omega⟩ : Fin 128) from
      funext fun a => match a with | ⟨0, _⟩ => rfl | ⟨1, _⟩ => rfl | ⟨2, _⟩ => rfl | ⟨3, _⟩ => rfl)) (shapeCast_apply _ _ _ _ ?_)
    rw [Shape.rowMajor_val_four, Shape.rowMajor_val_two]
    show e.val * 3072 + perm k.val = ((e.val * 3 + k.val / 128 % 3) * 8 + k.val / 384) * 128 + k.val % 128
    unfold perm
    omega

/-- The first part of the weight. -/
theorem headRows_at (X : S3072x1024.Idx → EReal) (h1) (h2) (h3) (k : Fin 3072) (j : Fin 1024) :
    shapeCast S3072x1024 (transpose S8x3x128x1024 [1, 0, 2, 3] (shapeCast S3x8x128x1024 X h1) h2) h3 (ix2 k j)
      = X (ix2 ⟨perm k.val, perm_lt k.2⟩ j) := by
  have hk := k.2
  refine (shapeCast_apply _ _ _ (ix4 (⟨k.val / 384, by omega⟩ : Fin 8) (⟨k.val / 128 % 3, by omega⟩ : Fin 3) (⟨k.val % 128, by omega⟩ : Fin 128) j) ?_).trans ?_
  · rw [Shape.rowMajor_val_four, Shape.rowMajor_val_two]
    show ((k.val / 384 * 3 + k.val / 128 % 3) * 128 + k.val % 128) * 1024 + j.val = k.val * 1024 + j.val
    omega
  · refine Eq.trans (congrArg (shapeCast S3x8x128x1024 X h1) (show _ = ix4 (⟨k.val / 128 % 3, by omega⟩ : Fin 3) (⟨k.val / 384, by omega⟩ : Fin 8) (⟨k.val % 128, by omega⟩ : Fin 128) j from
      funext fun a => match a with | ⟨0, _⟩ => rfl | ⟨1, _⟩ => rfl | ⟨2, _⟩ => rfl | ⟨3, _⟩ => rfl)) (shapeCast_apply _ _ _ _ ?_)
    rw [Shape.rowMajor_val_four, Shape.rowMajor_val_two]
    show perm k.val * 1024 + j.val = ((k.val / 128 % 3 * 8 + k.val / 384) * 128 + k.val % 128) * 1024 + j.val
    unfold perm
    omega

end Cert.DhFinal
-- ==== Proof.DhFinal.Final.lean ====
/- The input's gradient and the norm weight's gradient over the 32 tiles of 256 tokens. -/
module

public import proofs.«01_k».proof.Proof.DhFinal.Runs
public import proofs.«01_k».proof.Proof.DhFinal.Host
public import Idealize.ShloMosaic.Lib.Pipeline.ValueKit
public import Idealize.ShloMosaic.Lib.StableHlo.ReadAt

@[expose] public section

noncomputable section

namespace Cert.DhFinal

open Idealize.ShloMosaic Idealize.ShloMosaic.TcCoe Idealize.SL.Sem Cert.Kernel2Ideal Cert.Kernel2Ideal.Gen

theorem idxT : ∀ t : Fin cfg0.N, (((win0_0.index t = ![t.val, 0] ∧ win0_1.index t = ![t.val, 0]) ∧ win0_2.index t = ![t.val, 0] ∧ win0_3.index t = ![t.val, 0])
    ∧ (win0_4.index t = ![t.val, 0] ∧ win0_5.index t = ![t.val, 0]) ∧ win0_6.index t = ![t.val, 0])
    ∧ (win0_15.index t = ![t.val, 0] ∧ win0_16.index t = ![t.val, 0]) ∧ win0_18.index t = ![t.val, 0] ∧ win0_19.index t = ![0, 0] :=
  (by decide +kernel : ∀ t : Fin grid0.N, _)
theorem idxW : ∀ t : Fin cfg0.N, (((win0_7.index t = ![0, 0] ∧ win0_8.index t = ![0, 0]) ∧ win0_9.index t = ![0, 0] ∧ win0_10.index t = ![0, 0])
    ∧ (win0_11.index t = ![0, 0] ∧ win0_12.index t = ![0, 0]) ∧ win0_13.index t = ![0, 0]) ∧ win0_17.index t = ![0, 0] :=
  (by decide +kernel : ∀ t : Fin grid0.N, _)

variable (m : (ℓ : Loc nD τ sig) → Buf (Elt Ideal) ℓ) (c : Dev nD) (t : Fin cfg0.N)

/-- The five arguments. -/
def aX : Vec Ideal S4x2048x1024 .f32 := m ((c.tc : Thread nD τ).loc main_arg0)
def aN : Vec Ideal S1x1024 .f32 := m ((c.tc : Thread nD τ).loc main_arg1)
def aW : Vec Ideal S1024x9232 .f32 := m ((c.tc : Thread nD τ).loc main_arg2)
def aZ : Vec Ideal S4x2048x8208 .f32 := m ((c.tc : Thread nD τ).loc main_arg3)
def aY : Vec Ideal S4x2048x1024 .f32 := m ((c.tc : Thread nD τ).loc main_arg4)

/-- The gradient with its tokens in one axis, and the weight with its columns as rows. -/
def zF : S8192x8208.Idx → EReal := shapeCast S8192x8208 (aZ m c) shapeCasts_S4x2048x8208_S8192x8208
def wF : S9232x1024.Idx → EReal := transpose S9232x1024 [1, 0] (aW m c) transposes_S1024x9232_S9232x1024_1_0

theorem zF_at (e : Fin 8192) (k : Fin 8208) : zF m c (ix2 e k) = zc (aZ m c) e.val k.val := grad_at _ _ e k
theorem wF_at (k : Fin 9232) (j : Fin 1024) : wF m c (ix2 k j) = wc (aW m c) k.val j := weight_at _ _ k j

theorem V14 : (V m c main_v14 : Vec Ideal S8192x3072 .bf16) = shapeCast S8192x3072 (transpose S8192x8x3x128 [0, 2, 1, 3]
    (shapeCast S8192x3x8x128 (extractStridedSlice S8192x3072 ![0, 0] (zF m c) slices_S8192x8208_S8192x3072_0_0) shapeCasts_S8192x3072_S8192x3x8x128)
    transposes_S8192x3x8x128_S8192x8x3x128_0_2_1_3) shapeCasts_S8192x8x3x128_S8192x3072 := by
  unfold V zF aZ
  after_reads_simp
  rfl
theorem V5 : (V m c main_v5 : Vec Ideal S3072x1024 .bf16) = shapeCast S3072x1024 (transpose S8x3x128x1024 [1, 0, 2, 3]
    (shapeCast S3x8x128x1024 (extractStridedSlice S3072x1024 ![0, 0] (wF m c) slices_S9232x1024_S3072x1024_0_0) shapeCasts_S3072x1024_S3x8x128x1024)
    transposes_S3x8x128x1024_S8x3x128x1024_1_0_2_3) shapeCasts_S8x3x128x1024_S3072x1024 := by
  unfold V wF aW
  after_reads_simp
  rfl
theorem V29 : (V m c main_v29 : Vec Ideal S8192x1024 .f32) = shapeCast S8192x1024 (aX m c) shapeCasts_S4x2048x1024_S8192x1024 := by
  unfold V aX
  after_reads_simp
  rfl
theorem V30 : (V m c main_v30 : Vec Ideal S8192x1024 .f32) = shapeCast S8192x1024 (aY m c) shapeCasts_S4x2048x1024_S8192x1024 := by
  unfold V aY
  after_reads_simp
  rfl
theorem V16 : (V m c main_v16 : Vec Ideal S8192x128 .bf16) = pad S8192x128 ![0, 0] ![0, 112] ![0, 0]
    (extractStridedSlice S8192x16 ![0, 3072] (zF m c) slices_S8192x8208_S8192x16_0_3072 : Vec Ideal S8192x16 .bf16)
    (sitofp (F := Ideal) .bf16 (constantI S_ 32 0#32) : Vec Ideal S_ .bf16) pads_S8192x16_S8192x128_000_01120 h_S_ := by
  unfold V zF aZ
  after_reads_simp
  rfl
theorem V7 : (V m c main_v7 : Vec Ideal S128x1024 .bf16) = pad S128x1024 ![0, 0] ![112, 0] ![0, 0]
    (extractStridedSlice S16x1024 ![3072, 0] (wF m c) slices_S9232x1024_S16x1024_3072_0 : Vec Ideal S16x1024 .bf16)
    (sitofp (F := Ideal) .bf16 (constantI S_ 32 0#32) : Vec Ideal S_ .bf16) pads_S16x1024_S128x1024_01120_000 h_S_ := by
  unfold V wF aW
  after_reads_simp
  rfl

theorem zero_at (i : S_.Idx) : (sitofp (F := Ideal) .bf16 (constantI S_ 32 0#32) : Vec Ideal S_ .bf16) i = 0 :=
  congrArg (fun r : ℝ => (r : EReal)) (show ((((0#32 : BitVec 32).toInt : ℤ) : ℝ)) = 0 by norm_num)

theorem twice_at (o : ℕ) (ho : o ≤ 4096) (h1) (h2) (e : Fin 8192) (k : Fin 1024) (hk : o + k.val < 5120) :
    extractStridedSlice S8192x1024 ![0, o] (extractStridedSlice S8192x5120 ![0, 3088] (zF m c) h1) h2 (ix2 e k)
      = zc (aZ m c) e.val (3088 + o + k.val) := by
  have he := e.2
  refine (cut_at 0 o _ h2 e k (by omega) hk).trans ((cut_at 0 3088 _ h1 _ _ (by show 0 + (0 + e.val) < 8192; omega) (by show 3088 + (o + k.val) < 8208; omega)).trans ?_)
  refine (zF_at m c _ _).trans ?_
  show zc _ (0 + (0 + e.val)) (3088 + (o + k.val)) = _
  rw [Nat.zero_add, Nat.zero_add, Nat.add_assoc]
theorem twiceRows_at (o : ℕ) (ho : o ≤ 4096) (h1) (h2) (k j : Fin 1024) (hk : o + k.val < 5120) :
    extractStridedSlice S1024x1024 ![o, 0] (extractStridedSlice S5120x1024 ![3088, 0] (wF m c) h1) h2 (ix2 k j)
      = wc (aW m c) (3088 + o + k.val) j := by
  have hj := j.2
  refine (cut_at o 0 _ h2 k j hk (by omega)).trans ((cut_at 3088 0 _ h1 _ _ (by show 3088 + (o + k.val) < 9232; omega) (by show 0 + (0 + j.val) < 1024; omega)).trans ?_)
  refine (wF_at m c _ _).trans ?_
  show wc _ (3088 + (o + k.val)) ⟨0 + (0 + j.val), _⟩ = _
  simp only [Nat.zero_add, Nat.add_assoc]

theorem V14_at (e : Fin 8192) (k : Fin 3072) : (V m c main_v14 : Vec Ideal S8192x3072 .bf16) (ix2 e k) = zc (aZ m c) e.val (perm k.val) := by
  have he := e.2
  have hk := perm_lt k.2
  refine (congrFun (V14 m c) _).trans ((heads_at _ _ _ _ e k).trans ((cut_at 0 0 _ _ _ _ (by omega) (by show 0 + perm k.val < 8208; omega)).trans ((zF_at m c _ _).trans ?_)))
  show zc _ (0 + e.val) (0 + perm k.val) = _
  rw [Nat.zero_add, Nat.zero_add]
theorem V5_at (k : Fin 3072) (j : Fin 1024) : (V m c main_v5 : Vec Ideal S3072x1024 .bf16) (ix2 k j) = wc (aW m c) (perm k.val) j := by
  have hj := j.2
  have hk := perm_lt k.2
  refine (congrFun (V5 m c) _).trans ((headRows_at _ _ _ _ k j).trans ((cut_at 0 0 _ _ _ _ (by show 0 + perm k.val < 9232; omega) (by omega)).trans ((wF_at m c _ _).trans ?_)))
  show wc _ (0 + perm k.val) ⟨0 + j.val, _⟩ = _
  simp only [Nat.zero_add]
theorem V16_at (e : Fin 8192) (k : Fin 128) : (V m c main_v16 : Vec Ideal S8192x128 .bf16) (ix2 e k)
    = if k.val < 16 then zc (aZ m c) e.val (3072 + k.val) else 0 := by
  have he := e.2
  refine (congrFun (V16 m c) _).trans ((few_at _ _ _ _ zero_at e k).trans ?_)
  by_cases h : k.val < 16
  · rw [dif_pos h, if_pos h]
    refine (cut_at 0 3072 _ _ _ _ (by omega) (by show 3072 + k.val < 8208; omega)).trans ((zF_at m c _ _).trans ?_)
    show zc _ (0 + e.val) (3072 + k.val) = _
    rw [Nat.zero_add]
  · rw [dif_neg h, if_neg h]
theorem V7_at (k : Fin 128) (j : Fin 1024) : (V m c main_v7 : Vec Ideal S128x1024 .bf16) (ix2 k j)
    = if k.val < 16 then wc (aW m c) (3072 + k.val) j else 0 := by
  have hj := j.2
  refine (congrFun (V7 m c) _).trans ((fewRows_at _ _ _ _ zero_at k j).trans ?_)
  by_cases h : k.val < 16
  · rw [dif_pos h, if_pos h]
    refine (cut_at 3072 0 _ _ _ _ (by show 3072 + k.val < 9232; omega) (by omega)).trans ((wF_at m c _ _).trans ?_)
    show wc _ (3072 + k.val) ⟨0 + j.val, _⟩ = _
    simp only [Nat.zero_add]
  · rw [dif_neg h, if_neg h]
theorem V18_at (e : Fin 8192) (k : Fin 1024) : (V m c main_v18 : Vec Ideal S8192x1024 .bf16) (ix2 e k) = zc (aZ m c) e.val (3088 + k.val) := by
  have h : (V m c main_v18 : Vec Ideal S8192x1024 .bf16) = extractStridedSlice S8192x1024 ![0, 0] (extractStridedSlice S8192x5120 ![0, 3088] (zF m c)
      slices_S8192x8208_S8192x5120_0_3088) slices_S8192x5120_S8192x1024_0_0 := by
    unfold V zF aZ
    after_reads_simp
    rfl
  exact (congrFun h _).trans (twice_at m c 0 (by omega) _ _ e k (by omega))
theorem V19_at (k j : Fin 1024) : (V m c main_v19 : Vec Ideal S1024x1024 .bf16) (ix2 k j) = wc (aW m c) (3088 + k.val) j := by
  have h : (V m c main_v19 : Vec Ideal S1024x1024 .bf16) = extractStridedSlice S1024x1024 ![0, 0] (extractStridedSlice S5120x1024 ![3088, 0] (wF m c)
      slices_S9232x1024_S5120x1024_3088_0) slices_S5120x1024_S1024x1024_0_0 := by
    unfold V wF aW
    after_reads_simp
    rfl
  exact (congrFun h _).trans (twiceRows_at m c 0 (by omega) _ _ k j (by omega))
theorem V20_at (e : Fin 8192) (k : Fin 1024) : (V m c main_v20 : Vec Ideal S8192x1024 .bf16) (ix2 e k) = zc (aZ m c) e.val (4112 + k.val) := by
  have h : (V m c main_v20 : Vec Ideal S8192x1024 .bf16) = extractStridedSlice S8192x1024 ![0, 1024] (extractStridedSlice S8192x5120 ![0, 3088] (zF m c)
      slices_S8192x8208_S8192x5120_0_3088) slices_S8192x5120_S8192x1024_0_1024 := by
    unfold V zF aZ
    after_reads_simp
    rfl
  exact (congrFun h _).trans (twice_at m c 1024 (by omega) _ _ e k (by omega))
theorem V21_at (k j : Fin 1024) : (V m c main_v21 : Vec Ideal S1024x1024 .bf16) (ix2 k j) = wc (aW m c) (4112 + k.val) j := by
  have h : (V m c main_v21 : Vec Ideal S1024x1024 .bf16) = extractStridedSlice S1024x1024 ![1024, 0] (extractStridedSlice S5120x1024 ![3088, 0] (wF m c)
      slices_S9232x1024_S5120x1024_3088_0) slices_S5120x1024_S1024x1024_1024_0 := by
    unfold V wF aW
    after_reads_simp
    rfl
  exact (congrFun h _).trans (twiceRows_at m c 1024 (by omega) _ _ k j (by omega))
theorem V22_at (e : Fin 8192) (k : Fin 1024) : (V m c main_v22 : Vec Ideal S8192x1024 .bf16) (ix2 e k) = zc (aZ m c) e.val (5136 + k.val) := by
  have h : (V m c main_v22 : Vec Ideal S8192x1024 .bf16) = extractStridedSlice S8192x1024 ![0, 2048] (extractStridedSlice S8192x5120 ![0, 3088] (zF m c)
      slices_S8192x8208_S8192x5120_0_3088) slices_S8192x5120_S8192x1024_0_2048 := by
    unfold V zF aZ
    after_reads_simp
    rfl
  exact (congrFun h _).trans (twice_at m c 2048 (by omega) _ _ e k (by omega))
theorem V23_at (k j : Fin 1024) : (V m c main_v23 : Vec Ideal S1024x1024 .bf16) (ix2 k j) = wc (aW m c) (5136 + k.val) j := by
  have h : (V m c main_v23 : Vec Ideal S1024x1024 .bf16) = extractStridedSlice S1024x1024 ![2048, 0] (extractStridedSlice S5120x1024 ![3088, 0] (wF m c)
      slices_S9232x1024_S5120x1024_3088_0) slices_S5120x1024_S1024x1024_2048_0 := by
    unfold V wF aW
    after_reads_simp
    rfl
  exact (congrFun h _).trans (twiceRows_at m c 2048 (by omega) _ _ k j (by omega))
theorem V24_at (e : Fin 8192) (k : Fin 1024) : (V m c main_v24 : Vec Ideal S8192x1024 .bf16) (ix2 e k) = zc (aZ m c) e.val (6160 + k.val) := by
  have h : (V m c main_v24 : Vec Ideal S8192x1024 .bf16) = extractStridedSlice S8192x1024 ![0, 3072] (extractStridedSlice S8192x5120 ![0, 3088] (zF m c)
      slices_S8192x8208_S8192x5120_0_3088) slices_S8192x5120_S8192x1024_0_3072 := by
    unfold V zF aZ
    after_reads_simp
    rfl
  exact (congrFun h _).trans (twice_at m c 3072 (by omega) _ _ e k (by omega))
theorem V25_at (k j : Fin 1024) : (V m c main_v25 : Vec Ideal S1024x1024 .bf16) (ix2 k j) = wc (aW m c) (6160 + k.val) j := by
  have h : (V m c main_v25 : Vec Ideal S1024x1024 .bf16) = extractStridedSlice S1024x1024 ![3072, 0] (extractStridedSlice S5120x1024 ![3088, 0] (wF m c)
      slices_S9232x1024_S5120x1024_3088_0) slices_S5120x1024_S1024x1024_3072_0 := by
    unfold V wF aW
    after_reads_simp
    rfl
  exact (congrFun h _).trans (twiceRows_at m c 3072 (by omega) _ _ k j (by omega))
theorem V26_at (e : Fin 8192) (k : Fin 1024) : (V m c main_v26 : Vec Ideal S8192x1024 .bf16) (ix2 e k) = zc (aZ m c) e.val (7184 + k.val) := by
  have h : (V m c main_v26 : Vec Ideal S8192x1024 .bf16) = extractStridedSlice S8192x1024 ![0, 4096] (extractStridedSlice S8192x5120 ![0, 3088] (zF m c)
      slices_S8192x8208_S8192x5120_0_3088) slices_S8192x5120_S8192x1024_0_4096 := by
    unfold V zF aZ
    after_reads_simp
    rfl
  exact (congrFun h _).trans (twice_at m c 4096 (by omega) _ _ e k (by omega))
theorem V27_at (k j : Fin 1024) : (V m c main_v27 : Vec Ideal S1024x1024 .bf16) (ix2 k j) = wc (aW m c) (7184 + k.val) j := by
  have h : (V m c main_v27 : Vec Ideal S1024x1024 .bf16) = extractStridedSlice S1024x1024 ![4096, 0] (extractStridedSlice S5120x1024 ![3088, 0] (wF m c)
      slices_S9232x1024_S5120x1024_3088_0) slices_S5120x1024_S1024x1024_4096_0 := by
    unfold V wF aW
    after_reads_simp
    rfl
  exact (congrFun h _).trans (twiceRows_at m c 4096 (by omega) _ _ k j (by omega))

/-- A token of the point's tile. -/
def row (r : Fin 256) : Fin 8192 := ⟨256 * t.val + r.val, by have : t.val < 32 := t.2; omega⟩

theorem read0 (X : Vec Ideal S8192x3072 .bf16) (r : Fin 256) (j : Fin 3072) :
    (((cfg0.win 0).blk t).view.read (Elt Ideal) X : Vec Ideal S256x3072 .bf16) (ix2 r j) = X (ix2 (row t r) j) := by
  blk_simp
  blk_ext [idxT t, row]
theorem read1 (X : Vec Ideal S8192x128 .bf16) (r : Fin 256) (j : Fin 128) :
    (((cfg0.win 1).blk t).view.read (Elt Ideal) X : Vec Ideal S256x128 .bf16) (ix2 r j) = X (ix2 (row t r) j) := by
  blk_simp
  blk_ext [idxT t, row]
theorem read2 (X : Vec Ideal S8192x1024 .bf16) (r : Fin 256) (j : Fin 1024) :
    (((cfg0.win 2).blk t).view.read (Elt Ideal) X : Vec Ideal S256x1024 .bf16) (ix2 r j) = X (ix2 (row t r) j) := by
  blk_simp
  blk_ext [idxT t, row]
theorem read3 (X : Vec Ideal S8192x1024 .bf16) (r : Fin 256) (j : Fin 1024) :
    (((cfg0.win 3).blk t).view.read (Elt Ideal) X : Vec Ideal S256x1024 .bf16) (ix2 r j) = X (ix2 (row t r) j) := by
  blk_simp
  blk_ext [idxT t, row]
theorem read4 (X : Vec Ideal S8192x1024 .bf16) (r : Fin 256) (j : Fin 1024) :
    (((cfg0.win 4).blk t).view.read (Elt Ideal) X : Vec Ideal S256x1024 .bf16) (ix2 r j) = X (ix2 (row t r) j) := by
  blk_simp
  blk_ext [idxT t, row]
theorem read5 (X : Vec Ideal S8192x1024 .bf16) (r : Fin 256) (j : Fin 1024) :
    (((cfg0.win 5).blk t).view.read (Elt Ideal) X : Vec Ideal S256x1024 .bf16) (ix2 r j) = X (ix2 (row t r) j) := by
  blk_simp
  blk_ext [idxT t, row]
theorem read6 (X : Vec Ideal S8192x1024 .bf16) (r : Fin 256) (j : Fin 1024) :
    (((cfg0.win 6).blk t).view.read (Elt Ideal) X : Vec Ideal S256x1024 .bf16) (ix2 r j) = X (ix2 (row t r) j) := by
  blk_simp
  blk_ext [idxT t, row]
theorem read15 (X : Vec Ideal S8192x1024 .f32) (r : Fin 256) (j : Fin 1024) :
    (((cfg0.win 15).blk t).view.read (Elt Ideal) X : Vec Ideal S256x1024 .f32) (ix2 r j) = X (ix2 (row t r) j) := by
  blk_simp
  blk_ext [idxT t, row]
theorem read16 (X : Vec Ideal S8192x1024 .f32) (r : Fin 256) (j : Fin 1024) :
    (((cfg0.win 16).blk t).view.read (Elt Ideal) X : Vec Ideal S256x1024 .f32) (ix2 r j) = X (ix2 (row t r) j) := by
  blk_simp
  blk_ext [idxT t, row]
theorem read7 (X : Vec Ideal S3072x1024 .bf16) (k : Fin 3072) (j : Fin 1024) :
    (((cfg0.win 7).blk t).view.read (Elt Ideal) X : Vec Ideal S3072x1024 .bf16) (ix2 k j) = X (ix2 k j) := by
  blk_simp
  blk_ext [idxW t]
theorem read8 (X : Vec Ideal S128x1024 .bf16) (k : Fin 128) (j : Fin 1024) :
    (((cfg0.win 8).blk t).view.read (Elt Ideal) X : Vec Ideal S128x1024 .bf16) (ix2 k j) = X (ix2 k j) := by
  blk_simp
  blk_ext [idxW t]
theorem read9 (X : Vec Ideal S1024x1024 .bf16) (k : Fin 1024) (j : Fin 1024) :
    (((cfg0.win 9).blk t).view.read (Elt Ideal) X : Vec Ideal S1024x1024 .bf16) (ix2 k j) = X (ix2 k j) := by
  blk_simp
  blk_ext [idxW t]
theorem read10 (X : Vec Ideal S1024x1024 .bf16) (k : Fin 1024) (j : Fin 1024) :
    (((cfg0.win 10).blk t).view.read (Elt Ideal) X : Vec Ideal S1024x1024 .bf16) (ix2 k j) = X (ix2 k j) := by
  blk_simp
  blk_ext [idxW t]
theorem read11 (X : Vec Ideal S1024x1024 .bf16) (k : Fin 1024) (j : Fin 1024) :
    (((cfg0.win 11).blk t).view.read (Elt Ideal) X : Vec Ideal S1024x1024 .bf16) (ix2 k j) = X (ix2 k j) := by
  blk_simp
  blk_ext [idxW t]
theorem read12 (X : Vec Ideal S1024x1024 .bf16) (k : Fin 1024) (j : Fin 1024) :
    (((cfg0.win 12).blk t).view.read (Elt Ideal) X : Vec Ideal S1024x1024 .bf16) (ix2 k j) = X (ix2 k j) := by
  blk_simp
  blk_ext [idxW t]
theorem read13 (X : Vec Ideal S1024x1024 .bf16) (k : Fin 1024) (j : Fin 1024) :
    (((cfg0.win 13).blk t).view.read (Elt Ideal) X : Vec Ideal S1024x1024 .bf16) (ix2 k j) = X (ix2 k j) := by
  blk_simp
  blk_ext [idxW t]
theorem read17 (X : Vec Ideal S1x1024 .f32) (k : Fin 1) (j : Fin 1024) :
    (((cfg0.win 17).blk t).view.read (Elt Ideal) X : Vec Ideal S1x1024 .f32) (ix2 k j) = X (ix2 k j) := by
  blk_simp
  blk_ext [idxW t]

theorem reads : Reads (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 15 t) (iblk m c 16 t) (iblk m c 17 t)
    (aX m c) (aN m c) (aW m c) (aZ m c) (aY m c) (256 * t.val) where
  z0 r k := (read0 t (V m c main_v14) r k).trans (V14_at m c _ k)
  z1 r k := (read1 t (V m c main_v16) r k).trans (V16_at m c _ k)
  z2 r k := (read2 t (V m c main_v18) r k).trans (V18_at m c _ k)
  z3 r k := (read3 t (V m c main_v20) r k).trans (V20_at m c _ k)
  z4 r k := (read4 t (V m c main_v22) r k).trans (V22_at m c _ k)
  z5 r k := (read5 t (V m c main_v24) r k).trans (V24_at m c _ k)
  z6 r k := (read6 t (V m c main_v26) r k).trans (V26_at m c _ k)
  w0 k j := (read7 t (V m c main_v5) k j).trans (V5_at m c k j)
  w1 k j := (read8 t (V m c main_v7) k j).trans (V7_at m c k j)
  w2 k j := (read9 t (V m c main_v19) k j).trans (V19_at m c k j)
  w3 k j := (read10 t (V m c main_v21) k j).trans (V21_at m c k j)
  w4 k j := (read11 t (V m c main_v23) k j).trans (V23_at m c k j)
  w5 k j := (read12 t (V m c main_v25) k j).trans (V25_at m c k j)
  w6 k j := (read13 t (V m c main_v27) k j).trans (V27_at m c k j)
  inp r j := (read15 t (V m c main_v29) r j).trans ((congrFun (V29 m c) _).trans (Tok.flat_at _ _ _ _))
  res r j := (read16 t (V m c main_v30) r j).trans ((congrFun (V30 m c) _).trans (Tok.flat_at _ _ _ _))
  nw j := read17 t (aN m c) 0 j

/-- What the results hold after a point. -/
structure After (o : Vec Ideal S256x1024 .f32 × Vec Ideal S8x1024 .f32) : Prop where
  x (r : Fin 256) (j : Fin 1024) : o.1 (ix2 r j) = gx (aX m c) (aN m c) (aW m c) (aZ m c) (aY m c) (256 * t.val + r.val) j
  w (r : Fin 8) (j : Fin 1024) : o.2 (ix2 r j) = if r.val = 0 then gw (aX m c) (aW m c) (aZ m c) (256 * (t.val + 1)) j else 0

theorem after_step (hp : ¬ t.val % 32 = 0 → ∀ h, After m c ⟨t.val - 1, h⟩ (outsAt0 m c (t.val - 1) h)) :
    After m c t (outsAt0 m c t.val t.isLt) := by
  have ht : t.val < 32 := t.2
  by_cases h0 : t.val % 32 = 0
  · rw [outsAt0_A m c t h0, outA18, outA19]
    refine ⟨fun r j => gx_tile (reads m c t) r j, fun r j => gw_tile (reads m c t) rfl (fun r i => ?_) r j⟩
    rw [show t.val = 0 by omega]
    refine (zeros_at _).trans ?_
    split_ifs <;> rfl
  · have hp := hp h0 (Nat.lt_of_le_of_lt (Nat.sub_le _ _) t.isLt)
    rw [outsAt0_B m c t h0, outB18, outB19]
    refine ⟨fun r j => gx_tile (reads m c t) r j, fun r j => gw_tile (reads m c t) rfl (fun r i => ?_) r j⟩
    rw [hp.w r i]
    exact congrArg (fun k => if r.val = 0 then gw (aX m c) (aW m c) (aZ m c) (256 * k) i else 0) (show t.val - 1 + 1 = t.val by omega)

theorem after_all : ∀ (n : ℕ) (hn : n < cfg0.N), After m c ⟨n, hn⟩ (outsAt0 m c n hn) := by
  intro n
  induction n with
  | zero => exact fun hn => after_step m c ⟨0, hn⟩ fun h => absurd rfl h
  | succ n ih => exact fun hn => after_step m c ⟨n + 1, hn⟩ fun _ h => ih h

theorem final18 : (dats m 0 c).arrAt 18 cfg0.N = resX (aX m c) (aN m c) (aW m c) (aZ m c) (aY m c) := by
  refine (dats m 0 c).arrAt_eq_of_covers 18 _ (by decide +kernel) fun t hf y => ?_
  blk_simp
  rw [after0_18]
  have e : y = ix2 (y 0) (y 1) := by blk_ext
  have e0 : ((win0_18.blk t).view.emb y) 0 = row t (y 0) := Fin.ext (by blk_simp [idxT t, row]; show t.val * 256 + (y 0).val = 256 * t.val + (y 0).val; omega)
  have e1 : ((win0_18.blk t).view.emb y) 1 = y 1 := Fin.ext (by blk_simp [idxT t])
  unfold resX
  rw [e0, e1]
  exact (congrArg _ e).trans ((after_all m c t.val t.isLt).x (y 0) (y 1))

theorem final19 : (dats m 0 c).arrAt 19 cfg0.N = resW (aX m c) (aW m c) (aZ m c) := by
  refine (dats m 0 c).arrAt_eq_of_covers 19 _ (by decide +kernel) fun t hf y => ?_
  have ht := (flush0_19 t).mp hf
  have hl : t.val < 32 := t.2
  blk_simp
  rw [after0_19]
  have e : y = ix2 (y 0) (y 1) := by blk_ext
  have e0 : ((win0_19.blk t).view.emb y) 0 = y 0 := Fin.ext (by blk_simp [idxT t])
  have e1 : ((win0_19.blk t).view.emb y) 1 = y 1 := Fin.ext (by blk_simp [idxT t])
  unfold resW
  rw [e0, e1]
  refine (congrArg _ e).trans (((after_all m c t.val t.isLt).w (y 0) (y 1)).trans ?_)
  rw [show (⟨t.val, t.isLt⟩ : Fin cfg0.N).val = 31 from (show t.val = 31 by omega)]

end Cert.DhFinal
-- ==== Proof.DhFinal.Finite.lean ====
/- The precondition: the input, the norm's weight, the in-projection's weight and the gradient have finite entries, so each is an
   array of real numbers. -/
module

public import proofs.«01_k».proof.Pre_finite2
public import proofs.«01_k».proof.Proof.Attn.Finite
public import proofs.«01_k».proof.Proof.DhFinal.Spec

@[expose] public section

noncomputable section

namespace Cert.DhFinal

open Idealize.ShloMosaic Cert.Pre_finite2

theorem finiteFacts : Cert.Pre_finite2.Facts where
  bcast_S_S1 := by decide
  bcast_S_S4x2048x1024 := by decide
  reducesTo_S4x2048x1024_S_d0_1_2 := by decide
  h_S_ := by decide
  bcast_S_S1x1024 := by decide
  reducesTo_S1x1024_S_d0_1 := by decide
  bcast_S_S1024x9232 := by decide
  reducesTo_S1024x9232_S_d0_1 := by decide
  bcast_S_S4x2048x8208 := by decide
  reducesTo_S4x2048x8208_S_d0_1_2 := by decide

/-- Every entry is the real number it is read as. -/
def Real {s : Shape} (x : s.Idx → EReal) : Prop := ∀ i, x i = (((x i).toReal : ℝ) : EReal)

theorem of_finite (x : Vec Ideal S4x2048x1024 .f32) (w : Vec Ideal S1x1024 .f32) (W : Vec Ideal S1024x9232 .f32)
    (z : Vec Ideal S4x2048x8208 .f32) (y : Vec Ideal S4x2048x1024 .f32)
    (h : (haveI := finiteFacts; Cert.Pre_finite2.fn (F := Ideal) x w W z y) = fun _ => 1#1) : Real x ∧ Real w ∧ Real W ∧ Real z := by
  have e := congrFun h (ix1 0)
  dsimp only [Cert.Pre_finite2.fn, Cert.Pre_finite2.fn_part1] at e
  obtain ⟨e, ez⟩ := AttnBwd.and_split e
  obtain ⟨e, eW⟩ := AttnBwd.and_split e
  obtain ⟨e, ew⟩ := AttnBwd.and_split e
  obtain ⟨_, ex⟩ := AttnBwd.and_split e
  exact ⟨AttnBwd.real_of_all x _ _ _ _ _ ex, AttnBwd.real_of_all w _ _ _ _ _ ew, AttnBwd.real_of_all W _ _ _ _ _ eW,
    AttnBwd.real_of_all z _ _ _ _ _ ez⟩

end Cert.DhFinal
-- ==== Proof.DhFinal.Ref.lean ====
/- The reference's two results: the same norm weight's gradient, and over real numbers the same input's gradient. -/
module

public import proofs.«01_k».proof.Proof.Gen.Reference2Ideal.Read
public import proofs.«01_k».proof.Proof.MmTn.RefSums
public import proofs.«01_k».proof.Proof.Attn.Ref
public import proofs.«01_k».proof.Proof.DhFinal.Finite

@[expose] public section

noncomputable section

namespace Cert.DhFinal

open Idealize.ShloMosaic Cert.Reference2Ideal Cert.Reference2Ideal.Gen Cert.Reference2Ideal.Read Cert.AttnBwd

variable (x : Vec Ideal S4x2048x1024 .f32) (w : Vec Ideal S1x1024 .f32) (W : Vec Ideal S1024x9232 .f32)
    (z : Vec Ideal S4x2048x8208 .f32) (y : Vec Ideal S4x2048x1024 .f32)

/-- The mean square of a token and what the norm adds. -/
def ms (e : ℕ) : EReal := Ideal.div (∑ i : Fin 1024, Tok.tok x e i * Tok.tok x e i) width + eps

variable (b : Fin 4) (s : Fin 2048) (j : Fin 1024)

theorem ms_at : val_main_v6 (F := Ideal) x (ix3 b s 0) = ms x (b.val * 2048 + s.val) := by
  unfold ms
  rw [Finset.sum_congr rfl fun i (_ : i ∈ Finset.univ) => congrArg₂ (· * ·) (Tok.tok_at x _ i b s rfl) (Tok.tok_at x _ i b s rfl)]
  pointwise [val_main_v6, val_main_v5, val_main_v4, val_main_v3, val_main_v2, val_main_v1, val_main_v0, val_main_cst, val_main_cst_0, val_main_cst_1, width, eps]

theorem rr_at : val_main_v7 (F := Ideal) x (ix3 b s 0) = rr x (b.val * 2048 + s.val) := by
  refine Eq.trans ?_ (congrArg Ideal.rsqrt (ms_at x b s))
  unfold val_main_v7
  generalize val_main_v6 (F := Ideal) x = m
  pointwise

theorem xn_at : val_main_v12 (F := Ideal) x (ix3 b s j) = xn x (b.val * 2048 + s.val) j := by
  unfold xn
  rw [Tok.tok_at x _ j b s rfl, ← rr_at x b s]
  unfold val_main_v12 val_main_v11
  generalize val_main_v7 (F := Ideal) x = m
  pointwise

theorem long_at (k : Fin 9232) : val_main_v19 (F := Ideal) z (ix3 b s k) = zc z (b.val * 2048 + s.val) k.val := by
  unfold val_main_v19 zc
  by_cases h : k.val < 8208
  · rw [dif_pos h, Tok.tok_at z _ _ b s rfl]
    exact pad_apply_of_inside _ _ _ z _ _ _ _ (ix3 b s ⟨k.val, h⟩) fun a => match a with
      | ⟨0, _⟩ => show b.val = 0 + b.val * 1 by omega
      | ⟨1, _⟩ => show s.val = 0 + s.val * 1 by omega
      | ⟨2, _⟩ => show k.val = 0 + k.val * 1 by omega
  · rw [dif_neg h]
    refine (pad_apply_of_not_inside _ _ _ z _ _ _ _ 2 fun hin => h ?_).trans (Ideal.ofBits_zero .f32)
    have := hin.2.2
    change (k.val - 0) / 1 < 8208 at this
    omega

theorem dh_at : val_main_v20 (F := Ideal) W z (ix3 b s j) = dh W z (b.val * 2048 + s.val) j := by
  have h : val_main_v20 (F := Ideal) W z (ix3 b s j) = ∑ k : Fin 9232, val_main_v19 (F := Ideal) z (ix3 b s k) * W (ix2 j k) := by
    unfold val_main_v20
    generalize val_main_v19 (F := Ideal) z = l
    pointwise
  rw [h, Finset.sum_congr rfl fun k (_ : k ∈ Finset.univ) => congrArg₂ (· * ·) (long_at z b s k)
    (show W (ix2 j k) = wc W k.val j by unfold wc; rw [dif_pos k.2])]
  rw [← Finset.sum_range fun k => zc z (b.val * 2048 + s.val) k * wc W k j]
  unfold dh
  refine (Finset.sum_subset (Finset.range_subset_range.2 (by omega)) fun k _ hk => ?_).symm
  unfold zc
  rw [dif_neg fun h => hk (Finset.mem_range.2 h), zero_mul]

theorem dhw_at : val_main_v25 (F := Ideal) w W z (ix3 b s j) = dxn w W z (b.val * 2048 + s.val) j := by
  unfold dxn
  rw [← dh_at W z b s j]
  unfold val_main_v25
  generalize val_main_v20 (F := Ideal) W z = d
  refine congrArg (d (ix3 b s j) * ·) ?_
  pointwise [val_main_v24, val_main_v14, val_main_v13]

/-! ## The norm weight's gradient -/

theorem refW : val_main_v44 (F := Ideal) x W z = resW x W z := by
  have hr : MmTn.resB (val_main_v21 (F := Ideal) x W z) = resW x W z := by
    funext i
    obtain ⟨p, k, rfl⟩ : ∃ p k, i = ix2 p k := ⟨i 0, i 1, funext fun a => match a with | ⟨0, _⟩ => rfl | ⟨1, _⟩ => rfl⟩
    show (if p.val = 0 then MmTn.db (val_main_v21 (F := Ideal) x W z) 8192 k else 0) = if p.val = 0 then gw x W z 8192 k else 0
    unfold MmTn.db gw
    refine congrArg (fun t => if p.val = 0 then t else 0) (Finset.sum_congr rfl fun e he => ?_)
    have he := Finset.mem_range.1 he
    have e1 : e = (⟨e / 2048, by omega⟩ : Fin 4).val * 2048 + (⟨e % 2048, by omega⟩ : Fin 2048).val := by show e = e / 2048 * 2048 + e % 2048; omega
    rw [Tok.tok_at _ e k _ _ e1]
    refine Eq.trans ?_ (congrArg (fun e => dh W z e k * xn x e k) e1.symm)
    refine Eq.trans ?_ (congrArg₂ (· * ·) (dh_at W z _ _ k) (xn_at x _ _ k))
    rw [val_main_v21_apply]
    exact mul_comm _ _
  refine Eq.trans ?_ hr
  unfold val_main_v44
  refine MmTn.pad_rows _ _ _ (fun i => ?_) fun k => ?_
  · rw [val_main_call0_v0_apply, val_main_c_apply]
    exact congrArg (fun r : ℝ => (r : EReal)) (by norm_num)
  · rw [val_main_v27_apply]
    refine (congrArg (val_main_v26 (F := Ideal) x W z) (show idx_main_v27 (ix2 0 k) = ix1 k from
      funext fun a => match a with | ⟨0, _⟩ => rfl)).trans ?_
    unfold val_main_v26 val_main_v23 val_main_v22
    exact MmTn.db_twice _ reducesTo_S4x2048x1024_S1024_d0_1 reducesTo_S1x1x1024_S1024_d0_1 shapeCasts_S1024_S1x1x1024
      (Ideal.ofBits_zero .f32) (Ideal.ofBits_zero .f32) k

/-! ## The input's gradient -/

/-- The reference's sum over a token's features. -/
theorem dot_at : val_main_v29 (F := Ideal) x w W z (ix2 b s) = ∑ i : Fin 1024, Tok.tok x (b.val * 2048 + s.val) i * dxn w W z (b.val * 2048 + s.val) i := by
  rw [Finset.sum_congr rfl fun i (_ : i ∈ Finset.univ) => congrArg₂ (· * ·) (Tok.tok_at x _ i b s rfl) (dhw_at w W z b s i).symm]
  unfold val_main_v29 val_main_v28
  generalize val_main_v25 (F := Ideal) w W z = d
  pointwise [val_main_cst_6]

/-- The mean square's gradient, per feature. -/
def q (e : ℕ) : EReal := Ideal.div ((∑ i : Fin 1024, Tok.tok x e i * dxn w W z e i) * (Ideal.ofBits .f32 0xBF000000#32 * Ideal.div (rr x e) (ms x e))) width

theorem q_at : val_main_v37 (F := Ideal) x w W z (ix2 b s) = q x w W z (b.val * 2048 + s.val) := by
  unfold q
  rw [← dot_at x w W z b s, ← ms_at x b s, ← rr_at x b s]
  unfold val_main_v37 val_main_v36 val_main_v34 val_main_v30 val_main_v10 val_main_v8
  generalize val_main_v7 (F := Ideal) x = r
  generalize val_main_v6 (F := Ideal) x = m
  generalize val_main_v29 (F := Ideal) x w W z = d
  pointwise [val_main_v35, val_main_v9, val_main_cst_2, val_main_cst_7, val_main_cst_8, width]
  exact Fin.sum_univ_one _

theorem sum_at : val_main_v42 (F := Ideal) x w W z y (ix3 b s j)
    = Tok.tok y (b.val * 2048 + s.val) j + dxn w W z (b.val * 2048 + s.val) j * rr x (b.val * 2048 + s.val)
      + Tok.tok x (b.val * 2048 + s.val) j * q x w W z (b.val * 2048 + s.val) + q x w W z (b.val * 2048 + s.val) * Tok.tok x (b.val * 2048 + s.val) j := by
  rw [← q_at x w W z b s, ← rr_at x b s, ← dhw_at w W z b s j, Tok.tok_at x _ j b s rfl, Tok.tok_at y _ j b s rfl]
  unfold val_main_v42 val_main_v41 val_main_v40 val_main_v39 val_main_v38 val_main_v33 val_main_v32 val_main_v31
  generalize val_main_v7 (F := Ideal) x = r
  generalize val_main_v25 (F := Ideal) w W z = d
  generalize val_main_v37 (F := Ideal) x w W z = t
  pointwise

/-- A real number. -/
def R (a : EReal) : Prop := ∃ r : ℝ, a = (r : EReal)

theorem R.mul {a c : EReal} : R a → R c → R (a * c) := fun ⟨r, h⟩ ⟨t, k⟩ => ⟨r * t, mul_coe h k⟩
theorem R.sum {ι : Type} (t : Finset ι) {f : ι → EReal} (h : ∀ i, R (f i)) : R (∑ i ∈ t, f i) := by
  obtain ⟨g, hg⟩ := Classical.axiom_of_choice h
  exact ⟨∑ i ∈ t, g i, (Finset.sum_congr rfl fun i _ => hg i).trans (coe_sum t g)⟩
theorem R.zero : R 0 := ⟨0, rfl⟩

theorem tok_real {n : ℕ} {v : (⟨3, ![4, 2048, n]⟩ : Shape).Idx → EReal} (h : Real v) (e : ℕ) (i : Fin n) : R (Tok.tok v e i) := by
  unfold Tok.tok
  split_ifs
  · exact ⟨_, h _⟩
  · exact R.zero

theorem dxn_real (hw : Real w) (hW : Real W) (hz : Real z) (e : ℕ) (i : Fin 1024) : R (dxn w W z e i) := by
  refine R.mul (R.sum _ fun k => R.mul ?_ ?_) ⟨_, hw _⟩
  · unfold zc
    split_ifs
    · exact tok_real hz _ _
    · exact R.zero
  · unfold wc
    split_ifs
    · exact ⟨_, hW _⟩
    · exact R.zero

theorem width_coe : width = ((1024 : ℝ) : EReal) := by
  simp [width, Ideal.ofBits, Ideal.ieee, -EReal.coe_mul]; norm_num
theorem eps_coe : eps = ((8796093 / 8796093022208 : ℝ) : EReal) := by
  simp [eps, Ideal.ofBits, Ideal.ieee, -EReal.coe_mul]; norm_num
theorem half_coe : (Ideal.ofBits .f32 0xBF000000#32 : EReal) = ((-(1 / 2) : ℝ) : EReal) := by
  simp [Ideal.ofBits, Ideal.ieee, -EReal.coe_mul]; norm_num

/-- The two forms of the gradient through the norm agree. -/
theorem norm_back (X D : Fin 1024 → ℝ) (r M : ℝ) (hr : r * r * M = 1) (hM : M ≠ 0) (j : Fin 1024) :
    D j * r + X j * ((∑ i, X i * D i) * (-(1 / 2) * (r / M)) / 1024) + (∑ i, X i * D i) * (-(1 / 2) * (r / M)) / 1024 * X j
      = r * (D j - X j * r * ((∑ i, D i * (X i * r)) / 1024)) := by
  have e : ∑ i, D i * (X i * r) = (∑ i, X i * D i) * r := by
    rw [Finset.sum_mul]; exact Finset.sum_congr rfl fun i _ => by ring
  have h : r / M = r * (r * r) := by rw [div_eq_iff hM]; linear_combination (-r) * hr
  rw [e, h]
  ring

theorem same_at (hx : Real x) (hw : Real w) (hW : Real W) (hz : Real z) (e : ℕ) (j : Fin 1024) :
    Tok.tok y e j + dxn w W z e j * rr x e + Tok.tok x e j * q x w W z e + q x w W z e * Tok.tok x e j = gx x w W z y e j := by
  obtain ⟨X, hX⟩ := Classical.axiom_of_choice (tok_real hx e)
  obtain ⟨D, hD⟩ := Classical.axiom_of_choice (dxn_real w W z hw hW hz e)
  have hms : ms x e = (((∑ i, X i * X i) / 1024 + 8796093 / 8796093022208 : ℝ) : EReal) :=
    add_coe (AttnBwd.Ref.quot_coe (sum_coe fun i => mul_coe (hX i) (hX i)) width_coe (by norm_num)) eps_coe
  have hpos : 0 < (∑ i, X i * X i) / 1024 + 8796093 / 8796093022208 := by
    have : 0 ≤ ∑ i, X i * X i := Finset.sum_nonneg fun i _ => mul_self_nonneg (X i)
    positivity
  generalize (∑ i, X i * X i) / 1024 + 8796093 / 8796093022208 = M at hms hpos
  have hrr : rr x e = (((√M)⁻¹ : ℝ) : EReal) := by
    show Ideal.rsqrt (ms x e) = _
    rw [hms, Ideal.rsqrt_coe, if_neg (not_lt.2 hpos.le), if_neg hpos.ne']
  have hr : (√M)⁻¹ * (√M)⁻¹ * M = 1 := by
    rw [← mul_inv, Real.mul_self_sqrt hpos.le, inv_mul_cancel₀ hpos.ne']
  generalize (√M)⁻¹ = r at hrr hr
  have hq : q x w W z e = (((∑ i, X i * D i) * (-(1 / 2) * (r / M)) / 1024 : ℝ) : EReal) :=
    AttnBwd.Ref.quot_coe (mul_coe (sum_coe fun i => mul_coe (hX i) (hD i)) (mul_coe half_coe (AttnBwd.Ref.quot_coe hrr hms hpos.ne'))) width_coe (by norm_num)
  have hk : rr x e * (dxn w W z e j - xn x e j * Ideal.div (∑ i : Fin 1024, dxn w W z e i * xn x e i) width)
      = ((r * (D j - X j * r * ((∑ i, D i * (X i * r)) / 1024)) : ℝ) : EReal) :=
    mul_coe hrr (sub_coe (hD j) (mul_coe (mul_coe (hX j) hrr)
      (AttnBwd.Ref.quot_coe (sum_coe fun i => mul_coe (hD i) (mul_coe (hX i) hrr)) width_coe (by norm_num))))
  unfold gx
  rw [hk, ← norm_back X D r M hr hpos.ne' j, add_assoc (Tok.tok y e j), add_assoc (Tok.tok y e j),
    add_coe (add_coe (mul_coe (hD j) hrr) (mul_coe (hX j) hq)) (mul_coe hq (hX j)), add_comm]

theorem refX (hx : Real x) (hw : Real w) (hW : Real W) (hz : Real z) : val_main_v43 (F := Ideal) x w W z y = resX x w W z y := by
  funext i
  obtain ⟨e, j, rfl⟩ : ∃ e j, i = ix2 e j := ⟨i 0, i 1, funext fun a => match a with | ⟨0, _⟩ => rfl | ⟨1, _⟩ => rfl⟩
  have he := e.2
  have e1 : e.val = (⟨e.val / 2048, by omega⟩ : Fin 4).val * 2048 + (⟨e.val % 2048, by omega⟩ : Fin 2048).val := by
    show e.val = e.val / 2048 * 2048 + e.val % 2048; omega
  refine (Tok.flat_at (val_main_v42 (F := Ideal) x w W z y) _ e j).trans ((Tok.tok_at _ _ j _ _ e1).trans ((sum_at x w W z y _ _ j).trans ?_))
  rw [← e1]
  exact same_at x w W z y hx hw hW hz e.val j

end Cert.DhFinal
-- ==== Proof.InProj.Spec.lean ====
/- The in-projection: each token's input times the weight, plus the bias. -/
module

public import proofs.«01_k».proof.Proof.Common.Tokens

@[expose] public section

noncomputable section

namespace Cert.InProj

open Idealize.ShloMosaic

variable (h : (⟨3, ![4, 2048, 1024]⟩ : Shape).Idx → EReal) (W : (⟨2, ![1024, 9232]⟩ : Shape).Idx → EReal)
  (b : (⟨2, ![1, 9232]⟩ : Shape).Idx → EReal)

/-- Column `k` of token `e`. -/
def proj (e : ℕ) (k : Fin 9232) : EReal := ∑ j : Fin 1024, Tok.tok h e j * W (ix2 j k) + b (ix2 0 k)

/-- A column after the first 3088. -/
def late (k : Fin 5120) : Fin 9232 := ⟨3088 + k.val, by omega⟩

/-- The columns from 3088 to 8208. -/
def resLate : (⟨2, ![8192, 5120]⟩ : Shape).Idx → EReal := fun i => proj h W b (i 0).val (late (i 1))

end Cert.InProj
-- ==== Proof.InProj.Late.lean ====
/- The call for the columns after the first 3088: at each point 1024 tokens, five blocks of 1024 columns. -/
module

public import proofs.«01_k».proof.Proof.InProj.Spec
public import proofs.«01_k».proof.Proof.Gen.Kernel5Ideal.Value
public import Idealize.ShloMosaic.Lib.Pointwise
public import Idealize.ShloMosaic.Lib.Pipeline.ValueKit
public import Idealize.ShloMosaic.Lib.StableHlo.ReadAt

@[expose] public section

noncomputable section

namespace Cert.InProj.Late

open Idealize.ShloMosaic Idealize.ShloMosaic.TcCoe Idealize.SL.Sem Cert.Kernel5Ideal Cert.Kernel5Ideal.Gen

/-- A block of columns. -/
theorem block_at (x v : Vec Ideal S1024x1024 .bf16) (w : Vec Ideal S1x1024 .f32) (r n : Fin 1024) :
    k0_pay4 (F := Ideal) x v w (ix2 r n) = ∑ k : Fin 1024, x (ix2 r k) * v (ix2 n k) + w (ix2 0 n) := by
  pointwise [k0_pay4, k0_pay3]

variable (x0 : Vec Ideal S1024x1024 .bf16) (x1 : Vec Ideal S5120x1024 .bf16) (x2 : Vec Ideal S1x5120 .f32)

theorem rows_at (r k : Fin 1024) : View.ld (Val := Elt Ideal) x0 r0_0 (ix2 r k) = x0 (ix2 r k) :=
  View.ld_unit_apply_of _ _ _ _ _ _ fun a => match a with
    | ⟨0, _⟩ => (Nat.zero_add _).symm
    | ⟨1, _⟩ => (Nat.zero_add _).symm

/-- One block, its columns from `o` on. -/
theorem part_at (o : ℕ) (i1) (i2) (r : Fin 1024) (q : Fin 5120) (n : Fin 1024) (h : q.val = o + n.val) :
    k0_pay4 (F := Ideal) (View.ld (Val := Elt Ideal) x0 r0_0) (View.ld (Val := Elt Ideal) x1 (Rect.unit (s := S5120x1024) ![o, 0] S1024x1024.size i1)) (View.ld (Val := Elt Ideal) x2 (Rect.unit (s := S1x5120) ![0, o] S1x1024.size i2)) (ix2 r n)
      = ∑ k : Fin 1024, x0 (ix2 r k) * x1 (ix2 q k) + x2 (ix2 0 q) := by
  refine (block_at _ _ _ r n).trans (congrArg₂ (· + ·) (Finset.sum_congr rfl fun k _ => congrArg₂ (· * ·) (rows_at x0 r k) ?_) ?_)
  · exact View.ld_unit_apply_of _ _ _ _ _ _ fun a => match a with
      | ⟨0, _⟩ => h
      | ⟨1, _⟩ => (Nat.zero_add _).symm
  · exact View.ld_unit_apply_of _ _ _ _ _ _ fun a => match a with
      | ⟨0, _⟩ => rfl
      | ⟨1, _⟩ => h

theorem out_at (r : Fin 1024) (q : Fin 5120) :
    out0_3 (F := Ideal) x0 x1 x2 (ix2 r q) = ∑ k : Fin 1024, x0 (ix2 r k) * x1 (ix2 q k) + x2 (ix2 0 q) := by
  unfold out0_3
  canon_tiles x h using cover0_3 ..
  all_goals
    obtain ⟨p, n, rfl⟩ : ∃ p n, x = ix2 p n := ⟨x 0, x 1, funext fun a => match a with | ⟨0, _⟩ => rfl | ⟨1, _⟩ => rfl⟩
    obtain rfl : r = p := Fin.ext h0
    exact part_at x0 x1 x2 _ _ _ r q n (by first | exact h1 | exact h1.trans (Nat.zero_add _).symm)

theorem idx : ∀ t : Fin cfg0.N,
    (win0_0.index t = ![t.val, 0] ∧ win0_1.index t = ![0, 0]) ∧ win0_2.index t = ![0, 0] ∧ win0_3.index t = ![t.val, 0] :=
  (by decide +kernel : ∀ t : Fin grid0.N, _)

variable (m : (ℓ : Loc nD τ sig) → Buf (Elt Ideal) ℓ) (c : Dev nD) (t : Fin cfg0.N)

/-- The three arguments. -/
def aH : Vec Ideal S4x2048x1024 .f32 := m ((c.tc : Thread nD τ).loc main_arg0)
def aW : Vec Ideal S1024x9232 .f32 := m ((c.tc : Thread nD τ).loc main_arg1)
def aB : Vec Ideal S1x9232 .f32 := m ((c.tc : Thread nD τ).loc main_arg2)

theorem V5 : (V m c main_v5 : Vec Ideal S8192x1024 .bf16) = shapeCast S8192x1024 (aH m c) shapeCasts_S4x2048x1024_S8192x1024 := by
  unfold V aH
  after_reads_simp
  rfl
theorem V2 : (V m c main_v2 : Vec Ideal S5120x1024 .bf16)
    = extractStridedSlice S5120x1024 ![3088, 0] (transpose S9232x1024 [1, 0] (aW m c) transposes_S1024x9232_S9232x1024_1_0) slices_S9232x1024_S5120x1024_3088_0 := by
  unfold V aW
  after_reads_simp
  rfl
theorem V3 : (V m c main_v3 : Vec Ideal S1x5120 .f32) = extractStridedSlice S1x5120 ![0, 3088] (aB m c) slices_S1x9232_S1x5120_0_3088 := by
  unfold V aB
  after_reads_simp

/-- The point's token in row `r`. -/
def row (r : Fin 1024) : Fin 8192 := ⟨1024 * t.val + r.val, by have : t.val < 8 := t.2; omega⟩

theorem read0 (X : Vec Ideal S8192x1024 .bf16) (r k : Fin 1024) :
    (((cfg0.win 0).blk t).view.read (Elt Ideal) X : Vec Ideal S1024x1024 .bf16) (ix2 r k) = X (ix2 (row t r) k) := by
  blk_simp
  blk_ext [idx t, row]
theorem read1 (X : Vec Ideal S5120x1024 .bf16) (q : Fin 5120) (k : Fin 1024) :
    (((cfg0.win 1).blk t).view.read (Elt Ideal) X : Vec Ideal S5120x1024 .bf16) (ix2 q k) = X (ix2 q k) := by
  blk_simp
  blk_ext [idx t]
theorem read2 (X : Vec Ideal S1x5120 .f32) (q : Fin 5120) :
    (((cfg0.win 2).blk t).view.read (Elt Ideal) X : Vec Ideal S1x5120 .f32) (ix2 0 q) = X (ix2 0 q) := by
  blk_simp
  blk_ext [idx t]

theorem blk0 (r k : Fin 1024) : (iblk m c 0 t : Vec Ideal S1024x1024 .bf16) (ix2 r k) = Tok.tok (aH m c) (row t r).val k :=
  (read0 t (V m c main_v5) r k).trans ((congrFun (V5 m c) _).trans (Tok.flat_at _ _ _ _))
theorem blk1 (q : Fin 5120) (k : Fin 1024) : (iblk m c 1 t : Vec Ideal S5120x1024 .bf16) (ix2 q k) = aW m c (ix2 k (late q)) :=
  (read1 t (V m c main_v2) q k).trans ((congrFun (V2 m c) _).trans
    (congrArg (aW m c) (funext fun a => match a with | ⟨0, _⟩ => Fin.ext (Nat.zero_add _) | ⟨1, _⟩ => rfl)))
theorem blk2 (q : Fin 5120) : (iblk m c 2 t : Vec Ideal S1x5120 .f32) (ix2 0 q) = aB m c (ix2 0 (late q)) :=
  (read2 t (V m c main_v3) q).trans ((congrFun (V3 m c) _).trans
    (congrArg (aB m c) (funext fun a => match a with | ⟨0, _⟩ => rfl | ⟨1, _⟩ => rfl)))

theorem final3 : (dats m 0 c).arrAt 3 cfg0.N = resLate (aH m c) (aW m c) (aB m c) := by
  refine (dats m 0 c).arrAt_eq_of_covers 3 _ (by decide +kernel) fun t hf y => ?_
  blk_simp
  rw [after0_3]
  have e : y = ix2 (y 0) (y 1) := by blk_ext
  have e0 : ((win0_3.blk t).view.emb y) 0 = row t (y 0) := Fin.ext (by blk_simp [idx t, row]; show t.val * 1024 + (y 0).val = 1024 * t.val + (y 0).val; omega)
  have e1 : ((win0_3.blk t).view.emb y) 1 = y 1 := Fin.ext (by blk_simp [idx t])
  unfold resLate
  rw [e0, e1]
  refine (congrArg _ e).trans ((out_at _ _ _ (y 0) (y 1)).trans ?_)
  exact congrArg₂ (· + ·) (Finset.sum_congr rfl fun k _ => congrArg₂ (· * ·) (blk0 m c t (y 0) k) (blk1 m c t (y 1) k)) (blk2 m c t (y 1))

end Cert.InProj.Late
-- ==== Proof.InProj.RefLate.lean ====
/- The reference's columns after the first 3088. -/
module

public import proofs.«01_k».proof.Proof.Gen.Reference5Ideal.Read
public import proofs.«01_k».proof.Proof.InProj.Spec

@[expose] public section

noncomputable section

namespace Cert.InProj.RefLate

open Idealize.ShloMosaic Cert.Reference5Ideal Cert.Reference5Ideal.Gen Cert.Reference5Ideal.Read

variable (h : Vec Ideal S4x2048x1024 .f32) (W : Vec Ideal S1024x9232 .f32) (b : Vec Ideal S1x9232 .f32)

theorem all_at (p : Fin 4) (s : Fin 2048) (k : Fin 9232) :
    val_main_v4 (F := Ideal) h W b (ix3 p s k) = proj h W b (p.val * 2048 + s.val) k := by
  refine (val_main_v4_apply h W b _).trans (congrArg₂ (fun x y : EReal => x + y) ?_ ?_)
  · rw [val_main_v0_apply]
    refine Finset.sum_congr rfl fun j _ => congrArg₂ (· * ·) ?_ ?_
    · exact (congrArg h (show lidx_main_v0 (ix3 p s k) j = ix3 p s j from funext fun a => match a with | ⟨0, _⟩ => rfl | ⟨1, _⟩ => rfl | ⟨2, _⟩ => rfl)).trans
        (Tok.tok_at h _ j p s rfl).symm
    · exact congrArg W (show ridx_main_v0 (ix3 p s k) j = ix2 j k from funext fun a => match a with | ⟨0, _⟩ => rfl | ⟨1, _⟩ => rfl)
  · rw [val_main_v3_apply, val_main_v2_apply, val_main_v1_apply]
    exact congrArg b (show idx_main_v1 (idx_main_v2 (idx_main_v3 (ix3 p s k))) = ix2 0 k from
      funext fun a => match a with | ⟨0, _⟩ => rfl | ⟨1, _⟩ => Fin.ext (Nat.mod_eq_of_lt k.2))

theorem ref : val_main_v7 (F := Ideal) h W b = resLate h W b := by
  funext y
  obtain ⟨e, k, rfl⟩ : ∃ e k, y = ix2 e k := ⟨y 0, y 1, funext fun a => match a with | ⟨0, _⟩ => rfl | ⟨1, _⟩ => rfl⟩
  have he := e.2
  have h5 (p : Fin 4) (s : Fin 2048) : val_main_v5 (F := Ideal) h W b (ix3 p s k) = proj h W b (p.val * 2048 + s.val) (late k) := by
    rw [val_main_v5_apply]
    exact (congrArg (val_main_v4 (F := Ideal) h W b) (show idx_main_v5 (ix3 p s k) = ix3 p s (late k) from
      funext fun a => match a with | ⟨0, _⟩ => rfl | ⟨1, _⟩ => rfl | ⟨2, _⟩ => rfl)).trans (all_at h W b _ _ _)
  rw [val_main_v7_apply]
  unfold val_main_v6
  generalize val_main_v5 (F := Ideal) h W b = v at h5
  refine (Tok.flat_at v shapeCasts_S4x2048x5120_S8192x5120 e k).trans ?_
  rw [Tok.tok_at v e.val k ⟨e.val / 2048, by omega⟩ ⟨e.val % 2048, by omega⟩ (by show e.val = e.val / 2048 * 2048 + e.val % 2048; omega), h5]
  exact congrArg (fun n => proj h W b n (late k)) (show e.val / 2048 * 2048 + e.val % 2048 = e.val by omega)

end Cert.InProj.RefLate
-- ==== Proof.InProj.Normed.lean ====
/- The normalised input of each token, and its in-projection's first columns: queries, keys and values with their heads by eights,
   and the forget gates. -/
module

public import proofs.«01_k».proof.Proof.DhFinal.Spec

@[expose] public section

noncomputable section

namespace Cert.InProj

open Idealize.ShloMosaic

variable (x : (⟨3, ![4, 2048, 1024]⟩ : Shape).Idx → EReal) (w : (⟨2, ![1, 1024]⟩ : Shape).Idx → EReal)
  (W : (⟨2, ![1024, 9232]⟩ : Shape).Idx → EReal) (b : (⟨2, ![1, 9232]⟩ : Shape).Idx → EReal)

/-- Feature `j` of token `e`, normalised. -/
def normed (e : ℕ) (j : Fin 1024) : EReal := DhFinal.xn x e j * w (ix2 0 j)

/-- Column `k` of token `e`. -/
def early (e : ℕ) (k : Fin 9232) : EReal := ∑ j : Fin 1024, normed x w e j * W (ix2 j k) + b (ix2 0 k)

/-- Where a column of the queries, keys and values stands in the in-projection. -/
def head (k : Fin 3072) : Fin 9232 := ⟨DhFinal.perm k.val, by have := DhFinal.perm_lt k.2; omega⟩
/-- Where a forget gate stands. -/
def gate (k : ℕ) (h : k < 16) : Fin 9232 := ⟨3072 + k, by omega⟩

def resH : (⟨2, ![8192, 1024]⟩ : Shape).Idx → EReal := fun i => normed x w (i 0).val (i 1)
def resQ : (⟨2, ![8192, 3072]⟩ : Shape).Idx → EReal := fun i => early x w W b (i 0).val (head (i 1))
def resF : (⟨2, ![8192, 128]⟩ : Shape).Idx → EReal := fun i =>
  if h : (i 1).val < 16 then early x w W b (i 0).val (gate (i 1).val h) else 0

end Cert.InProj
-- ==== Proof.InProj.Early.lean ====
/- The call for the first 3088 columns: at each point 512 tokens' norm, three blocks of 1024 columns and the forget gates. -/
module

public import proofs.«01_k».proof.Proof.InProj.Normed
public import proofs.«01_k».proof.Proof.DhFinal.Host
public import proofs.«01_k».proof.Proof.Gen.Kernel6Ideal.Value
public import Idealize.ShloMosaic.Lib.Pointwise
public import Idealize.ShloMosaic.Lib.Pipeline.ValueKit
public import Idealize.ShloMosaic.Lib.StableHlo.ReadAt

@[expose] public section

noncomputable section

namespace Cert.InProj.Early

open Idealize.ShloMosaic Idealize.ShloMosaic.TcCoe Idealize.SL.Sem Cert.Kernel6Ideal Cert.Kernel6Ideal.Gen Cert.DhFinal

/-- The norm of a tile's rows. -/
theorem norm_at (v : Vec Ideal S512x1024 .f32) (w : Vec Ideal S1x1024 .f32) (r : Fin 512) (j : Fin 1024) :
    k0_pay3 (F := Ideal) v w (ix2 r j)
      = v (ix2 r j) * Ideal.rsqrt (Ideal.div (∑ i, v (ix2 r i) * v (ix2 r i)) width + eps) * w (ix2 0 j) := by
  pointwise [k0_pay3, width, eps]

/-- A block of columns. -/
theorem block_at (x : Vec Ideal S512x1024 .bf16) (v : Vec Ideal S1024x1024 .bf16) (w : Vec Ideal S1x1024 .f32) (r : Fin 512) (n : Fin 1024) :
    k0_pay1 (F := Ideal) x v w (ix2 r n) = ∑ k : Fin 1024, x (ix2 r k) * v (ix2 n k) + w (ix2 0 n) := by
  pointwise [k0_pay1]
theorem gates_at (x : Vec Ideal S512x1024 .bf16) (v : Vec Ideal S128x1024 .bf16) (w : Vec Ideal S1x128 .f32) (r : Fin 512) (n : Fin 128) :
    k0_pay2 (F := Ideal) x v w (ix2 r n) = ∑ k : Fin 1024, x (ix2 r k) * v (ix2 n k) + w (ix2 0 n) := by
  pointwise [k0_pay2]

section Tile

variable (x0 : Vec Ideal S512x1024 .f32) (x1 : Vec Ideal S1x1024 .f32) (x2 : Vec Ideal S3072x1024 .bf16) (x3 : Vec Ideal S1x3072 .f32)
  (x4 : Vec Ideal S128x1024 .bf16) (x5 : Vec Ideal S1x128 .f32)

/-- A whole block read. -/
theorem all_at {n k : ℕ} {t : EltTy} (v : (⟨2, ![n, k]⟩ : Shape).Idx → Elt Ideal t) (i1) :
    View.ld (Val := Elt Ideal) (e' := t) v (Rect.unit (s := ⟨2, ![n, k]⟩) ![0, 0] ![n, k] i1) = v :=
  funext fun y => View.ld_unit_apply_of _ _ _ _ _ _ fun a => match a with
    | ⟨0, _⟩ => (Nat.zero_add _).symm
    | ⟨1, _⟩ => (Nat.zero_add _).symm

/-- One block, its columns from `o` on. -/
theorem part_at (g : Vec Ideal S512x1024 .bf16) (o : ℕ) (i1) (i2) (r : Fin 512) (q : Fin 3072) (n : Fin 1024) (h : q.val = o + n.val) :
    k0_pay1 (F := Ideal) g (View.ld (Val := Elt Ideal) x2 (Rect.unit (s := S3072x1024) ![o, 0] S1024x1024.size i1)) (View.ld (Val := Elt Ideal) x3 (Rect.unit (s := S1x3072) ![0, o] S1x1024.size i2)) (ix2 r n)
      = ∑ k : Fin 1024, g (ix2 r k) * x2 (ix2 q k) + x3 (ix2 0 q) := by
  refine (block_at _ _ _ r n).trans (congrArg₂ (· + ·) (Finset.sum_congr rfl fun k _ => congrArg (g (ix2 r k) * ·) ?_) ?_)
  · exact View.ld_unit_apply_of _ _ _ _ _ _ fun a => match a with
      | ⟨0, _⟩ => h
      | ⟨1, _⟩ => (Nat.zero_add _).symm
  · exact View.ld_unit_apply_of _ _ _ _ _ _ fun a => match a with
      | ⟨0, _⟩ => rfl
      | ⟨1, _⟩ => h

theorem out6 (r : Fin 512) (q : Fin 1024) : out0_6 (F := Ideal) x0 x1 x2 x3 x4 x5 (ix2 r q) = k0_pay3 (F := Ideal) x0 x1 (ix2 r q) := by
  unfold out0_6
  canon_tiles x h using cover0_6 ..
  obtain ⟨p, n, rfl⟩ : ∃ p n, x = ix2 p n := ⟨x 0, x 1, funext fun a => match a with | ⟨0, _⟩ => rfl | ⟨1, _⟩ => rfl⟩
  obtain rfl : r = p := Fin.ext h0
  obtain rfl : q = n := Fin.ext h1
  exact congrFun (congrArg₂ (k0_pay3 (F := Ideal)) (all_at x0 _) (all_at x1 _)) _

theorem out7 (r : Fin 512) (q : Fin 3072) : out0_7 (F := Ideal) x0 x1 x2 x3 x4 x5 (ix2 r q)
    = ∑ k : Fin 1024, k0_pay3 (F := Ideal) x0 x1 (ix2 r k) * x2 (ix2 q k) + x3 (ix2 0 q) := by
  have hg : k0_pay3 (F := Ideal) (View.ld (Val := Elt Ideal) x0 r0_0) (View.ld (Val := Elt Ideal) x1 r0_1) = k0_pay3 (F := Ideal) x0 x1 :=
    congrArg₂ (k0_pay3 (F := Ideal)) (all_at x0 _) (all_at x1 _)
  rw [← hg]
  unfold out0_7
  canon_tiles x h using cover0_7 ..
  all_goals
    obtain ⟨p, n, rfl⟩ : ∃ p n, x = ix2 p n := ⟨x 0, x 1, funext fun a => match a with | ⟨0, _⟩ => rfl | ⟨1, _⟩ => rfl⟩
    obtain rfl : r = p := Fin.ext h0
    exact part_at x2 x3 _ _ _ _ r q n (by first | exact h1 | exact h1.trans (Nat.zero_add _).symm)

theorem out8 (r : Fin 512) (q : Fin 128) : out0_8 (F := Ideal) x0 x1 x2 x3 x4 x5 (ix2 r q)
    = ∑ k : Fin 1024, k0_pay3 (F := Ideal) x0 x1 (ix2 r k) * x4 (ix2 q k) + x5 (ix2 0 q) := by
  unfold out0_8
  canon_tiles x h using cover0_8 ..
  obtain ⟨p, n, rfl⟩ : ∃ p n, x = ix2 p n := ⟨x 0, x 1, funext fun a => match a with | ⟨0, _⟩ => rfl | ⟨1, _⟩ => rfl⟩
  obtain rfl : r = p := Fin.ext h0
  obtain rfl : q = n := Fin.ext h1
  refine (gates_at _ _ _ r q).trans ?_
  unfold k0_pay6
  rw [all_at x0, all_at x1, all_at x4, all_at x5]

end Tile

/-- The bias's first part. -/
theorem headBias_at (X : S1x3072.Idx → EReal) (h1) (h2) (h3) (k : Fin 3072) :
    shapeCast S1x3072 (transpose S1x8x3x128 [0, 2, 1, 3] (shapeCast S1x3x8x128 X h1) h2) h3 (ix2 0 k)
      = X (ix2 0 ⟨perm k.val, perm_lt k.2⟩) := by
  have hk := k.2
  refine (shapeCast_apply _ _ _ (ix4 (0 : Fin 1) (⟨k.val / 384, by omega⟩ : Fin 8) (⟨k.val / 128 % 3, by omega⟩ : Fin 3) (⟨k.val % 128, by omega⟩ : Fin 128)) ?_).trans ?_
  · rw [Shape.rowMajor_val_four, Shape.rowMajor_val_two]
    show ((0 * 8 + k.val / 384) * 3 + k.val / 128 % 3) * 128 + k.val % 128 = 0 * 3072 + k.val
    omega
  · refine Eq.trans (congrArg (shapeCast S1x3x8x128 X h1) (show _ = ix4 (0 : Fin 1) (⟨k.val / 128 % 3, by omega⟩ : Fin 3) (⟨k.val / 384, by omega⟩ : Fin 8) (⟨k.val % 128, by omega⟩ : Fin 128) from
      funext fun a => match a with | ⟨0, _⟩ => rfl | ⟨1, _⟩ => rfl | ⟨2, _⟩ => rfl | ⟨3, _⟩ => rfl)) (shapeCast_apply _ _ _ _ ?_)
    rw [Shape.rowMajor_val_four, Shape.rowMajor_val_two]
    show 0 * 3072 + perm k.val = ((0 * 3 + k.val / 128 % 3) * 8 + k.val / 384) * 128 + k.val % 128
    unfold perm
    omega

/-- The forget gates' bias: columns beyond the sixteenth are zeros. -/
theorem fewBias_at (X : S1x16.Idx → EReal) {s0 : Shape} (c : s0.Idx → EReal) (hp) (hs) (hc : ∀ i, c i = 0) (k : Fin 128) :
    pad S1x128 ![0, 0] ![0, 112] ![0, 0] X c hp hs (ix2 0 k) = if h : k.val < 16 then X (ix2 0 ⟨k.val, h⟩) else 0 := by
  by_cases h : k.val < 16
  · rw [dif_pos h]
    exact pad_apply_of_inside _ _ _ X _ _ _ _ (ix2 0 ⟨k.val, h⟩) fun a => match a with
      | ⟨0, _⟩ => show 0 = 0 + 0 * 1 by omega
      | ⟨1, _⟩ => show k.val = 0 + k.val * 1 by omega
  · rw [dif_neg h]
    refine (pad_apply_of_not_inside _ _ _ X _ _ _ _ 1 fun hin => h ?_).trans (hc _)
    have := hin.2.2
    change (k.val - 0) / 1 < 16 at this
    omega

theorem idx : ∀ t : Fin cfg0.N,
    (win0_0.index t = ![t.val, 0] ∧ win0_1.index t = ![0, 0] ∧ win0_2.index t = ![0, 0] ∧ win0_3.index t = ![0, 0]
      ∧ win0_4.index t = ![0, 0] ∧ win0_5.index t = ![0, 0])
    ∧ win0_6.index t = ![t.val, 0] ∧ win0_7.index t = ![t.val, 0] ∧ win0_8.index t = ![t.val, 0] :=
  (by decide +kernel : ∀ t : Fin grid0.N, _)

variable (m : (ℓ : Loc nD τ sig) → Buf (Elt Ideal) ℓ) (c : Dev nD) (t : Fin cfg0.N)

/-- The four arguments. -/
def aX : Vec Ideal S4x2048x1024 .f32 := m ((c.tc : Thread nD τ).loc main_arg0)
def aN : Vec Ideal S1x1024 .f32 := m ((c.tc : Thread nD τ).loc main_arg1)
def aW : Vec Ideal S1024x9232 .f32 := m ((c.tc : Thread nD τ).loc main_arg2)
def aB : Vec Ideal S1x9232 .f32 := m ((c.tc : Thread nD τ).loc main_arg3)
/-- The weight with its columns as rows. -/
def wF : Vec Ideal S9232x1024 .bf16 := transpose S9232x1024 [1, 0] (aW m c) transposes_S1024x9232_S9232x1024_1_0

theorem wF_at (k : Fin 9232) (j : Fin 1024) : wF m c (ix2 k j) = aW m c (ix2 j k) :=
  congrArg (aW m c) (funext fun a => match a with | ⟨0, _⟩ => rfl | ⟨1, _⟩ => rfl)

theorem V14 : (V m c main_v14 : Vec Ideal S8192x1024 .f32) = shapeCast S8192x1024 (aX m c) shapeCasts_S4x2048x1024_S8192x1024 := by
  unfold V aX
  after_reads_simp
  rfl
theorem VN : (V m c main_arg1 : Vec Ideal S1x1024 .f32) = aN m c := by
  unfold V aN
  after_reads_simp
theorem V5 : (V m c main_v5 : Vec Ideal S3072x1024 .bf16) = shapeCast S3072x1024 (transpose S8x3x128x1024 [1, 0, 2, 3]
    (shapeCast S3x8x128x1024 (extractStridedSlice S3072x1024 ![0, 0] (wF m c) slices_S9232x1024_S3072x1024_0_0) shapeCasts_S3072x1024_S3x8x128x1024)
    transposes_S3x8x128x1024_S8x3x128x1024_1_0_2_3) shapeCasts_S8x3x128x1024_S3072x1024 := by
  unfold V wF aW
  after_reads_simp
  rfl
theorem V11 : (V m c main_v11 : Vec Ideal S1x3072 .f32) = shapeCast S1x3072 (transpose S1x8x3x128 [0, 2, 1, 3]
    (shapeCast S1x3x8x128 (extractStridedSlice S1x3072 ![0, 0] (aB m c) slices_S1x9232_S1x3072_0_0) shapeCasts_S1x3072_S1x3x8x128)
    transposes_S1x3x8x128_S1x8x3x128_0_2_1_3) shapeCasts_S1x8x3x128_S1x3072 := by
  unfold V aB
  after_reads_simp
  rfl
theorem V7 : (V m c main_v7 : Vec Ideal S128x1024 .bf16) = pad S128x1024 ![0, 0] ![112, 0] ![0, 0]
    (extractStridedSlice S16x1024 ![3072, 0] (wF m c) slices_S9232x1024_S16x1024_3072_0 : Vec Ideal S16x1024 .bf16)
    (sitofp (F := Ideal) .bf16 (constantI S_ 32 0#32) : Vec Ideal S_ .bf16) pads_S16x1024_S128x1024_01120_000 h_S_ := by
  unfold V wF aW
  after_reads_simp
  rfl
theorem V13 : (V m c main_v13 : Vec Ideal S1x128 .f32) = pad S1x128 ![0, 0] ![0, 112] ![0, 0]
    (extractStridedSlice S1x16 ![0, 3072] (aB m c) slices_S1x9232_S1x16_0_3072 : Vec Ideal S1x16 .f32)
    (sitofp (F := Ideal) .f32 (constantI S_ 32 0#32) : Vec Ideal S_ .f32) pads_S1x16_S1x128_000_01120 h_S_ := by
  unfold V aB
  after_reads_simp
  rfl

theorem zero_at {f : FTy} (i : S_.Idx) : (sitofp (F := Ideal) f (constantI S_ 32 0#32) : FVec Ideal S_ f) i = 0 :=
  congrArg (fun r : ℝ => (r : EReal)) (show ((((0#32 : BitVec 32).toInt : ℤ) : ℝ)) = 0 by norm_num)

theorem V5_at (k : Fin 3072) (j : Fin 1024) : (V m c main_v5 : Vec Ideal S3072x1024 .bf16) (ix2 k j) = aW m c (ix2 j (head k)) := by
  refine (congrFun (V5 m c) _).trans ((headRows_at _ _ _ _ k j).trans (Eq.trans ?_ (wF_at m c (head k) j)))
  exact congrArg (wF m c) (funext fun a => match a with | ⟨0, _⟩ => Fin.ext (Nat.zero_add _) | ⟨1, _⟩ => Fin.ext (Nat.zero_add _))
theorem V11_at (k : Fin 3072) : (V m c main_v11 : Vec Ideal S1x3072 .f32) (ix2 0 k) = aB m c (ix2 0 (head k)) := by
  refine (congrFun (V11 m c) _).trans ((headBias_at _ _ _ _ k).trans ?_)
  exact congrArg (aB m c) (funext fun a => match a with | ⟨0, _⟩ => rfl | ⟨1, _⟩ => Fin.ext (Nat.zero_add _))
theorem V7_at (k : Fin 128) (j : Fin 1024) : (V m c main_v7 : Vec Ideal S128x1024 .bf16) (ix2 k j)
    = if h : k.val < 16 then aW m c (ix2 j (gate k.val h)) else 0 := by
  refine (congrFun (V7 m c) _).trans ((fewRows_at _ _ _ _ zero_at k j).trans ?_)
  by_cases h : k.val < 16
  · rw [dif_pos h, dif_pos h, ← wF_at]
    exact congrArg (wF m c) (funext fun a => match a with | ⟨0, _⟩ => rfl | ⟨1, _⟩ => Fin.ext (Nat.zero_add _))
  · rw [dif_neg h, dif_neg h]
theorem V13_at (k : Fin 128) : (V m c main_v13 : Vec Ideal S1x128 .f32) (ix2 0 k)
    = if h : k.val < 16 then aB m c (ix2 0 (gate k.val h)) else 0 := by
  refine (congrFun (V13 m c) _).trans ((fewBias_at _ _ _ _ zero_at k).trans ?_)
  by_cases h : k.val < 16
  · rw [dif_pos h, dif_pos h]
    exact congrArg (aB m c) (funext fun a => match a with | ⟨0, _⟩ => rfl | ⟨1, _⟩ => rfl)
  · rw [dif_neg h, dif_neg h]

/-- The point's token in row `r`. -/
def row (r : Fin 512) : Fin 8192 := ⟨512 * t.val + r.val, by have : t.val < 16 := t.2; omega⟩

theorem read0 (X : Vec Ideal S8192x1024 .f32) (r : Fin 512) (k : Fin 1024) :
    (((cfg0.win 0).blk t).view.read (Elt Ideal) X : Vec Ideal S512x1024 .f32) (ix2 r k) = X (ix2 (row t r) k) := by
  blk_simp
  blk_ext [idx t, row]
theorem read1 (X : Vec Ideal S1x1024 .f32) (k : Fin 1024) :
    (((cfg0.win 1).blk t).view.read (Elt Ideal) X : Vec Ideal S1x1024 .f32) (ix2 0 k) = X (ix2 0 k) := by
  blk_simp
  blk_ext [idx t]
theorem read2 (X : Vec Ideal S3072x1024 .bf16) (q : Fin 3072) (k : Fin 1024) :
    (((cfg0.win 2).blk t).view.read (Elt Ideal) X : Vec Ideal S3072x1024 .bf16) (ix2 q k) = X (ix2 q k) := by
  blk_simp
  blk_ext [idx t]
theorem read3 (X : Vec Ideal S1x3072 .f32) (k : Fin 3072) :
    (((cfg0.win 3).blk t).view.read (Elt Ideal) X : Vec Ideal S1x3072 .f32) (ix2 0 k) = X (ix2 0 k) := by
  blk_simp
  blk_ext [idx t]
theorem read4 (X : Vec Ideal S128x1024 .bf16) (q : Fin 128) (k : Fin 1024) :
    (((cfg0.win 4).blk t).view.read (Elt Ideal) X : Vec Ideal S128x1024 .bf16) (ix2 q k) = X (ix2 q k) := by
  blk_simp
  blk_ext [idx t]
theorem read5 (X : Vec Ideal S1x128 .f32) (k : Fin 128) :
    (((cfg0.win 5).blk t).view.read (Elt Ideal) X : Vec Ideal S1x128 .f32) (ix2 0 k) = X (ix2 0 k) := by
  blk_simp
  blk_ext [idx t]

theorem blk0 (r : Fin 512) (k : Fin 1024) : (iblk m c 0 t : Vec Ideal S512x1024 .f32) (ix2 r k) = Tok.tok (aX m c) (row t r).val k :=
  (read0 t (V m c main_v14) r k).trans ((congrFun (V14 m c) _).trans (Tok.flat_at _ _ _ _))
theorem blk1 (k : Fin 1024) : (iblk m c 1 t : Vec Ideal S1x1024 .f32) (ix2 0 k) = aN m c (ix2 0 k) :=
  (read1 t (V m c main_arg1) k).trans (congrFun (VN m c) _)

/-- The tile's norm. -/
theorem normed_at (r : Fin 512) (k : Fin 1024) :
    k0_pay3 (F := Ideal) (iblk m c 0 t) (iblk m c 1 t) (ix2 r k) = normed (aX m c) (aN m c) (row t r).val k := by
  refine (norm_at _ _ r k).trans ?_
  rw [blk0 m c t r k, blk1 m c t k, Finset.sum_congr rfl fun i (_ : i ∈ Finset.univ) => congrArg₂ (fun a b : EReal => a * b) (blk0 m c t r i) (blk0 m c t r i)]
  rfl

theorem final6 : (dats m 0 c).arrAt 6 cfg0.N = resH (aX m c) (aN m c) := by
  refine (dats m 0 c).arrAt_eq_of_covers 6 _ (by decide +kernel) fun t hf y => ?_
  blk_simp
  rw [after0_6]
  have e : y = ix2 (y 0) (y 1) := by blk_ext
  have e0 : ((win0_6.blk t).view.emb y) 0 = row t (y 0) := Fin.ext (by blk_simp [idx t, row]; show t.val * 512 + (y 0).val = 512 * t.val + (y 0).val; omega)
  have e1 : ((win0_6.blk t).view.emb y) 1 = y 1 := Fin.ext (by blk_simp [idx t])
  unfold resH
  rw [e0, e1]
  exact (congrArg _ e).trans ((out6 _ _ _ _ _ _ (y 0) (y 1)).trans (normed_at m c t (y 0) (y 1)))

theorem final7 : (dats m 0 c).arrAt 7 cfg0.N = resQ (aX m c) (aN m c) (aW m c) (aB m c) := by
  refine (dats m 0 c).arrAt_eq_of_covers 7 _ (by decide +kernel) fun t hf y => ?_
  blk_simp
  rw [after0_7]
  have e : y = ix2 (y 0) (y 1) := by blk_ext
  have e0 : ((win0_7.blk t).view.emb y) 0 = row t (y 0) := Fin.ext (by blk_simp [idx t, row]; show t.val * 512 + (y 0).val = 512 * t.val + (y 0).val; omega)
  have e1 : ((win0_7.blk t).view.emb y) 1 = y 1 := Fin.ext (by blk_simp [idx t])
  unfold resQ
  rw [e0, e1]
  refine (congrArg _ e).trans ((out7 _ _ _ _ _ _ (y 0) (y 1)).trans ?_)
  exact congrArg₂ (· + ·) (Finset.sum_congr rfl fun k _ => congrArg₂ (· * ·) (normed_at m c t (y 0) k)
    ((read2 t (V m c main_v5) (y 1) k).trans (V5_at m c (y 1) k))) ((read3 t (V m c main_v11) (y 1)).trans (V11_at m c (y 1)))

theorem final8 : (dats m 0 c).arrAt 8 cfg0.N = resF (aX m c) (aN m c) (aW m c) (aB m c) := by
  refine (dats m 0 c).arrAt_eq_of_covers 8 _ (by decide +kernel) fun t hf y => ?_
  blk_simp
  rw [after0_8]
  have e : y = ix2 (y 0) (y 1) := by blk_ext
  have e0 : ((win0_8.blk t).view.emb y) 0 = row t (y 0) := Fin.ext (by blk_simp [idx t, row]; show t.val * 512 + (y 0).val = 512 * t.val + (y 0).val; omega)
  have e1 : ((win0_8.blk t).view.emb y) 1 = y 1 := Fin.ext (by blk_simp [idx t])
  unfold resF
  rw [e0, e1]
  refine (congrArg _ e).trans ((out8 _ _ _ _ _ _ (y 0) (y 1)).trans ?_)
  refine (congrArg₂ (· + ·) (Finset.sum_congr rfl fun k _ => congrArg₂ (· * ·) (normed_at m c t (y 0) k)
    ((read4 t (V m c main_v7) (y 1) k).trans (V7_at m c (y 1) k))) ((read5 t (V m c main_v13) (y 1)).trans (V13_at m c (y 1)))).trans ?_
  generalize (y 1 : Fin 128) = q
  by_cases h : q.val < 16
  · simp only [dif_pos h]; rfl
  · simp only [dif_neg h, mul_zero, Finset.sum_const_zero, add_zero]

end Cert.InProj.Early
-- ==== Proof.InProj.RefEarly.lean ====
/- The reference's normalised input and its first 3088 columns. -/
module

public import proofs.«01_k».proof.Proof.Gen.Reference6Ideal.Read
public import proofs.«01_k».proof.Proof.InProj.Normed
public import proofs.«01_k».proof.Proof.DhFinal.Host
public import Idealize.ShloMosaic.Lib.Pointwise

@[expose] public section

noncomputable section

namespace Cert.InProj.RefEarly

open Idealize.ShloMosaic Cert.Reference6Ideal Cert.Reference6Ideal.Gen Cert.Reference6Ideal.Read Cert.DhFinal

variable (x : Vec Ideal S4x2048x1024 .f32) (w : Vec Ideal S1x1024 .f32) (W : Vec Ideal S1024x9232 .f32) (b : Vec Ideal S1x9232 .f32)
  (p : Fin 4) (s : Fin 2048)

theorem factor_at : val_main_v7 (F := Ideal) x (ix3 p s 0) = rr x (p.val * 2048 + s.val) := by
  have h : val_main_v6 (F := Ideal) x (ix3 p s 0) = Ideal.div (∑ i : Fin 1024, Tok.tok x (p.val * 2048 + s.val) i * Tok.tok x (p.val * 2048 + s.val) i) width + eps := by
    rw [Finset.sum_congr rfl fun i (_ : i ∈ Finset.univ) => congrArg₂ (· * ·) (Tok.tok_at x _ i p s rfl) (Tok.tok_at x _ i p s rfl)]
    pointwise [val_main_v6, val_main_v5, val_main_v4, val_main_v3, val_main_v2, val_main_v1, val_main_v0, val_main_cst, val_main_cst_0, val_main_cst_1, width, eps]
  refine Eq.trans ?_ (congrArg Ideal.rsqrt h)
  unfold val_main_v7
  generalize val_main_v6 (F := Ideal) x = m
  pointwise

theorem normed_at (j : Fin 1024) : val_main_v13 (F := Ideal) x w (ix3 p s j) = normed x w (p.val * 2048 + s.val) j := by
  unfold normed xn
  rw [Tok.tok_at x _ j p s rfl, ← factor_at x p s]
  unfold val_main_v13 val_main_v9 val_main_v8
  generalize val_main_v7 (F := Ideal) x = m
  pointwise [val_main_v12, val_main_v11, val_main_v10]

theorem all_at (k : Fin 9232) : val_main_v18 (F := Ideal) x w W b (ix3 p s k) = early x w W b (p.val * 2048 + s.val) k := by
  refine (val_main_v18_apply x w W b _).trans (congrArg₂ (fun x y : EReal => x + y) ?_ ?_)
  · rw [val_main_v14_apply]
    refine Finset.sum_congr rfl fun j _ => congrArg₂ (· * ·) ?_ ?_
    · exact (congrArg (val_main_v13 (F := Ideal) x w) (show lidx_main_v14 (ix3 p s k) j = ix3 p s j from funext fun a => match a with | ⟨0, _⟩ => rfl | ⟨1, _⟩ => rfl | ⟨2, _⟩ => rfl)).trans
        (normed_at x w p s j)
    · exact congrArg W (show ridx_main_v14 (ix3 p s k) j = ix2 j k from funext fun a => match a with | ⟨0, _⟩ => rfl | ⟨1, _⟩ => rfl)
  · rw [val_main_v17_apply, val_main_v16_apply, val_main_v15_apply]
    exact congrArg b (show idx_main_v15 (idx_main_v16 (idx_main_v17 (ix3 p s k))) = ix2 0 k from
      funext fun a => match a with | ⟨0, _⟩ => rfl | ⟨1, _⟩ => Fin.ext (Nat.mod_eq_of_lt k.2))

theorem token (e : Fin 8192) : ∃ (p : Fin 4) (s : Fin 2048), e.val = p.val * 2048 + s.val :=
  ⟨⟨e.val / 2048, by have := e.2; omega⟩, ⟨e.val % 2048, by omega⟩, by show e.val = e.val / 2048 * 2048 + e.val % 2048; omega⟩

theorem refH : val_main_v33 (F := Ideal) x w = resH x w := by
  funext y
  obtain ⟨e, k, rfl⟩ : ∃ e k, y = ix2 e k := ⟨y 0, y 1, funext fun a => match a with | ⟨0, _⟩ => rfl | ⟨1, _⟩ => rfl⟩
  have h := normed_at x w
  rw [val_main_v33_apply]
  unfold val_main_v32
  generalize val_main_v13 (F := Ideal) x w = v at h
  obtain ⟨p, s, he⟩ := token e
  refine (Tok.flat_at v shapeCasts_S4x2048x1024_S8192x1024 e k).trans ?_
  rw [Tok.tok_at v e.val k p s he, h]
  exact congrArg (fun n => normed x w n k) he.symm

/-- A third of the columns, its heads by eights. -/
theorem third_at (v : Vec Ideal S4x2048x9232 .f32) (o : ℕ) (ho : o ≤ 2048) (h1) (h2) (h3) (i : S4x2048x8x1x128.Idx) (a : Fin 8) (d : Fin 128)
    (h0 : (i 0).val = p.val) (hs : (i 1).val = s.val) (ha : (i 2).val = a.val) (hd : (i 4).val = d.val) :
    broadcastInDim S4x2048x8x1x128 ![0, 1, 2, 4] h3 (shapeCast S4x2048x8x128 (extractStridedSlice S4x2048x1024 ![0, 0, o] v h1) h2) i
      = v (ix3 p s ⟨o + (a.val * 128 + d.val), by omega⟩) := by
  have l : a.val * 128 + d.val < 1024 := by omega
  refine (broadcastInDim_apply _ h3 _ i (ix4 p s a d) fun c => match c with
    | ⟨0, _⟩ => (by show p.val = if (4 : ℕ) = 1 then 0 else (i 0).val; rw [if_neg (by decide), h0])
    | ⟨1, _⟩ => (by show s.val = if (2048 : ℕ) = 1 then 0 else (i 1).val; rw [if_neg (by decide), hs])
    | ⟨2, _⟩ => (by show a.val = if (8 : ℕ) = 1 then 0 else (i 2).val; rw [if_neg (by decide), ha])
    | ⟨3, _⟩ => (by show d.val = if (128 : ℕ) = 1 then 0 else (i 4).val; rw [if_neg (by decide), hd])).trans ?_
  refine (shapeCast_apply _ _ _ (ix3 p s (⟨a.val * 128 + d.val, l⟩ : Fin 1024)) ?_).trans ?_
  · rw [Shape.rowMajor_val_three, Shape.rowMajor_val_four]
    show (p.val * 2048 + s.val) * 1024 + (a.val * 128 + d.val) = ((p.val * 2048 + s.val) * 8 + a.val) * 128 + d.val
    omega
  · exact congrArg v (funext fun c => match c with | ⟨0, _⟩ => Fin.ext (Nat.zero_add _) | ⟨1, _⟩ => Fin.ext (Nat.zero_add _) | ⟨2, _⟩ => rfl)

/-- The three thirds side by side. -/
theorem thirds_at (a : Fin 8) (g : Fin 3) (d : Fin 128) :
    val_main_v28 (F := Ideal) x w W b (ix5 p s a g d) = early x w W b (p.val * 2048 + s.val) ⟨g.val * 1024 + (a.val * 128 + d.val), by omega⟩ := by
  rw [← all_at]
  unfold val_main_v28 val_main_v25 val_main_v26 val_main_v27 val_main_v20 val_main_v22 val_main_v24 val_main_v19 val_main_v21 val_main_v23
  generalize val_main_v18 (F := Ideal) x w W b = v
  concat_tiles i h
  all_goals
    have hg : g.val = _ := h
    exact (third_at p s v _ (by omega) _ _ _ i a d h0 h1 h2 h4).trans (congrArg v (funext fun c => match c with
      | ⟨0, _⟩ => rfl | ⟨1, _⟩ => rfl | ⟨2, _⟩ => Fin.ext (by show _ + _ = g.val * 1024 + _; rw [hg])))

theorem refQ : val_main_v34 (F := Ideal) x w W b = resQ x w W b := by
  funext y
  obtain ⟨e, k, rfl⟩ : ∃ e k, y = ix2 e k := ⟨y 0, y 1, funext fun a => match a with | ⟨0, _⟩ => rfl | ⟨1, _⟩ => rfl⟩
  have h := thirds_at x w W b
  rw [val_main_v34_apply]
  unfold val_main_v29
  generalize val_main_v28 (F := Ideal) x w W b = v at h
  obtain ⟨p, s, he⟩ := token e
  have hk := k.2
  refine (shapeCast_apply v shapeCasts_S4x2048x8x3x128_S8192x3072 (ix2 e k) (ix5 p s (⟨k.val / 384, by omega⟩ : Fin 8) (⟨k.val / 128 % 3, by omega⟩ : Fin 3) (⟨k.val % 128, by omega⟩ : Fin 128)) ?_).trans ?_
  · rw [Shape.rowMajor_val_five, Shape.rowMajor_val_two]
    show (((p.val * 2048 + s.val) * 8 + k.val / 384) * 3 + k.val / 128 % 3) * 128 + k.val % 128 = e.val * 3072 + k.val
    rw [he]; omega
  · rw [h]
    show early x w W b _ _ = early x w W b e.val (head k)
    rw [he]
    refine congrArg (early x w W b _) (Fin.ext ?_)
    show k.val / 128 % 3 * 1024 + (k.val / 384 * 128 + k.val % 128) = perm k.val
    unfold perm; omega

theorem refF : val_main_v35 (F := Ideal) x w W b = resF x w W b := by
  funext y
  obtain ⟨e, k, rfl⟩ : ∃ e k, y = ix2 e k := ⟨y 0, y 1, funext fun a => match a with | ⟨0, _⟩ => rfl | ⟨1, _⟩ => rfl⟩
  have hv := all_at x w W b
  unfold val_main_v35 val_main_v31 val_main_v30
  generalize val_main_v18 (F := Ideal) x w W b = v at hv
  refine (few_at _ _ _ _ (fun i => ?_) e k).trans ?_
  · rw [val_main_call0_v0_apply, val_main_c_apply]
    exact congrArg (fun r : ℝ => (r : EReal)) (by norm_num)
  · show _ = if h : k.val < 16 then early x w W b e.val (gate k.val h) else 0
    by_cases h : k.val < 16
    · rw [dif_pos h, dif_pos h]
      obtain ⟨p, s, he⟩ := token e
      refine (Tok.flat_at (extractStridedSlice S4x2048x16 ![0, 0, 3072] v slices_S4x2048x9232_S4x2048x16_0_0_3072) shapeCasts_S4x2048x16_S8192x16 e ⟨k.val, h⟩).trans ?_
      rw [Tok.tok_at _ e.val _ p s he]
      refine Eq.trans (congrArg v (show _ = ix3 p s (gate k.val h) from funext fun c => match c with
        | ⟨0, _⟩ => Fin.ext (Nat.zero_add _) | ⟨1, _⟩ => Fin.ext (Nat.zero_add _) | ⟨2, _⟩ => rfl)) ((hv p s _).trans ?_)
      exact congrArg (fun n => early x w W b n (gate k.val h)) he.symm
    · rw [dif_neg h, dif_neg h]

end Cert.InProj.RefEarly
-- ==== Proof.MmTn.Square.lean ====
/- The gradient of a square projection's weight, its call waiting for another: its one column block over four grid points. -/
module

public import proofs.«01_k».proof.Proof.MmTn.Tile
public import proofs.«01_k».proof.Proof.Gen.Kernel7Ideal.Value
public import Idealize.ShloMosaic.Lib.Pipeline.ValueKit
public import Idealize.ShloMosaic.Lib.StableHlo.ReadAt

@[expose] public section

noncomputable section

namespace Cert.MmTn.Square

open Idealize.ShloMosaic Idealize.ShloMosaic.TcCoe Idealize.SL.Sem Cert.Kernel7Ideal Cert.Kernel7Ideal.Gen

section Runs

variable {F : FTy → Type} [FloatOps F]
variable (c : Dev nD) (i : grid0.Coords) (arg2 : Memref sig .tc .vmem S2048x1024 .bf16) (harg2 : arg2.IsWhole) (arg3 : Memref sig .tc .vmem S2048x1024 .bf16) (harg3 : arg3.IsWhole) (arg4 : Memref sig .tc .vmem S8x128 .f32) (harg4 : arg4.IsWhole) (arg5 : Memref sig .tc .vmem S1024x1024 .f32) (harg5 : arg5.IsWhole) (arg6 : Memref sig .tc .vmem S8x1024 .f32) (harg6 : arg6.IsWhole)
variable (x0 : Vec F S2048x1024 .bf16) (x1 : Vec F S2048x1024 .bf16) (x2 : Vec F S8x128 .f32) (xo3 : Vec F S1024x1024 .f32) (xo4 : Vec F S8x1024 .f32)

theorem outA3 (hc0 : cond0_0 i) : out0_A_3 c i arg2 harg2 arg3 harg3 arg4 harg4 arg5 harg5 arg6 harg6 hc0 x0 x1 x2 = k0_pay4 x0 k0_pay1 x1 := by
  unfold out0_A_3 kernelRun0_A
  dsimp only
  refine (View.read_writes_full _ _ _ _ _).trans ?_
  rw [Row.whole arg2 harg2, Row.whole arg3 harg3]
  exact congrArg (fun y => k0_pay4 x0 y x1) (View.readCov_full arg5.view _ _ _ _)

theorem outB3 (hc0 : ¬ cond0_0 i) : out0_B_3 c i arg2 harg2 arg3 harg3 arg4 harg4 arg5 harg5 arg6 harg6 hc0 x0 x1 x2 xo3 xo4 = k0_pay4 x0 xo3 x1 := by
  unfold out0_B_3 kernelRun0_B
  dsimp only
  refine (View.read_writes_full _ _ _ _ _).trans ?_
  rw [Row.whole arg2 harg2, Row.whole arg3 harg3, Row.whole arg5 harg5]

theorem outA4 (hc0 : cond0_0 i) : out0_A_4 c i arg2 harg2 arg3 harg3 arg4 harg4 arg5 harg5 arg6 harg6 hc0 x0 x1 x2
    = Row.setTop (k0_pay2 (F := F)) (k0_pay5 x0 (Row.top (k0_pay2 (F := F)))) := by
  unfold out0_A_4 kernelRun0_A
  dsimp only
  rw [Row.whole arg2 harg2]
  refine (Row.write_top _ _ _ _ _).trans (congrArg₂ Row.setTop ?_ (congrArg (k0_pay5 x0) ?_))
  · exact View.read_writes_full _ _ _ _ _
  · exact Row.top_written arg6.view _ _ _ _

theorem outB4 (hc0 : ¬ cond0_0 i) : out0_B_4 c i arg2 harg2 arg3 harg3 arg4 harg4 arg5 harg5 arg6 harg6 hc0 x0 x1 x2 xo3 xo4
    = Row.setTop xo4 (k0_pay5 x0 (Row.top xo4)) := by
  unfold out0_B_4 kernelRun0_B
  dsimp only
  rw [Row.whole arg2 harg2, Row.read_top arg6 harg6]
  refine (Row.write_top _ _ _ _ _).trans ?_
  rw [View.writes_nil, harg6.read_unread]

end Runs

theorem idx : ∀ t : Fin cfg0.N,
    (win0_0.index t = ![t.val % 4, t.val / 4] ∧ win0_1.index t = ![t.val % 4, 0]) ∧ win0_3.index t = ![t.val / 4, 0] ∧ win0_4.index t = ![0, t.val / 4] :=
  (by decide +kernel : ∀ t : Fin grid0.N, _)

variable (m : (ℓ : Loc nD τ sig) → Buf (Elt Ideal) ℓ) (c : Dev nD) (t : Fin cfg0.N)

/-- The two arguments. -/
def aH : Vec Ideal S4x2048x1024 .f32 := m ((c.tc : Thread nD τ).loc main_arg1)
def aZ : Vec Ideal S4x2048x1024 .f32 := m ((c.tc : Thread nD τ).loc main_arg0)

/-- A column of the point's block. -/
def col (j : Fin 1024) : Fin 1024 := ⟨t.val / 4 * 1024 + j.val, by have : t.val < 4 := t.2; omega⟩

theorem V1 : (V m c main_v1 : Vec Ideal S8192x1024 .bf16) = shapeCast S8192x1024 (aZ m c) shapeCasts_S4x2048x1024_S8192x1024 := by
  unfold V aZ
  after_reads_simp
  rfl
theorem V3 : (V m c main_v3 : Vec Ideal S8192x1024 .bf16) = shapeCast S8192x1024 (aH m c) shapeCasts_S4x2048x1024_S8192x1024 := by
  unfold V aH
  after_reads_simp
  rfl

theorem read0 (X : Vec Ideal S8192x1024 .bf16) (r : Fin 2048) (j : Fin 1024) :
    (((cfg0.win 0).blk t).view.read (Elt Ideal) X : Vec Ideal S2048x1024 .bf16) (ix2 r j)
      = X (ix2 ⟨2048 * (t.val % 4) + r.val, by omega⟩ (col t j)) := by
  blk_simp
  blk_ext [idx t, col]
theorem read1 (X : Vec Ideal S8192x1024 .bf16) (r : Fin 2048) (j : Fin 1024) :
    (((cfg0.win 1).blk t).view.read (Elt Ideal) X : Vec Ideal S2048x1024 .bf16) (ix2 r j)
      = X (ix2 ⟨2048 * (t.val % 4) + r.val, by omega⟩ j) := by
  blk_simp
  blk_ext [idx t]

theorem blk0 (r : Fin 2048) (j : Fin 1024) :
    (iblk m c 0 t : Vec Ideal S2048x1024 .bf16) (ix2 r j) = Tok.tok (aZ m c) (2048 * (t.val % 4) + r.val) (col t j) :=
  (read0 t (V m c main_v1) r j).trans ((congrFun (V1 m c) _).trans (Tok.flat_at _ _ _ _))
theorem blk1 (r : Fin 2048) (j : Fin 1024) :
    (iblk m c 1 t : Vec Ideal S2048x1024 .bf16) (ix2 r j) = Tok.tok (aH m c) (2048 * (t.val % 4) + r.val) j :=
  (read1 t (V m c main_v3) r j).trans ((congrFun (V3 m c) _).trans (Tok.flat_at _ _ _ _))

/-- What the results hold after a point: the sums over the tokens so far. -/
structure After (o : Vec Ideal S1024x1024 .f32 × Vec Ideal S8x1024 .f32) : Prop where
  w (i j : Fin 1024) : o.1 (ix2 i j) = dw (aH m c) (aZ m c) (2048 * (t.val % 4 + 1)) (col t i) j
  b (r : Fin 8) (i : Fin 1024) : o.2 (ix2 r i) = if r.val = 0 then db (aZ m c) (2048 * (t.val % 4 + 1)) (col t i) else 0

theorem after_step (hp : ¬ t.val % 4 = 0 → ∀ h, After m c ⟨t.val - 1, h⟩ (outsAt0 m c (t.val - 1) h)) :
    After m c t (outsAt0 m c t.val t.isLt) := by
  by_cases h0 : t.val % 4 = 0
  · rw [outsAt0_A m c t h0]
    have e2 := outA3 (F := Ideal) c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) ((hcond0_0 t).mpr h0)
    have e3 := outA4 (F := Ideal) c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) ((hcond0_0 t).mpr h0)
    rw [e2, e3]
    refine ⟨fun i j => products_step i j (fun r => blk0 m c t r i) (fun r => blk1 m c t r j) ?_, fun r i => sums_step (fun r i => blk0 m c t r i) (fun r i => ?_) r i⟩
    · rw [h0]; exact (zero2 _).trans rfl
    · rw [h0]; refine (zero3 _).trans ?_; split_ifs <;> rfl
  · have hp := hp h0 (Nat.lt_of_le_of_lt (Nat.sub_le _ _) t.isLt)
    have hk : (t.val - 1) % 4 + 1 = t.val % 4 := by omega
    have hc : ∀ i, col ⟨t.val - 1, Nat.lt_of_le_of_lt (Nat.sub_le _ _) t.isLt⟩ i = col t i := fun i =>
      Fin.ext (show (t.val - 1) / 4 * 1024 + i.val = t.val / 4 * 1024 + i.val by omega)
    rw [outsAt0_B m c t h0]
    have e2 := outB3 (F := Ideal) c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2 (fun h => h0 ((hcond0_0 t).mp h))
    have e3 := outB4 (F := Ideal) c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2 (fun h => h0 ((hcond0_0 t).mp h))
    rw [e2, e3]
    refine ⟨fun i j => products_step i j (fun r => blk0 m c t r i) (fun r => blk1 m c t r j) ?_, fun r i => sums_step (fun r i => blk0 m c t r i) (fun r i => ?_) r i⟩
    · rw [hp.w i j, hc]; exact congrArg (fun k => dw (aH m c) (aZ m c) (2048 * k) (col t i) j) hk
    · rw [hp.b r i, hc]; exact congrArg (fun k => if r.val = 0 then db (aZ m c) (2048 * k) (col t i) else 0) hk

theorem after_all : ∀ (n : ℕ) (hn : n < cfg0.N), After m c ⟨n, hn⟩ (outsAt0 m c n hn) := by
  intro n
  induction n with
  | zero => exact fun hn => after_step m c ⟨0, hn⟩ fun h => absurd rfl h
  | succ n ih => exact fun hn => after_step m c ⟨n + 1, hn⟩ fun _ h => ih h

theorem final3 : (dats m 0 c).arrAt 3 cfg0.N = resW (aH m c) (aZ m c) := by
  refine (dats m 0 c).arrAt_eq_of_covers 3 _ (by decide +kernel) fun t hf y => ?_
  have ht := (flush0_3 t).mp hf
  blk_simp
  rw [after0_3]
  have e : y = ix2 (y 0) (y 1) := by blk_ext
  have e0 : ((win0_3.blk t).view.emb y) 0 = col t (y 0) := Fin.ext (by blk_simp [idx t, col])
  have e1 : ((win0_3.blk t).view.emb y) 1 = y 1 := Fin.ext (by blk_simp [idx t])
  unfold resW
  rw [e0, e1]
  refine (congrArg _ e).trans (((after_all m c t.val t.isLt).w (y 0) (y 1)).trans ?_)
  rw [show (⟨t.val, t.isLt⟩ : Fin cfg0.N).val % 4 = 3 from ht]

theorem final4 : (dats m 0 c).arrAt 4 cfg0.N = resB (aZ m c) := by
  refine (dats m 0 c).arrAt_eq_of_covers 4 _ (by decide +kernel) fun t hf y => ?_
  have ht := (flush0_4 t).mp hf
  blk_simp
  rw [after0_4]
  have e : y = ix2 (y 0) (y 1) := by blk_ext
  have e0 : ((win0_4.blk t).view.emb y) 0 = y 0 := Fin.ext (by blk_simp [idx t])
  have e1 : ((win0_4.blk t).view.emb y) 1 = col t (y 1) := Fin.ext (by blk_simp [idx t, col])
  unfold resB
  rw [e0, e1]
  refine (congrArg _ e).trans (((after_all m c t.val t.isLt).b (y 0) (y 1)).trans ?_)
  rw [show (⟨t.val, t.isLt⟩ : Fin cfg0.N).val % 4 = 3 from ht]

end Cert.MmTn.Square
-- ==== Proof.MmTn.RefSquare.lean ====
/- The reference's gradient of a square projection's weight and the column sums of its input as sums over tokens. -/
module

public import proofs.«01_k».proof.Proof.Gen.Reference7Ideal.Read
public import proofs.«01_k».proof.Proof.MmTn.RefSums
public import Idealize.ShloMosaic.Lib.Pointwise

@[expose] public section

noncomputable section

namespace Cert.MmTn.RefSquare

open Idealize.ShloMosaic Cert.Reference7Ideal Cert.Reference7Ideal.Gen Cert.Reference7Ideal.Read

variable (u : Vec Ideal S4x2048x1024 .f32) (y : Vec Ideal S4x2048x1024 .f32)

theorem products_at (i j : Fin 1024) : val_main_v2 (F := Ideal) u y (ix2 i j) = ∑ b : Fin 4, ∑ s : Fin 2048, y (ix3 b s i) * u (ix3 b s j) := by
  pointwise [val_main_v2]

theorem refW : val_main_v3 (F := Ideal) u y = resW y u := by
  funext i
  obtain ⟨p, q, rfl⟩ : ∃ p q, i = ix2 p q := ⟨i 0, i 1, funext fun a => match a with | ⟨0, _⟩ => rfl | ⟨1, _⟩ => rfl⟩
  rw [val_main_v3_apply]
  refine (congrArg (val_main_v2 (F := Ideal) u y) (show idx_main_v3 (ix2 p q) = ix2 q p from funext fun a => match a with | ⟨0, _⟩ => rfl | ⟨1, _⟩ => rfl)).trans ?_
  rw [products_at]
  refine Eq.trans ?_ (dw_nested y u p q).symm
  exact Finset.sum_congr rfl fun b _ => Finset.sum_congr rfl fun s _ => mul_comm _ _

theorem sums_at (k : Fin 1024) : val_main_v4 (F := Ideal) u (ix1 k) = db u 8192 k := by
  unfold val_main_v4
  refine (sum_first_two reducesTo_S4x2048x1024_S1024_d0_1 u (Ideal.ofBits .f32 0x00000000#32) k).trans ?_
  rw [Ideal.ofBits_zero, zero_add]
  exact (db_nested u k).symm

theorem refB : val_main_v6 (F := Ideal) u = resB u := by
  unfold val_main_v6
  refine pad_rows u _ _ (fun i => ?_) fun k => ?_
  · rw [val_main_call0_v0_apply, val_main_c_apply]
    exact congrArg (fun r : ℝ => (r : EReal)) (by norm_num)
  · rw [val_main_v5_apply]
    exact (congrArg (val_main_v4 (F := Ideal) u) (show idx_main_v5 (ix2 0 k) = ix1 k from
      funext fun a => match a with | ⟨0, _⟩ => rfl)).trans (sums_at u k)

end Cert.MmTn.RefSquare
-- ==== Proof.Gates.Spec.lean ====
/- Pulling a gradient back through a projection and the gates before it. -/
module

public import proofs.«01_k».proof.Proof.Common.Tokens

@[expose] public section

noncomputable section

namespace Cert.Gates

open Idealize.ShloMosaic

/-- The number one. -/
def one : EReal := Ideal.ofBits .f32 0x3F800000#32
/-- The sigmoid. -/
def sgm (v : EReal) : EReal := Ideal.div one (one + Ideal.exp (-v))

/-- Column `j` of the `a`-th 1024 columns. -/
def part (a : Fin 5) (j : Fin 1024) : Fin 5120 := ⟨a.val * 1024 + j.val, by omega⟩

variable (a : Fin 5) (d : (⟨3, ![4, 2048, 1024]⟩ : Shape).Idx → EReal) (W : (⟨2, ![1024, 1024]⟩ : Shape).Idx → EReal)
  (z : (⟨3, ![4, 2048, 5120]⟩ : Shape).Idx → EReal) (y : (⟨3, ![4, 2048, 1024]⟩ : Shape).Idx → EReal)

/-- The gradient before the projection. -/
def back (e : ℕ) (j : Fin 1024) : EReal := ∑ k : Fin 1024, Tok.tok d e k * W (ix2 j k)
/-- The gate's argument. -/
def gate (e : ℕ) (j : Fin 1024) : EReal := Tok.tok z e (part a j)

/-- Through a sigmoid gate, to the gated value. -/
def resS : (⟨2, ![8192, 1024]⟩ : Shape).Idx → EReal := fun i => back d W (i 0).val (i 1) * sgm (gate a z (i 0).val (i 1))
/-- Through a sigmoid gate, to the gate's argument. -/
def resG : (⟨2, ![8192, 1024]⟩ : Shape).Idx → EReal := fun i => back d W (i 0).val (i 1) * Tok.tok y (i 0).val (i 1)
  * (sgm (gate a z (i 0).val (i 1)) * (one - sgm (gate a z (i 0).val (i 1))))
/-- Through a SiLU gate, to the gated value. -/
def resY : (⟨2, ![8192, 1024]⟩ : Shape).Idx → EReal := fun i => back d W (i 0).val (i 1)
  * (gate a z (i 0).val (i 1) * sgm (gate a z (i 0).val (i 1)))
/-- Through a SiLU gate, to the gate's argument. -/
def resD : (⟨2, ![8192, 1024]⟩ : Shape).Idx → EReal := fun i => back d W (i 0).val (i 1) * Tok.tok y (i 0).val (i 1)
  * (sgm (gate a z (i 0).val (i 1)) * (one + gate a z (i 0).val (i 1) * (one - sgm (gate a z (i 0).val (i 1)))))

/-- A whole block read. -/
theorem all_at {n k : ℕ} {t : EltTy} (v : (⟨2, ![n, k]⟩ : Shape).Idx → Elt Ideal t) (i1) :
    View.ld (Val := Elt Ideal) (e' := t) v (Rect.unit (s := ⟨2, ![n, k]⟩) ![0, 0] ![n, k] i1) = v :=
  funext fun y => View.ld_unit_apply_of _ _ _ _ _ _ fun a => match a with
    | ⟨0, _⟩ => (Nat.zero_add _).symm
    | ⟨1, _⟩ => (Nat.zero_add _).symm

theorem sgm_at (v : EReal) : Ideal.div one (one + Ideal.exp (Ideal.ofBits .f32 0x00000000#32 - v)) = sgm v := by
  rw [Ideal.ofBits_zero, zero_sub]; rfl

theorem token (e : Fin 8192) : ∃ (p : Fin 4) (s : Fin 2048), e.val = p.val * 2048 + s.val :=
  ⟨⟨e.val / 2048, by have := e.2; omega⟩, ⟨e.val % 2048, by omega⟩, by show e.val = e.val / 2048 * 2048 + e.val % 2048; omega⟩

/-- Two arrays by tokens agree once they agree on the batch elements and positions. -/
theorem flat_eq (v : (⟨3, ![4, 2048, 1024]⟩ : Shape).Idx → EReal) (hc) (f : ℕ → Fin 1024 → EReal) (h : ∀ p s j, v (ix3 p s j) = f (p.val * 2048 + s.val) j) :
    shapeCast (⟨2, ![8192, 1024]⟩ : Shape) v hc = fun i => f (i 0).val (i 1) := by
  funext i
  obtain ⟨e, k, rfl⟩ : ∃ e k, i = ix2 e k := ⟨i 0, i 1, funext fun a => match a with | ⟨0, _⟩ => rfl | ⟨1, _⟩ => rfl⟩
  obtain ⟨p, s, he⟩ := token e
  refine (Tok.flat_at v _ e k).trans ?_
  rw [Tok.tok_at v e.val k p s he, h]
  exact congrArg (fun n => f n k) he.symm

end Cert.Gates
-- ==== Proof.Gates.Branch.lean ====
/- The backward call of the two branches: at each point 512 tokens, the projections' gradients and the two SiLU gates. -/
module

public import proofs.«01_k».proof.Proof.Gates.Spec
public import proofs.«01_k».proof.Proof.Gen.Kernel8Ideal.Value
public import Idealize.ShloMosaic.Lib.Pointwise
public import Idealize.ShloMosaic.Lib.Pipeline.ValueKit
public import Idealize.ShloMosaic.Lib.StableHlo.ReadAt

@[expose] public section

noncomputable section

namespace Cert.Gates.Branch

open Idealize.ShloMosaic Idealize.ShloMosaic.TcCoe Idealize.SL.Sem Cert.Kernel8Ideal Cert.Kernel8Ideal.Gen

/-- The gradient before a projection, for a tile. -/
theorem backA_at (x : Vec Ideal S512x1024 .bf16) (w : Vec Ideal S1024x1024 .bf16) (r : Fin 512) (n : Fin 1024) :
    k0_pay5 (F := Ideal) x w (ix2 r n) = ∑ k : Fin 1024, x (ix2 r k) * w (ix2 n k) := by
  pointwise [k0_pay5]
theorem backR_at (x : Vec Ideal S512x1024 .bf16) (w : Vec Ideal S1024x1024 .bf16) (r : Fin 512) (n : Fin 1024) :
    k0_pay6 (F := Ideal) x w (ix2 r n) = ∑ k : Fin 1024, x (ix2 r k) * w (ix2 n k) := by
  pointwise [k0_pay6]
theorem gateA_at (v : Vec Ideal S512x1024 .bf16) (r : Fin 512) (n : Fin 1024) : k0_pay7 (F := Ideal) v (ix2 r n) = v (ix2 r n) := by
  pointwise [k0_pay7]
theorem gateR_at (v : Vec Ideal S512x1024 .bf16) (r : Fin 512) (n : Fin 1024) : k0_pay1 (F := Ideal) v (ix2 r n) = v (ix2 r n) := by
  pointwise [k0_pay1]
theorem sgmA_at (v : Vec Ideal S512x1024 .bf16) (r : Fin 512) (n : Fin 1024) : k0_pay8 (F := Ideal) v (ix2 r n) = sgm (v (ix2 r n)) := by
  rw [← sgm_at]; pointwise [k0_pay8, k0_pay7, one]
theorem sgmR_at (v : Vec Ideal S512x1024 .bf16) (r : Fin 512) (n : Fin 1024) : k0_pay2 (F := Ideal) v (ix2 r n) = sgm (v (ix2 r n)) := by
  rw [← sgm_at]; pointwise [k0_pay2, k0_pay1, one]

section Tile

variable (x0 x1 : Vec Ideal S512x1024 .bf16) (x2 x3 : Vec Ideal S1024x1024 .bf16) (x4 x5 : Vec Ideal S512x1024 .bf16)
  (x6 x7 : Vec Ideal S512x1024 .f32) (r : Fin 512) (q : Fin 1024)

/-- A tile's gradient before a projection. -/
def bk (x : Vec Ideal S512x1024 .bf16) (w : Vec Ideal S1024x1024 .bf16) (r : Fin 512) (q : Fin 1024) : EReal :=
  ∑ k : Fin 1024, x (ix2 r k) * w (ix2 q k)

theorem out8 : out0_8 (F := Ideal) x0 x1 x2 x3 x4 x5 x6 x7 (ix2 r q)
    = bk x0 x2 r q * (x4 (ix2 r q) * sgm (x4 (ix2 r q))) := by
  unfold out0_8
  canon_tiles x h using cover0_8 ..
  obtain ⟨p, n, rfl⟩ : ∃ p n, x = ix2 p n := ⟨x 0, x 1, funext fun a => match a with | ⟨0, _⟩ => rfl | ⟨1, _⟩ => rfl⟩
  obtain rfl : r = p := Fin.ext h0
  obtain rfl : q = n := Fin.ext h1
  rw [all_at x0, all_at x2, all_at x4, ← sgmA_at x4 r q, ← gateA_at x4 r q, bk, ← backA_at x0 x2 r q]
  unfold k0_pay9
  generalize k0_pay5 (F := Ideal) x0 x2 = d
  generalize k0_pay8 (F := Ideal) x4 = s
  generalize k0_pay7 (F := Ideal) x4 = g
  pointwise [one]

theorem out9 : out0_9 (F := Ideal) x0 x1 x2 x3 x4 x5 x6 x7 (ix2 r q)
    = bk x0 x2 r q * x6 (ix2 r q)
      * (sgm (x4 (ix2 r q)) * (one + x4 (ix2 r q) * (one - sgm (x4 (ix2 r q))))) := by
  unfold out0_9
  canon_tiles x h using cover0_9 ..
  obtain ⟨p, n, rfl⟩ : ∃ p n, x = ix2 p n := ⟨x 0, x 1, funext fun a => match a with | ⟨0, _⟩ => rfl | ⟨1, _⟩ => rfl⟩
  obtain rfl : r = p := Fin.ext h0
  obtain rfl : q = n := Fin.ext h1
  rw [all_at x0, all_at x2, all_at x4, all_at x6, ← sgmA_at x4 r q, ← gateA_at x4 r q, bk, ← backA_at x0 x2 r q]
  unfold k0_pay10
  generalize k0_pay5 (F := Ideal) x0 x2 = d
  generalize k0_pay8 (F := Ideal) x4 = s
  generalize k0_pay7 (F := Ideal) x4 = g
  pointwise [one]

theorem out10 : out0_10 (F := Ideal) x0 x1 x2 x3 x4 x5 x6 x7 (ix2 r q)
    = bk x1 x3 r q * (x5 (ix2 r q) * sgm (x5 (ix2 r q))) := by
  unfold out0_10 k0_pay11
  canon_tiles x h using cover0_10 ..
  obtain ⟨p, n, rfl⟩ : ∃ p n, x = ix2 p n := ⟨x 0, x 1, funext fun a => match a with | ⟨0, _⟩ => rfl | ⟨1, _⟩ => rfl⟩
  obtain rfl : r = p := Fin.ext h0
  obtain rfl : q = n := Fin.ext h1
  rw [all_at x1, all_at x3, all_at x5, ← sgmR_at x5 r q, ← gateR_at x5 r q, bk, ← backR_at x1 x3 r q]
  unfold k0_pay3
  generalize k0_pay6 (F := Ideal) x1 x3 = d
  generalize k0_pay2 (F := Ideal) x5 = s
  generalize k0_pay1 (F := Ideal) x5 = g
  pointwise [one]

theorem out11 : out0_11 (F := Ideal) x0 x1 x2 x3 x4 x5 x6 x7 (ix2 r q)
    = bk x1 x3 r q * x7 (ix2 r q)
      * (sgm (x5 (ix2 r q)) * (one + x5 (ix2 r q) * (one - sgm (x5 (ix2 r q))))) := by
  unfold out0_11 k0_pay11
  canon_tiles x h using cover0_11 ..
  obtain ⟨p, n, rfl⟩ : ∃ p n, x = ix2 p n := ⟨x 0, x 1, funext fun a => match a with | ⟨0, _⟩ => rfl | ⟨1, _⟩ => rfl⟩
  obtain rfl : r = p := Fin.ext h0
  obtain rfl : q = n := Fin.ext h1
  rw [all_at x1, all_at x3, all_at x5, all_at x7, ← sgmR_at x5 r q, ← gateR_at x5 r q, bk, ← backR_at x1 x3 r q]
  unfold k0_pay4
  generalize k0_pay6 (F := Ideal) x1 x3 = d
  generalize k0_pay2 (F := Ideal) x5 = s
  generalize k0_pay1 (F := Ideal) x5 = g
  pointwise [one]

end Tile

theorem idx : ∀ t : Fin cfg0.N,
    (win0_0.index t = ![t.val, 0] ∧ win0_1.index t = ![t.val, 0] ∧ win0_2.index t = ![0, 0] ∧ win0_3.index t = ![0, 0]
      ∧ win0_4.index t = ![t.val, 0] ∧ win0_5.index t = ![t.val, 2] ∧ win0_6.index t = ![t.val, 0] ∧ win0_7.index t = ![t.val, 0])
    ∧ win0_8.index t = ![t.val, 0] ∧ win0_9.index t = ![t.val, 0] ∧ win0_10.index t = ![t.val, 0] ∧ win0_11.index t = ![t.val, 0] :=
  (by decide +kernel : ∀ t : Fin grid0.N, _)

variable (m : (ℓ : Loc nD τ sig) → Buf (Elt Ideal) ℓ) (c : Dev nD) (t : Fin cfg0.N)

/-- The seven arguments. -/
def aA : Vec Ideal S4x2048x1024 .f32 := m ((c.tc : Thread nD τ).loc main_arg0)
def aR : Vec Ideal S4x2048x1024 .f32 := m ((c.tc : Thread nD τ).loc main_arg1)
def aWA : Vec Ideal S1024x1024 .f32 := m ((c.tc : Thread nD τ).loc main_arg2)
def aWR : Vec Ideal S1024x1024 .f32 := m ((c.tc : Thread nD τ).loc main_arg3)
def aZ : Vec Ideal S4x2048x5120 .f32 := m ((c.tc : Thread nD τ).loc main_arg4)
def aYA : Vec Ideal S4x2048x1024 .f32 := m ((c.tc : Thread nD τ).loc main_arg5)
def aYR : Vec Ideal S4x2048x1024 .f32 := m ((c.tc : Thread nD τ).loc main_arg6)

theorem V1 : (V m c main_v1 : Vec Ideal S8192x1024 .bf16) = shapeCast S8192x1024 (aA m c) shapeCasts_S4x2048x1024_S8192x1024 := by
  unfold V aA
  after_reads_simp
  rfl
theorem V3 : (V m c main_v3 : Vec Ideal S8192x1024 .bf16) = shapeCast S8192x1024 (aR m c) shapeCasts_S4x2048x1024_S8192x1024 := by
  unfold V aR
  after_reads_simp
  rfl
theorem V4 : (V m c main_v4 : Vec Ideal S1024x1024 .bf16) = aWA m c := by
  unfold V aWA
  after_reads_simp
  rfl
theorem V5 : (V m c main_v5 : Vec Ideal S1024x1024 .bf16) = aWR m c := by
  unfold V aWR
  after_reads_simp
  rfl
theorem V7 : (V m c main_v7 : Vec Ideal S8192x5120 .bf16) = shapeCast S8192x5120 (aZ m c) shapeCasts_S4x2048x5120_S8192x5120 := by
  unfold V aZ
  after_reads_simp
  rfl
theorem V8 : (V m c main_v8 : Vec Ideal S8192x1024 .f32) = shapeCast S8192x1024 (aYA m c) shapeCasts_S4x2048x1024_S8192x1024 := by
  unfold V aYA
  after_reads_simp
  rfl
theorem V9 : (V m c main_v9 : Vec Ideal S8192x1024 .f32) = shapeCast S8192x1024 (aYR m c) shapeCasts_S4x2048x1024_S8192x1024 := by
  unfold V aYR
  after_reads_simp
  rfl

/-- The point's token in row `r`. -/
def row (r : Fin 512) : Fin 8192 := ⟨512 * t.val + r.val, by have : t.val < 16 := t.2; omega⟩

theorem read0 (X : Vec Ideal S8192x1024 .bf16) (r : Fin 512) (k : Fin 1024) :
    (((cfg0.win 0).blk t).view.read (Elt Ideal) X : Vec Ideal S512x1024 .bf16) (ix2 r k) = X (ix2 (row t r) k) := by
  blk_simp
  blk_ext [idx t, row]
theorem read1 (X : Vec Ideal S8192x1024 .bf16) (r : Fin 512) (k : Fin 1024) :
    (((cfg0.win 1).blk t).view.read (Elt Ideal) X : Vec Ideal S512x1024 .bf16) (ix2 r k) = X (ix2 (row t r) k) := by
  blk_simp
  blk_ext [idx t, row]
theorem read2 (X : Vec Ideal S1024x1024 .bf16) (r k : Fin 1024) :
    (((cfg0.win 2).blk t).view.read (Elt Ideal) X : Vec Ideal S1024x1024 .bf16) (ix2 r k) = X (ix2 r k) := by
  blk_simp
  blk_ext [idx t]
theorem read3 (X : Vec Ideal S1024x1024 .bf16) (r k : Fin 1024) :
    (((cfg0.win 3).blk t).view.read (Elt Ideal) X : Vec Ideal S1024x1024 .bf16) (ix2 r k) = X (ix2 r k) := by
  blk_simp
  blk_ext [idx t]
theorem read4 (X : Vec Ideal S8192x5120 .bf16) (r : Fin 512) (k : Fin 1024) :
    (((cfg0.win 4).blk t).view.read (Elt Ideal) X : Vec Ideal S512x1024 .bf16) (ix2 r k) = X (ix2 (row t r) (part 0 k)) := by
  blk_simp
  blk_ext [idx t, row, part]
theorem read5 (X : Vec Ideal S8192x5120 .bf16) (r : Fin 512) (k : Fin 1024) :
    (((cfg0.win 5).blk t).view.read (Elt Ideal) X : Vec Ideal S512x1024 .bf16) (ix2 r k) = X (ix2 (row t r) (part 2 k)) := by
  blk_simp
  blk_ext [idx t, row, part]
theorem read6 (X : Vec Ideal S8192x1024 .f32) (r : Fin 512) (k : Fin 1024) :
    (((cfg0.win 6).blk t).view.read (Elt Ideal) X : Vec Ideal S512x1024 .f32) (ix2 r k) = X (ix2 (row t r) k) := by
  blk_simp
  blk_ext [idx t, row]
theorem read7 (X : Vec Ideal S8192x1024 .f32) (r : Fin 512) (k : Fin 1024) :
    (((cfg0.win 7).blk t).view.read (Elt Ideal) X : Vec Ideal S512x1024 .f32) (ix2 r k) = X (ix2 (row t r) k) := by
  blk_simp
  blk_ext [idx t, row]

variable (r : Fin 512) (q : Fin 1024)

theorem bkA_at : bk (iblk m c 0 t) (iblk m c 2 t) r q = back (aA m c) (aWA m c) (row t r).val q :=
  Finset.sum_congr rfl fun k _ => congrArg₂ (fun a b : EReal => a * b)
    ((read0 t (V m c main_v1) r k).trans ((congrFun (V1 m c) _).trans (Tok.flat_at _ _ _ _)))
    ((read2 t (V m c main_v4) q k).trans (congrFun (V4 m c) _))
theorem bkR_at : bk (iblk m c 1 t) (iblk m c 3 t) r q = back (aR m c) (aWR m c) (row t r).val q :=
  Finset.sum_congr rfl fun k _ => congrArg₂ (fun a b : EReal => a * b)
    ((read1 t (V m c main_v3) r k).trans ((congrFun (V3 m c) _).trans (Tok.flat_at _ _ _ _)))
    ((read3 t (V m c main_v5) q k).trans (congrFun (V5 m c) _))
theorem blk4 : (iblk m c 4 t : Vec Ideal S512x1024 .bf16) (ix2 r q) = gate 0 (aZ m c) (row t r).val q :=
  (read4 t (V m c main_v7) r q).trans ((congrFun (V7 m c) _).trans (Tok.flat_at _ _ _ _))
theorem blk5 : (iblk m c 5 t : Vec Ideal S512x1024 .bf16) (ix2 r q) = gate 2 (aZ m c) (row t r).val q :=
  (read5 t (V m c main_v7) r q).trans ((congrFun (V7 m c) _).trans (Tok.flat_at _ _ _ _))
theorem blk6 : (iblk m c 6 t : Vec Ideal S512x1024 .f32) (ix2 r q) = Tok.tok (aYA m c) (row t r).val q :=
  (read6 t (V m c main_v8) r q).trans ((congrFun (V8 m c) _).trans (Tok.flat_at _ _ _ _))
theorem blk7 : (iblk m c 7 t : Vec Ideal S512x1024 .f32) (ix2 r q) = Tok.tok (aYR m c) (row t r).val q :=
  (read7 t (V m c main_v9) r q).trans ((congrFun (V9 m c) _).trans (Tok.flat_at _ _ _ _))

theorem final8 : (dats m 0 c).arrAt 8 cfg0.N = resY 0 (aA m c) (aWA m c) (aZ m c) := by
  refine (dats m 0 c).arrAt_eq_of_covers 8 _ (by decide +kernel) fun t hf y => ?_
  blk_simp
  rw [after0_8]
  have e : y = ix2 (y 0) (y 1) := by blk_ext
  have e0 : ((win0_8.blk t).view.emb y) 0 = row t (y 0) := Fin.ext (by blk_simp [idx t, row]; show t.val * 512 + (y 0).val = 512 * t.val + (y 0).val; omega)
  have e1 : ((win0_8.blk t).view.emb y) 1 = y 1 := Fin.ext (by blk_simp [idx t])
  unfold resY
  rw [e0, e1, ← bkA_at m c t (y 0) (y 1), ← blk4 m c t (y 0) (y 1)]
  exact (congrArg _ e).trans (out8 _ _ _ _ _ _ _ _ (y 0) (y 1))

theorem final9 : (dats m 0 c).arrAt 9 cfg0.N = resD 0 (aA m c) (aWA m c) (aZ m c) (aYA m c) := by
  refine (dats m 0 c).arrAt_eq_of_covers 9 _ (by decide +kernel) fun t hf y => ?_
  blk_simp
  rw [after0_9]
  have e : y = ix2 (y 0) (y 1) := by blk_ext
  have e0 : ((win0_9.blk t).view.emb y) 0 = row t (y 0) := Fin.ext (by blk_simp [idx t, row]; show t.val * 512 + (y 0).val = 512 * t.val + (y 0).val; omega)
  have e1 : ((win0_9.blk t).view.emb y) 1 = y 1 := Fin.ext (by blk_simp [idx t])
  unfold resD
  rw [e0, e1, ← bkA_at m c t (y 0) (y 1), ← blk4 m c t (y 0) (y 1), ← blk6 m c t (y 0) (y 1)]
  exact (congrArg _ e).trans (out9 _ _ _ _ _ _ _ _ (y 0) (y 1))

theorem final10 : (dats m 0 c).arrAt 10 cfg0.N = resY 2 (aR m c) (aWR m c) (aZ m c) := by
  refine (dats m 0 c).arrAt_eq_of_covers 10 _ (by decide +kernel) fun t hf y => ?_
  blk_simp
  rw [after0_10]
  have e : y = ix2 (y 0) (y 1) := by blk_ext
  have e0 : ((win0_10.blk t).view.emb y) 0 = row t (y 0) := Fin.ext (by blk_simp [idx t, row]; show t.val * 512 + (y 0).val = 512 * t.val + (y 0).val; omega)
  have e1 : ((win0_10.blk t).view.emb y) 1 = y 1 := Fin.ext (by blk_simp [idx t])
  unfold resY
  rw [e0, e1, ← bkR_at m c t (y 0) (y 1), ← blk5 m c t (y 0) (y 1)]
  exact (congrArg _ e).trans (out10 _ _ _ _ _ _ _ _ (y 0) (y 1))

theorem final11 : (dats m 0 c).arrAt 11 cfg0.N = resD 2 (aR m c) (aWR m c) (aZ m c) (aYR m c) := by
  refine (dats m 0 c).arrAt_eq_of_covers 11 _ (by decide +kernel) fun t hf y => ?_
  blk_simp
  rw [after0_11]
  have e : y = ix2 (y 0) (y 1) := by blk_ext
  have e0 : ((win0_11.blk t).view.emb y) 0 = row t (y 0) := Fin.ext (by blk_simp [idx t, row]; show t.val * 512 + (y 0).val = 512 * t.val + (y 0).val; omega)
  have e1 : ((win0_11.blk t).view.emb y) 1 = y 1 := Fin.ext (by blk_simp [idx t])
  unfold resD
  rw [e0, e1, ← bkR_at m c t (y 0) (y 1), ← blk5 m c t (y 0) (y 1), ← blk7 m c t (y 0) (y 1)]
  exact (congrArg _ e).trans (out11 _ _ _ _ _ _ _ _ (y 0) (y 1))

end Cert.Gates.Branch
-- ==== Proof.Gates.RefBranch.lean ====
/- The reference's gradient through the two branches' projections and SiLU gates. -/
module

public import proofs.«01_k».proof.Proof.Gates.Spec
public import proofs.«01_k».proof.Proof.DhFinal.Finite
public import proofs.«01_k».proof.Pre_finite8
public import proofs.«01_k».proof.Proof.Attn.Ref
public import proofs.«01_k».proof.Proof.Gen.Reference8Ideal.Read
public import Idealize.ShloMosaic.Lib.Pointwise

@[expose] public section

noncomputable section

namespace Cert.Gates.RefBranch

open Idealize.ShloMosaic Cert.Reference8Ideal Cert.Reference8Ideal.Gen Cert.Reference8Ideal.Read Cert.DhFinal

theorem finiteFacts : Cert.Pre_finite8.Facts where
  bcast_S_S1 := by decide
  bcast_S_S4x2048x1024 := by decide
  reducesTo_S4x2048x1024_S_d0_1_2 := by decide
  h_S_ := by decide
  bcast_S_S1024x1024 := by decide
  reducesTo_S1024x1024_S_d0_1 := by decide
  bcast_S_S4x2048x5120 := by decide
  reducesTo_S4x2048x5120_S_d0_1_2 := by decide

/-- Under the precondition the arguments are arrays of real numbers. -/
theorem of_finite (x0 x1 : Vec Ideal S4x2048x1024 .f32) (x2 x3 : Vec Ideal S1024x1024 .f32) (x4 : Vec Ideal S4x2048x5120 .f32)
    (x5 x6 : Vec Ideal S4x2048x1024 .f32)
    (h : (haveI := finiteFacts; Cert.Pre_finite8.fn (F := Ideal) x0 x1 x2 x3 x4 x5 x6) = fun _ => 1#1) :
    (Real x0 ∧ Real x1 ∧ Real x2 ∧ Real x3) ∧ Real x4 ∧ Real x5 ∧ Real x6 := by
  have e := congrFun h (ix1 0)
  dsimp only [Cert.Pre_finite8.fn, Cert.Pre_finite8.fn_part1, Cert.Pre_finite8.fn_part2] at e
  obtain ⟨e, e6⟩ := AttnBwd.and_split e
  obtain ⟨e, e5⟩ := AttnBwd.and_split e
  obtain ⟨e, e4⟩ := AttnBwd.and_split e
  obtain ⟨e, e3⟩ := AttnBwd.and_split e
  obtain ⟨e, e2⟩ := AttnBwd.and_split e
  obtain ⟨e, e1⟩ := AttnBwd.and_split e
  obtain ⟨_, e0⟩ := AttnBwd.and_split e
  exact ⟨⟨AttnBwd.real_of_all x0 _ _ _ _ _ e0, AttnBwd.real_of_all x1 _ _ _ _ _ e1, AttnBwd.real_of_all x2 _ _ _ _ _ e2,
    AttnBwd.real_of_all x3 _ _ _ _ _ e3⟩, AttnBwd.real_of_all x4 _ _ _ _ _ e4, AttnBwd.real_of_all x5 _ _ _ _ _ e5,
    AttnBwd.real_of_all x6 _ _ _ _ _ e6⟩

/-! ## Real numbers -/

theorem sgm_coe {g : EReal} {x : ℝ} (h : g = x) : sgm g = ((1 / (1 + Real.exp (-x)) : ℝ) : EReal) :=
  AttnBwd.Ref.quot_coe AttnBwd.Ref.bits_one (AttnBwd.add_coe AttnBwd.Ref.bits_one
    ((congrArg Ideal.exp (AttnBwd.Ref.neg_coe h)).trans (Ideal.exp_coe _))) (by positivity)

/-- The SiLU's slope, its two summands as one product. -/
theorem slope {d y g : EReal} {a b x : ℝ} (hd : d = a) (hy : y = b) (hg : g = x) :
    y * d * sgm g + g * (y * d) * (sgm g * (one - sgm g)) = d * y * (sgm g * (one + g * (one - sgm g))) := by
  have hs := sgm_coe hg
  have h1 : one = ((1 : ℝ) : EReal) := AttnBwd.Ref.bits_one
  generalize sgm g = s at hs ⊢
  generalize (1 / (1 + Real.exp (-x)) : ℝ) = u at hs
  rw [AttnBwd.add_coe (AttnBwd.mul_coe (AttnBwd.mul_coe hy hd) hs)
      (AttnBwd.mul_coe (AttnBwd.mul_coe hg (AttnBwd.mul_coe hy hd)) (AttnBwd.mul_coe hs (AttnBwd.sub_coe h1 hs))),
    AttnBwd.mul_coe (AttnBwd.mul_coe hd hy) (AttnBwd.mul_coe hs (AttnBwd.add_coe h1 (AttnBwd.mul_coe hg (AttnBwd.sub_coe h1 hs))))]
  congr 1
  ring

variable {n : ℕ} {x : (⟨3, ![4, 2048, n]⟩ : Shape).Idx → EReal} (hx : Real x)
include hx in
theorem tok_coe (e : ℕ) (i : Fin n) : Tok.tok x e i = (((Tok.tok x e i).toReal : ℝ) : EReal) := by
  unfold Tok.tok
  by_cases h : e < 8192
  · rw [dif_pos h]; exact hx _
  · rw [dif_neg h]; rfl

variable (d : Vec Ideal S4x2048x1024 .f32) (W : Vec Ideal S1024x1024 .f32) (z : Vec Ideal S4x2048x5120 .f32) (y : Vec Ideal S4x2048x1024 .f32)
  (p : Fin 4) (s : Fin 2048) (j : Fin 1024)

theorem slope_at (a : Fin 5) (hd : Real d) (hW : Real W) (hz : Real z) (hy : Real y) (e : ℕ) :
    Tok.tok y e j * back d W e j * sgm (gate a z e j) + gate a z e j * (Tok.tok y e j * back d W e j) * (sgm (gate a z e j) * (one - sgm (gate a z e j)))
      = back d W e j * Tok.tok y e j * (sgm (gate a z e j) * (one + gate a z e j * (one - sgm (gate a z e j)))) :=
  slope (AttnBwd.sum_coe fun k => AttnBwd.mul_coe (tok_coe hd e k) (hW _)) (tok_coe hy e j) (tok_coe hz e _)

/-! ## The two branches -/

theorem backA_at : val_main_v5 (F := Ideal) d W (ix3 p s j) = back d W (p.val * 2048 + s.val) j := by
  unfold back
  rw [val_main_v5_apply]
  refine Finset.sum_congr rfl fun k _ => congrArg₂ (· * ·) ?_ ?_
  · exact (congrArg d (show lidx_main_v5 (ix3 p s j) k = ix3 p s k from funext fun a => match a with | ⟨0, _⟩ => rfl | ⟨1, _⟩ => rfl | ⟨2, _⟩ => rfl)).trans
      (Tok.tok_at d _ k p s rfl).symm
  · exact congrArg W (show ridx_main_v5 (ix3 p s j) k = ix2 j k from funext fun a => match a with | ⟨0, _⟩ => rfl | ⟨1, _⟩ => rfl)
theorem gateA_at : val_main_v0 (F := Ideal) z (ix3 p s j) = gate 0 z (p.val * 2048 + s.val) j :=
  Eq.trans (b := z (ix3 p s (part 0 j))) (congrArg z (funext fun a => match a with | ⟨0, _⟩ => Fin.ext (Nat.zero_add _) | ⟨1, _⟩ => Fin.ext (Nat.zero_add _) | ⟨2, _⟩ => rfl))
    (Tok.tok_at z _ (part 0 j) p s rfl).symm
theorem sgmA_at : val_main_v2_2 (F := Ideal) z (ix3 p s j) = sgm (gate 0 z (p.val * 2048 + s.val) j) := by
  rw [← gateA_at]
  unfold val_main_v2_2 val_main_call0_v3 val_main_call0_v1 val_main_call0_v0
  generalize val_main_v0 (F := Ideal) z = g
  pointwise [val_main_call0_v4, val_main_call0_v2, val_main_call0_cst, val_main_call0_cst_0, sgm, one]
theorem oneA_at (i) : val_main_call0_v6 (F := Ideal) i = one := by
  pointwise [val_main_call0_v6, val_main_call0_cst_1, one]

theorem backR_at : val_main_v12 (F := Ideal) d W (ix3 p s j) = back d W (p.val * 2048 + s.val) j := by
  unfold back
  rw [val_main_v12_apply]
  refine Finset.sum_congr rfl fun k _ => congrArg₂ (· * ·) ?_ ?_
  · exact (congrArg d (show lidx_main_v12 (ix3 p s j) k = ix3 p s k from funext fun a => match a with | ⟨0, _⟩ => rfl | ⟨1, _⟩ => rfl | ⟨2, _⟩ => rfl)).trans
      (Tok.tok_at d _ k p s rfl).symm
  · exact congrArg W (show ridx_main_v12 (ix3 p s j) k = ix2 j k from funext fun a => match a with | ⟨0, _⟩ => rfl | ⟨1, _⟩ => rfl)
theorem gateR_at : val_main_v1 (F := Ideal) z (ix3 p s j) = gate 2 z (p.val * 2048 + s.val) j :=
  Eq.trans (b := z (ix3 p s (part 2 j))) (congrArg z (funext fun a => match a with | ⟨0, _⟩ => Fin.ext (Nat.zero_add _) | ⟨1, _⟩ => Fin.ext (Nat.zero_add _) | ⟨2, _⟩ => rfl))
    (Tok.tok_at z _ (part 2 j) p s rfl).symm
theorem sgmR_at : val_main_v9_2 (F := Ideal) z (ix3 p s j) = sgm (gate 2 z (p.val * 2048 + s.val) j) := by
  rw [← gateR_at]
  unfold val_main_v9_2 val_main_call2_v3 val_main_call2_v1 val_main_call2_v0
  generalize val_main_v1 (F := Ideal) z = g
  pointwise [val_main_call2_v4, val_main_call2_v2, val_main_call2_cst, val_main_call2_cst_0, sgm, one]
theorem oneR_at (i) : val_main_call2_v6 (F := Ideal) i = one := by
  pointwise [val_main_call2_v6, val_main_call2_cst_1, one]

theorem refYA : val_main_v17 (F := Ideal) d W z = resY 0 d W z := by
  refine (flat_eq (val_main_v7 (F := Ideal) d W z) _ (fun e j => back d W e j * (gate 0 z e j * sgm (gate 0 z e j))) fun p s j => ?_)
  rw [← sgmA_at, ← gateA_at, ← backA_at]
  rfl
theorem refDA (hd : Real d) (hW : Real W) (hz : Real z) (hy : Real y) : val_main_v19 (F := Ideal) d W z y = resD 0 d W z y := by
  refine (flat_eq (val_main_v8 (F := Ideal) d W z y) _ (fun e j => back d W e j * Tok.tok y e j
    * (sgm (gate 0 z e j) * (one + gate 0 z e j * (one - sgm (gate 0 z e j))))) fun p s j => ?_)
  rw [← slope_at d W z y j 0 hd hW hz hy, ← sgmA_at, ← gateA_at, ← backA_at, Tok.tok_at y _ j p s rfl, ← oneA_at (ix3 p s j)]
  rfl

theorem refYR : val_main_v20 (F := Ideal) d W z = resY 2 d W z := by
  refine (flat_eq (val_main_v14 (F := Ideal) d W z) _ (fun e j => back d W e j * (gate 2 z e j * sgm (gate 2 z e j))) fun p s j => ?_)
  rw [← sgmR_at, ← gateR_at, ← backR_at]
  rfl
theorem refDR (hd : Real d) (hW : Real W) (hz : Real z) (hy : Real y) : val_main_v22 (F := Ideal) d W z y = resD 2 d W z y := by
  refine (flat_eq (val_main_v15 (F := Ideal) d W z y) _ (fun e j => back d W e j * Tok.tok y e j
    * (sgm (gate 2 z e j) * (one + gate 2 z e j * (one - sgm (gate 2 z e j))))) fun p s j => ?_)
  rw [← slope_at d W z y j 2 hd hW hz hy, ← sgmR_at, ← gateR_at, ← backR_at, Tok.tok_at y _ j p s rfl, ← oneR_at (ix3 p s j)]
  rfl

end Cert.Gates.RefBranch
-- ==== Proof.Gates.Merge.lean ====
/- The backward call of the merge: at each point 512 tokens, the output projection's gradient and the two sigmoid gates. -/
module

public import proofs.«01_k».proof.Proof.Gates.Spec
public import proofs.«01_k».proof.Proof.Gen.Kernel9Ideal.Value
public import Idealize.ShloMosaic.Lib.Pointwise
public import Idealize.ShloMosaic.Lib.Pipeline.ValueKit
public import Idealize.ShloMosaic.Lib.StableHlo.ReadAt

@[expose] public section

noncomputable section

namespace Cert.Gates.Merge

open Idealize.ShloMosaic Idealize.ShloMosaic.TcCoe Idealize.SL.Sem Cert.Kernel9Ideal Cert.Kernel9Ideal.Gen

/-- The gradient before the projection, for a tile. -/
theorem back_at (x : Vec Ideal S512x1024 .bf16) (w : Vec Ideal S1024x1024 .bf16) (r : Fin 512) (n : Fin 1024) :
    k0_pay3 (F := Ideal) x w (ix2 r n) = ∑ k : Fin 1024, x (ix2 r k) * w (ix2 n k) := by
  pointwise [k0_pay3]
theorem sigA_at (v : Vec Ideal S512x1024 .bf16) (r : Fin 512) (n : Fin 1024) : k0_pay4 (F := Ideal) v (ix2 r n) = sgm (v (ix2 r n)) := by
  rw [← sgm_at]; pointwise [k0_pay4, one]
theorem sigR_at (v : Vec Ideal S512x1024 .bf16) (r : Fin 512) (n : Fin 1024) : k0_pay5 (F := Ideal) v (ix2 r n) = sgm (v (ix2 r n)) := by
  rw [← sgm_at]; pointwise [k0_pay5, one]

section Tile

variable (x0 : Vec Ideal S512x1024 .bf16) (x1 : Vec Ideal S1024x1024 .bf16) (x2 x3 x4 x5 : Vec Ideal S512x1024 .bf16) (r : Fin 512) (q : Fin 1024)

/-- The tile's gradient before the projection. -/
def bk : EReal := ∑ k : Fin 1024, x0 (ix2 r k) * x1 (ix2 q k)

theorem out6 : out0_6 (F := Ideal) x0 x1 x2 x3 x4 x5 (ix2 r q) = bk x0 x1 r q * sgm (x2 (ix2 r q)) := by
  unfold out0_6
  canon_tiles x h using cover0_6 ..
  obtain ⟨p, n, rfl⟩ : ∃ p n, x = ix2 p n := ⟨x 0, x 1, funext fun a => match a with | ⟨0, _⟩ => rfl | ⟨1, _⟩ => rfl⟩
  obtain rfl : r = p := Fin.ext h0
  obtain rfl : q = n := Fin.ext h1
  rw [all_at x0, all_at x1, all_at x2]
  exact congrArg₂ (fun a b : EReal => a * b) (back_at x0 x1 r q) (sigA_at x2 r q)

theorem out7 : out0_7 (F := Ideal) x0 x1 x2 x3 x4 x5 (ix2 r q) = bk x0 x1 r q * sgm (x3 (ix2 r q)) := by
  unfold out0_7
  canon_tiles x h using cover0_7 ..
  obtain ⟨p, n, rfl⟩ : ∃ p n, x = ix2 p n := ⟨x 0, x 1, funext fun a => match a with | ⟨0, _⟩ => rfl | ⟨1, _⟩ => rfl⟩
  obtain rfl : r = p := Fin.ext h0
  obtain rfl : q = n := Fin.ext h1
  rw [all_at x0, all_at x1, all_at x3]
  exact congrArg₂ (fun a b : EReal => a * b) (back_at x0 x1 r q) (sigR_at x3 r q)

theorem out8 : out0_8 (F := Ideal) x0 x1 x2 x3 x4 x5 (ix2 r q)
    = bk x0 x1 r q * x4 (ix2 r q) * (sgm (x2 (ix2 r q)) * (one - sgm (x2 (ix2 r q)))) := by
  unfold out0_8
  canon_tiles x h using cover0_8 ..
  obtain ⟨p, n, rfl⟩ : ∃ p n, x = ix2 p n := ⟨x 0, x 1, funext fun a => match a with | ⟨0, _⟩ => rfl | ⟨1, _⟩ => rfl⟩
  obtain rfl : r = p := Fin.ext h0
  obtain rfl : q = n := Fin.ext h1
  rw [all_at x0, all_at x1, all_at x2, all_at x4, ← sigA_at x2 r q, bk, ← back_at x0 x1 r q]
  unfold k0_pay1 k0_pay8
  generalize k0_pay4 (F := Ideal) x2 = s
  generalize k0_pay3 (F := Ideal) x0 x1 = d
  pointwise [one]

theorem out9 : out0_9 (F := Ideal) x0 x1 x2 x3 x4 x5 (ix2 r q)
    = bk x0 x1 r q * x5 (ix2 r q) * (sgm (x3 (ix2 r q)) * (one - sgm (x3 (ix2 r q)))) := by
  unfold out0_9
  canon_tiles x h using cover0_9 ..
  obtain ⟨p, n, rfl⟩ : ∃ p n, x = ix2 p n := ⟨x 0, x 1, funext fun a => match a with | ⟨0, _⟩ => rfl | ⟨1, _⟩ => rfl⟩
  obtain rfl : r = p := Fin.ext h0
  obtain rfl : q = n := Fin.ext h1
  rw [all_at x0, all_at x1, all_at x3, all_at x5, ← sigR_at x3 r q, bk, ← back_at x0 x1 r q]
  unfold k0_pay2
  generalize k0_pay5 (F := Ideal) x3 = s
  generalize k0_pay3 (F := Ideal) x0 x1 = d
  pointwise [one]

end Tile

theorem idx : ∀ t : Fin cfg0.N,
    (win0_0.index t = ![t.val, 0] ∧ win0_1.index t = ![0, 0] ∧ win0_2.index t = ![t.val, 3] ∧ win0_3.index t = ![t.val, 4]
      ∧ win0_4.index t = ![t.val, 0] ∧ win0_5.index t = ![t.val, 0])
    ∧ win0_6.index t = ![t.val, 0] ∧ win0_7.index t = ![t.val, 0] ∧ win0_8.index t = ![t.val, 0] ∧ win0_9.index t = ![t.val, 0] :=
  (by decide +kernel : ∀ t : Fin grid0.N, _)

variable (m : (ℓ : Loc nD τ sig) → Buf (Elt Ideal) ℓ) (c : Dev nD) (t : Fin cfg0.N)

/-- The five arguments. -/
def aD : Vec Ideal S4x2048x1024 .f32 := m ((c.tc : Thread nD τ).loc main_arg0)
def aW : Vec Ideal S1024x1024 .f32 := m ((c.tc : Thread nD τ).loc main_arg1)
def aZ : Vec Ideal S4x2048x5120 .f32 := m ((c.tc : Thread nD τ).loc main_arg2)
def aA : Vec Ideal S4x2048x1024 .f32 := m ((c.tc : Thread nD τ).loc main_arg3)
def aR : Vec Ideal S4x2048x1024 .f32 := m ((c.tc : Thread nD τ).loc main_arg4)

theorem V1 : (V m c main_v1 : Vec Ideal S8192x1024 .bf16) = shapeCast S8192x1024 (aD m c) shapeCasts_S4x2048x1024_S8192x1024 := by
  unfold V aD
  after_reads_simp
  rfl
theorem V2 : (V m c main_v2 : Vec Ideal S1024x1024 .bf16) = aW m c := by
  unfold V aW
  after_reads_simp
  rfl
theorem V4 : (V m c main_v4 : Vec Ideal S8192x5120 .bf16) = shapeCast S8192x5120 (aZ m c) shapeCasts_S4x2048x5120_S8192x5120 := by
  unfold V aZ
  after_reads_simp
  rfl
theorem V6 : (V m c main_v6 : Vec Ideal S8192x1024 .bf16) = shapeCast S8192x1024 (aA m c) shapeCasts_S4x2048x1024_S8192x1024 := by
  unfold V aA
  after_reads_simp
  rfl
theorem V8 : (V m c main_v8 : Vec Ideal S8192x1024 .bf16) = shapeCast S8192x1024 (aR m c) shapeCasts_S4x2048x1024_S8192x1024 := by
  unfold V aR
  after_reads_simp
  rfl

/-- The point's token in row `r`. -/
def row (r : Fin 512) : Fin 8192 := ⟨512 * t.val + r.val, by have : t.val < 16 := t.2; omega⟩

theorem read0 (X : Vec Ideal S8192x1024 .bf16) (r : Fin 512) (k : Fin 1024) :
    (((cfg0.win 0).blk t).view.read (Elt Ideal) X : Vec Ideal S512x1024 .bf16) (ix2 r k) = X (ix2 (row t r) k) := by
  blk_simp
  blk_ext [idx t, row]
theorem read1 (X : Vec Ideal S1024x1024 .bf16) (q k : Fin 1024) :
    (((cfg0.win 1).blk t).view.read (Elt Ideal) X : Vec Ideal S1024x1024 .bf16) (ix2 q k) = X (ix2 q k) := by
  blk_simp
  blk_ext [idx t]
theorem read2 (X : Vec Ideal S8192x5120 .bf16) (r : Fin 512) (k : Fin 1024) :
    (((cfg0.win 2).blk t).view.read (Elt Ideal) X : Vec Ideal S512x1024 .bf16) (ix2 r k) = X (ix2 (row t r) (part 3 k)) := by
  blk_simp
  blk_ext [idx t, row, part]
theorem read3 (X : Vec Ideal S8192x5120 .bf16) (r : Fin 512) (k : Fin 1024) :
    (((cfg0.win 3).blk t).view.read (Elt Ideal) X : Vec Ideal S512x1024 .bf16) (ix2 r k) = X (ix2 (row t r) (part 4 k)) := by
  blk_simp
  blk_ext [idx t, row, part]
theorem read4 (X : Vec Ideal S8192x1024 .bf16) (r : Fin 512) (k : Fin 1024) :
    (((cfg0.win 4).blk t).view.read (Elt Ideal) X : Vec Ideal S512x1024 .bf16) (ix2 r k) = X (ix2 (row t r) k) := by
  blk_simp
  blk_ext [idx t, row]
theorem read5 (X : Vec Ideal S8192x1024 .bf16) (r : Fin 512) (k : Fin 1024) :
    (((cfg0.win 5).blk t).view.read (Elt Ideal) X : Vec Ideal S512x1024 .bf16) (ix2 r k) = X (ix2 (row t r) k) := by
  blk_simp
  blk_ext [idx t, row]

variable (r : Fin 512) (q : Fin 1024)

theorem bk_at : bk (iblk m c 0 t) (iblk m c 1 t) r q = back (aD m c) (aW m c) (row t r).val q :=
  Finset.sum_congr rfl fun k _ => congrArg₂ (fun a b : EReal => a * b)
    ((read0 t (V m c main_v1) r k).trans ((congrFun (V1 m c) _).trans (Tok.flat_at _ _ _ _)))
    ((read1 t (V m c main_v2) q k).trans (congrFun (V2 m c) _))
theorem blk2 : (iblk m c 2 t : Vec Ideal S512x1024 .bf16) (ix2 r q) = gate 3 (aZ m c) (row t r).val q :=
  (read2 t (V m c main_v4) r q).trans ((congrFun (V4 m c) _).trans (Tok.flat_at _ _ _ _))
theorem blk3 : (iblk m c 3 t : Vec Ideal S512x1024 .bf16) (ix2 r q) = gate 4 (aZ m c) (row t r).val q :=
  (read3 t (V m c main_v4) r q).trans ((congrFun (V4 m c) _).trans (Tok.flat_at _ _ _ _))
theorem blk4 : (iblk m c 4 t : Vec Ideal S512x1024 .bf16) (ix2 r q) = Tok.tok (aA m c) (row t r).val q :=
  (read4 t (V m c main_v6) r q).trans ((congrFun (V6 m c) _).trans (Tok.flat_at _ _ _ _))
theorem blk5 : (iblk m c 5 t : Vec Ideal S512x1024 .bf16) (ix2 r q) = Tok.tok (aR m c) (row t r).val q :=
  (read5 t (V m c main_v8) r q).trans ((congrFun (V8 m c) _).trans (Tok.flat_at _ _ _ _))

theorem final6 : (dats m 0 c).arrAt 6 cfg0.N = resS 3 (aD m c) (aW m c) (aZ m c) := by
  refine (dats m 0 c).arrAt_eq_of_covers 6 _ (by decide +kernel) fun t hf y => ?_
  blk_simp
  rw [after0_6]
  have e : y = ix2 (y 0) (y 1) := by blk_ext
  have e0 : ((win0_6.blk t).view.emb y) 0 = row t (y 0) := Fin.ext (by blk_simp [idx t, row]; show t.val * 512 + (y 0).val = 512 * t.val + (y 0).val; omega)
  have e1 : ((win0_6.blk t).view.emb y) 1 = y 1 := Fin.ext (by blk_simp [idx t])
  unfold resS
  rw [e0, e1, ← bk_at m c t (y 0) (y 1), ← blk2 m c t (y 0) (y 1)]
  exact (congrArg _ e).trans (out6 _ _ _ _ _ _ (y 0) (y 1))

theorem final7 : (dats m 0 c).arrAt 7 cfg0.N = resS 4 (aD m c) (aW m c) (aZ m c) := by
  refine (dats m 0 c).arrAt_eq_of_covers 7 _ (by decide +kernel) fun t hf y => ?_
  blk_simp
  rw [after0_7]
  have e : y = ix2 (y 0) (y 1) := by blk_ext
  have e0 : ((win0_7.blk t).view.emb y) 0 = row t (y 0) := Fin.ext (by blk_simp [idx t, row]; show t.val * 512 + (y 0).val = 512 * t.val + (y 0).val; omega)
  have e1 : ((win0_7.blk t).view.emb y) 1 = y 1 := Fin.ext (by blk_simp [idx t])
  unfold resS
  rw [e0, e1, ← bk_at m c t (y 0) (y 1), ← blk3 m c t (y 0) (y 1)]
  exact (congrArg _ e).trans (out7 _ _ _ _ _ _ (y 0) (y 1))

theorem final8 : (dats m 0 c).arrAt 8 cfg0.N = resG 3 (aD m c) (aW m c) (aZ m c) (aA m c) := by
  refine (dats m 0 c).arrAt_eq_of_covers 8 _ (by decide +kernel) fun t hf y => ?_
  blk_simp
  rw [after0_8]
  have e : y = ix2 (y 0) (y 1) := by blk_ext
  have e0 : ((win0_8.blk t).view.emb y) 0 = row t (y 0) := Fin.ext (by blk_simp [idx t, row]; show t.val * 512 + (y 0).val = 512 * t.val + (y 0).val; omega)
  have e1 : ((win0_8.blk t).view.emb y) 1 = y 1 := Fin.ext (by blk_simp [idx t])
  unfold resG
  rw [e0, e1, ← bk_at m c t (y 0) (y 1), ← blk2 m c t (y 0) (y 1), ← blk4 m c t (y 0) (y 1)]
  exact (congrArg _ e).trans (out8 _ _ _ _ _ _ (y 0) (y 1))

theorem final9 : (dats m 0 c).arrAt 9 cfg0.N = resG 4 (aD m c) (aW m c) (aZ m c) (aR m c) := by
  refine (dats m 0 c).arrAt_eq_of_covers 9 _ (by decide +kernel) fun t hf y => ?_
  blk_simp
  rw [after0_9]
  have e : y = ix2 (y 0) (y 1) := by blk_ext
  have e0 : ((win0_9.blk t).view.emb y) 0 = row t (y 0) := Fin.ext (by blk_simp [idx t, row]; show t.val * 512 + (y 0).val = 512 * t.val + (y 0).val; omega)
  have e1 : ((win0_9.blk t).view.emb y) 1 = y 1 := Fin.ext (by blk_simp [idx t])
  unfold resG
  rw [e0, e1, ← bk_at m c t (y 0) (y 1), ← blk3 m c t (y 0) (y 1), ← blk5 m c t (y 0) (y 1)]
  exact (congrArg _ e).trans (out9 _ _ _ _ _ _ (y 0) (y 1))

end Cert.Gates.Merge
-- ==== Proof.Gates.RefMerge.lean ====
/- The reference's gradient through the merge of the two branches. -/
module

public import proofs.«01_k».proof.Proof.Gates.Spec
public import proofs.«01_k».proof.Proof.Gen.Reference9Ideal.Read
public import Idealize.ShloMosaic.Lib.Pointwise

@[expose] public section

noncomputable section

namespace Cert.Gates.RefMerge

open Idealize.ShloMosaic Cert.Reference9Ideal Cert.Reference9Ideal.Gen Cert.Reference9Ideal.Read

variable (d : Vec Ideal S4x2048x1024 .f32) (W : Vec Ideal S1024x1024 .f32) (z : Vec Ideal S4x2048x5120 .f32) (y : Vec Ideal S4x2048x1024 .f32)
  (p : Fin 4) (s : Fin 2048) (j : Fin 1024)

theorem back_at : val_main_v24 (F := Ideal) d W (ix3 p s j) = back d W (p.val * 2048 + s.val) j := by
  unfold back
  rw [val_main_v24_apply]
  refine Finset.sum_congr rfl fun k _ => congrArg₂ (· * ·) ?_ ?_
  · exact (congrArg d (show lidx_main_v24 (ix3 p s j) k = ix3 p s k from funext fun a => match a with | ⟨0, _⟩ => rfl | ⟨1, _⟩ => rfl | ⟨2, _⟩ => rfl)).trans
      (Tok.tok_at d _ k p s rfl).symm
  · exact congrArg W (show ridx_main_v24 (ix3 p s j) k = ix2 j k from funext fun a => match a with | ⟨0, _⟩ => rfl | ⟨1, _⟩ => rfl)

theorem gateA_at : val_main_v0 (F := Ideal) z (ix3 p s j) = gate 3 z (p.val * 2048 + s.val) j :=
  Eq.trans (b := z (ix3 p s (part 3 j))) (congrArg z (funext fun a => match a with | ⟨0, _⟩ => Fin.ext (Nat.zero_add _) | ⟨1, _⟩ => Fin.ext (Nat.zero_add _) | ⟨2, _⟩ => rfl))
    (Tok.tok_at z _ (part 3 j) p s rfl).symm
theorem gateR_at : val_main_v1 (F := Ideal) z (ix3 p s j) = gate 4 z (p.val * 2048 + s.val) j :=
  Eq.trans (b := z (ix3 p s (part 4 j))) (congrArg z (funext fun a => match a with | ⟨0, _⟩ => Fin.ext (Nat.zero_add _) | ⟨1, _⟩ => Fin.ext (Nat.zero_add _) | ⟨2, _⟩ => rfl))
    (Tok.tok_at z _ (part 4 j) p s rfl).symm

theorem sgmA_at : val_main_v7 (F := Ideal) z (ix3 p s j) = sgm (gate 3 z (p.val * 2048 + s.val) j) := by
  rw [← gateA_at]
  unfold val_main_v7 val_main_v5 val_main_v3 val_main_v2
  generalize val_main_v0 (F := Ideal) z = g
  pointwise [val_main_v6, val_main_v4, val_main_cst, val_main_cst_0, sgm, one]
theorem sgmR_at : val_main_v17 (F := Ideal) z (ix3 p s j) = sgm (gate 4 z (p.val * 2048 + s.val) j) := by
  rw [← gateR_at]
  unfold val_main_v17 val_main_v15 val_main_v13 val_main_v12
  generalize val_main_v1 (F := Ideal) z = g
  pointwise [val_main_v16, val_main_v14, val_main_cst_2, val_main_cst_3, sgm, one]

theorem refA : val_main_v32 (F := Ideal) d W z = resS 3 d W z := by
  refine (flat_eq (val_main_v28 (F := Ideal) d W z) _ (fun e j => back d W e j * sgm (gate 3 z e j)) fun p s j => ?_)
  exact (mul_comm _ _).trans (congrArg₂ (fun a b : EReal => a * b) (back_at d W p s j) (sgmA_at z p s j))
theorem refR : val_main_v34 (F := Ideal) d W z = resS 4 d W z := by
  refine (flat_eq (val_main_v25 (F := Ideal) d W z) _ (fun e j => back d W e j * sgm (gate 4 z e j)) fun p s j => ?_)
  exact (mul_comm _ _).trans (congrArg₂ (fun a b : EReal => a * b) (back_at d W p s j) (sgmR_at z p s j))

theorem slopeA_at : val_main_v10 (F := Ideal) z (ix3 p s j) = sgm (gate 3 z (p.val * 2048 + s.val) j) * (one - sgm (gate 3 z (p.val * 2048 + s.val) j)) := by
  rw [← sgmA_at]
  unfold val_main_v10 val_main_v9
  generalize val_main_v7 (F := Ideal) z = g
  pointwise [val_main_v8, val_main_cst_1, one]
theorem slopeR_at : val_main_v20 (F := Ideal) z (ix3 p s j) = sgm (gate 4 z (p.val * 2048 + s.val) j) * (one - sgm (gate 4 z (p.val * 2048 + s.val) j)) := by
  rw [← sgmR_at]
  unfold val_main_v20 val_main_v19
  generalize val_main_v17 (F := Ideal) z = g
  pointwise [val_main_v18, val_main_cst_4, one]

theorem refGA : val_main_v36 (F := Ideal) d W z y = resG 3 d W z y := by
  refine (flat_eq (val_main_v30 (F := Ideal) d W z y) _ (fun e j => back d W e j * Tok.tok y e j * (sgm (gate 3 z e j) * (one - sgm (gate 3 z e j)))) fun p s j => ?_)
  rw [← slopeA_at, ← back_at, Tok.tok_at y _ j p s rfl]
  rfl
theorem refGR : val_main_v38 (F := Ideal) d W z y = resG 4 d W z y := by
  refine (flat_eq (val_main_v27 (F := Ideal) d W z y) _ (fun e j => back d W e j * Tok.tok y e j * (sgm (gate 4 z e j) * (one - sgm (gate 4 z e j)))) fun p s j => ?_)
  rw [← slopeR_at, ← back_at, Tok.tok_at y _ j p s rfl]
  rfl

end Cert.Gates.RefMerge
-- ==== Proof.Gates.Forward.lean ====
/- The branches' output projections and their merge: at each point 512 tokens. -/
module

public import proofs.«01_k».proof.Proof.Gates.Spec
public import proofs.«01_k».proof.Proof.Gen.Kernel10Ideal.Value
public import Idealize.ShloMosaic.Lib.Pointwise
public import Idealize.ShloMosaic.Lib.Pipeline.ValueKit
public import Idealize.ShloMosaic.Lib.StableHlo.ReadAt

@[expose] public section

noncomputable section

namespace Cert.Gates.Forward

open Idealize.ShloMosaic Idealize.ShloMosaic.TcCoe Idealize.SL.Sem Cert.Kernel10Ideal Cert.Kernel10Ideal.Gen

section Spec

variable (u v : (⟨3, ![4, 2048, 1024]⟩ : Shape).Idx → EReal) (W U : (⟨2, ![1024, 1024]⟩ : Shape).Idx → EReal)
  (z : (⟨3, ![4, 2048, 5120]⟩ : Shape).Idx → EReal)

/-- A branch's projection. -/
def proj (e : ℕ) (j : Fin 1024) : EReal := ∑ k : Fin 1024, Tok.tok u e k * W (ix2 k j)
def resP : (⟨2, ![8192, 1024]⟩ : Shape).Idx → EReal := fun i => proj u W (i 0).val (i 1)
/-- The merge of the two. -/
def resM : (⟨2, ![8192, 1024]⟩ : Shape).Idx → EReal := fun i => sgm (gate 3 z (i 0).val (i 1)) * proj u W (i 0).val (i 1)
  + sgm (gate 4 z (i 0).val (i 1)) * proj v U (i 0).val (i 1)

end Spec

/-- A tile's projections and gates. -/
theorem projA_at (x : Vec Ideal S512x1024 .bf16) (w : Vec Ideal S1024x1024 .bf16) (r : Fin 512) (n : Fin 1024) :
    k0_pay2 (F := Ideal) x w (ix2 r n) = ∑ k : Fin 1024, x (ix2 r k) * w (ix2 k n) := by
  pointwise [k0_pay2]
theorem projR_at (x : Vec Ideal S512x1024 .bf16) (w : Vec Ideal S1024x1024 .bf16) (r : Fin 512) (n : Fin 1024) :
    k0_pay3 (F := Ideal) x w (ix2 r n) = ∑ k : Fin 1024, x (ix2 r k) * w (ix2 k n) := by
  pointwise [k0_pay3]

section Tile

variable (x0 x1 : Vec Ideal S512x1024 .bf16) (x2 x3 : Vec Ideal S1024x1024 .bf16) (x4 x5 : Vec Ideal S512x1024 .bf16) (r : Fin 512) (q : Fin 1024)

/-- The tile's projection. -/
def pj (x : Vec Ideal S512x1024 .bf16) (w : Vec Ideal S1024x1024 .bf16) (r : Fin 512) (q : Fin 1024) : EReal := ∑ k : Fin 1024, x (ix2 r k) * w (ix2 k q)

theorem out6 : out0_6 (F := Ideal) x0 x1 x2 x3 x4 x5 (ix2 r q) = pj x0 x2 r q := by
  unfold out0_6
  canon_tiles x h using cover0_6 ..
  obtain ⟨p, n, rfl⟩ : ∃ p n, x = ix2 p n := ⟨x 0, x 1, funext fun a => match a with | ⟨0, _⟩ => rfl | ⟨1, _⟩ => rfl⟩
  obtain rfl : r = p := Fin.ext h0
  obtain rfl : q = n := Fin.ext h1
  rw [all_at x0, all_at x2]
  exact projA_at x0 x2 r q

theorem out7 : out0_7 (F := Ideal) x0 x1 x2 x3 x4 x5 (ix2 r q) = pj x1 x3 r q := by
  unfold out0_7
  canon_tiles x h using cover0_7 ..
  obtain ⟨p, n, rfl⟩ : ∃ p n, x = ix2 p n := ⟨x 0, x 1, funext fun a => match a with | ⟨0, _⟩ => rfl | ⟨1, _⟩ => rfl⟩
  obtain rfl : r = p := Fin.ext h0
  obtain rfl : q = n := Fin.ext h1
  rw [all_at x1, all_at x3]
  exact projR_at x1 x3 r q

theorem out8 : out0_8 (F := Ideal) x0 x1 x2 x3 x4 x5 (ix2 r q) = sgm (x4 (ix2 r q)) * pj x0 x2 r q + sgm (x5 (ix2 r q)) * pj x1 x3 r q := by
  unfold out0_8
  canon_tiles x h using cover0_8 ..
  obtain ⟨p, n, rfl⟩ : ∃ p n, x = ix2 p n := ⟨x 0, x 1, funext fun a => match a with | ⟨0, _⟩ => rfl | ⟨1, _⟩ => rfl⟩
  obtain rfl : r = p := Fin.ext h0
  obtain rfl : q = n := Fin.ext h1
  rw [all_at x0, all_at x1, all_at x2, all_at x3, all_at x4, all_at x5, ← sgm_at, ← sgm_at, pj, pj, ← projA_at x0 x2 r q, ← projR_at x1 x3 r q]
  unfold k0_pay1 k0_pay6 k0_pay7
  generalize k0_pay2 (F := Ideal) x0 x2 = s
  generalize k0_pay3 (F := Ideal) x1 x3 = d
  pointwise [one]

end Tile

theorem idx : ∀ t : Fin cfg0.N,
    ((win0_0.index t = ![t.val, 0] ∧ win0_1.index t = ![t.val, 0]) ∧ win0_2.index t = ![0, 0] ∧ win0_3.index t = ![0, 0]
      ∧ win0_4.index t = ![t.val, 3] ∧ win0_5.index t = ![t.val, 4])
    ∧ win0_6.index t = ![t.val, 0] ∧ win0_7.index t = ![t.val, 0] ∧ win0_8.index t = ![t.val, 0] :=
  (by decide +kernel : ∀ t : Fin grid0.N, _)

variable (m : (ℓ : Loc nD τ sig) → Buf (Elt Ideal) ℓ) (c : Dev nD) (t : Fin cfg0.N)

/-- The five arguments. -/
def aA : Vec Ideal S4x2048x1024 .f32 := m ((c.tc : Thread nD τ).loc main_arg0)
def aR : Vec Ideal S4x2048x1024 .f32 := m ((c.tc : Thread nD τ).loc main_arg1)
def aWA : Vec Ideal S1024x1024 .f32 := m ((c.tc : Thread nD τ).loc main_arg2)
def aWR : Vec Ideal S1024x1024 .f32 := m ((c.tc : Thread nD τ).loc main_arg3)
def aZ : Vec Ideal S4x2048x5120 .f32 := m ((c.tc : Thread nD τ).loc main_arg4)

theorem VA : (V m c main_v1 : Vec Ideal S8192x1024 .bf16) = shapeCast S8192x1024 (aA m c) shapeCasts_S4x2048x1024_S8192x1024 := by
  unfold V aA
  after_reads_simp
  rfl
theorem VR : (V m c main_v3 : Vec Ideal S8192x1024 .bf16) = shapeCast S8192x1024 (aR m c) shapeCasts_S4x2048x1024_S8192x1024 := by
  unfold V aR
  after_reads_simp
  rfl
theorem VWA : (V m c main_v4 : Vec Ideal S1024x1024 .bf16) = aWA m c := by
  unfold V aWA
  after_reads_simp
  rfl
theorem VWR : (V m c main_v5 : Vec Ideal S1024x1024 .bf16) = aWR m c := by
  unfold V aWR
  after_reads_simp
  rfl
theorem VZ : (V m c main_v7 : Vec Ideal S8192x5120 .bf16) = shapeCast S8192x5120 (aZ m c) shapeCasts_S4x2048x5120_S8192x5120 := by
  unfold V aZ
  after_reads_simp
  rfl

/-- The point's token in row `r`. -/
def row (r : Fin 512) : Fin 8192 := ⟨512 * t.val + r.val, by have : t.val < 16 := t.2; omega⟩

theorem read0 (X : Vec Ideal S8192x1024 .bf16) (r : Fin 512) (k : Fin 1024) :
    (((cfg0.win 0).blk t).view.read (Elt Ideal) X : Vec Ideal S512x1024 .bf16) (ix2 r k) = X (ix2 (row t r) k) := by
  blk_simp
  blk_ext [idx t, row]
theorem read1 (X : Vec Ideal S8192x1024 .bf16) (r : Fin 512) (k : Fin 1024) :
    (((cfg0.win 1).blk t).view.read (Elt Ideal) X : Vec Ideal S512x1024 .bf16) (ix2 r k) = X (ix2 (row t r) k) := by
  blk_simp
  blk_ext [idx t, row]
theorem read2 (X : Vec Ideal S1024x1024 .bf16) (k q : Fin 1024) :
    (((cfg0.win 2).blk t).view.read (Elt Ideal) X : Vec Ideal S1024x1024 .bf16) (ix2 k q) = X (ix2 k q) := by
  blk_simp
  blk_ext [idx t]
theorem read3 (X : Vec Ideal S1024x1024 .bf16) (k q : Fin 1024) :
    (((cfg0.win 3).blk t).view.read (Elt Ideal) X : Vec Ideal S1024x1024 .bf16) (ix2 k q) = X (ix2 k q) := by
  blk_simp
  blk_ext [idx t]
theorem read4 (X : Vec Ideal S8192x5120 .bf16) (r : Fin 512) (k : Fin 1024) :
    (((cfg0.win 4).blk t).view.read (Elt Ideal) X : Vec Ideal S512x1024 .bf16) (ix2 r k) = X (ix2 (row t r) (part 3 k)) := by
  blk_simp
  blk_ext [idx t, row, part]
theorem read5 (X : Vec Ideal S8192x5120 .bf16) (r : Fin 512) (k : Fin 1024) :
    (((cfg0.win 5).blk t).view.read (Elt Ideal) X : Vec Ideal S512x1024 .bf16) (ix2 r k) = X (ix2 (row t r) (part 4 k)) := by
  blk_simp
  blk_ext [idx t, row, part]

variable (r : Fin 512) (q : Fin 1024)

theorem pjA : pj (iblk m c 0 t) (iblk m c 2 t) r q = proj (aA m c) (aWA m c) (row t r).val q :=
  Finset.sum_congr rfl fun k _ => congrArg₂ (fun a b : EReal => a * b)
    ((read0 t (V m c main_v1) r k).trans ((congrFun (VA m c) _).trans (Tok.flat_at _ _ _ _)))
    ((read2 t (V m c main_v4) k q).trans (congrFun (VWA m c) _))
theorem pjR : pj (iblk m c 1 t) (iblk m c 3 t) r q = proj (aR m c) (aWR m c) (row t r).val q :=
  Finset.sum_congr rfl fun k _ => congrArg₂ (fun a b : EReal => a * b)
    ((read1 t (V m c main_v3) r k).trans ((congrFun (VR m c) _).trans (Tok.flat_at _ _ _ _)))
    ((read3 t (V m c main_v5) k q).trans (congrFun (VWR m c) _))
theorem gateA : (iblk m c 4 t : Vec Ideal S512x1024 .bf16) (ix2 r q) = gate 3 (aZ m c) (row t r).val q :=
  (read4 t (V m c main_v7) r q).trans ((congrFun (VZ m c) _).trans (Tok.flat_at _ _ _ _))
theorem gateR : (iblk m c 5 t : Vec Ideal S512x1024 .bf16) (ix2 r q) = gate 4 (aZ m c) (row t r).val q :=
  (read5 t (V m c main_v7) r q).trans ((congrFun (VZ m c) _).trans (Tok.flat_at _ _ _ _))

theorem final6 : (dats m 0 c).arrAt 6 cfg0.N = resP (aA m c) (aWA m c) := by
  refine (dats m 0 c).arrAt_eq_of_covers 6 _ (by decide +kernel) fun t hf y => ?_
  blk_simp
  rw [after0_6]
  have e : y = ix2 (y 0) (y 1) := by blk_ext
  have e0 : ((win0_6.blk t).view.emb y) 0 = row t (y 0) := Fin.ext (by blk_simp [idx t, row]; show t.val * 512 + (y 0).val = 512 * t.val + (y 0).val; omega)
  have e1 : ((win0_6.blk t).view.emb y) 1 = y 1 := Fin.ext (by blk_simp [idx t])
  unfold resP
  rw [e0, e1, ← pjA m c t (y 0) (y 1)]
  exact (congrArg _ e).trans (out6 _ _ _ _ _ _ (y 0) (y 1))

theorem final7 : (dats m 0 c).arrAt 7 cfg0.N = resP (aR m c) (aWR m c) := by
  refine (dats m 0 c).arrAt_eq_of_covers 7 _ (by decide +kernel) fun t hf y => ?_
  blk_simp
  rw [after0_7]
  have e : y = ix2 (y 0) (y 1) := by blk_ext
  have e0 : ((win0_7.blk t).view.emb y) 0 = row t (y 0) := Fin.ext (by blk_simp [idx t, row]; show t.val * 512 + (y 0).val = 512 * t.val + (y 0).val; omega)
  have e1 : ((win0_7.blk t).view.emb y) 1 = y 1 := Fin.ext (by blk_simp [idx t])
  unfold resP
  rw [e0, e1, ← pjR m c t (y 0) (y 1)]
  exact (congrArg _ e).trans (out7 _ _ _ _ _ _ (y 0) (y 1))

theorem final8 : (dats m 0 c).arrAt 8 cfg0.N = resM (aA m c) (aR m c) (aWA m c) (aWR m c) (aZ m c) := by
  refine (dats m 0 c).arrAt_eq_of_covers 8 _ (by decide +kernel) fun t hf y => ?_
  blk_simp
  rw [after0_8]
  have e : y = ix2 (y 0) (y 1) := by blk_ext
  have e0 : ((win0_8.blk t).view.emb y) 0 = row t (y 0) := Fin.ext (by blk_simp [idx t, row]; show t.val * 512 + (y 0).val = 512 * t.val + (y 0).val; omega)
  have e1 : ((win0_8.blk t).view.emb y) 1 = y 1 := Fin.ext (by blk_simp [idx t])
  unfold resM
  rw [e0, e1, ← pjA m c t (y 0) (y 1), ← pjR m c t (y 0) (y 1), ← gateA m c t (y 0) (y 1), ← gateR m c t (y 0) (y 1)]
  exact (congrArg _ e).trans (out8 _ _ _ _ _ _ (y 0) (y 1))

end Cert.Gates.Forward
-- ==== Proof.Gates.RefForward.lean ====
/- The reference's projections of the two branches and their merge. -/
module

public import proofs.«01_k».proof.Proof.Gates.Forward
public import proofs.«01_k».proof.Proof.Gen.Reference10Ideal.Read
public import Idealize.ShloMosaic.Lib.Pointwise

@[expose] public section

noncomputable section

namespace Cert.Gates.RefForward

open Idealize.ShloMosaic Cert.Reference10Ideal Cert.Reference10Ideal.Gen Cert.Reference10Ideal.Read Cert.Gates.Forward

variable (u v : Vec Ideal S4x2048x1024 .f32) (W U : Vec Ideal S1024x1024 .f32) (z : Vec Ideal S4x2048x5120 .f32)
  (p : Fin 4) (s : Fin 2048) (j : Fin 1024)

theorem projA_at : val_main_v0 (F := Ideal) u W (ix3 p s j) = proj u W (p.val * 2048 + s.val) j := by
  unfold proj
  rw [val_main_v0_apply]
  refine Finset.sum_congr rfl fun k _ => congrArg₂ (· * ·) ?_ ?_
  · exact (congrArg u (show lidx_main_v0 (ix3 p s j) k = ix3 p s k from funext fun a => match a with | ⟨0, _⟩ => rfl | ⟨1, _⟩ => rfl | ⟨2, _⟩ => rfl)).trans
      (Tok.tok_at u _ k p s rfl).symm
  · exact congrArg W (show ridx_main_v0 (ix3 p s j) k = ix2 k j from funext fun a => match a with | ⟨0, _⟩ => rfl | ⟨1, _⟩ => rfl)
theorem projR_at : val_main_v1 (F := Ideal) v U (ix3 p s j) = proj v U (p.val * 2048 + s.val) j := by
  unfold proj
  rw [val_main_v1_apply]
  refine Finset.sum_congr rfl fun k _ => congrArg₂ (· * ·) ?_ ?_
  · exact (congrArg v (show lidx_main_v1 (ix3 p s j) k = ix3 p s k from funext fun a => match a with | ⟨0, _⟩ => rfl | ⟨1, _⟩ => rfl | ⟨2, _⟩ => rfl)).trans
      (Tok.tok_at v _ k p s rfl).symm
  · exact congrArg U (show ridx_main_v1 (ix3 p s j) k = ix2 k j from funext fun a => match a with | ⟨0, _⟩ => rfl | ⟨1, _⟩ => rfl)

theorem gateA_at : val_main_v2 (F := Ideal) z (ix3 p s j) = gate 3 z (p.val * 2048 + s.val) j :=
  Eq.trans (b := z (ix3 p s (part 3 j))) (congrArg z (funext fun a => match a with | ⟨0, _⟩ => Fin.ext (Nat.zero_add _) | ⟨1, _⟩ => Fin.ext (Nat.zero_add _) | ⟨2, _⟩ => rfl))
    (Tok.tok_at z _ (part 3 j) p s rfl).symm
theorem gateR_at : val_main_v10 (F := Ideal) z (ix3 p s j) = gate 4 z (p.val * 2048 + s.val) j :=
  Eq.trans (b := z (ix3 p s (part 4 j))) (congrArg z (funext fun a => match a with | ⟨0, _⟩ => Fin.ext (Nat.zero_add _) | ⟨1, _⟩ => Fin.ext (Nat.zero_add _) | ⟨2, _⟩ => rfl))
    (Tok.tok_at z _ (part 4 j) p s rfl).symm

theorem sgmA_at : val_main_v8 (F := Ideal) z (ix3 p s j) = sgm (gate 3 z (p.val * 2048 + s.val) j) := by
  rw [← gateA_at]
  unfold val_main_v8 val_main_v6 val_main_v4 val_main_v3
  generalize val_main_v2 (F := Ideal) z = g
  pointwise [val_main_v7, val_main_v5, val_main_cst, val_main_cst_0, sgm, one]
theorem sgmR_at : val_main_v16 (F := Ideal) z (ix3 p s j) = sgm (gate 4 z (p.val * 2048 + s.val) j) := by
  rw [← gateR_at]
  unfold val_main_v16 val_main_v14 val_main_v12 val_main_v11
  generalize val_main_v10 (F := Ideal) z = g
  pointwise [val_main_v15, val_main_v13, val_main_cst_1, val_main_cst_2, sgm, one]

theorem refA : val_main_v20 (F := Ideal) u W = resP u W :=
  flat_eq (val_main_v0 (F := Ideal) u W) _ (fun e j => proj u W e j) fun p s j => projA_at u W p s j
theorem refR : val_main_v22 (F := Ideal) v U = resP v U :=
  flat_eq (val_main_v1 (F := Ideal) v U) _ (fun e j => proj v U e j) fun p s j => projR_at v U p s j
theorem refM : val_main_v24 (F := Ideal) u v W U z = resM u v W U z := by
  refine flat_eq (val_main_v18 (F := Ideal) u v W U z) _ (fun e j => sgm (gate 3 z e j) * proj u W e j + sgm (gate 4 z e j) * proj v U e j) fun p s j => ?_
  rw [← sgmA_at, ← sgmR_at, ← projA_at, ← projR_at]
  rfl

end Cert.Gates.RefForward
-- ==== Proof.OutLoss.Spec.lean ====
/- The output projection, the norm after it and the loss: the gradient of the block's result, of the projection's result, the norm
   weight's gradient and the squared errors' sums over tokens. -/
module

public import proofs.«01_k».proof.Proof.DhFinal.Spec

@[expose] public section

noncomputable section

namespace Cert.OutLoss

open Idealize.ShloMosaic
open Cert.DhFinal (width eps)

/-- One over the number of features. -/
def scale : EReal := Ideal.ofBits .f32 0x3A800000#32

variable (a : (⟨3, ![4, 2048, 1024]⟩ : Shape).Idx → EReal) (W : (⟨2, ![1024, 1024]⟩ : Shape).Idx → EReal)
  (x y : (⟨3, ![4, 2048, 1024]⟩ : Shape).Idx → EReal) (w : (⟨2, ![1, 1024]⟩ : Shape).Idx → EReal)

/-- The projection's result, the norm's factor and its result. -/
def oo (e : ℕ) (j : Fin 1024) : EReal := ∑ k : Fin 1024, Tok.tok a e k * W (ix2 k j)
def fac (e : ℕ) : EReal := Ideal.rsqrt (Ideal.div (∑ i : Fin 1024, oo a W e i * oo a W e i) width + eps)
def nn (e : ℕ) (j : Fin 1024) : EReal := oo a W e j * fac a W e
/-- The error, the gradient of the block's result, and that times the norm's weight. -/
def err (e : ℕ) (j : Fin 1024) : EReal := Tok.tok x e j + nn a W e j * w (ix2 0 j) - Tok.tok y e j
def dy (e : ℕ) (j : Fin 1024) : EReal := err a W x y w e j * scale
def dn (e : ℕ) (j : Fin 1024) : EReal := dy a W x y w e j * w (ix2 0 j)
/-- The gradient of the projection's result. -/
def dO (e : ℕ) (j : Fin 1024) : EReal :=
  fac a W e * (dn a W x y w e j - nn a W e j * Ideal.div (∑ i : Fin 1024, dn a W x y w e i * nn a W e i) width)
/-- The sums over the first `k` tokens: the norm weight's gradient and the squared errors. -/
def gw (k : ℕ) (j : Fin 1024) : EReal := ∑ e ∈ Finset.range k, dy a W x y w e j * nn a W e j
def ge (k : ℕ) (j : Fin 1024) : EReal := ∑ e ∈ Finset.range k, err a W x y w e j * err a W x y w e j

def acc (k : ℕ) (r : Fin 8) (j : Fin 1024) : EReal :=
  if r.val = 0 then gw a W x y w k j else if r.val = 1 then ge a W x y w k j else 0

def resY : (⟨2, ![8192, 1024]⟩ : Shape).Idx → EReal := fun i => dy a W x y w (i 0).val (i 1)
def resO : (⟨2, ![8192, 1024]⟩ : Shape).Idx → EReal := fun i => dO a W x y w (i 0).val (i 1)
def resA : (⟨2, ![8, 1024]⟩ : Shape).Idx → EReal := fun i => acc a W x y w 8192 (i 0) (i 1)

end Cert.OutLoss
-- ==== Proof.OutLoss.Rows.lean ====
/- A block of eight rows whose second is read and written on its own, after the first. -/
module

public import proofs.«01_k».proof.Proof.Common.Row

@[expose] public section

noncomputable section

namespace Cert.OutLoss

open Idealize.ShloMosaic

variable {Val : EltTy → Type} {sig : RefSig} {κ : Kind} {sp : Space} {e : EltTy} {n : ℕ}

/-- The second of eight rows. -/
def second (x : (⟨2, ![8, n]⟩ : Shape).Idx → Val e) : (⟨2, ![1, n]⟩ : Shape).Idx → Val e := fun j => x (ix2 1 (j 1))
/-- The eight rows with another second row. -/
def setSecond (x : (⟨2, ![8, n]⟩ : Shape).Idx → Val e) (w : (⟨2, ![1, n]⟩ : Shape).Idx → Val e) : (⟨2, ![8, n]⟩ : Shape).Idx → Val e :=
  fun y => if (y 0).val = 1 then w (ix2 0 (y 1)) else x y

theorem set_one (x : (⟨2, ![8, n]⟩ : Shape).Idx → Val e) (w : (⟨2, ![1, n]⟩ : Shape).Idx → Val e) (j : Fin n) :
    setSecond x w (ix2 1 j) = w (ix2 0 j) := rfl
theorem set_other (x : (⟨2, ![8, n]⟩ : Shape).Idx → Val e) (w : (⟨2, ![1, n]⟩ : Shape).Idx → Val e) (r : Fin 8) (hr : r.val ≠ 1) (j : Fin n) :
    setSecond x w (ix2 r j) = x (ix2 r j) := if_neg hr

theorem write_second (v : View sig κ sp (⟨2, ![8, n]⟩ : Shape) e) (f : v.ty.Contents Val) (w : (⟨2, ![1, n]⟩ : Shape).Idx → Val e)
    (inb : ∀ a, (![1, 0] : Fin 2 → ℕ) a + (⟨2, ![1, n]⟩ : Shape).size a ≤ (⟨2, ![8, n]⟩ : Shape).size a)
    (L : List (View.Piece Val (⟨2, ![8, n]⟩ : Shape) e)) :
    v.read Val (v.writes Val f ((⟨Rect.unit (s := (⟨2, ![8, n]⟩ : Shape)) ![1, 0] (⟨2, ![1, n]⟩ : Shape).size inb, w⟩ :
        View.Piece Val (⟨2, ![8, n]⟩ : Shape) e) :: L))
      = setSecond (v.read Val (v.writes Val f L)) w := by
  funext y
  unfold setSecond
  split_ifs with hy
  · refine View.read_writes_cons_unit_of_mem v f inb w L y (ix2 0 (y 1)) rfl fun a => ?_
    match a with
    | ⟨0, _⟩ => show (y 0).val = 1 + 0; omega
    | ⟨1, _⟩ => show (y 1).val = 0 + (y 1).val; omega
  · by_cases h0 : (y 0).val = 0
    · refine View.read_writes_cons_unit_of_not_mem v f inb w L y rfl 0 (Or.inl ?_)
      show (y 0).val < 1
      omega
    · refine View.read_writes_cons_unit_of_not_mem v f inb w L y rfl 0 (Or.inr ?_)
      show 1 + 1 ≤ (y 0).val
      omega

theorem read_second (arg : Memref sig κ sp (⟨2, ![8, n]⟩ : Shape) e) (h : arg.IsWhole) (x : (⟨2, ![8, n]⟩ : Shape).Idx → Val e)
    (inb : ∀ a, (![1, 0] : Fin 2 → ℕ) a + (⟨2, ![1, n]⟩ : Shape).size a ≤ (⟨2, ![8, n]⟩ : Shape).size a) :
    arg.view.readAt Val (Rect.unit (s := (⟨2, ![8, n]⟩ : Shape)) ![1, 0] (⟨2, ![1, n]⟩ : Shape).size inb).toLoadRect (h.unread x) = second x := by
  funext j
  refine (h.readAt_unread x _ j).trans (congrArg x (funext fun a => Fin.ext ?_))
  have h0 : (j 0).val < 1 := (j 0).2
  match a with
  | ⟨0, _⟩ => show 1 + 1 * (j 0).val = 1; omega
  | ⟨1, _⟩ => show 0 + 1 * (j 1).val = (j 1).val; omega

/-- The second row of contents read as a whole. -/
theorem second_of (v : View sig κ sp (⟨2, ![8, n]⟩ : Shape) e) (f : v.ty.Contents Val)
    (inb : ∀ a, (![1, 0] : Fin 2 → ℕ) a + (⟨2, ![1, n]⟩ : Shape).size a ≤ (⟨2, ![8, n]⟩ : Shape).size a) :
    v.readAt Val (Rect.unit (s := (⟨2, ![8, n]⟩ : Shape)) ![1, 0] (⟨2, ![1, n]⟩ : Shape).size inb).toLoadRect f = second (v.read Val f) := by
  funext j
  refine congrArg (v.read Val f) (funext fun a => Fin.ext ?_)
  have h0 : (j 0).val < 1 := (j 0).2
  match a with
  | ⟨0, _⟩ => show 1 + 1 * (j 0).val = 1; omega
  | ⟨1, _⟩ => show 0 + 1 * (j 1).val = (j 1).val; omega

theorem second_setTop (x : (⟨2, ![8, n]⟩ : Shape).Idx → Val e) (w : (⟨2, ![1, n]⟩ : Shape).Idx → Val e) : second (Row.setTop x w) = second x := rfl

end Cert.OutLoss
-- ==== Proof.OutLoss.Tile.lean ====
/- The output projection's tile of 512 tokens, its norm and its loss, read at an index. -/
module

public import proofs.«01_k».proof.Proof.OutLoss.Spec
public import proofs.«01_k».proof.Proof.OutLoss.Rows
public import proofs.«01_k».proof.Proof.Gen.Kernel11Ideal.Skeleton
public import Idealize.ShloMosaic.Lib.Pointwise
public import Idealize.ShloMosaic.Lib.IdealHost

@[expose] public section

noncomputable section

namespace Cert.OutLoss

open Idealize.ShloMosaic Cert.Kernel11Ideal Cert.Kernel11Ideal.Gen
open Cert.DhFinal (width eps)

section Formulas

variable (v : Vec Ideal S512x1024 .bf16) (b : Vec Ideal S1024x1024 .bf16) (p : Vec Ideal S1x1024 .f32) (u t : Vec Ideal S512x1024 .f32)
  (r : Fin 512) (j : Fin 1024)

theorem oo_form : k0_pay5 (F := Ideal) v b (ix2 r j) = ∑ k : Fin 1024, v (ix2 r k) * b (ix2 k j) := by
  pointwise [k0_pay5]
theorem fac_form : k0_pay6 (F := Ideal) v b (ix2 r 0)
    = Ideal.rsqrt (Ideal.div (∑ i : Fin 1024, k0_pay5 (F := Ideal) v b (ix2 r i) * k0_pay5 (F := Ideal) v b (ix2 r i)) width + eps) := by
  unfold k0_pay6
  generalize k0_pay5 (F := Ideal) v b = o
  pointwise [width, eps]
theorem nn_form : k0_pay7 (F := Ideal) v b (ix2 r j) = k0_pay5 (F := Ideal) v b (ix2 r j) * k0_pay6 (F := Ideal) v b (ix2 r 0) := by
  unfold k0_pay7
  generalize k0_pay5 (F := Ideal) v b = o
  generalize k0_pay6 (F := Ideal) v b = f
  pointwise
theorem err_form : k0_pay8 (F := Ideal) v b p u t (ix2 r j) = u (ix2 r j) + k0_pay7 (F := Ideal) v b (ix2 r j) * p (ix2 0 j) - t (ix2 r j) := by
  unfold k0_pay8
  generalize k0_pay7 (F := Ideal) v b = n
  pointwise
theorem dy_form : k0_pay9 (F := Ideal) v b p u t (ix2 r j) = k0_pay8 (F := Ideal) v b p u t (ix2 r j) * scale := by
  unfold k0_pay9
  generalize k0_pay8 (F := Ideal) v b p u t = e
  pointwise [scale]
theorem dn_form : k0_pay10 (F := Ideal) v b p u t (ix2 r j) = k0_pay9 (F := Ideal) v b p u t (ix2 r j) * p (ix2 0 j)
    - k0_pay7 (F := Ideal) v b (ix2 r j) * Ideal.div (∑ i : Fin 1024, k0_pay9 (F := Ideal) v b p u t (ix2 r i) * p (ix2 0 i)
      * k0_pay7 (F := Ideal) v b (ix2 r i)) width := by
  unfold k0_pay10
  generalize k0_pay9 (F := Ideal) v b p u t = d
  generalize k0_pay7 (F := Ideal) v b = n
  pointwise [width]
theorem do_form (f : Vec Ideal S512x1 .f32) : k0_pay1 (F := Ideal) f u (ix2 r j) = f (ix2 r 0) * u (ix2 r j) := by
  pointwise [k0_pay1]
theorem rowG_form : k0_pay2 (F := Ideal) u t p (ix2 0 j) = p (ix2 0 j) + ∑ r : Fin 512, t (ix2 r j) * u (ix2 r j) := by
  pointwise [k0_pay2]
theorem rowE_form : k0_pay3 (F := Ideal) u p (ix2 0 j) = p (ix2 0 j) + ∑ r : Fin 512, u (ix2 r j) * u (ix2 r j) := by
  pointwise [k0_pay3]
theorem zeros_form (i : S8x1024.Idx) : k0_pay4 (F := Ideal) i = 0 := by
  show Ideal.ofBits .f32 0x00000000#32 = 0
  simp [Ideal.ofBits, Ideal.ieee]

end Formulas

variable {a : (⟨3, ![4, 2048, 1024]⟩ : Shape).Idx → EReal} {W : (⟨2, ![1024, 1024]⟩ : Shape).Idx → EReal}
  {x y : (⟨3, ![4, 2048, 1024]⟩ : Shape).Idx → EReal} {w : (⟨2, ![1, 1024]⟩ : Shape).Idx → EReal} {e0 : ℕ}

/-- What a tile reads: its tokens' rows of the merged branches, of the input and of the target, and the two weights. -/
structure Reads (x0 : Vec Ideal S512x1024 .bf16) (x1 : Vec Ideal S1024x1024 .bf16) (x2 x3 : Vec Ideal S512x1024 .f32) (x4 : Vec Ideal S1x1024 .f32)
    (a : (⟨3, ![4, 2048, 1024]⟩ : Shape).Idx → EReal) (W : (⟨2, ![1024, 1024]⟩ : Shape).Idx → EReal)
    (x y : (⟨3, ![4, 2048, 1024]⟩ : Shape).Idx → EReal) (w : (⟨2, ![1, 1024]⟩ : Shape).Idx → EReal) (e0 : ℕ) : Prop where
  inp (r : Fin 512) (k : Fin 1024) : x0 (ix2 r k) = Tok.tok a (e0 + r.val) k
  wgt (k j : Fin 1024) : x1 (ix2 k j) = W (ix2 k j)
  res (r : Fin 512) (j : Fin 1024) : x2 (ix2 r j) = Tok.tok x (e0 + r.val) j
  tgt (r : Fin 512) (j : Fin 1024) : x3 (ix2 r j) = Tok.tok y (e0 + r.val) j
  nw (j : Fin 1024) : x4 (ix2 0 j) = w (ix2 0 j)

variable {x0 : Vec Ideal S512x1024 .bf16} {x1 : Vec Ideal S1024x1024 .bf16} {x2 x3 : Vec Ideal S512x1024 .f32} {x4 : Vec Ideal S1x1024 .f32}
    (h : Reads x0 x1 x2 x3 x4 a W x y w e0) (r : Fin 512) (j : Fin 1024)

include h

theorem oo_tile : k0_pay5 (F := Ideal) x0 x1 (ix2 r j) = oo a W (e0 + r.val) j :=
  (oo_form x0 x1 r j).trans (Finset.sum_congr rfl fun k _ => congrArg₂ (fun a b : EReal => a * b) (h.inp r k) (h.wgt k j))
theorem fac_tile : k0_pay6 (F := Ideal) x0 x1 (ix2 r 0) = fac a W (e0 + r.val) :=
  (fac_form x0 x1 r).trans (congrArg (fun s => Ideal.rsqrt (Ideal.div s width + eps))
    (Finset.sum_congr rfl fun k _ => congrArg₂ (fun a b : EReal => a * b) (oo_tile h r k) (oo_tile h r k)))
theorem nn_tile : k0_pay7 (F := Ideal) x0 x1 (ix2 r j) = nn a W (e0 + r.val) j := by
  rw [nn_form, oo_tile h, fac_tile h]; rfl
theorem err_tile : k0_pay8 (F := Ideal) x0 x1 x4 x2 x3 (ix2 r j) = err a W x y w (e0 + r.val) j := by
  rw [err_form, nn_tile h, h.res, h.tgt, h.nw]; rfl
theorem dy_tile : k0_pay9 (F := Ideal) x0 x1 x4 x2 x3 (ix2 r j) = dy a W x y w (e0 + r.val) j := by
  rw [dy_form, err_tile h]; rfl
theorem do_tile : k0_pay1 (F := Ideal) (k0_pay6 (F := Ideal) x0 x1) (k0_pay10 (F := Ideal) x0 x1 x4 x2 x3) (ix2 r j) = dO a W x y w (e0 + r.val) j := by
  rw [do_form, dn_form, fac_tile h, nn_tile h, dy_tile h, h.nw,
    Finset.sum_congr rfl fun i (_ : i ∈ Finset.univ) => congrArg₂ (· * ·) (congrArg₂ (· * ·) (dy_tile h r i) (h.nw i)) (nn_tile h r i)]
  rfl

/-- The two rows of sums with one tile more. -/
def step (x0 : Vec Ideal S512x1024 .bf16) (x1 : Vec Ideal S1024x1024 .bf16) (x2 x3 : Vec Ideal S512x1024 .f32) (x4 : Vec Ideal S1x1024 .f32)
    (p : Vec Ideal S8x1024 .f32) : Vec Ideal S8x1024 .f32 :=
  setSecond (Row.setTop p (k0_pay2 (F := Ideal) (k0_pay7 x0 x1) (k0_pay9 x0 x1 x4 x2 x3) (Row.top p)))
    (k0_pay3 (F := Ideal) (k0_pay8 x0 x1 x4 x2 x3) (second p))

theorem acc_tile {p : Vec Ideal S8x1024 .f32} {k : ℕ} (hk : e0 = 512 * k)
    (hp : ∀ (r : Fin 8) (i : Fin 1024), p (ix2 r i) = acc a W x y w (512 * k) r i) (r : Fin 8) (i : Fin 1024) :
    step x0 x1 x2 x3 x4 p (ix2 r i) = acc a W x y w (512 * (k + 1)) r i := by
  subst hk
  unfold step
  by_cases h1 : r.val = 1
  · obtain rfl : r = 1 := Fin.ext h1
    rw [set_one]
    exact (rowE_form _ _ i).trans (Tok.sum_block (fun e => err a W x y w e i * err a W x y w e i) 512 k (hp 1 i) fun r =>
      congrArg₂ (fun a b : EReal => a * b) (err_tile h r i) (err_tile h r i))
  · rw [set_other _ _ r h1]
    by_cases h0 : r.val = 0
    · obtain rfl : r = 0 := Fin.ext h0
      rw [Row.set_zero]
      exact (rowG_form _ _ _ i).trans (Tok.sum_block (fun e => dy a W x y w e i * nn a W e i) 512 k (hp 0 i) fun r =>
        congrArg₂ (fun a b : EReal => a * b) (dy_tile h r i) (nn_tile h r i))
    · rw [Row.set_pos _ _ r h0, hp r i]
      unfold acc
      rw [if_neg h0, if_neg h1, if_neg h0, if_neg h1]

end Cert.OutLoss
-- ==== Proof.OutLoss.Runs.lean ====
/- What a grid point of the output projection and the loss leaves in its three results. -/
module

public import proofs.«01_k».proof.Proof.OutLoss.Tile
public import proofs.«01_k».proof.Proof.Gen.Kernel11Ideal.Value

@[expose] public section

noncomputable section

namespace Cert.OutLoss

open Idealize.ShloMosaic Cert.Kernel11Ideal Cert.Kernel11Ideal.Gen

/-- The second row of eight rows whose first was just written. -/
theorem second_written {Val : EltTy → Type} [∀ e, Nonempty (Val e)] {sig : RefSig} {κ : Kind} {sp : Space} {e : EltTy} {n : ℕ}
    (v : View sig κ sp (⟨2, ![8, n]⟩ : Shape) e) (w : (⟨2, ![1, n]⟩ : Shape).Idx → Val e)
    (inb : ∀ a, (![0, 0] : Fin 2 → ℕ) a + (⟨2, ![1, n]⟩ : Shape).size a ≤ (⟨2, ![8, n]⟩ : Shape).size a)
    (inb1 : ∀ a, (![1, 0] : Fin 2 → ℕ) a + (⟨2, ![1, n]⟩ : Shape).size a ≤ (⟨2, ![8, n]⟩ : Shape).size a)
    (x : (⟨2, ![8, n]⟩ : Shape).Idx → Val e) (L : List (View.Piece Val (⟨2, ![8, n]⟩ : Shape) e)) (hL : v.read Val (v.writes Val v.junk L) = x) :
    v.readCov ((⟨Rect.unit (s := (⟨2, ![8, n]⟩ : Shape)) ![0, 0] (⟨2, ![1, n]⟩ : Shape).size inb, w⟩ : View.Piece Val (⟨2, ![8, n]⟩ : Shape) e) :: L)
      (Rect.unit (s := (⟨2, ![8, n]⟩ : Shape)) ![1, 0] (⟨2, ![1, n]⟩ : Shape).size inb1).toLoadRect = second x := by
  refine (second_of v _ inb1).trans ?_
  rw [Row.write_top, hL]
  exact second_setTop x w

variable (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S8x1024 .f32) (harg8 : arg8.IsWhole)
variable (x0 : Vec Ideal S512x1024 .bf16) (x1 : Vec Ideal S1024x1024 .bf16) (x2 x3 : Vec Ideal S512x1024 .f32) (x4 : Vec Ideal S1x1024 .f32) (xo7 : Vec Ideal S8x1024 .f32)

theorem outA5 (hc0 : cond0_0 i) : out0_A_5 (F := Ideal) c i arg1 harg1 arg2 harg2 arg3 harg3 arg4 harg4 arg5 harg5 arg6 harg6 arg7 harg7 arg8 harg8 hc0 x0 x1 x2 x3 x4 = k0_pay9 x0 x1 x4 x2 x3 := by
  unfold out0_A_5 kernelRun0_A
  dsimp only
  refine (View.read_writes_full _ _ _ _ _).trans ?_
  simp only [kernelRun0_A.sl.r_4, kernelRun0_A.sl.r_3, kernelRun0_A.sl.r_2, kernelRun0_A.sl.r_1, kernelRun0_A.sl.r]
  rw [Row.whole arg1 harg1, Row.whole arg2 harg2, Row.whole arg3 harg3, Row.whole arg4 harg4, Row.whole arg5 harg5]

theorem outA6 (hc0 : cond0_0 i) : out0_A_6 (F := Ideal) c i arg1 harg1 arg2 harg2 arg3 harg3 arg4 harg4 arg5 harg5 arg6 harg6 arg7 harg7 arg8 harg8 hc0 x0 x1 x2 x3 x4 = k0_pay1 (k0_pay6 x0 x1) (k0_pay10 x0 x1 x4 x2 x3) := by
  unfold out0_A_6 kernelRun0_A
  dsimp only
  refine (View.read_writes_full _ _ _ _ _).trans ?_
  simp only [kernelRun0_A.sl.r_4, kernelRun0_A.sl.r_3, kernelRun0_A.sl.r_2, kernelRun0_A.sl.r_1, kernelRun0_A.sl.r]
  rw [Row.whole arg1 harg1, Row.whole arg2 harg2, Row.whole arg3 harg3, Row.whole arg4 harg4, Row.whole arg5 harg5]

theorem outB5 (hc0 : ¬ cond0_0 i) : out0_B_5 (F := Ideal) c i arg1 harg1 arg2 harg2 arg3 harg3 arg4 harg4 arg5 harg5 arg6 harg6 arg7 harg7 arg8 harg8 hc0 x0 x1 x2 x3 x4 xo7 = k0_pay9 x0 x1 x4 x2 x3 := by
  unfold out0_B_5 kernelRun0_B
  dsimp only
  refine (View.read_writes_full _ _ _ _ _).trans ?_
  simp only [kernelRun0_B.sl.r_4, kernelRun0_B.sl.r_3, kernelRun0_B.sl.r_2, kernelRun0_B.sl.r_1, kernelRun0_B.sl.r]
  rw [Row.whole arg1 harg1, Row.whole arg2 harg2, Row.whole arg3 harg3, Row.whole arg4 harg4, Row.whole arg5 harg5]

theorem outB6 (hc0 : ¬ cond0_0 i) : out0_B_6 (F := Ideal) c i arg1 harg1 arg2 harg2 arg3 harg3 arg4 harg4 arg5 harg5 arg6 harg6 arg7 harg7 arg8 harg8 hc0 x0 x1 x2 x3 x4 xo7 = k0_pay1 (k0_pay6 x0 x1) (k0_pay10 x0 x1 x4 x2 x3) := by
  unfold out0_B_6 kernelRun0_B
  dsimp only
  refine (View.read_writes_full _ _ _ _ _).trans ?_
  simp only [kernelRun0_B.sl.r_4, kernelRun0_B.sl.r_3, kernelRun0_B.sl.r_2, kernelRun0_B.sl.r_1, kernelRun0_B.sl.r]
  rw [Row.whole arg1 harg1, Row.whole arg2 harg2, Row.whole arg3 harg3, Row.whole arg4 harg4, Row.whole arg5 harg5]

theorem outA7 (hc0 : cond0_0 i) : out0_A_7 (F := Ideal) c i arg1 harg1 arg2 harg2 arg3 harg3 arg4 harg4 arg5 harg5 arg6 harg6 arg7 harg7 arg8 harg8 hc0 x0 x1 x2 x3 x4 = step x0 x1 x2 x3 x4 (k0_pay4 (F := Ideal)) := by
  unfold out0_A_7 kernelRun0_A
  dsimp only
  simp only [kernelRun0_A.sl.r_4, kernelRun0_A.sl.r_3, kernelRun0_A.sl.r_2, kernelRun0_A.sl.r_1, kernelRun0_A.sl.r, kernelRun0_A.sl.v51, kernelRun0_A.sl.H7_2, kernelRun0_A.sl.v44, kernelRun0_A.sl.H7_1]
  rw [Row.whole arg1 harg1, Row.whole arg2 harg2, Row.whole arg3 harg3, Row.whole arg4 harg4, Row.whole arg5 harg5]
  refine (write_second _ _ _ _ _).trans (congrArg₂ setSecond ((Row.write_top _ _ _ _ _).trans (congrArg₂ Row.setTop ?_ ?_)) ?_)
  · exact View.read_writes_full _ _ _ _ _
  · exact congrArg (k0_pay2 (k0_pay7 x0 x1) (k0_pay9 x0 x1 x4 x2 x3)) (Row.top_written arg8.view _ _ _ _)
  · exact congrArg (k0_pay3 (k0_pay8 x0 x1 x4 x2 x3)) (second_written arg8.view _ _ _ _ _ (View.read_writes_full _ _ _ _ _))

theorem outB7 (hc0 : ¬ cond0_0 i) : out0_B_7 (F := Ideal) c i arg1 harg1 arg2 harg2 arg3 harg3 arg4 harg4 arg5 harg5 arg6 harg6 arg7 harg7 arg8 harg8 hc0 x0 x1 x2 x3 x4 xo7 = step x0 x1 x2 x3 x4 xo7 := by
  unfold out0_B_7 kernelRun0_B
  dsimp only
  simp only [kernelRun0_B.sl.r_4, kernelRun0_B.sl.r_3, kernelRun0_B.sl.r_2, kernelRun0_B.sl.r_1, kernelRun0_B.sl.r, kernelRun0_B.sl.v51]
  rw [Row.whole arg1 harg1, Row.whole arg2 harg2, Row.whole arg3 harg3, Row.whole arg4 harg4, Row.whole arg5 harg5]
  rw [Row.read_top arg8 harg8, read_second arg8 harg8]
  refine (write_second _ _ _ _ _).trans ?_
  rw [Row.write_top, View.writes_nil, harg8.read_unread]
  rfl

end Cert.OutLoss
-- ==== Proof.OutLoss.Final.lean ====
/- The gradients, the norm weight's gradient and the squared errors' sums over the 16 tiles of 512 tokens. -/
module

public import proofs.«01_k».proof.Proof.OutLoss.Runs
public import Idealize.ShloMosaic.Lib.Pipeline.ValueKit
public import Idealize.ShloMosaic.Lib.StableHlo.ReadAt

@[expose] public section

noncomputable section

namespace Cert.OutLoss

open Idealize.ShloMosaic Idealize.ShloMosaic.TcCoe Idealize.SL.Sem Cert.Kernel11Ideal Cert.Kernel11Ideal.Gen

theorem idx : ∀ t : Fin cfg0.N, ((win0_0.index t = ![t.val, 0] ∧ win0_1.index t = ![0, 0]) ∧ win0_2.index t = ![t.val, 0] ∧ win0_3.index t = ![t.val, 0])
    ∧ (win0_4.index t = ![0, 0] ∧ win0_5.index t = ![t.val, 0]) ∧ win0_6.index t = ![t.val, 0] ∧ win0_7.index t = ![0, 0] :=
  (by decide +kernel : ∀ t : Fin grid0.N, _)

variable (m : (ℓ : Loc nD τ sig) → Buf (Elt Ideal) ℓ) (c : Dev nD) (t : Fin cfg0.N)

/-- The five arguments: the merged branches, the projection's weight, the block's input, the target and the norm's weight. -/
def aM : Vec Ideal S4x2048x1024 .f32 := m ((c.tc : Thread nD τ).loc main_arg0)
def aW : Vec Ideal S1024x1024 .f32 := m ((c.tc : Thread nD τ).loc main_arg1)
def aX : Vec Ideal S4x2048x1024 .f32 := m ((c.tc : Thread nD τ).loc main_arg2)
def aT : Vec Ideal S4x2048x1024 .f32 := m ((c.tc : Thread nD τ).loc main_arg3)
def aN : Vec Ideal S1x1024 .f32 := m ((c.tc : Thread nD τ).loc main_arg4)

theorem V1 : (V m c main_v1 : Vec Ideal S8192x1024 .bf16) = shapeCast S8192x1024 (aM m c) shapeCasts_S4x2048x1024_S8192x1024 := by
  unfold V aM
  after_reads_simp
  rfl
theorem V2 : (V m c main_v2 : Vec Ideal S1024x1024 .bf16) = aW m c := by
  unfold V aW
  after_reads_simp
  rfl
theorem V3 : (V m c main_v3 : Vec Ideal S8192x1024 .f32) = shapeCast S8192x1024 (aX m c) shapeCasts_S4x2048x1024_S8192x1024 := by
  unfold V aX
  after_reads_simp
  rfl
theorem V4 : (V m c main_v4 : Vec Ideal S8192x1024 .f32) = shapeCast S8192x1024 (aT m c) shapeCasts_S4x2048x1024_S8192x1024 := by
  unfold V aT
  after_reads_simp
  rfl

/-- A token of the point's tile. -/
def row (r : Fin 512) : Fin 8192 := ⟨512 * t.val + r.val, by have : t.val < 16 := t.2; omega⟩

theorem read0 (X : Vec Ideal S8192x1024 .bf16) (r : Fin 512) (j : Fin 1024) :
    (((cfg0.win 0).blk t).view.read (Elt Ideal) X : Vec Ideal S512x1024 .bf16) (ix2 r j) = X (ix2 (row t r) j) := by
  blk_simp
  blk_ext [idx t, row]
theorem read1 (X : Vec Ideal S1024x1024 .bf16) (k j : Fin 1024) :
    (((cfg0.win 1).blk t).view.read (Elt Ideal) X : Vec Ideal S1024x1024 .bf16) (ix2 k j) = X (ix2 k j) := by
  blk_simp
  blk_ext [idx t]
theorem read2 (X : Vec Ideal S8192x1024 .f32) (r : Fin 512) (j : Fin 1024) :
    (((cfg0.win 2).blk t).view.read (Elt Ideal) X : Vec Ideal S512x1024 .f32) (ix2 r j) = X (ix2 (row t r) j) := by
  blk_simp
  blk_ext [idx t, row]
theorem read3 (X : Vec Ideal S8192x1024 .f32) (r : Fin 512) (j : Fin 1024) :
    (((cfg0.win 3).blk t).view.read (Elt Ideal) X : Vec Ideal S512x1024 .f32) (ix2 r j) = X (ix2 (row t r) j) := by
  blk_simp
  blk_ext [idx t, row]
theorem read4 (X : Vec Ideal S1x1024 .f32) (k : Fin 1) (j : Fin 1024) :
    (((cfg0.win 4).blk t).view.read (Elt Ideal) X : Vec Ideal S1x1024 .f32) (ix2 k j) = X (ix2 k j) := by
  blk_simp
  blk_ext [idx t]

theorem reads : Reads (iblk m c 0 t) (iblk m c 1 t) (iblk m c 2 t) (iblk m c 3 t) (iblk m c 4 t)
    (aM m c) (aW m c) (aX m c) (aT m c) (aN m c) (512 * t.val) where
  inp r k := (read0 t (V m c main_v1) r k).trans ((congrFun (V1 m c) _).trans (Tok.flat_at _ _ _ _))
  wgt k j := (read1 t (V m c main_v2) k j).trans (congrFun (V2 m c) _)
  res r j := (read2 t (V m c main_v3) r j).trans ((congrFun (V3 m c) _).trans (Tok.flat_at _ _ _ _))
  tgt r j := (read3 t (V m c main_v4) r j).trans ((congrFun (V4 m c) _).trans (Tok.flat_at _ _ _ _))
  nw j := read4 t (aN m c) 0 j

/-- What the results hold after a point. -/
structure After (o : Vec Ideal S512x1024 .f32 × Vec Ideal S512x1024 .bf16 × Vec Ideal S8x1024 .f32) : Prop where
  toY (r : Fin 512) (j : Fin 1024) : o.1 (ix2 r j) = dy (aM m c) (aW m c) (aX m c) (aT m c) (aN m c) (512 * t.val + r.val) j
  toO (r : Fin 512) (j : Fin 1024) : o.2.1 (ix2 r j) = dO (aM m c) (aW m c) (aX m c) (aT m c) (aN m c) (512 * t.val + r.val) j
  toS (r : Fin 8) (j : Fin 1024) : o.2.2 (ix2 r j) = acc (aM m c) (aW m c) (aX m c) (aT m c) (aN m c) (512 * (t.val + 1)) r j

theorem after_step (hp : ¬ t.val % 16 = 0 → ∀ h, After m c ⟨t.val - 1, h⟩ (outsAt0 m c (t.val - 1) h)) :
    After m c t (outsAt0 m c t.val t.isLt) := by
  have ht : t.val < 16 := t.2
  by_cases h0 : t.val % 16 = 0
  · rw [outsAt0_A m c t h0, outA5, outA6, outA7]
    refine ⟨fun r j => dy_tile (reads m c t) r j, fun r j => do_tile (reads m c t) r j, fun r j => acc_tile (reads m c t) rfl (fun r i => ?_) r j⟩
    rw [show t.val = 0 by omega]
    refine (zeros_form _).trans ?_
    unfold acc
    split_ifs <;> rfl
  · have hp := hp h0 (Nat.lt_of_le_of_lt (Nat.sub_le _ _) t.isLt)
    rw [outsAt0_B m c t h0, outB5, outB6, outB7]
    refine ⟨fun r j => dy_tile (reads m c t) r j, fun r j => do_tile (reads m c t) r j, fun r j => acc_tile (reads m c t) rfl (fun r i => ?_) r j⟩
    rw [hp.toS r i]
    exact congrArg (fun k => acc (aM m c) (aW m c) (aX m c) (aT m c) (aN m c) (512 * k) r i) (show t.val - 1 + 1 = t.val by omega)

theorem after_all : ∀ (n : ℕ) (hn : n < cfg0.N), After m c ⟨n, hn⟩ (outsAt0 m c n hn) := by
  intro n
  induction n with
  | zero => exact fun hn => after_step m c ⟨0, hn⟩ fun h => absurd rfl h
  | succ n ih => exact fun hn => after_step m c ⟨n + 1, hn⟩ fun _ h => ih h

theorem final5 : (dats m 0 c).arrAt 5 cfg0.N = resY (aM m c) (aW m c) (aX m c) (aT m c) (aN m c) := by
  refine (dats m 0 c).arrAt_eq_of_covers 5 _ (by decide +kernel) fun t hf y => ?_
  blk_simp
  rw [after0_5]
  have e : y = ix2 (y 0) (y 1) := by blk_ext
  have e0 : ((win0_5.blk t).view.emb y) 0 = row t (y 0) := Fin.ext (by blk_simp [idx t, row]; show t.val * 512 + (y 0).val = 512 * t.val + (y 0).val; omega)
  have e1 : ((win0_5.blk t).view.emb y) 1 = y 1 := Fin.ext (by blk_simp [idx t])
  unfold resY
  rw [e0, e1]
  exact (congrArg _ e).trans ((after_all m c t.val t.isLt).toY (y 0) (y 1))

theorem final6 : (dats m 0 c).arrAt 6 cfg0.N = resO (aM m c) (aW m c) (aX m c) (aT m c) (aN m c) := by
  refine (dats m 0 c).arrAt_eq_of_covers 6 _ (by decide +kernel) fun t hf y => ?_
  blk_simp
  rw [after0_6]
  have e : y = ix2 (y 0) (y 1) := by blk_ext
  have e0 : ((win0_6.blk t).view.emb y) 0 = row t (y 0) := Fin.ext (by blk_simp [idx t, row]; show t.val * 512 + (y 0).val = 512 * t.val + (y 0).val; omega)
  have e1 : ((win0_6.blk t).view.emb y) 1 = y 1 := Fin.ext (by blk_simp [idx t])
  unfold resO
  rw [e0, e1]
  exact (congrArg _ e).trans ((after_all m c t.val t.isLt).toO (y 0) (y 1))

theorem final7 : (dats m 0 c).arrAt 7 cfg0.N = resA (aM m c) (aW m c) (aX m c) (aT m c) (aN m c) := by
  refine (dats m 0 c).arrAt_eq_of_covers 7 _ (by decide +kernel) fun t hf y => ?_
  have ht := (flush0_7 t).mp hf
  have hl : t.val < 16 := t.2
  blk_simp
  rw [after0_7]
  have e : y = ix2 (y 0) (y 1) := by blk_ext
  have e0 : ((win0_7.blk t).view.emb y) 0 = y 0 := Fin.ext (by blk_simp [idx t])
  have e1 : ((win0_7.blk t).view.emb y) 1 = y 1 := Fin.ext (by blk_simp [idx t])
  unfold resA
  rw [e0, e1]
  refine (congrArg _ e).trans (((after_all m c t.val t.isLt).toS (y 0) (y 1)).trans ?_)
  rw [show (⟨t.val, t.isLt⟩ : Fin cfg0.N).val = 15 from (show t.val = 15 by omega)]

end Cert.OutLoss
-- ==== Proof.OutLoss.Ref.lean ====
/- The reference's three results: over real numbers the same as the kernel's. -/
module

public import proofs.«01_k».proof.Proof.OutLoss.Spec
public import proofs.«01_k».proof.Proof.DhFinal.Ref
public import proofs.«01_k».proof.Proof.MmTn.RefSums
public import proofs.«01_k».proof.Proof.Gates.Spec
public import proofs.«01_k».proof.Pre_finite11
public import proofs.«01_k».proof.Proof.Attn.Finite
public import proofs.«01_k».proof.Proof.Gen.Reference11Ideal.Read

@[expose] public section

noncomputable section

namespace Cert.OutLoss

open Idealize.ShloMosaic Cert.Reference11Ideal Cert.Reference11Ideal.Gen Cert.Reference11Ideal.Read
open Cert.DhFinal (width eps Real R)

theorem finiteFacts : Cert.Pre_finite11.Facts where
  bcast_S_S1 := by decide
  bcast_S_S4x2048x1024 := by decide
  reducesTo_S4x2048x1024_S_d0_1_2 := by decide
  h_S_ := by decide
  bcast_S_S1024x1024 := by decide
  reducesTo_S1024x1024_S_d0_1 := by decide
  bcast_S_S1x1024 := by decide
  reducesTo_S1x1024_S_d0_1 := by decide

/-- Under the precondition the arguments are arrays of real numbers. -/
theorem of_finite (x0 : Vec Ideal S4x2048x1024 .f32) (x1 : Vec Ideal S1024x1024 .f32) (x2 x3 : Vec Ideal S4x2048x1024 .f32) (x4 : Vec Ideal S1x1024 .f32)
    (h : (haveI := finiteFacts; Cert.Pre_finite11.fn (F := Ideal) x0 x1 x2 x3 x4) = fun _ => 1#1) :
    Real x0 ∧ Real x1 ∧ Real x2 ∧ Real x3 ∧ Real x4 := by
  have e := congrFun h (ix1 0)
  dsimp only [Cert.Pre_finite11.fn, Cert.Pre_finite11.fn_part1] at e
  obtain ⟨e, e4⟩ := AttnBwd.and_split e
  obtain ⟨e, e3⟩ := AttnBwd.and_split e
  obtain ⟨e, e2⟩ := AttnBwd.and_split e
  obtain ⟨e, e1⟩ := AttnBwd.and_split e
  obtain ⟨_, e0⟩ := AttnBwd.and_split e
  exact ⟨AttnBwd.real_of_all x0 _ _ _ _ _ e0, AttnBwd.real_of_all x1 _ _ _ _ _ e1, AttnBwd.real_of_all x2 _ _ _ _ _ e2,
    AttnBwd.real_of_all x3 _ _ _ _ _ e3, AttnBwd.real_of_all x4 _ _ _ _ _ e4⟩

variable (a : Vec Ideal S4x2048x1024 .f32) (W : Vec Ideal S1024x1024 .f32) (x y : Vec Ideal S4x2048x1024 .f32) (w : Vec Ideal S1x1024 .f32)

/-- The mean square of a token and what the norm adds. -/
def ms (e : ℕ) : EReal := Ideal.div (∑ i : Fin 1024, oo a W e i * oo a W e i) width + eps

variable (p : Fin 4) (s : Fin 2048) (j : Fin 1024)

theorem oo_at : val_main_v0 (F := Ideal) a W (ix3 p s j) = oo a W (p.val * 2048 + s.val) j := by
  unfold oo
  rw [val_main_v0_apply]
  refine Finset.sum_congr rfl fun k _ => congrArg₂ (· * ·) ?_ ?_
  · exact (congrArg a (show lidx_main_v0 (ix3 p s j) k = ix3 p s k from funext fun a => match a with | ⟨0, _⟩ => rfl | ⟨1, _⟩ => rfl | ⟨2, _⟩ => rfl)).trans
      (Tok.tok_at a _ k p s rfl).symm
  · exact congrArg W (show ridx_main_v0 (ix3 p s j) k = ix2 k j from funext fun a => match a with | ⟨0, _⟩ => rfl | ⟨1, _⟩ => rfl)

theorem ms_at : val_main_v7 (F := Ideal) a W (ix3 p s 0) = ms a W (p.val * 2048 + s.val) := by
  unfold ms
  rw [Finset.sum_congr rfl fun i (_ : i ∈ Finset.univ) => congrArg₂ (· * ·) (oo_at a W p s i).symm (oo_at a W p s i).symm]
  unfold val_main_v7 val_main_v5 val_main_v3 val_main_v2 val_main_v1
  generalize val_main_v0 (F := Ideal) a W = o
  pointwise [val_main_v4, val_main_v6, val_main_cst, val_main_cst_0, val_main_cst_1, width, eps]

theorem fac_at : val_main_v8 (F := Ideal) a W (ix3 p s 0) = fac a W (p.val * 2048 + s.val) := by
  refine Eq.trans ?_ (congrArg Ideal.rsqrt (ms_at a W p s))
  unfold val_main_v8
  generalize val_main_v7 (F := Ideal) a W = m
  pointwise

theorem nn_at : val_main_v13 (F := Ideal) a W (ix3 p s j) = nn a W (p.val * 2048 + s.val) j := by
  unfold nn
  rw [← oo_at a W p s j, ← fac_at a W p s]
  unfold val_main_v13 val_main_v12
  generalize val_main_v8 (F := Ideal) a W = f
  generalize val_main_v0 (F := Ideal) a W = o
  pointwise

theorem err_at : val_main_v19 (F := Ideal) a W x y w (ix3 p s j) = err a W x y w (p.val * 2048 + s.val) j := by
  unfold err
  rw [← nn_at a W p s j, Tok.tok_at x _ j p s rfl, Tok.tok_at y _ j p s rfl]
  unfold val_main_v19 val_main_v18 val_main_v17
  generalize val_main_v13 (F := Ideal) a W = n
  pointwise [val_main_v16, val_main_v15, val_main_v14]

theorem scale_coe : scale = ((1 / 1024 : ℝ) : EReal) := by
  simp [scale, Ideal.ofBits, Ideal.ieee, -EReal.coe_mul]; norm_num
theorem half_coe : (Ideal.ofBits .f32 0x3F000000#32 : EReal) = ((1 / 2 : ℝ) : EReal) := by
  simp [Ideal.ofBits, Ideal.ieee, -EReal.coe_mul]; norm_num
theorem two_coe : (Ideal.ofBits .f32 0x40000000#32 : EReal) = ((2 : ℝ) : EReal) := by
  simp [Ideal.ofBits, Ideal.ieee, -EReal.coe_mul]; norm_num

/-- Half of one, over the number of features, twice. -/
theorem factor : Ideal.div (Ideal.ofBits .f32 0x3F000000#32 * Ideal.ofBits .f32 0x3F800000#32) width * Ideal.ofBits .f32 0x40000000#32 = scale := by
  rw [AttnBwd.mul_coe (AttnBwd.Ref.quot_coe (AttnBwd.mul_coe half_coe AttnBwd.Ref.bits_one) DhFinal.width_coe (by norm_num)) two_coe, scale_coe]
  congr 1
  norm_num

theorem dy_at : val_main_v34 (F := Ideal) a W x y w (ix3 p s j) = dy a W x y w (p.val * 2048 + s.val) j := by
  unfold dy
  rw [mul_comm, ← factor, mul_assoc, ← err_at a W x y w p s j]
  unfold val_main_v34 val_main_v22
  generalize val_main_v19 (F := Ideal) a W x y w = d
  pointwise [val_main_v33, val_main_v32, val_main_v31, val_main_v30, val_main_v29, val_main_v21, val_main_cst_3, val_main_cst_9, val_main_cst_10,
    val_main_cst_11, width]

theorem dn_at : val_main_v39 (F := Ideal) a W x y w (ix3 p s j) = dn a W x y w (p.val * 2048 + s.val) j := by
  unfold dn
  rw [← dy_at a W x y w p s j]
  unfold val_main_v39
  generalize val_main_v34 (F := Ideal) a W x y w = d
  pointwise [val_main_v38, val_main_v15, val_main_v14]

/-! ## The gradient of the projection's result -/

theorem tok_real {v : (⟨3, ![4, 2048, 1024]⟩ : Shape).Idx → EReal} (h : Real v) (e : ℕ) (i : Fin 1024) : R (Tok.tok v e i) := DhFinal.tok_real h e i
theorem add_real {b c : EReal} : R b → R c → R (b + c) := fun ⟨r, h⟩ ⟨t, k⟩ => ⟨r + t, AttnBwd.add_coe h k⟩
theorem sub_real {b c : EReal} : R b → R c → R (b - c) := fun ⟨r, h⟩ ⟨t, k⟩ => ⟨r - t, AttnBwd.sub_coe h k⟩

/-- The mean square's gradient, per feature. -/
def q (e : ℕ) : EReal := Ideal.div ((∑ i : Fin 1024, oo a W e i * dn a W x y w e i) * (Ideal.ofBits .f32 0xBF000000#32 * Ideal.div (fac a W e) (ms a W e))) width

theorem same_at (ha : Real a) (hW : Real W) (hx : Real x) (hy : Real y) (hw : Real w) (e : ℕ) (j : Fin 1024) :
    dn a W x y w e j * fac a W e + oo a W e j * q a W x y w e + q a W x y w e * oo a W e j = dO a W x y w e j := by
  have hoo : ∀ i : Fin 1024, R (oo a W e i) := fun i => DhFinal.R.sum Finset.univ fun k => (tok_real ha e k).mul ⟨_, hW (ix2 k i)⟩
  obtain ⟨X, hX⟩ := Classical.axiom_of_choice hoo
  have hms : ms a W e = (((∑ i, X i * X i) / 1024 + 8796093 / 8796093022208 : ℝ) : EReal) :=
    AttnBwd.add_coe (AttnBwd.Ref.quot_coe (AttnBwd.sum_coe fun i => AttnBwd.mul_coe (hX i) (hX i)) DhFinal.width_coe (by norm_num)) DhFinal.eps_coe
  have hpos : 0 < (∑ i, X i * X i) / 1024 + 8796093 / 8796093022208 := by
    have : 0 ≤ ∑ i, X i * X i := Finset.sum_nonneg fun i _ => mul_self_nonneg (X i)
    positivity
  generalize (∑ i, X i * X i) / 1024 + 8796093 / 8796093022208 = M at hms hpos
  have hrr : fac a W e = (((√M)⁻¹ : ℝ) : EReal) := by
    show Ideal.rsqrt (ms a W e) = _
    rw [hms, Ideal.rsqrt_coe, if_neg (not_lt.2 hpos.le), if_neg hpos.ne']
  have hr : (√M)⁻¹ * (√M)⁻¹ * M = 1 := by
    rw [← mul_inv, Real.mul_self_sqrt hpos.le, inv_mul_cancel₀ hpos.ne']
  generalize (√M)⁻¹ = r at hrr hr
  have hdn : ∀ i : Fin 1024, R (dn a W x y w e i) := fun i => DhFinal.R.mul (DhFinal.R.mul (sub_real (add_real (tok_real hx e i)
    (DhFinal.R.mul (DhFinal.R.mul (hoo i) ⟨_, hrr⟩) ⟨_, hw (ix2 0 i)⟩)) (tok_real hy e i)) ⟨_, scale_coe⟩) ⟨_, hw (ix2 0 i)⟩
  obtain ⟨D, hD⟩ := Classical.axiom_of_choice hdn
  have hq : q a W x y w e = (((∑ i, X i * D i) * (-(1 / 2) * (r / M)) / 1024 : ℝ) : EReal) :=
    AttnBwd.Ref.quot_coe (AttnBwd.mul_coe (AttnBwd.sum_coe fun i => AttnBwd.mul_coe (hX i) (hD i))
      (AttnBwd.mul_coe DhFinal.half_coe (AttnBwd.Ref.quot_coe hrr hms hpos.ne'))) DhFinal.width_coe (by norm_num)
  have hk : dO a W x y w e j = ((r * (D j - X j * r * ((∑ i, D i * (X i * r)) / 1024)) : ℝ) : EReal) :=
    AttnBwd.mul_coe hrr (AttnBwd.sub_coe (hD j) (AttnBwd.mul_coe (AttnBwd.mul_coe (hX j) hrr)
      (AttnBwd.Ref.quot_coe (AttnBwd.sum_coe fun i => AttnBwd.mul_coe (hD i) (AttnBwd.mul_coe (hX i) hrr)) DhFinal.width_coe (by norm_num))))
  rw [hk, ← DhFinal.norm_back X D r M hr hpos.ne' j, AttnBwd.add_coe (AttnBwd.add_coe (AttnBwd.mul_coe (hD j) hrr) (AttnBwd.mul_coe (hX j) hq))
    (AttnBwd.mul_coe hq (hX j))]

/-- The reference's sum over a token's features. -/
theorem dot_at : val_main_v43 (F := Ideal) a W x y w (ix2 p s) = ∑ i : Fin 1024, oo a W (p.val * 2048 + s.val) i * dn a W x y w (p.val * 2048 + s.val) i := by
  rw [Finset.sum_congr rfl fun i (_ : i ∈ Finset.univ) => congrArg₂ (· * ·) (oo_at a W p s i).symm (dn_at a W x y w p s i).symm]
  unfold val_main_v43 val_main_v42
  generalize val_main_v39 (F := Ideal) a W x y w = d
  generalize val_main_v0 (F := Ideal) a W = o
  pointwise [val_main_cst_14]

theorem q_at : val_main_v50 (F := Ideal) a W x y w (ix2 p s) = q a W x y w (p.val * 2048 + s.val) := by
  unfold q
  rw [← dot_at a W x y w p s, ← ms_at a W p s, ← fac_at a W p s]
  unfold val_main_v50 val_main_v49 val_main_v47 val_main_v44 val_main_v11 val_main_v9
  generalize val_main_v8 (F := Ideal) a W = r
  generalize val_main_v7 (F := Ideal) a W = m
  generalize val_main_v43 (F := Ideal) a W x y w = d
  pointwise [val_main_v48, val_main_v10, val_main_cst_2, val_main_cst_15, val_main_cst_16, width]
  exact Fin.sum_univ_one _

theorem sum_at : val_main_v55 (F := Ideal) a W x y w (ix3 p s j)
    = dn a W x y w (p.val * 2048 + s.val) j * fac a W (p.val * 2048 + s.val) + oo a W (p.val * 2048 + s.val) j * q a W x y w (p.val * 2048 + s.val)
      + q a W x y w (p.val * 2048 + s.val) * oo a W (p.val * 2048 + s.val) j := by
  rw [← q_at a W x y w p s, ← fac_at a W p s, ← dn_at a W x y w p s j, ← oo_at a W p s j]
  unfold val_main_v55 val_main_v54 val_main_v53 val_main_v52 val_main_v51 val_main_v46 val_main_v45
  generalize val_main_v8 (F := Ideal) a W = r
  generalize val_main_v39 (F := Ideal) a W x y w = d
  generalize val_main_v50 (F := Ideal) a W x y w = t
  generalize val_main_v0 (F := Ideal) a W = o
  pointwise

theorem refY : val_main_v59 (F := Ideal) a W x y w = resY a W x y w :=
  Gates.flat_eq (val_main_v34 (F := Ideal) a W x y w) _ (fun e j => dy a W x y w e j) fun p s j => dy_at a W x y w p s j

theorem refO (ha : Real a) (hW : Real W) (hx : Real x) (hy : Real y) (hw : Real w) :
    val_main_v61 (F := Ideal) a W x y w = resO a W x y w :=
  Gates.flat_eq (val_main_v55 (F := Ideal) a W x y w) _ (fun e j => dO a W x y w e j) fun p s j =>
    (sum_at a W x y w p s j).trans (same_at a W x y w ha hW hx hy hw _ j)

/-! ## The sums over tokens -/

/-- The sum over all tokens, one batch element after another. -/
theorem by_tokens (f : ℕ → EReal) (v : (⟨3, ![4, 2048, 1024]⟩ : Shape).Idx → EReal) (k : Fin 1024) (h : ∀ p s, v (ix3 p s k) = f (p.val * 2048 + s.val)) :
    MmTn.db v 8192 k = ∑ e ∈ Finset.range 8192, f e := by
  rw [MmTn.db_nested, Tok.sum_tokens]
  exact Finset.sum_congr rfl fun p _ => Finset.sum_congr rfl fun s _ => h p s

theorem gw_at (k : Fin 1024) : val_main_v41 (F := Ideal) a W x y w (ix2 0 k) = gw a W x y w 8192 k := by
  rw [val_main_v41_apply]
  refine (congrArg (val_main_v40 (F := Ideal) a W x y w) (show idx_main_v41 (ix2 0 k) = ix1 k from
    funext fun a => match a with | ⟨0, _⟩ => rfl)).trans ?_
  refine Eq.trans ?_ (by_tokens (fun e => dy a W x y w e k * nn a W e k) (val_main_v35 (F := Ideal) a W x y w) k fun p s => ?_)
  · unfold val_main_v40 val_main_v37 val_main_v36
    exact MmTn.db_twice _ reducesTo_S4x2048x1024_S1024_d0_1 reducesTo_S1x1x1024_S1024_d0_1 shapeCasts_S1024_S1x1x1024
      (Ideal.ofBits_zero .f32) (Ideal.ofBits_zero .f32) k
  · rw [← dy_at a W x y w p s k, ← nn_at a W p s k, val_main_v35_apply]
    exact mul_comm _ _

theorem ge_at (k : Fin 1024) : val_main_v56 (F := Ideal) a W x y w (ix2 0 k) = ge a W x y w 8192 k := by
  rw [val_main_v56_apply]
  refine (congrArg (val_main_v28 (F := Ideal) a W x y w) (show idx_main_v56 (ix2 0 k) = ix1 k from
    funext fun a => match a with | ⟨0, _⟩ => rfl)).trans ?_
  refine Eq.trans ?_ (by_tokens (fun e => err a W x y w e k * err a W x y w e k) (val_main_v20 (F := Ideal) a W x y w) k fun p s => ?_)
  · unfold val_main_v28
    refine (MmTn.sum_first_two reducesTo_S4x2048x1024_S1024_d0_1 _ _ k).trans ?_
    rw [MmTn.db_nested]
    exact (congrArg (· + _) (Ideal.ofBits_zero .f32)).trans (zero_add _)
  · rw [← err_at a W x y w p s k, val_main_v20_apply]
    rfl

/-- Two rows with six rows of zeros below them. -/
theorem two_rows {v : (⟨2, ![2, 1024]⟩ : Shape).Idx → EReal} {s0 : Shape} {c : s0.Idx → EReal} (hp) (hs) (hc : ∀ i, c i = 0)
    (h0 : ∀ k, v (ix2 0 k) = gw a W x y w 8192 k) (h1 : ∀ k, v (ix2 1 k) = ge a W x y w 8192 k) :
    pad (⟨2, ![8, 1024]⟩ : Shape) ![0, 0] ![6, 0] ![0, 0] v c hp hs = resA a W x y w := by
  funext y
  obtain ⟨r, k, rfl⟩ : ∃ r k, y = ix2 r k := ⟨y 0, y 1, funext fun a => match a with | ⟨0, _⟩ => rfl | ⟨1, _⟩ => rfl⟩
  have inside : ∀ t : Fin 2, r.val = t.val → pad (⟨2, ![8, 1024]⟩ : Shape) ![0, 0] ![6, 0] ![0, 0] v c hp hs (ix2 r k) = v (ix2 t k) :=
    fun t ht => pad_apply_of_inside _ _ _ v _ _ _ _ (ix2 t k) fun a => match a with
      | ⟨0, _⟩ => show r.val = 0 + t.val * 1 by omega
      | ⟨1, _⟩ => show k.val = 0 + k.val * 1 by omega
  unfold resA acc
  by_cases e0 : r.val = 0
  · exact (inside 0 e0).trans ((h0 k).trans (if_pos e0).symm)
  · refine Eq.trans ?_ (if_neg e0).symm
    by_cases e1 : r.val = 1
    · exact (inside 1 e1).trans ((h1 k).trans (if_pos e1).symm)
    · refine Eq.trans ?_ (if_neg e1).symm
      refine (pad_apply_of_not_inside _ _ _ v _ _ _ _ 0 fun hin => ?_).trans (hc _)
      have := hin.2.2
      change (r.val - 0) / 1 < 2 at this
      omega

theorem refA : val_main_v58 (F := Ideal) a W x y w = resA a W x y w := by
  unfold val_main_v58
  refine two_rows a W x y w _ _ (fun i => ?_) (fun k => ?_) fun k => ?_
  · rw [val_main_call0_v0_apply, val_main_c_apply]
    exact congrArg (fun r : ℝ => (r : EReal)) (by norm_num)
  · refine Eq.trans ?_ (gw_at a W x y w k)
    unfold val_main_v57
    generalize val_main_v41 (F := Ideal) a W x y w = u
    generalize val_main_v56 (F := Ideal) a W x y w = v
    exact concatenate_pair_apply_left (t := S2x1024) (s₁ := S1x1024) (s₂ := S1x1024) 0 u v _ (ix2 0 k) rfl (ix2 0 k) fun b =>
      match b with | ⟨0, _⟩ => rfl | ⟨1, _⟩ => rfl
  · refine Eq.trans ?_ (ge_at a W x y w k)
    unfold val_main_v57
    generalize val_main_v41 (F := Ideal) a W x y w = u
    generalize val_main_v56 (F := Ideal) a W x y w = v
    exact concatenate_pair_apply_right (t := S2x1024) (s₁ := S1x1024) (s₂ := S1x1024) 0 u v _ (ix2 1 k) rfl rfl (ix2 0 k)
      (fun b => match b with | ⟨0, _⟩ => fun h => absurd rfl h | ⟨1, _⟩ => fun _ => rfl) rfl

end Cert.OutLoss
-- ==== Proof.Fgate.Sums.lean ====
/- A value cut into three narrow parts, running sums by blocks of 256 rows, and the host's window sums. -/
module

public import proofs.«01_k».proof.Proof.Common.Tokens
public import Idealize.ShloMosaic.Lib.KernelVsHost

@[expose] public section

noncomputable section

namespace Cert.Fgate

open Idealize.ShloMosaic

/-- Entry `l` of row `t`. -/
def line {b n : ℕ} (x : (⟨3, ![b, 2048, n]⟩ : Shape).Idx → EReal) (p : Fin b) (l : Fin n) (t : ℕ) : EReal :=
  if h : t < 2048 then x (ix3 p ⟨t, h⟩ l) else 0

theorem line_at {b n : ℕ} (x : (⟨3, ![b, 2048, n]⟩ : Shape).Idx → EReal) (p : Fin b) (l : Fin n) (t : Fin 2048) :
    line x p l t.val = x (ix3 p t l) := dif_pos t.2

/-- Rows `256 k` on. -/
def blk (x : (⟨3, ![1, 2048, 128]⟩ : Shape).Idx → EReal) (k : ℕ) : (⟨3, ![1, 256, 128]⟩ : Shape).Idx → EReal := fun i => line x 0 (i 2) (256 * k + (i 1).val)

theorem ld_eq (x : (⟨3, ![1, 2048, 128]⟩ : Shape).Idx → EReal) (k o : ℕ) (inb) (h : o = 256 * k) :
    View.ld (Val := Elt Ideal) (e' := .f32) x (Rect.unit (s := ⟨3, ![1, 2048, 128]⟩) ![0, o, 0] (⟨3, ![1, 256, 128]⟩ : Shape).size inb) = blk x k := by
  subst h
  funext y
  have hy : 256 * k + (y 1).val < 2048 := by have : (y 1).val < 256 := (y 1).2; have h2 : 256 * k + 256 ≤ 2048 := inb 1; omega
  unfold blk line
  rw [dif_pos hy]
  exact View.ld_unit_apply_of _ _ _ _ _ _ fun a => match a with
    | ⟨0, _⟩ => (show (0 : ℕ) = 0 + (y 0).val by have : (y 0).val < 1 := (y 0).2; omega)
    | ⟨1, _⟩ => rfl
    | ⟨2, _⟩ => (Nat.zero_add _).symm

/-- Padded with zeros to 128 lanes. -/
def wide (x : (⟨3, ![4, 2048, 16]⟩ : Shape).Idx → EReal) : (⟨3, ![4, 2048, 128]⟩ : Shape).Idx → EReal :=
  fun i => if h : (i 2).val < 16 then x (ix3 (i 0) (i 1) ⟨(i 2).val, h⟩) else 0

theorem zero_at (i : (⟨0, ![]⟩ : Shape).Idx) : (sitofp (F := Ideal) .f32 (constantI (⟨0, ![]⟩ : Shape) 32 0#32) : FVec Ideal (⟨0, ![]⟩ : Shape) .f32) i = 0 :=
  congrArg (fun r : ℝ => (r : EReal)) (show ((((0#32 : BitVec 32).toInt : ℤ) : ℝ)) = 0 by norm_num)

theorem pad_wide (x : (⟨3, ![4, 2048, 16]⟩ : Shape).Idx → EReal) (v : (⟨0, ![]⟩ : Shape).Idx → EReal) (hv : ∀ i, v i = 0) (hp) (hs) :
    pad (⟨3, ![4, 2048, 128]⟩ : Shape) ![0, 0, 0] ![0, 0, 112] ![0, 0, 0] x v hp hs = wide x := by
  funext i
  unfold wide
  split_ifs with h
  · exact pad_apply_of_inside _ _ _ x _ _ _ _ (ix3 (i 0) (i 1) ⟨(i 2).val, h⟩) fun a => match a with
      | ⟨0, _⟩ => (show (i 0).val = 0 + (i 0).val * (0 + 1) by omega)
      | ⟨1, _⟩ => (show (i 1).val = 0 + (i 1).val * (0 + 1) by omega)
      | ⟨2, _⟩ => (show (i 2).val = 0 + (i 2).val * (0 + 1) by omega)
  · refine (pad_apply_of_not_inside _ _ _ x _ _ _ _ 2 fun hin => h ?_).trans (hv _)
    have h2 : ((i 2).val - 0) / (0 + 1) < 16 := hin.2.2
    omega

theorem line_wide (x : (⟨3, ![4, 2048, 16]⟩ : Shape).Idx → EReal) (p : Fin 4) (l : Fin 128) (t : ℕ) :
    line (wide x) p l t = if h : l.val < 16 then line x p ⟨l.val, h⟩ t else 0 := by
  unfold line
  by_cases h : l.val < 16 <;> by_cases ht : t < 2048
  · rw [dif_pos h, dif_pos ht, dif_pos ht]; exact dif_pos h
  · rw [dif_pos h, dif_neg ht, dif_neg ht]
  · rw [dif_neg h, dif_pos ht]; exact dif_neg h
  · rw [dif_neg h, dif_neg ht]

/-- The softplus. -/
def soft (v : EReal) : EReal := max v 0 + Ideal.log1p (Ideal.exp (-(max v (-v))))

/-- The logistic function's logarithm. -/
def lf (v : EReal) : EReal := min v 0 - Ideal.log1p (Ideal.exp (0 - max v (-v)))

theorem log_real (v : EReal) : ∃ b : ℝ, 0 ≤ b ∧ Ideal.log1p (Ideal.exp (-(max v (-v)))) = (b : EReal) := by
  have hm := fun x y : ℝ => (EReal.coe_strictMono.monotone.map_max (a := x) (b := y)).symm
  have h0 : Ideal.log1p (Ideal.exp ⊥) = ((0 : ℝ) : EReal) := by
    unfold Ideal.log1p
    rw [show Ideal.exp ⊥ = ((0 : ℝ) : EReal) from rfl, ← EReal.coe_one, ← EReal.coe_add, Ideal.log_coe, if_neg (by norm_num), add_zero, Real.log_one]
  induction v with
  | bot => exact ⟨0, le_refl _, by rw [EReal.neg_bot, max_eq_right bot_le, EReal.neg_top, h0]⟩
  | top => exact ⟨0, le_refl _, by rw [EReal.neg_top, max_eq_left bot_le, EReal.neg_top, h0]⟩
  | coe r =>
    refine ⟨Real.log (1 + Real.exp (-max r (-r))), Real.log_nonneg (by have := Real.exp_pos (-max r (-r)); linarith), ?_⟩
    unfold Ideal.log1p
    rw [← EReal.coe_neg, hm, ← EReal.coe_neg, Ideal.exp_coe, ← EReal.coe_one, ← EReal.coe_add, Ideal.log_coe, if_neg (not_le.mpr (by positivity))]

theorem lf_le (v : EReal) : lf v ≤ 0 := by
  obtain ⟨b, hb, h⟩ := log_real v
  unfold lf
  rw [zero_sub, h, sub_eq_add_neg, ← EReal.coe_neg]
  exact add_nonpos (min_le_right _ _) (EReal.coe_nonpos.mpr (by linarith))

theorem lf_eq (v : EReal) : -(soft (-v)) = lf v := by
  obtain ⟨b, hb, h⟩ := log_real v
  unfold soft lf
  rw [neg_neg, max_comm (-v) v, zero_sub, h, EReal.neg_add (Or.inr (EReal.coe_ne_top _)) (Or.inr (EReal.coe_ne_bot _))]
  congr 1
  rcases le_total v 0 with hv | hv
  · rw [min_eq_left hv, max_eq_left (EReal.le_neg.mpr (by rwa [neg_zero])), neg_neg]
  · rw [min_eq_right hv, max_eq_right (EReal.neg_le.mpr (by rwa [neg_zero])), neg_zero]

/-- A zero or a one. -/
def unit (p : Prop) [Decidable p] : EReal := if p then 1 else 0

/-- A comparison's bit as a number. -/
theorem flag (c : BitVec 1) (p : Prop) [Decidable p] (h : c = 1#1 ↔ p) : (FloatOps.sitofp .f32 (c.setWidth 32) : Ideal .f32) = unit p := by
  unfold unit
  rcases (by decide : ∀ c : BitVec 1, c = 0#1 ∨ c = 1#1) c with rfl | rfl
  · rw [if_neg fun hp => absurd (h.mpr hp) (by decide)]
    show ((((0#32 : BitVec 32).toInt : ℤ) : ℝ) : EReal) = 0
    rw [show (0#32 : BitVec 32).toInt = 0 by decide, Int.cast_zero, EReal.coe_zero]
  · rw [if_pos (h.mp rfl)]
    show ((((1#32 : BitVec 32).toInt : ℤ) : ℝ) : EReal) = 1
    rw [show (1#32 : BitVec 32).toInt = 1 by decide, Int.cast_one, EReal.coe_one]

theorem num {a : ℕ} (h : a < 2048) : (BitVec.ofNat 32 a).toInt = a := by
  have e : (BitVec.ofNat 32 a).toNat = a := by rw [BitVec.toNat_ofNat]; exact Nat.mod_eq_of_lt (by omega)
  rw [BitVec.toInt_eq_toNat_of_lt (by omega), e]
theorem num_le {a b : ℕ} (ha : a < 2048) (hb : b < 2048) : (BitVec.ofBool ((BitVec.ofNat 32 a).sle (BitVec.ofNat 32 b)) = 1#1) ↔ a ≤ b := by
  rw [← Int.ofNat_le (m := a), ← num ha, ← num hb, BitVec.sle]
  by_cases h : (BitVec.ofNat 32 a).toInt ≤ (BitVec.ofNat 32 b).toInt <;> simp [h]

theorem num_eq {a b : ℕ} (ha : a < 2048) (hb : b < 2048) : IntOp.cmpi .eq (BitVec.ofNat 32 a) (BitVec.ofNat 32 b) = 1#1 ↔ a = b := by
  show BitVec.ofBool (BitVec.ofNat 32 a == BitVec.ofNat 32 b) = 1#1 ↔ a = b
  by_cases h : a = b
  · subst h; simp
  · have : ¬ BitVec.ofNat 32 a = BitVec.ofNat 32 b := fun e => h (Int.ofNat_inj.mp ((num ha).symm.trans ((congrArg BitVec.toInt e).trans (num hb))))
    rw [beq_false_of_ne this]
    simp [h]

/-- The three parts summed: over the reals the second and the third are zero. -/
theorem parts {ι : Type} (s : Finset ι) (p : ι → Prop) [∀ a, Decidable (p a)] (x : ι → EReal) (hx : ∀ a, x a ≠ ⊤) :
    0 + ∑ a ∈ s, unit (p a) * x a + ∑ a ∈ s, unit (p a) * (x a - x a) + ∑ a ∈ s, unit (p a) * (x a - x a - (x a - x a))
      = ∑ a ∈ s, if p a then x a else 0 := by
  rw [zero_add, ← Finset.sum_add_distrib, ← Finset.sum_add_distrib]
  refine Finset.sum_congr rfl fun a _ => ?_
  have h := hx a
  generalize x a = v at h
  unfold unit
  split_ifs
  · rw [one_mul, one_mul, one_mul]
    induction v with
    | bot => rfl
    | top => exact absurd rfl h
    | coe r => rw [← EReal.coe_sub, ← EReal.coe_sub, ← EReal.coe_add, ← EReal.coe_add]; congr 1; ring
  · rw [zero_mul, zero_mul, zero_mul, zero_add, zero_add]

theorem sum_from (g : ℕ → EReal) (o : ℕ) (r : Fin 256) :
    (∑ a : Fin 256, if r.val ≤ a.val then g (o + a.val) else 0) = ∑ t ∈ Finset.Ico (o + r.val) (o + 256), g t := by
  rw [Fin.sum_univ_eq_sum_range (fun a => if r.val ≤ a then g (o + a) else 0) 256, ← Finset.sum_filter]
  have hr := r.2
  exact Finset.sum_nbij' (fun a => o + a) (fun t => t - o)
    (fun a h => by simp only [Finset.mem_filter, Finset.mem_range, Finset.mem_Ico] at h ⊢; omega)
    (fun a h => by simp only [Finset.mem_filter, Finset.mem_range, Finset.mem_Ico] at h ⊢; omega)
    (fun a _ => by omega) (fun t h => by simp only [Finset.mem_Ico] at h; omega) (fun _ _ => rfl)

theorem sum_upto (g : ℕ → EReal) (o : ℕ) (r : Fin 256) :
    (∑ a : Fin 256, if a.val ≤ r.val then g (o + a.val) else 0) = ∑ t ∈ Finset.Ico o (o + r.val + 1), g t := by
  rw [Fin.sum_univ_eq_sum_range (fun a => if a ≤ r.val then g (o + a) else 0) 256, ← Finset.sum_filter]
  have hr := r.2
  exact Finset.sum_nbij' (fun a => o + a) (fun t => t - o)
    (fun a h => by simp only [Finset.mem_filter, Finset.mem_range, Finset.mem_Ico] at h ⊢; omega)
    (fun a h => by simp only [Finset.mem_filter, Finset.mem_range, Finset.mem_Ico] at h ⊢; omega)
    (fun a _ => by omega) (fun t h => by simp only [Finset.mem_Ico] at h; omega) (fun _ _ => rfl)

section Window

theorem foldl_add {n : ℕ} (f : Fin n → EReal) (v : EReal) : (List.finRange n).foldl (fun r k => r + f k) v = v + ∑ k, f k := by
  have (l : List (Fin n)) (v : EReal) : l.foldl (fun r k => r + f k) v = v + (l.map f).sum := by
    induction l generalizing v with
    | nil => exact (add_zero v).symm
    | cons a l ih => rw [List.foldl_cons, ih, List.map_cons, List.sum_cons, add_assoc]
  rw [this, ← List.ofFn_eq_map, List.sum_ofFn]

/-- A sum over the positions of a window that is one line. -/
theorem sum_line (f : (⟨3, ![1, 2048, 1]⟩ : Shape).Idx → EReal) :
    (∑ n, f ((⟨3, ![1, 2048, 1]⟩ : Shape).rowMajor.symm n)) = ∑ k : Fin 2048, f (ix3 0 k 0) :=
  (Equiv.sum_comp (⟨3, ![1, 2048, 1]⟩ : Shape).rowMajor.symm f).trans
    (Finset.sum_nbij' (fun i => i 1) (fun k => ix3 0 k 0) (fun _ _ => Finset.mem_univ _) (fun _ _ => Finset.mem_univ _)
      (fun i _ => funext fun a => match a with
        | ⟨0, _⟩ => (Subsingleton.elim (α := Fin 1) _ _) | ⟨1, _⟩ => rfl | ⟨2, _⟩ => (Subsingleton.elim (α := Fin 1) _ _))
      (fun _ _ => rfl)
      (fun i _ => congrArg f (funext fun a => match a with
        | ⟨0, _⟩ => (Subsingleton.elim (α := Fin 1) _ _) | ⟨1, _⟩ => rfl | ⟨2, _⟩ => (Subsingleton.elim (α := Fin 1) _ _))))

variable (x : (⟨3, ![4, 2048, 16]⟩ : Shape).Idx → EReal) (v : (⟨0, ![]⟩ : Shape).Idx → EReal) (hv : ∀ i, v i = 0)
  (p : Fin 4) (s : Fin 2048) (l : Fin 16)

include hv

theorem window (lo hi : ℕ) (h) (hu) :
    Host.reduceWindowAdd (F := Ideal) (φ := .f32) (s := ⟨3, ![4, 2048, 16]⟩) (t := ⟨3, ![4, 2048, 16]⟩) ![1, 2048, 1] ![1, 1, 1] ![0, lo, 0] ![0, hi, 0] x v h hu (ix3 p s l)
      = ∑ k ∈ Finset.range 2048, if lo ≤ s.val + k then line x p l (s.val + k - lo) else 0 := by
  unfold Host.reduceWindowAdd
  rw [Ideal.hostReduceWindowAdd_def]
  unfold Ideal.hostReduceWindowAdd Host.reduceWindow
  rw [foldl_add, hv, zero_add, Finset.sum_range]
  refine (sum_line (fun w => @dite EReal (∀ a : Fin 3, ![0, lo, 0] a ≤ (ix3 p s l a).val * ![1, 1, 1] a + (w a).val
      ∧ (ix3 p s l a).val * ![1, 1, 1] a + (w a).val - ![0, lo, 0] a < ![4, 2048, 16] a) (Nat.decidableForallFin _)
    (fun hin => x fun a => ⟨(ix3 p s l a).val * ![1, 1, 1] a + (w a).val - ![0, lo, 0] a, (hin a).2⟩) (fun _ => 0))).trans
    (Finset.sum_congr rfl fun k _ => ?_)
  unfold line
  have e : (∀ a : Fin 3, ![0, lo, 0] a ≤ (ix3 p s l a).val * ![1, 1, 1] a + (ix3 (0 : Fin 1) k (0 : Fin 1) a).val
      ∧ (ix3 p s l a).val * ![1, 1, 1] a + (ix3 (0 : Fin 1) k (0 : Fin 1) a).val - ![0, lo, 0] a < ![4, 2048, 16] a)
      ↔ lo ≤ s.val + k.val ∧ s.val + k.val - lo < 2048 := by
    constructor
    · intro h
      have h1 : lo ≤ s.val * 1 + k.val ∧ s.val * 1 + k.val - lo < 2048 := h 1
      rwa [mul_one] at h1
    · rintro ⟨h, h'⟩ a
      match a with
      | ⟨0, _⟩ => exact ⟨Nat.zero_le _, show p.val * 1 + 0 - 0 < 4 by have := p.2; omega⟩
      | ⟨1, _⟩ => exact ⟨show lo ≤ s.val * 1 + k.val by omega, show s.val * 1 + k.val - lo < 2048 by omega⟩
      | ⟨2, _⟩ => exact ⟨Nat.zero_le _, show l.val * 1 + 0 - 0 < 16 by have := l.2; omega⟩
  by_cases h0 : lo ≤ s.val + k.val
  · by_cases h1 : s.val + k.val - lo < 2048
    · rw [dif_pos (e.mpr ⟨h0, h1⟩), if_pos h0, dif_pos h1]
      refine congrArg x (funext fun a => Fin.ext ?_)
      match a with
      | ⟨0, _⟩ => show p.val * 1 + 0 - 0 = p.val; omega
      | ⟨1, _⟩ => show s.val * 1 + k.val - lo = s.val + k.val - lo; omega
      | ⟨2, _⟩ => show l.val * 1 + 0 - 0 = l.val; omega
    · rw [dif_neg fun h => h1 (e.mp h).2, if_pos h0, dif_neg h1]
  · rw [dif_neg fun h => h0 (e.mp h).1, if_neg h0]

theorem from_row (h) (hu) :
    Host.reduceWindowAdd (F := Ideal) (φ := .f32) (s := ⟨3, ![4, 2048, 16]⟩) (t := ⟨3, ![4, 2048, 16]⟩) ![1, 2048, 1] ![1, 1, 1] ![0, 0, 0] ![0, 2047, 0] x v h hu (ix3 p s l)
      = ∑ t ∈ Finset.Ico s.val 2048, line x p l t := by
  rw [window x v hv p s l]
  have hs := s.2
  refine (Finset.sum_congr rfl fun k _ => if_pos (Nat.zero_le _)).trans ?_
  rw [Finset.sum_Ico_eq_sum_range]
  refine (Finset.sum_subset (Finset.range_mono (Nat.sub_le _ _)) fun k _ hk => dif_neg ?_).symm
  simp only [Finset.mem_range] at hk
  omega

theorem upto_row (h) (hu) :
    Host.reduceWindowAdd (F := Ideal) (φ := .f32) (s := ⟨3, ![4, 2048, 16]⟩) (t := ⟨3, ![4, 2048, 16]⟩) ![1, 2048, 1] ![1, 1, 1] ![0, 2047, 0] ![0, 0, 0] x v h hu (ix3 p s l)
      = ∑ t ∈ Finset.range (s.val + 1), line x p l t := by
  rw [window x v hv p s l, ← Finset.sum_filter]
  have hs := s.2
  exact Finset.sum_nbij' (fun k => s.val + k - 2047) (fun t => t + 2047 - s.val)
    (fun a h => by simp only [Finset.mem_filter, Finset.mem_range] at h ⊢; omega)
    (fun a h => by simp only [Finset.mem_filter, Finset.mem_range] at h ⊢; omega)
    (fun a h => by simp only [Finset.mem_filter, Finset.mem_range] at h; omega)
    (fun t h => by simp only [Finset.mem_range] at h; omega) (fun _ _ => rfl)

end Window

end Cert.Fgate
-- ==== Proof.Fgate.Backward.lean ====
/- The forget gates' running sum, backwards: each batch element's rows from the last block of 256 to the first. -/
module

public import proofs.«01_k».proof.Proof.Fgate.Sums
public import proofs.«01_k».proof.Proof.Gates.Spec
public import proofs.«01_k».proof.Proof.Gen.Kernel12Ideal.Value
public import Idealize.ShloMosaic.Lib.StableHlo.ReadAt

@[expose] public section

noncomputable section

namespace Cert.Fgate.Backward

open Idealize.ShloMosaic Idealize.ShloMosaic.TcCoe Idealize.SL.Sem Cert.Kernel12Ideal Cert.Kernel12Ideal.Gen Cert.Gates

theorem tri_at (r a : Fin 256) : k0_pay2 (F := Ideal) (ix2 r a) = unit (r.val ≤ a.val) := by
  pointwise [k0_pay2]
  exact flag _ _ (num_le (by omega) (by omega))

/-- A block's running sums, from the rows' values and the row handed on. -/
theorem step_at (T : Vec Ideal S256x256 .bf16) (c : Vec Ideal S1x128 .f32) (x : Vec Ideal S1x256x128 .f32) (r : Fin 256) (l : Fin 128) :
    k0_pay6 (F := Ideal) T c x (ix2 r l) = 0 + ∑ a : Fin 256, T (ix2 r a) * x (ix3 0 a l) + ∑ a : Fin 256, T (ix2 r a) * (x (ix3 0 a l) - x (ix3 0 a l))
      + ∑ a : Fin 256, T (ix2 r a) * (x (ix3 0 a l) - x (ix3 0 a l) - (x (ix3 0 a l) - x (ix3 0 a l))) + c (ix2 0 l) := by
  pointwise [k0_pay6]
theorem last_at (T : Vec Ideal S256x256 .bf16) (c : Vec Ideal S1x128 .f32) (x : Vec Ideal S1x256x128 .f32) (l : Fin 128) :
    k0_pay7 (F := Ideal) T c x (ix2 0 l) = k0_pay6 (F := Ideal) T c x (ix2 0 l) := by
  unfold k0_pay7
  generalize k0_pay6 (F := Ideal) T c x = y
  pointwise []
theorem out_at (T : Vec Ideal S256x256 .bf16) (c : Vec Ideal S1x128 .f32) (x f : Vec Ideal S1x256x128 .f32) (r : Fin 256) (l : Fin 128) :
    k0_pay8 (F := Ideal) T c x f (ix2 r l) = k0_pay6 (F := Ideal) T c x (ix2 r l) * sgm (0 - f (ix3 0 r l)) := by
  unfold k0_pay8
  generalize k0_pay6 (F := Ideal) T c x = y
  rw [← sgm_at]
  pointwise [one]

variable (x f : Vec Ideal S1x2048x128 .f32)

/-- The row handed on to the `k`-th block from the last. -/
def carry : ℕ → Vec Ideal S1x128 .f32
  | 0 => broadcast S1x128 (Scalar.ofBits (F := Ideal) .f32 0x00000000#32)
  | k + 1 => k0_pay7 (F := Ideal) (k0_pay2 (F := Ideal)) (carry k) (blk x (7 - k))
/-- What is stored for it. -/
def stored (k : ℕ) : Vec Ideal S256x128 .bf16 := k0_pay8 (F := Ideal) (k0_pay2 (F := Ideal)) (carry x k) (blk x (7 - k)) (blk f (7 - k))

theorem out_eq : out0_2 (F := Ideal) x f = View.canon [⟨r0_15, stored x f 7⟩, ⟨r0_13, stored x f 6⟩, ⟨r0_11, stored x f 5⟩, ⟨r0_9, stored x f 4⟩,
    ⟨r0_7, stored x f 3⟩, ⟨r0_5, stored x f 2⟩, ⟨r0_3, stored x f 1⟩, ⟨r0_1, stored x f 0⟩] := by
  unfold_out out0_2
  rw [ld_eq x 7 _ _ rfl, ld_eq x 6 _ _ rfl, ld_eq x 5 _ _ rfl, ld_eq x 4 _ _ rfl, ld_eq x 3 _ _ rfl, ld_eq x 2 _ _ rfl, ld_eq x 1 _ _ rfl, ld_eq x 0 _ _ rfl,
    ld_eq f 7 _ _ rfl, ld_eq f 6 _ _ rfl, ld_eq f 5 _ _ rfl, ld_eq f 4 _ _ rfl, ld_eq f 3 _ _ rfl, ld_eq f 2 _ _ rfl, ld_eq f 1 _ _ rfl, ld_eq f 0 _ _ rfl]
  rfl

/-- From row `t` on. -/
def from' (l : Fin 128) (t : ℕ) : EReal := ∑ u ∈ Finset.Ico t 2048, line x 0 l u

variable (hx : ∀ l t, line x 0 l t ≠ ⊤)
include hx

theorem sums_at (k : ℕ) (c : Vec Ideal S1x128 .f32) (l : Fin 128) (hc : c (ix2 0 l) = from' x l (256 * k + 256)) (hk : k < 8) (r : Fin 256) :
    k0_pay6 (F := Ideal) (k0_pay2 (F := Ideal)) c (blk x k) (ix2 r l) = from' x l (256 * k + r.val) := by
  rw [step_at, hc]
  simp only [tri_at]
  rw [parts Finset.univ (fun a : Fin 256 => r.val ≤ a.val) (fun a => blk x k (ix3 0 a l)) fun a => hx l _]
  refine (congrArg (fun z : EReal => z + from' x l (256 * k + 256)) (sum_from (line x 0 l) (256 * k) r)).trans ?_
  exact Finset.sum_Ico_consecutive _ (by omega) (by omega)

theorem carry_at (k : ℕ) (hk : k ≤ 8) (l : Fin 128) : carry x k (ix2 0 l) = from' x l (256 * (8 - k)) := by
  induction k with
  | zero => exact (Ideal.ofBits_zero .f32).trans (by unfold from'; rw [Finset.Ico_self, Finset.sum_empty])
  | succ k ih =>
    rw [carry, last_at, sums_at x hx (7 - k) _ l ((ih (by omega)).trans (congrArg _ (by omega))) (by omega) 0]
    exact congrArg _ (show 256 * (7 - k) + 0 = 256 * (8 - (k + 1)) by omega)

theorem stored_at (k : ℕ) (hk : k < 8) (y : S256x128.Idx) (t : Fin 2048) (l : Fin 128) (h0 : t.val = 256 * (7 - k) + (y 0).val) (h1 : l.val = (y 1).val) :
    stored x f k y = from' x l t.val * sgm (0 - f (ix3 0 t l)) := by
  obtain ⟨r, n, rfl⟩ : ∃ r n, y = ix2 r n := ⟨y 0, y 1, funext fun a => match a with | ⟨0, _⟩ => rfl | ⟨1, _⟩ => rfl⟩
  obtain rfl : l = n := Fin.ext h1
  unfold stored
  rw [out_at, sums_at x hx (7 - k) _ l ((carry_at x hx k (by omega) l).trans (congrArg _ (by omega))) (by omega) r, h0, ← line_at f 0 l t, h0]
  rfl

theorem out_at' (t : Fin 2048) (l : Fin 128) : out0_2 (F := Ideal) x f (ix2 t l) = from' x l t.val * sgm (0 - f (ix3 0 t l)) := by
  rw [out_eq]
  canon_tiles z h using cover0_2 ..
  all_goals
    change t.val = _ at h0
    change l.val = _ at h1
  · exact stored_at x f hx 7 (by omega) z t l (by simpa using h0) (by simpa using h1)
  · exact stored_at x f hx 6 (by omega) z t l h0 (by simpa using h1)
  · exact stored_at x f hx 5 (by omega) z t l h0 (by simpa using h1)
  · exact stored_at x f hx 4 (by omega) z t l h0 (by simpa using h1)
  · exact stored_at x f hx 3 (by omega) z t l h0 (by simpa using h1)
  · exact stored_at x f hx 2 (by omega) z t l h0 (by simpa using h1)
  · exact stored_at x f hx 1 (by omega) z t l h0 (by simpa using h1)
  · exact stored_at x f hx 0 (by omega) z t l h0 (by simpa using h1)

omit hx

/-- The gradient by the forget gates' arguments. -/
def valB (d z : (⟨3, ![4, 2048, 16]⟩ : Shape).Idx → EReal) (p : Fin 4) (s : Fin 2048) (l : Fin 128) : EReal :=
  if h : l.val < 16 then (∑ u ∈ Finset.Ico s.val 2048, line d p ⟨l.val, h⟩ u) * sgm (0 - z (ix3 p s ⟨l.val, h⟩)) else 0
/-- Its rows the tokens. -/
def resB (d z : (⟨3, ![4, 2048, 16]⟩ : Shape).Idx → EReal) : (⟨2, ![8192, 128]⟩ : Shape).Idx → EReal := fun i =>
  valB d z ⟨(i 0).val / 2048, by have : (i 0).val < 8192 := (i 0).2; omega⟩ ⟨(i 0).val % 2048, Nat.mod_lt _ (by omega)⟩ (i 1)

theorem idx : ∀ t : Fin cfg0.N, win0_0.index t = ![t.val, 0, 0] ∧ win0_1.index t = ![t.val, 0, 0] ∧ win0_2.index t = ![t.val, 0] :=
  (by decide +kernel : ∀ t : Fin grid0.N, _)

variable (m : (ℓ : Loc nD τ sig) → Buf (Elt Ideal) ℓ) (c : Dev nD) (t : Fin cfg0.N)

/-- The two arguments. -/
def aD : Vec Ideal S4x2048x16 .f32 := m ((c.tc : Thread nD τ).loc main_arg0)
def aF : Vec Ideal S4x2048x16 .f32 := m ((c.tc : Thread nD τ).loc main_arg1)

theorem V0 : (V m c main_v0 : Vec Ideal S4x2048x128 .f32) = wide (aD m c) := by
  refine Eq.trans ?_ (pad_wide (aD m c) _ zero_at pads_S4x2048x16_S4x2048x128_000_000_01120 h_S_)
  unfold V aD
  after_reads_simp
  rfl
theorem V1 : (V m c main_v1 : Vec Ideal S4x2048x128 .f32) = wide (aF m c) := by
  refine Eq.trans ?_ (pad_wide (aF m c) _ zero_at pads_S4x2048x16_S4x2048x128_000_000_01120 h_S_)
  unfold V aF
  after_reads_simp
  rfl

theorem read0 (X : Vec Ideal S4x2048x128 .f32) (s : Fin 2048) (l : Fin 128) :
    (((cfg0.win 0).blk t).view.read (Elt Ideal) X : Vec Ideal S1x2048x128 .f32) (ix3 0 s l) = X (ix3 t s l) := by
  blk_simp
  blk_ext [idx t]
theorem read1 (X : Vec Ideal S4x2048x128 .f32) (s : Fin 2048) (l : Fin 128) :
    (((cfg0.win 1).blk t).view.read (Elt Ideal) X : Vec Ideal S1x2048x128 .f32) (ix3 0 s l) = X (ix3 t s l) := by
  blk_simp
  blk_ext [idx t]

/-- The point's batch element. -/
def pt : Fin 4 := ⟨t.val, t.2⟩

theorem line0 (l : Fin 128) : line (iblk m c 0 t : Vec Ideal S1x2048x128 .f32) 0 l = line (wide (aD m c)) (pt t) l := by
  funext u
  unfold line
  split_ifs with h
  · exact (read0 t (V m c main_v0) ⟨u, h⟩ l).trans (congrFun (V0 m c) _)
  · rfl

variable (hD : ∀ i, aD m c i ≠ ⊤)
include hD

theorem point (s : Fin 2048) (l : Fin 128) : out0_2 (F := Ideal) (iblk m c 0 t) (iblk m c 1 t) (ix2 s l) = valB (aD m c) (aF m c) (pt t) s l := by
  have hw (l : Fin 128) (u : ℕ) : line (wide (aD m c)) (pt t) l u ≠ ⊤ := by
    rw [line_wide]
    unfold line
    split_ifs
    · exact hD _
    · exact EReal.zero_ne_top
    · exact EReal.zero_ne_top
  refine (out_at' _ _ (fun l u => by rw [line0]; exact hw l u) s l).trans ?_
  unfold valB from'
  rw [show (iblk m c 1 t : Vec Ideal S1x2048x128 .f32) (ix3 0 s l) = wide (aF m c) (ix3 (pt t) s l) from
    (read1 t (V m c main_v1) s l).trans (congrFun (V1 m c) _), line0]
  simp only [line_wide]
  by_cases h : l.val < 16
  · simp only [dif_pos h]
    exact congrArg (fun b : EReal => _ * sgm (0 - b)) (dif_pos h)
  · simp only [dif_neg h]
    rw [Finset.sum_const_zero, zero_mul]

theorem final : (dats m 0 c).arrAt 2 cfg0.N = resB (aD m c) (aF m c) := by
  refine (dats m 0 c).arrAt_eq_of_covers 2 _ (by decide +kernel) fun t hf y => ?_
  blk_simp
  rw [after0_2]
  have hy : (y 0).val < 2048 := (y 0).2
  have e : y = ix2 (y 0) (y 1) := by blk_ext
  have e0 : (((win0_2.blk t).view.emb y) 0).val = t.val * 2048 + (y 0).val := by blk_simp [idx t]
  have e1 : ((win0_2.blk t).view.emb y) 1 = y 1 := Fin.ext (by blk_simp [idx t])
  refine ((congrArg _ e).trans (point m c t hD (y 0) (y 1))).trans ?_
  unfold resB
  rw [e1]
  exact congrArg₂ (fun a b => valB (aD m c) (aF m c) a b (y 1)) (Fin.ext (show t.val = (((win0_2.blk t).view.emb y) 0).val / 2048 by omega))
    (Fin.ext (show (y 0).val = (((win0_2.blk t).view.emb y) 0).val % 2048 by omega))

end Cert.Fgate.Backward
-- ==== Proof.Fgate.RefBackward.lean ====
/- The reference's gradient by the forget gates' arguments. -/
module

public import proofs.«01_k».proof.Proof.Fgate.Backward
public import proofs.«01_k».proof.Proof.Gates.RefBranch
public import proofs.«01_k».proof.Proof.Gen.Reference12Ideal.Read

@[expose] public section

noncomputable section

namespace Cert.Fgate.RefBackward

open Idealize.ShloMosaic Cert.Reference12Ideal Cert.Reference12Ideal.Gen Cert.Reference12Ideal.Read Cert.Fgate.Backward Cert.Gates

variable (d z : Vec Ideal S4x2048x16 .f32)

theorem soft_at (i : S4x2048x16.Idx) : val_main_call0_v1_0 (F := Ideal) z i = soft (-z i) := by
  pointwise [val_main_call0_v1_0, val_main_call0_call0_v4, val_main_call0_call0_v6, val_main_call0_call0_v11, val_main_call0_call0_v1, val_main_call0_call0_v10,
    val_main_call0_call0_v9, val_main_call0_call0_v8, val_main_call0_call0_v7, val_main_call0_call0_v3, val_main_call0_v0, val_main_call0_call0_v0, val_main_call0_call0_v2,
    val_main_call0_call0_v5, val_main_call0_call0_cst]
  exact if_neg (not_not.mpr rfl)

theorem soft_coe (a : ℝ) : soft (a : EReal) = ((max a 0 + Real.log (1 + Real.exp (-max a (-a))) : ℝ) : EReal) := by
  have hm := fun x y : ℝ => (EReal.coe_strictMono.monotone.map_max (a := x) (b := y)).symm
  unfold soft Ideal.log1p
  rw [← EReal.coe_neg, hm, ← EReal.coe_neg, Ideal.exp_coe, ← EReal.coe_one, ← EReal.coe_add, Ideal.log_coe, if_neg (not_le.mpr (by positivity)), ← EReal.coe_zero, hm,
    ← EReal.coe_add]

theorem sigmoid (a : ℝ) : Real.exp (a - (max a 0 + Real.log (1 + Real.exp (-max a (-a))))) = 1 / (1 + Real.exp (-a)) := by
  rw [Real.exp_sub, Real.exp_add, Real.exp_log (by positivity)]
  have := Real.exp_pos a
  rcases le_total a 0 with h | h
  · rw [max_eq_right h, max_eq_right (by linarith), neg_neg, Real.exp_zero, Real.exp_neg]
    field_simp
    ring
  · rw [max_eq_left h, max_eq_left (by linarith)]
    field_simp

theorem gate_at (i : S4x2048x16.Idx) (r : ℝ) (h : z i = (r : EReal)) : val_main_v0_1 (F := Ideal) z i = sgm (0 - z i) := by
  have hs := soft_at z i
  unfold val_main_v0_1 val_main_call0_call0_v21 val_main_call0_call0_v20 val_main_call0_call0_v18
  generalize val_main_call0_v1_0 (F := Ideal) z = y at hs ⊢
  pointwise [val_main_call0_call0_v16, val_main_call0_call0_v14, val_main_call0_v0, val_main_call0_call0_v13, val_main_call0_call0_cst_0, val_main_call0_call0_v15,
    val_main_call0_call0_cst_1, val_main_call0_call0_v17, val_main_call0_call0_cst_2, val_main_call0_call0_v19, val_main_call0_call0_cst_3]
  rw [zero_sub, RefBranch.sgm_coe (x := -r) (by rw [h, EReal.coe_neg]), hs, h, ← EReal.coe_neg, soft_coe, AttnBwd.bits_inf, if_neg (EReal.coe_ne_top _), if_neg (EReal.coe_ne_top _),
    ← EReal.coe_sub, Ideal.exp_coe, sigmoid]

theorem grad_at (p : Fin 4) (s : Fin 2048) (l : Fin 16) (r : ℝ) (h : z (ix3 p s l) = (r : EReal)) :
    val_main_v3 (F := Ideal) d z (ix3 p s l) = (∑ u ∈ Finset.Ico s.val 2048, line d p l u) * sgm (0 - z (ix3 p s l)) := by
  rw [← gate_at z _ r h, ← from_row d (val_main_call2_call0_v0 (F := Ideal)) (fun i => ?_) p s l reduceWindows_S4x2048x16_S4x2048x16_w1s1p0_0_w2048s1p0_2047_w1s1p0_0 h_S_]
  · show -(-(val_main_v2 (F := Ideal) d (ix3 p s l)) * val_main_v0_1 (F := Ideal) z (ix3 p s l)) = _
    rw [EReal.neg_mul, neg_neg]
    rfl
  · pointwise [val_main_call2_call0_v0, val_main_call2_call0_cst]

theorem ref (hz : ∀ i, ∃ r : ℝ, z i = (r : EReal)) : val_main_v6 (F := Ideal) d z = resB d z := by
  funext i
  obtain ⟨e, l, rfl⟩ : ∃ (e : Fin 8192) (l : Fin 128), i = ix2 e l := ⟨i 0, i 1, funext fun a => match a with | ⟨0, _⟩ => rfl | ⟨1, _⟩ => rfl⟩
  have he := e.2
  show val_main_v5 (F := Ideal) d z (ix2 e l) = valB d z ⟨e.val / 2048, by omega⟩ ⟨e.val % 2048, Nat.mod_lt _ (by omega)⟩ l
  unfold val_main_v5 valB
  split_ifs with h
  · refine (pad_apply_of_inside _ _ _ (val_main_v4 (F := Ideal) d z) _ _ _ _ (ix2 e ⟨l.val, h⟩) fun a => match a with
      | ⟨0, _⟩ => (show e.val = 0 + e.val * (0 + 1) by omega)
      | ⟨1, _⟩ => (show l.val = 0 + l.val * (0 + 1) by omega)).trans ?_
    obtain ⟨r, hr⟩ := hz (ix3 ⟨e.val / 2048, by omega⟩ ⟨e.val % 2048, Nat.mod_lt _ (by omega)⟩ ⟨l.val, h⟩)
    refine Eq.trans ?_ (grad_at d z _ _ _ r hr)
    unfold val_main_v4
    exact (Tok.flat_at _ _ _ _).trans (Tok.tok_at _ _ _ ⟨e.val / 2048, by omega⟩ ⟨e.val % 2048, Nat.mod_lt _ (by omega)⟩ (show e.val = e.val / 2048 * 2048 + e.val % 2048 by omega))
  · refine (pad_apply_of_not_inside _ _ _ (val_main_v4 (F := Ideal) d z) _ _ _ _ 1 fun hin => h ?_).trans (zero_at _)
    have h2 : (l.val - 0) / (0 + 1) < 16 := hin.2.2
    omega

end Cert.Fgate.RefBackward
-- ==== Proof.Fgate.Forward.lean ====
/- The forget gates' running sum: each batch element's rows from the first block of 256 to the last. -/
module

public import proofs.«01_k».proof.Proof.Fgate.Sums
public import proofs.«01_k».proof.Proof.Gen.Kernel13Ideal.Value
public import Idealize.ShloMosaic.Lib.StableHlo.ReadAt

@[expose] public section

noncomputable section

namespace Cert.Fgate.Forward

open Idealize.ShloMosaic Idealize.ShloMosaic.TcCoe Idealize.SL.Sem Cert.Kernel13Ideal Cert.Kernel13Ideal.Gen

theorem tri_at (r a : Fin 256) : k0_pay4 (F := Ideal) (ix2 r a) = unit (a.val ≤ r.val) := by
  pointwise [k0_pay4]
  exact flag _ _ (num_le (by omega) (by omega))

theorem shift : ∀ j : Fin 1024, IntOp.shrsi ArithUnit.vector (BitVec.ofNat 32 j.val) 6#32 = BitVec.ofNat 32 (j.val / 64) := by decide +kernel

theorem expand_at (l : Fin 128) (j : Fin 1024) : k0_pay5 (F := Ideal) (ix2 l j) = unit (j.val / 64 = l.val) := by
  pointwise [k0_pay5]
  rw [shift]
  exact flag _ _ (num_eq (by omega) (by omega))

theorem logs_at (x : Vec Ideal S1x256x128 .f32) (r : Fin 256) (l : Fin 128) : k0_pay14 (F := Ideal) x (ix2 r l) = lf (x (ix3 0 r l)) := by
  unfold lf
  pointwise [k0_pay14]
  rfl

/-- A block's running sums, from the arguments and the row handed on. -/
def step (T : Vec Ideal S256x256 .bf16) (c : Vec Ideal S1x128 .f32) (x : Vec Ideal S1x256x128 .f32) : Vec Ideal S256x128 .f32 :=
  k0_pay20 (F := Ideal) c (k0_pay18 (F := Ideal) T x) (k0_pay19 (F := Ideal) T x)

theorem step_at (T : Vec Ideal S256x256 .bf16) (c : Vec Ideal S1x128 .f32) (x : Vec Ideal S1x256x128 .f32) (r : Fin 256) (l : Fin 128) :
    step T c x (ix2 r l) = 0 + ∑ a : Fin 256, T (ix2 r a) * lf (x (ix3 0 a l)) + ∑ a : Fin 256, T (ix2 r a) * (lf (x (ix3 0 a l)) - lf (x (ix3 0 a l)))
      + ∑ a : Fin 256, T (ix2 r a) * (lf (x (ix3 0 a l)) - lf (x (ix3 0 a l)) - (lf (x (ix3 0 a l)) - lf (x (ix3 0 a l)))) + c (ix2 0 l) := by
  have h := fun a => logs_at x a l
  simp only [← h]
  unfold step k0_pay20 k0_pay18 k0_pay19 k0_pay17 k0_pay16 k0_pay15
  generalize k0_pay14 (F := Ideal) x = y
  pointwise []

/-- A block's sums over its heads' columns. -/
def spread (y : Vec Ideal S256x128 .f32) : Vec Ideal S1x256x1024 .f32 :=
  let z := subf y (extf .f32 (truncf .bf16 y bitsLt_bf16_f32) bitsLt_bf16_f32)
  k0_pay12 (F := Ideal) (k0_pay5 (F := Ideal)) (truncf .bf16 y bitsLt_bf16_f32) (truncf .bf16 z bitsLt_bf16_f32)
    (subf z (extf .f32 (truncf .bf16 z bitsLt_bf16_f32) bitsLt_bf16_f32))

theorem spread_at (y : Vec Ideal S256x128 .f32) (r : Fin 256) (j : Fin 1024) (hy : ∀ l, y (ix2 r l) ≠ ⊤) :
    spread y (ix3 0 r j) = y (ix2 r ⟨j.val / 64, by omega⟩) := by
  have e : spread y (ix3 0 r j) = 0 + ∑ a : Fin 128, unit (j.val / 64 = a.val) * y (ix2 r a) + ∑ a : Fin 128, unit (j.val / 64 = a.val) * (y (ix2 r a) - y (ix2 r a))
      + ∑ a : Fin 128, unit (j.val / 64 = a.val) * (y (ix2 r a) - y (ix2 r a) - (y (ix2 r a) - y (ix2 r a))) := by
    simp only [← expand_at, mul_comm (k0_pay5 (F := Ideal) _)]
    unfold spread
    generalize k0_pay5 (F := Ideal) = E
    pointwise [k0_pay12]
  rw [e, parts Finset.univ (fun a : Fin 128 => j.val / 64 = a.val) _ hy, Finset.sum_eq_single ⟨j.val / 64, by omega⟩ (fun a _ ha => if_neg fun h => ha (Fin.ext h.symm))
    (fun h => absurd (Finset.mem_univ _) h)]
  exact if_pos rfl

theorem turned_at (y : Vec Ideal S256x128 .f32) (l : Fin 16) (r : Fin 256) : k0_pay13 (F := Ideal) y (ix3 0 l r) = y (ix2 r ⟨l.val, by omega⟩) := by
  pointwise [k0_pay13]

variable (x : Vec Ideal S1x2048x128 .f32)

/-- The row handed on to the `k`-th block, and the block's sums. -/
def carry : ℕ → Vec Ideal S1x128 .f32
  | 0 => broadcast S1x128 (Scalar.ofBits (F := Ideal) .f32 0x00000000#32)
  | k + 1 => extractStridedSlice S1x128 ![255, 0] (step (k0_pay4 (F := Ideal)) (carry k) (blk x k)) slices_S256x128_o255_0_S1x128
def sums (k : ℕ) : Vec Ideal S256x128 .f32 := step (k0_pay4 (F := Ideal)) (carry x k) (blk x k)

theorem out_eq1 : out0_1 (F := Ideal) x = View.canon [⟨r0_22, spread (sums x 7)⟩, ⟨r0_19, spread (sums x 6)⟩, ⟨r0_16, spread (sums x 5)⟩, ⟨r0_13, spread (sums x 4)⟩,
    ⟨r0_10, spread (sums x 3)⟩, ⟨r0_7, spread (sums x 2)⟩, ⟨r0_4, spread (sums x 1)⟩, ⟨r0_1, spread (sums x 0)⟩] := by
  unfold_out out0_1
  rw [ld_eq x 7 _ _ rfl, ld_eq x 6 _ _ rfl, ld_eq x 5 _ _ rfl, ld_eq x 4 _ _ rfl, ld_eq x 3 _ _ rfl, ld_eq x 2 _ _ rfl, ld_eq x 1 _ _ rfl, ld_eq x 0 _ _ rfl]
  rfl
theorem out_eq2 : out0_2 (F := Ideal) x = View.canon [⟨r0_23, k0_pay13 (F := Ideal) (sums x 7)⟩, ⟨r0_20, k0_pay13 (F := Ideal) (sums x 6)⟩, ⟨r0_17, k0_pay13 (F := Ideal) (sums x 5)⟩,
    ⟨r0_14, k0_pay13 (F := Ideal) (sums x 4)⟩,
    ⟨r0_11, k0_pay13 (F := Ideal) (sums x 3)⟩, ⟨r0_8, k0_pay13 (F := Ideal) (sums x 2)⟩, ⟨r0_5, k0_pay13 (F := Ideal) (sums x 1)⟩, ⟨r0_2, k0_pay13 (F := Ideal) (sums x 0)⟩] := by
  unfold_out out0_2
  rw [ld_eq x 7 _ _ rfl, ld_eq x 6 _ _ rfl, ld_eq x 5 _ _ rfl, ld_eq x 4 _ _ rfl, ld_eq x 3 _ _ rfl, ld_eq x 2 _ _ rfl, ld_eq x 1 _ _ rfl, ld_eq x 0 _ _ rfl]
  rfl

/-- The first `t` rows. -/
def upto (l : Fin 128) (t : ℕ) : EReal := ∑ u ∈ Finset.range t, lf (line x 0 l u)

theorem upto_ne_top (l : Fin 128) (t : ℕ) : upto x l t ≠ ⊤ := ne_top_of_le_ne_top EReal.zero_ne_top (Finset.sum_nonpos fun _ _ => lf_le _)

theorem sums_of (k : ℕ) (l : Fin 128) (hc : carry x k (ix2 0 l) = upto x l (256 * k)) (r : Fin 256) : sums x k (ix2 r l) = upto x l (256 * k + r.val + 1) := by
  unfold sums
  rw [step_at, hc]
  simp only [tri_at]
  rw [parts Finset.univ (fun a : Fin 256 => a.val ≤ r.val) (fun a => lf (blk x k (ix3 0 a l))) fun a => ne_top_of_le_ne_top EReal.zero_ne_top (lf_le _)]
  refine (congrArg (fun z : EReal => z + upto x l (256 * k)) (sum_upto (fun t => lf (line x 0 l t)) (256 * k) r)).trans ?_
  unfold upto
  rw [add_comm, Finset.range_eq_Ico, Finset.range_eq_Ico]
  exact Finset.sum_Ico_consecutive _ (by omega) (by omega)

theorem carry_at (k : ℕ) (l : Fin 128) : carry x k (ix2 0 l) = upto x l (256 * k) := by
  induction k with
  | zero => exact (Ideal.ofBits_zero .f32).trans (Finset.sum_range_zero _).symm
  | succ k ih =>
    have h := sums_of x k l ih 255
    rw [carry]
    unfold sums at h
    generalize step (k0_pay4 (F := Ideal)) (carry x k) (blk x k) = y at h ⊢
    refine Eq.trans ?_ (h.trans (congrArg _ (show 256 * k + 255 + 1 = 256 * (k + 1) by omega)))
    pointwise []

theorem sums_at (k : ℕ) (l : Fin 128) (r : Fin 256) : sums x k (ix2 r l) = upto x l (256 * k + r.val + 1) := sums_of x k l (carry_at x k l) r

theorem stored1 (k : ℕ) (y : S1x256x1024.Idx) (t : Fin 2048) (j : Fin 1024) (h1 : t.val = 256 * k + (y 1).val) (h2 : j.val = (y 2).val) :
    spread (sums x k) y = upto x ⟨j.val / 64, by omega⟩ (t.val + 1) := by
  obtain ⟨r, n, rfl⟩ : ∃ r n, y = ix3 0 r n := ⟨y 1, y 2, funext fun a => match a with | ⟨0, _⟩ => (Subsingleton.elim (α := Fin 1) _ _) | ⟨1, _⟩ => rfl | ⟨2, _⟩ => rfl⟩
  obtain rfl : j = n := Fin.ext h2
  rw [spread_at _ r j fun l => by rw [sums_at]; exact upto_ne_top _ _ _, sums_at, h1]
  rfl
theorem stored2 (k : ℕ) (y : S1x16x256.Idx) (l : Fin 16) (t : Fin 2048) (h1 : l.val = (y 1).val) (h2 : t.val = 256 * k + (y 2).val) :
    k0_pay13 (F := Ideal) (sums x k) y = upto x ⟨l.val, by omega⟩ (t.val + 1) := by
  obtain ⟨n, r, rfl⟩ : ∃ n r, y = ix3 0 n r := ⟨y 1, y 2, funext fun a => match a with | ⟨0, _⟩ => (Subsingleton.elim (α := Fin 1) _ _) | ⟨1, _⟩ => rfl | ⟨2, _⟩ => rfl⟩
  obtain rfl : l = n := Fin.ext h1
  rw [turned_at, sums_at, h2]
  rfl

theorem out_at1 (t : Fin 2048) (j : Fin 1024) : out0_1 (F := Ideal) x (ix3 0 t j) = upto x ⟨j.val / 64, by omega⟩ (t.val + 1) := by
  rw [out_eq1]
  canon_tiles z h using cover0_1 ..
  all_goals
    change t.val = _ at h1
    change j.val = _ at h2
  · exact stored1 x 7 z t j h1 (by simpa using h2)
  · exact stored1 x 6 z t j h1 (by simpa using h2)
  · exact stored1 x 5 z t j h1 (by simpa using h2)
  · exact stored1 x 4 z t j h1 (by simpa using h2)
  · exact stored1 x 3 z t j h1 (by simpa using h2)
  · exact stored1 x 2 z t j h1 (by simpa using h2)
  · exact stored1 x 1 z t j h1 (by simpa using h2)
  · exact stored1 x 0 z t j (by simpa using h1) (by simpa using h2)
theorem out_at2 (l : Fin 16) (t : Fin 2048) : out0_2 (F := Ideal) x (ix3 0 l t) = upto x ⟨l.val, by omega⟩ (t.val + 1) := by
  rw [out_eq2]
  canon_tiles z h using cover0_2 ..
  all_goals
    change l.val = _ at h1
    change t.val = _ at h2
  · exact stored2 x 7 z l t (by simpa using h1) h2
  · exact stored2 x 6 z l t (by simpa using h1) h2
  · exact stored2 x 5 z l t (by simpa using h1) h2
  · exact stored2 x 4 z l t (by simpa using h1) h2
  · exact stored2 x 3 z l t (by simpa using h1) h2
  · exact stored2 x 2 z l t (by simpa using h1) h2
  · exact stored2 x 1 z l t (by simpa using h1) h2
  · exact stored2 x 0 z l t (by simpa using h1) (by simpa using h2)

/-- The running sums of one head. -/
def cum (z : (⟨3, ![4, 2048, 16]⟩ : Shape).Idx → EReal) (p : Fin 4) (s : Fin 2048) (l : Fin 16) : EReal := ∑ u ∈ Finset.range (s.val + 1), lf (line z p l u)
/-- By tokens, each head's over its columns, and by heads. -/
def resE (z : (⟨3, ![4, 2048, 16]⟩ : Shape).Idx → EReal) : (⟨3, ![4, 2048, 1024]⟩ : Shape).Idx → EReal := fun i =>
  cum z (i 0) (i 1) ⟨(i 2).val / 64, by have : (i 2).val < 1024 := (i 2).2; omega⟩
def resR (z : (⟨3, ![4, 2048, 16]⟩ : Shape).Idx → EReal) : (⟨3, ![4, 16, 2048]⟩ : Shape).Idx → EReal := fun i => cum z (i 0) (i 2) (i 1)

theorem idx : ∀ t : Fin cfg0.N, win0_0.index t = ![t.val, 0, 0] ∧ win0_1.index t = ![t.val, 0, 0] ∧ win0_2.index t = ![t.val, 0, 0] :=
  (by decide +kernel : ∀ t : Fin grid0.N, _)

variable (m : (ℓ : Loc nD τ sig) → Buf (Elt Ideal) ℓ) (c : Dev nD) (t : Fin cfg0.N)

/-- The argument. -/
def aF : Vec Ideal S4x2048x16 .f32 := m ((c.tc : Thread nD τ).loc main_arg0)

theorem V0 : (V m c main_v0 : Vec Ideal S4x2048x128 .f32) = wide (aF m c) := by
  refine Eq.trans ?_ (pad_wide (aF m c) _ zero_at pads_S4x2048x16_S4x2048x128_000_000_01120 h_S_)
  unfold V aF
  after_reads_simp
  rfl

theorem read0 (X : Vec Ideal S4x2048x128 .f32) (s : Fin 2048) (l : Fin 128) :
    (((cfg0.win 0).blk t).view.read (Elt Ideal) X : Vec Ideal S1x2048x128 .f32) (ix3 0 s l) = X (ix3 t s l) := by
  blk_simp
  blk_ext [idx t]

/-- The point's batch element. -/
def pt : Fin 4 := ⟨t.val, t.2⟩

theorem upto0 (l : Fin 128) (h : l.val < 16) (s : Fin 2048) : upto (iblk m c 0 t : Vec Ideal S1x2048x128 .f32) l (s.val + 1) = cum (aF m c) (pt t) s ⟨l.val, h⟩ := by
  have e : line (iblk m c 0 t : Vec Ideal S1x2048x128 .f32) 0 l = line (aF m c) (pt t) ⟨l.val, h⟩ := by
    funext u
    refine Eq.trans ?_ ((line_wide (aF m c) (pt t) l u).trans (dif_pos h))
    unfold line
    split_ifs with hu
    · exact (read0 t (V m c main_v0) ⟨u, hu⟩ l).trans (congrFun (V0 m c) _)
    · rfl
  unfold upto cum
  rw [e]

theorem final1 : (dats m 0 c).arrAt 1 cfg0.N = resE (aF m c) := by
  refine (dats m 0 c).arrAt_eq_of_covers 1 _ (by decide +kernel) fun t hf y => ?_
  blk_simp
  rw [after0_1]
  have e : y = ix3 0 (y 1) (y 2) := by blk_ext
  have e0 : (win0_1.blk t).view.emb y = ix3 (pt t) (y 1) (y 2) := by
    blk_ext [idx t]
    rfl
  rw [e0]
  exact (congrArg _ e).trans ((out_at1 _ (y 1) (y 2)).trans (upto0 m c t _ _ _))

theorem final2 : (dats m 0 c).arrAt 2 cfg0.N = resR (aF m c) := by
  refine (dats m 0 c).arrAt_eq_of_covers 2 _ (by decide +kernel) fun t hf y => ?_
  blk_simp
  rw [after0_2]
  have e : y = ix3 0 (y 1) (y 2) := by blk_ext
  have e0 : (win0_2.blk t).view.emb y = ix3 (pt t) (y 1) (y 2) := by
    blk_ext [idx t]
    rfl
  rw [e0]
  exact (congrArg _ e).trans ((out_at2 _ (y 1) (y 2)).trans (upto0 m c t _ _ _))

end Cert.Fgate.Forward
-- ==== Proof.Fgate.RefForward.lean ====
/- The reference of the forget gates' running sum. -/
module

public import proofs.«01_k».proof.Proof.Fgate.RefBackward
public import proofs.«01_k».proof.Proof.Fgate.Forward
public import proofs.«01_k».proof.Proof.Gen.Reference13Ideal.Read

@[expose] public section

noncomputable section

namespace Cert.Fgate.RefForward

open Idealize.ShloMosaic Cert.Reference13Ideal Cert.Reference13Ideal.Gen Cert.Reference13Ideal.Read Cert.Fgate.Forward

variable (z : Vec Ideal S4x2048x16 .f32)

theorem log_at (i : S4x2048x16.Idx) : val_main_v0 (F := Ideal) z i = lf (z i) := by
  rw [← lf_eq, ← RefBackward.soft_at z i]
  rfl

theorem cum_at (p : Fin 4) (s : Fin 2048) (l : Fin 16) : val_main_v1 (F := Ideal) z (ix3 p s l) = cum z p s l := by
  unfold val_main_v1
  rw [upto_row (val_main_v0 (F := Ideal) z) (val_main_call1_call0_v0 (F := Ideal)) (fun i => ?_) p s l]
  · refine Finset.sum_congr rfl fun u hu => ?_
    have h : u < 2048 := by have := s.2; have := Finset.mem_range.mp hu; omega
    unfold line
    rw [dif_pos h, dif_pos h, log_at]
  · pointwise [val_main_call1_call0_v0, val_main_call1_call0_cst]

theorem refE : val_main_v3 (F := Ideal) z = resE z := by
  funext i
  obtain ⟨p, s, j, rfl⟩ : ∃ (p : Fin 4) (s : Fin 2048) (j : Fin 1024), i = ix3 p s j := ⟨i 0, i 1, i 2, funext fun a => match a with | ⟨0, _⟩ => rfl | ⟨1, _⟩ => rfl | ⟨2, _⟩ => rfl⟩
  rw [val_main_v3_apply, val_main_v2_apply]
  refine Eq.trans (congrArg _ (funext fun a => Fin.ext ?_)) (cum_at z p s ⟨j.val / 64, by omega⟩)
  have hp := p.2
  have hs := s.2
  have hj := j.2
  match a with
  | ⟨0, _⟩ => show ((p.val * 2048 + s.val) * 1024 + j.val) / 2097152 = p.val; omega
  | ⟨1, _⟩ => show ((p.val * 2048 + s.val) * 1024 + j.val) / 1024 % 2048 = s.val; omega
  | ⟨2, _⟩ => show ((p.val * 2048 + s.val) * 1024 + j.val) / 64 % 16 = j.val / 64; omega

theorem refR : val_main_v4 (F := Ideal) z = resR z := by
  funext i
  have e : idx_main_v4 i = ix3 (i 0) (i 2) (i 1) := funext fun a => match a with | ⟨0, _⟩ => rfl | ⟨1, _⟩ => rfl | ⟨2, _⟩ => rfl
  rw [val_main_v4_apply, e]
  exact cum_at z (i 0) (i 2) (i 1)

end Cert.Fgate.RefForward
-- ==== Proof.Fgate.Finite.lean ====
/- The precondition: the running sum's gradient and the forget gates' arguments have finite entries. -/
module

public import proofs.«01_k».proof.Pre_finite12
public import proofs.«01_k».proof.Proof.Attn.Finite

@[expose] public section

noncomputable section

namespace Cert.Fgate

open Idealize.ShloMosaic Cert.Pre_finite12

theorem finiteFacts : Cert.Pre_finite12.Facts where
  bcast_S_S1 := by decide
  bcast_S_S4x2048x16 := by decide
  reducesTo_S4x2048x16_S_d0_1_2 := by decide
  h_S_ := by decide

theorem of_finite (d z : Vec Ideal S4x2048x16 .f32) (h : (haveI := finiteFacts; Cert.Pre_finite12.fn (F := Ideal) d z) = fun _ => 1#1) :
    (∀ i, ∃ r : ℝ, d i = (r : EReal)) ∧ ∀ i, ∃ r : ℝ, z i = (r : EReal) := by
  have e := congrFun h (ix1 0)
  dsimp only [Cert.Pre_finite12.fn] at e
  obtain ⟨e, ez⟩ := AttnBwd.and_split e
  obtain ⟨_, ed⟩ := AttnBwd.and_split e
  exact ⟨fun i => ⟨_, AttnBwd.real_of_all d _ _ _ _ _ ed i⟩, fun i => ⟨_, AttnBwd.real_of_all z _ _ _ _ _ ez i⟩⟩

end Cert.Fgate
-- ==== Proof.lean ====
/- The certificate of the step's calls: each one's three frames, its idealization and its value claim. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import Idealize.ShloMosaic.Adequacy
public import Idealize.ShloMosaic.Init
public import proofs.«01_k».proof.Proof.Attn.RefOut
public import proofs.«01_k».proof.Proof.Attn.Finite
public import proofs.«01_k».proof.Proof.MmTn.Narrow
public import proofs.«01_k».proof.Proof.MmTn.Wide
public import proofs.«01_k».proof.Proof.MmTn.RefNarrow
public import proofs.«01_k».proof.Proof.MmTn.RefWide
public import proofs.«01_k».proof.Proof.DhFinal.Final
public import proofs.«01_k».proof.Proof.DhFinal.Ref
public import proofs.«01_k».proof.Proof.DhFinal.Finite
public import proofs.«01_k».proof.Proof.InProj.Late
public import proofs.«01_k».proof.Proof.InProj.RefLate
public import proofs.«01_k».proof.Proof.InProj.Early
public import proofs.«01_k».proof.Proof.InProj.RefEarly
public import proofs.«01_k».proof.Proof.MmTn.Square
public import proofs.«01_k».proof.Proof.MmTn.RefSquare
public import proofs.«01_k».proof.Proof.Gates.Branch
public import proofs.«01_k».proof.Proof.Gates.RefBranch
public import proofs.«01_k».proof.Proof.Gates.Merge
public import proofs.«01_k».proof.Proof.Gates.RefMerge
public import proofs.«01_k».proof.Proof.Gates.Forward
public import proofs.«01_k».proof.Proof.Gates.RefForward
public import proofs.«01_k».proof.Proof.OutLoss.Final
public import proofs.«01_k».proof.Proof.OutLoss.Ref
public import proofs.«01_k».proof.Proof.Fgate.RefForward
public import proofs.«01_k».proof.Proof.Fgate.Finite
public import Idealize.ShloMosaic.Lib.Claim
public import Idealize.ShloMosaic.Lib.Quiescent

@[expose] public section

noncomputable section

namespace Cert.Proof

open Idealize.ShloMosaic Idealize.SL.Sem

theorem frame_p : Cert.quiescent_Kernel (hKernel := Cert.Kernel.Gen.facts) := fun m g _ => Cert.Kernel.Gen.frame m g

theorem frame_pi : Cert.quiescent_KernelIdeal (hKernelIdeal := Cert.KernelIdeal.Gen.facts) := fun m g _ => Cert.KernelIdeal.Gen.frame m g

/-- The reference declares no semaphore. -/
theorem frame_ri : Cert.quiescent_ReferenceIdeal (hReferenceIdeal := Cert.ReferenceIdeal.Gen.facts) := fun m g _ =>
  (θ_run Cert.ReferenceIdeal.defs _ _).mono (fun r h => ⟨fun c => (h c).2.2, sem_eq_zero_of_no_sems (by decide) r.2⟩)
    (Cert.ReferenceIdeal.Value.run m g)

/-- Both programs end with the two arrays of the gradients. -/
theorem algebraic : Cert.algebraic_KernelIdeal_ReferenceIdeal_pre_finite (hKernelIdeal := Cert.KernelIdeal.Gen.facts)
    (hReferenceIdeal := Cert.ReferenceIdeal.Gen.facts) (hPre_finite := Cert.AttnBwd.finiteFacts) := by
  intro m g m' g' hpre hargs
  have hA := fun c => Cert.AttnBwd.of_finite _ _ _ _ _ (hpre c)
  choose A H using hA
  refine ⟨fun c => fun i => ((Cert.AttnBwd.res6 (A c) i : ℝ) : EReal), fun c => fun i => ((Cert.AttnBwd.res7 (A c) i : ℝ) : EReal), ?_, ?_⟩
  · exact (θ_run Cert.KernelIdeal.defs _ _).mono (fun r h c => ⟨(h c).1.trans (Cert.AttnBwd.final6 m c (H c)),
      (h c).2.1.trans (Cert.AttnBwd.final7 m c (H c)), (h c).2.2⟩) (Cert.KernelIdeal.Value.run_blocks m g)
  · refine (θ_run Cert.ReferenceIdeal.defs _ _).mono (fun r h c => ⟨(h c).1.trans ?_, (h c).2.1.trans ?_, (h c).2.2⟩)
      (Cert.ReferenceIdeal.Value.run m' g')
    · obtain ⟨e0, e1, e2, e3, e4⟩ := hargs c
      rw [Cert.ReferenceIdeal.Read.val_main_v89_eq, e0, e1, e2, e3, e4]
      exact Cert.AttnBwd.Ref.out0 (H c)
    · obtain ⟨e0, e1, e2, e3, e4⟩ := hargs c
      rw [Cert.ReferenceIdeal.Read.val_main_v90_eq, e0, e1, e2, e3, e4]
      exact Cert.AttnBwd.Ref.out1 (H c)

theorem frame_p3 : Cert.quiescent_Kernel3 (hKernel3 := Cert.Kernel3.Gen.facts) := fun m g _ => Cert.Kernel3.Gen.frame m g

theorem frame_pi3 : Cert.quiescent_Kernel3Ideal (hKernel3Ideal := Cert.Kernel3Ideal.Gen.facts) := fun m g _ =>
  Cert.Kernel3Ideal.Gen.frame m g

theorem frame_ri3 : Cert.quiescent_Reference3Ideal (hReference3Ideal := Cert.Reference3Ideal.Gen.facts) := fun m g _ =>
  (θ_run Cert.Reference3Ideal.defs _ _).mono (fun r h => ⟨fun c => (h c).2.2, sem_eq_zero_of_no_sems (by decide) r.2⟩)
    (Cert.Reference3Ideal.Value.run m g)

/-- Both programs end with the weight's gradient and the bias's. -/
theorem algebraic3 : Cert.algebraic_Kernel3Ideal_Reference3Ideal (hKernel3Ideal := Cert.Kernel3Ideal.Gen.facts)
    (hReference3Ideal := Cert.Reference3Ideal.Gen.facts) := by
  intro m g m' g' _ hargs
  refine ⟨fun c => Cert.MmTn.resW (Cert.MmTn.W3072.aH m c) (Cert.MmTn.W3072.aZ m c), fun c => Cert.MmTn.resB (Cert.MmTn.W3072.aZ m c), ?_, ?_⟩
  · exact (θ_run Cert.Kernel3Ideal.defs _ _).mono (fun r h c => ⟨(h c).1.trans (Cert.MmTn.W3072.final2 m c),
      (h c).2.1.trans (Cert.MmTn.W3072.final3 m c), (h c).2.2⟩) (Cert.Kernel3Ideal.Value.run_blocks m g)
  · refine (θ_run Cert.Reference3Ideal.defs _ _).mono (fun r h c => ⟨(h c).1.trans ?_, (h c).2.1.trans ?_, (h c).2.2⟩)
      (Cert.Reference3Ideal.Value.run m' g')
    · obtain ⟨e0, e1⟩ := hargs c
      rw [Cert.Reference3Ideal.Read.val_main_v14_eq, e0, e1]
      exact Cert.MmTn.R3072.refW _ _
    · obtain ⟨e0, e1⟩ := hargs c
      rw [Cert.Reference3Ideal.Read.val_main_v15_eq, e1]
      exact Cert.MmTn.R3072.refB _

theorem frame_p4 : Cert.quiescent_Kernel4 (hKernel4 := Cert.Kernel4.Gen.facts) := fun m g _ => Cert.Kernel4.Gen.frame m g

theorem frame_pi4 : Cert.quiescent_Kernel4Ideal (hKernel4Ideal := Cert.Kernel4Ideal.Gen.facts) := fun m g _ =>
  Cert.Kernel4Ideal.Gen.frame m g

theorem frame_ri4 : Cert.quiescent_Reference4Ideal (hReference4Ideal := Cert.Reference4Ideal.Gen.facts) := fun m g _ =>
  (θ_run Cert.Reference4Ideal.defs _ _).mono (fun r h => ⟨fun c => (h c).2.2, sem_eq_zero_of_no_sems (by decide) r.2⟩)
    (Cert.Reference4Ideal.Value.run m g)

/-- Both programs end with the weight's gradient and the bias's. -/
theorem algebraic4 : Cert.algebraic_Kernel4Ideal_Reference4Ideal (hKernel4Ideal := Cert.Kernel4Ideal.Gen.facts)
    (hReference4Ideal := Cert.Reference4Ideal.Gen.facts) := by
  intro m g m' g' _ hargs
  refine ⟨fun c => Cert.MmTn.resW (Cert.MmTn.W1024.aH m c) (Cert.MmTn.W1024.aZ m c), fun c => Cert.MmTn.resB (Cert.MmTn.W1024.aZ m c), ?_, ?_⟩
  · exact (θ_run Cert.Kernel4Ideal.defs _ _).mono (fun r h c => ⟨(h c).1.trans (Cert.MmTn.W1024.final2 m c),
      (h c).2.1.trans (Cert.MmTn.W1024.final3 m c), (h c).2.2⟩) (Cert.Kernel4Ideal.Value.run_blocks m g)
  · refine (θ_run Cert.Reference4Ideal.defs _ _).mono (fun r h c => ⟨(h c).1.trans ?_, (h c).2.1.trans ?_, (h c).2.2⟩)
      (Cert.Reference4Ideal.Value.run m' g')
    · obtain ⟨e0, e1⟩ := hargs c
      rw [Cert.Reference4Ideal.Read.val_main_v14_eq, e0, e1]
      exact Cert.MmTn.R1024.refW _ _
    · obtain ⟨e0, e1⟩ := hargs c
      rw [Cert.Reference4Ideal.Read.val_main_v15_eq, e1]
      exact Cert.MmTn.R1024.refB _

theorem frame_p2 : Cert.quiescent_Kernel2 (hKernel2 := Cert.Kernel2.Gen.facts) := fun m g _ => Cert.Kernel2.Gen.frame m g

theorem frame_pi2 : Cert.quiescent_Kernel2Ideal (hKernel2Ideal := Cert.Kernel2Ideal.Gen.facts) := fun m g _ =>
  Cert.Kernel2Ideal.Gen.frame m g

theorem frame_ri2 : Cert.quiescent_Reference2Ideal (hReference2Ideal := Cert.Reference2Ideal.Gen.facts) := fun m g _ =>
  (θ_run Cert.Reference2Ideal.defs _ _).mono (fun r h => ⟨fun c => (h c).2.2, sem_eq_zero_of_no_sems (by decide) r.2⟩)
    (Cert.Reference2Ideal.Value.run m g)

/-- Both programs end with the input's gradient and the norm's weight's. -/
theorem algebraic2 : Cert.algebraic_Kernel2Ideal_Reference2Ideal_pre_finite2 (hKernel2Ideal := Cert.Kernel2Ideal.Gen.facts)
    (hReference2Ideal := Cert.Reference2Ideal.Gen.facts) (hPre_finite2 := Cert.DhFinal.finiteFacts) := by
  intro m g m' g' hpre hargs
  have hR := fun c => Cert.DhFinal.of_finite _ _ _ _ _ (hpre c)
  refine ⟨fun c => Cert.DhFinal.resX (Cert.DhFinal.aX m c) (Cert.DhFinal.aN m c) (Cert.DhFinal.aW m c) (Cert.DhFinal.aZ m c) (Cert.DhFinal.aY m c), fun c => Cert.DhFinal.resW (Cert.DhFinal.aX m c) (Cert.DhFinal.aW m c) (Cert.DhFinal.aZ m c), ?_, ?_⟩
  · exact (θ_run Cert.Kernel2Ideal.defs _ _).mono (fun r h c => ⟨(h c).1.trans (Cert.DhFinal.final18 m c), (h c).2.1.trans (Cert.DhFinal.final19 m c), (h c).2.2⟩)
      (Cert.Kernel2Ideal.Value.run_blocks m g)
  · refine (θ_run Cert.Reference2Ideal.defs _ _).mono (fun r h c => ⟨(h c).1.trans ?_, (h c).2.1.trans ?_, (h c).2.2⟩)
      (Cert.Reference2Ideal.Value.run m' g')
    · obtain ⟨e0, e1, e2, e3, e4⟩ := hargs c
      rw [Cert.Reference2Ideal.Read.val_main_v43_eq, e0, e1, e2, e3, e4]
      exact Cert.DhFinal.refX _ _ _ _ _ (hR c).1 (hR c).2.1 (hR c).2.2.1 (hR c).2.2.2
    · obtain ⟨e0, e1, e2, e3, e4⟩ := hargs c
      rw [Cert.Reference2Ideal.Read.val_main_v44_eq, e0, e2, e3]
      exact Cert.DhFinal.refW _ _ _

theorem frame_p5 : Cert.quiescent_Kernel5 (hKernel5 := Cert.Kernel5.Gen.facts) := fun m g _ => Cert.Kernel5.Gen.frame m g

theorem frame_pi5 : Cert.quiescent_Kernel5Ideal (hKernel5Ideal := Cert.Kernel5Ideal.Gen.facts) := fun m g _ =>
  Cert.Kernel5Ideal.Gen.frame m g

theorem frame_ri5 : Cert.quiescent_Reference5Ideal (hReference5Ideal := Cert.Reference5Ideal.Gen.facts) := fun m g _ =>
  (θ_run Cert.Reference5Ideal.defs _ _).mono (fun r h => ⟨fun c => (h c).2, sem_eq_zero_of_no_sems (by decide) r.2⟩)
    (Cert.Reference5Ideal.Value.run m g)

/-- Both programs end with the in-projection's later columns. -/
theorem algebraic5 : Cert.algebraic_Kernel5Ideal_Reference5Ideal (hKernel5Ideal := Cert.Kernel5Ideal.Gen.facts)
    (hReference5Ideal := Cert.Reference5Ideal.Gen.facts) := by
  intro m g m' g' _ hargs
  refine ⟨fun c => Cert.InProj.resLate (Cert.InProj.Late.aH m c) (Cert.InProj.Late.aW m c) (Cert.InProj.Late.aB m c), ?_, ?_⟩
  · exact (θ_run Cert.Kernel5Ideal.defs _ _).mono (fun r h c => ⟨(h c).1.trans (Cert.InProj.Late.final3 m c), (h c).2⟩)
      (Cert.Kernel5Ideal.Value.run_blocks m g)
  · refine (θ_run Cert.Reference5Ideal.defs _ _).mono (fun r h c => ⟨(h c).1.trans ?_, (h c).2⟩)
      (Cert.Reference5Ideal.Value.run m' g')
    · obtain ⟨e0, e1, e2⟩ := hargs c
      rw [Cert.Reference5Ideal.Read.val_main_v7_eq, e0, e1, e2]
      exact Cert.InProj.RefLate.ref _ _ _

theorem frame_p6 : Cert.quiescent_Kernel6 (hKernel6 := Cert.Kernel6.Gen.facts) := fun m g _ => Cert.Kernel6.Gen.frame m g

theorem frame_pi6 : Cert.quiescent_Kernel6Ideal (hKernel6Ideal := Cert.Kernel6Ideal.Gen.facts) := fun m g _ =>
  Cert.Kernel6Ideal.Gen.frame m g

theorem frame_ri6 : Cert.quiescent_Reference6Ideal (hReference6Ideal := Cert.Reference6Ideal.Gen.facts) := fun m g _ =>
  (θ_run Cert.Reference6Ideal.defs _ _).mono (fun r h => ⟨fun c => (h c).2.2.2, sem_eq_zero_of_no_sems (by decide) r.2⟩)
    (Cert.Reference6Ideal.Value.run m g)

/-- Both programs end with the normalised input, the queries, keys and values, and the forget gates' arguments. -/
theorem algebraic6 : Cert.algebraic_Kernel6Ideal_Reference6Ideal (hKernel6Ideal := Cert.Kernel6Ideal.Gen.facts)
    (hReference6Ideal := Cert.Reference6Ideal.Gen.facts) := by
  intro m g m' g' _ hargs
  refine ⟨fun c => Cert.InProj.resH (Cert.InProj.Early.aX m c) (Cert.InProj.Early.aN m c), fun c => Cert.InProj.resQ (Cert.InProj.Early.aX m c) (Cert.InProj.Early.aN m c) (Cert.InProj.Early.aW m c) (Cert.InProj.Early.aB m c), fun c => Cert.InProj.resF (Cert.InProj.Early.aX m c) (Cert.InProj.Early.aN m c) (Cert.InProj.Early.aW m c) (Cert.InProj.Early.aB m c), ?_, ?_⟩
  · exact (θ_run Cert.Kernel6Ideal.defs _ _).mono (fun r h c => ⟨(h c).1.trans (Cert.InProj.Early.final6 m c), (h c).2.1.trans (Cert.InProj.Early.final7 m c), (h c).2.2.1.trans (Cert.InProj.Early.final8 m c), (h c).2.2.2⟩)
      (Cert.Kernel6Ideal.Value.run_blocks m g)
  · refine (θ_run Cert.Reference6Ideal.defs _ _).mono (fun r h c => ⟨(h c).1.trans ?_, (h c).2.1.trans ?_, (h c).2.2.1.trans ?_, (h c).2.2.2⟩)
      (Cert.Reference6Ideal.Value.run m' g')
    · obtain ⟨e0, e1, e2, e3⟩ := hargs c
      rw [Cert.Reference6Ideal.Read.val_main_v33_eq, e0, e1]
      exact Cert.InProj.RefEarly.refH _ _
    · obtain ⟨e0, e1, e2, e3⟩ := hargs c
      rw [Cert.Reference6Ideal.Read.val_main_v34_eq, e0, e1, e2, e3]
      exact Cert.InProj.RefEarly.refQ _ _ _ _
    · obtain ⟨e0, e1, e2, e3⟩ := hargs c
      rw [Cert.Reference6Ideal.Read.val_main_v35_eq, e0, e1, e2, e3]
      exact Cert.InProj.RefEarly.refF _ _ _ _

theorem frame_p7 : Cert.quiescent_Kernel7 (hKernel7 := Cert.Kernel7.Gen.facts) := fun m g _ => Cert.Kernel7.Gen.frame m g

theorem frame_pi7 : Cert.quiescent_Kernel7Ideal (hKernel7Ideal := Cert.Kernel7Ideal.Gen.facts) := fun m g _ =>
  Cert.Kernel7Ideal.Gen.frame m g

theorem frame_ri7 : Cert.quiescent_Reference7Ideal (hReference7Ideal := Cert.Reference7Ideal.Gen.facts) := fun m g _ =>
  (θ_run Cert.Reference7Ideal.defs _ _).mono (fun r h => ⟨fun c => (h c).2.2, sem_eq_zero_of_no_sems (by decide) r.2⟩)
    (Cert.Reference7Ideal.Value.run m g)

/-- Both programs end with the square weight's gradient and the product's. -/
theorem algebraic7 : Cert.algebraic_Kernel7Ideal_Reference7Ideal (hKernel7Ideal := Cert.Kernel7Ideal.Gen.facts)
    (hReference7Ideal := Cert.Reference7Ideal.Gen.facts) := by
  intro m g m' g' _ hargs
  refine ⟨fun c => Cert.MmTn.resW (Cert.MmTn.Square.aH m c) (Cert.MmTn.Square.aZ m c), fun c => Cert.MmTn.resB (Cert.MmTn.Square.aZ m c), ?_, ?_⟩
  · exact (θ_run Cert.Kernel7Ideal.defs _ _).mono (fun r h c => ⟨(h c).1.trans (Cert.MmTn.Square.final3 m c), (h c).2.1.trans (Cert.MmTn.Square.final4 m c), (h c).2.2⟩)
      (Cert.Kernel7Ideal.Value.run_blocks m g)
  · refine (θ_run Cert.Reference7Ideal.defs _ _).mono (fun r h c => ⟨(h c).1.trans ?_, (h c).2.1.trans ?_, (h c).2.2⟩)
      (Cert.Reference7Ideal.Value.run m' g')
    · obtain ⟨e0, e1⟩ := hargs c
      rw [Cert.Reference7Ideal.Read.val_main_v3_eq, e0, e1]
      exact Cert.MmTn.RefSquare.refW _ _
    · obtain ⟨e0, e1⟩ := hargs c
      rw [Cert.Reference7Ideal.Read.val_main_v6_eq, e0]
      exact Cert.MmTn.RefSquare.refB _

theorem frame_p8 : Cert.quiescent_Kernel8 (hKernel8 := Cert.Kernel8.Gen.facts) := fun m g _ => Cert.Kernel8.Gen.frame m g

theorem frame_pi8 : Cert.quiescent_Kernel8Ideal (hKernel8Ideal := Cert.Kernel8Ideal.Gen.facts) := fun m g _ =>
  Cert.Kernel8Ideal.Gen.frame m g

theorem frame_ri8 : Cert.quiescent_Reference8Ideal (hReference8Ideal := Cert.Reference8Ideal.Gen.facts) := fun m g _ =>
  (θ_run Cert.Reference8Ideal.defs _ _).mono (fun r h => ⟨fun c => (h c).2.2.2.2, sem_eq_zero_of_no_sems (by decide) r.2⟩)
    (Cert.Reference8Ideal.Value.run m g)

/-- Both programs end with the gradients of the two branches and of their gates. -/
theorem algebraic8 : Cert.algebraic_Kernel8Ideal_Reference8Ideal_pre_finite8 (hKernel8Ideal := Cert.Kernel8Ideal.Gen.facts)
    (hReference8Ideal := Cert.Reference8Ideal.Gen.facts) (hPre_finite8 := Cert.Gates.RefBranch.finiteFacts) := by
  intro m g m' g' hpre hargs
  have hR := fun c => Cert.Gates.RefBranch.of_finite _ _ _ _ _ _ _ (hpre c)
  refine ⟨fun c => Cert.Gates.resY 0 (Cert.Gates.Branch.aA m c) (Cert.Gates.Branch.aWA m c) (Cert.Gates.Branch.aZ m c), fun c => Cert.Gates.resD 0 (Cert.Gates.Branch.aA m c) (Cert.Gates.Branch.aWA m c) (Cert.Gates.Branch.aZ m c) (Cert.Gates.Branch.aYA m c), fun c => Cert.Gates.resY 2 (Cert.Gates.Branch.aR m c) (Cert.Gates.Branch.aWR m c) (Cert.Gates.Branch.aZ m c), fun c => Cert.Gates.resD 2 (Cert.Gates.Branch.aR m c) (Cert.Gates.Branch.aWR m c) (Cert.Gates.Branch.aZ m c) (Cert.Gates.Branch.aYR m c), ?_, ?_⟩
  · exact (θ_run Cert.Kernel8Ideal.defs _ _).mono (fun r h c => ⟨(h c).1.trans (Cert.Gates.Branch.final8 m c), (h c).2.1.trans (Cert.Gates.Branch.final9 m c), (h c).2.2.1.trans (Cert.Gates.Branch.final10 m c), (h c).2.2.2.1.trans (Cert.Gates.Branch.final11 m c), (h c).2.2.2.2⟩)
      (Cert.Kernel8Ideal.Value.run_blocks m g)
  · refine (θ_run Cert.Reference8Ideal.defs _ _).mono (fun r h c => ⟨(h c).1.trans ?_, (h c).2.1.trans ?_, (h c).2.2.1.trans ?_, (h c).2.2.2.1.trans ?_, (h c).2.2.2.2⟩)
      (Cert.Reference8Ideal.Value.run m' g')
    · obtain ⟨e0, e1, e2, e3, e4, e5, e6⟩ := hargs c
      rw [Cert.Reference8Ideal.Read.val_main_v17_eq, e0, e2, e4]
      exact Cert.Gates.RefBranch.refYA _ _ _
    · obtain ⟨e0, e1, e2, e3, e4, e5, e6⟩ := hargs c
      rw [Cert.Reference8Ideal.Read.val_main_v19_eq, e0, e2, e4, e5]
      exact Cert.Gates.RefBranch.refDA _ _ _ _ (hR c).1.1 (hR c).1.2.2.1 (hR c).2.1 (hR c).2.2.1
    · obtain ⟨e0, e1, e2, e3, e4, e5, e6⟩ := hargs c
      rw [Cert.Reference8Ideal.Read.val_main_v20_eq, e1, e3, e4]
      exact Cert.Gates.RefBranch.refYR _ _ _
    · obtain ⟨e0, e1, e2, e3, e4, e5, e6⟩ := hargs c
      rw [Cert.Reference8Ideal.Read.val_main_v22_eq, e1, e3, e4, e6]
      exact Cert.Gates.RefBranch.refDR _ _ _ _ (hR c).1.2.1 (hR c).1.2.2.2 (hR c).2.1 (hR c).2.2.2

theorem frame_p9 : Cert.quiescent_Kernel9 (hKernel9 := Cert.Kernel9.Gen.facts) := fun m g _ => Cert.Kernel9.Gen.frame m g

theorem frame_pi9 : Cert.quiescent_Kernel9Ideal (hKernel9Ideal := Cert.Kernel9Ideal.Gen.facts) := fun m g _ =>
  Cert.Kernel9Ideal.Gen.frame m g

theorem frame_ri9 : Cert.quiescent_Reference9Ideal (hReference9Ideal := Cert.Reference9Ideal.Gen.facts) := fun m g _ =>
  (θ_run Cert.Reference9Ideal.defs _ _).mono (fun r h => ⟨fun c => (h c).2.2.2.2, sem_eq_zero_of_no_sems (by decide) r.2⟩)
    (Cert.Reference9Ideal.Value.run m g)

/-- Both programs end with the gradients of the merge's two branches and of its gates. -/
theorem algebraic9 : Cert.algebraic_Kernel9Ideal_Reference9Ideal (hKernel9Ideal := Cert.Kernel9Ideal.Gen.facts)
    (hReference9Ideal := Cert.Reference9Ideal.Gen.facts) := by
  intro m g m' g' _ hargs
  refine ⟨fun c => Cert.Gates.resS 3 (Cert.Gates.Merge.aD m c) (Cert.Gates.Merge.aW m c) (Cert.Gates.Merge.aZ m c), fun c => Cert.Gates.resS 4 (Cert.Gates.Merge.aD m c) (Cert.Gates.Merge.aW m c) (Cert.Gates.Merge.aZ m c), fun c => Cert.Gates.resG 3 (Cert.Gates.Merge.aD m c) (Cert.Gates.Merge.aW m c) (Cert.Gates.Merge.aZ m c) (Cert.Gates.Merge.aA m c), fun c => Cert.Gates.resG 4 (Cert.Gates.Merge.aD m c) (Cert.Gates.Merge.aW m c) (Cert.Gates.Merge.aZ m c) (Cert.Gates.Merge.aR m c), ?_, ?_⟩
  · exact (θ_run Cert.Kernel9Ideal.defs _ _).mono (fun r h c => ⟨(h c).1.trans (Cert.Gates.Merge.final6 m c), (h c).2.1.trans (Cert.Gates.Merge.final7 m c), (h c).2.2.1.trans (Cert.Gates.Merge.final8 m c), (h c).2.2.2.1.trans (Cert.Gates.Merge.final9 m c), (h c).2.2.2.2⟩)
      (Cert.Kernel9Ideal.Value.run_blocks m g)
  · refine (θ_run Cert.Reference9Ideal.defs _ _).mono (fun r h c => ⟨(h c).1.trans ?_, (h c).2.1.trans ?_, (h c).2.2.1.trans ?_, (h c).2.2.2.1.trans ?_, (h c).2.2.2.2⟩)
      (Cert.Reference9Ideal.Value.run m' g')
    · obtain ⟨e0, e1, e2, e3, e4⟩ := hargs c
      rw [Cert.Reference9Ideal.Read.val_main_v32_eq, e0, e1, e2]
      exact Cert.Gates.RefMerge.refA _ _ _
    · obtain ⟨e0, e1, e2, e3, e4⟩ := hargs c
      rw [Cert.Reference9Ideal.Read.val_main_v34_eq, e0, e1, e2]
      exact Cert.Gates.RefMerge.refR _ _ _
    · obtain ⟨e0, e1, e2, e3, e4⟩ := hargs c
      rw [Cert.Reference9Ideal.Read.val_main_v36_eq, e0, e1, e2, e3]
      exact Cert.Gates.RefMerge.refGA _ _ _ _
    · obtain ⟨e0, e1, e2, e3, e4⟩ := hargs c
      rw [Cert.Reference9Ideal.Read.val_main_v38_eq, e0, e1, e2, e4]
      exact Cert.Gates.RefMerge.refGR _ _ _ _

theorem frame_p10 : Cert.quiescent_Kernel10 (hKernel10 := Cert.Kernel10.Gen.facts) := fun m g _ => Cert.Kernel10.Gen.frame m g

theorem frame_pi10 : Cert.quiescent_Kernel10Ideal (hKernel10Ideal := Cert.Kernel10Ideal.Gen.facts) := fun m g _ =>
  Cert.Kernel10Ideal.Gen.frame m g

theorem frame_ri10 : Cert.quiescent_Reference10Ideal (hReference10Ideal := Cert.Reference10Ideal.Gen.facts) := fun m g _ =>
  (θ_run Cert.Reference10Ideal.defs _ _).mono (fun r h => ⟨fun c => (h c).2.2.2, sem_eq_zero_of_no_sems (by decide) r.2⟩)
    (Cert.Reference10Ideal.Value.run m g)

/-- Both programs end with the two branches' projections and their merge. -/
theorem algebraic10 : Cert.algebraic_Kernel10Ideal_Reference10Ideal (hKernel10Ideal := Cert.Kernel10Ideal.Gen.facts)
    (hReference10Ideal := Cert.Reference10Ideal.Gen.facts) := by
  intro m g m' g' _ hargs
  refine ⟨fun c => Cert.Gates.Forward.resP (Cert.Gates.Forward.aA m c) (Cert.Gates.Forward.aWA m c), fun c => Cert.Gates.Forward.resP (Cert.Gates.Forward.aR m c) (Cert.Gates.Forward.aWR m c), fun c => Cert.Gates.Forward.resM (Cert.Gates.Forward.aA m c) (Cert.Gates.Forward.aR m c) (Cert.Gates.Forward.aWA m c) (Cert.Gates.Forward.aWR m c) (Cert.Gates.Forward.aZ m c), ?_, ?_⟩
  · exact (θ_run Cert.Kernel10Ideal.defs _ _).mono (fun r h c => ⟨(h c).1.trans (Cert.Gates.Forward.final6 m c), (h c).2.1.trans (Cert.Gates.Forward.final7 m c), (h c).2.2.1.trans (Cert.Gates.Forward.final8 m c), (h c).2.2.2⟩)
      (Cert.Kernel10Ideal.Value.run_blocks m g)
  · refine (θ_run Cert.Reference10Ideal.defs _ _).mono (fun r h c => ⟨(h c).1.trans ?_, (h c).2.1.trans ?_, (h c).2.2.1.trans ?_, (h c).2.2.2⟩)
      (Cert.Reference10Ideal.Value.run m' g')
    · obtain ⟨e0, e1, e2, e3, e4⟩ := hargs c
      rw [Cert.Reference10Ideal.Read.val_main_v20_eq, e0, e2]
      exact Cert.Gates.RefForward.refA _ _
    · obtain ⟨e0, e1, e2, e3, e4⟩ := hargs c
      rw [Cert.Reference10Ideal.Read.val_main_v22_eq, e1, e3]
      exact Cert.Gates.RefForward.refR _ _
    · obtain ⟨e0, e1, e2, e3, e4⟩ := hargs c
      rw [Cert.Reference10Ideal.Read.val_main_v24_eq, e0, e1, e2, e3, e4]
      exact Cert.Gates.RefForward.refM _ _ _ _ _

theorem frame_p11 : Cert.quiescent_Kernel11 (hKernel11 := Cert.Kernel11.Gen.facts) := fun m g _ => Cert.Kernel11.Gen.frame m g

theorem frame_pi11 : Cert.quiescent_Kernel11Ideal (hKernel11Ideal := Cert.Kernel11Ideal.Gen.facts) := fun m g _ =>
  Cert.Kernel11Ideal.Gen.frame m g

theorem frame_ri11 : Cert.quiescent_Reference11Ideal (hReference11Ideal := Cert.Reference11Ideal.Gen.facts) := fun m g _ =>
  (θ_run Cert.Reference11Ideal.defs _ _).mono (fun r h => ⟨fun c => (h c).2.2.2, sem_eq_zero_of_no_sems (by decide) r.2⟩)
    (Cert.Reference11Ideal.Value.run m g)

/-- Both programs end with the gradients of the block's result and of its projection's, the norm weight's and the squared errors' sums. -/
theorem algebraic11 : Cert.algebraic_Kernel11Ideal_Reference11Ideal_pre_finite11 (hKernel11Ideal := Cert.Kernel11Ideal.Gen.facts)
    (hReference11Ideal := Cert.Reference11Ideal.Gen.facts) (hPre_finite11 := Cert.OutLoss.finiteFacts) := by
  intro m g m' g' hpre hargs
  have hR := fun c => Cert.OutLoss.of_finite _ _ _ _ _ (hpre c)
  refine ⟨fun c => Cert.OutLoss.resY (Cert.OutLoss.aM m c) (Cert.OutLoss.aW m c) (Cert.OutLoss.aX m c) (Cert.OutLoss.aT m c) (Cert.OutLoss.aN m c), fun c => Cert.OutLoss.resO (Cert.OutLoss.aM m c) (Cert.OutLoss.aW m c) (Cert.OutLoss.aX m c) (Cert.OutLoss.aT m c) (Cert.OutLoss.aN m c), fun c => Cert.OutLoss.resA (Cert.OutLoss.aM m c) (Cert.OutLoss.aW m c) (Cert.OutLoss.aX m c) (Cert.OutLoss.aT m c) (Cert.OutLoss.aN m c), ?_, ?_⟩
  · exact (θ_run Cert.Kernel11Ideal.defs _ _).mono (fun r h c => ⟨(h c).1.trans (Cert.OutLoss.final5 m c), (h c).2.1.trans (Cert.OutLoss.final6 m c), (h c).2.2.1.trans (Cert.OutLoss.final7 m c), (h c).2.2.2⟩)
      (Cert.Kernel11Ideal.Value.run_blocks m g)
  · refine (θ_run Cert.Reference11Ideal.defs _ _).mono (fun r h c => ⟨(h c).1.trans ?_, (h c).2.1.trans ?_, (h c).2.2.1.trans ?_, (h c).2.2.2⟩)
      (Cert.Reference11Ideal.Value.run m' g')
    · obtain ⟨e0, e1, e2, e3, e4⟩ := hargs c
      rw [Cert.Reference11Ideal.Read.val_main_v59_eq, e0, e1, e2, e3, e4]
      exact Cert.OutLoss.refY _ _ _ _ _
    · obtain ⟨e0, e1, e2, e3, e4⟩ := hargs c
      rw [Cert.Reference11Ideal.Read.val_main_v61_eq, e0, e1, e2, e3, e4]
      exact Cert.OutLoss.refO _ _ _ _ _ (hR c).1 (hR c).2.1 (hR c).2.2.1 (hR c).2.2.2.1 (hR c).2.2.2.2
    · obtain ⟨e0, e1, e2, e3, e4⟩ := hargs c
      rw [Cert.Reference11Ideal.Read.val_main_v58_eq, e0, e1, e2, e3, e4]
      exact Cert.OutLoss.refA _ _ _ _ _

theorem frame_p12 : Cert.quiescent_Kernel12 (hKernel12 := Cert.Kernel12.Gen.facts) := fun m g _ => Cert.Kernel12.Gen.frame m g

theorem frame_pi12 : Cert.quiescent_Kernel12Ideal (hKernel12Ideal := Cert.Kernel12Ideal.Gen.facts) := fun m g _ =>
  Cert.Kernel12Ideal.Gen.frame m g

theorem frame_ri12 : Cert.quiescent_Reference12Ideal (hReference12Ideal := Cert.Reference12Ideal.Gen.facts) := fun m g _ =>
  (θ_run Cert.Reference12Ideal.defs _ _).mono (fun r h => ⟨fun c => (h c).2, sem_eq_zero_of_no_sems (by decide) r.2⟩)
    (Cert.Reference12Ideal.Value.run m g)

/-- Both programs end with the gradient by the forget gates' arguments. -/
theorem algebraic12 : Cert.algebraic_Kernel12Ideal_Reference12Ideal_pre_finite12 (hKernel12Ideal := Cert.Kernel12Ideal.Gen.facts)
    (hReference12Ideal := Cert.Reference12Ideal.Gen.facts) (hPre_finite12 := Cert.Fgate.finiteFacts) := by
  intro m g m' g' hpre hargs
  have hR := fun c => Cert.Fgate.of_finite _ _ (hpre c)
  refine ⟨fun c => Cert.Fgate.Backward.resB (Cert.Fgate.Backward.aD m c) (Cert.Fgate.Backward.aF m c), ?_, ?_⟩
  · exact (θ_run Cert.Kernel12Ideal.defs _ _).mono (fun r h c => ⟨(h c).1.trans (Cert.Fgate.Backward.final m c fun i => by obtain ⟨r, h⟩ := (hR c).1 i; exact h.trans_ne (EReal.coe_ne_top r)), (h c).2⟩)
      (Cert.Kernel12Ideal.Value.run_blocks m g)
  · refine (θ_run Cert.Reference12Ideal.defs _ _).mono (fun r h c => ⟨(h c).1.trans ?_, (h c).2⟩)
      (Cert.Reference12Ideal.Value.run m' g')
    · obtain ⟨e0, e1⟩ := hargs c
      rw [Cert.Reference12Ideal.Read.val_main_v6_eq, e0, e1]
      exact Cert.Fgate.RefBackward.ref _ _ (hR c).2

theorem frame_p13 : Cert.quiescent_Kernel13 (hKernel13 := Cert.Kernel13.Gen.facts) := fun m g _ => Cert.Kernel13.Gen.frame m g

theorem frame_pi13 : Cert.quiescent_Kernel13Ideal (hKernel13Ideal := Cert.Kernel13Ideal.Gen.facts) := fun m g _ =>
  Cert.Kernel13Ideal.Gen.frame m g

theorem frame_ri13 : Cert.quiescent_Reference13Ideal (hReference13Ideal := Cert.Reference13Ideal.Gen.facts) := fun m g _ =>
  (θ_run Cert.Reference13Ideal.defs _ _).mono (fun r h => ⟨fun c => (h c).2.2, sem_eq_zero_of_no_sems (by decide) r.2⟩)
    (Cert.Reference13Ideal.Value.run m g)

/-- Both programs end with the forget gates' running sums, by tokens and by heads. -/
theorem algebraic13 : Cert.algebraic_Kernel13Ideal_Reference13Ideal (hKernel13Ideal := Cert.Kernel13Ideal.Gen.facts)
    (hReference13Ideal := Cert.Reference13Ideal.Gen.facts) := by
  intro m g m' g' _ hargs
  refine ⟨fun c => Cert.Fgate.Forward.resE (Cert.Fgate.Forward.aF m c), fun c => Cert.Fgate.Forward.resR (Cert.Fgate.Forward.aF m c), ?_, ?_⟩
  · exact (θ_run Cert.Kernel13Ideal.defs _ _).mono (fun r h c => ⟨(h c).1.trans (Cert.Fgate.Forward.final1 m c), (h c).2.1.trans (Cert.Fgate.Forward.final2 m c), (h c).2.2⟩)
      (Cert.Kernel13Ideal.Value.run_blocks m g)
  · refine (θ_run Cert.Reference13Ideal.defs _ _).mono (fun r h c => ⟨(h c).1.trans ?_, (h c).2.1.trans ?_, (h c).2.2⟩)
      (Cert.Reference13Ideal.Value.run m' g')
    · have e0 := hargs c
      rw [Cert.Reference13Ideal.Read.val_main_v3_eq, e0]
      exact Cert.Fgate.RefForward.refE _
    · have e0 := hargs c
      rw [Cert.Reference13Ideal.Read.val_main_v4_eq, e0]
      exact Cert.Fgate.RefForward.refR _

theorem claim : Cert.Claim := ⟨
  Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts,
  Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts, Cert.Kernel8.Gen.facts, Cert.Kernel8Ideal.Gen.facts,
  Cert.Reference8Ideal.Gen.facts, Cert.Kernel9.Gen.facts, Cert.Kernel9Ideal.Gen.facts, Cert.Reference9Ideal.Gen.facts,
  Cert.Kernel10.Gen.facts, Cert.Kernel10Ideal.Gen.facts, Cert.Reference10Ideal.Gen.facts, Cert.Kernel11.Gen.facts,
  Cert.Kernel11Ideal.Gen.facts, Cert.Reference11Ideal.Gen.facts, Cert.Kernel12.Gen.facts, Cert.Kernel12Ideal.Gen.facts,
  Cert.Reference12Ideal.Gen.facts, Cert.Kernel13.Gen.facts, Cert.Kernel13Ideal.Gen.facts, Cert.Reference13Ideal.Gen.facts,
  Cert.AttnBwd.finiteFacts, Cert.DhFinal.finiteFacts, Cert.Gates.RefBranch.finiteFacts, Cert.OutLoss.finiteFacts, Cert.Fgate.finiteFacts,
  frame_p, frame_pi, fun m g _ => frame_pi m g trivial, frame_ri, fun m g _ => frame_ri m g trivial, frame_p2, frame_pi2,
  fun m g _ => frame_pi2 m g trivial, frame_ri2, fun m g _ => frame_ri2 m g trivial, frame_p3, frame_pi3, frame_ri3, frame_p4, frame_pi4,
  frame_ri4, frame_p5, frame_pi5, frame_ri5, frame_p6, frame_pi6, frame_ri6, frame_p7, frame_pi7, frame_ri7, frame_p8, frame_pi8,
  fun m g _ => frame_pi8 m g trivial, frame_ri8, fun m g _ => frame_ri8 m g trivial, frame_p9, frame_pi9, frame_ri9, frame_p10, frame_pi10,
  frame_ri10, frame_p11, frame_pi11, fun m g _ => frame_pi11 m g trivial, frame_ri11, fun m g _ => frame_ri11 m g trivial, frame_p12,
  frame_pi12, fun m g _ => frame_pi12 m g trivial, frame_ri12, fun m g _ => frame_ri12 m g trivial, frame_p13, frame_pi13, frame_ri13,
  IdealRules.named_const.statement Cert.KernelIdeal.κ "mask" .f32 0xF149F2CA#32 ⊥ rfl, algebraic, trivial, algebraic2, trivial, algebraic3,
  trivial, algebraic4, trivial, algebraic5, trivial, algebraic6, trivial, algebraic7, trivial, algebraic8, trivial, algebraic9, trivial,
  algebraic10, trivial, algebraic11, trivial, algebraic12, trivial, algebraic13⟩

end Cert.Proof

end
